-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)) (v1 : (c : Dev Cert.Kernel2Ideal.nD) → Buf (Elt Ideal) ((c.tc : Thread Cert.Kernel2Ideal.nD Cert.Kernel2Ideal.τ).loc Cert.Kernel2Ideal.main_v13)) (v2 : (c : Dev Cert.Kernel2Ideal.nD) → Buf (Elt Ideal) ((c.tc : Thread Cert.Kernel2Ideal.nD Cert.Kernel2Ideal.τ).loc Cert.Kernel2Ideal.main_v16)) (v3 : (c : Dev Cert.Kernel2Ideal.nD) → Buf (Elt Ideal) ((c.tc : Thread Cert.Kernel2Ideal.nD Cert.Kernel2Ideal.τ).loc Cert.Kernel2Ideal.main_v26)) (v4 : (c : Dev Cert.Kernel2Ideal.nD) → Buf (Elt Ideal) ((c.tc : Thread Cert.Kernel2Ideal.nD Cert.Kernel2Ideal.τ).loc Cert.Kernel2Ideal.main_v28)) (v5 : (c : Dev Cert.Kernel2Ideal.nD) → Buf (Elt Ideal) ((c.tc : Thread Cert.Kernel2Ideal.nD Cert.Kernel2Ideal.τ).loc Cert.Kernel2Ideal.main_v30)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_v13) = v1 c
          ∧ r.2.mem ((c.tc : Thread Cert.Kernel2Ideal.nD Cert.Kernel2Ideal.τ).loc Cert.Kernel2Ideal.main_v16) = v2 c
          ∧ r.2.mem ((c.tc : Thread Cert.Kernel2Ideal.nD Cert.Kernel2Ideal.τ).loc Cert.Kernel2Ideal.main_v26) = v3 c
          ∧ r.2.mem ((c.tc : Thread Cert.Kernel2Ideal.nD Cert.Kernel2Ideal.τ).loc Cert.Kernel2Ideal.main_v28) = v4 c
          ∧ r.2.mem ((c.tc : Thread Cert.Kernel2Ideal.nD Cert.Kernel2Ideal.τ).loc Cert.Kernel2Ideal.main_v30) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v32) = v2 c
          ∧ r.2.mem ((c.tc : Thread Cert.Reference2Ideal.nD Cert.Reference2Ideal.τ).loc Cert.Reference2Ideal.main_v35) = v3 c
          ∧ r.2.mem ((c.tc : Thread Cert.Reference2Ideal.nD Cert.Reference2Ideal.τ).loc Cert.Reference2Ideal.main_v37) = v4 c
          ∧ r.2.mem ((c.tc : Thread Cert.Reference2Ideal.nD Cert.Reference2Ideal.τ).loc Cert.Reference2Ideal.main_v39) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v11)) (v2 : (c : Dev Cert.Kernel3Ideal.nD) → Buf (Elt Ideal) ((c.tc : Thread Cert.Kernel3Ideal.nD Cert.Kernel3Ideal.τ).loc Cert.Kernel3Ideal.main_v28)) (v3 : (c : Dev Cert.Kernel3Ideal.nD) → Buf (Elt Ideal) ((c.tc : Thread Cert.Kernel3Ideal.nD Cert.Kernel3Ideal.τ).loc Cert.Kernel3Ideal.main_v30)) (v4 : (c : Dev Cert.Kernel3Ideal.nD) → Buf (Elt Ideal) ((c.tc : Thread Cert.Kernel3Ideal.nD Cert.Kernel3Ideal.τ).loc Cert.Kernel3Ideal.main_v20)) (v5 : (c : Dev Cert.Kernel3Ideal.nD) → Buf (Elt Ideal) ((c.tc : Thread Cert.Kernel3Ideal.nD Cert.Kernel3Ideal.τ).loc Cert.Kernel3Ideal.main_v26)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v11) = v1 c
          ∧ r.2.mem ((c.tc : Thread Cert.Kernel3Ideal.nD Cert.Kernel3Ideal.τ).loc Cert.Kernel3Ideal.main_v28) = v2 c
          ∧ r.2.mem ((c.tc : Thread Cert.Kernel3Ideal.nD Cert.Kernel3Ideal.τ).loc Cert.Kernel3Ideal.main_v30) = v3 c
          ∧ r.2.mem ((c.tc : Thread Cert.Kernel3Ideal.nD Cert.Kernel3Ideal.τ).loc Cert.Kernel3Ideal.main_v20) = v4 c
          ∧ r.2.mem ((c.tc : Thread Cert.Kernel3Ideal.nD Cert.Kernel3Ideal.τ).loc Cert.Kernel3Ideal.main_v26) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v31) = v2 c
          ∧ r.2.mem ((c.tc : Thread Cert.Reference3Ideal.nD Cert.Reference3Ideal.τ).loc Cert.Reference3Ideal.main_v32) = v3 c
          ∧ r.2.mem ((c.tc : Thread Cert.Reference3Ideal.nD Cert.Reference3Ideal.τ).loc Cert.Reference3Ideal.main_v27) = v4 c
          ∧ r.2.mem ((c.tc : Thread Cert.Reference3Ideal.nD Cert.Reference3Ideal.τ).loc Cert.Reference3Ideal.main_v33) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v36)) (v1 : (c : Dev Cert.Kernel5Ideal.nD) → Buf (Elt Ideal) ((c.tc : Thread Cert.Kernel5Ideal.nD Cert.Kernel5Ideal.τ).loc Cert.Kernel5Ideal.main_v41)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v36) = v0 c
          ∧ r.2.mem ((c.tc : Thread Cert.Kernel5Ideal.nD Cert.Kernel5Ideal.τ).loc Cert.Kernel5Ideal.main_v41) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v81) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v8)) (v1 : (c : Dev Cert.Kernel6Ideal.nD) → Buf (Elt Ideal) ((c.tc : Thread Cert.Kernel6Ideal.nD Cert.Kernel6Ideal.τ).loc Cert.Kernel6Ideal.main_v6_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v29)) (v1 : (c : Dev Cert.Kernel8Ideal.nD) → Buf (Elt Ideal) ((c.tc : Thread Cert.Kernel8Ideal.nD Cert.Kernel8Ideal.τ).loc Cert.Kernel8Ideal.main_v31)) (v2 : (c : Dev Cert.Kernel8Ideal.nD) → Buf (Elt Ideal) ((c.tc : Thread Cert.Kernel8Ideal.nD Cert.Kernel8Ideal.τ).loc Cert.Kernel8Ideal.main_v33)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v29) = v0 c
          ∧ r.2.mem ((c.tc : Thread Cert.Kernel8Ideal.nD Cert.Kernel8Ideal.τ).loc Cert.Kernel8Ideal.main_v31) = v1 c
          ∧ r.2.mem ((c.tc : Thread Cert.Kernel8Ideal.nD Cert.Kernel8Ideal.τ).loc Cert.Kernel8Ideal.main_v33) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v32) = v0 c
          ∧ r.2.mem ((c.tc : Thread Cert.Reference8Ideal.nD Cert.Reference8Ideal.τ).loc Cert.Reference8Ideal.main_v34) = v1 c
          ∧ r.2.mem ((c.tc : Thread Cert.Reference8Ideal.nD Cert.Reference8Ideal.τ).loc Cert.Reference8Ideal.main_v36) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v16)) (v2 : (c : Dev Cert.Kernel9Ideal.nD) → Buf (Elt Ideal) ((c.tc : Thread Cert.Kernel9Ideal.nD Cert.Kernel9Ideal.τ).loc Cert.Kernel9Ideal.main_v18)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v16) = v1 c
          ∧ r.2.mem ((c.tc : Thread Cert.Kernel9Ideal.nD Cert.Kernel9Ideal.τ).loc Cert.Kernel9Ideal.main_v18) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v27) = v1 c
          ∧ r.2.mem ((c.tc : Thread Cert.Reference9Ideal.nD Cert.Reference9Ideal.τ).loc Cert.Reference9Ideal.main_v28) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v8)) (v1 : (c : Dev Cert.Kernel10Ideal.nD) → Buf (Elt Ideal) ((c.tc : Thread Cert.Kernel10Ideal.nD Cert.Kernel10Ideal.τ).loc Cert.Kernel10Ideal.main_v6_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8) = v0 c
          ∧ r.2.mem ((c.tc : Thread Cert.Kernel10Ideal.nD Cert.Kernel10Ideal.τ).loc Cert.Kernel10Ideal.main_v6_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_v9) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v17) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_scores.lean ====
abbrev S8192x2048 : Shape := ⟨2, ![8192, 2048]⟩
abbrev S2x16x4096 : Shape := ⟨3, ![2, 16, 4096]⟩
abbrev S_ : Shape := ⟨0, ![]⟩

class Facts : Prop where
  bcast_S_S8192x2048 : S_.BroadcastsInDim S8192x2048 (![] : Fin 0 → Fin S8192x2048.rank)
  bcast_S_S2x16x4096 : S_.BroadcastsInDim S2x16x4096 (![] : Fin 0 → Fin S2x16x4096.rank)

variable [Facts]

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S2x16x4096 .f32) : IVec S8192x2048 1 × IVec S8192x2048 1 × IVec S2x16x4096 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S2x16x4096 .f32 := Host.absf main_arg4
  let main_cst_1 : FVec F S_ .f32 := constant S_ .f32 0x7F800000#32
  let main_v7 : FVec F S2x16x4096 .f32 := broadcastInDim S2x16x4096 ![] bcast_S_S2x16x4096 main_cst_1
  let main_v8 : IVec S2x16x4096 1 := cmpf .olt main_v6 main_v7
  (main_v2, main_v5, main_v8)
-- ==== Kernel.lean ====
abbrev S8192x2048 : Shape := ⟨2, ![8192, 2048]⟩
abbrev S2x16x4096 : Shape := ⟨3, ![2, 16, 4096]⟩
abbrev S2x16x8x512 : Shape := ⟨4, ![2, 16, 8, 512]⟩
abbrev S512x256 : Shape := ⟨2, ![512, 256]⟩
abbrev S4096x256 : Shape := ⟨2, ![4096, 256]⟩
abbrev S1x16x8x512 : Shape := ⟨4, ![1, 16, 8, 512]⟩
abbrev S512x128 : Shape := ⟨2, ![512, 128]⟩
abbrev S1x1x1x512 : Shape := ⟨4, ![1, 1, 1, 512]⟩
abbrev S1x1x512 : Shape := ⟨3, ![1, 1, 512]⟩
abbrev S1x512 : Shape := ⟨2, ![1, 512]⟩
abbrev S1x1 : Shape := ⟨2, ![1, 1]⟩
abbrev S512x1 : Shape := ⟨2, ![512, 1]⟩
abbrev S512x512 : Shape := ⟨2, ![512, 512]⟩
abbrev S512 : Shape := ⟨1, ![512]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S2x16x4096, .f32⟩
  | .hbm, ⟨5, _⟩ => ⟨S2x16x8x512, .f32⟩
  | .hbm, ⟨6, _⟩ => ⟨S8192x2048, .bf16⟩
  | .local _ .vmem, ⟨0, _⟩ => ⟨S512x256, .f32⟩
  | .local _ .vmem, ⟨1, _⟩ => ⟨S512x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S512x256, .f32⟩
  | .local _ .vmem, ⟨7, _⟩ => ⟨S512x256, .f32⟩
  | .local _ .vmem, ⟨8, _⟩ => ⟨S1x16x8x512, .f32⟩
  | .local _ .vmem, ⟨9, _⟩ => ⟨S1x16x8x512, .f32⟩
  | .local _ .vmem, ⟨10, _⟩ => ⟨S512x256, .bf16⟩
  | .local _ .vmem, ⟨11, _⟩ => ⟨S512x256, .bf16⟩
  | .local _ .vmem, ⟨12, _⟩ => ⟨S4096x256, .bf16⟩
  | .local _ .vmem, ⟨13, _⟩ => ⟨S4096x256, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 8], ![false, false, false]⟩

def k0_off1 (i : grid0.Coords) (c0_i32_4 : BitVec 32) : Fin 4 → Nat :=
  let c0_5 : Index := 0#32
  let arg1 : BitVec 32 := BitVec.ofNat 32 (i 1).val
  let c2_i32 : BitVec 32 := 2#32
  let v0 : BitVec 32 := Scalar.muli arg1 c2_i32
  let v12 : BitVec 32 := Scalar.addi v0 c0_i32_4
  let v13 : Index := Scalar.indexCast v12
  let arg2 : BitVec 32 := BitVec.ofNat 32 (i 2).val
  let v14 : Index := Scalar.indexCast arg2
  let c0_6 : Index := 0#32
  ![0, v13.toNat, v14.toNat, 0]
@[reducible] def k0_t1_loop (i : grid0.Coords) : Scf.Loop 32 :=
  let c0_i32_15 : BitVec 32 := 0#32
  let arg2 : BitVec 32 := BitVec.ofNat 32 (i 2).val
  let v32 : BitVec 32 := Scalar.subi arg2 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_17 : BitVec 32 := 1#32
  ⟨c0_i32_15, v36, c1_i32_17⟩
def k0_mult1 (i : grid0.Coords) (k0_t1 : Fin (k0_t1_loop i).trips) : BitVec 32 :=
  let c0_i32_15 : BitVec 32 := 0#32
  let c1_i32_17 : BitVec 32 := 1#32
  let arg11 : BitVec 32 := Scf.iv c0_i32_15 c1_i32_17 k0_t1
  let c512_i32_47 : BitVec 32 := 512#32
  let v129 : BitVec 32 := Scalar.muli arg11 c512_i32_47
  v129
def k0_off2 (i : grid0.Coords) (k0_t1 : Fin (k0_t1_loop i).trips) (c0_i32_48 : BitVec 32) : Fin 4 → Nat :=
  let c0_49 : Index := 0#32
  let arg1 : BitVec 32 := BitVec.ofNat 32 (i 1).val
  let c2_i32 : BitVec 32 := 2#32
  let v0 : BitVec 32 := Scalar.muli arg1 c2_i32
  let v131 : BitVec 32 := Scalar.addi v0 c0_i32_48
  let v132 : Index := Scalar.indexCast v131
  let c0_i32_15 : BitVec 32 := 0#32
  let c1_i32_17 : BitVec 32 := 1#32
  let arg11 : BitVec 32 := Scf.iv c0_i32_15 c1_i32_17 k0_t1
  let v133 : Index := Scalar.indexCast arg11
  let c0_50 : Index := 0#32
  ![0, v132.toNat, v133.toNat, 0]
def k0_off3 (i : grid0.Coords) (k0_t1 : Fin (k0_t1_loop i).trips) : Fin 2 → Nat :=
  let c0_i32_15 : BitVec 32 := 0#32
  let c1_i32_17 : BitVec 32 := 1#32
  let arg11 : BitVec 32 := Scf.iv c0_i32_15 c1_i32_17 k0_t1
  let c512_i32_47 : BitVec 32 := 512#32
  let v129 : BitVec 32 := Scalar.muli arg11 c512_i32_47
  let v130 : BitVec 32 := v129
  let v147 : Index := Scalar.indexCast v130
  let c0_54 : Index := 0#32
  ![v147.toNat, 0]
def k0_off4 (i : grid0.Coords) (k0_t1 : Fin (k0_t1_loop i).trips) : Fin 2 → Nat :=
  let c0_i32_15 : BitVec 32 := 0#32
  let c1_i32_17 : BitVec 32 := 1#32
  let arg11 : BitVec 32 := Scf.iv c0_i32_15 c1_i32_17 k0_t1
  let c512_i32_47 : BitVec 32 := 512#32
  let v129 : BitVec 32 := Scalar.muli arg11 c512_i32_47
  let v130 : BitVec 32 := v129
  let v152 : Index := Scalar.indexCast v130
  let c128_56 : Index := 128#32
  ![v152.toNat, 128]
@[reducible] def k0_t2_loop (i : grid0.Coords) : Scf.Loop 32 :=
  let c0_i32_15 : BitVec 32 := 0#32
  let arg2 : BitVec 32 := BitVec.ofNat 32 (i 2).val
  let v32 : BitVec 32 := Scalar.subi arg2 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let v33 : BitVec 32 := Scalar.addi c0_i32_15 v32
  let c1_i32_18 : BitVec 32 := 1#32
  ⟨v36, v33, c1_i32_18⟩
def k0_mult2 (i : grid0.Coords) (k0_t2 : Fin (k0_t2_loop i).trips) : BitVec 32 :=
  let c0_i32_15 : BitVec 32 := 0#32
  let arg2 : BitVec 32 := BitVec.ofNat 32 (i 2).val
  let v32 : BitVec 32 := Scalar.subi arg2 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg11 : BitVec 32 := Scf.iv v36 c1_i32_18 k0_t2
  let c512_i32_47 : BitVec 32 := 512#32
  let v129 : BitVec 32 := Scalar.muli arg11 c512_i32_47
  v129
def k0_off5 (i : grid0.Coords) (k0_t2 : Fin (k0_t2_loop i).trips) (c0_i32_48 : BitVec 32) : Fin 4 → Nat :=
  let c0_49 : Index := 0#32
  let arg1 : BitVec 32 := BitVec.ofNat 32 (i 1).val
  let c2_i32 : BitVec 32 := 2#32
  let v0 : BitVec 32 := Scalar.muli arg1 c2_i32
  let v131 : BitVec 32 := Scalar.addi v0 c0_i32_48
  let v132 : Index := Scalar.indexCast v131
  let c0_i32_15 : BitVec 32 := 0#32
  let arg2 : BitVec 32 := BitVec.ofNat 32 (i 2).val
  let v32 : BitVec 32 := Scalar.subi arg2 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg11 : BitVec 32 := Scf.iv v36 c1_i32_18 k0_t2
  let v133 : Index := Scalar.indexCast arg11
  let c0_50 : Index := 0#32
  ![0, v132.toNat, v133.toNat, 0]
def k0_off6 (i : grid0.Coords) (k0_t2 : Fin (k0_t2_loop i).trips) : Fin 2 → Nat :=
  let c0_i32_15 : BitVec 32 := 0#32
  let arg2 : BitVec 32 := BitVec.ofNat 32 (i 2).val
  let v32 : BitVec 32 := Scalar.subi arg2 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg11 : BitVec 32 := Scf.iv v36 c1_i32_18 k0_t2
  let c512_i32_47 : BitVec 32 := 512#32
  let v129 : BitVec 32 := Scalar.muli arg11 c512_i32_47
  let v130 : BitVec 32 := v129
  let v147 : Index := Scalar.indexCast v130
  let c0_54 : Index := 0#32
  ![v147.toNat, 0]
def k0_off7 (i : grid0.Coords) (k0_t2 : Fin (k0_t2_loop i).trips) : Fin 2 → Nat :=
  let c0_i32_15 : BitVec 32 := 0#32
  let arg2 : BitVec 32 := BitVec.ofNat 32 (i 2).val
  let v32 : BitVec 32 := Scalar.subi arg2 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg11 : BitVec 32 := Scf.iv v36 c1_i32_18 k0_t2
  let c512_i32_47 : BitVec 32 := 512#32
  let v129 : BitVec 32 := Scalar.muli arg11 c512_i32_47
  let v130 : BitVec 32 := v129
  let v152 : Index := Scalar.indexCast v130
  let c128_56 : Index := 128#32
  ![v152.toNat, 128]
def k0_mult3 (i : grid0.Coords) : BitVec 32 :=
  let arg2 : BitVec 32 := BitVec.ofNat 32 (i 2).val
  let c512_i32 : BitVec 32 := 512#32
  let v39 : BitVec 32 := Scalar.muli arg2 c512_i32
  v39
def k0_off8 (i : grid0.Coords) : Fin 2 → Nat :=
  let arg2 : BitVec 32 := BitVec.ofNat 32 (i 2).val
  let c512_i32 : BitVec 32 := 512#32
  let v39 : BitVec 32 := Scalar.muli arg2 c512_i32
  let v40 : BitVec 32 := v39
  let v57 : Index := Scalar.indexCast v40
  let c0_25 : Index := 0#32
  ![v57.toNat, 0]
def k0_off9 (i : grid0.Coords) : Fin 2 → Nat :=
  let arg2 : BitVec 32 := BitVec.ofNat 32 (i 2).val
  let c512_i32 : BitVec 32 := 512#32
  let v39 : BitVec 32 := Scalar.muli arg2 c512_i32
  let v40 : BitVec 32 := v39
  let v62 : Index := Scalar.indexCast v40
  let c128_27 : Index := 128#32
  ![v62.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x16x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S8192x2048 : Shape := ⟨2, ![8192, 2048]⟩
abbrev S2x16x4096 : Shape := ⟨3, ![2, 16, 4096]⟩
abbrev S2x4096x16x128 : Shape := ⟨4, ![2, 4096, 16, 128]⟩
abbrev S_ : Shape := ⟨0, ![]⟩
abbrev S2x16x4096x4096 : Shape := ⟨4, ![2, 16, 4096, 4096]⟩
abbrev S2x16x4096x1 : Shape := ⟨4, ![2, 16, 4096, 1]⟩
abbrev S2x16x1x4096 : Shape := ⟨4, ![2, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x128x4096 : Shape := ⟨4, ![2, 16, 128, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S2x16x4096, .f32⟩
  | .hbm, ⟨5, _⟩ => ⟨S2x4096x16x128, .f32⟩
  | .hbm, ⟨6, _⟩ => ⟨S2x4096x16x128, .f32⟩
  | .hbm, ⟨7, _⟩ => ⟨S2x4096x16x128, .f32⟩
  | .hbm, ⟨8, _⟩ => ⟨S_, .f32⟩
  | .hbm, ⟨9, _⟩ => ⟨S_, .f32⟩
  | .hbm, ⟨10, _⟩ => ⟨S2x4096x16x128, .f32⟩
  | .hbm, ⟨11, _⟩ => ⟨S2x4096x16x128, .f32⟩
  | .hbm, ⟨12, _⟩ => ⟨S2x16x4096x4096, .f32⟩
  | .hbm, ⟨13, _⟩ => ⟨S2x16x4096x1, .f32⟩
  | .hbm, ⟨14, _⟩ => ⟨S2x16x1x4096, .f32⟩
  | .hbm, ⟨15, _⟩ => ⟨S2x16x4096x4096, .f32⟩
  | .hbm, ⟨16, _⟩ => ⟨S2x16x4096x4096, .f32⟩
  | .hbm, ⟨17, _⟩ => ⟨S2x16x4096x4096, .f32⟩
  | .hbm, ⟨18, _⟩ => ⟨S2x16x4096x4096, .f32⟩
  | .hbm, ⟨19, _⟩ => ⟨S4096, .i32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S2x16x4096x4096, .i1⟩
  | .hbm, ⟨28, _⟩ => ⟨S2x16x4096x4096, .f32⟩
  | .hbm, ⟨29, _⟩ => ⟨S2x16x4096x4096, .f32⟩
  | .hbm, ⟨30, _⟩ => ⟨S_, .f32⟩
  | .hbm, ⟨31, _⟩ => ⟨S2x16x4096, .f32⟩
  | .hbm, ⟨32, _⟩ => ⟨S_, .f32⟩
  | .hbm, ⟨33, _⟩ => ⟨S2x16x4096, .f32⟩
  | .hbm, ⟨34, _⟩ => ⟨S2x16x4096, .f32⟩
  | .hbm, ⟨35, _⟩ => ⟨S2x16x4096x1, .f32⟩
  | .hbm, ⟨36, _⟩ => ⟨S2x16x4096x4096, .f32⟩
  | .hbm, ⟨37, _⟩ => ⟨S2x16x4096x4096, .f32⟩
  | .hbm, ⟨38, _⟩ => ⟨S2x16x4096x4096, .f32⟩
  | .hbm, ⟨39, _⟩ => ⟨S_, .f32⟩
  | .hbm, ⟨40, _⟩ => ⟨S2x16x4096, .f32⟩
  | .hbm, ⟨41, _⟩ => ⟨S2x16x4096x1, .f32⟩
  | .hbm, ⟨42, _⟩ => ⟨S2x16x4096x4096, .f32⟩
  | .hbm, ⟨43, _⟩ => ⟨S2x16x4096x4096, .f32⟩
  | .hbm, ⟨44, _⟩ => ⟨S2x16x128x4096, .f32⟩
  | .hbm, ⟨45, _⟩ => ⟨S2x4096x16x128, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Kernel2.lean ====
abbrev S2x4096x2048 : Shape := ⟨3, ![2, 4096, 2048]⟩
abbrev S1x2048 : Shape := ⟨2, ![1, 2048]⟩
abbrev S1x2048x7040 : Shape := ⟨3, ![1, 2048, 7040]⟩
abbrev S2048x7040 : Shape := ⟨2, ![2048, 7040]⟩
abbrev S8192x2048 : Shape := ⟨2, ![8192, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩
abbrev S2048x4224 : Shape := ⟨2, ![2048, 4224]⟩
abbrev S8192x4224 : Shape := ⟨2, ![8192, 4224]⟩
abbrev S1024x2048 : Shape := ⟨2, ![1024, 2048]⟩
abbrev S2048x1408 : Shape := ⟨2, ![2048, 1408]⟩
abbrev S1024x1408 : Shape := ⟨2, ![1024, 1408]⟩
abbrev S2048x1024 : Shape := ⟨2, ![2048, 1024]⟩
abbrev S2048x256 : Shape := ⟨2, ![2048, 256]⟩
abbrev S2048x2304 : Shape := ⟨2, ![2048, 2304]⟩
abbrev S8192x2304 : Shape := ⟨2, ![8192, 2304]⟩
abbrev S2048x1152 : Shape := ⟨2, ![2048, 1152]⟩
abbrev S1024x1152 : Shape := ⟨2, ![1024, 1152]⟩
abbrev S2048x512 : Shape := ⟨2, ![2048, 512]⟩
abbrev S8192x512 : Shape := ⟨2, ![8192, 512]⟩
abbrev S1024x512 : Shape := ⟨2, ![1024, 512]⟩
abbrev S2x4096x4224 : Shape := ⟨3, ![2, 4096, 4224]⟩
abbrev S2x1x3200 : Shape := ⟨3, ![2, 1, 3200]⟩
abbrev S2x3200 : Shape := ⟨2, ![2, 3200]⟩
abbrev S8192x128 : Shape := ⟨2, ![8192, 128]⟩
abbrev S2x4096x128 : Shape := ⟨3, ![2, 4096, 128]⟩
abbrev S2x128x128 : Shape := ⟨3, ![2, 128, 128]⟩
abbrev S1x2x3200 : Shape := ⟨3, ![1, 2, 3200]⟩
abbrev S2x128x2x64 : Shape := ⟨4, ![2, 128, 2, 64]⟩
abbrev S1x2x128x2x64 : Shape := ⟨5, ![1, 2, 128, 2, 64]⟩

abbrev nBuf : Space → Nat
  | .hbm => 34
  | .vmem => 22
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x7040, .f32⟩
  | .hbm, ⟨3, _⟩ => ⟨S2048x7040, .f32⟩
  | .hbm, ⟨4, _⟩ => ⟨S8192x2048, .f32⟩
  | .hbm, ⟨5, _⟩ => ⟨S2048, .f32⟩
  | .hbm, ⟨6, _⟩ => ⟨S1x2048, .f32⟩
  | .hbm, ⟨7, _⟩ => ⟨S8192x2048, .bf16⟩
  | .hbm, ⟨8, _⟩ => ⟨S2048x4224, .f32⟩
  | .hbm, ⟨9, _⟩ => ⟨S2048x4224, .bf16⟩
  | .hbm, ⟨10, _⟩ => ⟨S8192x4224, .f32⟩
  | .hbm, ⟨11, _⟩ => ⟨S2048x1024, .f32⟩
  | .hbm, ⟨12, _⟩ => ⟨S2048x1024, .f32⟩
  | .hbm, ⟨13, _⟩ => ⟨S2048x256, .f32⟩
  | .hbm, ⟨14, _⟩ => ⟨S2048x2304, .f32⟩
  | .hbm, ⟨15, _⟩ => ⟨S2048x2304, .bf16⟩
  | .hbm, ⟨16, _⟩ => ⟨S8192x2304, .f32⟩
  | .hbm, ⟨17, _⟩ => ⟨S2048x512, .f32⟩
  | .hbm, ⟨18, _⟩ => ⟨S2048x512, .bf16⟩
  | .hbm, ⟨19, _⟩ => ⟨S8192x512, .f32⟩
  | .hbm, ⟨20, _⟩ => ⟨S2x4096x4224, .f32⟩
  | .hbm, ⟨21, _⟩ => ⟨S2x1x3200, .f32⟩
  | .hbm, ⟨22, _⟩ => ⟨S2x3200, .f32⟩
  | .hbm, ⟨23, _⟩ => ⟨S8192x128, .f32⟩
  | .hbm, ⟨24, _⟩ => ⟨S2x4096x128, .f32⟩
  | .hbm, ⟨25, _⟩ => ⟨S8192x128, .f32⟩
  | .hbm, ⟨26, _⟩ => ⟨S2x4096x128, .f32⟩
  | .hbm, ⟨27, _⟩ => ⟨S2x128x128, .f32⟩
  | .hbm, ⟨28, _⟩ => ⟨S2x128x128, .f32⟩
  | .hbm, ⟨29, _⟩ => ⟨S1x2x3200, .f32⟩
  | .hbm, ⟨30, _⟩ => ⟨S2x128x2x64, .f32⟩
  | .hbm, ⟨31, _⟩ => ⟨S1x2x128x2x64, .f32⟩
  | .hbm, ⟨32, _⟩ => ⟨S2x128x2x64, .f32⟩
  | .hbm, ⟨33, _⟩ => ⟨S1x2x128x2x64, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1408, .bf16⟩
  | .local _ .vmem, ⟨8, _⟩ => ⟨S2048x1408, .bf16⟩
  | .local _ .vmem, ⟨9, _⟩ => ⟨S1024x1408, .f32⟩
  | .local _ .vmem, ⟨10, _⟩ => ⟨S1024x1408, .f32⟩
  | .local _ .vmem, ⟨11, _⟩ => ⟨S1024x2048, .bf16⟩
  | .local _ .vmem, ⟨12, _⟩ => ⟨S1024x2048, .bf16⟩
  | .local _ .vmem, ⟨13, _⟩ => ⟨S2048x1152, .bf16⟩
  | .local _ .vmem, ⟨14, _⟩ => ⟨S2048x1152, .bf16⟩
  | .local _ .vmem, ⟨15, _⟩ => ⟨S1024x1152, .f32⟩
  | .local _ .vmem, ⟨16, _⟩ => ⟨S1024x1152, .f32⟩
  | .local _ .vmem, ⟨17, _⟩ => ⟨S1024x2048, .bf16⟩
  | .local _ .vmem, ⟨18, _⟩ => ⟨S1024x2048, .bf16⟩
  | .local _ .vmem, ⟨19, _⟩ => ⟨S2048x512, .bf16⟩
  | .local _ .vmem, ⟨20, _⟩ => ⟨S1024x512, .f32⟩
  | .local _ .vmem, ⟨21, _⟩ => ⟨S1024x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1152 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1152 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S2048x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference2Ideal.lean ====
abbrev S2x4096x2048 : Shape := ⟨3, ![2, 4096, 2048]⟩
abbrev S1x2048 : Shape := ⟨2, ![1, 2048]⟩
abbrev S1x2048x7040 : Shape := ⟨3, ![1, 2048, 7040]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x7040 : Shape := ⟨2, ![2048, 7040]⟩
abbrev S2x4096x7040 : Shape := ⟨3, ![2, 4096, 7040]⟩
abbrev S2x4096x3200 : Shape := ⟨3, ![2, 4096, 3200]⟩
abbrev S2x4096x1024 : Shape := ⟨3, ![2, 4096, 1024]⟩
abbrev S2x4096x128 : Shape := ⟨3, ![2, 4096, 128]⟩
abbrev S2x4096x256 : Shape := ⟨3, ![2, 4096, 256]⟩
abbrev S2x4096x2x64 : Shape := ⟨4, ![2, 4096, 2, 64]⟩
abbrev S2x4096x4224 : Shape := ⟨3, ![2, 4096, 4224]⟩
abbrev S8192x4224 : Shape := ⟨2, ![8192, 4224]⟩
abbrev S2x4096x2304 : Shape := ⟨3, ![2, 4096, 2304]⟩
abbrev S8192x2304 : Shape := ⟨2, ![8192, 2304]⟩
abbrev S2x4096x512 : Shape := ⟨3, ![2, 4096, 512]⟩
abbrev S8192x512 : Shape := ⟨2, ![8192, 512]⟩
abbrev S2x1x3200 : Shape := ⟨3, ![2, 1, 3200]⟩
abbrev S2x3200 : Shape := ⟨2, ![2, 3200]⟩
abbrev S1x2x3200 : Shape := ⟨3, ![1, 2, 3200]⟩
abbrev S2x128x2x64 : Shape := ⟨4, ![2, 128, 2, 64]⟩
abbrev S1x2x128x2x64 : Shape := ⟨5, ![1, 2, 128, 2, 64]⟩

abbrev nBuf : Space → Nat
  | .hbm => 46
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x7040, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x7040, .f32⟩
  | .hbm, ⟨21, _⟩ => ⟨S2x4096x7040, .f32⟩
  | .hbm, ⟨22, _⟩ => ⟨S2x4096x3200, .f32⟩
  | .hbm, ⟨23, _⟩ => ⟨S2x4096x1024, .f32⟩
  | .hbm, ⟨24, _⟩ => ⟨S2x4096x1024, .f32⟩
  | .hbm, ⟨25, _⟩ => ⟨S2x4096x128, .f32⟩
  | .hbm, ⟨26, _⟩ => ⟨S2x4096x128, .f32⟩
  | .hbm, ⟨27, _⟩ => ⟨S2x4096x1024, .f32⟩
  | .hbm, ⟨28, _⟩ => ⟨S2x4096x256, .f32⟩
  | .hbm, ⟨29, _⟩ => ⟨S2x4096x256, .f32⟩
  | .hbm, ⟨30, _⟩ => ⟨S2x4096x2x64, .f32⟩
  | .hbm, ⟨31, _⟩ => ⟨S2x4096x2x64, .f32⟩
  | .hbm, ⟨32, _⟩ => ⟨S2x4096x4224, .f32⟩
  | .hbm, ⟨33, _⟩ => ⟨S8192x4224, .f32⟩
  | .hbm, ⟨34, _⟩ => ⟨S2x4096x256, .f32⟩
  | .hbm, ⟨35, _⟩ => ⟨S2x4096x2304, .f32⟩
  | .hbm, ⟨36, _⟩ => ⟨S8192x2304, .f32⟩
  | .hbm, ⟨37, _⟩ => ⟨S2x4096x512, .f32⟩
  | .hbm, ⟨38, _⟩ => ⟨S8192x512, .f32⟩
  | .hbm, ⟨39, _⟩ => ⟨S2x1x3200, .f32⟩
  | .hbm, ⟨40, _⟩ => ⟨S2x3200, .f32⟩
  | .hbm, ⟨41, _⟩ => ⟨S1x2x3200, .f32⟩
  | .hbm, ⟨42, _⟩ => ⟨S2x128x2x64, .f32⟩
  | .hbm, ⟨43, _⟩ => ⟨S1x2x128x2x64, .f32⟩
  | .hbm, ⟨44, _⟩ => ⟨S2x128x2x64, .f32⟩
  | .hbm, ⟨45, _⟩ => ⟨S1x2x128x2x64, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]
-- ==== Kernel3.lean ====
abbrev S8192x1024 : Shape := ⟨2, ![8192, 1024]⟩
abbrev S8192x256 : Shape := ⟨2, ![8192, 256]⟩
abbrev S8192x2048 : Shape := ⟨2, ![8192, 2048]⟩
abbrev S1x2304x2048 : Shape := ⟨3, ![1, 2304, 2048]⟩
abbrev S1x2048 : Shape := ⟨2, ![1, 2048]⟩
abbrev S1x2048x8720 : Shape := ⟨3, ![1, 2048, 8720]⟩
abbrev S2304x2048 : Shape := ⟨2, ![2304, 2048]⟩
abbrev S2048x8720 : Shape := ⟨2, ![2048, 8720]⟩
abbrev S1024x2048 : Shape := ⟨2, ![1024, 2048]⟩
abbrev S256x2048 : Shape := ⟨2, ![256, 2048]⟩
abbrev S2048 : Shape := ⟨1, ![2048]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S2048x2048 : Shape := ⟨2, ![2048, 2048]⟩
abbrev S2048x1024 : Shape := ⟨2, ![2048, 1024]⟩
abbrev S1024x1024 : Shape := ⟨2, ![1024, 1024]⟩
abbrev S2048x512 : Shape := ⟨2, ![2048, 512]⟩
abbrev S2048x16 : Shape := ⟨2, ![2048, 16]⟩
abbrev S_ : Shape := ⟨0, ![]⟩
abbrev S2048x112 : Shape := ⟨2, ![2048, 112]⟩
abbrev S2048x640 : Shape := ⟨2, ![2048, 640]⟩
abbrev S8192x640 : Shape := ⟨2, ![8192, 640]⟩
abbrev S1024x640 : Shape := ⟨2, ![1024, 640]⟩
abbrev S2x4096x16x128 : Shape := ⟨4, ![2, 4096, 16, 128]⟩
abbrev S1x2x4096x16x128 : Shape := ⟨5, ![1, 2, 4096, 16, 128]⟩

abbrev nBuf : Space → Nat
  | .hbm => 40
  | .vmem => 45
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x256, .bf16⟩
  | .hbm, ⟨3, _⟩ => ⟨S8192x2048, .f32⟩
  | .hbm, ⟨4, _⟩ => ⟨S1x2304x2048, .f32⟩
  | .hbm, ⟨5, _⟩ => ⟨S1x2048, .f32⟩
  | .hbm, ⟨6, _⟩ => ⟨S1x2048x8720, .f32⟩
  | .hbm, ⟨7, _⟩ => ⟨S2304x2048, .f32⟩
  | .hbm, ⟨8, _⟩ => ⟨S2304x2048, .bf16⟩
  | .hbm, ⟨9, _⟩ => ⟨S2048x8720, .f32⟩
  | .hbm, ⟨10, _⟩ => ⟨S1024x2048, .bf16⟩
  | .hbm, ⟨11, _⟩ => ⟨S1024x2048, .bf16⟩
  | .hbm, ⟨12, _⟩ => ⟨S256x2048, .bf16⟩
  | .hbm, ⟨13, _⟩ => ⟨S2048, .f32⟩
  | .hbm, ⟨14, _⟩ => ⟨S1x2048, .f32⟩
  | .hbm, ⟨15, _⟩ => ⟨S8192x2048, .f32⟩
  | .hbm, ⟨16, _⟩ => ⟨S8192x2048, .bf16⟩
  | .hbm, ⟨17, _⟩ => ⟨S2048x2048, .f32⟩
  | .hbm, ⟨18, _⟩ => ⟨S2048x2048, .bf16⟩
  | .hbm, ⟨19, _⟩ => ⟨S8192x2048, .f32⟩
  | .hbm, ⟨20, _⟩ => ⟨S2048x2048, .f32⟩
  | .hbm, ⟨21, _⟩ => ⟨S2048x2048, .bf16⟩
  | .hbm, ⟨22, _⟩ => ⟨S8192x2048, .f32⟩
  | .hbm, ⟨23, _⟩ => ⟨S2048x2048, .f32⟩
  | .hbm, ⟨24, _⟩ => ⟨S2048x2048, .bf16⟩
  | .hbm, ⟨25, _⟩ => ⟨S8192x2048, .f32⟩
  | .hbm, ⟨26, _⟩ => ⟨S2048x2048, .f32⟩
  | .hbm, ⟨27, _⟩ => ⟨S2048x2048, .bf16⟩
  | .hbm, ⟨28, _⟩ => ⟨S8192x2048, .f32⟩
  | .hbm, ⟨29, _⟩ => ⟨S2048x512, .f32⟩
  | .hbm, ⟨30, _⟩ => ⟨S2048x16, .f32⟩
  | .hbm, ⟨31, _⟩ => ⟨S_, .f32⟩
  | .hbm, ⟨32, _⟩ => ⟨S2048x112, .f32⟩
  | .hbm, ⟨33, _⟩ => ⟨S2048x640, .f32⟩
  | .hbm, ⟨34, _⟩ => ⟨S2048x640, .bf16⟩
  | .hbm, ⟨35, _⟩ => ⟨S8192x640, .f32⟩
  | .hbm, ⟨36, _⟩ => ⟨S2x4096x16x128, .f32⟩
  | .hbm, ⟨37, _⟩ => ⟨S1x2x4096x16x128, .f32⟩
  | .hbm, ⟨38, _⟩ => ⟨S2x4096x16x128, .f32⟩
  | .hbm, ⟨39, _⟩ => ⟨S1x2x4096x16x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x256, .bf16⟩
  | .local _ .vmem, ⟨5, _⟩ => ⟨S256x256, .bf16⟩
  | .local _ .vmem, ⟨6, _⟩ => ⟨S1024x2048, .bf16⟩
  | .local _ .vmem, ⟨7, _⟩ => ⟨S1024x2048, .bf16⟩
  | .local _ .vmem, ⟨8, _⟩ => ⟨S256x2048, .bf16⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S1024x2048, .bf16⟩
  | .local _ .vmem, ⟨17, _⟩ => ⟨S1024x2048, .bf16⟩
  | .local _ .vmem, ⟨18, _⟩ => ⟨S2048x1024, .bf16⟩
  | .local _ .vmem, ⟨19, _⟩ => ⟨S2048x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x2048, .bf16⟩
  | .local _ .vmem, ⟨23, _⟩ => ⟨S1024x2048, .bf16⟩
  | .local _ .vmem, ⟨24, _⟩ => ⟨S2048x1024, .bf16⟩
  | .local _ .vmem, ⟨25, _⟩ => ⟨S2048x1024, .bf16⟩
  | .local _ .vmem, ⟨26, _⟩ => ⟨S1024x1024, .f32⟩
  | .local _ .vmem, ⟨27, _⟩ => ⟨S1024x1024, .f32⟩
  | .local _ .vmem, ⟨28, _⟩ => ⟨S1024x2048, .bf16⟩
  | .local _ .vmem, ⟨29, _⟩ => ⟨S1024x2048, .bf16⟩
  | .local _ .vmem, ⟨30, _⟩ => ⟨S2048x1024, .bf16⟩
  | .local _ .vmem, ⟨31, _⟩ => ⟨S2048x1024, .bf16⟩
  | .local _ .vmem, ⟨32, _⟩ => ⟨S1024x1024, .f32⟩
  | .local _ .vmem, ⟨33, _⟩ => ⟨S1024x1024, .f32⟩
  | .local _ .vmem, ⟨34, _⟩ => ⟨S1024x2048, .bf16⟩
  | .local _ .vmem, ⟨35, _⟩ => ⟨S1024x2048, .bf16⟩
  | .local _ .vmem, ⟨36, _⟩ => ⟨S2048x1024, .bf16⟩
  | .local _ .vmem, ⟨37, _⟩ => ⟨S2048x1024, .bf16⟩
  | .local _ .vmem, ⟨38, _⟩ => ⟨S1024x1024, .f32⟩
  | .local _ .vmem, ⟨39, _⟩ => ⟨S1024x1024, .f32⟩
  | .local _ .vmem, ⟨40, _⟩ => ⟨S1024x2048, .bf16⟩
  | .local _ .vmem, ⟨41, _⟩ => ⟨S1024x2048, .bf16⟩
  | .local _ .vmem, ⟨42, _⟩ => ⟨S2048x640, .bf16⟩
  | .local _ .vmem, ⟨43, _⟩ => ⟨S1024x640, .f32⟩
  | .local _ .vmem, ⟨44, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg2_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem2_1 : DmaSem sig := 44

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S2048x640 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S1024x640 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference3Ideal.lean ====
abbrev S8192x1024 : Shape := ⟨2, ![8192, 1024]⟩
abbrev S8192x256 : Shape := ⟨2, ![8192, 256]⟩
abbrev S8192x2048 : Shape := ⟨2, ![8192, 2048]⟩
abbrev S1x2304x2048 : Shape := ⟨3, ![1, 2304, 2048]⟩
abbrev S1x2048 : Shape := ⟨2, ![1, 2048]⟩
abbrev S1x2048x8720 : Shape := ⟨3, ![1, 2048, 8720]⟩
abbrev S8192x2304 : Shape := ⟨2, ![8192, 2304]⟩
abbrev S2304x2048 : Shape := ⟨2, ![2304, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x8720 : Shape := ⟨2, ![2048, 8720]⟩
abbrev S8192x8720 : Shape := ⟨2, ![8192, 8720]⟩
abbrev S8192x16 : Shape := ⟨2, ![8192, 16]⟩
abbrev S8192x112 : Shape := ⟨2, ![8192, 112]⟩
abbrev S1x2x4096x16x128 : Shape := ⟨5, ![1, 2, 4096, 16, 128]⟩
abbrev S8192x640 : Shape := ⟨2, ![8192, 640]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x256, .bf16⟩
  | .hbm, ⟨3, _⟩ => ⟨S8192x2048, .f32⟩
  | .hbm, ⟨4, _⟩ => ⟨S1x2304x2048, .f32⟩
  | .hbm, ⟨5, _⟩ => ⟨S1x2048, .f32⟩
  | .hbm, ⟨6, _⟩ => ⟨S1x2048x8720, .f32⟩
  | .hbm, ⟨7, _⟩ => ⟨S8192x1024, .f32⟩
  | .hbm, ⟨8, _⟩ => ⟨S8192x1024, .f32⟩
  | .hbm, ⟨9, _⟩ => ⟨S8192x256, .f32⟩
  | .hbm, ⟨10, _⟩ => ⟨S8192x2304, .f32⟩
  | .hbm, ⟨11, _⟩ => ⟨S2304x2048, .f32⟩
  | .hbm, ⟨12, _⟩ => ⟨S8192x2048, .f32⟩
  | .hbm, ⟨13, _⟩ => ⟨S8192x2048, .f32⟩
  | .hbm, ⟨14, _⟩ => ⟨S2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S2048x8720, .f32⟩
  | .hbm, ⟨32, _⟩ => ⟨S8192x8720, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x16, .f32⟩
  | .hbm, ⟨37, _⟩ => ⟨S8192x2048, .f32⟩
  | .hbm, ⟨38, _⟩ => ⟨S8192x256, .f32⟩
  | .hbm, ⟨39, _⟩ => ⟨S8192x256, .f32⟩
  | .hbm, ⟨40, _⟩ => ⟨S_, .f32⟩
  | .hbm, ⟨41, _⟩ => ⟨S8192x112, .f32⟩
  | .hbm, ⟨42, _⟩ => ⟨S1x2x4096x16x128, .f32⟩
  | .hbm, ⟨43, _⟩ => ⟨S1x2x4096x16x128, .f32⟩
  | .hbm, ⟨44, _⟩ => ⟨S8192x640, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel4.lean ====
abbrev S8192x2048 : Shape := ⟨2, ![8192, 2048]⟩
abbrev S8192x256 : Shape := ⟨2, ![8192, 256]⟩
abbrev S1x2304x2048 : Shape := ⟨3, ![1, 2304, 2048]⟩
abbrev S2048 : Shape := ⟨1, ![2048]⟩
abbrev S2304x2048 : Shape := ⟨2, ![2304, 2048]⟩
abbrev S2048x2048 : Shape := ⟨2, ![2048, 2048]⟩
abbrev S256x2048 : Shape := ⟨2, ![256, 2048]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩
abbrev S2x4096x2048 : Shape := ⟨3, ![2, 4096, 2048]⟩

abbrev nBuf : Space → Nat
  | .hbm => 12
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x256, .bf16⟩
  | .hbm, ⟨2, _⟩ => ⟨S8192x2048, .f32⟩
  | .hbm, ⟨3, _⟩ => ⟨S1x2304x2048, .f32⟩
  | .hbm, ⟨4, _⟩ => ⟨S2048, .f32⟩
  | .hbm, ⟨5, _⟩ => ⟨S2304x2048, .f32⟩
  | .hbm, ⟨6, _⟩ => ⟨S2304x2048, .bf16⟩
  | .hbm, ⟨7, _⟩ => ⟨S2048x2048, .bf16⟩
  | .hbm, ⟨8, _⟩ => ⟨S256x2048, .bf16⟩
  | .hbm, ⟨9, _⟩ => ⟨S1x2048, .f32⟩
  | .hbm, ⟨10, _⟩ => ⟨S8192x2048, .f32⟩
  | .hbm, ⟨11, _⟩ => ⟨S2x4096x2048, .f32⟩
  | .local _ .vmem, ⟨0, _⟩ => ⟨S256x2048, .bf16⟩
  | .local _ .vmem, ⟨1, _⟩ => ⟨S256x2048, .bf16⟩
  | .local _ .vmem, ⟨2, _⟩ => ⟨S256x256, .bf16⟩
  | .local _ .vmem, ⟨3, _⟩ => ⟨S256x256, .bf16⟩
  | .local _ .vmem, ⟨4, _⟩ => ⟨S2048x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8192x2048 : Shape := ⟨2, ![8192, 2048]⟩
abbrev S8192x256 : Shape := ⟨2, ![8192, 256]⟩
abbrev S1x2304x2048 : Shape := ⟨3, ![1, 2304, 2048]⟩
abbrev S2048 : Shape := ⟨1, ![2048]⟩
abbrev S8192x2304 : Shape := ⟨2, ![8192, 2304]⟩
abbrev S2304x2048 : Shape := ⟨2, ![2304, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x4096x2048 : Shape := ⟨3, ![2, 4096, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x256, .bf16⟩
  | .hbm, ⟨2, _⟩ => ⟨S8192x2048, .f32⟩
  | .hbm, ⟨3, _⟩ => ⟨S1x2304x2048, .f32⟩
  | .hbm, ⟨4, _⟩ => ⟨S2048, .f32⟩
  | .hbm, ⟨5, _⟩ => ⟨S8192x2048, .f32⟩
  | .hbm, ⟨6, _⟩ => ⟨S8192x256, .f32⟩
  | .hbm, ⟨7, _⟩ => ⟨S8192x2304, .f32⟩
  | .hbm, ⟨8, _⟩ => ⟨S2304x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S2x4096x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel5.lean ====
abbrev S2x256x2048 : Shape := ⟨3, ![2, 256, 2048]⟩
abbrev S2x2048 : Shape := ⟨2, ![2, 2048]⟩
abbrev S2x2048x256 : Shape := ⟨3, ![2, 2048, 256]⟩
abbrev S512x2048 : Shape := ⟨2, ![512, 2048]⟩
abbrev S1x2048 : Shape := ⟨2, ![1, 2048]⟩
abbrev S2048 : Shape := ⟨1, ![2048]⟩
abbrev S512 : Shape := ⟨1, ![512]⟩
abbrev S512x1 : Shape := ⟨2, ![512, 1]⟩
abbrev S1x2048x256 : Shape := ⟨3, ![1, 2048, 256]⟩
abbrev S2048x256 : Shape := ⟨2, ![2048, 256]⟩
abbrev S2048x512 : Shape := ⟨2, ![2048, 512]⟩
abbrev S512x512 : Shape := ⟨2, ![512, 512]⟩
abbrev S512x256 : Shape := ⟨2, ![512, 256]⟩
abbrev S2x256x256 : Shape := ⟨3, ![2, 256, 256]⟩
abbrev S2x256x4x64 : Shape := ⟨4, ![2, 256, 4, 64]⟩
abbrev S1x2x256x4x64 : Shape := ⟨5, ![1, 2, 256, 4, 64]⟩
abbrev S2x2x256x4x64 : Shape := ⟨5, ![2, 2, 256, 4, 64]⟩

abbrev nBuf : Space → Nat
  | .hbm => 46
  | .vmem => 12
  | .smem => 0
  | _ => 0

abbrev bufTy : (tb : Table) → Fin (tcTables nBuf tb) → BufTy
  | .hbm, ⟨0, _⟩ => ⟨S2x256x2048, .f32⟩
  | .hbm, ⟨1, _⟩ => ⟨S2x2048, .f32⟩
  | .hbm, ⟨2, _⟩ => ⟨S2x2048x256, .f32⟩
  | .hbm, ⟨3, _⟩ => ⟨S2x2048x256, .f32⟩
  | .hbm, ⟨4, _⟩ => ⟨S512x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S512x2048, .bf16⟩
  | .hbm, ⟨9, _⟩ => ⟨S1x2048x256, .f32⟩
  | .hbm, ⟨10, _⟩ => ⟨S2048x256, .f32⟩
  | .hbm, ⟨11, _⟩ => ⟨S1x2048x256, .f32⟩
  | .hbm, ⟨12, _⟩ => ⟨S2048x256, .f32⟩
  | .hbm, ⟨13, _⟩ => ⟨S2048x512, .f32⟩
  | .hbm, ⟨14, _⟩ => ⟨S2048x512, .bf16⟩
  | .hbm, ⟨15, _⟩ => ⟨S512x512, .f32⟩
  | .hbm, ⟨16, _⟩ => ⟨S512x256, .f32⟩
  | .hbm, ⟨17, _⟩ => ⟨S2x256x256, .f32⟩
  | .hbm, ⟨18, _⟩ => ⟨S512x256, .f32⟩
  | .hbm, ⟨19, _⟩ => ⟨S2x256x256, .f32⟩
  | .hbm, ⟨20, _⟩ => ⟨S512x2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S512x2048, .bf16⟩
  | .hbm, ⟨25, _⟩ => ⟨S1x2048x256, .f32⟩
  | .hbm, ⟨26, _⟩ => ⟨S2048x256, .f32⟩
  | .hbm, ⟨27, _⟩ => ⟨S1x2048x256, .f32⟩
  | .hbm, ⟨28, _⟩ => ⟨S2048x256, .f32⟩
  | .hbm, ⟨29, _⟩ => ⟨S2048x512, .f32⟩
  | .hbm, ⟨30, _⟩ => ⟨S2048x512, .bf16⟩
  | .hbm, ⟨31, _⟩ => ⟨S512x512, .f32⟩
  | .hbm, ⟨32, _⟩ => ⟨S512x256, .f32⟩
  | .hbm, ⟨33, _⟩ => ⟨S2x256x256, .f32⟩
  | .hbm, ⟨34, _⟩ => ⟨S512x256, .f32⟩
  | .hbm, ⟨35, _⟩ => ⟨S2x256x256, .f32⟩
  | .hbm, ⟨36, _⟩ => ⟨S2x256x4x64, .f32⟩
  | .hbm, ⟨37, _⟩ => ⟨S2x256x4x64, .f32⟩
  | .hbm, ⟨38, _⟩ => ⟨S1x2x256x4x64, .f32⟩
  | .hbm, ⟨39, _⟩ => ⟨S1x2x256x4x64, .f32⟩
  | .hbm, ⟨40, _⟩ => ⟨S2x2x256x4x64, .f32⟩
  | .hbm, ⟨41, _⟩ => ⟨S2x256x4x64, .f32⟩
  | .hbm, ⟨42, _⟩ => ⟨S2x256x4x64, .f32⟩
  | .hbm, ⟨43, _⟩ => ⟨S1x2x256x4x64, .f32⟩
  | .hbm, ⟨44, _⟩ => ⟨S1x2x256x4x64, .f32⟩
  | .hbm, ⟨45, _⟩ => ⟨S2x2x256x4x64, .f32⟩
  | .local _ .vmem, ⟨0, _⟩ => ⟨S512x2048, .f32⟩
  | .local _ .vmem, ⟨1, _⟩ => ⟨S1x2048, .f32⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S512x512, .f32⟩
  | .local _ .vmem, ⟨6, _⟩ => ⟨S512x2048, .f32⟩
  | .local _ .vmem, ⟨7, _⟩ => ⟨S1x2048, .f32⟩
  | .local _ .vmem, ⟨8, _⟩ => ⟨S512x2048, .bf16⟩
  | .local _ .vmem, ⟨9, _⟩ => ⟨S512x2048, .bf16⟩
  | .local _ .vmem, ⟨10, _⟩ => ⟨S2048x512, .bf16⟩
  | .local _ .vmem, ⟨11, _⟩ => ⟨S512x512, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg2_0 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8
abbrev cc3_sem0_0 : DmaSem sig := 9
abbrev cc3_sem1_0 : DmaSem sig := 10
abbrev cc3_sem2_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S512x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S512x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S512x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S2048x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]
-- ==== Reference5Ideal.lean ====
abbrev S2x256x2048 : Shape := ⟨3, ![2, 256, 2048]⟩
abbrev S2x2048 : Shape := ⟨2, ![2, 2048]⟩
abbrev S2x2048x256 : Shape := ⟨3, ![2, 2048, 256]⟩
abbrev S1x2048 : Shape := ⟨2, ![1, 2048]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S1x2048x256 : Shape := ⟨3, ![1, 2048, 256]⟩
abbrev S2048x256 : Shape := ⟨2, ![2048, 256]⟩
abbrev S2x256x256 : Shape := ⟨3, ![2, 256, 256]⟩
abbrev S2x256x4x64 : Shape := ⟨4, ![2, 256, 4, 64]⟩
abbrev S1x2x256x4x64 : Shape := ⟨5, ![1, 2, 256, 4, 64]⟩
abbrev S2x2x256x4x64 : Shape := ⟨5, ![2, 2, 256, 4, 64]⟩

abbrev nBuf : Space → Nat
  | .hbm => 98
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x2048, .f32⟩
  | .hbm, ⟨2, _⟩ => ⟨S2x2048x256, .f32⟩
  | .hbm, ⟨3, _⟩ => ⟨S2x2048x256, .f32⟩
  | .hbm, ⟨4, _⟩ => ⟨S1x2048, .f32⟩
  | .hbm, ⟨5, _⟩ => ⟨S2048, .f32⟩
  | .hbm, ⟨6, _⟩ => ⟨S2x256x2048, .f32⟩
  | .hbm, ⟨7, _⟩ => ⟨S_, .f32⟩
  | .hbm, ⟨8, _⟩ => ⟨S2x256, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S2x256x2048, .f32⟩
  | .hbm, ⟨18, _⟩ => ⟨S2x256x2048, .f32⟩
  | .hbm, ⟨19, _⟩ => ⟨S1x1x2048, .f32⟩
  | .hbm, ⟨20, _⟩ => ⟨S2x256x2048, .f32⟩
  | .hbm, ⟨21, _⟩ => ⟨S2x256x2048, .f32⟩
  | .hbm, ⟨22, _⟩ => ⟨S1x2048x256, .f32⟩
  | .hbm, ⟨23, _⟩ => ⟨S2048x256, .f32⟩
  | .hbm, ⟨24, _⟩ => ⟨S2x256x256, .f32⟩
  | .hbm, ⟨25, _⟩ => ⟨S2x256x4x64, .f32⟩
  | .hbm, ⟨26, _⟩ => ⟨S1x2048, .f32⟩
  | .hbm, ⟨27, _⟩ => ⟨S2048, .f32⟩
  | .hbm, ⟨28, _⟩ => ⟨S2x256x2048, .f32⟩
  | .hbm, ⟨29, _⟩ => ⟨S_, .f32⟩
  | .hbm, ⟨30, _⟩ => ⟨S2x256, .f32⟩
  | .hbm, ⟨31, _⟩ => ⟨S2x256x1, .f32⟩
  | .hbm, ⟨32, _⟩ => ⟨S_, .f32⟩
  | .hbm, ⟨33, _⟩ => ⟨S2x256x1, .f32⟩
  | .hbm, ⟨34, _⟩ => ⟨S2x256x1, .f32⟩
  | .hbm, ⟨35, _⟩ => ⟨S_, .f32⟩
  | .hbm, ⟨36, _⟩ => ⟨S2x256x1, .f32⟩
  | .hbm, ⟨37, _⟩ => ⟨S2x256x1, .f32⟩
  | .hbm, ⟨38, _⟩ => ⟨S2x256x1, .f32⟩
  | .hbm, ⟨39, _⟩ => ⟨S2x256x2048, .f32⟩
  | .hbm, ⟨40, _⟩ => ⟨S2x256x2048, .f32⟩
  | .hbm, ⟨41, _⟩ => ⟨S1x1x2048, .f32⟩
  | .hbm, ⟨42, _⟩ => ⟨S2x256x2048, .f32⟩
  | .hbm, ⟨43, _⟩ => ⟨S2x256x2048, .f32⟩
  | .hbm, ⟨44, _⟩ => ⟨S1x2048x256, .f32⟩
  | .hbm, ⟨45, _⟩ => ⟨S2048x256, .f32⟩
  | .hbm, ⟨46, _⟩ => ⟨S2x256x256, .f32⟩
  | .hbm, ⟨47, _⟩ => ⟨S2x256x4x64, .f32⟩
  | .hbm, ⟨48, _⟩ => ⟨S1x2x256x4x64, .f32⟩
  | .hbm, ⟨49, _⟩ => ⟨S1x2x256x4x64, .f32⟩
  | .hbm, ⟨50, _⟩ => ⟨S2x2x256x4x64, .f32⟩
  | .hbm, ⟨51, _⟩ => ⟨S1x2048, .f32⟩
  | .hbm, ⟨52, _⟩ => ⟨S2048, .f32⟩
  | .hbm, ⟨53, _⟩ => ⟨S2x256x2048, .f32⟩
  | .hbm, ⟨54, _⟩ => ⟨S_, .f32⟩
  | .hbm, ⟨55, _⟩ => ⟨S2x256, .f32⟩
  | .hbm, ⟨56, _⟩ => ⟨S2x256x1, .f32⟩
  | .hbm, ⟨57, _⟩ => ⟨S_, .f32⟩
  | .hbm, ⟨58, _⟩ => ⟨S2x256x1, .f32⟩
  | .hbm, ⟨59, _⟩ => ⟨S2x256x1, .f32⟩
  | .hbm, ⟨60, _⟩ => ⟨S_, .f32⟩
  | .hbm, ⟨61, _⟩ => ⟨S2x256x1, .f32⟩
  | .hbm, ⟨62, _⟩ => ⟨S2x256x1, .f32⟩
  | .hbm, ⟨63, _⟩ => ⟨S2x256x1, .f32⟩
  | .hbm, ⟨64, _⟩ => ⟨S2x256x2048, .f32⟩
  | .hbm, ⟨65, _⟩ => ⟨S2x256x2048, .f32⟩
  | .hbm, ⟨66, _⟩ => ⟨S1x1x2048, .f32⟩
  | .hbm, ⟨67, _⟩ => ⟨S2x256x2048, .f32⟩
  | .hbm, ⟨68, _⟩ => ⟨S2x256x2048, .f32⟩
  | .hbm, ⟨69, _⟩ => ⟨S1x2048x256, .f32⟩
  | .hbm, ⟨70, _⟩ => ⟨S2048x256, .f32⟩
  | .hbm, ⟨71, _⟩ => ⟨S2x256x256, .f32⟩
  | .hbm, ⟨72, _⟩ => ⟨S2x256x4x64, .f32⟩
  | .hbm, ⟨73, _⟩ => ⟨S1x2048, .f32⟩
  | .hbm, ⟨74, _⟩ => ⟨S2048, .f32⟩
  | .hbm, ⟨75, _⟩ => ⟨S2x256x2048, .f32⟩
  | .hbm, ⟨76, _⟩ => ⟨S_, .f32⟩
  | .hbm, ⟨77, _⟩ => ⟨S2x256, .f32⟩
  | .hbm, ⟨78, _⟩ => ⟨S2x256x1, .f32⟩
  | .hbm, ⟨79, _⟩ => ⟨S_, .f32⟩
  | .hbm, ⟨80, _⟩ => ⟨S2x256x1, .f32⟩
  | .hbm, ⟨81, _⟩ => ⟨S2x256x1, .f32⟩
  | .hbm, ⟨82, _⟩ => ⟨S_, .f32⟩
  | .hbm, ⟨83, _⟩ => ⟨S2x256x1, .f32⟩
  | .hbm, ⟨84, _⟩ => ⟨S2x256x1, .f32⟩
  | .hbm, ⟨85, _⟩ => ⟨S2x256x1, .f32⟩
  | .hbm, ⟨86, _⟩ => ⟨S2x256x2048, .f32⟩
  | .hbm, ⟨87, _⟩ => ⟨S2x256x2048, .f32⟩
  | .hbm, ⟨88, _⟩ => ⟨S1x1x2048, .f32⟩
  | .hbm, ⟨89, _⟩ => ⟨S2x256x2048, .f32⟩
  | .hbm, ⟨90, _⟩ => ⟨S2x256x2048, .f32⟩
  | .hbm, ⟨91, _⟩ => ⟨S1x2048x256, .f32⟩
  | .hbm, ⟨92, _⟩ => ⟨S2048x256, .f32⟩
  | .hbm, ⟨93, _⟩ => ⟨S2x256x256, .f32⟩
  | .hbm, ⟨94, _⟩ => ⟨S2x256x4x64, .f32⟩
  | .hbm, ⟨95, _⟩ => ⟨S1x2x256x4x64, .f32⟩
  | .hbm, ⟨96, _⟩ => ⟨S1x2x256x4x64, .f32⟩
  | .hbm, ⟨97, _⟩ => ⟨S2x2x256x4x64, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_cst_9 : Ref sig .tc := ⟨.hbm, 79, rfl⟩
abbrev main_v65 : Ref sig .tc := ⟨.hbm, 80, rfl⟩
abbrev main_v66 : Ref sig .tc := ⟨.hbm, 81, rfl⟩
abbrev main_cst_10 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩

abbrev nD : Nat := 1
abbrev τ : Topo := Topo.v7x

variable {F : FTy → Type} [FloatOps F]
-- ==== Kernel6.lean ====
abbrev S8192x640 : Shape := ⟨2, ![8192, 640]⟩
abbrev S1x16 : Shape := ⟨2, ![1, 16]⟩
abbrev S16 : Shape := ⟨1, ![16]⟩
abbrev S_ : Shape := ⟨0, ![]⟩
abbrev S1x128 : Shape := ⟨2, ![1, 128]⟩
abbrev S1 : Shape := ⟨1, ![1]⟩
abbrev S2 : Shape := ⟨1, ![2]⟩
abbrev S8192x16 : Shape := ⟨2, ![8192, 16]⟩
abbrev S2x16x4096 : Shape := ⟨3, ![2, 16, 4096]⟩
abbrev S512x128 : Shape := ⟨2, ![512, 128]⟩
abbrev S512x16 : Shape := ⟨2, ![512, 16]⟩
abbrev S1x16x512 : Shape := ⟨3, ![1, 16, 512]⟩
abbrev S128x1 : Shape := ⟨2, ![128, 1]⟩
abbrev S512x512 : Shape := ⟨2, ![512, 512]⟩
abbrev S128x512 : Shape := ⟨2, ![128, 512]⟩
abbrev S16x512 : Shape := ⟨2, ![16, 512]⟩
abbrev S2x4096x16 : Shape := ⟨3, ![2, 4096, 16]⟩
abbrev S1x2x4096x16 : Shape := ⟨4, ![1, 2, 4096, 16]⟩

abbrev nBuf : Space → Nat
  | .hbm => 15
  | .vmem => 8
  | .smem => 0
  | _ => 0

abbrev bufTy : (tb : Table) → Fin (tcTables nBuf tb) → BufTy
  | .hbm, ⟨0, _⟩ => ⟨S8192x640, .f32⟩
  | .hbm, ⟨1, _⟩ => ⟨S1x16, .f32⟩
  | .hbm, ⟨2, _⟩ => ⟨S16, .f32⟩
  | .hbm, ⟨3, _⟩ => ⟨S_, .f32⟩
  | .hbm, ⟨4, _⟩ => ⟨S1x128, .f32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S2, .i32⟩
  | .hbm, ⟨10, _⟩ => ⟨S1x128, .f32⟩
  | .hbm, ⟨11, _⟩ => ⟨S8192x16, .f32⟩
  | .hbm, ⟨12, _⟩ => ⟨S2x16x4096, .f32⟩
  | .hbm, ⟨13, _⟩ => ⟨S2x4096x16, .f32⟩
  | .hbm, ⟨14, _⟩ => ⟨S1x2x4096x16, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x16, .f32⟩
  | .local _ .vmem, ⟨4, _⟩ => ⟨S512x16, .f32⟩
  | .local _ .vmem, ⟨5, _⟩ => ⟨S1x16x512, .f32⟩
  | .local _ .vmem, ⟨6, _⟩ => ⟨S1x16x512, .f32⟩
  | .local _ .vmem, ⟨7, _⟩ => ⟨S128x1, .f32⟩
  | _, _ => ⟨S8192x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x640 : Shape := ⟨2, ![8192, 640]⟩
abbrev S1x16 : Shape := ⟨2, ![1, 16]⟩
abbrev S8192x16 : Shape := ⟨2, ![8192, 16]⟩
abbrev S2x4096x16 : Shape := ⟨3, ![2, 4096, 16]⟩
abbrev S16 : Shape := ⟨1, ![16]⟩
abbrev S1x1x16 : Shape := ⟨3, ![1, 1, 16]⟩
abbrev S_ : Shape := ⟨0, ![]⟩
abbrev S1x2x4096x16 : Shape := ⟨4, ![1, 2, 4096, 16]⟩
abbrev S2x16x4096 : Shape := ⟨3, ![2, 16, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x640, .f32⟩
  | .hbm, ⟨1, _⟩ => ⟨S1x16, .f32⟩
  | .hbm, ⟨2, _⟩ => ⟨S8192x16, .f32⟩
  | .hbm, ⟨3, _⟩ => ⟨S2x4096x16, .f32⟩
  | .hbm, ⟨4, _⟩ => ⟨S16, .f32⟩
  | .hbm, ⟨5, _⟩ => ⟨S1x1x16, .f32⟩
  | .hbm, ⟨6, _⟩ => ⟨S2x4096x16, .f32⟩
  | .hbm, ⟨7, _⟩ => ⟨S2x4096x16, .f32⟩
  | .hbm, ⟨8, _⟩ => ⟨S2x4096x16, .f32⟩
  | .hbm, ⟨9, _⟩ => ⟨S_, .f32⟩
  | .hbm, ⟨10, _⟩ => ⟨S2x4096x16, .f32⟩
  | .hbm, ⟨11, _⟩ => ⟨S2x4096x16, .f32⟩
  | .hbm, ⟨12, _⟩ => ⟨S2x4096x16, .f32⟩
  | .hbm, ⟨13, _⟩ => ⟨S2x4096x16, .f32⟩
  | .hbm, ⟨14, _⟩ => ⟨S2x4096x16, .i1⟩
  | .hbm, ⟨15, _⟩ => ⟨S2x4096x16, .f32⟩
  | .hbm, ⟨16, _⟩ => ⟨S2x4096x16, .f32⟩
  | .hbm, ⟨17, _⟩ => ⟨S2x4096x16, .f32⟩
  | .hbm, ⟨18, _⟩ => ⟨S2x4096x16, .f32⟩
  | .hbm, ⟨19, _⟩ => ⟨S2x4096x16, .f32⟩
  | .hbm, ⟨20, _⟩ => ⟨S2x4096x16, .f32⟩
  | .hbm, ⟨21, _⟩ => ⟨S2x4096x16, .f32⟩
  | .hbm, ⟨22, _⟩ => ⟨S2x4096x16, .f32⟩
  | .hbm, ⟨23, _⟩ => ⟨S2x4096x16, .f32⟩
  | .hbm, ⟨24, _⟩ => ⟨S1x2x4096x16, .f32⟩
  | .hbm, ⟨25, _⟩ => ⟨S_, .f32⟩
  | .hbm, ⟨26, _⟩ => ⟨S_, .f32⟩
  | .hbm, ⟨27, _⟩ => ⟨S2x4096x16, .f32⟩
  | .hbm, ⟨28, _⟩ => ⟨S2x16x4096, .f32⟩
  | _, _ => ⟨S8192x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v6 : Ref sig .tc := ⟨.hbm, 23, rfl⟩
abbrev main_v7 : Ref sig .tc := ⟨.hbm, 24, rfl⟩
abbrev main_call1_call0_cst : Ref sig .tc := ⟨.hbm, 25, rfl⟩
abbrev main_call1_call0_v0 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Kernel8.lean ====
abbrev S32x8x2048 : Shape := ⟨3, ![32, 8, 2048]⟩
abbrev S1x2048 : Shape := ⟨2, ![1, 2048]⟩
abbrev S1x2048x7040 : Shape := ⟨3, ![1, 2048, 7040]⟩
abbrev S1x32x128x2x64 : Shape := ⟨5, ![1, 32, 128, 2, 64]⟩
abbrev S2048x7040 : Shape := ⟨2, ![2048, 7040]⟩
abbrev S256x2048 : Shape := ⟨2, ![256, 2048]⟩
abbrev S2048 : Shape := ⟨1, ![2048]⟩
abbrev S256 : Shape := ⟨1, ![256]⟩
abbrev S256x1 : Shape := ⟨2, ![256, 1]⟩
abbrev S2048x4224 : Shape := ⟨2, ![2048, 4224]⟩
abbrev S256x4224 : Shape := ⟨2, ![256, 4224]⟩
abbrev S2048x1408 : Shape := ⟨2, ![2048, 1408]⟩
abbrev S256x1408 : Shape := ⟨2, ![256, 1408]⟩
abbrev S2048x1024 : Shape := ⟨2, ![2048, 1024]⟩
abbrev S2048x256 : Shape := ⟨2, ![2048, 256]⟩
abbrev S2048x2304 : Shape := ⟨2, ![2048, 2304]⟩
abbrev S256x2304 : Shape := ⟨2, ![256, 2304]⟩
abbrev S2048x1152 : Shape := ⟨2, ![2048, 1152]⟩
abbrev S256x1152 : Shape := ⟨2, ![256, 1152]⟩
abbrev S32x8x4224 : Shape := ⟨3, ![32, 8, 4224]⟩
abbrev S32x1x3200 : Shape := ⟨3, ![32, 1, 3200]⟩
abbrev S32x3200 : Shape := ⟨2, ![32, 3200]⟩
abbrev S256x128 : Shape := ⟨2, ![256, 128]⟩
abbrev S32x8x128 : Shape := ⟨3, ![32, 8, 128]⟩
abbrev S32x128x2x64 : Shape := ⟨4, ![32, 128, 2, 64]⟩
abbrev S32x128x128 : Shape := ⟨3, ![32, 128, 128]⟩
abbrev S32x136x128 : Shape := ⟨3, ![32, 136, 128]⟩
abbrev S1x32x3200 : Shape := ⟨3, ![1, 32, 3200]⟩

abbrev nBuf : Space → Nat
  | .hbm => 39
  | .vmem => 13
  | .smem => 0
  | _ => 0

abbrev bufTy : (tb : Table) → Fin (tcTables nBuf tb) → BufTy
  | .hbm, ⟨0, _⟩ => ⟨S32x8x2048, .f32⟩
  | .hbm, ⟨1, _⟩ => ⟨S1x2048, .f32⟩
  | .hbm, ⟨2, _⟩ => ⟨S1x2048x7040, .f32⟩
  | .hbm, ⟨3, _⟩ => ⟨S1x32x128x2x64, .f32⟩
  | .hbm, ⟨4, _⟩ => ⟨S1x32x128x2x64, .f32⟩
  | .hbm, ⟨5, _⟩ => ⟨S2048x7040, .f32⟩
  | .hbm, ⟨6, _⟩ => ⟨S256x2048, .f32⟩
  | .hbm, ⟨7, _⟩ => ⟨S2048, .f32⟩
  | .hbm, ⟨8, _⟩ => ⟨S1x2048, .f32⟩
  | .hbm, ⟨9, _⟩ => ⟨S256x2048, .bf16⟩
  | .hbm, ⟨10, _⟩ => ⟨S2048x4224, .f32⟩
  | .hbm, ⟨11, _⟩ => ⟨S2048x4224, .bf16⟩
  | .hbm, ⟨12, _⟩ => ⟨S256x4224, .f32⟩
  | .hbm, ⟨13, _⟩ => ⟨S2048x1024, .f32⟩
  | .hbm, ⟨14, _⟩ => ⟨S2048x1024, .f32⟩
  | .hbm, ⟨15, _⟩ => ⟨S2048x256, .f32⟩
  | .hbm, ⟨16, _⟩ => ⟨S2048x2304, .f32⟩
  | .hbm, ⟨17, _⟩ => ⟨S2048x2304, .bf16⟩
  | .hbm, ⟨18, _⟩ => ⟨S256x2304, .f32⟩
  | .hbm, ⟨19, _⟩ => ⟨S32x8x4224, .f32⟩
  | .hbm, ⟨20, _⟩ => ⟨S32x1x3200, .f32⟩
  | .hbm, ⟨21, _⟩ => ⟨S32x3200, .f32⟩
  | .hbm, ⟨22, _⟩ => ⟨S256x128, .f32⟩
  | .hbm, ⟨23, _⟩ => ⟨S32x8x128, .f32⟩
  | .hbm, ⟨24, _⟩ => ⟨S256x128, .f32⟩
  | .hbm, ⟨25, _⟩ => ⟨S32x8x128, .f32⟩
  | .hbm, ⟨26, _⟩ => ⟨S32x128x2x64, .f32⟩
  | .hbm, ⟨27, _⟩ => ⟨S32x128x2x64, .f32⟩
  | .hbm, ⟨28, _⟩ => ⟨S32x128x128, .f32⟩
  | .hbm, ⟨29, _⟩ => ⟨S32x128x128, .f32⟩
  | .hbm, ⟨30, _⟩ => ⟨S32x136x128, .f32⟩
  | .hbm, ⟨31, _⟩ => ⟨S32x128x128, .f32⟩
  | .hbm, ⟨32, _⟩ => ⟨S32x136x128, .f32⟩
  | .hbm, ⟨33, _⟩ => ⟨S32x128x128, .f32⟩
  | .hbm, ⟨34, _⟩ => ⟨S1x32x3200, .f32⟩
  | .hbm, ⟨35, _⟩ => ⟨S32x128x2x64, .f32⟩
  | .hbm, ⟨36, _⟩ => ⟨S1x32x128x2x64, .f32⟩
  | .hbm, ⟨37, _⟩ => ⟨S32x128x2x64, .f32⟩
  | .hbm, ⟨38, _⟩ => ⟨S1x32x128x2x64, .f32⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | .local _ .vmem, ⟨3, _⟩ => ⟨S256x2048, .bf16⟩
  | .local _ .vmem, ⟨4, _⟩ => ⟨S2048x1408, .bf16⟩
  | .local _ .vmem, ⟨5, _⟩ => ⟨S2048x1408, .bf16⟩
  | .local _ .vmem, ⟨6, _⟩ => ⟨S256x1408, .f32⟩
  | .local _ .vmem, ⟨7, _⟩ => ⟨S256x1408, .f32⟩
  | .local _ .vmem, ⟨8, _⟩ => ⟨S256x2048, .bf16⟩
  | .local _ .vmem, ⟨9, _⟩ => ⟨S2048x1152, .bf16⟩
  | .local _ .vmem, ⟨10, _⟩ => ⟨S2048x1152, .bf16⟩
  | .local _ .vmem, ⟨11, _⟩ => ⟨S256x1152, .f32⟩
  | .local _ .vmem, ⟨12, _⟩ => ⟨S256x1152, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem1_1 : DmaSem sig := 10
abbrev cc2_sem2_0 : DmaSem sig := 11
abbrev cc2_sem2_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S256x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S256x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S2048x1152 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x1152 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference8Ideal.lean ====
abbrev S32x8x2048 : Shape := ⟨3, ![32, 8, 2048]⟩
abbrev S1x2048 : Shape := ⟨2, ![1, 2048]⟩
abbrev S1x2048x7040 : Shape := ⟨3, ![1, 2048, 7040]⟩
abbrev S1x32x128x2x64 : Shape := ⟨5, ![1, 32, 128, 2, 64]⟩
abbrev S2048 : Shape := ⟨1, ![2048]⟩
abbrev S_ : Shape := ⟨0, ![]⟩
abbrev S32x8 : Shape := ⟨2, ![32, 8]⟩
abbrev S32x8x1 : Shape := ⟨3, ![32, 8, 1]⟩
abbrev S1x1x2048 : Shape := ⟨3, ![1, 1, 2048]⟩
abbrev S2048x7040 : Shape := ⟨2, ![2048, 7040]⟩
abbrev S32x8x7040 : Shape := ⟨3, ![32, 8, 7040]⟩
abbrev S32x8x3200 : Shape := ⟨3, ![32, 8, 3200]⟩
abbrev S32x8x1024 : Shape := ⟨3, ![32, 8, 1024]⟩
abbrev S32x8x128 : Shape := ⟨3, ![32, 8, 128]⟩
abbrev S32x8x256 : Shape := ⟨3, ![32, 8, 256]⟩
abbrev S32x128x2x64 : Shape := ⟨4, ![32, 128, 2, 64]⟩
abbrev S32x8x2x64 : Shape := ⟨4, ![32, 8, 2, 64]⟩
abbrev S32x136x2x64 : Shape := ⟨4, ![32, 136, 2, 64]⟩
abbrev S32x1x3200 : Shape := ⟨3, ![32, 1, 3200]⟩
abbrev S32x3200 : Shape := ⟨2, ![32, 3200]⟩
abbrev S1x32x3200 : Shape := ⟨3, ![1, 32, 3200]⟩

abbrev nBuf : Space → Nat
  | .hbm => 45
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S1x2048, .f32⟩
  | .hbm, ⟨2, _⟩ => ⟨S1x2048x7040, .f32⟩
  | .hbm, ⟨3, _⟩ => ⟨S1x32x128x2x64, .f32⟩
  | .hbm, ⟨4, _⟩ => ⟨S1x32x128x2x64, .f32⟩
  | .hbm, ⟨5, _⟩ => ⟨S2048, .f32⟩
  | .hbm, ⟨6, _⟩ => ⟨S32x8x2048, .f32⟩
  | .hbm, ⟨7, _⟩ => ⟨S_, .f32⟩
  | .hbm, ⟨8, _⟩ => ⟨S32x8, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S_, .f32⟩
  | .hbm, ⟨14, _⟩ => ⟨S32x8x1, .f32⟩
  | .hbm, ⟨15, _⟩ => ⟨S32x8x1, .f32⟩
  | .hbm, ⟨16, _⟩ => ⟨S32x8x1, .f32⟩
  | .hbm, ⟨17, _⟩ => ⟨S32x8x2048, .f32⟩
  | .hbm, ⟨18, _⟩ => ⟨S32x8x2048, .f32⟩
  | .hbm, ⟨19, _⟩ => ⟨S1x1x2048, .f32⟩
  | .hbm, ⟨20, _⟩ => ⟨S32x8x2048, .f32⟩
  | .hbm, ⟨21, _⟩ => ⟨S32x8x2048, .f32⟩
  | .hbm, ⟨22, _⟩ => ⟨S2048x7040, .f32⟩
  | .hbm, ⟨23, _⟩ => ⟨S32x8x7040, .f32⟩
  | .hbm, ⟨24, _⟩ => ⟨S32x8x3200, .f32⟩
  | .hbm, ⟨25, _⟩ => ⟨S32x8x1024, .f32⟩
  | .hbm, ⟨26, _⟩ => ⟨S32x8x1024, .f32⟩
  | .hbm, ⟨27, _⟩ => ⟨S32x8x128, .f32⟩
  | .hbm, ⟨28, _⟩ => ⟨S32x8x128, .f32⟩
  | .hbm, ⟨29, _⟩ => ⟨S32x8x1024, .f32⟩
  | .hbm, ⟨30, _⟩ => ⟨S32x8x256, .f32⟩
  | .hbm, ⟨31, _⟩ => ⟨S32x8x256, .f32⟩
  | .hbm, ⟨32, _⟩ => ⟨S32x128x2x64, .f32⟩
  | .hbm, ⟨33, _⟩ => ⟨S32x8x2x64, .f32⟩
  | .hbm, ⟨34, _⟩ => ⟨S32x136x2x64, .f32⟩
  | .hbm, ⟨35, _⟩ => ⟨S32x128x2x64, .f32⟩
  | .hbm, ⟨36, _⟩ => ⟨S32x8x2x64, .f32⟩
  | .hbm, ⟨37, _⟩ => ⟨S32x136x2x64, .f32⟩
  | .hbm, ⟨38, _⟩ => ⟨S32x1x3200, .f32⟩
  | .hbm, ⟨39, _⟩ => ⟨S32x3200, .f32⟩
  | .hbm, ⟨40, _⟩ => ⟨S1x32x3200, .f32⟩
  | .hbm, ⟨41, _⟩ => ⟨S32x128x2x64, .f32⟩
  | .hbm, ⟨42, _⟩ => ⟨S1x32x128x2x64, .f32⟩
  | .hbm, ⟨43, _⟩ => ⟨S32x128x2x64, .f32⟩
  | .hbm, ⟨44, _⟩ => ⟨S1x32x128x2x64, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Kernel9.lean ====
abbrev S256x1024 : Shape := ⟨2, ![256, 1024]⟩
abbrev S256x256 : Shape := ⟨2, ![256, 256]⟩
abbrev S256x2048 : Shape := ⟨2, ![256, 2048]⟩
abbrev S1x2304x2048 : Shape := ⟨3, ![1, 2304, 2048]⟩
abbrev S1x2048 : Shape := ⟨2, ![1, 2048]⟩
abbrev S1x2048x8720 : Shape := ⟨3, ![1, 2048, 8720]⟩
abbrev S2304x2048 : Shape := ⟨2, ![2304, 2048]⟩
abbrev S2048x8720 : Shape := ⟨2, ![2048, 8720]⟩
abbrev S1024x2048 : Shape := ⟨2, ![1024, 2048]⟩
abbrev S2048 : Shape := ⟨1, ![2048]⟩
abbrev S256 : Shape := ⟨1, ![256]⟩
abbrev S256x1 : Shape := ⟨2, ![256, 1]⟩
abbrev S2048x2048 : Shape := ⟨2, ![2048, 2048]⟩
abbrev S2048x1024 : Shape := ⟨2, ![2048, 1024]⟩
abbrev S32x8x16x128 : Shape := ⟨4, ![32, 8, 16, 128]⟩
abbrev S1x32x8x16x128 : Shape := ⟨5, ![1, 32, 8, 16, 128]⟩

abbrev nBuf : Space → Nat
  | .hbm => 27
  | .vmem => 20
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x256, .f32⟩
  | .hbm, ⟨3, _⟩ => ⟨S256x2048, .f32⟩
  | .hbm, ⟨4, _⟩ => ⟨S1x2304x2048, .f32⟩
  | .hbm, ⟨5, _⟩ => ⟨S1x2048, .f32⟩
  | .hbm, ⟨6, _⟩ => ⟨S1x2048x8720, .f32⟩
  | .hbm, ⟨7, _⟩ => ⟨S2304x2048, .f32⟩
  | .hbm, ⟨8, _⟩ => ⟨S2304x2048, .bf16⟩
  | .hbm, ⟨9, _⟩ => ⟨S2048x8720, .f32⟩
  | .hbm, ⟨10, _⟩ => ⟨S1024x2048, .bf16⟩
  | .hbm, ⟨11, _⟩ => ⟨S1024x2048, .bf16⟩
  | .hbm, ⟨12, _⟩ => ⟨S256x2048, .bf16⟩
  | .hbm, ⟨13, _⟩ => ⟨S2048, .f32⟩
  | .hbm, ⟨14, _⟩ => ⟨S1x2048, .f32⟩
  | .hbm, ⟨15, _⟩ => ⟨S256x2048, .f32⟩
  | .hbm, ⟨16, _⟩ => ⟨S256x2048, .bf16⟩
  | .hbm, ⟨17, _⟩ => ⟨S2048x2048, .f32⟩
  | .hbm, ⟨18, _⟩ => ⟨S2048x2048, .bf16⟩
  | .hbm, ⟨19, _⟩ => ⟨S256x2048, .f32⟩
  | .hbm, ⟨20, _⟩ => ⟨S2048x2048, .f32⟩
  | .hbm, ⟨21, _⟩ => ⟨S2048x2048, .bf16⟩
  | .hbm, ⟨22, _⟩ => ⟨S256x2048, .f32⟩
  | .hbm, ⟨23, _⟩ => ⟨S32x8x16x128, .f32⟩
  | .hbm, ⟨24, _⟩ => ⟨S1x32x8x16x128, .f32⟩
  | .hbm, ⟨25, _⟩ => ⟨S32x8x16x128, .f32⟩
  | .hbm, ⟨26, _⟩ => ⟨S1x32x8x16x128, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S1024x2048, .bf16⟩
  | .local _ .vmem, ⟨4, _⟩ => ⟨S1024x2048, .bf16⟩
  | .local _ .vmem, ⟨5, _⟩ => ⟨S256x2048, .bf16⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S2048x1024, .bf16⟩
  | .local _ .vmem, ⟨12, _⟩ => ⟨S2048x1024, .bf16⟩
  | .local _ .vmem, ⟨13, _⟩ => ⟨S256x1024, .f32⟩
  | .local _ .vmem, ⟨14, _⟩ => ⟨S256x1024, .f32⟩
  | .local _ .vmem, ⟨15, _⟩ => ⟨S256x2048, .bf16⟩
  | .local _ .vmem, ⟨16, _⟩ => ⟨S2048x1024, .bf16⟩
  | .local _ .vmem, ⟨17, _⟩ => ⟨S2048x1024, .bf16⟩
  | .local _ .vmem, ⟨18, _⟩ => ⟨S256x1024, .f32⟩
  | .local _ .vmem, ⟨19, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S256x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S256x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference9Ideal.lean ====
abbrev S256x1024 : Shape := ⟨2, ![256, 1024]⟩
abbrev S256x256 : Shape := ⟨2, ![256, 256]⟩
abbrev S256x2048 : Shape := ⟨2, ![256, 2048]⟩
abbrev S1x2304x2048 : Shape := ⟨3, ![1, 2304, 2048]⟩
abbrev S1x2048 : Shape := ⟨2, ![1, 2048]⟩
abbrev S1x2048x8720 : Shape := ⟨3, ![1, 2048, 8720]⟩
abbrev S256x2304 : Shape := ⟨2, ![256, 2304]⟩
abbrev S2304x2048 : Shape := ⟨2, ![2304, 2048]⟩
abbrev S2048 : Shape := ⟨1, ![2048]⟩
abbrev S_ : Shape := ⟨0, ![]⟩
abbrev S256 : Shape := ⟨1, ![256]⟩
abbrev S256x1 : Shape := ⟨2, ![256, 1]⟩
abbrev S2048x8720 : Shape := ⟨2, ![2048, 8720]⟩
abbrev S256x8720 : Shape := ⟨2, ![256, 8720]⟩
abbrev S256x16 : Shape := ⟨2, ![256, 16]⟩
abbrev S1x32x8x16x128 : Shape := ⟨5, ![1, 32, 8, 16, 128]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x256, .f32⟩
  | .hbm, ⟨3, _⟩ => ⟨S256x2048, .f32⟩
  | .hbm, ⟨4, _⟩ => ⟨S1x2304x2048, .f32⟩
  | .hbm, ⟨5, _⟩ => ⟨S1x2048, .f32⟩
  | .hbm, ⟨6, _⟩ => ⟨S1x2048x8720, .f32⟩
  | .hbm, ⟨7, _⟩ => ⟨S256x2304, .f32⟩
  | .hbm, ⟨8, _⟩ => ⟨S2304x2048, .f32⟩
  | .hbm, ⟨9, _⟩ => ⟨S256x2048, .f32⟩
  | .hbm, ⟨10, _⟩ => ⟨S256x2048, .f32⟩
  | .hbm, ⟨11, _⟩ => ⟨S2048, .f32⟩
  | .hbm, ⟨12, _⟩ => ⟨S256x2048, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S_, .f32⟩
  | .hbm, ⟨20, _⟩ => ⟨S256x1, .f32⟩
  | .hbm, ⟨21, _⟩ => ⟨S256x1, .f32⟩
  | .hbm, ⟨22, _⟩ => ⟨S256x1, .f32⟩
  | .hbm, ⟨23, _⟩ => ⟨S256x2048, .f32⟩
  | .hbm, ⟨24, _⟩ => ⟨S256x2048, .f32⟩
  | .hbm, ⟨25, _⟩ => ⟨S1x2048, .f32⟩
  | .hbm, ⟨26, _⟩ => ⟨S256x2048, .f32⟩
  | .hbm, ⟨27, _⟩ => ⟨S256x2048, .f32⟩
  | .hbm, ⟨28, _⟩ => ⟨S2048x8720, .f32⟩
  | .hbm, ⟨29, _⟩ => ⟨S256x8720, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S256x16, .f32⟩
  | .hbm, ⟨34, _⟩ => ⟨S256x2048, .f32⟩
  | .hbm, ⟨35, _⟩ => ⟨S256x256, .f32⟩
  | .hbm, ⟨36, _⟩ => ⟨S256x256, .f32⟩
  | .hbm, ⟨37, _⟩ => ⟨S1x32x8x16x128, .f32⟩
  | .hbm, ⟨38, _⟩ => ⟨S1x32x8x16x128, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel10.lean ====
abbrev S256x640 : Shape := ⟨2, ![256, 640]⟩
abbrev S1x16 : Shape := ⟨2, ![1, 16]⟩
abbrev S16 : Shape := ⟨1, ![16]⟩
abbrev S_ : Shape := ⟨0, ![]⟩
abbrev S1x128 : Shape := ⟨2, ![1, 128]⟩
abbrev S1 : Shape := ⟨1, ![1]⟩
abbrev S2 : Shape := ⟨1, ![2]⟩
abbrev S256x16 : Shape := ⟨2, ![256, 16]⟩
abbrev S256x128 : Shape := ⟨2, ![256, 128]⟩
abbrev S128x1 : Shape := ⟨2, ![128, 1]⟩
abbrev S256x256 : Shape := ⟨2, ![256, 256]⟩
abbrev S32x8x16 : Shape := ⟨3, ![32, 8, 16]⟩
abbrev S1x32x8x16 : Shape := ⟨4, ![1, 32, 8, 16]⟩

abbrev nBuf : Space → Nat
  | .hbm => 15
  | .vmem => 5
  | .smem => 0
  | _ => 0

abbrev bufTy : (tb : Table) → Fin (tcTables nBuf tb) → BufTy
  | .hbm, ⟨0, _⟩ => ⟨S256x640, .f32⟩
  | .hbm, ⟨1, _⟩ => ⟨S1x16, .f32⟩
  | .hbm, ⟨2, _⟩ => ⟨S16, .f32⟩
  | .hbm, ⟨3, _⟩ => ⟨S_, .f32⟩
  | .hbm, ⟨4, _⟩ => ⟨S1x128, .f32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S2, .i32⟩
  | .hbm, ⟨10, _⟩ => ⟨S1x128, .f32⟩
  | .hbm, ⟨11, _⟩ => ⟨S256x16, .f32⟩
  | .hbm, ⟨12, _⟩ => ⟨S256x16, .f32⟩
  | .hbm, ⟨13, _⟩ => ⟨S32x8x16, .f32⟩
  | .hbm, ⟨14, _⟩ => ⟨S1x32x8x16, .f32⟩
  | .local _ .vmem, ⟨0, _⟩ => ⟨S256x128, .f32⟩
  | .local _ .vmem, ⟨1, _⟩ => ⟨S1x128, .f32⟩
  | .local _ .vmem, ⟨2, _⟩ => ⟨S256x16, .f32⟩
  | .local _ .vmem, ⟨3, _⟩ => ⟨S256x16, .f32⟩
  | .local _ .vmem, ⟨4, _⟩ => ⟨S128x1, .f32⟩
  | _, _ => ⟨S256x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference10Ideal.lean ====
abbrev S256x640 : Shape := ⟨2, ![256, 640]⟩
abbrev S1x16 : Shape := ⟨2, ![1, 16]⟩
abbrev S256x16 : Shape := ⟨2, ![256, 16]⟩
abbrev S32x8x16 : Shape := ⟨3, ![32, 8, 16]⟩
abbrev S16 : Shape := ⟨1, ![16]⟩
abbrev S1x1x16 : Shape := ⟨3, ![1, 1, 16]⟩
abbrev S_ : Shape := ⟨0, ![]⟩
abbrev S1x32x8x16 : Shape := ⟨4, ![1, 32, 8, 16]⟩

abbrev nBuf : Space → Nat
  | .hbm => 29
  | .vmem => 0
  | .smem => 0
  | _ => 0

abbrev bufTy : (tb : Table) → Fin (tcTables nBuf tb) → BufTy
  | .hbm, ⟨0, _⟩ => ⟨S256x640, .f32⟩
  | .hbm, ⟨1, _⟩ => ⟨S1x16, .f32⟩
  | .hbm, ⟨2, _⟩ => ⟨S256x16, .f32⟩
  | .hbm, ⟨3, _⟩ => ⟨S32x8x16, .f32⟩
  | .hbm, ⟨4, _⟩ => ⟨S16, .f32⟩
  | .hbm, ⟨5, _⟩ => ⟨S1x1x16, .f32⟩
  | .hbm, ⟨6, _⟩ => ⟨S32x8x16, .f32⟩
  | .hbm, ⟨7, _⟩ => ⟨S32x8x16, .f32⟩
  | .hbm, ⟨8, _⟩ => ⟨S32x8x16, .f32⟩
  | .hbm, ⟨9, _⟩ => ⟨S_, .f32⟩
  | .hbm, ⟨10, _⟩ => ⟨S32x8x16, .f32⟩
  | .hbm, ⟨11, _⟩ => ⟨S32x8x16, .f32⟩
  | .hbm, ⟨12, _⟩ => ⟨S32x8x16, .f32⟩
  | .hbm, ⟨13, _⟩ => ⟨S32x8x16, .f32⟩
  | .hbm, ⟨14, _⟩ => ⟨S32x8x16, .i1⟩
  | .hbm, ⟨15, _⟩ => ⟨S32x8x16, .f32⟩
  | .hbm, ⟨16, _⟩ => ⟨S32x8x16, .f32⟩
  | .hbm, ⟨17, _⟩ => ⟨S32x8x16, .f32⟩
  | .hbm, ⟨18, _⟩ => ⟨S32x8x16, .f32⟩
  | .hbm, ⟨19, _⟩ => ⟨S32x8x16, .f32⟩
  | .hbm, ⟨20, _⟩ => ⟨S32x8x16, .f32⟩
  | .hbm, ⟨21, _⟩ => ⟨S32x8x16, .f32⟩
  | .hbm, ⟨22, _⟩ => ⟨S32x8x16, .f32⟩
  | .hbm, ⟨23, _⟩ => ⟨S32x8x16, .f32⟩
  | .hbm, ⟨24, _⟩ => ⟨S1x32x8x16, .f32⟩
  | .hbm, ⟨25, _⟩ => ⟨S_, .f32⟩
  | .hbm, ⟨26, _⟩ => ⟨S_, .f32⟩
  | .hbm, ⟨27, _⟩ => ⟨S32x8x16, .f32⟩
  | .hbm, ⟨28, _⟩ => ⟨S256x16, .f32⟩
  | _, _ => ⟨S256x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v6 : Ref sig .tc := ⟨.hbm, 23, rfl⟩
abbrev main_v7 : Ref sig .tc := ⟨.hbm, 24, rfl⟩
abbrev main_call1_call0_cst : Ref sig .tc := ⟨.hbm, 25, rfl⟩
abbrev main_call1_call0_v0 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Kernel11.lean ====
abbrev S256x2048 : Shape := ⟨2, ![256, 2048]⟩
abbrev S256x256 : Shape := ⟨2, ![256, 256]⟩
abbrev S1x2304x2048 : Shape := ⟨3, ![1, 2304, 2048]⟩
abbrev S2048 : Shape := ⟨1, ![2048]⟩
abbrev S2304x2048 : Shape := ⟨2, ![2304, 2048]⟩
abbrev S2048x2048 : Shape := ⟨2, ![2048, 2048]⟩
abbrev S1x2048 : Shape := ⟨2, ![1, 2048]⟩
abbrev S256 : Shape := ⟨1, ![256]⟩
abbrev S256x1 : Shape := ⟨2, ![256, 1]⟩
abbrev S32x8x2048 : Shape := ⟨3, ![32, 8, 2048]⟩

abbrev nBuf : Space → Nat
  | .hbm => 12
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S256x256, .f32⟩
  | .hbm, ⟨2, _⟩ => ⟨S256x2048, .f32⟩
  | .hbm, ⟨3, _⟩ => ⟨S1x2304x2048, .f32⟩
  | .hbm, ⟨4, _⟩ => ⟨S2048, .f32⟩
  | .hbm, ⟨5, _⟩ => ⟨S2304x2048, .f32⟩
  | .hbm, ⟨6, _⟩ => ⟨S2304x2048, .bf16⟩
  | .hbm, ⟨7, _⟩ => ⟨S2048x2048, .bf16⟩
  | .hbm, ⟨8, _⟩ => ⟨S256x2048, .bf16⟩
  | .hbm, ⟨9, _⟩ => ⟨S1x2048, .f32⟩
  | .hbm, ⟨10, _⟩ => ⟨S256x2048, .f32⟩
  | .hbm, ⟨11, _⟩ => ⟨S32x8x2048, .f32⟩
  | .local _ .vmem, ⟨0, _⟩ => ⟨S256x2048, .f32⟩
  | .local _ .vmem, ⟨1, _⟩ => ⟨S256x256, .f32⟩
  | .local _ .vmem, ⟨2, _⟩ => ⟨S2048x2048, .bf16⟩
  | .local _ .vmem, ⟨3, _⟩ => ⟨S256x2048, .bf16⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference11Ideal.lean ====
abbrev S256x2048 : Shape := ⟨2, ![256, 2048]⟩
abbrev S256x256 : Shape := ⟨2, ![256, 256]⟩
abbrev S1x2304x2048 : Shape := ⟨3, ![1, 2304, 2048]⟩
abbrev S2048 : Shape := ⟨1, ![2048]⟩
abbrev S256x2304 : Shape := ⟨2, ![256, 2304]⟩
abbrev S2304x2048 : Shape := ⟨2, ![2304, 2048]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S32x8x2048 : Shape := ⟨3, ![32, 8, 2048]⟩

abbrev nBuf : Space → Nat
  | .hbm => 26
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x256, .f32⟩
  | .hbm, ⟨2, _⟩ => ⟨S256x2048, .f32⟩
  | .hbm, ⟨3, _⟩ => ⟨S1x2304x2048, .f32⟩
  | .hbm, ⟨4, _⟩ => ⟨S2048, .f32⟩
  | .hbm, ⟨5, _⟩ => ⟨S256x2304, .f32⟩
  | .hbm, ⟨6, _⟩ => ⟨S2304x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x2048, .f32⟩
  | .hbm, ⟨21, _⟩ => ⟨S256x2048, .f32⟩
  | .hbm, ⟨22, _⟩ => ⟨S1x2048, .f32⟩
  | .hbm, ⟨23, _⟩ => ⟨S256x2048, .f32⟩
  | .hbm, ⟨24, _⟩ => ⟨S256x2048, .f32⟩
  | .hbm, ⟨25, _⟩ => ⟨S32x8x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Softmax.lean ====
module

public import Idealize.ShloMosaic.PureOps.Ideal
public import Mathlib.Algebra.BigOperators.Fin

/-! The running softmax over the extended reals: one row of attention, block of keys after block. -/

@[expose] public section

namespace Cert.Attn
open Idealize.ShloMosaic

/-- `x` is a score whose exponential is `w`: either masked out, with weight zero, or a real. -/
def Score (x : EReal) (w : ℝ) : Prop := (x = ⊥ ∧ w = 0) ∨ ∃ r : ℝ, x = ↑r ∧ w = Real.exp r

theorem Score.nonneg {x : EReal} {w : ℝ} (h : Score x w) : 0 ≤ w := by
  rcases h with ⟨_, rfl⟩ | ⟨r, _, rfl⟩
  · exact le_rfl
  · exact (Real.exp_pos r).le

/-- The exponential of a score less a real shift is its weight times the shift's own factor. -/
theorem Score.exp_sub {x : EReal} {w : ℝ} (h : Score x w) (M : ℝ) :
    Ideal.exp (x - (M : EReal)) = ((w * Real.exp (-M) : ℝ) : EReal) := by
  rcases h with ⟨rfl, rfl⟩ | ⟨r, rfl, rfl⟩
  · rw [zero_mul, EReal.bot_sub]; rfl
  · rw [← EReal.coe_sub, Ideal.exp_coe, sub_eq_add_neg, Real.exp_add]

/-- A score shifted by a real has its weight scaled. -/
theorem Score.shift {x : EReal} {w : ℝ} (h : Score x w) (c : ℝ) :
    Score (x + (c : EReal)) (w * Real.exp c) := by
  rcases h with ⟨rfl, rfl⟩ | ⟨r, rfl, rfl⟩
  · exact Or.inl ⟨EReal.bot_add _, zero_mul _⟩
  · exact Or.inr ⟨r + c, by rw [EReal.coe_add], by rw [Real.exp_add]⟩

/-- The greatest of finitely many scores and a start below `⊤` is below `⊤`. -/
theorem fold_max_ne_top {ι : Type*} (s : Finset ι) (x : ι → EReal) (a : EReal) (ha : a ≠ ⊤)
    (h : ∀ j, x j ≠ ⊤) : s.fold max a x ≠ ⊤ := by
  rw [← lt_top_iff_ne_top, Finset.fold_max_lt]
  exact ⟨lt_top_iff_ne_top.2 ha, fun j _ => lt_top_iff_ne_top.2 (h j)⟩

theorem Score.ne_top {x : EReal} {w : ℝ} (h : Score x w) : x ≠ ⊤ := by
  rcases h with ⟨rfl, _⟩ | ⟨r, rfl, _⟩
  · exact bot_ne_top
  · exact EReal.coe_ne_top r

theorem Score.ne_bot {x : EReal} {w : ℝ} (h : Score x w) (hw : 0 < w) : x ≠ ⊥ := by
  rcases h with ⟨_, rfl⟩ | ⟨r, rfl, _⟩
  · exact absurd hw (lt_irrefl 0)
  · exact EReal.coe_ne_bot r

/-- The greatest of finitely many scores, one of them not masked, is a real. -/
theorem fold_max_real {ι : Type*} [Fintype ι] (x : ι → EReal) (w : ι → ℝ)
    (h : ∀ j, Score (x j) (w j)) (j₀ : ι) (h₀ : 0 < w j₀) :
    ∃ B : ℝ, (Finset.univ : Finset ι).fold max ⊥ x = ↑B := by
  have ht : (Finset.univ : Finset ι).fold max ⊥ x ≠ ⊤ :=
    fold_max_ne_top _ x ⊥ bot_ne_top fun j => (h j).ne_top
  have hb : (Finset.univ : Finset ι).fold max ⊥ x ≠ ⊥ := by
    have : x j₀ ≤ (Finset.univ : Finset ι).fold max ⊥ x :=
      Finset.le_fold_max _ |>.2 (Or.inr ⟨j₀, Finset.mem_univ _, le_rfl⟩)
    intro e
    rw [e, le_bot_iff] at this
    exact (h j₀).ne_bot h₀ this
  exact ⟨_, (EReal.coe_toReal ht hb).symm⟩

/-- A sum of reals, read in the extended reals. -/
theorem coe_sum {ι : Type*} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A nonnegative real factor distributes over any sum of extended reals. -/
theorem coe_mul_sum {ι : Type*} (s : Finset ι) (r : ℝ) (hr : 0 ≤ r) (f : ι → EReal) :
    (r : EReal) * ∑ j ∈ s, f j = ∑ j ∈ s, (r : EReal) * f j := by
  classical
  induction s using Finset.induction_on with
  | empty => simp
  | insert a s ha ih =>
    rw [Finset.sum_insert ha, Finset.sum_insert ha, EReal.left_distrib_of_nonneg_of_ne_top
      (EReal.coe_nonneg.2 hr) (EReal.coe_ne_top r), ih]

/-- What a row holds after its first `n` keys: nothing yet, or the weights and the weighted values
of those keys, both scaled by the exponential of minus the running maximum. -/
def After (n : ℕ) (w : ℕ → ℝ) (V : ℕ → EReal) (m l acc : EReal) : Prop :=
  (n = 0 ∧ m = ⊥ ∧ l = 0 ∧ acc = 0) ∨
  ∃ M : ℝ, m = ↑M ∧ l = ((Real.exp (-M) * ∑ s ∈ Finset.range n, w s : ℝ) : EReal) ∧
    acc = ((Real.exp (-M) : ℝ) : EReal) * ∑ s ∈ Finset.range n, (w s : EReal) * V s

/-- One more block of keys carries the row on. -/
theorem After.step {n b : ℕ} {w : ℕ → ℝ} {V : ℕ → EReal} {m l acc : EReal}
    (h : After n w V m l acc) (x : Fin b → EReal) (y : Fin b → EReal)
    (hx : ∀ j, Score (x j) (w (n + j))) (hy : ∀ j, y j = V (n + j))
    (j₀ : Fin b) (h₀ : 0 < w (n + j₀)) {m' l' acc' : EReal}
    (hm : m' = max m (Finset.univ.fold max ⊥ x))
    (hl : l' = l * Ideal.exp (m - m') + ∑ j, Ideal.exp (x j - m'))
    (hacc : acc' = acc * Ideal.exp (m - m') + ∑ j, Ideal.exp (x j - m') * y j) :
    After (n + b) w V m' l' acc' := by
  obtain ⟨B, hB⟩ := fold_max_real x (fun j => w (n + j)) hx j₀ h₀
  have key : ∀ M' : ℝ, m' = ↑M' →
      (∑ j, Ideal.exp (x j - m') = ((Real.exp (-M') * ∑ j : Fin b, w (n + j) : ℝ) : EReal)) ∧
      (∑ j, Ideal.exp (x j - m') * y j =
        ((Real.exp (-M') : ℝ) : EReal) * ∑ j : Fin b, (w (n + j) : EReal) * V (n + j)) := by
    rintro M' rfl
    constructor
    · rw [Finset.mul_sum, coe_sum]
      exact Finset.sum_congr rfl fun j _ => by rw [(hx j).exp_sub, mul_comm]
    · rw [coe_mul_sum _ _ (Real.exp_pos _).le]
      refine Finset.sum_congr rfl fun j _ => ?_
      rw [(hx j).exp_sub, hy, mul_comm (w _), EReal.coe_mul, mul_assoc]
  right
  rcases h with ⟨rfl, rfl, rfl, rfl⟩ | ⟨M, rfl, rfl, rfl⟩
  · have hm' : m' = ↑B := by rw [hm, hB]; exact max_eq_right bot_le
    refine ⟨B, hm', ?_, ?_⟩
    · rw [hl, (key B hm').1, zero_mul, zero_add, zero_add, ← Finset.sum_range (fun j => w (0 + j))]
      simp only [zero_add]
    · rw [hacc, (key B hm').2, zero_mul, zero_add, zero_add,
        ← Finset.sum_range (fun j => (w (0 + j) : EReal) * V (0 + j))]
      simp only [zero_add]
  · have hm' : m' = ↑(max M B) := by rw [hm, hB]; exact (EReal.coe_strictMono.monotone.map_max).symm
    refine ⟨max M B, hm', ?_, ?_⟩
    · rw [hl, (key _ hm').1, hm', ← EReal.coe_sub, Ideal.exp_coe, Finset.sum_range_add,
        ← EReal.coe_mul, ← EReal.coe_add, ← Finset.sum_range (fun j => w (n + j))]
      congr 1
      rw [mul_add, mul_right_comm, ← Real.exp_add]
      congr 3
      ring
    · rw [hacc, (key _ hm').2, hm', ← EReal.coe_sub, Ideal.exp_coe, Finset.sum_range_add,
        ← Finset.sum_range (fun j => (w (n + j) : EReal) * V (n + j)), mul_right_comm,
        ← EReal.coe_mul, ← Real.exp_add, EReal.left_distrib_of_nonneg_of_ne_top
          (EReal.coe_nonneg.2 (Real.exp_pos _).le) (EReal.coe_ne_top _)]
      congr 4
      ring

/-- A row of attention: the weighted values of the first `n` keys over the sum of the weights. -/
noncomputable def attend (n : ℕ) (w : ℕ → ℝ) (V : ℕ → EReal) : EReal :=
  ((1 / ∑ s ∈ Finset.range n, w s : ℝ) : EReal) * ∑ s ∈ Finset.range n, (w s : EReal) * V s

/-- The running softmax ends in the row of attention. -/
theorem After.div {n : ℕ} {w : ℕ → ℝ} {V : ℕ → EReal} {m l acc : EReal} (h : After n w V m l acc)
    (hn : n ≠ 0) (hw : 0 < ∑ s ∈ Finset.range n, w s) : Ideal.div acc l = attend n w V := by
  rcases h with ⟨rfl, _⟩ | ⟨M, rfl, rfl, rfl⟩
  · exact absurd rfl hn
  · have hE := Real.exp_pos (-M)
    rw [Ideal.div_coe (mul_pos hE hw).ne', attend, mul_right_comm, ← EReal.coe_mul]
    congr 2
    field_simp

/-- The whole softmax at once, its rows over the sum of the row, is the same row of attention:
any real shift cancels. -/
theorem softmax_attend {N : ℕ} (w : ℕ → ℝ) (V : ℕ → EReal) (c M : ℝ) (x y : Fin N → EReal)
    (hx : ∀ j, Score (x j) (w j * Real.exp c)) (hw0 : ∀ j : Fin N, 0 ≤ w j)
    (hy : ∀ j, y j = V j) (hw : 0 < ∑ s ∈ Finset.range N, w s) :
    ∑ j, y j * Ideal.div (Ideal.exp (x j - ↑M)) (∑ k, Ideal.exp (x k - ↑M)) = attend N w V := by
  have hE := mul_pos (Real.exp_pos c) (Real.exp_pos (-M))
  have hs : ∑ k, Ideal.exp (x k - ↑M) =
      (((Real.exp c * Real.exp (-M)) * ∑ s ∈ Finset.range N, w s : ℝ) : EReal) := by
    rw [Finset.sum_range, Finset.mul_sum, coe_sum]
    exact Finset.sum_congr rfl fun j _ => by rw [(hx j).exp_sub]; congr 1; ring
  rw [attend, coe_mul_sum _ _ (one_div_pos.2 hw).le, Finset.sum_range]
  refine Finset.sum_congr rfl fun j _ => ?_
  rw [hs, Ideal.div_coe (mul_pos hE hw).ne', (hx j).exp_sub, ← EReal.coe_mul, hy, mul_comm (V _),
    ← mul_assoc, ← EReal.coe_mul]
  congr 2
  field_simp

/-- Keys of weight zero beyond the first `n` add nothing. -/
theorem attend_extend {n N : ℕ} (h : n ≤ N) (w : ℕ → ℝ) (V : ℕ → EReal)
    (hz : ∀ s, n ≤ s → w s = 0) : attend N w V = attend n w V := by
  have h1 : ∑ s ∈ Finset.range N, w s = ∑ s ∈ Finset.range n, w s :=
    (Finset.sum_subset (Finset.range_mono h) fun s _ hs => hz s (by simpa using hs)).symm
  have h2 : ∑ s ∈ Finset.range N, (w s : EReal) * V s = ∑ s ∈ Finset.range n, (w s : EReal) * V s :=
    (Finset.sum_subset (Finset.range_mono h) fun s _ hs => by
      rw [hz s (by simpa using hs), EReal.coe_zero, zero_mul]).symm
  rw [attend, attend, h1, h2]

end Cert.Attn
-- ==== Proof.Payloads.lean ====
module

public import proofs.«01_k».proof.Proof.Softmax
public import proofs.«01_k».proof.Proof.Gen.KernelIdeal.Value
public import Idealize.ShloMosaic.Lib.MatmulPlain
public import Idealize.ShloMosaic.Lib.IdealHost
public import Idealize.ShloMosaic.Lib.Pointwise.Tactic
public import Idealize.ShloMosaic.Lib.Pointwise.Reduce
public import Idealize.ShloMosaic.Lib.Pointwise.Contract
public import Idealize.ShloMosaic.Lib.ValueLayoutCasts
public import Idealize.ShloMosaic.Lib.WordCmp
public import Idealize.ShloMosaic.Lib.Tactic

@[expose] public section

set_option maxRecDepth 16384

noncomputable section

open Idealize.ShloMosaic Idealize.ShloMosaic.TcCoe Idealize.SL.Sem

namespace Cert.KernelIdeal.Attn
open Cert.KernelIdeal.Gen Cert.Attn

/-- The first product of a tile, queries by keys, contracts both last axes. -/
theorem qk_dims : dot_S512x128_S512x128_S512x512_1_1_0_0_n_n = DotDims.transposedRhs 512 128 512 := rfl
/-- The second product of a tile, weights by values, is the plain one. -/
theorem pv_dims : dot_S512x512_S512x128_S512x128_1_0_0_1_n_n = DotDims.plain 512 512 128 := rfl

/-- A row of gates with two leading unit axes dropped. -/
theorem row_cast (ct : FVec Ideal S1x1x1x512 .f32) (j : Fin 512) :
    shapeCast S1x512 (shapeCast S1x1x512 ct shapeCasts_S1x1x1x512_S1x1x512) shapeCasts_S1x1x512_S1x512 (ix2 0 j)
      = ct (ix4 0 0 0 j) :=
  (shapeCast_apply _ _ _ (ix3 0 0 j) (by
    rw [Shape.rowMajor_val_two, Shape.rowMajor_val_three]
    rfl)).trans
  (shapeCast_apply _ _ _ _ (by
    rw [Shape.rowMajor_val_three, Shape.rowMajor_val_four]
    rfl))

/-- A block of scores, read at a row and a key. -/
theorem pay2_apply (q : FVec Ideal S512x128 .bf16) (cr : FVec Ideal S1x1 .f32) (ct : FVec Ideal S1x1x1x512 .f32)
    (K : FVec Ideal S512x128 .bf16) (r j : Fin 512) :
    k0_pay2 q cr ct K (ix2 r j)
      = (∑ d : Fin 128, q (ix2 r d) * K (ix2 j d)) + (cr (ix2 0 0) - ct (ix4 0 0 0 j)) := by
  unfold k0_pay2
  rw [qk_dims]
  pointwise [Ideal.matmul_transposedRhs_apply, row_cast]

/-- The pattern of minus infinity is minus infinity. -/
theorem negInf_f32 : FloatOps.ofBits (F := Ideal) .f32 0xFF800000#32 = (⊥ : EReal) := by
  rw [Ideal.ofBits_def]
  unfold Ideal.ofBits Ideal.ieee
  simp

/-- The row maximum, as a column. -/
def rowMax (x : FVec Ideal S512x512 .f32) : FVec Ideal S512x1 .f32 :=
  shapeCast S512x1 (multiReduction .maximumf [1] S512 x 0xFF800000#32 reduces_S512x512_S512 (.inl rfl) rfl) shapeCasts_S512_S512x1

/-- The row sum, as a column. -/
def rowSum (x : FVec Ideal S512x512 .f32) : FVec Ideal S512x1 .f32 :=
  shapeCast S512x1 (multiReduction .add [1] S512 x 0x00000000#32 reduces_S512x512_S512 (.inl rfl) rfl) shapeCasts_S512_S512x1

theorem rowMax_apply (x : FVec Ideal S512x512 .f32) (r : Fin 512) :
    rowMax x (ix2 r 0) = (Finset.univ : Finset (Fin 512)).fold max (⊥ : EReal) (fun j => x (ix2 r j)) := by
  unfold rowMax
  refine (ValueIdx.shapeCast_a_a1_apply _ _ _ _).trans ?_
  refine (Ideal.multiReduction_maximumf_single _ _ _ _ _ _).trans ?_
  refine congrArg₂ (fun b f => (Finset.univ : Finset (Fin 512)).fold max b f) ?_ ?_
  · exact negInf_f32
  · funext j
    exact congrArg x (funext fun a => Fin.ext (match a with | 0 => rfl | 1 => rfl))

theorem rowSum_apply (x : FVec Ideal S512x512 .f32) (r : Fin 512) :
    rowSum x (ix2 r 0) = ∑ j : Fin 512, (x (ix2 r j) : EReal) := by
  unfold rowSum
  refine (ValueIdx.shapeCast_a_a1_apply _ _ _ _).trans ?_
  refine (Ideal.multiReduction_add_single _ _ _ _ _ _).trans ?_
  exact Finset.sum_congr rfl fun j _ =>
    congrArg x (funext fun a => Fin.ext (match a with | 0 => rfl | 1 => rfl))

theorem pay4_eq (q : FVec Ideal S512x128 .bf16) (cr : FVec Ideal S1x1 .f32) (m : FVec Ideal S512x1 .f32)
    (ct : FVec Ideal S1x1x1x512 .f32) (K : FVec Ideal S512x128 .bf16) :
    k0_pay4 q cr m ct K = maximumf m (rowMax (k0_pay2 q cr ct K)) := rfl

theorem pay32_eq (p : FVec Ideal S512x512 .f32) (l : FVec Ideal S512x1 .f32) :
    k0_pay32 p l = addf l (rowSum p) := rfl

theorem pay44_eq (m l : FVec Ideal S512x1 .f32) (a : FVec Ideal S512x128 .f32) (L : FVec Ideal S512x512 .f32)
    (V : FVec Ideal S512x128 .bf16) :
    k0_pay44 m l a L V
      = divf (k0_pay34 a (exp (subf m (maximumf m (rowMax L))))
            (exp (subf L (broadcastTo S512x512 (maximumf m (rowMax L)) broadcasts_S512x1_S512x512))) V)
          (broadcastTo S512x128
            (k0_pay32 (exp (subf L (broadcastTo S512x512 (maximumf m (rowMax L)) broadcasts_S512x1_S512x512)))
              (mulf l (exp (subf m (maximumf m (rowMax L)))))) broadcasts_S512x1_S512x128) := rfl

/-- The mask's constant is minus infinity. -/
theorem mask_named : Named.named (F := Ideal) κ "mask" (φ := .f32) 0xF149F2CA#32 = (⊥ : EReal) :=
  IdealRules.named_const.ideal_named_scalar κ "mask" _ ⊥ rfl

/-- The scale is one over the root of the head size. -/
theorem scale_named : Named.named (F := Ideal) κ "scale" (φ := .f32) 0x3DB504F3#32 = (((Real.sqrt 128)⁻¹ : ℝ) : EReal) :=
  IdealRules.named_const.ideal_named_scalar κ "scale" _ _ rfl

theorem pay26_apply (r : Fin 512) : k0_pay26 (F := Ideal) (ix2 r 0) = (⊥ : EReal) := by
  unfold k0_pay26
  pointwise
  exact mask_named

/-- A diagonal block of scores: the keys after the row are masked. -/
theorem pay40_apply (q : FVec Ideal S512x128 .bf16) (cr : FVec Ideal S1x1 .f32) (ct : FVec Ideal S1x1x1x512 .f32)
    (K : FVec Ideal S512x128 .bf16) (r j : Fin 512) :
    k0_pay40 q cr ct K (ix2 r j) = if j ≤ r then k0_pay2 q cr ct K (ix2 r j) else (⊥ : EReal) := by
  rw [pay2_apply]
  unfold k0_pay40
  rw [qk_dims]
  pointwise [Ideal.matmul_transposedRhs_apply, row_cast]
  have hc := WordCmp.cmpi_sle_ofNat_eq_one_iff (w := 32) (a := j.val) (b := r.val)
    (show j.val < 2 ^ 31 by omega) (show r.val < 2 ^ 31 by omega)
  rw [mask_named]
  by_cases h : j ≤ r
  · exact (if_pos (hc.2 h)).trans (if_pos h).symm
  · exact (if_neg fun e => h (hc.1 e)).trans (if_neg h).symm

theorem pay24_apply (ct : FVec Ideal S1x1x1x512 .f32) : k0_pay24 ct (ix2 0 0) = ct (ix4 0 0 0 0) := by
  unfold k0_pay24
  pointwise [row_cast]

theorem pay22_apply (q : FVec Ideal S512x128 .f32) (r : Fin 512) (d : Fin 128) :
   (k0_pay22 (F := Ideal) q (ix2 r d) : EReal) = q (ix2 r d) * (((Real.sqrt 128)⁻¹ : ℝ) : EReal) := by
  unfold k0_pay22
  pointwise
  rw [scale_named]

theorem pay20_eq (x : FVec Ideal S4096x256 .f32) : (k0_pay20 (F := Ideal) x : S4096x256.Idx → EReal) = x := by
  unfold k0_pay20
  exact shapeCast_self x _

theorem pay44_pay1_eq (m l : FVec Ideal S512x1 .f32) (a : FVec Ideal S512x128 .f32) (q : FVec Ideal S512x128 .bf16) (cr : FVec Ideal S1x1 .f32) (ct : FVec Ideal S1x1x1x512 .f32)
    (K V : FVec Ideal S512x128 .bf16) (g : FVec Ideal S512x128 .f32) :
   k0_pay43 m l a (k0_pay40 q cr ct K) (k0_pay42 q cr ct K) V g = k0_pay1 (k0_pay44 m l a (k0_pay40 q cr ct K) V) g := rfl

/-- One block of keys carries a row on: the kernel's new maximum, sum and accumulator. -/
theorem block_step {n : ℕ} {w : ℕ → ℝ} {U : ℕ → EReal} (r : Fin 512) (d : Fin 128)
    (m l : FVec Ideal S512x1 .f32) (a : FVec Ideal S512x128 .f32) (q : FVec Ideal S512x128 .bf16)
    (cr : FVec Ideal S1x1 .f32) (ct : FVec Ideal S1x1x1x512 .f32) (K V : FVec Ideal S512x128 .bf16)
    (h : After n w U (m (ix2 r 0)) (l (ix2 r 0)) (a (ix2 r d)))
    (hx : ∀ j : Fin 512, Score (k0_pay2 q cr ct K (ix2 r j)) (w (n + j)))
    (hy : ∀ j : Fin 512, V (ix2 j d) = U (n + j)) (j₀ : Fin 512) (h₀ : 0 < w (n + j₀)) :
    After (n + 512) w U (k0_pay4 q cr m ct K (ix2 r 0))
      (k0_pay32 (k0_pay8 q cr m ct K) (k0_pay10 q cr m l ct K) (ix2 r 0))
      (k0_pay34 a (k0_pay6 q cr m ct K) (k0_pay8 q cr m ct K) V (ix2 r d)) := by
  have e4 : (k0_pay4 q cr m ct K (ix2 r 0) : EReal)
      = max (m (ix2 r 0)) ((Finset.univ : Finset (Fin 512)).fold max ⊥ fun j => k0_pay2 q cr ct K (ix2 r j)) := by
    rw [pay4_eq]
    pointwise [rowMax_apply]
  have e6 : (k0_pay6 q cr m ct K (ix2 r 0) : EReal) = Ideal.exp (m (ix2 r 0) - k0_pay4 q cr m ct K (ix2 r 0)) := by
    unfold k0_pay6
    pointwise
  have e8 : ∀ j, (k0_pay8 q cr m ct K (ix2 r j) : EReal)
      = Ideal.exp (k0_pay2 q cr ct K (ix2 r j) - k0_pay4 q cr m ct K (ix2 r 0)) := fun j => by
    unfold k0_pay8
    pointwise
  refine h.step (fun j => k0_pay2 q cr ct K (ix2 r j)) (fun j => V (ix2 j d)) hx hy j₀ h₀ e4 ?_ ?_
  · rw [pay32_eq]
    unfold k0_pay10
    pointwise [rowSum_apply, e6, e8]
  · unfold k0_pay34
    rw [pv_dims]
    pointwise [Ideal.matmul_plain_apply, e6, e8]

/-- The diagonal block ends a row: the accumulator over the sum is the row of attention. -/
theorem last_step {n : ℕ} {w : ℕ → ℝ} {U : ℕ → EReal} (r : Fin 512) (d : Fin 128)
    (m l : FVec Ideal S512x1 .f32) (a : FVec Ideal S512x128 .f32) (L : FVec Ideal S512x512 .f32)
    (V : FVec Ideal S512x128 .bf16)
    (h : After n w U (m (ix2 r 0)) (l (ix2 r 0)) (a (ix2 r d)))
    (hx : ∀ j : Fin 512, Score (L (ix2 r j)) (w (n + j)))
    (hy : ∀ j : Fin 512, V (ix2 j d) = U (n + j)) (j₀ : Fin 512) (h₀ : 0 < w (n + j₀))
    (hw : 0 < ∑ s ∈ Finset.range (n + 512), w s) :
    k0_pay44 m l a L V (ix2 r d) = attend (n + 512) w U := by
  rw [← (h.step (fun j => L (ix2 r j)) (fun j => V (ix2 j d)) hx hy j₀ h₀ rfl rfl rfl).div (by omega) hw]
  rw [pay44_eq, pay32_eq]
  unfold k0_pay34
  rw [pv_dims]
  pointwise [Ideal.matmul_plain_apply, rowMax_apply, rowSum_apply]

/-- The gate of the output: the gate times its logistic. -/
theorem pay1_apply (a g : FVec Ideal S512x128 .f32) (j : S512x128.Idx) :
    (k0_pay1 (F := Ideal) a g j : EReal) = a j * (g j * Ideal.logistic (g j)) := by
  unfold k0_pay1
  pointwise

end Cert.KernelIdeal.Attn
-- ==== Proof.Trip.lean ====
module

public import proofs.«01_k».proof.Proof.Payloads
public import proofs.«01_k».proof.Proof.Gen.KernelIdeal.Value

@[expose] public section

set_option maxRecDepth 16384

noncomputable section

open Idealize.ShloMosaic Idealize.ShloMosaic.TcCoe Idealize.SL.Sem

namespace Cert.KernelIdeal.Attn
open Cert.KernelIdeal.Gen Cert.Attn

/-- The loop over the earlier blocks makes as many trips as the tile's number. -/
theorem trips_eq (i : grid0.Coords) : (k0_t1_loop i).trips = (i 2).val := by
  have h : ∀ n : Fin 8, Scf.trips (w := 32) 0#32 (Scalar.addi 0#32 (Scalar.muli (Scalar.divsi (Scalar.subi (BitVec.ofNat 32 n.val) 0#32) 1#32) 1#32)) 1#32 = n.val := by decide
  exact h (i 2)

theorem trips2_eq (i : grid0.Coords) : (k0_t2_loop i).trips = 0 := by
  have h : ∀ n : Fin 8, Scf.trips (w := 32) (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by decide
  exact h (i 2)

theorem off3_eq (i : grid0.Coords) (k : Fin (k0_t1_loop i).trips) : k0_off3 i k = ![512 * k.val, 0] := by
  have hk : k.val < 8 := lt_of_lt_of_eq k.isLt (trips_eq i) |>.trans (i 2).isLt
  have h : ∀ n : Fin 8, (Scalar.indexCast (Scalar.muli (Scf.iv 0#32 1#32 n) 512#32)).toNat = 512 * n.val := by decide
  funext a
  match a with
  | 0 => exact h ⟨k.val, hk⟩
  | 1 => rfl

theorem off4_eq (i : grid0.Coords) (k : Fin (k0_t1_loop i).trips) : k0_off4 i k = ![512 * k.val, 128] := by
  have hk : k.val < 8 := lt_of_lt_of_eq k.isLt (trips_eq i) |>.trans (i 2).isLt
  have h : ∀ n : Fin 8, (Scalar.indexCast (Scalar.muli (Scf.iv 0#32 1#32 n) 512#32)).toNat = 512 * n.val := by decide
  funext a
  match a with
  | 0 => exact h ⟨k.val, hk⟩
  | 1 => rfl

theorem off8_eq (i : grid0.Coords) : k0_off8 i = ![512 * (i 2).val, 0] := by
  have h : ∀ n : Fin 8, (Scalar.indexCast (Scalar.muli (BitVec.ofNat 32 n.val) 512#32)).toNat = 512 * n.val := by decide
  funext a
  match a with
  | 0 => exact h (i 2)
  | 1 => rfl

theorem off9_eq (i : grid0.Coords) : k0_off9 i = ![512 * (i 2).val, 128] := by
  have h : ∀ n : Fin 8, (Scalar.indexCast (Scalar.muli (BitVec.ofNat 32 n.val) 512#32)).toNat = 512 * n.val := by decide
  funext a
  match a with
  | 0 => exact h (i 2)
  | 1 => rfl

theorem off1_eq (i : grid0.Coords) (u : Fin 2) : k0_off1 i (BitVec.ofNat 32 u.val) = ![0, 2 * (i 1).val + u.val, (i 2).val, 0] := by
  have h : ∀ (n : Fin 8) (u : Fin 2), (Scalar.indexCast (Scalar.addi (Scalar.muli (BitVec.ofNat 32 n.val) 2#32) (BitVec.ofNat 32 u.val))).toNat = 2 * n.val + u.val := by decide
  have h' : ∀ (n : Fin 8), (Scalar.indexCast (BitVec.ofNat 32 n.val)).toNat = n.val := by decide
  funext a
  match a with
  | 0 => rfl
  | 1 => exact h (i 1) u
  | 2 => exact h' (i 2)
  | 3 => rfl

theorem off2_eq (i : grid0.Coords) (k : Fin (k0_t1_loop i).trips) (u : Fin 2) :
    k0_off2 i k (BitVec.ofNat 32 u.val) = ![0, 2 * (i 1).val + u.val, k.val, 0] := by
  have hk : k.val < 8 := lt_of_lt_of_eq k.isLt (trips_eq i) |>.trans (i 2).isLt
  have h : ∀ (n : Fin 8) (u : Fin 2), (Scalar.indexCast (Scalar.addi (Scalar.muli (BitVec.ofNat 32 n.val) 2#32) (BitVec.ofNat 32 u.val))).toNat = 2 * n.val + u.val := by decide
  have h' : ∀ (n : Fin 8), (Scalar.indexCast (Scf.iv 0#32 1#32 n)).toNat = n.val := by decide
  funext a
  match a with
  | 0 => rfl
  | 1 => exact h (i 1) u
  | 2 => exact h' ⟨k.val, hk⟩
  | 3 => rfl

/-- Rows `512 n …` and lanes `128 u …` of a staged `[4096, 256]` array. -/
def keyBlk (xs : FVec Ideal S4096x256 .bf16) (n : Fin 8) (u : Fin 2) : FVec Ideal S512x128 .bf16 := fun y =>
  xs (ix2 ⟨512 * n.val + (y 0).val, by have h : (y 0).val < 512 := (y 0).isLt; omega⟩
    ⟨128 * u.val + (y 1).val, by have h : (y 1).val < 128 := (y 1).isLt; omega⟩)

/-- Row `(h, n)` of the staged gates. -/
def ctRow (x : FVec Ideal S1x16x8x512 .f32) (h : Fin 16) (n : Fin 8) : FVec Ideal S1x1x1x512 .f32 := fun y =>
  x (ix4 0 h n (y 3))

theorem ld_key (xs : FVec Ideal S4096x256 .bf16) (off : Fin 2 → ℕ) (inb) (n : Fin 8) (u : Fin 2)
    (h : off = ![512 * n.val, 128 * u.val]) :
    View.ld (Val := Elt Ideal) (e' := .bf16) xs (Rect.unit (s := S4096x256) off ![512, 128] inb) = keyBlk xs n u := by
  subst h
  funext y
  exact congrArg xs (funext fun a => Fin.ext (match a with
    | 0 => congrArg (512 * n.val + ·) (Nat.one_mul _)
    | 1 => congrArg (128 * u.val + ·) (Nat.one_mul _)))

theorem ld_ct (x : FVec Ideal S1x16x8x512 .f32) (off : Fin 4 → ℕ) (inb) (g : Fin 16) (n : Fin 8)
    (h : off = ![0, g.val, n.val, 0]) :
    View.ld (Val := Elt Ideal) (e' := .f32) x (Rect.unit (s := S1x16x8x512) off ![1, 1, 1, 512] inb) = ctRow x g n := by
  subst h
  funext y
  exact congrArg x (funext fun a => Fin.ext (match a with
    | 0 => by have h : (y 0).val < 1 := (y 0).isLt; show 0 + 1 * (y 0).val = 0; omega
    | 1 => by have h : (y 1).val < 1 := (y 1).isLt; show g.val + 1 * (y 1).val = g.val; omega
    | 2 => by have h : (y 2).val < 1 := (y 2).isLt; show n.val + 1 * (y 2).val = n.val; omega
    | 3 => (Nat.zero_add _).trans (Nat.one_mul _)))

/-- The lane pair of a grid point's head `u`. -/
def hd (i : grid0.Coords) (u : Fin 2) : Fin 16 := ⟨2 * (i 1).val + u.val, by have h : (i 1).val < 8 := (i 1).isLt; omega⟩

/-- The trip's number, a block of keys. -/
def blk (i : grid0.Coords) (k : Fin (k0_t1_loop i).trips) : Fin 8 :=
  ⟨k.val, lt_of_lt_of_eq k.isLt (trips_eq i) |>.trans (i 2).isLt⟩

/-- One head's running maximum, sum and accumulator after one more block. -/
def headStep (q : FVec Ideal S512x128 .bf16) (cr : FVec Ideal S1x1 .f32) (ct : FVec Ideal S1x1x1x512 .f32)
    (K V : FVec Ideal S512x128 .bf16) (s : FVec Ideal S512x1 .f32 × FVec Ideal S512x1 .f32 × FVec Ideal S512x128 .f32) :
    FVec Ideal S512x1 .f32 × FVec Ideal S512x1 .f32 × FVec Ideal S512x128 .f32 :=
  (k0_pay4 q cr s.1 ct K, k0_pay32 (k0_pay8 q cr s.1 ct K) (k0_pay10 q cr s.1 s.2.1 ct K),
    k0_pay34 s.2.2 (k0_pay6 q cr s.1 ct K) (k0_pay8 q cr s.1 ct K) V)

/-- One trip is one more block for each of the two heads. -/
theorem trip_eq (c : Dev nD) (i : grid0.Coords) (arg3 : Memref sig .tc .vmem S512x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S1x16x8x512 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (arg2 v0 : BitVec 32) (v7 v11 : FVec Ideal S512x128 .bf16) (v18 v25 : FVec Ideal S1x1 .f32) (v26 v27 : FVec Ideal S512x1 .f32) (v28 : FVec Ideal S512x128 .f32) (v29 v30 : FVec Ideal S512x1 .f32) (v31 : FVec Ideal S512x128 .f32) (c0_i32_15 v32 : BitVec 32) (X7 : BufTy.Contents (Elt Ideal) arg7.view.ty) (X9 : BufTy.Contents (Elt Ideal) arg9.view.ty) (X10 : BufTy.Contents (Elt Ideal) arg10.view.ty) (k : Fin (k0_t1_loop i).trips) (acc : FVec Ideal S512x1 .f32 × FVec Ideal S512x1 .f32 × FVec Ideal S512x128 .f32 × FVec Ideal S512x1 .f32 × FVec Ideal S512x1 .f32 × FVec Ideal S512x128 .f32) :
    tripR_k0_t1 (F := Ideal) Variants.none c none i arg3 harg3 arg4 harg4 arg5 harg5 arg6 harg6 arg7 harg7 arg8 harg8 arg9 harg9 arg10 harg10 arg2 v0 v7 v11 v18 v25 v26 v27 v28 v29 v30 v31 c0_i32_15 v32 X7 X9 X10 k acc
      = ((headStep v7 v18 (ctRow (arg7.view.read (Elt Ideal) X7) (hd i 0) (blk i k)) (keyBlk (arg9.view.read (Elt Ideal) X9) (blk i k) 0)
            (keyBlk (arg10.view.read (Elt Ideal) X10) (blk i k) 0) (acc.1, acc.2.1, acc.2.2.1)).1,
         (headStep v7 v18 (ctRow (arg7.view.read (Elt Ideal) X7) (hd i 0) (blk i k)) (keyBlk (arg9.view.read (Elt Ideal) X9) (blk i k) 0)
            (keyBlk (arg10.view.read (Elt Ideal) X10) (blk i k) 0) (acc.1, acc.2.1, acc.2.2.1)).2.1,
         (headStep v7 v18 (ctRow (arg7.view.read (Elt Ideal) X7) (hd i 0) (blk i k)) (keyBlk (arg9.view.read (Elt Ideal) X9) (blk i k) 0)
            (keyBlk (arg10.view.read (Elt Ideal) X10) (blk i k) 0) (acc.1, acc.2.1, acc.2.2.1)).2.2,
         headStep v11 v25 (ctRow (arg7.view.read (Elt Ideal) X7) (hd i 1) (blk i k)) (keyBlk (arg9.view.read (Elt Ideal) X9) (blk i k) 1)
            (keyBlk (arg10.view.read (Elt Ideal) X10) (blk i k) 1) acc.2.2.2) := by
  have e3 := off3_eq i k
  have e4 := off4_eq i k
  have e20 := off2_eq i k 0
  have e21 := off2_eq i k 1
  have h8 : k.val < 8 := (blk i k).isLt
  have g8 : (i 1).val < 8 := (i 1).isLt
  have b3 : ∀ a, k0_off3 i k a + (![512, 128] : Fin 2 → ℕ) a ≤ S4096x256.size a := by
    rw [e3]; intro a
    match a with
    | 0 => show 512 * k.val + 512 ≤ 4096; omega
    | 1 => show 0 + 128 ≤ 256; omega
  have b4 : ∀ a, k0_off4 i k a + (![512, 128] : Fin 2 → ℕ) a ≤ S4096x256.size a := by
    rw [e4]; intro a
    match a with
    | 0 => show 512 * k.val + 512 ≤ 4096; omega
    | 1 => show 128 + 128 ≤ 256; omega
  have b2 : ∀ (u : Fin 2) a, k0_off2 i k (BitVec.ofNat 32 u.val) a + (![1, 1, 1, 512] : Fin 4 → ℕ) a ≤ S1x16x8x512.size a := by
    intro u
    rw [off2_eq]; intro a
    match a with
    | 0 => show 0 + 1 ≤ 1; omega
    | 1 => show 2 * (i 1).val + u.val + 1 ≤ 16; omega
    | 2 => show k.val + 1 ≤ 8; omega
    | 3 => show 0 + 512 ≤ 512; omega
  rw [← ld_key (arg9.view.read (Elt Ideal) X9) (k0_off3 i k) b3 (blk i k) 0 e3,
    ← ld_key (arg9.view.read (Elt Ideal) X9) (k0_off4 i k) b4 (blk i k) 1 e4,
    ← ld_key (arg10.view.read (Elt Ideal) X10) (k0_off3 i k) b3 (blk i k) 0 e3,
    ← ld_key (arg10.view.read (Elt Ideal) X10) (k0_off4 i k) b4 (blk i k) 1 e4,
    ← ld_ct (arg7.view.read (Elt Ideal) X7) _ (b2 0) (hd i 0) (blk i k) e20,
    ← ld_ct (arg7.view.read (Elt Ideal) X7) _ (b2 1) (hd i 1) (blk i k) e21]
  unfold tripR_k0_t1 trip_k0_t1
  rfl

end Cert.KernelIdeal.Attn
-- ==== Proof.Tile.lean ====
module

public import proofs.«01_k».proof.Proof.Trip
public import proofs.«01_k».proof.Proof.Gen.KernelIdeal.Value

@[expose] public section

set_option maxRecDepth 16384

noncomputable section

open Idealize.ShloMosaic Idealize.ShloMosaic.TcCoe Idealize.SL.Sem

namespace Cert.KernelIdeal.Attn
open Cert.KernelIdeal.Gen Cert.Attn

theorem inb1 (i : grid0.Coords) (u : Fin 2) (a) :
    k0_off1 i (BitVec.ofNat 32 u.val) a + (![1, 1, 1, 512] : Fin 4 → ℕ) a ≤ S1x16x8x512.size a := by
  have g8 : (i 1).val < 8 := (i 1).isLt
  have h8 : (i 2).val < 8 := (i 2).isLt
  rw [off1_eq]
  match a with
  | 0 => show 0 + 1 ≤ 1; omega
  | 1 => show 2 * (i 1).val + u.val + 1 ≤ 16; omega
  | 2 => show (i 2).val + 1 ≤ 8; omega
  | 3 => show 0 + 512 ≤ 512; omega

theorem inb8 (i : grid0.Coords) (a) : k0_off8 i a + (![512, 128] : Fin 2 → ℕ) a ≤ S4096x256.size a := by
  have h8 : (i 2).val < 8 := (i 2).isLt
  rw [off8_eq]
  match a with
  | 0 => show 512 * (i 2).val + 512 ≤ 4096; omega
  | 1 => show 0 + 128 ≤ 256; omega

theorem inb9 (i : grid0.Coords) (a) : k0_off9 i a + (![512, 128] : Fin 2 → ℕ) a ≤ S4096x256.size a := by
  have h8 : (i 2).val < 8 := (i 2).isLt
  rw [off9_eq]
  match a with
  | 0 => show 512 * (i 2).val + 512 ≤ 4096; omega
  | 1 => show 128 + 128 ≤ 256; omega

/-- Lanes `128 u …` of a query or gate block. -/
def lanes (x : Vec Ideal S512x256 .f32) (u : Fin 2) : FVec Ideal S512x128 .f32 := fun y =>
  x (ix2 (y 0) ⟨128 * u.val + (y 1).val, by have h : (y 1).val < 128 := (y 1).isLt; omega⟩)

theorem ld_lanes (x : Vec Ideal S512x256 .f32) (off : Fin 2 → ℕ) (inb) (u : Fin 2) (h : off = ![0, 128 * u.val]) :
    View.ld (Val := Elt Ideal) (e' := .f32) x (Rect.unit (s := S512x256) off ![512, 128] inb) = lanes x u := by
  subst h
  funext y
  exact congrArg x (funext fun a => Fin.ext (match a with
    | 0 => (Nat.zero_add _).trans (Nat.one_mul _)
    | 1 => congrArg (128 * u.val + ·) (Nat.one_mul _)))

/-- One head's running maximum, sum and accumulator after its first `n` blocks of keys. -/
def headRun (q : FVec Ideal S512x128 .bf16) (cr : FVec Ideal S1x1 .f32) (x4 : Vec Ideal S1x16x8x512 .f32)
    (xk xv : Vec Ideal S4096x256 .bf16) (g : Fin 16) (u : Fin 2) :
    ℕ → FVec Ideal S512x1 .f32 × FVec Ideal S512x1 .f32 × FVec Ideal S512x128 .f32
  | 0 => (k0_pay26, k0_pay27, k0_pay28)
  | n + 1 => if h : n < 8 then headStep q cr (ctRow x4 g ⟨n, h⟩) (keyBlk xk ⟨n, h⟩ u) (keyBlk xv ⟨n, h⟩ u)
      (headRun q cr x4 xk xv g u n) else headRun q cr x4 xk xv g u n

/-- The loop's state before trip `n` is both heads' runs. -/
theorem st_eq (c : Dev nD) (i : grid0.Coords) (arg3 : Memref sig .tc .vmem S512x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S1x16x8x512 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (arg2 v0 : BitVec 32) (v7 v11 : FVec Ideal S512x128 .bf16) (v18 v25 : FVec Ideal S1x1 .f32) (v26 v27 : FVec Ideal S512x1 .f32) (v28 : FVec Ideal S512x128 .f32) (v29 v30 : FVec Ideal S512x1 .f32) (v31 : FVec Ideal S512x128 .f32) (c0_i32_15 v32 : BitVec 32) (X7 : BufTy.Contents (Elt Ideal) arg7.view.ty) (X9 : BufTy.Contents (Elt Ideal) arg9.view.ty) (X10 : BufTy.Contents (Elt Ideal) arg10.view.ty) (n : ℕ) (hn : n ≤ (i 2).val) :
    st_k0_t1 (F := Ideal) Variants.none c none i arg3 harg3 arg4 harg4 arg5 harg5 arg6 harg6 arg7 harg7 arg8 harg8 arg9 harg9 arg10 harg10 arg2 v0 v7 v11 v18 v25 v26 v27 v28 v29 v30 v31 c0_i32_15 v32 X7 X9 X10 (k0_pay26, k0_pay27, k0_pay28, k0_pay29, k0_pay30, k0_pay31) n
      = ((headRun v7 v18 (arg7.view.read (Elt Ideal) X7) (arg9.view.read (Elt Ideal) X9) (arg10.view.read (Elt Ideal) X10) (hd i 0) 0 n).1,
         (headRun v7 v18 (arg7.view.read (Elt Ideal) X7) (arg9.view.read (Elt Ideal) X9) (arg10.view.read (Elt Ideal) X10) (hd i 0) 0 n).2.1,
         (headRun v7 v18 (arg7.view.read (Elt Ideal) X7) (arg9.view.read (Elt Ideal) X9) (arg10.view.read (Elt Ideal) X10) (hd i 0) 0 n).2.2,
         headRun v11 v25 (arg7.view.read (Elt Ideal) X7) (arg9.view.read (Elt Ideal) X9) (arg10.view.read (Elt Ideal) X10) (hd i 1) 1 n) := by
  induction n with
  | zero => rfl
  | succ n ih =>
    have hk : n < (k0_t1_loop i).trips := by rw [trips_eq]; omega
    have h8 : n < 8 := (blk i ⟨n, hk⟩).isLt
    refine (st_k0_t1_succ (F := Ideal) Variants.none c none i arg3 harg3 arg4 harg4 arg5 harg5 arg6 harg6 arg7 harg7 arg8 harg8 arg9 harg9 arg10 harg10 arg2 v0 v7 v11 v18 v25 v26 v27 v28 v29 v30 v31 c0_i32_15 v32 X7 X9 X10 (k0_pay26, k0_pay27, k0_pay28, k0_pay29, k0_pay30, k0_pay31) ⟨n, hk⟩).trans ?_
    rw [ih (by omega), trip_eq]
    simp only [headRun, dif_pos h8]
    rfl

/-- One head's attention for the tile's rows. -/
def headOut (i : grid0.Coords) (x0 : Vec Ideal S512x256 .f32) (xk xv : Vec Ideal S4096x256 .bf16)
    (x4 : Vec Ideal S1x16x8x512 .f32) (u : Fin 2) : FVec Ideal S512x128 .f32 :=
  let q : FVec Ideal S512x128 .bf16 := k0_pay22 (lanes x0 u)
  let cr : FVec Ideal S1x1 .f32 := k0_pay24 (ctRow x4 (hd i u) (i 2))
  let R := headRun q cr x4 xk xv (hd i u) u (i 2).val
  k0_pay44 R.1 R.2.1 R.2.2 (k0_pay40 q cr (ctRow x4 (hd i u) (i 2)) (keyBlk xk (i 2) u)) (keyBlk xv (i 2) u)

/-- The two stores of a tile, as the body makes them. -/
def rawPieces (c : Dev nD) (i : grid0.Coords) (arg3 : Memref sig .tc .vmem S512x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S1x16x8x512 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (x0 x3 : Vec Ideal S512x256 .f32) (x4 : Vec Ideal S1x16x8x512 .f32)
    (X9 : BufTy.Contents (Elt Ideal) arg9.view.ty) (X10 : BufTy.Contents (Elt Ideal) arg10.view.ty) : List (View.Piece (Elt Ideal) S512x256 .bf16) :=
  let S := st_k0_t2 (F := Ideal) Variants.none c none i arg3 harg3 arg4 harg4 arg5 harg5 arg6 harg6 arg7 harg7 arg8 harg8 arg9 harg9 arg10 harg10 (BitVec.ofNat 32 (i 2).val) (Scalar.muli (BitVec.ofNat 32 (i 1).val) 2#32) (k0_pay22 (View.ld (arg3.view.read (Elt Ideal) (harg3.unread x0)) (Rect.unit ![0, 0] ![512, 128] inb_S512x256_S512x128_0_0))) (k0_pay23 (View.ld (arg3.view.read (Elt Ideal) (harg3.unread x0)) (Rect.unit ![0, 128] ![512, 128] inb_S512x256_S512x128_0_128))) (k0_pay24 (View.ld (arg7.view.read (Elt Ideal) (harg7.unread x4)) (Rect.unit (k0_off1 i 0#32) ![1, 1, 1, 512] (inb1 i 0)))) (k0_pay25 (View.ld (arg7.view.read (Elt Ideal) (harg7.unread x4)) (Rect.unit (k0_off1 i 1#32) ![1, 1, 1, 512] (inb1 i 1)))) k0_pay26 k0_pay27 k0_pay28 k0_pay29 k0_pay30 k0_pay31 0#32 (Scalar.subi (BitVec.ofNat 32 (i 2).val) 0#32) (Scalar.addi 0#32 (Scalar.muli (Scalar.divsi (Scalar.subi (BitVec.ofNat 32 (i 2).val) 0#32) 1#32) 1#32)) (harg7.unread x4) X9 X10 (st_k0_t1 (F := Ideal) Variants.none c none i arg3 harg3 arg4 harg4 arg5 harg5 arg6 harg6 arg7 harg7 arg8 harg8 arg9 harg9 arg10 harg10 (BitVec.ofNat 32 (i 2).val) (Scalar.muli (BitVec.ofNat 32 (i 1).val) 2#32) (k0_pay22 (View.ld (arg3.view.read (Elt Ideal) (harg3.unread x0)) (Rect.unit ![0, 0] ![512, 128] inb_S512x256_S512x128_0_0))) (k0_pay23 (View.ld (arg3.view.read (Elt Ideal) (harg3.unread x0)) (Rect.unit ![0, 128] ![512, 128] inb_S512x256_S512x128_0_128))) (k0_pay24 (View.ld (arg7.view.read (Elt Ideal) (harg7.unread x4)) (Rect.unit (k0_off1 i 0#32) ![1, 1, 1, 512] (inb1 i 0)))) (k0_pay25 (View.ld (arg7.view.read (Elt Ideal) (harg7.unread x4)) (Rect.unit (k0_off1 i 1#32) ![1, 1, 1, 512] (inb1 i 1)))) k0_pay26 k0_pay27 k0_pay28 k0_pay29 k0_pay30 k0_pay31 0#32 (Scalar.subi (BitVec.ofNat 32 (i 2).val) 0#32) (harg7.unread x4) X9 X10 (k0_pay26, k0_pay27, k0_pay28, k0_pay29, k0_pay30, k0_pay31) (k0_t1_loop i).trips) (k0_t2_loop i).trips
  [⟨Rect.unit ![0, 128] ![512, 128] inb_S512x256_S512x128_0_128,
    k0_pay1 (k0_pay44 S.2.2.2.1 S.2.2.2.2.1 S.2.2.2.2.2
      (k0_pay41 (k0_pay23 (View.ld (arg3.view.read (Elt Ideal) (harg3.unread x0)) (Rect.unit ![0, 128] ![512, 128] inb_S512x256_S512x128_0_128))) (k0_pay25 (View.ld (arg7.view.read (Elt Ideal) (harg7.unread x4)) (Rect.unit (k0_off1 i 1#32) ![1, 1, 1, 512] (inb1 i 1)))) (View.ld (arg7.view.read (Elt Ideal) (harg7.unread x4)) (Rect.unit (k0_off1 i 1#32) ![1, 1, 1, 512] (inb1 i 1))) (View.ld (arg9.view.read (Elt Ideal) X9) (Rect.unit (k0_off9 i) ![512, 128] (inb9 i))))
      (View.ld (arg10.view.read (Elt Ideal) X10) (Rect.unit (k0_off9 i) ![512, 128] (inb9 i))))
      (View.ld (arg6.view.read (Elt Ideal) (harg6.unread x3)) (Rect.unit ![0, 128] ![512, 128] inb_S512x256_S512x128_0_128))⟩,
   ⟨Rect.unit ![0, 0] ![512, 128] inb_S512x256_S512x128_0_0,
    k0_pay43 S.1 S.2.1 S.2.2.1
      (k0_pay40 (k0_pay22 (View.ld (arg3.view.read (Elt Ideal) (harg3.unread x0)) (Rect.unit ![0, 0] ![512, 128] inb_S512x256_S512x128_0_0))) (k0_pay24 (View.ld (arg7.view.read (Elt Ideal) (harg7.unread x4)) (Rect.unit (k0_off1 i 0#32) ![1, 1, 1, 512] (inb1 i 0)))) (View.ld (arg7.view.read (Elt Ideal) (harg7.unread x4)) (Rect.unit (k0_off1 i 0#32) ![1, 1, 1, 512] (inb1 i 0))) (View.ld (arg9.view.read (Elt Ideal) X9) (Rect.unit (k0_off8 i) ![512, 128] (inb8 i))))
      (k0_pay42 (k0_pay22 (View.ld (arg3.view.read (Elt Ideal) (harg3.unread x0)) (Rect.unit ![0, 0] ![512, 128] inb_S512x256_S512x128_0_0))) (k0_pay24 (View.ld (arg7.view.read (Elt Ideal) (harg7.unread x4)) (Rect.unit (k0_off1 i 0#32) ![1, 1, 1, 512] (inb1 i 0)))) (View.ld (arg7.view.read (Elt Ideal) (harg7.unread x4)) (Rect.unit (k0_off1 i 0#32) ![1, 1, 1, 512] (inb1 i 0))) (View.ld (arg9.view.read (Elt Ideal) X9) (Rect.unit (k0_off8 i) ![512, 128] (inb8 i))))
      (View.ld (arg10.view.read (Elt Ideal) X10) (Rect.unit (k0_off8 i) ![512, 128] (inb8 i)))
      (View.ld (arg6.view.read (Elt Ideal) (harg6.unread x3)) (Rect.unit ![0, 0] ![512, 128] inb_S512x256_S512x128_0_0))⟩]

/-- The two stores are the two heads' gated attention. -/
theorem rawPieces_eq (c : Dev nD) (i : grid0.Coords) (arg3 : Memref sig .tc .vmem S512x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S1x16x8x512 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (x0 x3 : Vec Ideal S512x256 .f32) (x4 : Vec Ideal S1x16x8x512 .f32)
    (X9 : BufTy.Contents (Elt Ideal) arg9.view.ty) (X10 : BufTy.Contents (Elt Ideal) arg10.view.ty) :
    rawPieces c i arg3 harg3 arg4 harg4 arg5 harg5 arg6 harg6 arg7 harg7 arg8 harg8 arg9 harg9 arg10 harg10 x0 x3 x4 X9 X10
      = [⟨Rect.unit ![0, 128] ![512, 128] inb_S512x256_S512x128_0_128,
          k0_pay1 (headOut i x0 (arg9.view.read (Elt Ideal) X9) (arg10.view.read (Elt Ideal) X10) x4 1) (lanes x3 1)⟩,
         ⟨Rect.unit ![0, 0] ![512, 128] inb_S512x256_S512x128_0_0,
          k0_pay1 (headOut i x0 (arg9.view.read (Elt Ideal) X9) (arg10.view.read (Elt Ideal) X10) x4 0) (lanes x3 0)⟩] := by
  have e1 := trips_eq i
  have e2 := trips2_eq i
  unfold rawPieces
  rw [e2]
  have z : ∀ s, st_k0_t2 (F := Ideal) Variants.none c none i arg3 harg3 arg4 harg4 arg5 harg5 arg6 harg6 arg7 harg7 arg8 harg8 arg9 harg9 arg10 harg10 (BitVec.ofNat 32 (i 2).val) (Scalar.muli (BitVec.ofNat 32 (i 1).val) 2#32) (k0_pay22 (View.ld (arg3.view.read (Elt Ideal) (harg3.unread x0)) (Rect.unit ![0, 0] ![512, 128] inb_S512x256_S512x128_0_0))) (k0_pay23 (View.ld (arg3.view.read (Elt Ideal) (harg3.unread x0)) (Rect.unit ![0, 128] ![512, 128] inb_S512x256_S512x128_0_128))) (k0_pay24 (View.ld (arg7.view.read (Elt Ideal) (harg7.unread x4)) (Rect.unit (k0_off1 i 0#32) ![1, 1, 1, 512] (inb1 i 0)))) (k0_pay25 (View.ld (arg7.view.read (Elt Ideal) (harg7.unread x4)) (Rect.unit (k0_off1 i 1#32) ![1, 1, 1, 512] (inb1 i 1)))) k0_pay26 k0_pay27 k0_pay28 k0_pay29 k0_pay30 k0_pay31 0#32 (Scalar.subi (BitVec.ofNat 32 (i 2).val) 0#32) (Scalar.addi 0#32 (Scalar.muli (Scalar.divsi (Scalar.subi (BitVec.ofNat 32 (i 2).val) 0#32) 1#32) 1#32)) (harg7.unread x4) X9 X10 s 0 = s := fun _ => rfl
  simp only [z]
  rw [e1, st_eq c i arg3 harg3 arg4 harg4 arg5 harg5 arg6 harg6 arg7 harg7 arg8 harg8 arg9 harg9 arg10 harg10 (BitVec.ofNat 32 (i 2).val) (Scalar.muli (BitVec.ofNat 32 (i 1).val) 2#32) (k0_pay22 (View.ld (arg3.view.read (Elt Ideal) (harg3.unread x0)) (Rect.unit ![0, 0] ![512, 128] inb_S512x256_S512x128_0_0))) (k0_pay23 (View.ld (arg3.view.read (Elt Ideal) (harg3.unread x0)) (Rect.unit ![0, 128] ![512, 128] inb_S512x256_S512x128_0_128))) (k0_pay24 (View.ld (arg7.view.read (Elt Ideal) (harg7.unread x4)) (Rect.unit (k0_off1 i 0#32) ![1, 1, 1, 512] (inb1 i 0)))) (k0_pay25 (View.ld (arg7.view.read (Elt Ideal) (harg7.unread x4)) (Rect.unit (k0_off1 i 1#32) ![1, 1, 1, 512] (inb1 i 1)))) k0_pay26 k0_pay27 k0_pay28 k0_pay29 k0_pay30 k0_pay31 0#32 (Scalar.subi (BitVec.ofNat 32 (i 2).val) 0#32) (harg7.unread x4) X9 X10 (i 2).val le_rfl]
  simp only [harg3.read_unread, harg6.read_unread, harg7.read_unread]
  rw [ld_key _ (k0_off8 i) (inb8 i) (i 2) 0 (off8_eq i), ld_key _ (k0_off8 i) (inb8 i) (i 2) 0 (off8_eq i),
    ld_key _ (k0_off9 i) (inb9 i) (i 2) 1 (off9_eq i), ld_key _ (k0_off9 i) (inb9 i) (i 2) 1 (off9_eq i),
    ld_ct x4 (k0_off1 i 0#32) (inb1 i 0) (hd i 0) (i 2) (off1_eq i 0),
    ld_ct x4 (k0_off1 i 1#32) (inb1 i 1) (hd i 1) (i 2) (off1_eq i 1),
    ld_lanes x0 ![0, 0] _ 0 rfl, ld_lanes x0 ![0, 128] _ 1 rfl, ld_lanes x3 ![0, 0] _ 0 rfl, ld_lanes x3 ![0, 128] _ 1 rfl, pay44_pay1_eq]
  rfl

end Cert.KernelIdeal.Attn
-- ==== Proof.Body.lean ====
module

public import proofs.«01_k».proof.Proof.Tile
public import proofs.«01_k».proof.Proof.Gen.KernelIdeal.Value

@[expose] public section

set_option maxRecDepth 16384

noncomputable section

open Idealize.ShloMosaic Idealize.ShloMosaic.TcCoe Idealize.SL.Sem

namespace Cert.KernelIdeal.Attn
open Cert.KernelIdeal.Gen Cert.Attn

theorem runA_eq (c : Dev nD) (i : grid0.Coords) (arg3 : Memref sig .tc .vmem S512x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S1x16x8x512 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (hc0 : cond0_0 i) (x0 : Vec Ideal S512x256 .f32) (x1 : Vec Ideal S4096x256 .f32) (x2 : Vec Ideal S4096x256 .f32) (x3 : Vec Ideal S512x256 .f32) (x4 : Vec Ideal S1x16x8x512 .f32) :
    (kernelRun0_A (F := Ideal) c i arg3 harg3 arg4 harg4 arg5 harg5 arg6 harg6 arg7 harg7 arg8 harg8 arg9 harg9 arg10 harg10 hc0 x0 x1 x2 x3 x4).1
      = rawPieces c i arg3 harg3 arg4 harg4 arg5 harg5 arg6 harg6 arg7 harg7 arg8 harg8 arg9 harg9 arg10 harg10 x0 x3 x4
          (arg9.view.writes (Elt Ideal) arg9.view.junk [⟨Rect.unit ![0, 0] ![4096, 256] inb_S4096x256_S4096x256_0_0,
            k0_pay20 (View.ld (arg4.view.read (Elt Ideal) (harg4.unread x1)) (Rect.unit ![0, 0] ![4096, 256] inb_S4096x256_S4096x256_0_0))⟩])
          (arg10.view.writes (Elt Ideal) arg10.view.junk [⟨Rect.unit ![0, 0] ![4096, 256] inb_S4096x256_S4096x256_0_0,
            k0_pay21 (View.ld (arg5.view.read (Elt Ideal) (harg5.unread x2)) (Rect.unit ![0, 0] ![4096, 256] inb_S4096x256_S4096x256_0_0))⟩]) := by
  unfold kernelRun0_A
  rfl

theorem runB_eq (c : Dev nD) (i : grid0.Coords) (arg3 : Memref sig .tc .vmem S512x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S1x16x8x512 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (hc0 : ¬cond0_0 i) (x0 : Vec Ideal S512x256 .f32) (x1 : Vec Ideal S4096x256 .f32) (x2 : Vec Ideal S4096x256 .f32) (x3 : Vec Ideal S512x256 .f32) (x4 : Vec Ideal S1x16x8x512 .f32) (xs0 xs1 : Vec Ideal S4096x256 .bf16) :
    (kernelRun0_B (F := Ideal) c i arg3 harg3 arg4 harg4 arg5 harg5 arg6 harg6 arg7 harg7 arg8 harg8 arg9 harg9 arg10 harg10 hc0 x0 x1 x2 x3 x4 xs0 xs1).1
      = rawPieces c i arg3 harg3 arg4 harg4 arg5 harg5 arg6 harg6 arg7 harg7 arg8 harg8 arg9 harg9 arg10 harg10 x0 x3 x4 (harg9.unread xs0) (harg10.unread xs1) := by
  unfold kernelRun0_B
  rfl

/-- The values are staged as they are. -/
theorem pay21_eq (x : FVec Ideal S4096x256 .f32) : (k0_pay21 (F := Ideal) x : S4096x256.Idx → EReal) = x := pay20_eq x

/-- A tile's output: lane `128 u + d` of row `r` is head `u`'s gated attention at lane `d`. -/
def blockOut (i : grid0.Coords) (x0 : Vec Ideal S512x256 .f32) (xk xv : Vec Ideal S4096x256 .bf16)
    (x3 : Vec Ideal S512x256 .f32) (x4 : Vec Ideal S1x16x8x512 .f32) : Vec Ideal S512x256 .bf16 := fun y =>
  let u : Fin 2 := ⟨(y 1).val / 128, by have h : (y 1).val < 256 := (y 1).isLt; omega⟩
  k0_pay1 (headOut i x0 xk xv x4 u) (lanes x3 u) (ix2 (y 0) ⟨(y 1).val % 128, Nat.mod_lt _ (by decide)⟩)

/-- Two stores, one over each half of the lanes, leave the two halves. -/
theorem canon_halves (W : Fin 2 → FVec Ideal S512x128 .bf16) (y : S512x256.Idx) :
    View.canon (Val := Elt Ideal) (s := S512x256) (e := .bf16)
      [⟨Rect.unit ![0, 128] ![512, 128] inb_S512x256_S512x128_0_128, W 1⟩,
       ⟨Rect.unit ![0, 0] ![512, 128] inb_S512x256_S512x128_0_0, W 0⟩] y
      = W ⟨(y 1).val / 128, by have h : (y 1).val < 256 := (y 1).isLt; omega⟩
          (ix2 (y 0) ⟨(y 1).val % 128, Nat.mod_lt _ (by decide)⟩) := by
  have hy : (y 1).val < 256 := (y 1).isLt
  by_cases h : (y 1).val < 128
  · rw [View.canon_cons_of_not_mem]
    · have e : y = (Rect.unit (s := S512x256) ![0, 0] ![512, 128] inb_S512x256_S512x128_0_0).emb
          (ix2 (y 0) ⟨(y 1).val % 128, Nat.mod_lt _ (by decide)⟩) := by
        funext a
        refine Fin.ext ?_
        match a with
        | 0 => exact ((Nat.zero_add _).trans (Nat.one_mul _)).symm
        | 1 => exact ((Nat.zero_add _).trans ((Nat.one_mul _).trans (Nat.mod_eq_of_lt h))).symm
      conv_lhs => rw [e]
      rw [View.canon_cons_emb]
      have e0 : (⟨(y 1).val / 128, by omega⟩ : Fin 2) = 0 := Fin.ext (Nat.div_eq_of_lt h)
      rw [e0]
    · intro hm
      have := (Rect.mem_set_unit (s := S512x256) (inb := inb_S512x256_S512x128_0_128) (i := y)).mp hm 1
      exact absurd this.1 (by show ¬ 128 ≤ (y 1).val; omega)
  · have e : y = (Rect.unit (s := S512x256) ![0, 128] ![512, 128] inb_S512x256_S512x128_0_128).emb
        (ix2 (y 0) ⟨(y 1).val % 128, Nat.mod_lt _ (by decide)⟩) := by
      funext a
      refine Fin.ext ?_
      match a with
      | 0 => exact ((Nat.zero_add _).trans (Nat.one_mul _)).symm
      | 1 =>
        show (y 1).val = 128 + 1 * ((y 1).val % 128)
        omega
    conv_lhs => rw [e]
    rw [View.canon_cons_emb]
    have e1 : (⟨(y 1).val / 128, by omega⟩ : Fin 2) = 1 := Fin.ext (show (y 1).val / 128 = 1 by omega)
    rw [e1]

/-- What a first tile of a head pair leaves in the output's buffer. -/
theorem out_A (c : Dev nD) (i : grid0.Coords) (arg3 : Memref sig .tc .vmem S512x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S1x16x8x512 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (hc0 : cond0_0 i) (x0 : Vec Ideal S512x256 .f32) (x1 : Vec Ideal S4096x256 .f32) (x2 : Vec Ideal S4096x256 .f32) (x3 : Vec Ideal S512x256 .f32) (x4 : Vec Ideal S1x16x8x512 .f32) :
    out0_A_5 (F := Ideal) c i arg3 harg3 arg4 harg4 arg5 harg5 arg6 harg6 arg7 harg7 arg8 harg8 arg9 harg9 arg10 harg10 hc0 x0 x1 x2 x3 x4 = blockOut i x0 x1 x2 x3 x4 := by
  unfold out0_A_5
  rw [View.read_writes_eq_canon _ _ _ (cover0_A_5 c i arg3 harg3 arg4 harg4 arg5 harg5 arg6 harg6 arg7 harg7 arg8 harg8 arg9 harg9 arg10 harg10 hc0 x0 x1 x2 x3 x4), runA_eq, rawPieces_eq]
  have z2 : (![0, 0] : Fin S4096x256.rank → ℕ) = fun _ => 0 := by funext a; match a with | 0 => rfl | 1 => rfl
  have cov : ∀ (w : S4096x256.Idx → Elt Ideal .bf16) (y : S4096x256.Idx), ∃ p ∈ [(⟨Rect.unit ![0, 0] ![4096, 256] inb_S4096x256_S4096x256_0_0, w⟩ : View.Piece (Elt Ideal) S4096x256 .bf16)], y ∈ p.1.set := by
    intro w y
    refine ⟨_, List.mem_singleton.mpr rfl, View.mem_set_unit_zero (S := S4096x256) z2 inb_S4096x256_S4096x256_0_0 y⟩
  rw [View.read_writes_eq_canon _ _ _ (cov _), View.read_writes_eq_canon _ _ _ (cov _),
    View.canon_unit_zero (S := S4096x256) z2, View.canon_unit_zero (S := S4096x256) z2,
    View.ld_unit_zero (S := S4096x256) z2, View.ld_unit_zero (S := S4096x256) z2, harg4.read_unread, harg5.read_unread, pay20_eq, pay21_eq]
  funext y
  exact canon_halves (fun u => k0_pay1 (headOut i x0 x1 x2 x4 u) (lanes x3 u)) y

/-- What a later tile leaves there, from the keys and values the first one staged. -/
theorem out_B (c : Dev nD) (i : grid0.Coords) (arg3 : Memref sig .tc .vmem S512x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S1x16x8x512 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (hc0 : ¬cond0_0 i) (x0 : Vec Ideal S512x256 .f32) (x1 : Vec Ideal S4096x256 .f32) (x2 : Vec Ideal S4096x256 .f32) (x3 : Vec Ideal S512x256 .f32) (x4 : Vec Ideal S1x16x8x512 .f32) (xs0 xs1 : Vec Ideal S4096x256 .bf16) :
    out0_B_5 (F := Ideal) c i arg3 harg3 arg4 harg4 arg5 harg5 arg6 harg6 arg7 harg7 arg8 harg8 arg9 harg9 arg10 harg10 hc0 x0 x1 x2 x3 x4 xs0 xs1 = blockOut i x0 xs0 xs1 x3 x4 := by
  unfold out0_B_5
  rw [View.read_writes_eq_canon _ _ _ (cover0_B_5 c i arg3 harg3 arg4 harg4 arg5 harg5 arg6 harg6 arg7 harg7 arg8 harg8 arg9 harg9 arg10 harg10 hc0 x0 x1 x2 x3 x4 xs0 xs1), runB_eq, rawPieces_eq,
    harg9.read_unread, harg10.read_unread]
  funext y
  exact canon_halves (fun u => k0_pay1 (headOut i x0 xs0 xs1 x4 u) (lanes x3 u)) y

/-- A first tile stages its keys. -/
theorem sout_A0 (c : Dev nD) (i : grid0.Coords) (arg3 : Memref sig .tc .vmem S512x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S1x16x8x512 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (hc0 : cond0_0 i) (x0 : Vec Ideal S512x256 .f32) (x1 : Vec Ideal S4096x256 .f32) (x2 : Vec Ideal S4096x256 .f32) (x3 : Vec Ideal S512x256 .f32) (x4 : Vec Ideal S1x16x8x512 .f32) :
    sout0_A_0 (F := Ideal) c i arg3 harg3 arg4 harg4 arg5 harg5 arg6 harg6 arg7 harg7 arg8 harg8 arg9 harg9 arg10 harg10 hc0 x0 x1 x2 x3 x4 = x1 := by
  have z2 : (![0, 0] : Fin S4096x256.rank → ℕ) = fun _ => 0 := by funext a; match a with | 0 => rfl | 1 => rfl
  unfold sout0_A_0
  rw [View.read_writes_eq_canon _ _ _ (scover0_A_0 c i arg3 harg3 arg4 harg4 arg5 harg5 arg6 harg6 arg7 harg7 arg8 harg8 arg9 harg9 arg10 harg10 hc0 x0 x1 x2 x3 x4)]
  refine (View.canon_unit_zero (Val := Elt Ideal) (S := S4096x256) (e := .bf16) z2 inb_S4096x256_S4096x256_0_0
    (k0_pay20 (View.ld (arg4.view.read (Elt Ideal) (harg4.unread x1)) (Rect.unit ![0, 0] ![4096, 256] inb_S4096x256_S4096x256_0_0)))).trans ?_
  rw [View.ld_unit_zero (S := S4096x256) z2, harg4.read_unread, pay20_eq]

/-- … and its values. -/
theorem sout_A1 (c : Dev nD) (i : grid0.Coords) (arg3 : Memref sig .tc .vmem S512x256 .f32) (harg3 : arg3.IsWhole) (arg4 : Memref sig .tc .vmem S4096x256 .f32) (harg4 : arg4.IsWhole) (arg5 : Memref sig .tc .vmem S4096x256 .f32) (harg5 : arg5.IsWhole) (arg6 : Memref sig .tc .vmem S512x256 .f32) (harg6 : arg6.IsWhole) (arg7 : Memref sig .tc .vmem S1x16x8x512 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (hc0 : cond0_0 i) (x0 : Vec Ideal S512x256 .f32) (x1 : Vec Ideal S4096x256 .f32) (x2 : Vec Ideal S4096x256 .f32) (x3 : Vec Ideal S512x256 .f32) (x4 : Vec Ideal S1x16x8x512 .f32) :
    sout0_A_1 (F := Ideal) c i arg3 harg3 arg4 harg4 arg5 harg5 arg6 harg6 arg7 harg7 arg8 harg8 arg9 harg9 arg10 harg10 hc0 x0 x1 x2 x3 x4 = x2 := by
  have z2 : (![0, 0] : Fin S4096x256.rank → ℕ) = fun _ => 0 := by funext a; match a with | 0 => rfl | 1 => rfl
  unfold sout0_A_1
  rw [View.read_writes_eq_canon _ _ _ (scover0_A_1 c i arg3 harg3 arg4 harg4 arg5 harg5 arg6 harg6 arg7 harg7 arg8 harg8 arg9 harg9 arg10 harg10 hc0 x0 x1 x2 x3 x4)]
  refine (View.canon_unit_zero (Val := Elt Ideal) (S := S4096x256) (e := .bf16) z2 inb_S4096x256_S4096x256_0_0
    (k0_pay21 (View.ld (arg5.view.read (Elt Ideal) (harg5.unread x2)) (Rect.unit ![0, 0] ![4096, 256] inb_S4096x256_S4096x256_0_0)))).trans ?_
  rw [View.ld_unit_zero (S := S4096x256) z2, harg5.read_unread, pay21_eq]

end Cert.KernelIdeal.Attn
-- ==== Proof.Head.lean ====
module

public import proofs.«01_k».proof.Proof.Body
public import proofs.«01_k».proof.Proof.Gen.KernelIdeal.Value

@[expose] public section

set_option maxRecDepth 16384

noncomputable section

open Idealize.ShloMosaic Idealize.ShloMosaic.TcCoe Idealize.SL.Sem

namespace Cert.KernelIdeal.Attn
open Cert.KernelIdeal.Gen Cert.Attn

/-- The weights of row `t`: the exponentials of its scores up to `t`, nothing after. -/
noncomputable def weight (lg : ℕ → ℝ) (t s : ℕ) : ℝ := if s ≤ t then Real.exp (lg s) else 0

theorem weight_pos (lg : ℕ → ℝ) {t s : ℕ} (h : s ≤ t) : 0 < weight lg t s := by
  rw [weight, if_pos h]
  exact Real.exp_pos _

theorem weight_nonneg (lg : ℕ → ℝ) (t s : ℕ) : 0 ≤ weight lg t s := by
  unfold weight
  split
  · exact (Real.exp_pos _).le
  · exact le_rfl

/-- The weights of a row sum to something positive, its first key being unmasked. -/
theorem weight_sum_pos (lg : ℕ → ℝ) (t n : ℕ) (hn : 0 < n) : 0 < ∑ s ∈ Finset.range n, weight lg t s :=
  Finset.sum_pos' (fun s _ => weight_nonneg lg t s) ⟨0, Finset.mem_range.mpr hn, weight_pos lg (Nat.zero_le t)⟩

/-- A block of scores of real queries, keys and gates is real. -/
theorem pay2_real (q : FVec Ideal S512x128 .bf16) (cr : FVec Ideal S1x1 .f32) (ct : FVec Ideal S1x1x1x512 .f32)
    (K : FVec Ideal S512x128 .bf16) (r j : Fin 512) (qr kr : Fin 128 → ℝ) (a b : ℝ)
    (hq : ∀ d, q (ix2 r d) = (qr d : EReal)) (hk : ∀ d, K (ix2 j d) = (kr d : EReal))
    (ha : cr (ix2 0 0) = (a : EReal)) (hb : ct (ix4 0 0 0 j) = (b : EReal)) :
    k0_pay2 q cr ct K (ix2 r j) = ((∑ d, qr d * kr d + (a - b) : ℝ) : EReal) := by
  rw [pay2_apply, ha, hb, EReal.coe_add, coe_sum, EReal.coe_sub]
  exact congrArg (· + _) (Finset.sum_congr rfl fun d _ => by rw [hq, hk, EReal.coe_mul])

/-- After `n` blocks before the diagonal a row holds its first `512 n` keys. -/
theorem headRun_after (q : FVec Ideal S512x128 .bf16) (cr : FVec Ideal S1x1 .f32) (x4 : Vec Ideal S1x16x8x512 .f32)
    (xk xv : Vec Ideal S4096x256 .bf16) (g : Fin 16) (u : Fin 2) (r : Fin 512) (d : Fin 128) (lg : ℕ → ℝ) (U : ℕ → EReal)
    (N : ℕ) (hN : N ≤ 8) (t : ℕ) (ht : 512 * N ≤ t)
    (hx : ∀ (n : Fin 8) (j : Fin 512), n.val < N →
      k0_pay2 q cr (ctRow x4 g n) (keyBlk xk n u) (ix2 r j) = (lg (512 * n.val + j.val) : EReal))
    (hy : ∀ (n : Fin 8) (j : Fin 512), keyBlk xv n u (ix2 j d) = U (512 * n.val + j.val)) (n : ℕ) (hn : n ≤ N) :
    After (512 * n) (weight lg t) U ((headRun q cr x4 xk xv g u n).1 (ix2 r 0))
      ((headRun q cr x4 xk xv g u n).2.1 (ix2 r 0)) ((headRun q cr x4 xk xv g u n).2.2 (ix2 r d)) := by
  induction n with
  | zero =>
    refine Or.inl ⟨rfl, pay26_apply r, ?_, ?_⟩
    · show k0_pay27 (F := Ideal) (ix2 r 0) = (0 : EReal)
      unfold k0_pay27
      pointwise
    · show k0_pay28 (F := Ideal) (ix2 r d) = (0 : EReal)
      unfold k0_pay28
      pointwise
  | succ n ih =>
    have h8 : n < 8 := by omega
    simp only [headRun, dif_pos h8]
    refine block_step r d _ _ _ q cr (ctRow x4 g ⟨n, h8⟩) (keyBlk xk ⟨n, h8⟩ u) (keyBlk xv ⟨n, h8⟩ u) (ih (by omega))
      (fun j => ?_) (fun j => hy ⟨n, h8⟩ j) 0 (weight_pos lg ?_)
    · have hj := j.isLt
      refine Or.inr ⟨lg (512 * n + j.val), hx ⟨n, h8⟩ j (by show n < N; omega), ?_⟩
      show weight lg t (512 * n + j.val) = Real.exp (lg (512 * n + j.val))
      rw [weight, if_pos (by omega)]
    · show 512 * n + 0 ≤ t
      omega

/-- A row of a tile is the row of attention over the keys up to it. -/
theorem headOut_attend (i : grid0.Coords) (x0 : Vec Ideal S512x256 .f32) (xk xv : Vec Ideal S4096x256 .bf16)
    (x4 : Vec Ideal S1x16x8x512 .f32) (u : Fin 2) (r : Fin 512) (d : Fin 128) (lg : ℕ → ℝ) (U : ℕ → EReal)
    (hx : ∀ (n : Fin 8) (j : Fin 512), k0_pay2 (F := Ideal) (k0_pay22 (lanes x0 u)) (k0_pay24 (ctRow x4 (hd i u) (i 2)))
      (ctRow x4 (hd i u) n) (keyBlk xk n u) (ix2 r j) = (lg (512 * n.val + j.val) : EReal))
    (hy : ∀ (n : Fin 8) (j : Fin 512), keyBlk xv n u (ix2 j d) = U (512 * n.val + j.val)) :
    headOut i x0 xk xv x4 u (ix2 r d) = attend 4096 (weight lg (512 * (i 2).val + r.val)) U := by
  have h8 : (i 2).val < 8 := (i 2).isLt
  have hr := r.isLt
  refine (last_step r d _ _ _ _ _ (headRun_after _ _ x4 xk xv (hd i u) u r d lg U (i 2).val h8.le
    (512 * (i 2).val + r.val) (by omega) (fun n j _ => hx n j) hy (i 2).val le_rfl) (fun j => ?_) (fun j => hy (i 2) j)
    0 (weight_pos lg ?_) (weight_sum_pos lg _ _ (by omega))).trans ?_
  · rw [pay40_apply]
    by_cases h : j ≤ r
    · have h' : j.val ≤ r.val := h
      rw [if_pos h]
      refine Or.inr ⟨lg (512 * (i 2).val + j.val), hx (i 2) j, ?_⟩
      rw [weight, if_pos (by omega)]
    · have h' : ¬ j.val ≤ r.val := h
      rw [if_neg h]
      refine Or.inl ⟨rfl, ?_⟩
      rw [weight, if_neg (by omega)]
  · show 512 * (i 2).val + 0 ≤ _
    omega
  · refine (attend_extend (by omega) _ _ fun s hs => ?_).symm
    rw [weight, if_neg (by omega)]

end Cert.KernelIdeal.Attn
-- ==== Proof.Spec.lean ====
module

public import proofs.«01_k».proof.Proof.Head
public import proofs.«01_k».proof.Proof.Gen.KernelIdeal.Value

@[expose] public section

set_option maxRecDepth 16384

noncomputable section

open Idealize.ShloMosaic Idealize.ShloMosaic.TcCoe Idealize.SL.Sem

namespace Cert.KernelIdeal.Attn
open Cert.KernelIdeal.Gen Cert.Attn

/-- The row of token `t` of batch `b`. -/
def row (b : Fin 2) (t : Fin 4096) : Fin 8192 := ⟨4096 * b.val + t.val, by omega⟩

/-- Lane `d` of head `h`. -/
def lane (h : Fin 16) (d : Fin 128) : Fin 2048 := ⟨128 * h.val + d.val, by omega⟩

/-- The first token of a token's tile. -/
def base (t : Fin 4096) : Fin 4096 := ⟨512 * (t.val / 512), by omega⟩

/-- The score of query `t` against key `s`, the decay counted from the tile's first token. -/
noncomputable def score (q k : S8192x2048.Idx → EReal) (ct : S2x16x4096.Idx → EReal) (b : Fin 2) (h : Fin 16)
    (t : Fin 4096) (s : ℕ) : ℝ :=
  if hs : s < 4096 then
    ∑ d, (q (ix2 (row b t) (lane h d))).toReal * (Real.sqrt 128)⁻¹ * (k (ix2 (row b ⟨s, hs⟩) (lane h d))).toReal
      + ((ct (ix3 b h (base t))).toReal - (ct (ix3 b h ⟨s, hs⟩)).toReal)
  else 0

/-- The values of a lane, over the tokens of a batch. -/
noncomputable def values (v : S8192x2048.Idx → EReal) (b : Fin 2) (l : Fin 2048) (s : ℕ) : EReal :=
  if hs : s < 4096 then v (ix2 (row b ⟨s, hs⟩) l) else 0

/-- The gated causal attention: what both programs compute. -/
noncomputable def fox (q k v g : S8192x2048.Idx → EReal) (ct : S2x16x4096.Idx → EReal) : S8192x2048.Idx → EReal := fun y =>
  attend 4096
    (weight (score q k ct ⟨(y 0).val / 4096, by have h : (y 0).val < 8192 := (y 0).isLt; omega⟩
      ⟨(y 1).val / 128, by have h : (y 1).val < 2048 := (y 1).isLt; omega⟩ ⟨(y 0).val % 4096, Nat.mod_lt _ (by decide)⟩)
      ((y 0).val % 4096))
    (values v ⟨(y 0).val / 4096, by have h : (y 0).val < 8192 := (y 0).isLt; omega⟩ (y 1)) * (g y * Ideal.logistic (g y))

theorem fox_apply (q k v g : S8192x2048.Idx → EReal) (ct : S2x16x4096.Idx → EReal) (b : Fin 2) (t : Fin 4096)
    (h : Fin 16) (d : Fin 128) :
    fox q k v g ct (ix2 (row b t) (lane h d)) = attend 4096 (weight (score q k ct b h t) t.val) (values v b (lane h d))
      * (g (ix2 (row b t) (lane h d)) * Ideal.logistic (g (ix2 (row b t) (lane h d)))) := by
  have ht := t.isLt
  have hd' := d.isLt
  have e1 : (⟨(row b t).val / 4096, by have := (row b t).isLt; omega⟩ : Fin 2) = b := Fin.ext (by show (4096 * b.val + t.val) / 4096 = b.val; omega)
  have e2 : (⟨(row b t).val % 4096, Nat.mod_lt _ (by decide)⟩ : Fin 4096) = t := Fin.ext (by show (4096 * b.val + t.val) % 4096 = t.val; omega)
  have e3 : (⟨(lane h d).val / 128, by have := (lane h d).isLt; omega⟩ : Fin 16) = h := Fin.ext (by show (128 * h.val + d.val) / 128 = h.val; omega)
  have e4 : (row b t).val % 4096 = t.val := congrArg Fin.val e2
  show attend 4096 (weight (score q k ct ⟨(row b t).val / 4096, _⟩ ⟨(lane h d).val / 128, _⟩ ⟨(row b t).val % 4096, _⟩) ((row b t).val % 4096))
    (values v ⟨(row b t).val / 4096, _⟩ (lane h d)) * _ = _
  rw [e1, e2, e3, e4]

theorem score_lt (q k : S8192x2048.Idx → EReal) (ct : S2x16x4096.Idx → EReal) (b : Fin 2) (h : Fin 16) (t s : Fin 4096) :
    score q k ct b h t s.val
      = ∑ d, (q (ix2 (row b t) (lane h d))).toReal * (Real.sqrt 128)⁻¹ * (k (ix2 (row b s) (lane h d))).toReal
        + ((ct (ix3 b h (base t))).toReal - (ct (ix3 b h s)).toReal) := dif_pos s.isLt

theorem values_lt (v : S8192x2048.Idx → EReal) (b : Fin 2) (l : Fin 2048) (s : Fin 4096) :
    values v b l s.val = v (ix2 (row b s) l) := dif_pos s.isLt

/-- A tile's output at a lane is the gated attention there, once its blocks are the arguments' blocks. -/
theorem blockOut_fox (i : grid0.Coords) (x0 : Vec Ideal S512x256 .f32) (xk xv : Vec Ideal S4096x256 .bf16)
    (x3 : Vec Ideal S512x256 .f32) (x4 : Vec Ideal S1x16x8x512 .f32) (q k v g : S8192x2048.Idx → EReal)
    (ct : S2x16x4096.Idx → EReal) (hq : ∀ y, q y = ((q y).toReal : EReal)) (hk : ∀ y, k y = ((k y).toReal : EReal))
    (hc : ∀ y, ct y = ((ct y).toReal : EReal)) (b : Fin 2) (u : Fin 2) (r : Fin 512) (d : Fin 128) (t : Fin 4096)
    (ht : t.val = 512 * (i 2).val + r.val)
    (h0 : ∀ d, lanes x0 u (ix2 r d) = q (ix2 (row b t) (lane (hd i u) d)))
    (h1 : ∀ n j d (s : Fin 4096), s.val = 512 * n.val + j.val → keyBlk xk n u (ix2 j d) = k (ix2 (row b s) (lane (hd i u) d)))
    (h2 : ∀ n j d (s : Fin 4096), s.val = 512 * n.val + j.val → keyBlk xv n u (ix2 j d) = v (ix2 (row b s) (lane (hd i u) d)))
    (h3 : lanes x3 u (ix2 r d) = g (ix2 (row b t) (lane (hd i u) d)))
    (h4 : ∀ (n : Fin 8) (j : Fin 512) (s : Fin 4096), s.val = 512 * n.val + j.val → x4 (ix4 0 (hd i u) n j) = ct (ix3 b (hd i u) s)) :
    k0_pay1 (headOut i x0 xk xv x4 u) (lanes x3 u) (ix2 r d) = fox q k v g ct (ix2 (row b t) (lane (hd i u) d)) := by
  have hn8 : ∀ (n : Fin 8) (j : Fin 512), 512 * n.val + j.val < 4096 := fun n j => by omega
  have hr := r.isLt
  rw [pay1_apply, fox_apply, h3, ht]
  refine congrArg (· * _) (headOut_attend i x0 xk xv x4 u r d _ _ (fun n j => ?_) (fun n j => ?_))
  · refine (pay2_real _ _ _ _ r j (fun d => (q (ix2 (row b t) (lane (hd i u) d))).toReal * (Real.sqrt 128)⁻¹)
      (fun d => (k (ix2 (row b ⟨512 * n.val + j.val, hn8 n j⟩) (lane (hd i u) d))).toReal)
      (ct (ix3 b (hd i u) (base t))).toReal (ct (ix3 b (hd i u) ⟨512 * n.val + j.val, hn8 n j⟩)).toReal
      (fun d => ?_) (fun d => ?_) ?_ ?_).trans ?_
    · rw [pay22_apply, h0, EReal.coe_mul, ← hq]
    · rw [h1 n j d ⟨512 * n.val + j.val, hn8 n j⟩ rfl, ← hk]
    · rw [pay24_apply, ← hc]
      exact h4 (i 2) 0 (base t) (by show 512 * (t.val / 512) = 512 * (i 2).val + 0; omega)
    · rw [← hc]
      exact h4 n j _ rfl
    · rw [← score_lt]
  · exact (h2 n j d ⟨512 * n.val + j.val, hn8 n j⟩ rfl).trans (values_lt v b _ ⟨512 * n.val + j.val, hn8 n j⟩).symm

end Cert.KernelIdeal.Attn
-- ==== Proof.Array.lean ====
module

public import proofs.«01_k».proof.Proof.Spec
public import proofs.«01_k».proof.Proof.Gen.KernelIdeal.Value

@[expose] public section

set_option maxRecDepth 16384

noncomputable section

open Idealize.ShloMosaic Idealize.ShloMosaic.TcCoe Idealize.SL.Sem

namespace Cert.KernelIdeal.Attn
open Cert.KernelIdeal.Gen Cert.KernelIdeal.Value Cert.Attn

variable (m : (ℓ : Loc nD τ sig) → Buf (Elt Ideal) ℓ)

/-- A grid point's head pair and query tile. -/
theorem coords_eq : ∀ t : Fin cfg0.N, (grid0.coords t 1).val = t.val / 8 % 8 ∧ (grid0.coords t 2).val = t.val % 8 :=
  (by decide +kernel : ∀ t : Fin grid0.N, _)

/-- The block each window takes at a grid point. -/
theorem index0 : ∀ t : Fin cfg0.N, win0_0.index t (0 : Fin 2) = 8 * (t.val / 64) + t.val % 8 ∧ win0_0.index t (1 : Fin 2) = t.val / 8 % 8 :=
  (by decide +kernel : ∀ t : Fin grid0.N, _)
theorem index1 : ∀ t : Fin cfg0.N, win0_1.index t (0 : Fin 2) = t.val / 64 ∧ win0_1.index t (1 : Fin 2) = t.val / 8 % 8 :=
  (by decide +kernel : ∀ t : Fin grid0.N, _)
theorem index2 : ∀ t : Fin cfg0.N, win0_2.index t (0 : Fin 2) = t.val / 64 ∧ win0_2.index t (1 : Fin 2) = t.val / 8 % 8 :=
  (by decide +kernel : ∀ t : Fin grid0.N, _)
theorem index3 : ∀ t : Fin cfg0.N, win0_3.index t (0 : Fin 2) = 8 * (t.val / 64) + t.val % 8 ∧ win0_3.index t (1 : Fin 2) = t.val / 8 % 8 :=
  (by decide +kernel : ∀ t : Fin grid0.N, _)
theorem index4 : ∀ t : Fin cfg0.N, win0_4.index t (0 : Fin 4) = t.val / 64 ∧ win0_4.index t (1 : Fin 4) = 0
    ∧ win0_4.index t (2 : Fin 4) = 0 ∧ win0_4.index t (3 : Fin 4) = 0 :=
  (by decide +kernel : ∀ t : Fin grid0.N, _)
theorem index5 : ∀ t : Fin cfg0.N, win0_5.index t (0 : Fin 2) = 8 * (t.val / 64) + t.val % 8 ∧ win0_5.index t (1 : Fin 2) = t.val / 8 % 8 :=
  (by decide +kernel : ∀ t : Fin grid0.N, _)

theorem N_le (t : Fin cfg0.N) : t.val < 128 := lt_of_lt_of_eq t.isLt (show cfg0.N = 128 from N_0)

/-- The batch of a grid point. -/
def bat (t : Fin cfg0.N) : Fin 2 := ⟨t.val / 64, by have := N_le t; omega⟩

/-- An element of the query block. -/
theorem iblk0_apply (c : Dev nD) (t : Fin cfg0.N) (r : Fin 512) (l : Fin 256) (R : Fin 8192) (L : Fin 2048)
    (hR : R.val = 512 * (8 * (t.val / 64) + t.val % 8) + r.val) (hL : L.val = 256 * (t.val / 8 % 8) + l.val) :
    iblk m c 0 t (ix2 r l) = V m c main_arg0 (ix2 R L) := by
  obtain ⟨e0, e1⟩ := index0 t
  refine congrArg (V m c main_arg0) (funext fun a => Fin.ext ?_)
  match a with
  | 0 => show win0_0.index t (0 : Fin 2) * 512 + 1 * r.val = R.val; omega
  | 1 => show win0_0.index t (1 : Fin 2) * 256 + 1 * l.val = L.val; omega

/-- An element of the gate block. -/
theorem iblk3_apply (c : Dev nD) (t : Fin cfg0.N) (r : Fin 512) (l : Fin 256) (R : Fin 8192) (L : Fin 2048)
    (hR : R.val = 512 * (8 * (t.val / 64) + t.val % 8) + r.val) (hL : L.val = 256 * (t.val / 8 % 8) + l.val) :
    iblk m c 3 t (ix2 r l) = V m c main_arg3 (ix2 R L) := by
  obtain ⟨e0, e1⟩ := index3 t
  refine congrArg (V m c main_arg3) (funext fun a => Fin.ext ?_)
  match a with
  | 0 => show win0_3.index t (0 : Fin 2) * 512 + 1 * r.val = R.val; omega
  | 1 => show win0_3.index t (1 : Fin 2) * 256 + 1 * l.val = L.val; omega

/-- An element of the key block. -/
theorem iblk1_apply (c : Dev nD) (t : Fin cfg0.N) (r : Fin 4096) (l : Fin 256) (R : Fin 8192) (L : Fin 2048)
    (hR : R.val = 4096 * (t.val / 64) + r.val) (hL : L.val = 256 * (t.val / 8 % 8) + l.val) :
    iblk m c 1 t (ix2 r l) = V m c main_arg1 (ix2 R L) := by
  obtain ⟨e0, e1⟩ := index1 t
  refine congrArg (V m c main_arg1) (funext fun a => Fin.ext ?_)
  match a with
  | 0 => show win0_1.index t (0 : Fin 2) * 4096 + 1 * r.val = R.val; omega
  | 1 => show win0_1.index t (1 : Fin 2) * 256 + 1 * l.val = L.val; omega

/-- An element of the value block. -/
theorem iblk2_apply (c : Dev nD) (t : Fin cfg0.N) (r : Fin 4096) (l : Fin 256) (R : Fin 8192) (L : Fin 2048)
    (hR : R.val = 4096 * (t.val / 64) + r.val) (hL : L.val = 256 * (t.val / 8 % 8) + l.val) :
    iblk m c 2 t (ix2 r l) = V m c main_arg2 (ix2 R L) := by
  obtain ⟨e0, e1⟩ := index2 t
  refine congrArg (V m c main_arg2) (funext fun a => Fin.ext ?_)
  match a with
  | 0 => show win0_2.index t (0 : Fin 2) * 4096 + 1 * r.val = R.val; omega
  | 1 => show win0_2.index t (1 : Fin 2) * 256 + 1 * l.val = L.val; omega

/-- The decay sums as the kernel stages them: split into tiles of 512 tokens. -/
theorem V_v0_apply (c : Dev nD) (b : Fin 2) (h : Fin 16) (n : Fin 8) (j : Fin 512) (s : Fin 4096)
    (hs : s.val = 512 * n.val + j.val) : V m c main_v0 (ix4 b h n j) = V m c main_arg4 (ix3 b h s) := by
  rw [V_main_arg4]
  show StableHlo.after hostOps0 _ (Proc.devRef .tc main_v0) _ = _
  after_results
  refine shapeCast_apply _ _ (ix4 b h n j) (ix3 b h s) ?_
  rw [Shape.rowMajor_val_three, Shape.rowMajor_val_four]
  show (b.val * 16 + h.val) * 4096 + s.val = ((b.val * 16 + h.val) * 8 + n.val) * 512 + j.val
  omega

/-- An element of the decay block. -/
theorem iblk4_apply (c : Dev nD) (t : Fin cfg0.N) (h : Fin 16) (n : Fin 8) (j : Fin 512) (s : Fin 4096)
    (hs : s.val = 512 * n.val + j.val) : iblk m c 4 t (ix4 0 h n j) = V m c main_arg4 (ix3 (bat t) h s) := by
  obtain ⟨e0, e1, e2, e3⟩ := index4 t
  rw [← V_v0_apply m c (bat t) h n j s hs]
  refine congrArg (V m c main_v0) (funext fun a => Fin.ext ?_)
  match a with
  | 0 => show win0_4.index t (0 : Fin 4) * 1 + 1 * 0 = t.val / 64; omega
  | 1 => show win0_4.index t (1 : Fin 4) * 16 + 1 * h.val = h.val; omega
  | 2 => show win0_4.index t (2 : Fin 4) * 8 + 1 * n.val = n.val; omega
  | 3 => show win0_4.index t (3 : Fin 4) * 512 + 1 * j.val = j.val; omega

/-- The keys' block does not change until the next head pair. -/
theorem keys_same (c : Dev nD) (t t' : Fin cfg0.N) (h : t.val / 8 = t'.val / 8) :
    (iblk m c 1 t : S4096x256.Idx → EReal) = iblk m c 1 t' := by
  have ht := N_le t
  funext y
  obtain ⟨r, l, rfl⟩ : ∃ (r : Fin 4096) (l : Fin 256), y = ix2 r l := ⟨y 0, y 1, eq_ix2 y⟩
  have hr := r.isLt
  have hl := l.isLt
  exact (iblk1_apply m c t r l ⟨4096 * (t.val / 64) + r.val, by omega⟩ ⟨256 * (t.val / 8 % 8) + l.val, by omega⟩ rfl rfl).trans
    (iblk1_apply m c t' r l _ _ (by show 4096 * (t.val / 64) + r.val = _; omega) (by show 256 * (t.val / 8 % 8) + l.val = _; omega)).symm

/-- Nor does the values' block. -/
theorem values_same (c : Dev nD) (t t' : Fin cfg0.N) (h : t.val / 8 = t'.val / 8) :
    (iblk m c 2 t : S4096x256.Idx → EReal) = iblk m c 2 t' := by
  have ht := N_le t
  funext y
  obtain ⟨r, l, rfl⟩ : ∃ (r : Fin 4096) (l : Fin 256), y = ix2 r l := ⟨y 0, y 1, eq_ix2 y⟩
  have hr := r.isLt
  have hl := l.isLt
  exact (iblk2_apply m c t r l ⟨4096 * (t.val / 64) + r.val, by omega⟩ ⟨256 * (t.val / 8 % 8) + l.val, by omega⟩ rfl rfl).trans
    (iblk2_apply m c t' r l _ _ (by show 4096 * (t.val / 64) + r.val = _; omega) (by show 256 * (t.val / 8 % 8) + l.val = _; omega)).symm

/-- What the two scratch arrays hold after every point: the point's own keys and values. -/
theorem carried (c : Dev nD) (n : ℕ) (hn : n < cfg0.N) :
    (outsAt0 m c n hn).2.1 = iblk m c 1 ⟨n, hn⟩ ∧ (outsAt0 m c n hn).2.2 = iblk m c 2 ⟨n, hn⟩ := by
  induction n with
  | zero =>
    have e : outsAt0 m c 0 hn = _ := outsAt0_A m c ⟨0, hn⟩ rfl
    rw [e]
    dsimp only
    rw [sout_A0, sout_A1]
    exact ⟨rfl, rfl⟩
  | succ n ih =>
    by_cases h0 : (n + 1) % 8 = 0
    · have e : outsAt0 m c (n + 1) hn = _ := outsAt0_A m c ⟨n + 1, hn⟩ h0
      rw [e]
      dsimp only
      rw [sout_A0, sout_A1]
      exact ⟨rfl, rfl⟩
    · have e : outsAt0 m c (n + 1) hn = _ := outsAt0_B m c ⟨n + 1, hn⟩ h0
      have hn' : n < cfg0.N := by omega
      obtain ⟨i1, i2⟩ := ih hn'
      have hd : n / 8 = (n + 1) / 8 := by omega
      rw [e]
      dsimp only
      unfold sout0_B_0 sout0_B_1
      exact ⟨i1.trans (keys_same m c ⟨n, hn'⟩ ⟨n + 1, hn⟩ hd), i2.trans (values_same m c ⟨n, hn'⟩ ⟨n + 1, hn⟩ hd)⟩

/-- What a grid point writes back: its tile's output over its own blocks. -/
theorem flushed_block (c : Dev nD) (t : Fin cfg0.N) : (dats m 0 c).flushed 5 t = (cfg0.win 5).cut (grid0.coords t)
    (blockOut (grid0.coords t) (iblk m c 0 t) (iblk m c 1 t) (iblk m c 2 t) (iblk m c 3 t) (iblk m c 4 t)) := by
  by_cases h0 : t.val % 8 = 0
  · rw [flushed5_A m c t h0, out_A]
  · have hp : t.val - 1 < cfg0.N := Nat.lt_of_le_of_lt (Nat.sub_le _ _) t.isLt
    have hd : (t.val - 1) / 8 = t.val / 8 := by omega
    obtain ⟨i1, i2⟩ := carried m c (t.val - 1) hp
    rw [flushed5_B m c t h0, out_B, i1, i2]
    congr 2
    · exact keys_same m c ⟨t.val - 1, hp⟩ t hd
    · exact values_same m c ⟨t.val - 1, hp⟩ t hd

/-- A grid point writes back its block of the gated attention of the arguments. -/
theorem flushed_fox (c : Dev nD) (hq : ∀ y, (V m c main_arg0 : S8192x2048.Idx → EReal) y = ((V m c main_arg0 y : EReal).toReal : EReal))
    (hk : ∀ y, (V m c main_arg1 : S8192x2048.Idx → EReal) y = ((V m c main_arg1 y : EReal).toReal : EReal))
    (hc : ∀ y, (V m c main_arg4 : S2x16x4096.Idx → EReal) y = ((V m c main_arg4 y : EReal).toReal : EReal)) (t : Fin cfg0.N) :
    (dats m 0 c).flushed 5 t = ((cfg0.win 5).blk t).view.read (Elt Ideal)
      (fox (V m c main_arg0) (V m c main_arg1) (V m c main_arg2) (V m c main_arg3) (V m c main_arg4)) := by
  obtain ⟨c1, c2⟩ := coords_eq t
  obtain ⟨e0, e1⟩ := index5 t
  have ht := N_le t
  rw [flushed_block]
  funext y
  obtain ⟨r, l, rfl⟩ : ∃ (r : Fin 512) (l : Fin 256), y = ix2 r l := ⟨y 0, y 1, eq_ix2 y⟩
  have hr := r.isLt
  have hl := l.isLt
  let u : Fin 2 := ⟨l.val / 128, by omega⟩
  let d : Fin 128 := ⟨l.val % 128, Nat.mod_lt _ (by decide)⟩
  let T : Fin 4096 := ⟨512 * (t.val % 8) + r.val, by omega⟩
  have hh : (hd (grid0.coords t) u).val = 2 * (t.val / 8 % 8) + l.val / 128 := by
    show 2 * (grid0.coords t 1).val + l.val / 128 = _
    rw [c1]
  have hlane : ∀ d' : Fin 128, (lane (hd (grid0.coords t) u) d').val = 256 * (t.val / 8 % 8) + (128 * u.val + d'.val) := by
    intro d'
    show 128 * (hd (grid0.coords t) u).val + d'.val = 256 * (t.val / 8 % 8) + (128 * (l.val / 128) + d'.val)
    omega
  have hrow : (row (bat t) T).val = 512 * (8 * (t.val / 64) + t.val % 8) + r.val := by
    show 4096 * (t.val / 64) + (512 * (t.val % 8) + r.val) = _
    omega
  have hemb : ((cfg0.win 5).blk t).view.emb (ix2 r l) = (ix2 (row (bat t) T) (lane (hd (grid0.coords t) u) d) : S8192x2048.Idx) := by
    refine funext fun a => Fin.ext ?_
    match a with
    | 0 => show win0_5.index t (0 : Fin 2) * 512 + 1 * r.val = (row (bat t) T).val; omega
    | 1 =>
      show win0_5.index t (1 : Fin 2) * 256 + 1 * l.val = (lane (hd (grid0.coords t) u) d).val
      rw [hlane]
      show _ = 256 * (t.val / 8 % 8) + (128 * (l.val / 128) + l.val % 128)
      omega
  show blockOut (grid0.coords t) (iblk m c 0 t) (iblk m c 1 t) (iblk m c 2 t) (iblk m c 3 t) (iblk m c 4 t) (ix2 r l)
    = fox (V m c main_arg0) (V m c main_arg1) (V m c main_arg2) (V m c main_arg3) (V m c main_arg4) (((cfg0.win 5).blk t).view.emb (ix2 r l))
  rw [hemb]
  refine blockOut_fox (grid0.coords t) (iblk m c 0 t) (iblk m c 1 t) (iblk m c 2 t) (iblk m c 3 t) (iblk m c 4 t)
    _ _ _ _ _ hq hk hc (bat t) u r d T (by rw [c2]) ?_ ?_ ?_ ?_ ?_
  · exact fun d' => iblk0_apply m c t r _ _ _ hrow (hlane d')
  · exact fun n j d' s hs => iblk1_apply m c t _ _ _ _ (congrArg (4096 * (t.val / 64) + ·) hs) (hlane d')
  · exact fun n j d' s hs => iblk2_apply m c t _ _ _ _ (congrArg (4096 * (t.val / 64) + ·) hs) (hlane d')
  · exact iblk3_apply m c t r _ _ _ hrow (hlane d)
  · exact fun n j s hs => iblk4_apply m c t _ n j s hs

/-- Every element of the result lies in some grid point's block. -/
theorem covered (i : S8192x2048.Idx) :
    ∃ t : Fin cfg0.N, (cfg0.win 5).flush t = true ∧ i ∈ ((cfg0.win 5).blk t).view.set := by
  have h0 : (i 0).val < 8192 := (i 0).isLt
  have h1 : (i 1).val < 2048 := (i 1).isLt
  let t : Fin cfg0.N := ⟨(i 0).val / 4096 * 64 + (i 1).val / 256 * 8 + (i 0).val % 4096 / 512,
    lt_of_lt_of_eq (b := 128) (by omega) (show 128 = cfg0.N from N_0.symm)⟩
  obtain ⟨e0, e1⟩ := index5 t
  have tv : t.val = (i 0).val / 4096 * 64 + (i 1).val / 256 * 8 + (i 0).val % 4096 / 512 := rfl
  refine ⟨t, flush0_5 t, ?_⟩
  have hm := ((cfg0.win 5).blk t).view.emb_mem_set (ix2 ⟨(i 0).val % 512, by omega⟩ ⟨(i 1).val % 256, by omega⟩)
  have he : ((cfg0.win 5).blk t).view.emb (ix2 ⟨(i 0).val % 512, by omega⟩ ⟨(i 1).val % 256, by omega⟩) = i := by
    refine funext fun a => Fin.ext ?_
    match a with
    | 0 => show win0_5.index t (0 : Fin 2) * 512 + 1 * ((i 0).val % 512) = (i 0).val; omega
    | 1 => show win0_5.index t (1 : Fin 2) * 256 + 1 * ((i 1).val % 256) = (i 1).val; omega
  rwa [he] at hm

/-- The kernel's result: the gated attention of its arguments. -/
theorem final (c : Dev nD) (hq : ∀ y, (m ((c : Thread nD τ).loc main_arg0) : S8192x2048.Idx → EReal) y = ((m ((c : Thread nD τ).loc main_arg0) y : EReal).toReal : EReal))
    (hk : ∀ y, (m ((c : Thread nD τ).loc main_arg1) : S8192x2048.Idx → EReal) y = ((m ((c : Thread nD τ).loc main_arg1) y : EReal).toReal : EReal))
    (hc : ∀ y, (m ((c : Thread nD τ).loc main_arg4) : S2x16x4096.Idx → EReal) y = ((m ((c : Thread nD τ).loc main_arg4) y : EReal).toReal : EReal)) :
    (dats m 0 c).arrAt 5 cfg0.N = fox (m ((c : Thread nD τ).loc main_arg0)) (m ((c : Thread nD τ).loc main_arg1))
      (m ((c : Thread nD τ).loc main_arg2)) (m ((c : Thread nD τ).loc main_arg3)) (m ((c : Thread nD τ).loc main_arg4)) := by
  refine ((dats m 0 c).arrAt_eq_of_cover 5 (fox (V m c main_arg0) (V m c main_arg1) (V m c main_arg2) (V m c main_arg3) (V m c main_arg4))
    (fun t _ => flushed_fox m c ?_ ?_ ?_ t) covered).trans ?_
  · rw [V_main_arg0]; exact hq
  · rw [V_main_arg1]; exact hk
  · rw [V_main_arg4]; exact hc
  · rw [V_main_arg0, V_main_arg1, V_main_arg2, V_main_arg3, V_main_arg4]

end Cert.KernelIdeal.Attn
-- ==== Proof.Ref.lean ====
module

public import proofs.«01_k».proof.Proof.Spec
public import proofs.«01_k».proof.Proof.Gen.ReferenceIdeal.Run
public import Idealize.ShloMosaic.Lib.KernelVsHost

@[expose] public section

set_option maxRecDepth 16384

noncomputable section

open Idealize.ShloMosaic Idealize.ShloMosaic.TcCoe Idealize.SL.Sem

namespace Cert.ReferenceIdeal.Attn
open Cert.ReferenceIdeal Cert.ReferenceIdeal.Gen Cert.KernelIdeal.Attn Cert.Attn

/-- The reference's scores: scaled query against key, plus the difference of the two decay sums. -/
def logits (q k : FVec Ideal S8192x2048 .f32) (ct : FVec Ideal S2x16x4096 .f32) : FVec Ideal S2x16x4096x4096 .f32 :=
  addf (Host.dotGeneral dot_S2x4096x16x128_S2x4096x16x128_S2x16x4096x4096_3_3_1_1_02_02 none (Host.divf (shapeCast _ q shapeCasts_S8192x2048_S2x4096x16x128) (broadcastInDim S2x4096x16x128 ![] bcast_S_S2x4096x16x128 (Host.sqrt (constant S_ .f32 0x43000000#32)))) (shapeCast _ k shapeCasts_S8192x2048_S2x4096x16x128)) (subf (broadcastInDim S2x16x4096x4096 ![0, 1, 2, 3] bcast_S2x16x4096x1_S2x16x4096x4096_0_1_2_3 (broadcastInDim S2x16x4096x1 ![0, 1, 2] bcast_S2x16x4096_S2x16x4096x1_0_1_2 ct)) (broadcastInDim S2x16x4096x4096 ![0, 1, 2, 3] bcast_S2x16x1x4096_S2x16x4096x4096_0_1_2_3 (broadcastInDim S2x16x1x4096 ![0, 1, 3] bcast_S2x16x4096_S2x16x1x4096_0_1_3 ct)))

/-- The scores with the keys after the query masked. -/
def masked (x : FVec Ideal S2x16x4096x4096 .f32) : FVec Ideal S2x16x4096x4096 .f32 :=
  select (broadcastInDim S2x16x4096x4096 ![2, 3] bcast_S4096x4096_S2x16x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) x (broadcastInDim S2x16x4096x4096 ![] bcast_S_S2x16x4096x4096 (id (constant S_ .f32 0xFF800000#32)))

/-- The greatest score of each row. -/
def top (x : FVec Ideal S2x16x4096x4096 .f32) : FVec Ideal S2x16x4096 .f32 :=
  maximumf (broadcastInDim S2x16x4096 ![] bcast_S_S2x16x4096 (constant S_ .f32 0xFF800000#32)) (Host.reduce FloatOps.maximumf x (constant S_ .f32 0xFF800000#32) reducesTo_S2x16x4096x4096_S2x16x4096_d3 h_S_)

/-- A row's number at every key. -/
def spread (x : FVec Ideal S2x16x4096 .f32) : FVec Ideal S2x16x4096x4096 .f32 :=
  broadcastInDim S2x16x4096x4096 ![0, 1, 2, 3] bcast_S2x16x4096x1_S2x16x4096x4096_0_1_2_3 (broadcastInDim S2x16x4096x1 ![0, 1, 2] bcast_S2x16x4096_S2x16x4096x1_0_1_2 x)

/-- The exponentials of the scores less their row's greatest. -/
def exps (x : FVec Ideal S2x16x4096x4096 .f32) : FVec Ideal S2x16x4096x4096 .f32 := Host.exp (subf x (spread (top x)))

/-- The sum of each row. -/
def total (x : FVec Ideal S2x16x4096x4096 .f32) : FVec Ideal S2x16x4096 .f32 :=
  Host.reduceAdd x (constant S_ .f32 0x00000000#32) reducesTo_S2x16x4096x4096_S2x16x4096_d3 h_S_

/-- The softmax of a block of scores. -/
def soft (x : FVec Ideal S2x16x4096x4096 .f32) : FVec Ideal S2x16x4096x4096 .f32 := Host.divf (exps x) (spread (total (exps x)))

/-- The weighted values, head by head. -/
def mixed (v : FVec Ideal S8192x2048 .f32) (p : FVec Ideal S2x16x4096x4096 .f32) : FVec Ideal S2x16x128x4096 .f32 :=
  Host.dotGeneral dot_S2x4096x16x128_S2x16x4096x4096_S2x16x128x4096_1_3_3_2_02_01 none (shapeCast _ v shapeCasts_S8192x2048_S2x4096x16x128) p

theorem split_apply (x : FVec Ideal S8192x2048 .f32) (b : Fin 2) (t : Fin 4096) (h : Fin 16) (d : Fin 128) :
    (shapeCast S2x4096x16x128 x shapeCasts_S8192x2048_S2x4096x16x128 : FVec Ideal S2x4096x16x128 .f32) (ix4 b t h d) = x (ix2 (row b t) (lane h d)) := by
  refine shapeCast_apply _ _ (ix4 b t h d) (ix2 (row b t) (lane h d)) ?_
  rw [Shape.rowMajor_val_two, Shape.rowMajor_val_four]
  show (4096 * b.val + t.val) * 2048 + (128 * h.val + d.val) = ((b.val * 4096 + t.val) * 16 + h.val) * 128 + d.val
  omega

theorem scores_dot (x y : FVec Ideal S2x4096x16x128 .f32) (b : Fin 2) (h : Fin 16) (t s : Fin 4096) :
    Host.dotGeneral dot_S2x4096x16x128_S2x4096x16x128_S2x16x4096x4096_3_3_1_1_02_02 none x y (ix4 b h t s)
      = ∑ d : Fin 128, x (ix4 b t h d) * y (ix4 b s h d) := by
  simp only [Host.dotGeneral]
  rw [Ideal.dotGeneral_apply, ← Equiv.sum_comp (ValueIdx.contrEquiv1 dot_S2x4096x16x128_S2x4096x16x128_S2x16x4096x4096_3_3_1_1_02_02 128 rfl rfl).symm]
  refine Finset.sum_congr rfl fun d _ => ?_
  have h0 := ValueIdx.contrEquiv1_symm_val dot_S2x4096x16x128_S2x4096x16x128_S2x16x4096x4096_3_3_1_1_02_02 128 rfl rfl d
  refine congrArg₂ (fun a b : EReal => a * b) (congrArg x ?_) (congrArg y ?_)
  · funext a; apply Fin.ext
    match a with
    | ⟨0, _⟩ => rfl
    | ⟨1, _⟩ => rfl
    | ⟨2, _⟩ => rfl
    | ⟨3, _⟩ => exact h0
  · funext a; apply Fin.ext
    match a with
    | ⟨0, _⟩ => rfl
    | ⟨1, _⟩ => rfl
    | ⟨2, _⟩ => rfl
    | ⟨3, _⟩ => exact h0

theorem mixed_dot (x : FVec Ideal S2x4096x16x128 .f32) (y : FVec Ideal S2x16x4096x4096 .f32) (b : Fin 2) (h : Fin 16) (t : Fin 4096) (d : Fin 128) :
    Host.dotGeneral dot_S2x4096x16x128_S2x16x4096x4096_S2x16x128x4096_1_3_3_2_02_01 none x y (ix4 b h d t)
      = ∑ s : Fin 4096, x (ix4 b s h d) * y (ix4 b h t s) := by
  simp only [Host.dotGeneral]
  rw [Ideal.dotGeneral_apply, ← Equiv.sum_comp (ValueIdx.contrEquiv1 dot_S2x4096x16x128_S2x16x4096x4096_S2x16x128x4096_1_3_3_2_02_01 4096 rfl rfl).symm]
  refine Finset.sum_congr rfl fun s _ => ?_
  have h0 := ValueIdx.contrEquiv1_symm_val dot_S2x4096x16x128_S2x16x4096x4096_S2x16x128x4096_1_3_3_2_02_01 4096 rfl rfl s
  refine congrArg₂ (fun a b : EReal => a * b) (congrArg x ?_) (congrArg y ?_)
  · funext a; apply Fin.ext
    match a with
    | ⟨0, _⟩ => rfl
    | ⟨1, _⟩ => exact h0
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => exact h0

theorem reduces : S2x16x4096x4096.Reduces [3] S2x16x4096 := by decide

theorem lift_eq {a b c n : ℕ} (h : (⟨4, ![a, b, c, n]⟩ : Shape).Reduces [3] ⟨3, ![a, b, c]⟩) (i : Fin a) (j : Fin b) (k : Fin c) (s : Fin n) :
    h.lift (ix3 i j k) s = ix4 i j k s :=
  funext fun a => Fin.ext (match a with | 0 => rfl | 1 => rfl | 2 => rfl | 3 => rfl)

theorem negInf : (FloatOps.ofBits (F := Ideal) .f32 0xFF800000#32 : EReal) = ⊥ := negInf_f32

/-- The greatest along the last of four axes. -/
theorem max_last {a b c n : ℕ} (x : FVec Ideal ⟨4, ![a, b, c, n]⟩ .f32) (h' : (⟨4, ![a, b, c, n]⟩ : Shape).ReducesTo [3] ⟨3, ![a, b, c]⟩)
    (h : (⟨4, ![a, b, c, n]⟩ : Shape).Reduces [3] ⟨3, ![a, b, c]⟩) (i : Fin a) (j : Fin b) (k : Fin c) :
    Host.reduce FloatOps.maximumf x (constant S_ .f32 0xFF800000#32) h' h_S_ (ix3 i j k)
      = (Finset.univ : Finset (Fin n)).fold max (⊥ : EReal) fun s => x (ix4 i j k s) := by
  refine (congrFun (hostReduce_maximumf_eq_multiReduction (F := Ideal) (φ := .f32) x 0xFF800000#32 h' h_S_ h (.inl rfl) rfl) _).trans ?_
  refine (Ideal.multiReduction_maximumf_single _ _ _ _ _ _).trans ?_
  refine congrArg₂ (fun b f => (Finset.univ : Finset (Fin n)).fold max b f) negInf (funext fun s => ?_)
  exact congrArg x (lift_eq h i j k s)

/-- The sum along the last of four axes. -/
theorem sum_last {a b c n : ℕ} (x : FVec Ideal ⟨4, ![a, b, c, n]⟩ .f32) (h' : (⟨4, ![a, b, c, n]⟩ : Shape).ReducesTo [3] ⟨3, ![a, b, c]⟩)
    (h : (⟨4, ![a, b, c, n]⟩ : Shape).Reduces [3] ⟨3, ![a, b, c]⟩) (i : Fin a) (j : Fin b) (k : Fin c) :
    Host.reduceAdd x (constant S_ .f32 0x00000000#32) h' h_S_ (ix3 i j k) = ∑ s : Fin n, (x (ix4 i j k s) : EReal) := by
  refine (Ideal.hostReduceAdd_single h' h x _ (ix3 i j k)).trans ?_
  have e1 : (FloatOps.ofBits (F := Ideal) .f32 0x00000000#32 : EReal) = 0 := by pointwise
  exact (congrArg (· + _) e1).trans ((zero_add _).trans (Finset.sum_congr rfl fun s _ => congrArg x (lift_eq h i j k s)))

theorem max_bot (A B : FVec Ideal S2x16x4096 .f32) (i : S2x16x4096.Idx) (y : EReal) (hA : A i = (⊥ : EReal)) (hB : B i = y) :
    maximumf A B i = y := by
  have e : maximumf A B i = max (A i : EReal) (B i) := rfl
  rw [e, hA, hB, max_eq_right bot_le]

theorem top_apply (x : FVec Ideal S2x16x4096x4096 .f32) (b : Fin 2) (h : Fin 16) (t : Fin 4096) :
    top x (ix3 b h t) = (Finset.univ : Finset (Fin 4096)).fold max (⊥ : EReal) fun s => x (ix4 b h t s) := by
  have e1 : broadcastInDim S2x16x4096 ![] bcast_S_S2x16x4096 (constant (F := Ideal) S_ .f32 0xFF800000#32) (ix3 b h t) = (⊥ : EReal) := by
    pointwise
    exact negInf
  unfold top
  exact max_bot _ _ _ _ e1 (max_last x _ reduces b h t)

theorem total_apply (x : FVec Ideal S2x16x4096x4096 .f32) (b : Fin 2) (h : Fin 16) (t : Fin 4096) :
    total x (ix3 b h t) = ∑ s : Fin 4096, (x (ix4 b h t s) : EReal) := by
  unfold total
  exact sum_last x _ reduces b h t

theorem spread_apply (x : FVec Ideal S2x16x4096 .f32) (b : Fin 2) (h : Fin 16) (t s : Fin 4096) :
    spread x (ix4 b h t s) = x (ix3 b h t) := by
  unfold spread
  pointwise

theorem exps_apply (x : FVec Ideal S2x16x4096x4096 .f32) (b : Fin 2) (h : Fin 16) (t s : Fin 4096) :
    exps x (ix4 b h t s) = Ideal.exp (x (ix4 b h t s) - top x (ix3 b h t)) := by
  unfold exps
  pointwise [spread_apply]

theorem soft_apply (x : FVec Ideal S2x16x4096x4096 .f32) (b : Fin 2) (h : Fin 16) (t s : Fin 4096) :
    soft x (ix4 b h t s) = Ideal.div (Ideal.exp (x (ix4 b h t s) - top x (ix3 b h t)))
      (∑ s' : Fin 4096, Ideal.exp (x (ix4 b h t s') - top x (ix3 b h t))) := by
  unfold soft
  pointwise [spread_apply, total_apply, exps_apply]

theorem masked_apply (x : FVec Ideal S2x16x4096x4096 .f32) (b : Fin 2) (h : Fin 16) (t s : Fin 4096) :
    masked x (ix4 b h t s) = if s ≤ t then x (ix4 b h t s) else (⊥ : EReal) := by
  unfold masked
  pointwise
  have hc := WordCmp.cmpi_sle_ofNat_eq_one_iff (w := 32) (a := s.val) (b := t.val)
    (show s.val < 2 ^ 31 by omega) (show t.val < 2 ^ 31 by omega)
  by_cases h : s ≤ t
  · exact (if_pos (hc.2 h)).trans (if_pos h).symm
  · exact (if_neg fun e => h (hc.1 e)).trans (negInf.trans (if_neg h).symm)

theorem sqrt_word : Ideal.sqrt (Ideal.ofBits .f32 0x43000000#32) = ((Real.sqrt 128 : ℝ) : EReal) := by
  have e : Ideal.ofBits .f32 0x43000000#32 = ((128 : ℝ) : EReal) := by
    simp [Ideal.ofBits, Ideal.ieee, -EReal.coe_mul]
    norm_num
  rw [e, Ideal.sqrt_coe, if_neg (by norm_num)]

theorem logits_apply (q k : FVec Ideal S8192x2048 .f32) (ct : FVec Ideal S2x16x4096 .f32) (b : Fin 2) (h : Fin 16) (t s : Fin 4096) :
    logits q k ct (ix4 b h t s) = (∑ d : Fin 128, Ideal.div (q (ix2 (row b t) (lane h d))) ((Real.sqrt 128 : ℝ) : EReal) * k (ix2 (row b s) (lane h d)))
      + (ct (ix3 b h t) - ct (ix3 b h s)) := by
  unfold logits
  pointwise [scores_dot, split_apply]
  rw [sqrt_word]

/-- A score of real queries, keys and decay sums: the kernel's, shifted by the decay since the tile's first token. -/
theorem logits_real (q k : FVec Ideal S8192x2048 .f32) (ct : FVec Ideal S2x16x4096 .f32)
    (hq : ∀ y, (q y : EReal) = ((q y : EReal).toReal : EReal)) (hk : ∀ y, (k y : EReal) = ((k y : EReal).toReal : EReal))
    (hc : ∀ y, (ct y : EReal) = ((ct y : EReal).toReal : EReal)) (b : Fin 2) (h : Fin 16) (t s : Fin 4096) :
    logits q k ct (ix4 b h t s) = ((score q k ct b h t s.val
      + ((ct (ix3 b h t) : EReal).toReal - (ct (ix3 b h (base t)) : EReal).toReal) : ℝ) : EReal) := by
  have h128 : Real.sqrt 128 ≠ 0 := (Real.sqrt_pos.mpr (by norm_num)).ne'
  rw [logits_apply, score_lt]
  have e : ∀ d : Fin 128, Ideal.div (q (ix2 (row b t) (lane h d))) ((Real.sqrt 128 : ℝ) : EReal) * k (ix2 (row b s) (lane h d))
      = (((q (ix2 (row b t) (lane h d)) : EReal).toReal * (Real.sqrt 128)⁻¹ * (k (ix2 (row b s) (lane h d)) : EReal).toReal : ℝ) : EReal) := by
    intro d
    rw [Ideal.div_coe h128, EReal.coe_mul, EReal.coe_mul, one_div, ← hq, ← hk]
  rw [Finset.sum_congr rfl fun d _ => e d, ← coe_sum, hc (ix3 b h t), hc (ix3 b h s), ← EReal.coe_sub, ← EReal.coe_add]
  congr 1
  simp only [EReal.toReal_coe]
  ring

/-- The reference's result, operation by operation. -/
def plain (q k v g : FVec Ideal S8192x2048 .f32) (ct : FVec Ideal S2x16x4096 .f32) : FVec Ideal S8192x2048 .bf16 :=
  truncf .bf16 (mulf (shapeCast _ (transpose S2x4096x16x128 [0, 3, 1, 2] (mixed v (soft (masked (logits q k ct)))) transposes_S2x16x128x4096_S2x4096x16x128_0_3_1_2) shapeCasts_S2x4096x16x128_S8192x2048) (mulf g (Host.divf (broadcastInDim S8192x2048 ![] bcast_S_S8192x2048 (constant S_ .f32 0x3F800000#32)) (addf (broadcastInDim S8192x2048 ![] bcast_S_S8192x2048 (constant S_ .f32 0x3F800000#32)) (Host.exp (Host.negf g)))))) bitsLt_bf16_f32

theorem res_eq (m : (ℓ : Loc nD τ sig) → Buf (Elt Ideal) ℓ) (c : Dev nD) : Value.res_main_v36 m c
    = plain (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v36 plain mixed soft total exps spread top masked logits
  rfl

/-- The heads side by side again. -/
theorem join_apply (x : FVec Ideal S2x4096x16x128 .f32) (b : Fin 2) (t : Fin 4096) (h : Fin 16) (d : Fin 128) :
    (shapeCast S8192x2048 x shapeCasts_S2x4096x16x128_S8192x2048 : FVec Ideal S8192x2048 .f32) (ix2 (row b t) (lane h d)) = x (ix4 b t h d) := by
  refine shapeCast_apply _ _ (ix2 (row b t) (lane h d)) (ix4 b t h d) ?_
  rw [Shape.rowMajor_val_two, Shape.rowMajor_val_four]
  show ((b.val * 4096 + t.val) * 16 + h.val) * 128 + d.val = (4096 * b.val + t.val) * 2048 + (128 * h.val + d.val)
  omega

theorem plain_apply (q k v g : FVec Ideal S8192x2048 .f32) (ct : FVec Ideal S2x16x4096 .f32) (b : Fin 2) (t : Fin 4096) (h : Fin 16) (d : Fin 128) :
    plain q k v g ct (ix2 (row b t) (lane h d)) = mixed v (soft (masked (logits q k ct))) (ix4 b h d t)
      * (g (ix2 (row b t) (lane h d)) * Ideal.logistic (g (ix2 (row b t) (lane h d)))) := by
  unfold plain
  pointwise [join_apply]
  rfl

theorem mixed_apply (v : FVec Ideal S8192x2048 .f32) (p : FVec Ideal S2x16x4096x4096 .f32) (b : Fin 2) (h : Fin 16) (t : Fin 4096) (d : Fin 128) :
    mixed v p (ix4 b h d t) = ∑ s : Fin 4096, v (ix2 (row b s) (lane h d)) * p (ix4 b h t s) := by
  unfold mixed
  rw [mixed_dot]
  exact Finset.sum_congr rfl fun s _ => by rw [split_apply]

/-- The reference's result is the gated attention of its arguments. -/
theorem plain_fox (q k v g : FVec Ideal S8192x2048 .f32) (ct : FVec Ideal S2x16x4096 .f32)
    (hq : ∀ y, (q y : EReal) = ((q y : EReal).toReal : EReal)) (hk : ∀ y, (k y : EReal) = ((k y : EReal).toReal : EReal))
    (hc : ∀ y, (ct y : EReal) = ((ct y : EReal).toReal : EReal)) : (plain q k v g ct : S8192x2048.Idx → EReal) = fox q k v g ct := by
  funext y
  have h0 : (y 0).val < 8192 := (y 0).isLt
  have h1 : (y 1).val < 2048 := (y 1).isLt
  obtain ⟨b, t, h, d, rfl⟩ : ∃ b t h d, y = ix2 (row b t) (lane h d) :=
    ⟨⟨(y 0).val / 4096, by omega⟩, ⟨(y 0).val % 4096, by omega⟩, ⟨(y 1).val / 128, by omega⟩, ⟨(y 1).val % 128, by omega⟩,
      funext fun a => Fin.ext (match a with
        | 0 => (Nat.div_add_mod (y 0).val 4096).symm
        | 1 => (Nat.div_add_mod (y 1).val 128).symm)⟩
  rw [plain_apply, fox_apply, mixed_apply]
  refine congrArg (· * _) ?_
  have hs : ∀ s : Fin 4096, Score (masked (logits q k ct) (ix4 b h t s))
      (weight (score q k ct b h t) t.val s.val * Real.exp ((ct (ix3 b h t) : EReal).toReal - (ct (ix3 b h (base t)) : EReal).toReal)) := by
    intro s
    rw [masked_apply]
    by_cases hst : s ≤ t
    · rw [if_pos hst, logits_real q k ct hq hk hc, weight, if_pos (show s.val ≤ t.val from hst)]
      exact Or.inr ⟨_, rfl, (Real.exp_add _ _).symm⟩
    · rw [if_neg hst, weight, if_neg (show ¬ s.val ≤ t.val from hst)]
      exact Or.inl ⟨rfl, zero_mul _⟩
  obtain ⟨M, hM⟩ := fold_max_real (fun s : Fin 4096 => (masked (logits q k ct) (ix4 b h t s) : EReal)) _ hs 0
    (mul_pos (weight_pos _ (Nat.zero_le _)) (Real.exp_pos _))
  have e : ∀ s : Fin 4096, (v (ix2 (row b s) (lane h d)) : EReal) * soft (masked (logits q k ct)) (ix4 b h t s)
      = v (ix2 (row b s) (lane h d)) * Ideal.div (Ideal.exp (masked (logits q k ct) (ix4 b h t s) - (M : EReal)))
        (∑ s' : Fin 4096, Ideal.exp (masked (logits q k ct) (ix4 b h t s') - (M : EReal))) := by
    intro s
    rw [soft_apply, top_apply, hM]
  rw [Finset.sum_congr rfl fun s _ => e s]
  exact softmax_attend (weight (score q k ct b h t) t.val) (values v b (lane h d)) _ M _ _ hs
    (fun s => weight_nonneg _ _ _) (fun s => (values_lt v b (lane h d) s).symm) (weight_sum_pos _ _ _ (by norm_num))

end Cert.ReferenceIdeal.Attn
-- ==== Proof.Finite.lean ====
module

public import proofs.«01_k».proof.Proof.Softmax
public import proofs.«01_k».proof.Proof.Gen.Pre_finite_scores
public import Idealize.ShloMosaic.Lib.IdealHost
public import Idealize.ShloMosaic.Lib.Pointwise.Tactic

@[expose] public section

noncomputable section

open Idealize.ShloMosaic

namespace Cert.Attn

/-- A number whose magnitude is below the pattern of infinity is a real. -/
theorem real_of_olt (x : EReal)
    (h : Ideal.cmp .olt (max x (-x)) (Ideal.ofBits .f32 0x7F800000#32) = 1#1) : x = (x.toReal : EReal) := by
  have e : Ideal.ofBits .f32 0x7F800000#32 = ⊤ := by
    unfold Ideal.ofBits Ideal.ieee
    simp
  rw [e] at h
  have hl : max x (-x) < ⊤ := by
    by_contra hn
    simp [Ideal.cmp, hn] at h
  have ht : x ≠ ⊤ := fun e' => by rw [e'] at hl; simp at hl
  have hb : x ≠ ⊥ := fun e' => by rw [e'] at hl; simp at hl
  exact (EReal.coe_toReal ht hb).symm

/-- An array the precondition finds below infinity everywhere is an array of reals. -/
theorem reals_of_ones {s z : Shape} (x : FVec Ideal s .f32) (dims : Fin z.rank → Fin s.rank) (hb : z.BroadcastsInDim s dims)
    (h : cmpf .olt (Host.absf x) (broadcastInDim s dims hb (constant (F := Ideal) z .f32 0x7F800000#32)) = fun _ => 1#1)
    (y : s.Idx) : (x y : EReal) = ((x y : EReal).toReal : EReal) :=
  real_of_olt (x y) (congrFun h y)

end Cert.Attn
-- ==== Proof.Linear.lean ====
module

public import Idealize.ShloMosaic.Lib.MatmulPlain
public import Idealize.ShloMosaic.Lib.IdealHost
public import Idealize.ShloMosaic.Lib.Pointwise.Tactic
public import Idealize.ShloMosaic.Lib.Pointwise.Reduce
public import Idealize.ShloMosaic.Lib.Pointwise.Contract
public import Idealize.ShloMosaic.Lib.ValueLayoutCasts

@[expose] public section

noncomputable section

open Idealize.ShloMosaic

namespace Cert.Linear

/-- The product of two matrices. -/
def prod {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- The sum of two arrays, entry by entry. -/
def plus {S : Shape} (x y : S.Idx → EReal) : S.Idx → EReal := fun i => x i + y i

/-- One row's root mean square norm, at a column: the entry by the reciprocal root of the row's mean square plus the
small constant, by the column's weight. -/
def rms {D : ℕ} (n eps : EReal) (x g : Fin D → EReal) (d : Fin D) : EReal :=
  x d * Ideal.rsqrt (Ideal.div (∑ k : Fin D, x k * x k) n + eps) * g d

/-- The norm of every row of a matrix, at the constants that the layer has: 2048 columns and one millionth. -/
def normed {M D : ℕ} (x : (⟨2, ![M, D]⟩ : Shape).Idx → EReal) (g : Fin D → EReal) : (⟨2, ![M, D]⟩ : Shape).Idx → EReal :=
  fun i => rms (Ideal.ofBits .f32 0x45000000#32) (Ideal.ofBits .f32 0x358637BD#32) (fun d => x (ix2 (i 0) d)) g (i 1)

/-- A layer's input projection of one token of a batch: the token's normed row by a column of the weights. -/
def zin {B T D N : ℕ} (x : (⟨3, ![B, T, D]⟩ : Shape).Idx → EReal) (g : Fin D → EReal) (w : Fin D → Fin N → EReal)
    (b : Fin B) (t : Fin T) (n : Fin N) : EReal :=
  ∑ k : Fin D, rms (Ideal.ofBits .f32 0x45000000#32) (Ideal.ofBits .f32 0x358637BD#32) (fun d => x (ix3 b t d)) g k * w k n

/-- The row of the flattened batch that a token takes. -/
def tok (b : Fin 2) (t : Fin 4096) : Fin 8192 := ⟨4096 * b.val + t.val, by omega⟩

theorem tok_surj (R : Fin 8192) : ∃ b t, R = tok b t :=
  ⟨⟨R.val / 4096, by omega⟩, ⟨R.val % 4096, by omega⟩, Fin.ext (by show R.val = 4096 * (R.val / 4096) + R.val % 4096; omega)⟩

/-- The column of the input projection that the windowed attention's column comes from: queries, gates, keys and values. -/
def swaCol (l : Fin 2304) : Fin 7040 :=
  if l.val < 1024 then ⟨4224 + l.val, by omega⟩ else if l.val < 2048 then ⟨5504 + (l.val - 1024), by omega⟩ else ⟨5248 + (l.val - 2048), by omega⟩

/-- The sum along the last axis of a matrix, read off the kernel's reduction. -/
theorem rowSum {M D : ℕ} (x : FVec Ideal ⟨2, ![M, D]⟩ .f32) (r : Fin M)
    (h : (⟨2, ![M, D]⟩ : Shape).Reduces [1] ⟨1, ![M]⟩) (h1 h2) :
    multiReduction .add [1] ⟨1, ![M]⟩ x 0x00000000#32 h h1 h2 (ix1 r) = ∑ d : Fin D, (x (ix2 r d) : EReal) := by
  pointwise

/-- The same sum kept as a column. -/
theorem colSum {M D : ℕ} (x : FVec Ideal ⟨2, ![M, D]⟩ .f32) (r : Fin M)
    (h : (⟨2, ![M, D]⟩ : Shape).Reduces [1] ⟨1, ![M]⟩) (h1 h2) (hc : (⟨1, ![M]⟩ : Shape).ShapeCasts ⟨2, ![M, 1]⟩) :
    shapeCast ⟨2, ![M, 1]⟩ (multiReduction .add [1] ⟨1, ![M]⟩ x 0x00000000#32 h h1 h2) hc (ix2 r 0)
      = ∑ d : Fin D, (x (ix2 r d) : EReal) :=
  (ValueIdx.shapeCast_a_a1_apply _ _ _ _).trans (rowSum x r h h1 h2)

end Cert.Linear
-- ==== Proof.Host.lean ====
module

public import proofs.«01_k».proof.Proof.Linear
public import Idealize.ShloMosaic.Lib.Pipeline.Value
public import Idealize.ShloMosaic.Lib.Tactic
public import Idealize.ShloMosaic.Lib.KernelVsHost

@[expose] public section

set_option maxRecDepth 16384

noncomputable section

open Idealize.ShloMosaic Idealize.ShloMosaic.TcCoe Idealize.SL.Sem

namespace Cert.Linear

/-- A product of every row of a batch of matrices with one matrix, read off the host's contraction. -/
theorem dot3_apply {B T K N : ℕ} (d : DotDims ⟨3, ![B, T, K]⟩ ⟨2, ![K, N]⟩ ⟨3, ![B, T, N]⟩)
    (wf : DotDims.WF ⟨3, ![B, T, K]⟩ ⟨2, ![K, N]⟩ ⟨3, ![B, T, N]⟩ [2] [0] [0, 1] [1] [] [])
    (hd : d = ⟨[2], [0], [0, 1], [1], [], [], wf⟩)
    (x : FVec Ideal ⟨3, ![B, T, K]⟩ .f32) (w : FVec Ideal ⟨2, ![K, N]⟩ .f32) (b : Fin B) (t : Fin T) (n : Fin N) :
    Host.dotGeneral d none x w (ix3 b t n) = ∑ k : Fin K, (x (ix3 b t k) : EReal) * w (ix2 k n) := by
  subst hd
  simp only [Host.dotGeneral]
  rw [Ideal.dotGeneral_apply, ← Equiv.sum_comp (ValueIdx.contrEquiv1 (⟨[2], [0], [0, 1], [1], [], [], wf⟩ : DotDims ⟨3, ![B, T, K]⟩ ⟨2, ![K, N]⟩ ⟨3, ![B, T, N]⟩) K rfl rfl).symm]
  refine Finset.sum_congr rfl fun k _ => ?_
  have h0 := ValueIdx.contrEquiv1_symm_val (⟨[2], [0], [0, 1], [1], [], [], wf⟩ : DotDims ⟨3, ![B, T, K]⟩ ⟨2, ![K, N]⟩ ⟨3, ![B, T, N]⟩) K rfl rfl k
  refine congrArg₂ (fun a b : EReal => a * b) (congrArg x ?_) (congrArg w ?_)
  · funext a; apply Fin.ext
    match a with
    | ⟨0, _⟩ => rfl
    | ⟨1, _⟩ => rfl
    | ⟨2, _⟩ => exact h0
  · funext a; apply Fin.ext
    match a with
    | ⟨0, _⟩ => exact h0
    | ⟨1, _⟩ => rfl

/-- A product of two matrices, read off the host's contraction. -/
theorem dot2_apply {T K N : ℕ} (d : DotDims ⟨2, ![T, K]⟩ ⟨2, ![K, N]⟩ ⟨2, ![T, N]⟩)
    (wf : DotDims.WF ⟨2, ![T, K]⟩ ⟨2, ![K, N]⟩ ⟨2, ![T, N]⟩ [1] [0] [0] [1] [] [])
    (hd : d = ⟨[1], [0], [0], [1], [], [], wf⟩)
    (x : FVec Ideal ⟨2, ![T, K]⟩ .f32) (w : FVec Ideal ⟨2, ![K, N]⟩ .f32) (t : Fin T) (n : Fin N) :
    Host.dotGeneral d none x w (ix2 t n) = ∑ k : Fin K, (x (ix2 t k) : EReal) * w (ix2 k n) := by
  subst hd
  simp only [Host.dotGeneral]
  rw [Ideal.dotGeneral_apply, ← Equiv.sum_comp (ValueIdx.contrEquiv1 (⟨[1], [0], [0], [1], [], [], wf⟩ : DotDims ⟨2, ![T, K]⟩ ⟨2, ![K, N]⟩ ⟨2, ![T, N]⟩) K rfl rfl).symm]
  refine Finset.sum_congr rfl fun k _ => ?_
  have h0 := ValueIdx.contrEquiv1_symm_val (⟨[1], [0], [0], [1], [], [], wf⟩ : DotDims ⟨2, ![T, K]⟩ ⟨2, ![K, N]⟩ ⟨2, ![T, N]⟩) K rfl rfl k
  refine congrArg₂ (fun a b : EReal => a * b) (congrArg x ?_) (congrArg w ?_)
  · funext a; apply Fin.ext
    match a with
    | ⟨0, _⟩ => rfl
    | ⟨1, _⟩ => exact h0
  · funext a; apply Fin.ext
    match a with
    | ⟨0, _⟩ => exact h0
    | ⟨1, _⟩ => rfl

theorem zero_word : (FloatOps.ofBits (F := Ideal) .f32 0x00000000#32 : EReal) = 0 := by pointwise

/-- The host's sum along the last of three axes. -/
theorem sum3_apply {B T D : ℕ} (x : FVec Ideal ⟨3, ![B, T, D]⟩ .f32) (h : (⟨3, ![B, T, D]⟩ : Shape).Reduces [2] ⟨2, ![B, T]⟩)
    (h' : (⟨3, ![B, T, D]⟩ : Shape).ReducesTo [2] ⟨2, ![B, T]⟩) {S : Shape} (hS : 0 < S.numel) (b : Fin B) (t : Fin T) :
    Host.reduceAdd x (constant S .f32 0x00000000#32) h' hS (ix2 b t) = ∑ d : Fin D, (x (ix3 b t d) : EReal) := by
  refine (Ideal.hostReduceAdd_single h' h x _ (ix2 b t)).trans ?_
  refine (congrArg (· + _) zero_word).trans ((zero_add _).trans (Finset.sum_congr rfl fun s _ => congrArg x ?_))
  funext a; apply Fin.ext
  match a with
  | ⟨0, _⟩ => rfl
  | ⟨1, _⟩ => rfl
  | ⟨2, _⟩ => rfl

/-- A concatenation along the last of three axes, read inside its piece. -/
theorem piece3 {B T n m : ℕ} {α : Type} (xs : List ((s : Shape) × (s.Idx → α))) (h : Shape.Concatenates (xs.map (·.1)) ⟨3, ![B, T, n]⟩ 2)
    (k : ℕ) (hk : k < xs.length) (x : (⟨3, ![B, T, m]⟩ : Shape).Idx → α) (hx : xs[k] = ⟨_, x⟩) (pre : ℕ)
    (hpre : (((xs.take k).map (·.1)).map fun s => if h : s.rank = (⟨3, ![B, T, n]⟩ : Shape).rank then s.size ((2 : Fin 3).cast h.symm) else 0).sum = pre)
    (b : Fin B) (t : Fin T) (l : Fin n) (p : Fin m) (e : pre + p.val = l.val) :
    concatenate ⟨3, ![B, T, n]⟩ 2 xs h (ix3 b t l) = x (ix3 b t p) :=
  concatenate_apply_piece 2 xs h (ix3 b t l) k hk _ x hx rfl pre hpre (ix3 b t p)
    (fun a => match a with | 0 => fun _ => rfl | 1 => fun _ => rfl | 2 => fun ha => absurd rfl ha) e

/-- A concatenation along the last of two axes, read inside its piece. -/
theorem piece2 {T n m : ℕ} {α : Type} (xs : List ((s : Shape) × (s.Idx → α))) (h : Shape.Concatenates (xs.map (·.1)) ⟨2, ![T, n]⟩ 1)
    (k : ℕ) (hk : k < xs.length) (x : (⟨2, ![T, m]⟩ : Shape).Idx → α) (hx : xs[k] = ⟨_, x⟩) (pre : ℕ)
    (hpre : (((xs.take k).map (·.1)).map fun s => if h : s.rank = (⟨2, ![T, n]⟩ : Shape).rank then s.size ((1 : Fin 2).cast h.symm) else 0).sum = pre)
    (t : Fin T) (l : Fin n) (p : Fin m) (e : pre + p.val = l.val) :
    concatenate ⟨2, ![T, n]⟩ 1 xs h (ix2 t l) = x (ix2 t p) :=
  concatenate_apply_piece 1 xs h (ix2 t l) k hk _ x hx rfl pre hpre (ix2 t p)
    (fun a => match a with | 0 => fun _ => rfl | 1 => fun ha => absurd rfl ha) e

end Cert.Linear
-- ==== Proof.InRegions.lean ====
module

public import proofs.«01_k».proof.Proof.Linear
public import proofs.«01_k».proof.Proof.Gen.Kernel2Ideal
public import proofs.«01_k».proof.Proof.Gen.Kernel2Ideal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.Kernel2Ideal.Linear
open Cert.Kernel2Ideal.Gen Cert.Linear

theorem z2 : (![0, 0] : Fin 2 → ℕ) = fun _ => 0 := funext fun a => match a with | 0 => rfl | 1 => rfl

variable (V : (c : Dev nD) → (b : Ref sig .tc) → Buf (Elt Ideal) ((c : Thread nD τ).loc b))

/-- The block window 0 of region 0 takes at a grid point. -/
theorem index0_0 : ∀ t : Fin cfg0.N, win0_0.index t (0 : Fin 2) = t.val ∧ win0_0.index t (1 : Fin 2) = 0 :=
  (by decide +kernel : ∀ t : Fin grid0.N, _)

/-- The block window 1 of region 0 takes at a grid point. -/
theorem index0_1 : ∀ t : Fin cfg0.N, win0_1.index t (0 : Fin 2) = 0 ∧ win0_1.index t (1 : Fin 2) = 0 :=
  (by decide +kernel : ∀ t : Fin grid0.N, _)

/-- The block window 2 of region 0 takes at a grid point. -/
theorem index0_2 : ∀ t : Fin cfg0.N, win0_2.index t (0 : Fin 2) = t.val ∧ win0_2.index t (1 : Fin 2) = 0 :=
  (by decide +kernel : ∀ t : Fin grid0.N, _)

theorem N_le0 (t : Fin cfg0.N) : t.val < 16 := lt_of_lt_of_eq t.isLt (show cfg0.N = 16 from N_0)

/-- The block stored at a grid point is the norm of the rows loaded there. -/
theorem pay0_apply (x : FVec Ideal S512x2048 .f32) (g : FVec Ideal S1x2048 .f32) (r : Fin 512) (l : Fin 2048) :
    (k0_pay1 (F := Ideal) x g : S512x2048.Idx → EReal) (ix2 r l) = rms (Ideal.ofBits .f32 0x45000000#32) (Ideal.ofBits .f32 0x358637BD#32)
      (fun d => (x (ix2 r d) : EReal)) (fun d => (g (ix2 0 d) : EReal)) l := by
  unfold k0_pay1 rms
  simp only [shapeCast_self]
  pointwise
  exact congrArg (fun s : EReal => (x (ix2 r l) : EReal) * Ideal.rsqrt (Ideal.div s (Ideal.ofBits .f32 0x45000000#32)
    + Ideal.ofBits .f32 0x358637BD#32) * (g (ix2 0 l) : EReal)) (colSum (mulf x x) r _ _ _ _)

/-- An element of window 0's block in region 0. -/
theorem blk0_0 (c : Dev nD) (t : Fin cfg0.N) (r : Fin 512) (l : Fin 2048) (R : Fin 8192) (L : Fin 2048)
    (hR : R.val = 512 * t.val + r.val) (hL : L.val = l.val) : iblk0 V c 0 t (ix2 r l) = V c main_v1 (ix2 R L) := by
  obtain ⟨e0, e1⟩ := index0_0 t
  refine congrArg (V c main_v1) (funext fun a => Fin.ext ?_)
  match a with
  | 0 => show win0_0.index t (0 : Fin 2) * 512 + 1 * r.val = R.val; omega
  | 1 => show win0_0.index t (1 : Fin 2) * 2048 + 1 * l.val = L.val; omega

/-- An element of window 1's block in region 0. -/
theorem blk0_1 (c : Dev nD) (t : Fin cfg0.N) (r : Fin 1) (l : Fin 2048) (R : Fin 1) (L : Fin 2048)
    (hR : R.val = r.val) (hL : L.val = l.val) : iblk0 V c 1 t (ix2 r l) = V c main_v3 (ix2 R L) := by
  obtain ⟨e0, e1⟩ := index0_1 t
  refine congrArg (V c main_v3) (funext fun a => Fin.ext ?_)
  match a with
  | 0 => show win0_1.index t (0 : Fin 2) * 1 + 1 * r.val = R.val; omega
  | 1 => show win0_1.index t (1 : Fin 2) * 2048 + 1 * l.val = L.val; omega

/-- What a grid point writes back is its block of the normed rows. -/
theorem flushed0 (c : Dev nD) (t : Fin cfg0.N) : (dat0 V c).flushed 2 t
    = ((cfg0.win 2).blk t).view.read (Elt Ideal) (normed (V c main_v1 : S8192x2048.Idx → EReal) fun d => (V c main_v3 : S1x2048.Idx → EReal) (ix2 0 d)) := by
  obtain ⟨e0, e1⟩ := index0_2 t
  have ht := N_le0 t
  show (cfg0.win 2).cut (grid0.coords t) ((dat0 V c).after 2 t) = _
  rw [after0_2]
  unfold out0_2
  rw [View.canon_unit_zero (S := S512x2048) z2, View.ld_unit_zero (S := S512x2048) z2, View.ld_unit_zero (S := S1x2048) z2]
  funext y
  obtain ⟨r, l, rfl⟩ : ∃ (r : Fin 512) (l : Fin 2048), y = ix2 r l := ⟨y 0, y 1, eq_ix2 y⟩
  have hr := r.isLt
  let R : Fin 8192 := ⟨512 * t.val + r.val, by omega⟩
  have hemb : ((cfg0.win 2).blk t).view.emb (ix2 r l) = (ix2 R l : S8192x2048.Idx) := by
    refine funext fun a => Fin.ext ?_
    match a with
    | 0 => show win0_2.index t (0 : Fin 2) * 512 + 1 * r.val = R.val; simp only [R]; omega
    | 1 => show win0_2.index t (1 : Fin 2) * 2048 + 1 * l.val = l.val; omega
  refine (pay0_apply _ _ r l).trans (Eq.trans ?_ (congrArg (normed (V c main_v1 : S8192x2048.Idx → EReal) fun d => (V c main_v3 : S1x2048.Idx → EReal) (ix2 0 d)) hemb).symm)
  have e : (fun d : Fin 2048 => (iblk0 V c 0 t (ix2 r d) : EReal)) = fun d => V c main_v1 (ix2 R d) :=
    funext fun d => blk0_0 V c t r d R d (by simp only [R]) (by omega)
  have e' : (fun d : Fin 2048 => (iblk0 V c 1 t (ix2 0 d) : EReal)) = fun d => V c main_v3 (ix2 0 d) :=
    funext fun d => blk0_1 V c t 0 d 0 d (by omega) (by omega)
  unfold normed
  rw [e, e']
  rfl

/-- Every entry of the array lies in a block that some grid point writes back. -/
theorem covered0_2 (i : S8192x2048.Idx) :
    ∃ t : Fin cfg0.N, (cfg0.win 2).flush t = true ∧ i ∈ ((cfg0.win 2).blk t).view.set := by
  have h0 : (i 0).val < 8192 := (i 0).isLt
  have h1 : (i 1).val < 2048 := (i 1).isLt
  let t : Fin cfg0.N := ⟨(i 0).val / 512, lt_of_lt_of_eq (b := 16) (by omega) (show 16 = cfg0.N from N_0.symm)⟩
  obtain ⟨e0, e1⟩ := index0_2 t
  have tv : t.val = (i 0).val / 512 := rfl
  refine ⟨t, flush0_2 t, ?_⟩
  have hm := ((cfg0.win 2).blk t).view.emb_mem_set (ix2 ⟨(i 0).val % 512, by omega⟩ ⟨(i 1).val % 2048, by omega⟩)
  have he : ((cfg0.win 2).blk t).view.emb (ix2 ⟨(i 0).val % 512, by omega⟩ ⟨(i 1).val % 2048, by omega⟩) = i := by
    refine funext fun a => Fin.ext ?_
    match a with
    | 0 => show win0_2.index t (0 : Fin 2) * 512 + 1 * ((i 0).val % 512) = (i 0).val; omega
    | 1 => show win0_2.index t (1 : Fin 2) * 2048 + 1 * ((i 1).val % 2048) = (i 1).val; omega
  rwa [he] at hm

/-- Region 0 leaves the normed rows. -/
theorem final0 (c : Dev nD) : (dat0 V c).arrAt 2 cfg0.N = (normed (V c main_v1 : S8192x2048.Idx → EReal) fun d => (V c main_v3 : S1x2048.Idx → EReal) (ix2 0 d)) :=
  (dat0 V c).arrAt_eq_of_cover 2 _ (fun t _ => flushed0 V c t) covered0_2

/-- The block window 0 of region 1 takes at a grid point. -/
theorem index1_0 : ∀ t : Fin cfg1.N, win1_0.index t (0 : Fin 2) = t.val / 3 ∧ win1_0.index t (1 : Fin 2) = 0 :=
  (by decide +kernel : ∀ t : Fin grid1.N, _)

/-- The block window 1 of region 1 takes at a grid point. -/
theorem index1_1 : ∀ t : Fin cfg1.N, win1_1.index t (0 : Fin 2) = 0 ∧ win1_1.index t (1 : Fin 2) = t.val % 3 :=
  (by decide +kernel : ∀ t : Fin grid1.N, _)

/-- The block window 2 of region 1 takes at a grid point. -/
theorem index1_2 : ∀ t : Fin cfg1.N, win1_2.index t (0 : Fin 2) = t.val / 3 ∧ win1_2.index t (1 : Fin 2) = t.val % 3 :=
  (by decide +kernel : ∀ t : Fin grid1.N, _)

theorem N_le1 (t : Fin cfg1.N) : t.val < 24 := lt_of_lt_of_eq t.isLt (show cfg1.N = 24 from N_1)

/-- The product's dimensions are the plain ones. -/
theorem dims1 : dot_S1024x2048_S2048x1408_S1024x1408_1_0_0_1_n_n = DotDims.plain 1024 2048 1408 := rfl

/-- The block stored at a grid point is the product of the two blocks loaded there. -/
theorem pay1_apply (x : FVec Ideal S1024x2048 .bf16) (w : FVec Ideal S2048x1408 .bf16) (r : Fin 1024) (l : Fin 1408) :
    (k1_pay1 (F := Ideal) x w : S1024x1408.Idx → EReal) (ix2 r l) = ∑ k : Fin 2048, (x (ix2 r k) : EReal) * (w (ix2 k l) : EReal) := by
  unfold k1_pay1
  rw [dims1]
  simp only [shapeCast_self]
  pointwise [Ideal.matmul_plain_apply]

/-- An element of window 0's block in region 1. -/
theorem blk1_0 (c : Dev nD) (t : Fin cfg1.N) (r : Fin 1024) (l : Fin 2048) (R : Fin 8192) (L : Fin 2048)
    (hR : R.val = 1024 * (t.val / 3) + r.val) (hL : L.val = l.val) : iblk1 V c 0 t (ix2 r l) = V c main_v4 (ix2 R L) := by
  obtain ⟨e0, e1⟩ := index1_0 t
  refine congrArg (V c main_v4) (funext fun a => Fin.ext ?_)
  match a with
  | 0 => show win1_0.index t (0 : Fin 2) * 1024 + 1 * r.val = R.val; omega
  | 1 => show win1_0.index t (1 : Fin 2) * 2048 + 1 * l.val = L.val; omega

/-- An element of window 1's block in region 1. -/
theorem blk1_1 (c : Dev nD) (t : Fin cfg1.N) (r : Fin 2048) (l : Fin 1408) (R : Fin 2048) (L : Fin 4224)
    (hR : R.val = r.val) (hL : L.val = 1408 * (t.val % 3) + l.val) : iblk1 V c 1 t (ix2 r l) = V c main_v6 (ix2 R L) := by
  obtain ⟨e0, e1⟩ := index1_1 t
  refine congrArg (V c main_v6) (funext fun a => Fin.ext ?_)
  match a with
  | 0 => show win1_1.index t (0 : Fin 2) * 2048 + 1 * r.val = R.val; omega
  | 1 => show win1_1.index t (1 : Fin 2) * 1408 + 1 * l.val = L.val; omega

/-- What a grid point writes back is its block of the whole product. -/
theorem flushed1 (c : Dev nD) (t : Fin cfg1.N) : (dat1 V c).flushed 2 t
    = ((cfg1.win 2).blk t).view.read (Elt Ideal) (prod (V c main_v4 : S8192x2048.Idx → EReal) (V c main_v6 : S2048x4224.Idx → EReal)) := by
  obtain ⟨e0, e1⟩ := index1_2 t
  have ht := N_le1 t
  show (cfg1.win 2).cut (grid1.coords t) ((dat1 V c).after 2 t) = _
  rw [after1_2]
  unfold out1_2
  rw [View.canon_unit_zero (S := S1024x1408) z2, View.ld_unit_zero (S := S1024x2048) z2, View.ld_unit_zero (S := S2048x1408) z2]
  funext y
  obtain ⟨r, l, rfl⟩ : ∃ (r : Fin 1024) (l : Fin 1408), y = ix2 r l := ⟨y 0, y 1, eq_ix2 y⟩
  have hr := r.isLt
  have hl := l.isLt
  let R : Fin 8192 := ⟨1024 * (t.val / 3) + r.val, by omega⟩
  let L : Fin 4224 := ⟨1408 * (t.val % 3) + l.val, by omega⟩
  have hemb : ((cfg1.win 2).blk t).view.emb (ix2 r l) = (ix2 R L : S8192x4224.Idx) := by
    refine funext fun a => Fin.ext ?_
    match a with
    | 0 => show win1_2.index t (0 : Fin 2) * 1024 + 1 * r.val = R.val; simp only [R]; omega
    | 1 => show win1_2.index t (1 : Fin 2) * 1408 + 1 * l.val = L.val; simp only [L]; omega
  refine (pay1_apply _ _ r l).trans ((Finset.sum_congr rfl fun k _ => ?_).trans (congrArg (prod (V c main_v4 : S8192x2048.Idx → EReal) (V c main_v6 : S2048x4224.Idx → EReal)) hemb).symm)
  rw [blk1_0 V c t r k R k (by simp only [R]) (by omega), blk1_1 V c t k l k L (by omega) (by simp only [L])]
  rfl

/-- Every entry of the array lies in a block that some grid point writes back. -/
theorem covered1_2 (i : S8192x4224.Idx) :
    ∃ t : Fin cfg1.N, (cfg1.win 2).flush t = true ∧ i ∈ ((cfg1.win 2).blk t).view.set := by
  have h0 : (i 0).val < 8192 := (i 0).isLt
  have h1 : (i 1).val < 4224 := (i 1).isLt
  let t : Fin cfg1.N := ⟨(i 0).val / 1024 * 3 + (i 1).val / 1408, lt_of_lt_of_eq (b := 24) (by omega) (show 24 = cfg1.N from N_1.symm)⟩
  obtain ⟨e0, e1⟩ := index1_2 t
  have tv : t.val = (i 0).val / 1024 * 3 + (i 1).val / 1408 := rfl
  refine ⟨t, flush1_2 t, ?_⟩
  have hm := ((cfg1.win 2).blk t).view.emb_mem_set (ix2 ⟨(i 0).val % 1024, by omega⟩ ⟨(i 1).val % 1408, by omega⟩)
  have he : ((cfg1.win 2).blk t).view.emb (ix2 ⟨(i 0).val % 1024, by omega⟩ ⟨(i 1).val % 1408, by omega⟩) = i := by
    refine funext fun a => Fin.ext ?_
    match a with
    | 0 => show win1_2.index t (0 : Fin 2) * 1024 + 1 * ((i 0).val % 1024) = (i 0).val; omega
    | 1 => show win1_2.index t (1 : Fin 2) * 1408 + 1 * ((i 1).val % 1408) = (i 1).val; omega
  rwa [he] at hm

/-- Region 1 leaves the product of its two matrices. -/
theorem final1 (c : Dev nD) : (dat1 V c).arrAt 2 cfg1.N = prod (V c main_v4 : S8192x2048.Idx → EReal) (V c main_v6 : S2048x4224.Idx → EReal) :=
  (dat1 V c).arrAt_eq_of_cover 2 _ (fun t _ => flushed1 V c t) covered1_2

/-- The block window 0 of region 2 takes at a grid point. -/
theorem index2_0 : ∀ t : Fin cfg2.N, win2_0.index t (0 : Fin 2) = t.val / 2 ∧ win2_0.index t (1 : Fin 2) = 0 :=
  (by decide +kernel : ∀ t : Fin grid2.N, _)

/-- The block window 1 of region 2 takes at a grid point. -/
theorem index2_1 : ∀ t : Fin cfg2.N, win2_1.index t (0 : Fin 2) = 0 ∧ win2_1.index t (1 : Fin 2) = t.val % 2 :=
  (by decide +kernel : ∀ t : Fin grid2.N, _)

/-- The block window 2 of region 2 takes at a grid point. -/
theorem index2_2 : ∀ t : Fin cfg2.N, win2_2.index t (0 : Fin 2) = t.val / 2 ∧ win2_2.index t (1 : Fin 2) = t.val % 2 :=
  (by decide +kernel : ∀ t : Fin grid2.N, _)

theorem N_le2 (t : Fin cfg2.N) : t.val < 16 := lt_of_lt_of_eq t.isLt (show cfg2.N = 16 from N_2)

/-- The product's dimensions are the plain ones. -/
theorem dims2 : dot_S1024x2048_S2048x1152_S1024x1152_1_0_0_1_n_n = DotDims.plain 1024 2048 1152 := rfl

/-- The block stored at a grid point is the product of the two blocks loaded there. -/
theorem pay2_apply (x : FVec Ideal S1024x2048 .bf16) (w : FVec Ideal S2048x1152 .bf16) (r : Fin 1024) (l : Fin 1152) :
    (k2_pay1 (F := Ideal) x w : S1024x1152.Idx → EReal) (ix2 r l) = ∑ k : Fin 2048, (x (ix2 r k) : EReal) * (w (ix2 k l) : EReal) := by
  unfold k2_pay1
  rw [dims2]
  simp only [shapeCast_self]
  pointwise [Ideal.matmul_plain_apply]

/-- An element of window 0's block in region 2. -/
theorem blk2_0 (c : Dev nD) (t : Fin cfg2.N) (r : Fin 1024) (l : Fin 2048) (R : Fin 8192) (L : Fin 2048)
    (hR : R.val = 1024 * (t.val / 2) + r.val) (hL : L.val = l.val) : iblk2 V c 0 t (ix2 r l) = V c main_v4 (ix2 R L) := by
  obtain ⟨e0, e1⟩ := index2_0 t
  refine congrArg (V c main_v4) (funext fun a => Fin.ext ?_)
  match a with
  | 0 => show win2_0.index t (0 : Fin 2) * 1024 + 1 * r.val = R.val; omega
  | 1 => show win2_0.index t (1 : Fin 2) * 2048 + 1 * l.val = L.val; omega

/-- An element of window 1's block in region 2. -/
theorem blk2_1 (c : Dev nD) (t : Fin cfg2.N) (r : Fin 2048) (l : Fin 1152) (R : Fin 2048) (L : Fin 2304)
    (hR : R.val = r.val) (hL : L.val = 1152 * (t.val % 2) + l.val) : iblk2 V c 1 t (ix2 r l) = V c main_v12 (ix2 R L) := by
  obtain ⟨e0, e1⟩ := index2_1 t
  refine congrArg (V c main_v12) (funext fun a => Fin.ext ?_)
  match a with
  | 0 => show win2_1.index t (0 : Fin 2) * 2048 + 1 * r.val = R.val; omega
  | 1 => show win2_1.index t (1 : Fin 2) * 1152 + 1 * l.val = L.val; omega

/-- What a grid point writes back is its block of the whole product. -/
theorem flushed2 (c : Dev nD) (t : Fin cfg2.N) : (dat2 V c).flushed 2 t
    = ((cfg2.win 2).blk t).view.read (Elt Ideal) (prod (V c main_v4 : S8192x2048.Idx → EReal) (V c main_v12 : S2048x2304.Idx → EReal)) := by
  obtain ⟨e0, e1⟩ := index2_2 t
  have ht := N_le2 t
  show (cfg2.win 2).cut (grid2.coords t) ((dat2 V c).after 2 t) = _
  rw [after2_2]
  unfold out2_2
  rw [View.canon_unit_zero (S := S1024x1152) z2, View.ld_unit_zero (S := S1024x2048) z2, View.ld_unit_zero (S := S2048x1152) z2]
  funext y
  obtain ⟨r, l, rfl⟩ : ∃ (r : Fin 1024) (l : Fin 1152), y = ix2 r l := ⟨y 0, y 1, eq_ix2 y⟩
  have hr := r.isLt
  have hl := l.isLt
  let R : Fin 8192 := ⟨1024 * (t.val / 2) + r.val, by omega⟩
  let L : Fin 2304 := ⟨1152 * (t.val % 2) + l.val, by omega⟩
  have hemb : ((cfg2.win 2).blk t).view.emb (ix2 r l) = (ix2 R L : S8192x2304.Idx) := by
    refine funext fun a => Fin.ext ?_
    match a with
    | 0 => show win2_2.index t (0 : Fin 2) * 1024 + 1 * r.val = R.val; simp only [R]; omega
    | 1 => show win2_2.index t (1 : Fin 2) * 1152 + 1 * l.val = L.val; simp only [L]; omega
  refine (pay2_apply _ _ r l).trans ((Finset.sum_congr rfl fun k _ => ?_).trans (congrArg (prod (V c main_v4 : S8192x2048.Idx → EReal) (V c main_v12 : S2048x2304.Idx → EReal)) hemb).symm)
  rw [blk2_0 V c t r k R k (by simp only [R]) (by omega), blk2_1 V c t k l k L (by omega) (by simp only [L])]
  rfl

/-- Every entry of the array lies in a block that some grid point writes back. -/
theorem covered2_2 (i : S8192x2304.Idx) :
    ∃ t : Fin cfg2.N, (cfg2.win 2).flush t = true ∧ i ∈ ((cfg2.win 2).blk t).view.set := by
  have h0 : (i 0).val < 8192 := (i 0).isLt
  have h1 : (i 1).val < 2304 := (i 1).isLt
  let t : Fin cfg2.N := ⟨(i 0).val / 1024 * 2 + (i 1).val / 1152, lt_of_lt_of_eq (b := 16) (by omega) (show 16 = cfg2.N from N_2.symm)⟩
  obtain ⟨e0, e1⟩ := index2_2 t
  have tv : t.val = (i 0).val / 1024 * 2 + (i 1).val / 1152 := rfl
  refine ⟨t, flush2_2 t, ?_⟩
  have hm := ((cfg2.win 2).blk t).view.emb_mem_set (ix2 ⟨(i 0).val % 1024, by omega⟩ ⟨(i 1).val % 1152, by omega⟩)
  have he : ((cfg2.win 2).blk t).view.emb (ix2 ⟨(i 0).val % 1024, by omega⟩ ⟨(i 1).val % 1152, by omega⟩) = i := by
    refine funext fun a => Fin.ext ?_
    match a with
    | 0 => show win2_2.index t (0 : Fin 2) * 1024 + 1 * ((i 0).val % 1024) = (i 0).val; omega
    | 1 => show win2_2.index t (1 : Fin 2) * 1152 + 1 * ((i 1).val % 1152) = (i 1).val; omega
  rwa [he] at hm

/-- Region 2 leaves the product of its two matrices. -/
theorem final2 (c : Dev nD) : (dat2 V c).arrAt 2 cfg2.N = prod (V c main_v4 : S8192x2048.Idx → EReal) (V c main_v12 : S2048x2304.Idx → EReal) :=
  (dat2 V c).arrAt_eq_of_cover 2 _ (fun t _ => flushed2 V c t) covered2_2

/-- The block window 0 of region 3 takes at a grid point. -/
theorem index3_0 : ∀ t : Fin cfg3.N, win3_0.index t (0 : Fin 2) = t.val ∧ win3_0.index t (1 : Fin 2) = 0 :=
  (by decide +kernel : ∀ t : Fin grid3.N, _)

/-- The block window 1 of region 3 takes at a grid point. -/
theorem index3_1 : ∀ t : Fin cfg3.N, win3_1.index t (0 : Fin 2) = 0 ∧ win3_1.index t (1 : Fin 2) = 0 :=
  (by decide +kernel : ∀ t : Fin grid3.N, _)

/-- The block window 2 of region 3 takes at a grid point. -/
theorem index3_2 : ∀ t : Fin cfg3.N, win3_2.index t (0 : Fin 2) = t.val ∧ win3_2.index t (1 : Fin 2) = 0 :=
  (by decide +kernel : ∀ t : Fin grid3.N, _)

theorem N_le3 (t : Fin cfg3.N) : t.val < 8 := lt_of_lt_of_eq t.isLt (show cfg3.N = 8 from N_3)

/-- The product's dimensions are the plain ones. -/
theorem dims3 : dot_S1024x2048_S2048x512_S1024x512_1_0_0_1_n_n = DotDims.plain 1024 2048 512 := rfl

/-- The block stored at a grid point is the product of the two blocks loaded there. -/
theorem pay3_apply (x : FVec Ideal S1024x2048 .bf16) (w : FVec Ideal S2048x512 .bf16) (r : Fin 1024) (l : Fin 512) :
    (k3_pay1 (F := Ideal) x w : S1024x512.Idx → EReal) (ix2 r l) = ∑ k : Fin 2048, (x (ix2 r k) : EReal) * (w (ix2 k l) : EReal) := by
  unfold k3_pay1
  rw [dims3]
  simp only [shapeCast_self]
  pointwise [Ideal.matmul_plain_apply]

/-- An element of window 0's block in region 3. -/
theorem blk3_0 (c : Dev nD) (t : Fin cfg3.N) (r : Fin 1024) (l : Fin 2048) (R : Fin 8192) (L : Fin 2048)
    (hR : R.val = 1024 * (t.val) + r.val) (hL : L.val = l.val) : iblk3 V c 0 t (ix2 r l) = V c main_v4 (ix2 R L) := by
  obtain ⟨e0, e1⟩ := index3_0 t
  refine congrArg (V c main_v4) (funext fun a => Fin.ext ?_)
  match a with
  | 0 => show win3_0.index t (0 : Fin 2) * 1024 + 1 * r.val = R.val; omega
  | 1 => show win3_0.index t (1 : Fin 2) * 2048 + 1 * l.val = L.val; omega

/-- An element of window 1's block in region 3. -/
theorem blk3_1 (c : Dev nD) (t : Fin cfg3.N) (r : Fin 2048) (l : Fin 512) (R : Fin 2048) (L : Fin 512)
    (hR : R.val = r.val) (hL : L.val = l.val) : iblk3 V c 1 t (ix2 r l) = V c main_v15 (ix2 R L) := by
  obtain ⟨e0, e1⟩ := index3_1 t
  refine congrArg (V c main_v15) (funext fun a => Fin.ext ?_)
  match a with
  | 0 => show win3_1.index t (0 : Fin 2) * 2048 + 1 * r.val = R.val; omega
  | 1 => show win3_1.index t (1 : Fin 2) * 512 + 1 * l.val = L.val; omega

/-- What a grid point writes back is its block of the whole product. -/
theorem flushed3 (c : Dev nD) (t : Fin cfg3.N) : (dat3 V c).flushed 2 t
    = ((cfg3.win 2).blk t).view.read (Elt Ideal) (prod (V c main_v4 : S8192x2048.Idx → EReal) (V c main_v15 : S2048x512.Idx → EReal)) := by
  obtain ⟨e0, e1⟩ := index3_2 t
  have ht := N_le3 t
  show (cfg3.win 2).cut (grid3.coords t) ((dat3 V c).after 2 t) = _
  rw [after3_2]
  unfold out3_2
  rw [View.canon_unit_zero (S := S1024x512) z2, View.ld_unit_zero (S := S1024x2048) z2, View.ld_unit_zero (S := S2048x512) z2]
  funext y
  obtain ⟨r, l, rfl⟩ : ∃ (r : Fin 1024) (l : Fin 512), y = ix2 r l := ⟨y 0, y 1, eq_ix2 y⟩
  have hr := r.isLt
  have hl := l.isLt
  let R : Fin 8192 := ⟨1024 * (t.val) + r.val, by omega⟩
  let L : Fin 512 := ⟨l.val, by omega⟩
  have hemb : ((cfg3.win 2).blk t).view.emb (ix2 r l) = (ix2 R L : S8192x512.Idx) := by
    refine funext fun a => Fin.ext ?_
    match a with
    | 0 => show win3_2.index t (0 : Fin 2) * 1024 + 1 * r.val = R.val; simp only [R]; omega
    | 1 => show win3_2.index t (1 : Fin 2) * 512 + 1 * l.val = L.val; simp only [L]; omega
  refine (pay3_apply _ _ r l).trans ((Finset.sum_congr rfl fun k _ => ?_).trans (congrArg (prod (V c main_v4 : S8192x2048.Idx → EReal) (V c main_v15 : S2048x512.Idx → EReal)) hemb).symm)
  rw [blk3_0 V c t r k R k (by simp only [R]) (by omega), blk3_1 V c t k l k L (by omega) (by simp only [L])]
  rfl

/-- Every entry of the array lies in a block that some grid point writes back. -/
theorem covered3_2 (i : S8192x512.Idx) :
    ∃ t : Fin cfg3.N, (cfg3.win 2).flush t = true ∧ i ∈ ((cfg3.win 2).blk t).view.set := by
  have h0 : (i 0).val < 8192 := (i 0).isLt
  have h1 : (i 1).val < 512 := (i 1).isLt
  let t : Fin cfg3.N := ⟨(i 0).val / 1024, lt_of_lt_of_eq (b := 8) (by omega) (show 8 = cfg3.N from N_3.symm)⟩
  obtain ⟨e0, e1⟩ := index3_2 t
  have tv : t.val = (i 0).val / 1024 := rfl
  refine ⟨t, flush3_2 t, ?_⟩
  have hm := ((cfg3.win 2).blk t).view.emb_mem_set (ix2 ⟨(i 0).val % 1024, by omega⟩ ⟨(i 1).val % 512, by omega⟩)
  have he : ((cfg3.win 2).blk t).view.emb (ix2 ⟨(i 0).val % 1024, by omega⟩ ⟨(i 1).val % 512, by omega⟩) = i := by
    refine funext fun a => Fin.ext ?_
    match a with
    | 0 => show win3_2.index t (0 : Fin 2) * 1024 + 1 * ((i 0).val % 1024) = (i 0).val; omega
    | 1 => show win3_2.index t (1 : Fin 2) * 512 + 1 * ((i 1).val % 512) = (i 1).val; omega
  rwa [he] at hm

/-- Region 3 leaves the product of its two matrices. -/
theorem final3 (c : Dev nD) : (dat3 V c).arrAt 2 cfg3.N = prod (V c main_v4 : S8192x2048.Idx → EReal) (V c main_v15 : S2048x512.Idx → EReal) :=
  (dat3 V c).arrAt_eq_of_cover 2 _ (fun t _ => flushed3 V c t) covered3_2

end Cert.Kernel2Ideal.Linear
-- ==== Proof.InVal.lean ====
module

public import proofs.«01_k».proof.Proof.Linear
public import proofs.«01_k».proof.Proof.Host
public import proofs.«01_k».proof.Proof.InRegions

@[expose] public section

set_option maxRecDepth 16384

noncomputable section

open Idealize.ShloMosaic Idealize.ShloMosaic.TcCoe Idealize.SL.Sem

namespace Cert.Kernel2Ideal.Linear
open Cert.Kernel2Ideal.Gen Cert.Linear

section Run
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
variable {F : FTy → Type} [FloatOps F]
variable (m : (ℓ : Loc nD τ sig) → Buf (Elt F) ℓ) (ρ : Dev nD → PrngReg)

set_option backward.isDefEq.respectTransparency.types false in
/-- Every execution ends with every array that stays in memory as the last boundary has it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

end Run

variable (m : (ℓ : Loc nD τ sig) → Buf (Elt Ideal) ℓ) (ρ : Dev nD → PrngReg) (c : Dev nD)

/-- The arguments of one device. -/
abbrev A0 : S2x4096x2048.Idx → EReal := m ((c.tc : Thread nD τ).loc main_arg0)
abbrev A1 : S1x2048.Idx → EReal := m ((c.tc : Thread nD τ).loc main_arg1)
abbrev A2 : S1x2048x7040.Idx → EReal := m ((c.tc : Thread nD τ).loc main_arg2)

/-- The projection of a token at a column. -/
def E (b : Fin 2) (t : Fin 4096) (n : Fin 7040) : EReal := zin (A0 m c) (fun d => A1 m c (ix2 0 d)) (fun k n => A2 m c (ix3 0 k n)) b t n

/-- The weights, tokens and norm weights as the regions take them. -/
theorem w1_v0 (k : Fin 2048) (n : Fin 7040) : (W1 m ρ c (Proc.devRef .tc main_v0) : S2048x7040.Idx → EReal) (ix2 k n) = A2 m c (ix3 0 k n) := by
  have e : W1 m ρ c (Proc.devRef .tc main_v0) = shapeCast S2048x7040 (A2 m c) shapeCasts_S1x2048x7040_S2048x7040 := by
    after_results
    rfl
  rw [e]
  exact shapeCast_apply _ _ (ix2 k n) (ix3 0 k n) (by rw [Shape.rowMajor_val_two, Shape.rowMajor_val_three]; show (0 * 2048 + k.val) * 7040 + n.val = k.val * 7040 + n.val; omega)

theorem w1_v1 (b : Fin 2) (t : Fin 4096) (d : Fin 2048) : (V1 m ρ c main_v1 : S8192x2048.Idx → EReal) (ix2 (tok b t) d) = A0 m c (ix3 b t d) := by
  have e : W1 m ρ c (Proc.devRef .tc main_v1) = shapeCast S8192x2048 (A0 m c) shapeCasts_S2x4096x2048_S8192x2048 := by
    after_results
    rfl
  rw [show V1 m ρ c main_v1 = _ from e]
  exact shapeCast_apply _ _ (ix2 (tok b t) d) (ix3 b t d) (by rw [Shape.rowMajor_val_two, Shape.rowMajor_val_three]; show (b.val * 4096 + t.val) * 2048 + d.val = (4096 * b.val + t.val) * 2048 + d.val; omega)

theorem w1_v3 (d : Fin 2048) : (V1 m ρ c main_v3 : S1x2048.Idx → EReal) (ix2 0 d) = A1 m c (ix2 0 d) := by
  have e : W1 m ρ c (Proc.devRef .tc main_v3) = shapeCast S1x2048 (shapeCast S2048 (A1 m c) shapeCasts_S1x2048_S2048) shapeCasts_S2048_S1x2048 := by
    after_results
    rfl
  rw [show V1 m ρ c main_v3 = _ from e]
  rw [shapeCast_apply _ _ (ix2 0 d) (ix1 d) (by rw [Shape.rowMajor_val_two, Shape.rowMajor_val_one]; show d.val = 0 * 2048 + d.val; omega)]
  exact shapeCast_apply _ _ (ix1 d) (ix2 0 d) (by rw [Shape.rowMajor_val_two, Shape.rowMajor_val_one]; show 0 * 2048 + d.val = d.val; omega)

/-- The normed tokens. -/
theorem w2_v4 (b : Fin 2) (t : Fin 4096) (d : Fin 2048) : (W2 m ρ c (Proc.devRef .tc main_v4) : S8192x2048.Idx → EReal) (ix2 (tok b t) d)
    = rms (Ideal.ofBits .f32 0x45000000#32) (Ideal.ofBits .f32 0x358637BD#32) (fun d => A0 m c (ix3 b t d)) (fun d => A1 m c (ix2 0 d)) d := by
  have e : (W2 m ρ c (Proc.devRef .tc main_v4) : S8192x2048.Idx → EReal) = _ := (W2_arr m ρ c 2).trans (final0 (V1 m ρ) c)
  rw [e]
  unfold normed
  exact congrArg₂ (fun x g => rms (Ideal.ofBits .f32 0x45000000#32) (Ideal.ofBits .f32 0x358637BD#32) x g d)
    (funext fun d => w1_v1 m ρ c b t d) (funext fun d => w1_v3 m ρ c d)

theorem prod_zin {N : ℕ} (x : S8192x2048.Idx → EReal) (w : (⟨2, ![2048, N]⟩ : Shape).Idx → EReal) (l : Fin N) (n : Fin 7040)
    (hx : ∀ b t d, x (ix2 (tok b t) d) = rms (Ideal.ofBits .f32 0x45000000#32) (Ideal.ofBits .f32 0x358637BD#32) (fun d => A0 m c (ix3 b t d)) (fun d => A1 m c (ix2 0 d)) d)
    (hw : ∀ k, w (ix2 k l) = A2 m c (ix3 0 k n)) (b : Fin 2) (t : Fin 4096) : prod x w (ix2 (tok b t) l) = E m c b t n :=
  Finset.sum_congr rfl fun k _ => congrArg₂ (fun a b : EReal => a * b) (hx b t k) (hw k)

/-- The columns of the first product's weights. -/
theorem w3_v6 (k : Fin 2048) (l : Fin 4224) : (V3 m ρ c main_v6 : S2048x4224.Idx → EReal) (ix2 k l) = A2 m c (ix3 0 k ⟨l.val, by omega⟩) := by
  have e : W3 m ρ c (Proc.devRef .tc main_v6) = truncf (F := Ideal) .bf16 (extractStridedSlice S2048x4224 ![0, 0] (W2 m ρ c (Proc.devRef .tc main_v0)) slices_S2048x7040_S2048x4224_0_0) bitsLt_bf16_f32 := by
    after_results
  rw [show V3 m ρ c main_v6 = _ from e, W2_of m ρ c main_v0 (by decide), ← w1_v0 m ρ c k ⟨l.val, by omega⟩]
  generalize W1 m ρ c (Proc.devRef .tc main_v0) = u
  revert u; intro (u : FVec Ideal S2048x7040 .f32)
  pointwise
  all_goals exact congrArg u (congrArg (ix2 k) (Fin.ext (Nat.zero_add _)))

theorem w4_v7 (b : Fin 2) (t : Fin 4096) (l : Fin 4224) : (W4 m ρ c (Proc.devRef .tc main_v7) : S8192x4224.Idx → EReal) (ix2 (tok b t) l) = E m c b t ⟨l.val, by omega⟩ := by
  have e : (W4 m ρ c (Proc.devRef .tc main_v7) : S8192x4224.Idx → EReal) = _ := (W4_arr m ρ c 2).trans (final1 (V3 m ρ) c)
  rw [e]
  refine prod_zin m c _ _ l _ (fun b t d => ?_) (fun k => w3_v6 m ρ c k l) b t
  exact (congrFun (W3_of m ρ c main_v4 (by decide) : (W3 m ρ c (Proc.devRef .tc main_v4) : S8192x2048.Idx → EReal) = _) _).trans (w2_v4 m ρ c b t d)

/-- The columns of the second product's weights: queries, gates, keys and values. -/
theorem w5_v12 (k : Fin 2048) (l : Fin 2304) : (V5 m ρ c main_v12 : S2048x2304.Idx → EReal) (ix2 k l) = A2 m c (ix3 0 k (swaCol l)) := by
  have e : (W5 m ρ c (Proc.devRef .tc main_v12) : S2048x2304.Idx → EReal) = (concatenate S2048x2304 1 [⟨S2048x1024, extractStridedSlice S2048x1024 ![0, 4224] (W4 m ρ c (Proc.devRef .tc main_v0)) slices_S2048x7040_S2048x1024_0_4224⟩, ⟨S2048x1024, extractStridedSlice S2048x1024 ![0, 5504] (W4 m ρ c (Proc.devRef .tc main_v0)) slices_S2048x7040_S2048x1024_0_5504⟩, ⟨S2048x256, extractStridedSlice S2048x256 ![0, 5248] (W4 m ρ c (Proc.devRef .tc main_v0)) slices_S2048x7040_S2048x256_0_5248⟩] concatenates_S2048x1024_S2048x1024_S2048x256_S2048x2304_d1 : FVec Ideal S2048x2304 .f32) := by
    after_results
    rfl
  rw [show V5 m ρ c main_v12 = _ from e, W4_of m ρ c main_v0 (by decide), W3_of m ρ c main_v0 (by decide), W2_of m ρ c main_v0 (by decide)]
  have hv := fun n => w1_v0 m ρ c k n
  generalize W1 m ρ c (Proc.devRef .tc main_v0) = u at hv ⊢
  revert hv; revert u; intro (u : FVec Ideal S2048x7040 .f32) hv
  have hs : ∀ {n : ℕ} (o : ℕ) (h : S2048x7040.Slices ![0, o] ⟨2, ![2048, n]⟩) (l : Fin n) (L : Fin 7040), o + l.val = L.val →
      extractStridedSlice ⟨2, ![2048, n]⟩ ![0, o] u h (ix2 k l) = u (ix2 k L) := fun o h l L e => by
    pointwise
    exact congrArg u (congrArg (ix2 k) (Fin.ext e))
  refine Eq.trans ?_ (hv _)
  unfold swaCol
  by_cases h : l.val < 1024
  · rw [if_pos h]
    exact (piece2 _ _ 0 (by simp) _ rfl 0 rfl k l ⟨l.val, h⟩ (Nat.zero_add _)).trans (hs 4224 _ _ _ rfl)
  rw [if_neg h]
  by_cases h' : l.val < 2048
  · rw [if_pos h']
    exact (piece2 _ _ 1 (by simp) _ rfl 1024 rfl k l ⟨l.val - 1024, by omega⟩ (by show 1024 + (l.val - 1024) = l.val; omega)).trans (hs 5504 _ _ _ rfl)
  · rw [if_neg h']
    exact (piece2 _ _ 2 (by simp) _ rfl 2048 rfl k l ⟨l.val - 2048, by omega⟩ (by show 2048 + (l.val - 2048) = l.val; omega)).trans (hs 5248 _ _ _ rfl)

theorem w6_v13 (b : Fin 2) (t : Fin 4096) (l : Fin 2304) : (W6 m ρ c (Proc.devRef .tc main_v13) : S8192x2304.Idx → EReal) (ix2 (tok b t) l) = E m c b t (swaCol l) := by
  have e : (W6 m ρ c (Proc.devRef .tc main_v13) : S8192x2304.Idx → EReal) = _ := (W6_arr m ρ c 2).trans (final2 (V5 m ρ) c)
  rw [e]
  refine prod_zin m c _ _ l _ (fun b t d => ?_) (fun k => w5_v12 m ρ c k l) b t
  exact (congrFun (((W5_of m ρ c main_v4 (by decide)).trans (W4_of m ρ c main_v4 (by decide))).trans (W3_of m ρ c main_v4 (by decide)) : (W5 m ρ c (Proc.devRef .tc main_v4) : S8192x2048.Idx → EReal) = _) _).trans (w2_v4 m ρ c b t d)

/-- The columns of the third product's weights. -/
theorem w7_v15 (k : Fin 2048) (l : Fin 512) : (V7 m ρ c main_v15 : S2048x512.Idx → EReal) (ix2 k l) = A2 m c (ix3 0 k ⟨6528 + l.val, by omega⟩) := by
  have e : W7 m ρ c (Proc.devRef .tc main_v15) = truncf (F := Ideal) .bf16 (extractStridedSlice S2048x512 ![0, 6528] (W6 m ρ c (Proc.devRef .tc main_v0)) slices_S2048x7040_S2048x512_0_6528) bitsLt_bf16_f32 := by
    after_results
  rw [show V7 m ρ c main_v15 = _ from e, W6_of m ρ c main_v0 (by decide), W5_of m ρ c main_v0 (by decide), W4_of m ρ c main_v0 (by decide), W3_of m ρ c main_v0 (by decide), W2_of m ρ c main_v0 (by decide), ← w1_v0 m ρ c k ⟨6528 + l.val, by omega⟩]
  generalize W1 m ρ c (Proc.devRef .tc main_v0) = u
  revert u; intro (u : FVec Ideal S2048x7040 .f32)
  pointwise

theorem w8_v16 (b : Fin 2) (t : Fin 4096) (l : Fin 512) : (W8 m ρ c (Proc.devRef .tc main_v16) : S8192x512.Idx → EReal) (ix2 (tok b t) l) = E m c b t ⟨6528 + l.val, by omega⟩ := by
  have e : (W8 m ρ c (Proc.devRef .tc main_v16) : S8192x512.Idx → EReal) = _ := (W8_arr m ρ c 2).trans (final3 (V7 m ρ) c)
  rw [e]
  refine prod_zin m c _ _ l _ (fun b t d => ?_) (fun k => w7_v15 m ρ c k l) b t
  exact (congrFun (((((W7_of m ρ c main_v4 (by decide)).trans (W6_of m ρ c main_v4 (by decide))).trans (W5_of m ρ c main_v4 (by decide))).trans (W4_of m ρ c main_v4 (by decide))).trans (W3_of m ρ c main_v4 (by decide)) : (W7 m ρ c (Proc.devRef .tc main_v4) : S8192x2048.Idx → EReal) = _) _).trans (w2_v4 m ρ c b t d)

/-- The products as the last host operations read them. -/
theorem w8_v7 (b : Fin 2) (t : Fin 4096) (l : Fin 4224) : (W8 m ρ c (Proc.devRef .tc main_v7) : S8192x4224.Idx → EReal) (ix2 (tok b t) l) = E m c b t ⟨l.val, by omega⟩ :=
  (congrFun ((((W8_of m ρ c main_v7 (by decide)).trans (W7_of m ρ c main_v7 (by decide))).trans (W6_of m ρ c main_v7 (by decide))).trans (W5_of m ρ c main_v7 (by decide)) : (W8 m ρ c (Proc.devRef .tc main_v7) : S8192x4224.Idx → EReal) = _) _).trans (w4_v7 m ρ c b t l)

theorem w8_v13 (b : Fin 2) (t : Fin 4096) (l : Fin 2304) : (W8 m ρ c (Proc.devRef .tc main_v13) : S8192x2304.Idx → EReal) (ix2 (tok b t) l) = E m c b t (swaCol l) :=
  (congrFun ((W8_of m ρ c main_v13 (by decide)).trans (W7_of m ρ c main_v13 (by decide)) : (W8 m ρ c (Proc.devRef .tc main_v13) : S8192x2304.Idx → EReal) = _) _).trans (w6_v13 m ρ c b t l)

/-- The six results. -/
theorem res0 (b : Fin 2) (t : Fin 4096) (l : Fin 4224) : (W9 m ρ c (Proc.devRef .tc main_v7) : S8192x4224.Idx → EReal) (ix2 (tok b t) l) = E m c b t ⟨l.val, by omega⟩ :=
  (congrFun (W9_of m ρ c main_v7 (by decide) : (W9 m ρ c (Proc.devRef .tc main_v7) : S8192x4224.Idx → EReal) = _) _).trans (w8_v7 m ρ c b t l)

theorem res1 (b : Fin 2) (t : Fin 4096) (l : Fin 2304) : (W9 m ρ c (Proc.devRef .tc main_v13) : S8192x2304.Idx → EReal) (ix2 (tok b t) l) = E m c b t (swaCol l) :=
  (congrFun (W9_of m ρ c main_v13 (by decide) : (W9 m ρ c (Proc.devRef .tc main_v13) : S8192x2304.Idx → EReal) = _) _).trans (w8_v13 m ρ c b t l)

theorem res2 (b : Fin 2) (t : Fin 4096) (l : Fin 512) : (W9 m ρ c (Proc.devRef .tc main_v16) : S8192x512.Idx → EReal) (ix2 (tok b t) l) = E m c b t ⟨6528 + l.val, by omega⟩ :=
  (congrFun (W9_of m ρ c main_v16 (by decide) : (W9 m ρ c (Proc.devRef .tc main_v16) : S8192x512.Idx → EReal) = _) _).trans (w8_v16 m ρ c b t l)

theorem res3 (b : Fin 2) (l : Fin 3200) : (W9 m ρ c (Proc.devRef .tc main_v26) : S1x2x3200.Idx → EReal) (ix3 0 b l) = E m c b 4095 ⟨l.val, by omega⟩ := by
  have e : (W9 m ρ c (Proc.devRef .tc main_v26) : S1x2x3200.Idx → EReal) = broadcastInDim S1x2x3200 ![1, 2] bcast_S2x3200_S1x2x3200_1_2 (shapeCast S2x3200 (extractStridedSlice S2x1x3200 ![0, 4095, 0] (shapeCast S2x4096x4224 (W8 m ρ c (Proc.devRef .tc main_v7)) shapeCasts_S8192x4224_S2x4096x4224) slices_S2x4096x4224_S2x1x3200_0_4095_0) shapeCasts_S2x1x3200_S2x3200) := by
    after_results
    rfl
  rw [e]
  have hv := w8_v7 m ρ c b 4095 ⟨l.val, by omega⟩
  generalize W8 m ρ c (Proc.devRef .tc main_v7) = u at hv ⊢
  revert hv; revert u; intro (u : FVec Ideal S8192x4224 .f32) hv
  refine Eq.trans ?_ hv
  have h0 := shapeCast_apply u shapeCasts_S8192x4224_S2x4096x4224 (ix3 b 4095 ⟨l.val, by omega⟩) (ix2 (tok b 4095) ⟨l.val, by omega⟩)
    (by rw [Shape.rowMajor_val_two, Shape.rowMajor_val_three]; show (4096 * b.val + 4095) * 4224 + l.val = (b.val * 4096 + 4095) * 4224 + l.val; omega)
  rw [← h0]
  generalize shapeCast S2x4096x4224 u shapeCasts_S8192x4224_S2x4096x4224 = y
  have h1 := shapeCast_apply (extractStridedSlice S2x1x3200 ![0, 4095, 0] y slices_S2x4096x4224_S2x1x3200_0_4095_0) shapeCasts_S2x1x3200_S2x3200 (ix2 b l) (ix3 b 0 l)
    (by rw [Shape.rowMajor_val_two, Shape.rowMajor_val_three]; show (b.val * 1 + 0) * 3200 + l.val = b.val * 3200 + l.val; omega)
  have h2 : extractStridedSlice S2x1x3200 ![0, 4095, 0] y slices_S2x4096x4224_S2x1x3200_0_4095_0 (ix3 b 0 l) = y (ix3 b 4095 ⟨l.val, by omega⟩) := by
    pointwise
    all_goals first | rfl | exact congrArg y (congrArg (ix3 b 4095) (Fin.ext (Nat.zero_add _)))
  rw [← h2, ← h1]
  generalize shapeCast S2x3200 (extractStridedSlice S2x1x3200 ![0, 4095, 0] y slices_S2x4096x4224_S2x1x3200_0_4095_0) shapeCasts_S2x1x3200_S2x3200 = w
  pointwise

/-- The window's keys or values, as the host takes them from the second product. -/
def win (y : FVec Ideal S8192x128 .f32) : FVec Ideal S1x2x128x2x64 .f32 :=
  broadcastInDim S1x2x128x2x64 ![1, 2, 3, 4] bcast_S2x128x2x64_S1x2x128x2x64_1_2_3_4 (shapeCast S2x128x2x64 (extractStridedSlice S2x128x128 ![0, 3968, 0] (shapeCast S2x4096x128 y shapeCasts_S8192x128_S2x4096x128) slices_S2x4096x128_S2x128x128_0_3968_0) shapeCasts_S2x128x128_S2x128x2x64)

theorem win_apply (y : FVec Ideal S8192x128 .f32) (b : Fin 2) (w : Fin 128) (h : Fin 2) (d : Fin 64) :
    win y (ix5 0 b w h d) = y (ix2 (tok b ⟨3968 + w.val, by omega⟩) ⟨64 * h.val + d.val, by omega⟩) := by
  have h0 := shapeCast_apply y shapeCasts_S8192x128_S2x4096x128 (ix3 b ⟨3968 + w.val, by omega⟩ ⟨64 * h.val + d.val, by omega⟩) (ix2 (tok b ⟨3968 + w.val, by omega⟩) ⟨64 * h.val + d.val, by omega⟩)
    (by rw [Shape.rowMajor_val_two, Shape.rowMajor_val_three]; show (4096 * b.val + (3968 + w.val)) * 128 + (64 * h.val + d.val) = (b.val * 4096 + (3968 + w.val)) * 128 + (64 * h.val + d.val); omega)
  unfold win
  rw [← h0]
  generalize shapeCast S2x4096x128 y shapeCasts_S8192x128_S2x4096x128 = x
  have h1 := shapeCast_apply (extractStridedSlice S2x128x128 ![0, 3968, 0] x slices_S2x4096x128_S2x128x128_0_3968_0) shapeCasts_S2x128x128_S2x128x2x64 (ix4 b w h d) (ix3 b w ⟨64 * h.val + d.val, by omega⟩)
    (by rw [Shape.rowMajor_val_three, Shape.rowMajor_val_four]; show (b.val * 128 + w.val) * 128 + (64 * h.val + d.val) = ((b.val * 128 + w.val) * 2 + h.val) * 64 + d.val; omega)
  have h2 : extractStridedSlice S2x128x128 ![0, 3968, 0] x slices_S2x4096x128_S2x128x128_0_3968_0 (ix3 b w ⟨64 * h.val + d.val, by omega⟩) = x (ix3 b ⟨3968 + w.val, by omega⟩ ⟨64 * h.val + d.val, by omega⟩) := by
    pointwise
  rw [← h2, ← h1]
  generalize shapeCast S2x128x2x64 (extractStridedSlice S2x128x128 ![0, 3968, 0] x slices_S2x4096x128_S2x128x128_0_3968_0) shapeCasts_S2x128x128_S2x128x2x64 = v
  pointwise

theorem win_col (o : ℕ) (ho : 2048 ≤ o ∧ o + 128 ≤ 2304) (hs : S8192x2304.Slices ![0, o] S8192x128) (b : Fin 2) (w : Fin 128) (h : Fin 2) (d : Fin 64) :
    win (extractStridedSlice S8192x128 ![0, o] (W8 m ρ c (Proc.devRef .tc main_v13)) hs) (ix5 0 b w h d)
      = E m c b ⟨3968 + w.val, by omega⟩ ⟨3200 + o + (64 * h.val + d.val), by omega⟩ := by
  have hl : o + (64 * h.val + d.val) < 2304 := by omega
  have hv := w8_v13 m ρ c b ⟨3968 + w.val, by omega⟩ ⟨o + (64 * h.val + d.val), hl⟩
  refine (win_apply _ b w h d).trans (Eq.trans ?_ (hv.trans (congrArg (E m c b _) (Fin.ext ?_))))
  · generalize W8 m ρ c (Proc.devRef .tc main_v13) = u
    revert u; intro (u : FVec Ideal S8192x2304 .f32)
    pointwise
  · unfold swaCol
    rw [if_neg (by show ¬ o + (64 * h.val + d.val) < 1024; omega), if_neg (by show ¬ o + (64 * h.val + d.val) < 2048; omega)]
    show 5248 + (o + (64 * h.val + d.val) - 2048) = 3200 + o + (64 * h.val + d.val)
    omega

theorem res4 (b : Fin 2) (w : Fin 128) (h : Fin 2) (d : Fin 64) : (W9 m ρ c (Proc.devRef .tc main_v28) : S1x2x128x2x64.Idx → EReal) (ix5 0 b w h d)
    = E m c b ⟨3968 + w.val, by omega⟩ ⟨5248 + (64 * h.val + d.val), by omega⟩ := by
  have e : (W9 m ρ c (Proc.devRef .tc main_v28) : S1x2x128x2x64.Idx → EReal) = win (extractStridedSlice S8192x128 ![0, 2048] (W8 m ρ c (Proc.devRef .tc main_v13)) slices_S8192x2304_S8192x128_0_2048) := by
    after_results
    rfl
  rw [e]
  exact win_col m ρ c 2048 (by omega) _ b w h d

theorem res5 (b : Fin 2) (w : Fin 128) (h : Fin 2) (d : Fin 64) : (W9 m ρ c (Proc.devRef .tc main_v30) : S1x2x128x2x64.Idx → EReal) (ix5 0 b w h d)
    = E m c b ⟨3968 + w.val, by omega⟩ ⟨5376 + (64 * h.val + d.val), by omega⟩ := by
  have e : (W9 m ρ c (Proc.devRef .tc main_v30) : S1x2x128x2x64.Idx → EReal) = win (extractStridedSlice S8192x128 ![0, 2176] (W8 m ρ c (Proc.devRef .tc main_v13)) slices_S8192x2304_S8192x128_0_2176) := by
    after_results
    rfl
  rw [e]
  exact win_col m ρ c 2176 (by omega) _ b w h d

end Cert.Kernel2Ideal.Linear
-- ==== Proof.InRef.lean ====
module

public import proofs.«01_k».proof.Proof.Host
public import proofs.«01_k».proof.Proof.Gen.Reference2Ideal
public import proofs.«01_k».proof.Proof.Gen.Reference2Ideal.Run

@[expose] public section

set_option maxRecDepth 16384

noncomputable section

open Idealize.ShloMosaic Idealize.ShloMosaic.TcCoe Idealize.SL.Sem

namespace Cert.Reference2Ideal.Linear
open Cert.Reference2Ideal Cert.Reference2Ideal.Gen Cert.Linear

/-- The root mean square norm of the tokens. -/
def nrm (x : FVec Ideal S2x4096x2048 .f32) (g : FVec Ideal S1x2048 .f32) : FVec Ideal S2x4096x2048 .f32 :=
  mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ g shapeCasts_S1x2048_S2048)))

/-- The input projection. -/
def z (x : FVec Ideal S2x4096x2048 .f32) (g : FVec Ideal S1x2048 .f32) (w : FVec Ideal S1x2048x7040 .f32) : FVec Ideal S2x4096x7040 .f32 :=
  Host.dotGeneral dot_S2x4096x2048_S2048x7040_S2x4096x7040_2_0_01_1_n_n none (nrm x g) (shapeCast _ w shapeCasts_S1x2048x7040_S2048x7040)

theorem reduces : S2x4096x2048.Reduces [2] S2x4096 := by decide

theorem nrm_apply (x : FVec Ideal S2x4096x2048 .f32) (g : FVec Ideal S1x2048 .f32) (b : Fin 2) (t : Fin 4096) (d : Fin 2048) :
    nrm x g (ix3 b t d) = rms (Ideal.ofBits .f32 0x45000000#32) (Ideal.ofBits .f32 0x358637BD#32) (fun d => x (ix3 b t d)) (fun d => g (ix2 0 d)) d := by
  have hs := sum3_apply (mulf x x) reduces reducesTo_S2x4096x2048_S2x4096_d2 h_S_ b t
  have hg : shapeCast S2048 g shapeCasts_S1x2048_S2048 (ix1 d) = g (ix2 0 d) :=
    shapeCast_apply _ _ (ix1 d) (ix2 0 d) (by rw [Shape.rowMajor_val_two, Shape.rowMajor_val_one]; show 0 * 2048 + d.val = d.val; omega)
  unfold nrm rms
  generalize Host.reduceAdd (mulf x x) (constant S_ .f32 0x00000000#32) reducesTo_S2x4096x2048_S2x4096_d2 h_S_ = s at hs ⊢
  generalize shapeCast S2048 g shapeCasts_S1x2048_S2048 = g' at hg ⊢
  have hs' : s (ix2 b t) = ∑ k : Fin 2048, (x (ix3 b t k) : EReal) * x (ix3 b t k) := hs
  beta_reduce
  rw [← hs', ← hg]
  pointwise

theorem z_apply (x : FVec Ideal S2x4096x2048 .f32) (g : FVec Ideal S1x2048 .f32) (w : FVec Ideal S1x2048x7040 .f32) (b : Fin 2) (t : Fin 4096) (n : Fin 7040) :
    z x g w (ix3 b t n) = zin (x : S2x4096x2048.Idx → EReal) (fun d => g (ix2 0 d)) (fun k n => w (ix3 0 k n)) b t n := by
  refine (dot3_apply _ dot_S2x4096x2048_S2048x7040_S2x4096x7040_2_0_01_1_n_n_wf rfl (nrm x g) _ b t n).trans ?_
  refine Finset.sum_congr rfl fun k _ => congrArg₂ (fun a b : EReal => a * b) (nrm_apply x g b t k) ?_
  exact shapeCast_apply _ _ (ix2 k n) (ix3 0 k n) (by rw [Shape.rowMajor_val_two, Shape.rowMajor_val_three]; show (0 * 2048 + k.val) * 7040 + n.val = k.val * 7040 + n.val; omega)

theorem slice_apply (z : FVec Ideal S2x4096x7040 .f32) {n : ℕ} (o : ℕ) (h : S2x4096x7040.Slices ![0, 0, o] ⟨3, ![2, 4096, n]⟩) (b : Fin 2) (t : Fin 4096) (l : Fin n) (L : Fin 7040)
    (e : o + l.val = L.val) : extractStridedSlice ⟨3, ![2, 4096, n]⟩ ![0, 0, o] z h (ix3 b t l) = z (ix3 b t L) := by
  pointwise
  exact congrArg z (congrArg (ix3 b t) (Fin.ext e))

/-- The first part, as the time mixing takes it. -/
def zr (z : FVec Ideal S2x4096x7040 .f32) : FVec Ideal S8192x4224 .f32 :=
  shapeCast _ (concatenate S2x4096x4224 2 [⟨S2x4096x3200, extractStridedSlice S2x4096x3200 ![0, 0, 0] z slices_S2x4096x7040_S2x4096x3200_0_0_0⟩, ⟨S2x4096x1024, extractStridedSlice S2x4096x1024 ![0, 0, 3200] z slices_S2x4096x7040_S2x4096x1024_0_0_3200⟩] concatenates_S2x4096x3200_S2x4096x1024_S2x4096x4224_d2) shapeCasts_S2x4096x4224_S8192x4224

theorem zr_apply (z : FVec Ideal S2x4096x7040 .f32) (b : Fin 2) (t : Fin 4096) (l : Fin 4224) :
    zr z (ix2 (tok b t) l) = z (ix3 b t ⟨l.val, by omega⟩) := by
  refine (shapeCast_apply _ _ (ix2 (tok b t) l) (ix3 b t l) (by rw [Shape.rowMajor_val_two, Shape.rowMajor_val_three]; show (b.val * 4096 + t.val) * 4224 + l.val = (4096 * b.val + t.val) * 4224 + l.val; omega)).trans ?_
  by_cases h : l.val < 3200
  · exact (piece3 _ _ 0 (by simp) _ rfl 0 rfl b t l ⟨l.val, h⟩ (Nat.zero_add _)).trans (slice_apply z 0 _ b t _ _ (Nat.zero_add _))
  · exact (piece3 _ _ 1 (by simp) _ rfl 3200 rfl b t l ⟨l.val - 3200, by omega⟩ (by show 3200 + (l.val - 3200) = l.val; omega)).trans
      (slice_apply z 3200 _ b t _ _ (by show 3200 + (l.val - 3200) = l.val; omega))

/-- The second part, as the windowed attention takes it: queries, gates, then keys and values. -/
def zs (z : FVec Ideal S2x4096x7040 .f32) : FVec Ideal S8192x2304 .f32 :=
  shapeCast _ (concatenate S2x4096x2304 2 [⟨S2x4096x1024, extractStridedSlice S2x4096x1024 ![0, 0, 4224] z slices_S2x4096x7040_S2x4096x1024_0_0_4224⟩, ⟨S2x4096x1024, extractStridedSlice S2x4096x1024 ![0, 0, 5504] z slices_S2x4096x7040_S2x4096x1024_0_0_5504⟩, ⟨S2x4096x256, extractStridedSlice S2x4096x256 ![0, 0, 5248] z slices_S2x4096x7040_S2x4096x256_0_0_5248⟩] concatenates_S2x4096x1024_S2x4096x1024_S2x4096x256_S2x4096x2304_d2) shapeCasts_S2x4096x2304_S8192x2304

theorem zs_apply (z : FVec Ideal S2x4096x7040 .f32) (b : Fin 2) (t : Fin 4096) (l : Fin 2304) :
    zs z (ix2 (tok b t) l) = z (ix3 b t (swaCol l)) := by
  refine (shapeCast_apply _ _ (ix2 (tok b t) l) (ix3 b t l) (by rw [Shape.rowMajor_val_two, Shape.rowMajor_val_three]; show (b.val * 4096 + t.val) * 2304 + l.val = (4096 * b.val + t.val) * 2304 + l.val; omega)).trans ?_
  unfold swaCol
  by_cases h : l.val < 1024
  · rw [if_pos h]
    exact (piece3 _ _ 0 (by simp) _ rfl 0 rfl b t l ⟨l.val, h⟩ (Nat.zero_add _)).trans (slice_apply z 4224 _ b t _ _ rfl)
  rw [if_neg h]
  by_cases h' : l.val < 2048
  · rw [if_pos h']
    exact (piece3 _ _ 1 (by simp) _ rfl 1024 rfl b t l ⟨l.val - 1024, by omega⟩ (by show 1024 + (l.val - 1024) = l.val; omega)).trans (slice_apply z 5504 _ b t _ _ rfl)
  · rw [if_neg h']
    exact (piece3 _ _ 2 (by simp) _ rfl 2048 rfl b t l ⟨l.val - 2048, by omega⟩ (by show 2048 + (l.val - 2048) = l.val; omega)).trans (slice_apply z 5248 _ b t _ _ rfl)

/-- The third part, as the attention to the memory takes it. -/
def zm (z : FVec Ideal S2x4096x7040 .f32) : FVec Ideal S8192x512 .f32 :=
  shapeCast _ (concatenate S2x4096x512 2 [⟨S2x4096x256, extractStridedSlice S2x4096x256 ![0, 0, 6528] z slices_S2x4096x7040_S2x4096x256_0_0_6528⟩, ⟨S2x4096x256, extractStridedSlice S2x4096x256 ![0, 0, 6784] z slices_S2x4096x7040_S2x4096x256_0_0_6784⟩] concatenates_S2x4096x256_S2x4096x256_S2x4096x512_d2) shapeCasts_S2x4096x512_S8192x512

theorem zm_apply (z : FVec Ideal S2x4096x7040 .f32) (b : Fin 2) (t : Fin 4096) (l : Fin 512) :
    zm z (ix2 (tok b t) l) = z (ix3 b t ⟨6528 + l.val, by omega⟩) := by
  refine (shapeCast_apply _ _ (ix2 (tok b t) l) (ix3 b t l) (by rw [Shape.rowMajor_val_two, Shape.rowMajor_val_three]; show (b.val * 4096 + t.val) * 512 + l.val = (4096 * b.val + t.val) * 512 + l.val; omega)).trans ?_
  by_cases h : l.val < 256
  · exact (piece3 _ _ 0 (by simp) _ rfl 0 rfl b t l ⟨l.val, h⟩ (Nat.zero_add _)).trans (slice_apply z 6528 _ b t _ _ rfl)
  · exact (piece3 _ _ 1 (by simp) _ rfl 256 rfl b t l ⟨l.val - 256, by omega⟩ (by show 256 + (l.val - 256) = l.val; omega)).trans
      (slice_apply z 6784 _ b t _ _ (by show 6784 + (l.val - 256) = 6528 + l.val; omega))

/-- The last token's columns that the next step's token shift needs. -/
def last (z : FVec Ideal S2x4096x7040 .f32) : FVec Ideal S1x2x3200 .f32 :=
  broadcastInDim S1x2x3200 ![1, 2] bcast_S2x3200_S1x2x3200_1_2 (shapeCast _ (extractStridedSlice S2x1x3200 ![0, 4095, 0] (extractStridedSlice S2x4096x3200 ![0, 0, 0] z slices_S2x4096x7040_S2x4096x3200_0_0_0) slices_S2x4096x3200_S2x1x3200_0_4095_0) shapeCasts_S2x1x3200_S2x3200)

theorem last_apply (z : FVec Ideal S2x4096x7040 .f32) (b : Fin 2) (l : Fin 3200) :
    last z (ix3 0 b l) = z (ix3 b 4095 ⟨l.val, by omega⟩) := by
  unfold last
  have e : ∀ y : FVec Ideal S2x1x3200 .f32, broadcastInDim S1x2x3200 ![1, 2] bcast_S2x3200_S1x2x3200_1_2 (shapeCast S2x3200 y shapeCasts_S2x1x3200_S2x3200) (ix3 0 b l) = y (ix3 b 0 l) := fun y => by
    have h1 := shapeCast_apply y shapeCasts_S2x1x3200_S2x3200 (ix2 b l) (ix3 b 0 l) (by rw [Shape.rowMajor_val_two, Shape.rowMajor_val_three]; show (b.val * 1 + 0) * 3200 + l.val = b.val * 3200 + l.val; omega)
    rw [← h1]
    generalize shapeCast S2x3200 y shapeCasts_S2x1x3200_S2x3200 = u
    pointwise
  rw [e]
  pointwise
  all_goals first | rfl | exact congrArg z (congrArg (ix3 b 4095) (Fin.ext (Nat.zero_add _)))

/-- The window's keys or values: the last 128 tokens, split into heads. -/
def win (y : FVec Ideal S2x4096x128 .f32) : FVec Ideal S1x2x128x2x64 .f32 :=
  broadcastInDim S1x2x128x2x64 ![1, 2, 3, 4] bcast_S2x128x2x64_S1x2x128x2x64_1_2_3_4 (extractStridedSlice S2x128x2x64 ![0, 3968, 0, 0] (shapeCast _ y shapeCasts_S2x4096x128_S2x4096x2x64) slices_S2x4096x2x64_S2x128x2x64_0_3968_0_0)

theorem win_apply (y : FVec Ideal S2x4096x128 .f32) (b : Fin 2) (w : Fin 128) (h : Fin 2) (d : Fin 64) :
    win y (ix5 0 b w h d) = y (ix3 b ⟨3968 + w.val, by omega⟩ ⟨64 * h.val + d.val, by omega⟩) := by
  have h1 := shapeCast_apply y shapeCasts_S2x4096x128_S2x4096x2x64 (ix4 b ⟨3968 + w.val, by omega⟩ h d) (ix3 b ⟨3968 + w.val, by omega⟩ ⟨64 * h.val + d.val, by omega⟩)
    (by rw [Shape.rowMajor_val_three, Shape.rowMajor_val_four]; show (b.val * 4096 + (3968 + w.val)) * 128 + (64 * h.val + d.val) = ((b.val * 4096 + (3968 + w.val)) * 2 + h.val) * 64 + d.val; omega)
  unfold win
  rw [← h1]
  generalize shapeCast S2x4096x2x64 y shapeCasts_S2x4096x128_S2x4096x2x64 = u
  pointwise

variable (m : (ℓ : Loc nD τ sig) → Buf (Elt Ideal) ℓ) (ρ : Dev nD → PrngReg)

/-- The projection of what a device's argument arrays hold. -/
def zarg (c : Dev nD) : FVec Ideal S2x4096x7040 .f32 :=
  z (m ((c.tc : Thread nD τ).loc main_arg0)) (m ((c.tc : Thread nD τ).loc main_arg1)) (m ((c.tc : Thread nD τ).loc main_arg2))

/-- Every execution of the reference ends with the six results, each a part of the projection, and the arguments kept. -/
theorem run : θ_run defs (onTc (τ := τ) (main (F := Ideal))) ⟨m, fun _ => 0, ρ⟩ fun r => ∀ c : Dev nD,
    r.2.mem ((c.tc : Thread nD τ).loc main_v27) = zr (zarg m c)
    ∧ r.2.mem ((c.tc : Thread nD τ).loc main_v30) = zs (zarg m c)
    ∧ r.2.mem ((c.tc : Thread nD τ).loc main_v32) = zm (zarg m c)
    ∧ r.2.mem ((c.tc : Thread nD τ).loc main_v35) = last (zarg m c)
    ∧ r.2.mem ((c.tc : Thread nD τ).loc main_v37) = win (extractStridedSlice S2x4096x128 ![0, 0, 5248] (zarg m c) slices_S2x4096x7040_S2x4096x128_0_0_5248)
    ∧ r.2.mem ((c.tc : Thread nD τ).loc main_v39) = win (extractStridedSlice S2x4096x128 ![0, 0, 5376] (zarg m c) slices_S2x4096x7040_S2x4096x128_0_0_5376)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  Cert.Reference2Ideal.Value.run m ρ

end Cert.Reference2Ideal.Linear
-- ==== Proof.In.lean ====
module

public import proofs.«01_k».proof.Proof.Linear
public import proofs.«01_k».proof.Proof.InVal
public import proofs.«01_k».proof.Proof.InRef
public import proofs.«01_k».proof.Defs

@[expose] public section

set_option maxRecDepth 16384

noncomputable section

open Idealize.ShloMosaic Idealize.ShloMosaic.TcCoe Idealize.SL.Sem

namespace Cert.In
open Cert.Linear

/-- Both programs' projections agree when their arguments do. -/
theorem zarg_eq (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (e0 : m' ((c.tc : Thread Reference2Ideal.nD Reference2Ideal.τ).loc Reference2Ideal.main_arg0) = m ((c.tc : Thread Kernel2Ideal.nD Kernel2Ideal.τ).loc Kernel2Ideal.main_arg0))
    (e1 : m' ((c.tc : Thread Reference2Ideal.nD Reference2Ideal.τ).loc Reference2Ideal.main_arg1) = m ((c.tc : Thread Kernel2Ideal.nD Kernel2Ideal.τ).loc Kernel2Ideal.main_arg1))
    (e2 : m' ((c.tc : Thread Reference2Ideal.nD Reference2Ideal.τ).loc Reference2Ideal.main_arg2) = m ((c.tc : Thread Kernel2Ideal.nD Kernel2Ideal.τ).loc Kernel2Ideal.main_arg2))
    (b : Fin 2) (t : Fin 4096) (n : Fin 7040) :
    Reference2Ideal.Linear.zarg m' c (ix3 b t n) = Kernel2Ideal.Linear.E m c b t n := by
  unfold Reference2Ideal.Linear.zarg
  rw [e0, e1, e2]
  exact Reference2Ideal.Linear.z_apply _ _ _ b t n

/-- The layer's input projection: the kernel and the reference end with the same three parts, the same last columns for
the token shift and the same window of keys and values. -/
theorem projection : algebraic_Kernel2Ideal_Reference2Ideal (hKernel2Ideal := Cert.Kernel2Ideal.Gen.facts)
    (hReference2Ideal := Cert.Reference2Ideal.Gen.facts) := by
  intro m g m' g' _ hargs
  refine ⟨fun c => Kernel2Ideal.Gen.W9 m g c (Proc.devRef .tc Kernel2Ideal.main_v7), fun c => Kernel2Ideal.Gen.W9 m g c (Proc.devRef .tc Kernel2Ideal.main_v13), fun c => Kernel2Ideal.Gen.W9 m g c (Proc.devRef .tc Kernel2Ideal.main_v16), fun c => Kernel2Ideal.Gen.W9 m g c (Proc.devRef .tc Kernel2Ideal.main_v26), fun c => Kernel2Ideal.Gen.W9 m g c (Proc.devRef .tc Kernel2Ideal.main_v28), fun c => Kernel2Ideal.Gen.W9 m g c (Proc.devRef .tc Kernel2Ideal.main_v30),
    (θ_run Cert.Kernel2Ideal.defs _ _).mono (fun r h c => ?_) (Kernel2Ideal.Linear.run_all m g),
    (θ_run Cert.Reference2Ideal.defs _ _).mono (fun r h c => ?_) (Reference2Ideal.Linear.run m' g')⟩
  · exact ⟨h c _ (Kernel2Ideal.Gen.mem_uc Kernel2Ideal.main_v7 (by decide)), h c _ (Kernel2Ideal.Gen.mem_uc Kernel2Ideal.main_v13 (by decide)), h c _ (Kernel2Ideal.Gen.mem_uc Kernel2Ideal.main_v16 (by decide)), h c _ (Kernel2Ideal.Gen.mem_uc Kernel2Ideal.main_v26 (by decide)), h c _ (Kernel2Ideal.Gen.mem_uc Kernel2Ideal.main_v28 (by decide)), h c _ (Kernel2Ideal.Gen.mem_uc Kernel2Ideal.main_v30 (by decide)),
      (h c _ (Kernel2Ideal.Gen.mem_uc Kernel2Ideal.main_arg0 (by decide))).trans (Kernel2Ideal.Gen.W9_main_arg0 m g c), (h c _ (Kernel2Ideal.Gen.mem_uc Kernel2Ideal.main_arg1 (by decide))).trans (Kernel2Ideal.Gen.W9_main_arg1 m g c), (h c _ (Kernel2Ideal.Gen.mem_uc Kernel2Ideal.main_arg2 (by decide))).trans (Kernel2Ideal.Gen.W9_main_arg2 m g c)⟩
  · obtain ⟨e0, e1, e2⟩ := hargs c
    have hz := zarg_eq m m' c e0 e1 e2
    obtain ⟨h0, h1, h2, h3, h4, h5, hk⟩ := h c
    refine ⟨h0.trans ?_, h1.trans ?_, h2.trans ?_, h3.trans ?_, h4.trans ?_, h5.trans ?_, hk⟩
    · funext i
      obtain ⟨b, t, e⟩ := tok_surj (i 0)
      rw [eq_ix2 i, e]
      exact (Reference2Ideal.Linear.zr_apply _ b t (i 1)).trans ((hz b t _).trans (Kernel2Ideal.Linear.res0 m g c b t (i 1)).symm)
    · funext i
      obtain ⟨b, t, e⟩ := tok_surj (i 0)
      rw [eq_ix2 i, e]
      exact (Reference2Ideal.Linear.zs_apply _ b t (i 1)).trans ((hz b t _).trans (Kernel2Ideal.Linear.res1 m g c b t (i 1)).symm)
    · funext i
      obtain ⟨b, t, e⟩ := tok_surj (i 0)
      rw [eq_ix2 i, e]
      exact (Reference2Ideal.Linear.zm_apply _ b t (i 1)).trans ((hz b t _).trans (Kernel2Ideal.Linear.res2 m g c b t (i 1)).symm)
    · funext i
      have i0 : i 0 = (0 : Fin 1) := Subsingleton.elim (α := Fin 1) _ _
      rw [eq_ix3 i, i0]
      exact (Reference2Ideal.Linear.last_apply _ (i 1) (i 2)).trans ((hz _ _ _).trans (Kernel2Ideal.Linear.res3 m g c (i 1) (i 2)).symm)
    · funext i
      have i0 : i 0 = (0 : Fin 1) := Subsingleton.elim (α := Fin 1) _ _
      have i3 : (i 3).val < 2 := (i 3).isLt
      have i4 : (i 4).val < 64 := (i 4).isLt
      rw [eq_ix5 i, i0]
      exact (Reference2Ideal.Linear.win_apply _ (i 1) (i 2) (i 3) (i 4)).trans ((Reference2Ideal.Linear.slice_apply _ 5248 _ _ _ _ ⟨5248 + (64 * (i 3).val + (i 4).val), by omega⟩ rfl).trans
        ((hz _ _ _).trans (Kernel2Ideal.Linear.res4 m g c (i 1) (i 2) (i 3) (i 4)).symm))
    · funext i
      have i0 : i 0 = (0 : Fin 1) := Subsingleton.elim (α := Fin 1) _ _
      have i3 : (i 3).val < 2 := (i 3).isLt
      have i4 : (i 4).val < 64 := (i 4).isLt
      rw [eq_ix5 i, i0]
      exact (Reference2Ideal.Linear.win_apply _ (i 1) (i 2) (i 3) (i 4)).trans ((Reference2Ideal.Linear.slice_apply _ 5376 _ _ _ _ ⟨5376 + (64 * (i 3).val + (i 4).val), by omega⟩ rfl).trans
        ((hz _ _ _).trans (Kernel2Ideal.Linear.res5 m g c (i 1) (i 2) (i 3) (i 4)).symm))

end Cert.In
-- ==== Proof.Mix.lean ====
module

public import proofs.«01_k».proof.Proof.Linear
public import proofs.«01_k».proof.Proof.Host

@[expose] public section

set_option maxRecDepth 16384

noncomputable section

open Idealize.ShloMosaic Idealize.ShloMosaic.TcCoe Idealize.SL.Sem

namespace Cert.Linear

/-- The constants of the layer's norm, as the words that both programs print. -/
abbrev cols : EReal := Ideal.ofBits .f32 0x45000000#32
abbrev small : EReal := Ideal.ofBits .f32 0x358637BD#32

/-- A normed row by one column of weights. -/
def zrow {D : ℕ} (x g w : Fin D → EReal) : EReal := ∑ k : Fin D, rms cols small x g k * w k

/-- One entry of the residual stream after an output projection: what it had, then the three branches' rows by their parts of
the weights' column. -/
def mix3 (x : EReal) (a b : Fin 1024 → EReal) (m : Fin 256 → EReal) (w : Fin 2304 → EReal) : EReal :=
  x + (∑ k : Fin 1024, a k * w ⟨k.val, by omega⟩) + (∑ k : Fin 1024, b k * w ⟨1024 + k.val, by omega⟩)
    + ∑ k : Fin 256, m k * w ⟨2048 + k.val, by omega⟩

/-- The same with two branches. -/
def mix2 (x : EReal) (a : Fin 2048 → EReal) (m : Fin 256 → EReal) (w : Fin 2304 → EReal) : EReal :=
  x + (∑ k : Fin 2048, a k * w ⟨k.val, by omega⟩) + ∑ k : Fin 256, m k * w ⟨2048 + k.val, by omega⟩

/-- A sum over the joined branches is the sum of the branches' sums. -/
theorem sum_two (f : Fin 2304 → EReal) : ∑ k, f k = (∑ k : Fin 2048, f ⟨k.val, by omega⟩) + ∑ k : Fin 256, f ⟨2048 + k.val, by omega⟩ :=
  Fin.sum_univ_add (a := 2048) (b := 256) f

theorem sum_half (f : Fin 2048 → EReal) : ∑ k, f k = (∑ k : Fin 1024, f ⟨k.val, by omega⟩) + ∑ k : Fin 1024, f ⟨1024 + k.val, by omega⟩ :=
  Fin.sum_univ_add (a := 1024) (b := 1024) f

/-- Adding the product of the joined row at once is adding the branches' products one after another. -/
theorem mix3_eq (x : EReal) (a b : Fin 1024 → EReal) (m : Fin 256 → EReal) (w f : Fin 2304 → EReal)
    (ha : ∀ k : Fin 1024, f ⟨k.val, by omega⟩ = a k) (hb : ∀ k : Fin 1024, f ⟨1024 + k.val, by omega⟩ = b k)
    (hm : ∀ k : Fin 256, f ⟨2048 + k.val, by omega⟩ = m k) : x + ∑ k, f k * w k = mix3 x a b m w := by
  rw [sum_two, sum_half (fun k : Fin 2048 => f ⟨k.val, by omega⟩ * w ⟨k.val, by omega⟩)]
  simp only [ha, hb, hm]
  unfold mix3
  rw [add_assoc x, add_assoc x]

theorem mix2_eq (x : EReal) (a : Fin 2048 → EReal) (m : Fin 256 → EReal) (w f : Fin 2304 → EReal)
    (ha : ∀ k : Fin 2048, f ⟨k.val, by omega⟩ = a k)
    (hm : ∀ k : Fin 256, f ⟨2048 + k.val, by omega⟩ = m k) : x + ∑ k, f k * w k = mix2 x a m w := by
  rw [sum_two]
  simp only [ha, hm]
  unfold mix2
  rw [add_assoc x]

/-- The host's sum along the last of two axes. -/
theorem sum2_apply {T D : ℕ} (x : FVec Ideal ⟨2, ![T, D]⟩ .f32) (h : (⟨2, ![T, D]⟩ : Shape).Reduces [1] ⟨1, ![T]⟩)
    (h' : (⟨2, ![T, D]⟩ : Shape).ReducesTo [1] ⟨1, ![T]⟩) {S : Shape} (hS : 0 < S.numel) (t : Fin T) :
    Host.reduceAdd x (constant S .f32 0x00000000#32) h' hS (ix1 t) = ∑ d : Fin D, (x (ix2 t d) : EReal) := by
  refine (Ideal.hostReduceAdd_single h' h x _ (ix1 t)).trans ?_
  refine (congrArg (· + _) zero_word).trans ((zero_add _).trans (Finset.sum_congr rfl fun s _ => congrArg x ?_))
  funext a; apply Fin.ext
  match a with
  | ⟨0, _⟩ => rfl
  | ⟨1, _⟩ => rfl

/-- The columns of a matrix from one column on. -/
theorem cols_apply {T N n : ℕ} {α : Type} (z : (⟨2, ![T, N]⟩ : Shape).Idx → α) (o : ℕ) (h : (⟨2, ![T, N]⟩ : Shape).Slices ![0, o] ⟨2, ![T, n]⟩) (t : Fin T) (l : Fin n) (L : Fin N)
    (e : o + l.val = L.val) : extractStridedSlice ⟨2, ![T, n]⟩ ![0, o] z h (ix2 t l) = z (ix2 t L) := by
  refine congrArg z (funext fun a => Fin.ext ?_)
  match a with
  | ⟨0, _⟩ => exact Nat.zero_add _
  | ⟨1, _⟩ => exact e

/-- The rows of a matrix from one row on. -/
theorem rows_apply {T N n : ℕ} {α : Type} (z : (⟨2, ![T, N]⟩ : Shape).Idx → α) (o : ℕ) (h : (⟨2, ![T, N]⟩ : Shape).Slices ![o, 0] ⟨2, ![n, N]⟩) (t : Fin n) (l : Fin N) (L : Fin T)
    (e : o + t.val = L.val) : extractStridedSlice ⟨2, ![n, N]⟩ ![o, 0] z h (ix2 t l) = z (ix2 L l) := by
  refine congrArg z (funext fun a => Fin.ext ?_)
  match a with
  | ⟨0, _⟩ => exact e
  | ⟨1, _⟩ => exact Nat.zero_add _

/-- A matrix that stands alone in a batch, read as a matrix. -/
theorem lone_apply {T N : ℕ} {α : Type} (z : (⟨3, ![1, T, N]⟩ : Shape).Idx → α) (h : (⟨3, ![1, T, N]⟩ : Shape).ShapeCasts ⟨2, ![T, N]⟩) (t : Fin T) (l : Fin N) :
    shapeCast ⟨2, ![T, N]⟩ z h (ix2 t l) = z (ix3 0 t l) :=
  shapeCast_apply _ _ (ix2 t l) (ix3 0 t l) (by rw [Shape.rowMajor_val_two, Shape.rowMajor_val_three]; show (0 * T + t.val) * N + l.val = t.val * N + l.val; rw [Nat.zero_mul, Nat.zero_add])

/-- A vector that stands alone in a matrix, read as a vector, and the other way. -/
theorem lone1_apply {D : ℕ} {α : Type} (z : (⟨2, ![1, D]⟩ : Shape).Idx → α) (h : (⟨2, ![1, D]⟩ : Shape).ShapeCasts ⟨1, ![D]⟩) (d : Fin D) :
    shapeCast ⟨1, ![D]⟩ z h (ix1 d) = z (ix2 0 d) :=
  shapeCast_apply _ _ (ix1 d) (ix2 0 d) (by rw [Shape.rowMajor_val_two, Shape.rowMajor_val_one]; show 0 * D + d.val = d.val; rw [Nat.zero_mul, Nat.zero_add])

theorem put1_apply {D : ℕ} {α : Type} (z : (⟨1, ![D]⟩ : Shape).Idx → α) (h : (⟨1, ![D]⟩ : Shape).ShapeCasts ⟨2, ![1, D]⟩) (d : Fin D) :
    shapeCast ⟨2, ![1, D]⟩ z h (ix2 0 d) = z (ix1 d) :=
  shapeCast_apply _ _ (ix2 0 d) (ix1 d) (by rw [Shape.rowMajor_val_two, Shape.rowMajor_val_one]; show d.val = 0 * D + d.val; rw [Nat.zero_mul, Nat.zero_add])

end Cert.Linear
-- ==== Proof.OutInRegions.lean ====
module

public import proofs.«01_k».proof.Proof.Linear
public import proofs.«01_k».proof.Proof.Gen.Kernel3Ideal
public import proofs.«01_k».proof.Proof.Gen.Kernel3Ideal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.Kernel3Ideal.Linear
open Cert.Kernel3Ideal.Gen Cert.Linear

theorem z2 : (![0, 0] : Fin 2 → ℕ) = fun _ => 0 := funext fun a => match a with | 0 => rfl | 1 => rfl

variable (V : (c : Dev nD) → (b : Ref sig .tc) → Buf (Elt Ideal) ((c : Thread nD τ).loc b))

/-- The block window 0 of region 0 takes at a grid point. -/
theorem index0_0 : ∀ t : Fin cfg0.N, win0_0.index t (0 : Fin 2) = t.val ∧ win0_0.index t (1 : Fin 2) = 0 :=
  (by decide +kernel : ∀ t : Fin grid0.N, _)

/-- The block window 1 of region 0 takes at a grid point. -/
theorem index0_1 : ∀ t : Fin cfg0.N, win0_1.index t (0 : Fin 2) = t.val ∧ win0_1.index t (1 : Fin 2) = 0 :=
  (by decide +kernel : ∀ t : Fin grid0.N, _)

/-- The block window 2 of region 0 takes at a grid point. -/
theorem index0_2 : ∀ t : Fin cfg0.N, win0_2.index t (0 : Fin 2) = t.val ∧ win0_2.index t (1 : Fin 2) = 0 :=
  (by decide +kernel : ∀ t : Fin grid0.N, _)

/-- The block window 6 of region 0 takes at a grid point. -/
theorem index0_6 : ∀ t : Fin cfg0.N, win0_6.index t (0 : Fin 2) = t.val ∧ win0_6.index t (1 : Fin 2) = 0 :=
  (by decide +kernel : ∀ t : Fin grid0.N, _)

/-- The block window 8 of region 0 takes at a grid point. -/
theorem index0_8 : ∀ t : Fin cfg0.N, win0_8.index t (0 : Fin 2) = t.val ∧ win0_8.index t (1 : Fin 2) = 0 :=
  (by decide +kernel : ∀ t : Fin grid0.N, _)

/-- The block window 9 of region 0 takes at a grid point. -/
theorem index0_9 : ∀ t : Fin cfg0.N, win0_9.index t (0 : Fin 2) = t.val ∧ win0_9.index t (1 : Fin 2) = 0 :=
  (by decide +kernel : ∀ t : Fin grid0.N, _)

/-- The block window 3 of region 0 takes at a grid point. -/
theorem index0_3 : ∀ t : Fin cfg0.N, win0_3.index t (0 : Fin 2) = 0 ∧ win0_3.index t (1 : Fin 2) = 0 :=
  (by decide +kernel : ∀ t : Fin grid0.N, _)

/-- The block window 4 of region 0 takes at a grid point. -/
theorem index0_4 : ∀ t : Fin cfg0.N, win0_4.index t (0 : Fin 2) = 0 ∧ win0_4.index t (1 : Fin 2) = 0 :=
  (by decide +kernel : ∀ t : Fin grid0.N, _)

/-- The block window 5 of region 0 takes at a grid point. -/
theorem index0_5 : ∀ t : Fin cfg0.N, win0_5.index t (0 : Fin 2) = 0 ∧ win0_5.index t (1 : Fin 2) = 0 :=
  (by decide +kernel : ∀ t : Fin grid0.N, _)

/-- The block window 7 of region 0 takes at a grid point. -/
theorem index0_7 : ∀ t : Fin cfg0.N, win0_7.index t (0 : Fin 2) = 0 ∧ win0_7.index t (1 : Fin 2) = 0 :=
  (by decide +kernel : ∀ t : Fin grid0.N, _)

theorem N_le0 (t : Fin cfg0.N) : t.val < 32 := lt_of_lt_of_eq t.isLt (show cfg0.N = 32 from N_0)

theorem dims0_256 : dot_S256x256_S256x2048_S256x2048_1_0_0_1_n_n = DotDims.plain 256 256 2048 := rfl

theorem dims0_1024 : dot_S256x1024_S1024x2048_S256x2048_1_0_0_1_n_n = DotDims.plain 256 1024 2048 := rfl

/-- The rows with the branches' products added, one grid point's block. -/
def acc0 (x : FVec Ideal S256x2048 .f32) (h0 : FVec Ideal S256x1024 .bf16) (w0 : FVec Ideal S1024x2048 .bf16) (h1 : FVec Ideal S256x1024 .bf16) (w1 : FVec Ideal S1024x2048 .bf16) (h2 : FVec Ideal S256x256 .bf16) (w2 : FVec Ideal S256x2048 .bf16) : FVec Ideal S256x2048 .f32 :=
  addf (addf (addf (x) (matmul (F := Ideal) dot_S256x1024_S1024x2048_S256x2048_1_0_0_1_n_n none h0 w0 (constant S256x2048 .f32 0x00000000#32))) (matmul (F := Ideal) dot_S256x1024_S1024x2048_S256x2048_1_0_0_1_n_n none h1 w1 (constant S256x2048 .f32 0x00000000#32))) (matmul (F := Ideal) dot_S256x256_S256x2048_S256x2048_1_0_0_1_n_n none h2 w2 (constant S256x2048 .f32 0x00000000#32))

theorem acc0_apply (x : FVec Ideal S256x2048 .f32) (h0 : FVec Ideal S256x1024 .bf16) (w0 : FVec Ideal S1024x2048 .bf16) (h1 : FVec Ideal S256x1024 .bf16) (w1 : FVec Ideal S1024x2048 .bf16) (h2 : FVec Ideal S256x256 .bf16) (w2 : FVec Ideal S256x2048 .bf16) (r : Fin 256) (l : Fin 2048) :
    (acc0 x h0 w0 h1 w1 h2 w2 : S256x2048.Idx → EReal) (ix2 r l) = (x (ix2 r l) : EReal) + (∑ k : Fin 1024, (h0 (ix2 r k) : EReal) * (w0 (ix2 k l) : EReal)) + (∑ k : Fin 1024, (h1 (ix2 r k) : EReal) * (w1 (ix2 k l) : EReal)) + (∑ k : Fin 256, (h2 (ix2 r k) : EReal) * (w2 (ix2 k l) : EReal)) := by
  unfold acc0
  rw [dims0_256, dims0_1024]
  pointwise [Ideal.matmul_plain_apply]

theorem pay0_acc (x : FVec Ideal S256x2048 .f32) (h0 : FVec Ideal S256x1024 .bf16) (w0 : FVec Ideal S1024x2048 .bf16) (h1 : FVec Ideal S256x1024 .bf16) (w1 : FVec Ideal S1024x2048 .bf16) (h2 : FVec Ideal S256x256 .bf16) (w2 : FVec Ideal S256x2048 .bf16) :
    k0_pay1 (F := Ideal) x h0 w0 h1 w1 h2 w2 = acc0 x h0 w0 h1 w1 h2 w2 := by
  unfold k0_pay1 acc0
  simp only [shapeCast_self]

/-- The block stored at a grid point is the norm of the sums. -/
theorem pay0_apply (x : FVec Ideal S256x2048 .f32) (h0 : FVec Ideal S256x1024 .bf16) (w0 : FVec Ideal S1024x2048 .bf16) (h1 : FVec Ideal S256x1024 .bf16) (w1 : FVec Ideal S1024x2048 .bf16) (h2 : FVec Ideal S256x256 .bf16) (w2 : FVec Ideal S256x2048 .bf16) (g : FVec Ideal S1x2048 .f32) (r : Fin 256) (l : Fin 2048) :
    (k0_pay2 (F := Ideal) x h0 w0 h1 w1 h2 w2 g : S256x2048.Idx → EReal) (ix2 r l) = rms (Ideal.ofBits .f32 0x45000000#32) (Ideal.ofBits .f32 0x358637BD#32)
      (fun d => (acc0 x h0 w0 h1 w1 h2 w2 (ix2 r d) : EReal)) (fun d => (g (ix2 0 d) : EReal)) l := by
  unfold k0_pay2
  unfold rms
  simp only [shapeCast_self]
  rw [pay0_acc]
  generalize acc0 x h0 w0 h1 w1 h2 w2 = y
  pointwise
  exact congrArg (fun s : EReal => (y (ix2 r l) : EReal) * Ideal.rsqrt (Ideal.div s (Ideal.ofBits .f32 0x45000000#32)
    + Ideal.ofBits .f32 0x358637BD#32) * (g (ix2 0 l) : EReal)) (colSum (mulf y y) r _ _ _ _)

/-- An element of window 0's block in region 0. -/
theorem blk0_0 (c : Dev nD) (t : Fin cfg0.N) (r : Fin 256) (l : Fin 1024) (R : Fin 8192) (L : Fin 1024)
    (hR : R.val = 256 * t.val + r.val) (hL : L.val = l.val) : iblk0 V c 0 t (ix2 r l) = V c main_arg0 (ix2 R L) := by
  obtain ⟨e0, e1⟩ := index0_0 t
  refine congrArg (V c main_arg0) (funext fun a => Fin.ext ?_)
  match a with
  | 0 => show win0_0.index t (0 : Fin 2) * 256 + 1 * r.val = R.val; omega
  | 1 => show win0_0.index t (1 : Fin 2) * 1024 + 1 * l.val = L.val; omega

/-- An element of window 3's block in region 0. -/
theorem blk0_3 (c : Dev nD) (t : Fin cfg0.N) (r : Fin 1024) (l : Fin 2048) (R : Fin 1024) (L : Fin 2048)
    (hR : R.val = r.val) (hL : L.val = l.val) : iblk0 V c 3 t (ix2 r l) = V c main_v3 (ix2 R L) := by
  obtain ⟨e0, e1⟩ := index0_3 t
  refine congrArg (V c main_v3) (funext fun a => Fin.ext ?_)
  match a with
  | 0 => show win0_3.index t (0 : Fin 2) * 1024 + 1 * r.val = R.val; omega
  | 1 => show win0_3.index t (1 : Fin 2) * 2048 + 1 * l.val = L.val; omega

/-- An element of window 1's block in region 0. -/
theorem blk0_1 (c : Dev nD) (t : Fin cfg0.N) (r : Fin 256) (l : Fin 1024) (R : Fin 8192) (L : Fin 1024)
    (hR : R.val = 256 * t.val + r.val) (hL : L.val = l.val) : iblk0 V c 1 t (ix2 r l) = V c main_arg1 (ix2 R L) := by
  obtain ⟨e0, e1⟩ := index0_1 t
  refine congrArg (V c main_arg1) (funext fun a => Fin.ext ?_)
  match a with
  | 0 => show win0_1.index t (0 : Fin 2) * 256 + 1 * r.val = R.val; omega
  | 1 => show win0_1.index t (1 : Fin 2) * 1024 + 1 * l.val = L.val; omega

/-- An element of window 4's block in region 0. -/
theorem blk0_4 (c : Dev nD) (t : Fin cfg0.N) (r : Fin 1024) (l : Fin 2048) (R : Fin 1024) (L : Fin 2048)
    (hR : R.val = r.val) (hL : L.val = l.val) : iblk0 V c 4 t (ix2 r l) = V c main_v4 (ix2 R L) := by
  obtain ⟨e0, e1⟩ := index0_4 t
  refine congrArg (V c main_v4) (funext fun a => Fin.ext ?_)
  match a with
  | 0 => show win0_4.index t (0 : Fin 2) * 1024 + 1 * r.val = R.val; omega
  | 1 => show win0_4.index t (1 : Fin 2) * 2048 + 1 * l.val = L.val; omega

/-- An element of window 2's block in region 0. -/
theorem blk0_2 (c : Dev nD) (t : Fin cfg0.N) (r : Fin 256) (l : Fin 256) (R : Fin 8192) (L : Fin 256)
    (hR : R.val = 256 * t.val + r.val) (hL : L.val = l.val) : iblk0 V c 2 t (ix2 r l) = V c main_arg2 (ix2 R L) := by
  obtain ⟨e0, e1⟩ := index0_2 t
  refine congrArg (V c main_arg2) (funext fun a => Fin.ext ?_)
  match a with
  | 0 => show win0_2.index t (0 : Fin 2) * 256 + 1 * r.val = R.val; omega
  | 1 => show win0_2.index t (1 : Fin 2) * 256 + 1 * l.val = L.val; omega

/-- An element of window 5's block in region 0. -/
theorem blk0_5 (c : Dev nD) (t : Fin cfg0.N) (r : Fin 256) (l : Fin 2048) (R : Fin 256) (L : Fin 2048)
    (hR : R.val = r.val) (hL : L.val = l.val) : iblk0 V c 5 t (ix2 r l) = V c main_v5 (ix2 R L) := by
  obtain ⟨e0, e1⟩ := index0_5 t
  refine congrArg (V c main_v5) (funext fun a => Fin.ext ?_)
  match a with
  | 0 => show win0_5.index t (0 : Fin 2) * 256 + 1 * r.val = R.val; omega
  | 1 => show win0_5.index t (1 : Fin 2) * 2048 + 1 * l.val = L.val; omega

/-- An element of window 6's block in region 0. -/
theorem blk0_6 (c : Dev nD) (t : Fin cfg0.N) (r : Fin 256) (l : Fin 2048) (R : Fin 8192) (L : Fin 2048)
    (hR : R.val = 256 * t.val + r.val) (hL : L.val = l.val) : iblk0 V c 6 t (ix2 r l) = V c main_arg3 (ix2 R L) := by
  obtain ⟨e0, e1⟩ := index0_6 t
  refine congrArg (V c main_arg3) (funext fun a => Fin.ext ?_)
  match a with
  | 0 => show win0_6.index t (0 : Fin 2) * 256 + 1 * r.val = R.val; omega
  | 1 => show win0_6.index t (1 : Fin 2) * 2048 + 1 * l.val = L.val; omega

/-- An element of window 7's block in region 0. -/
theorem blk0_7 (c : Dev nD) (t : Fin cfg0.N) (r : Fin 1) (l : Fin 2048) (R : Fin 1) (L : Fin 2048)
    (hR : R.val = r.val) (hL : L.val = l.val) : iblk0 V c 7 t (ix2 r l) = V c main_v7 (ix2 R L) := by
  obtain ⟨e0, e1⟩ := index0_7 t
  refine congrArg (V c main_v7) (funext fun a => Fin.ext ?_)
  match a with
  | 0 => show win0_7.index t (0 : Fin 2) * 1 + 1 * r.val = R.val; omega
  | 1 => show win0_7.index t (1 : Fin 2) * 2048 + 1 * l.val = L.val; omega

/-- The rows with the branches' products added. -/
def sum0 (c : Dev nD) : S8192x2048.Idx → EReal := plus (plus (plus ((V c main_arg3 : S8192x2048.Idx → EReal)) (prod (V c main_arg0 : S8192x1024.Idx → EReal) (V c main_v3 : S1024x2048.Idx → EReal))) (prod (V c main_arg1 : S8192x1024.Idx → EReal) (V c main_v4 : S1024x2048.Idx → EReal))) (prod (V c main_arg2 : S8192x256.Idx → EReal) (V c main_v5 : S256x2048.Idx → EReal))

theorem accblk0 (c : Dev nD) (t : Fin cfg0.N) (r : Fin 256) (R : Fin 8192) (hR : R.val = 256 * t.val + r.val) (d : Fin 2048) :
    (acc0 (iblk0 V c 6 t) (iblk0 V c 0 t) (iblk0 V c 3 t) (iblk0 V c 1 t) (iblk0 V c 4 t) (iblk0 V c 2 t) (iblk0 V c 5 t) (ix2 r d) : EReal) = sum0 V c (ix2 R d) := by
  refine (acc0_apply _ _ _ _ _ _ _ r d).trans ?_
  unfold sum0
  exact congrArg₂ (fun a b : EReal => a + b) (congrArg₂ (fun a b : EReal => a + b) (congrArg₂ (fun a b : EReal => a + b) (blk0_6 V c t r d R d hR rfl) (Finset.sum_congr rfl fun k _ => congrArg₂ (fun a b : EReal => a * b) (blk0_0 V c t r k R k hR rfl) (blk0_3 V c t k d k d rfl rfl))) (Finset.sum_congr rfl fun k _ => congrArg₂ (fun a b : EReal => a * b) (blk0_1 V c t r k R k hR rfl) (blk0_4 V c t k d k d rfl rfl))) (Finset.sum_congr rfl fun k _ => congrArg₂ (fun a b : EReal => a * b) (blk0_2 V c t r k R k hR rfl) (blk0_5 V c t k d k d rfl rfl))

/-- What a grid point writes back through window 8 is its block of the result. -/
theorem flushed0_8 (c : Dev nD) (t : Fin cfg0.N) : (dat0 V c).flushed 8 t
    = ((cfg0.win 8).blk t).view.read (Elt Ideal) (sum0 V c) := by
  obtain ⟨e0, e1⟩ := index0_8 t
  have ht := N_le0 t
  show (cfg0.win 8).cut (grid0.coords t) ((dat0 V c).after 8 t) = _
  rw [after0_8]
  unfold out0_8
  rw [View.canon_unit_zero (S := S256x2048) z2]
  simp only [View.ld_unit_zero (S := S256x2048) z2, View.ld_unit_zero (S := S256x1024) z2, View.ld_unit_zero (S := S256x256) z2, View.ld_unit_zero (S := S1024x2048) z2]
  funext y
  obtain ⟨r, l, rfl⟩ : ∃ (r : Fin 256) (l : Fin 2048), y = ix2 r l := ⟨y 0, y 1, eq_ix2 y⟩
  have hr := r.isLt
  let R : Fin 8192 := ⟨256 * t.val + r.val, by omega⟩
  have hemb : ((cfg0.win 8).blk t).view.emb (ix2 r l) = (ix2 R l : S8192x2048.Idx) := by
    refine funext fun a => Fin.ext ?_
    match a with
    | 0 => show win0_8.index t (0 : Fin 2) * 256 + 1 * r.val = R.val; simp only [R]; omega
    | 1 => show win0_8.index t (1 : Fin 2) * 2048 + 1 * l.val = l.val; omega
  refine Eq.trans ?_ (congrArg (sum0 V c) hemb).symm
  refine (congrFun (pay0_acc (iblk0 V c 6 t) (iblk0 V c 0 t) (iblk0 V c 3 t) (iblk0 V c 1 t) (iblk0 V c 4 t) (iblk0 V c 2 t) (iblk0 V c 5 t)) (ix2 r l)).trans ?_
  exact accblk0 V c t r R rfl l

/-- Every entry of the array lies in a block that some grid point writes back. -/
theorem covered0_8 (i : S8192x2048.Idx) :
    ∃ t : Fin cfg0.N, (cfg0.win 8).flush t = true ∧ i ∈ ((cfg0.win 8).blk t).view.set := by
  have h0 : (i 0).val < 8192 := (i 0).isLt
  have h1 : (i 1).val < 2048 := (i 1).isLt
  let t : Fin cfg0.N := ⟨(i 0).val / 256, lt_of_lt_of_eq (b := 32) (by omega) (show 32 = cfg0.N from N_0.symm)⟩
  obtain ⟨e0, e1⟩ := index0_8 t
  have tv : t.val = (i 0).val / 256 := rfl
  refine ⟨t, flush0_8 t, ?_⟩
  have hm := ((cfg0.win 8).blk t).view.emb_mem_set (ix2 ⟨(i 0).val % 256, by omega⟩ ⟨(i 1).val % 2048, by omega⟩)
  have he : ((cfg0.win 8).blk t).view.emb (ix2 ⟨(i 0).val % 256, by omega⟩ ⟨(i 1).val % 2048, by omega⟩) = i := by
    refine funext fun a => Fin.ext ?_
    match a with
    | 0 => show win0_8.index t (0 : Fin 2) * 256 + 1 * ((i 0).val % 256) = (i 0).val; omega
    | 1 => show win0_8.index t (1 : Fin 2) * 2048 + 1 * ((i 1).val % 2048) = (i 1).val; omega
  rwa [he] at hm

/-- What region 0 leaves through window 8. -/
theorem final0_8 (c : Dev nD) : (dat0 V c).arrAt 8 cfg0.N = (sum0 V c) :=
  (dat0 V c).arrAt_eq_of_cover 8 _ (fun t _ => flushed0_8 V c t) covered0_8

/-- What a grid point writes back through window 9 is its block of the result. -/
theorem flushed0_9 (c : Dev nD) (t : Fin cfg0.N) : (dat0 V c).flushed 9 t
    = ((cfg0.win 9).blk t).view.read (Elt Ideal) (normed (sum0 V c) fun d => (V c main_v7 : S1x2048.Idx → EReal) (ix2 0 d)) := by
  obtain ⟨e0, e1⟩ := index0_9 t
  have ht := N_le0 t
  show (cfg0.win 9).cut (grid0.coords t) ((dat0 V c).after 9 t) = _
  rw [after0_9]
  unfold out0_9
  rw [View.canon_unit_zero (S := S256x2048) z2]
  simp only [View.ld_unit_zero (S := S256x2048) z2, View.ld_unit_zero (S := S256x1024) z2, View.ld_unit_zero (S := S256x256) z2, View.ld_unit_zero (S := S1024x2048) z2, View.ld_unit_zero (S := S1x2048) z2]
  funext y
  obtain ⟨r, l, rfl⟩ : ∃ (r : Fin 256) (l : Fin 2048), y = ix2 r l := ⟨y 0, y 1, eq_ix2 y⟩
  have hr := r.isLt
  let R : Fin 8192 := ⟨256 * t.val + r.val, by omega⟩
  have hemb : ((cfg0.win 9).blk t).view.emb (ix2 r l) = (ix2 R l : S8192x2048.Idx) := by
    refine funext fun a => Fin.ext ?_
    match a with
    | 0 => show win0_9.index t (0 : Fin 2) * 256 + 1 * r.val = R.val; simp only [R]; omega
    | 1 => show win0_9.index t (1 : Fin 2) * 2048 + 1 * l.val = l.val; omega
  refine (pay0_apply _ _ _ _ _ _ _ _ r l).trans (Eq.trans ?_ (congrArg (normed (sum0 V c) fun d => (V c main_v7 : S1x2048.Idx → EReal) (ix2 0 d)) hemb).symm)
  have e := funext fun d => accblk0 V c t r R rfl d
  have e' : (fun d : Fin 2048 => (iblk0 V c 7 t (ix2 0 d) : EReal)) = fun d => V c main_v7 (ix2 0 d) :=
    funext fun d => blk0_7 V c t 0 d 0 d (by omega) (by omega)
  unfold normed
  rw [e, e']
  rfl

/-- Every entry of the array lies in a block that some grid point writes back. -/
theorem covered0_9 (i : S8192x2048.Idx) :
    ∃ t : Fin cfg0.N, (cfg0.win 9).flush t = true ∧ i ∈ ((cfg0.win 9).blk t).view.set := by
  have h0 : (i 0).val < 8192 := (i 0).isLt
  have h1 : (i 1).val < 2048 := (i 1).isLt
  let t : Fin cfg0.N := ⟨(i 0).val / 256, lt_of_lt_of_eq (b := 32) (by omega) (show 32 = cfg0.N from N_0.symm)⟩
  obtain ⟨e0, e1⟩ := index0_9 t
  have tv : t.val = (i 0).val / 256 := rfl
  refine ⟨t, flush0_9 t, ?_⟩
  have hm := ((cfg0.win 9).blk t).view.emb_mem_set (ix2 ⟨(i 0).val % 256, by omega⟩ ⟨(i 1).val % 2048, by omega⟩)
  have he : ((cfg0.win 9).blk t).view.emb (ix2 ⟨(i 0).val % 256, by omega⟩ ⟨(i 1).val % 2048, by omega⟩) = i := by
    refine funext fun a => Fin.ext ?_
    match a with
    | 0 => show win0_9.index t (0 : Fin 2) * 256 + 1 * ((i 0).val % 256) = (i 0).val; omega
    | 1 => show win0_9.index t (1 : Fin 2) * 2048 + 1 * ((i 1).val % 2048) = (i 1).val; omega
  rwa [he] at hm

/-- What region 0 leaves through window 9. -/
theorem final0_9 (c : Dev nD) : (dat0 V c).arrAt 9 cfg0.N = (normed (sum0 V c) fun d => (V c main_v7 : S1x2048.Idx → EReal) (ix2 0 d)) :=
  (dat0 V c).arrAt_eq_of_cover 9 _ (fun t _ => flushed0_9 V c t) covered0_9

/-- The block window 0 of region 1 takes at a grid point. -/
theorem index1_0 : ∀ t : Fin cfg1.N, win1_0.index t (0 : Fin 2) = t.val / 2 ∧ win1_0.index t (1 : Fin 2) = 0 :=
  (by decide +kernel : ∀ t : Fin grid1.N, _)

/-- The block window 1 of region 1 takes at a grid point. -/
theorem index1_1 : ∀ t : Fin cfg1.N, win1_1.index t (0 : Fin 2) = 0 ∧ win1_1.index t (1 : Fin 2) = t.val % 2 :=
  (by decide +kernel : ∀ t : Fin grid1.N, _)

/-- The block window 2 of region 1 takes at a grid point. -/
theorem index1_2 : ∀ t : Fin cfg1.N, win1_2.index t (0 : Fin 2) = t.val / 2 ∧ win1_2.index t (1 : Fin 2) = t.val % 2 :=
  (by decide +kernel : ∀ t : Fin grid1.N, _)

theorem N_le1 (t : Fin cfg1.N) : t.val < 16 := lt_of_lt_of_eq t.isLt (show cfg1.N = 16 from N_1)

/-- The product's dimensions are the plain ones. -/
theorem dims1 : dot_S1024x2048_S2048x1024_S1024x1024_1_0_0_1_n_n = DotDims.plain 1024 2048 1024 := rfl

/-- The block stored at a grid point is the product of the two blocks loaded there. -/
theorem pay1_apply (x : FVec Ideal S1024x2048 .bf16) (w : FVec Ideal S2048x1024 .bf16) (r : Fin 1024) (l : Fin 1024) :
    (k1_pay1 (F := Ideal) x w : S1024x1024.Idx → EReal) (ix2 r l) = ∑ k : Fin 2048, (x (ix2 r k) : EReal) * (w (ix2 k l) : EReal) := by
  unfold k1_pay1
  rw [dims1]
  simp only [shapeCast_self]
  pointwise [Ideal.matmul_plain_apply]

/-- An element of window 0's block in region 1. -/
theorem blk1_0 (c : Dev nD) (t : Fin cfg1.N) (r : Fin 1024) (l : Fin 2048) (R : Fin 8192) (L : Fin 2048)
    (hR : R.val = 1024 * (t.val / 2) + r.val) (hL : L.val = l.val) : iblk1 V c 0 t (ix2 r l) = V c main_v8_1 (ix2 R L) := by
  obtain ⟨e0, e1⟩ := index1_0 t
  refine congrArg (V c main_v8_1) (funext fun a => Fin.ext ?_)
  match a with
  | 0 => show win1_0.index t (0 : Fin 2) * 1024 + 1 * r.val = R.val; omega
  | 1 => show win1_0.index t (1 : Fin 2) * 2048 + 1 * l.val = L.val; omega

/-- An element of window 1's block in region 1. -/
theorem blk1_1 (c : Dev nD) (t : Fin cfg1.N) (r : Fin 2048) (l : Fin 1024) (R : Fin 2048) (L : Fin 2048)
    (hR : R.val = r.val) (hL : L.val = 1024 * (t.val % 2) + l.val) : iblk1 V c 1 t (ix2 r l) = V c main_v10 (ix2 R L) := by
  obtain ⟨e0, e1⟩ := index1_1 t
  refine congrArg (V c main_v10) (funext fun a => Fin.ext ?_)
  match a with
  | 0 => show win1_1.index t (0 : Fin 2) * 2048 + 1 * r.val = R.val; omega
  | 1 => show win1_1.index t (1 : Fin 2) * 1024 + 1 * l.val = L.val; omega

/-- What a grid point writes back is its block of the whole product. -/
theorem flushed1 (c : Dev nD) (t : Fin cfg1.N) : (dat1 V c).flushed 2 t
    = ((cfg1.win 2).blk t).view.read (Elt Ideal) (prod (V c main_v8_1 : S8192x2048.Idx → EReal) (V c main_v10 : S2048x2048.Idx → EReal)) := by
  obtain ⟨e0, e1⟩ := index1_2 t
  have ht := N_le1 t
  show (cfg1.win 2).cut (grid1.coords t) ((dat1 V c).after 2 t) = _
  rw [after1_2]
  unfold out1_2
  rw [View.canon_unit_zero (S := S1024x1024) z2, View.ld_unit_zero (S := S1024x2048) z2, View.ld_unit_zero (S := S2048x1024) z2]
  funext y
  obtain ⟨r, l, rfl⟩ : ∃ (r : Fin 1024) (l : Fin 1024), y = ix2 r l := ⟨y 0, y 1, eq_ix2 y⟩
  have hr := r.isLt
  have hl := l.isLt
  let R : Fin 8192 := ⟨1024 * (t.val / 2) + r.val, by omega⟩
  let L : Fin 2048 := ⟨1024 * (t.val % 2) + l.val, by omega⟩
  have hemb : ((cfg1.win 2).blk t).view.emb (ix2 r l) = (ix2 R L : S8192x2048.Idx) := by
    refine funext fun a => Fin.ext ?_
    match a with
    | 0 => show win1_2.index t (0 : Fin 2) * 1024 + 1 * r.val = R.val; simp only [R]; omega
    | 1 => show win1_2.index t (1 : Fin 2) * 1024 + 1 * l.val = L.val; simp only [L]; omega
  refine (pay1_apply _ _ r l).trans ((Finset.sum_congr rfl fun k _ => ?_).trans (congrArg (prod (V c main_v8_1 : S8192x2048.Idx → EReal) (V c main_v10 : S2048x2048.Idx → EReal)) hemb).symm)
  rw [blk1_0 V c t r k R k (by simp only [R]) (by omega), blk1_1 V c t k l k L (by omega) (by simp only [L])]
  rfl

/-- Every entry of the array lies in a block that some grid point writes back. -/
theorem covered1_2 (i : S8192x2048.Idx) :
    ∃ t : Fin cfg1.N, (cfg1.win 2).flush t = true ∧ i ∈ ((cfg1.win 2).blk t).view.set := by
  have h0 : (i 0).val < 8192 := (i 0).isLt
  have h1 : (i 1).val < 2048 := (i 1).isLt
  let t : Fin cfg1.N := ⟨(i 0).val / 1024 * 2 + (i 1).val / 1024, lt_of_lt_of_eq (b := 16) (by omega) (show 16 = cfg1.N from N_1.symm)⟩
  obtain ⟨e0, e1⟩ := index1_2 t
  have tv : t.val = (i 0).val / 1024 * 2 + (i 1).val / 1024 := rfl
  refine ⟨t, flush1_2 t, ?_⟩
  have hm := ((cfg1.win 2).blk t).view.emb_mem_set (ix2 ⟨(i 0).val % 1024, by omega⟩ ⟨(i 1).val % 1024, by omega⟩)
  have he : ((cfg1.win 2).blk t).view.emb (ix2 ⟨(i 0).val % 1024, by omega⟩ ⟨(i 1).val % 1024, by omega⟩) = i := by
    refine funext fun a => Fin.ext ?_
    match a with
    | 0 => show win1_2.index t (0 : Fin 2) * 1024 + 1 * ((i 0).val % 1024) = (i 0).val; omega
    | 1 => show win1_2.index t (1 : Fin 2) * 1024 + 1 * ((i 1).val % 1024) = (i 1).val; omega
  rwa [he] at hm

/-- Region 1 leaves the product of its two matrices. -/
theorem final1 (c : Dev nD) : (dat1 V c).arrAt 2 cfg1.N = prod (V c main_v8_1 : S8192x2048.Idx → EReal) (V c main_v10 : S2048x2048.Idx → EReal) :=
  (dat1 V c).arrAt_eq_of_cover 2 _ (fun t _ => flushed1 V c t) covered1_2

/-- The block window 0 of region 2 takes at a grid point. -/
theorem index2_0 : ∀ t : Fin cfg2.N, win2_0.index t (0 : Fin 2) = t.val / 2 ∧ win2_0.index t (1 : Fin 2) = 0 :=
  (by decide +kernel : ∀ t : Fin grid2.N, _)

/-- The block window 1 of region 2 takes at a grid point. -/
theorem index2_1 : ∀ t : Fin cfg2.N, win2_1.index t (0 : Fin 2) = 0 ∧ win2_1.index t (1 : Fin 2) = t.val % 2 :=
  (by decide +kernel : ∀ t : Fin grid2.N, _)

/-- The block window 2 of region 2 takes at a grid point. -/
theorem index2_2 : ∀ t : Fin cfg2.N, win2_2.index t (0 : Fin 2) = t.val / 2 ∧ win2_2.index t (1 : Fin 2) = t.val % 2 :=
  (by decide +kernel : ∀ t : Fin grid2.N, _)

theorem N_le2 (t : Fin cfg2.N) : t.val < 16 := lt_of_lt_of_eq t.isLt (show cfg2.N = 16 from N_2)

/-- The product's dimensions are the plain ones. -/
theorem dims2 : dot_S1024x2048_S2048x1024_S1024x1024_1_0_0_1_n_n = DotDims.plain 1024 2048 1024 := rfl

/-- The block stored at a grid point is the product of the two blocks loaded there. -/
theorem pay2_apply (x : FVec Ideal S1024x2048 .bf16) (w : FVec Ideal S2048x1024 .bf16) (r : Fin 1024) (l : Fin 1024) :
    (k2_pay1 (F := Ideal) x w : S1024x1024.Idx → EReal) (ix2 r l) = ∑ k : Fin 2048, (x (ix2 r k) : EReal) * (w (ix2 k l) : EReal) := by
  unfold k2_pay1
  rw [dims2]
  simp only [shapeCast_self]
  pointwise [Ideal.matmul_plain_apply]

/-- An element of window 0's block in region 2. -/
theorem blk2_0 (c : Dev nD) (t : Fin cfg2.N) (r : Fin 1024) (l : Fin 2048) (R : Fin 8192) (L : Fin 2048)
    (hR : R.val = 1024 * (t.val / 2) + r.val) (hL : L.val = l.val) : iblk2 V c 0 t (ix2 r l) = V c main_v8_1 (ix2 R L) := by
  obtain ⟨e0, e1⟩ := index2_0 t
  refine congrArg (V c main_v8_1) (funext fun a => Fin.ext ?_)
  match a with
  | 0 => show win2_0.index t (0 : Fin 2) * 1024 + 1 * r.val = R.val; omega
  | 1 => show win2_0.index t (1 : Fin 2) * 2048 + 1 * l.val = L.val; omega

/-- An element of window 1's block in region 2. -/
theorem blk2_1 (c : Dev nD) (t : Fin cfg2.N) (r : Fin 2048) (l : Fin 1024) (R : Fin 2048) (L : Fin 2048)
    (hR : R.val = r.val) (hL : L.val = 1024 * (t.val % 2) + l.val) : iblk2 V c 1 t (ix2 r l) = V c main_v13 (ix2 R L) := by
  obtain ⟨e0, e1⟩ := index2_1 t
  refine congrArg (V c main_v13) (funext fun a => Fin.ext ?_)
  match a with
  | 0 => show win2_1.index t (0 : Fin 2) * 2048 + 1 * r.val = R.val; omega
  | 1 => show win2_1.index t (1 : Fin 2) * 1024 + 1 * l.val = L.val; omega

/-- What a grid point writes back is its block of the whole product. -/
theorem flushed2 (c : Dev nD) (t : Fin cfg2.N) : (dat2 V c).flushed 2 t
    = ((cfg2.win 2).blk t).view.read (Elt Ideal) (prod (V c main_v8_1 : S8192x2048.Idx → EReal) (V c main_v13 : S2048x2048.Idx → EReal)) := by
  obtain ⟨e0, e1⟩ := index2_2 t
  have ht := N_le2 t
  show (cfg2.win 2).cut (grid2.coords t) ((dat2 V c).after 2 t) = _
  rw [after2_2]
  unfold out2_2
  rw [View.canon_unit_zero (S := S1024x1024) z2, View.ld_unit_zero (S := S1024x2048) z2, View.ld_unit_zero (S := S2048x1024) z2]
  funext y
  obtain ⟨r, l, rfl⟩ : ∃ (r : Fin 1024) (l : Fin 1024), y = ix2 r l := ⟨y 0, y 1, eq_ix2 y⟩
  have hr := r.isLt
  have hl := l.isLt
  let R : Fin 8192 := ⟨1024 * (t.val / 2) + r.val, by omega⟩
  let L : Fin 2048 := ⟨1024 * (t.val % 2) + l.val, by omega⟩
  have hemb : ((cfg2.win 2).blk t).view.emb (ix2 r l) = (ix2 R L : S8192x2048.Idx) := by
    refine funext fun a => Fin.ext ?_
    match a with
    | 0 => show win2_2.index t (0 : Fin 2) * 1024 + 1 * r.val = R.val; simp only [R]; omega
    | 1 => show win2_2.index t (1 : Fin 2) * 1024 + 1 * l.val = L.val; simp only [L]; omega
  refine (pay2_apply _ _ r l).trans ((Finset.sum_congr rfl fun k _ => ?_).trans (congrArg (prod (V c main_v8_1 : S8192x2048.Idx → EReal) (V c main_v13 : S2048x2048.Idx → EReal)) hemb).symm)
  rw [blk2_0 V c t r k R k (by simp only [R]) (by omega), blk2_1 V c t k l k L (by omega) (by simp only [L])]
  rfl

/-- Every entry of the array lies in a block that some grid point writes back. -/
theorem covered2_2 (i : S8192x2048.Idx) :
    ∃ t : Fin cfg2.N, (cfg2.win 2).flush t = true ∧ i ∈ ((cfg2.win 2).blk t).view.set := by
  have h0 : (i 0).val < 8192 := (i 0).isLt
  have h1 : (i 1).val < 2048 := (i 1).isLt
  let t : Fin cfg2.N := ⟨(i 0).val / 1024 * 2 + (i 1).val / 1024, lt_of_lt_of_eq (b := 16) (by omega) (show 16 = cfg2.N from N_2.symm)⟩
  obtain ⟨e0, e1⟩ := index2_2 t
  have tv : t.val = (i 0).val / 1024 * 2 + (i 1).val / 1024 := rfl
  refine ⟨t, flush2_2 t, ?_⟩
  have hm := ((cfg2.win 2).blk t).view.emb_mem_set (ix2 ⟨(i 0).val % 1024, by omega⟩ ⟨(i 1).val % 1024, by omega⟩)
  have he : ((cfg2.win 2).blk t).view.emb (ix2 ⟨(i 0).val % 1024, by omega⟩ ⟨(i 1).val % 1024, by omega⟩) = i := by
    refine funext fun a => Fin.ext ?_
    match a with
    | 0 => show win2_2.index t (0 : Fin 2) * 1024 + 1 * ((i 0).val % 1024) = (i 0).val; omega
    | 1 => show win2_2.index t (1 : Fin 2) * 1024 + 1 * ((i 1).val % 1024) = (i 1).val; omega
  rwa [he] at hm

/-- Region 2 leaves the product of its two matrices. -/
theorem final2 (c : Dev nD) : (dat2 V c).arrAt 2 cfg2.N = prod (V c main_v8_1 : S8192x2048.Idx → EReal) (V c main_v13 : S2048x2048.Idx → EReal) :=
  (dat2 V c).arrAt_eq_of_cover 2 _ (fun t _ => flushed2 V c t) covered2_2

/-- The block window 0 of region 3 takes at a grid point. -/
theorem index3_0 : ∀ t : Fin cfg3.N, win3_0.index t (0 : Fin 2) = t.val / 2 ∧ win3_0.index t (1 : Fin 2) = 0 :=
  (by decide +kernel : ∀ t : Fin grid3.N, _)

/-- The block window 1 of region 3 takes at a grid point. -/
theorem index3_1 : ∀ t : Fin cfg3.N, win3_1.index t (0 : Fin 2) = 0 ∧ win3_1.index t (1 : Fin 2) = t.val % 2 :=
  (by decide +kernel : ∀ t : Fin grid3.N, _)

/-- The block window 2 of region 3 takes at a grid point. -/
theorem index3_2 : ∀ t : Fin cfg3.N, win3_2.index t (0 : Fin 2) = t.val / 2 ∧ win3_2.index t (1 : Fin 2) = t.val % 2 :=
  (by decide +kernel : ∀ t : Fin grid3.N, _)

theorem N_le3 (t : Fin cfg3.N) : t.val < 16 := lt_of_lt_of_eq t.isLt (show cfg3.N = 16 from N_3)

/-- The product's dimensions are the plain ones. -/
theorem dims3 : dot_S1024x2048_S2048x1024_S1024x1024_1_0_0_1_n_n = DotDims.plain 1024 2048 1024 := rfl

/-- The block stored at a grid point is the product of the two blocks loaded there. -/
theorem pay3_apply (x : FVec Ideal S1024x2048 .bf16) (w : FVec Ideal S2048x1024 .bf16) (r : Fin 1024) (l : Fin 1024) :
    (k3_pay1 (F := Ideal) x w : S1024x1024.Idx → EReal) (ix2 r l) = ∑ k : Fin 2048, (x (ix2 r k) : EReal) * (w (ix2 k l) : EReal) := by
  unfold k3_pay1
  rw [dims3]
  simp only [shapeCast_self]
  pointwise [Ideal.matmul_plain_apply]

/-- An element of window 0's block in region 3. -/
theorem blk3_0 (c : Dev nD) (t : Fin cfg3.N) (r : Fin 1024) (l : Fin 2048) (R : Fin 8192) (L : Fin 2048)
    (hR : R.val = 1024 * (t.val / 2) + r.val) (hL : L.val = l.val) : iblk3 V c 0 t (ix2 r l) = V c main_v8_1 (ix2 R L) := by
  obtain ⟨e0, e1⟩ := index3_0 t
  refine congrArg (V c main_v8_1) (funext fun a => Fin.ext ?_)
  match a with
  | 0 => show win3_0.index t (0 : Fin 2) * 1024 + 1 * r.val = R.val; omega
  | 1 => show win3_0.index t (1 : Fin 2) * 2048 + 1 * l.val = L.val; omega

/-- An element of window 1's block in region 3. -/
theorem blk3_1 (c : Dev nD) (t : Fin cfg3.N) (r : Fin 2048) (l : Fin 1024) (R : Fin 2048) (L : Fin 2048)
    (hR : R.val = r.val) (hL : L.val = 1024 * (t.val % 2) + l.val) : iblk3 V c 1 t (ix2 r l) = V c main_v16 (ix2 R L) := by
  obtain ⟨e0, e1⟩ := index3_1 t
  refine congrArg (V c main_v16) (funext fun a => Fin.ext ?_)
  match a with
  | 0 => show win3_1.index t (0 : Fin 2) * 2048 + 1 * r.val = R.val; omega
  | 1 => show win3_1.index t (1 : Fin 2) * 1024 + 1 * l.val = L.val; omega

/-- What a grid point writes back is its block of the whole product. -/
theorem flushed3 (c : Dev nD) (t : Fin cfg3.N) : (dat3 V c).flushed 2 t
    = ((cfg3.win 2).blk t).view.read (Elt Ideal) (prod (V c main_v8_1 : S8192x2048.Idx → EReal) (V c main_v16 : S2048x2048.Idx → EReal)) := by
  obtain ⟨e0, e1⟩ := index3_2 t
  have ht := N_le3 t
  show (cfg3.win 2).cut (grid3.coords t) ((dat3 V c).after 2 t) = _
  rw [after3_2]
  unfold out3_2
  rw [View.canon_unit_zero (S := S1024x1024) z2, View.ld_unit_zero (S := S1024x2048) z2, View.ld_unit_zero (S := S2048x1024) z2]
  funext y
  obtain ⟨r, l, rfl⟩ : ∃ (r : Fin 1024) (l : Fin 1024), y = ix2 r l := ⟨y 0, y 1, eq_ix2 y⟩
  have hr := r.isLt
  have hl := l.isLt
  let R : Fin 8192 := ⟨1024 * (t.val / 2) + r.val, by omega⟩
  let L : Fin 2048 := ⟨1024 * (t.val % 2) + l.val, by omega⟩
  have hemb : ((cfg3.win 2).blk t).view.emb (ix2 r l) = (ix2 R L : S8192x2048.Idx) := by
    refine funext fun a => Fin.ext ?_
    match a with
    | 0 => show win3_2.index t (0 : Fin 2) * 1024 + 1 * r.val = R.val; simp only [R]; omega
    | 1 => show win3_2.index t (1 : Fin 2) * 1024 + 1 * l.val = L.val; simp only [L]; omega
  refine (pay3_apply _ _ r l).trans ((Finset.sum_congr rfl fun k _ => ?_).trans (congrArg (prod (V c main_v8_1 : S8192x2048.Idx → EReal) (V c main_v16 : S2048x2048.Idx → EReal)) hemb).symm)
  rw [blk3_0 V c t r k R k (by simp only [R]) (by omega), blk3_1 V c t k l k L (by omega) (by simp only [L])]
  rfl

/-- Every entry of the array lies in a block that some grid point writes back. -/
theorem covered3_2 (i : S8192x2048.Idx) :
    ∃ t : Fin cfg3.N, (cfg3.win 2).flush t = true ∧ i ∈ ((cfg3.win 2).blk t).view.set := by
  have h0 : (i 0).val < 8192 := (i 0).isLt
  have h1 : (i 1).val < 2048 := (i 1).isLt
  let t : Fin cfg3.N := ⟨(i 0).val / 1024 * 2 + (i 1).val / 1024, lt_of_lt_of_eq (b := 16) (by omega) (show 16 = cfg3.N from N_3.symm)⟩
  obtain ⟨e0, e1⟩ := index3_2 t
  have tv : t.val = (i 0).val / 1024 * 2 + (i 1).val / 1024 := rfl
  refine ⟨t, flush3_2 t, ?_⟩
  have hm := ((cfg3.win 2).blk t).view.emb_mem_set (ix2 ⟨(i 0).val % 1024, by omega⟩ ⟨(i 1).val % 1024, by omega⟩)
  have he : ((cfg3.win 2).blk t).view.emb (ix2 ⟨(i 0).val % 1024, by omega⟩ ⟨(i 1).val % 1024, by omega⟩) = i := by
    refine funext fun a => Fin.ext ?_
    match a with
    | 0 => show win3_2.index t (0 : Fin 2) * 1024 + 1 * ((i 0).val % 1024) = (i 0).val; omega
    | 1 => show win3_2.index t (1 : Fin 2) * 1024 + 1 * ((i 1).val % 1024) = (i 1).val; omega
  rwa [he] at hm

/-- Region 3 leaves the product of its two matrices. -/
theorem final3 (c : Dev nD) : (dat3 V c).arrAt 2 cfg3.N = prod (V c main_v8_1 : S8192x2048.Idx → EReal) (V c main_v16 : S2048x2048.Idx → EReal) :=
  (dat3 V c).arrAt_eq_of_cover 2 _ (fun t _ => flushed3 V c t) covered3_2

/-- The block window 0 of region 4 takes at a grid point. -/
theorem index4_0 : ∀ t : Fin cfg4.N, win4_0.index t (0 : Fin 2) = t.val / 2 ∧ win4_0.index t (1 : Fin 2) = 0 :=
  (by decide +kernel : ∀ t : Fin grid4.N, _)

/-- The block window 1 of region 4 takes at a grid point. -/
theorem index4_1 : ∀ t : Fin cfg4.N, win4_1.index t (0 : Fin 2) = 0 ∧ win4_1.index t (1 : Fin 2) = t.val % 2 :=
  (by decide +kernel : ∀ t : Fin grid4.N, _)

/-- The block window 2 of region 4 takes at a grid point. -/
theorem index4_2 : ∀ t : Fin cfg4.N, win4_2.index t (0 : Fin 2) = t.val / 2 ∧ win4_2.index t (1 : Fin 2) = t.val % 2 :=
  (by decide +kernel : ∀ t : Fin grid4.N, _)

theorem N_le4 (t : Fin cfg4.N) : t.val < 16 := lt_of_lt_of_eq t.isLt (show cfg4.N = 16 from N_4)

/-- The product's dimensions are the plain ones. -/
theorem dims4 : dot_S1024x2048_S2048x1024_S1024x1024_1_0_0_1_n_n = DotDims.plain 1024 2048 1024 := rfl

/-- The block stored at a grid point is the product of the two blocks loaded there. -/
theorem pay4_apply (x : FVec Ideal S1024x2048 .bf16) (w : FVec Ideal S2048x1024 .bf16) (r : Fin 1024) (l : Fin 1024) :
    (k4_pay1 (F := Ideal) x w : S1024x1024.Idx → EReal) (ix2 r l) = ∑ k : Fin 2048, (x (ix2 r k) : EReal) * (w (ix2 k l) : EReal) := by
  unfold k4_pay1
  rw [dims4]
  simp only [shapeCast_self]
  pointwise [Ideal.matmul_plain_apply]

/-- An element of window 0's block in region 4. -/
theorem blk4_0 (c : Dev nD) (t : Fin cfg4.N) (r : Fin 1024) (l : Fin 2048) (R : Fin 8192) (L : Fin 2048)
    (hR : R.val = 1024 * (t.val / 2) + r.val) (hL : L.val = l.val) : iblk4 V c 0 t (ix2 r l) = V c main_v8_1 (ix2 R L) := by
  obtain ⟨e0, e1⟩ := index4_0 t
  refine congrArg (V c main_v8_1) (funext fun a => Fin.ext ?_)
  match a with
  | 0 => show win4_0.index t (0 : Fin 2) * 1024 + 1 * r.val = R.val; omega
  | 1 => show win4_0.index t (1 : Fin 2) * 2048 + 1 * l.val = L.val; omega

/-- An element of window 1's block in region 4. -/
theorem blk4_1 (c : Dev nD) (t : Fin cfg4.N) (r : Fin 2048) (l : Fin 1024) (R : Fin 2048) (L : Fin 2048)
    (hR : R.val = r.val) (hL : L.val = 1024 * (t.val % 2) + l.val) : iblk4 V c 1 t (ix2 r l) = V c main_v19 (ix2 R L) := by
  obtain ⟨e0, e1⟩ := index4_1 t
  refine congrArg (V c main_v19) (funext fun a => Fin.ext ?_)
  match a with
  | 0 => show win4_1.index t (0 : Fin 2) * 2048 + 1 * r.val = R.val; omega
  | 1 => show win4_1.index t (1 : Fin 2) * 1024 + 1 * l.val = L.val; omega

/-- What a grid point writes back is its block of the whole product. -/
theorem flushed4 (c : Dev nD) (t : Fin cfg4.N) : (dat4 V c).flushed 2 t
    = ((cfg4.win 2).blk t).view.read (Elt Ideal) (prod (V c main_v8_1 : S8192x2048.Idx → EReal) (V c main_v19 : S2048x2048.Idx → EReal)) := by
  obtain ⟨e0, e1⟩ := index4_2 t
  have ht := N_le4 t
  show (cfg4.win 2).cut (grid4.coords t) ((dat4 V c).after 2 t) = _
  rw [after4_2]
  unfold out4_2
  rw [View.canon_unit_zero (S := S1024x1024) z2, View.ld_unit_zero (S := S1024x2048) z2, View.ld_unit_zero (S := S2048x1024) z2]
  funext y
  obtain ⟨r, l, rfl⟩ : ∃ (r : Fin 1024) (l : Fin 1024), y = ix2 r l := ⟨y 0, y 1, eq_ix2 y⟩
  have hr := r.isLt
  have hl := l.isLt
  let R : Fin 8192 := ⟨1024 * (t.val / 2) + r.val, by omega⟩
  let L : Fin 2048 := ⟨1024 * (t.val % 2) + l.val, by omega⟩
  have hemb : ((cfg4.win 2).blk t).view.emb (ix2 r l) = (ix2 R L : S8192x2048.Idx) := by
    refine funext fun a => Fin.ext ?_
    match a with
    | 0 => show win4_2.index t (0 : Fin 2) * 1024 + 1 * r.val = R.val; simp only [R]; omega
    | 1 => show win4_2.index t (1 : Fin 2) * 1024 + 1 * l.val = L.val; simp only [L]; omega
  refine (pay4_apply _ _ r l).trans ((Finset.sum_congr rfl fun k _ => ?_).trans (congrArg (prod (V c main_v8_1 : S8192x2048.Idx → EReal) (V c main_v19 : S2048x2048.Idx → EReal)) hemb).symm)
  rw [blk4_0 V c t r k R k (by simp only [R]) (by omega), blk4_1 V c t k l k L (by omega) (by simp only [L])]
  rfl

/-- Every entry of the array lies in a block that some grid point writes back. -/
theorem covered4_2 (i : S8192x2048.Idx) :
    ∃ t : Fin cfg4.N, (cfg4.win 2).flush t = true ∧ i ∈ ((cfg4.win 2).blk t).view.set := by
  have h0 : (i 0).val < 8192 := (i 0).isLt
  have h1 : (i 1).val < 2048 := (i 1).isLt
  let t : Fin cfg4.N := ⟨(i 0).val / 1024 * 2 + (i 1).val / 1024, lt_of_lt_of_eq (b := 16) (by omega) (show 16 = cfg4.N from N_4.symm)⟩
  obtain ⟨e0, e1⟩ := index4_2 t
  have tv : t.val = (i 0).val / 1024 * 2 + (i 1).val / 1024 := rfl
  refine ⟨t, flush4_2 t, ?_⟩
  have hm := ((cfg4.win 2).blk t).view.emb_mem_set (ix2 ⟨(i 0).val % 1024, by omega⟩ ⟨(i 1).val % 1024, by omega⟩)
  have he : ((cfg4.win 2).blk t).view.emb (ix2 ⟨(i 0).val % 1024, by omega⟩ ⟨(i 1).val % 1024, by omega⟩) = i := by
    refine funext fun a => Fin.ext ?_
    match a with
    | 0 => show win4_2.index t (0 : Fin 2) * 1024 + 1 * ((i 0).val % 1024) = (i 0).val; omega
    | 1 => show win4_2.index t (1 : Fin 2) * 1024 + 1 * ((i 1).val % 1024) = (i 1).val; omega
  rwa [he] at hm

/-- Region 4 leaves the product of its two matrices. -/
theorem final4 (c : Dev nD) : (dat4 V c).arrAt 2 cfg4.N = prod (V c main_v8_1 : S8192x2048.Idx → EReal) (V c main_v19 : S2048x2048.Idx → EReal) :=
  (dat4 V c).arrAt_eq_of_cover 2 _ (fun t _ => flushed4 V c t) covered4_2

/-- The block window 0 of region 5 takes at a grid point. -/
theorem index5_0 : ∀ t : Fin cfg5.N, win5_0.index t (0 : Fin 2) = t.val ∧ win5_0.index t (1 : Fin 2) = 0 :=
  (by decide +kernel : ∀ t : Fin grid5.N, _)

/-- The block window 1 of region 5 takes at a grid point. -/
theorem index5_1 : ∀ t : Fin cfg5.N, win5_1.index t (0 : Fin 2) = 0 ∧ win5_1.index t (1 : Fin 2) = 0 :=
  (by decide +kernel : ∀ t : Fin grid5.N, _)

/-- The block window 2 of region 5 takes at a grid point. -/
theorem index5_2 : ∀ t : Fin cfg5.N, win5_2.index t (0 : Fin 2) = t.val ∧ win5_2.index t (1 : Fin 2) = 0 :=
  (by decide +kernel : ∀ t : Fin grid5.N, _)

theorem N_le5 (t : Fin cfg5.N) : t.val < 8 := lt_of_lt_of_eq t.isLt (show cfg5.N = 8 from N_5)

/-- The product's dimensions are the plain ones. -/
theorem dims5 : dot_S1024x2048_S2048x640_S1024x640_1_0_0_1_n_n = DotDims.plain 1024 2048 640 := rfl

/-- The block stored at a grid point is the product of the two blocks loaded there. -/
theorem pay5_apply (x : FVec Ideal S1024x2048 .bf16) (w : FVec Ideal S2048x640 .bf16) (r : Fin 1024) (l : Fin 640) :
    (k5_pay1 (F := Ideal) x w : S1024x640.Idx → EReal) (ix2 r l) = ∑ k : Fin 2048, (x (ix2 r k) : EReal) * (w (ix2 k l) : EReal) := by
  unfold k5_pay1
  rw [dims5]
  simp only [shapeCast_self]
  pointwise [Ideal.matmul_plain_apply]

/-- An element of window 0's block in region 5. -/
theorem blk5_0 (c : Dev nD) (t : Fin cfg5.N) (r : Fin 1024) (l : Fin 2048) (R : Fin 8192) (L : Fin 2048)
    (hR : R.val = 1024 * (t.val) + r.val) (hL : L.val = l.val) : iblk5 V c 0 t (ix2 r l) = V c main_v8_1 (ix2 R L) := by
  obtain ⟨e0, e1⟩ := index5_0 t
  refine congrArg (V c main_v8_1) (funext fun a => Fin.ext ?_)
  match a with
  | 0 => show win5_0.index t (0 : Fin 2) * 1024 + 1 * r.val = R.val; omega
  | 1 => show win5_0.index t (1 : Fin 2) * 2048 + 1 * l.val = L.val; omega

/-- An element of window 1's block in region 5. -/
theorem blk5_1 (c : Dev nD) (t : Fin cfg5.N) (r : Fin 2048) (l : Fin 640) (R : Fin 2048) (L : Fin 640)
    (hR : R.val = r.val) (hL : L.val = l.val) : iblk5 V c 1 t (ix2 r l) = V c main_v25 (ix2 R L) := by
  obtain ⟨e0, e1⟩ := index5_1 t
  refine congrArg (V c main_v25) (funext fun a => Fin.ext ?_)
  match a with
  | 0 => show win5_1.index t (0 : Fin 2) * 2048 + 1 * r.val = R.val; omega
  | 1 => show win5_1.index t (1 : Fin 2) * 640 + 1 * l.val = L.val; omega

/-- What a grid point writes back is its block of the whole product. -/
theorem flushed5 (c : Dev nD) (t : Fin cfg5.N) : (dat5 V c).flushed 2 t
    = ((cfg5.win 2).blk t).view.read (Elt Ideal) (prod (V c main_v8_1 : S8192x2048.Idx → EReal) (V c main_v25 : S2048x640.Idx → EReal)) := by
  obtain ⟨e0, e1⟩ := index5_2 t
  have ht := N_le5 t
  show (cfg5.win 2).cut (grid5.coords t) ((dat5 V c).after 2 t) = _
  rw [after5_2]
  unfold out5_2
  rw [View.canon_unit_zero (S := S1024x640) z2, View.ld_unit_zero (S := S1024x2048) z2, View.ld_unit_zero (S := S2048x640) z2]
  funext y
  obtain ⟨r, l, rfl⟩ : ∃ (r : Fin 1024) (l : Fin 640), y = ix2 r l := ⟨y 0, y 1, eq_ix2 y⟩
  have hr := r.isLt
  have hl := l.isLt
  let R : Fin 8192 := ⟨1024 * (t.val) + r.val, by omega⟩
  let L : Fin 640 := ⟨l.val, by omega⟩
  have hemb : ((cfg5.win 2).blk t).view.emb (ix2 r l) = (ix2 R L : S8192x640.Idx) := by
    refine funext fun a => Fin.ext ?_
    match a with
    | 0 => show win5_2.index t (0 : Fin 2) * 1024 + 1 * r.val = R.val; simp only [R]; omega
    | 1 => show win5_2.index t (1 : Fin 2) * 640 + 1 * l.val = L.val; simp only [L]; omega
  refine (pay5_apply _ _ r l).trans ((Finset.sum_congr rfl fun k _ => ?_).trans (congrArg (prod (V c main_v8_1 : S8192x2048.Idx → EReal) (V c main_v25 : S2048x640.Idx → EReal)) hemb).symm)
  rw [blk5_0 V c t r k R k (by simp only [R]) (by omega), blk5_1 V c t k l k L (by omega) (by simp only [L])]
  rfl

/-- Every entry of the array lies in a block that some grid point writes back. -/
theorem covered5_2 (i : S8192x640.Idx) :
    ∃ t : Fin cfg5.N, (cfg5.win 2).flush t = true ∧ i ∈ ((cfg5.win 2).blk t).view.set := by
  have h0 : (i 0).val < 8192 := (i 0).isLt
  have h1 : (i 1).val < 640 := (i 1).isLt
  let t : Fin cfg5.N := ⟨(i 0).val / 1024, lt_of_lt_of_eq (b := 8) (by omega) (show 8 = cfg5.N from N_5.symm)⟩
  obtain ⟨e0, e1⟩ := index5_2 t
  have tv : t.val = (i 0).val / 1024 := rfl
  refine ⟨t, flush5_2 t, ?_⟩
  have hm := ((cfg5.win 2).blk t).view.emb_mem_set (ix2 ⟨(i 0).val % 1024, by omega⟩ ⟨(i 1).val % 640, by omega⟩)
  have he : ((cfg5.win 2).blk t).view.emb (ix2 ⟨(i 0).val % 1024, by omega⟩ ⟨(i 1).val % 640, by omega⟩) = i := by
    refine funext fun a => Fin.ext ?_
    match a with
    | 0 => show win5_2.index t (0 : Fin 2) * 1024 + 1 * ((i 0).val % 1024) = (i 0).val; omega
    | 1 => show win5_2.index t (1 : Fin 2) * 640 + 1 * ((i 1).val % 640) = (i 1).val; omega
  rwa [he] at hm

/-- Region 5 leaves the product of its two matrices. -/
theorem final5 (c : Dev nD) : (dat5 V c).arrAt 2 cfg5.N = prod (V c main_v8_1 : S8192x2048.Idx → EReal) (V c main_v25 : S2048x640.Idx → EReal) :=
  (dat5 V c).arrAt_eq_of_cover 2 _ (fun t _ => flushed5 V c t) covered5_2

end Cert.Kernel3Ideal.Linear
-- ==== Proof.OutInVal.lean ====
module

public import proofs.«01_k».proof.Proof.Mix
public import proofs.«01_k».proof.Proof.OutInRegions

@[expose] public section

set_option maxRecDepth 16384

noncomputable section

open Idealize.ShloMosaic Idealize.ShloMosaic.TcCoe Idealize.SL.Sem

namespace Cert.Kernel3Ideal.Linear
open Cert.Kernel3Ideal.Gen Cert.Linear

section Run
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
variable {F : FTy → Type} [FloatOps F]
variable (m : (ℓ : Loc nD τ sig) → Buf (Elt F) ℓ) (ρ : Dev nD → PrngReg)

set_option backward.isDefEq.respectTransparency.types false in
/-- Every execution ends with every array that stays in memory as the last boundary has it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => h)

end Run

variable (m : (ℓ : Loc nD τ sig) → Buf (Elt Ideal) ℓ) (ρ : Dev nD → PrngReg) (c : Dev nD)

/-- The arguments of one device. -/
abbrev A0 : S8192x1024.Idx → EReal := m ((c.tc : Thread nD τ).loc main_arg0)
abbrev A1 : S8192x1024.Idx → EReal := m ((c.tc : Thread nD τ).loc main_arg1)
abbrev A2 : S8192x256.Idx → EReal := m ((c.tc : Thread nD τ).loc main_arg2)
abbrev A3 : S8192x2048.Idx → EReal := m ((c.tc : Thread nD τ).loc main_arg3)
abbrev A4 : S1x2304x2048.Idx → EReal := m ((c.tc : Thread nD τ).loc main_arg4)
abbrev A5 : S1x2048.Idx → EReal := m ((c.tc : Thread nD τ).loc main_arg5)
abbrev A6 : S1x2048x8720.Idx → EReal := m ((c.tc : Thread nD τ).loc main_arg6)

/-- The residual stream after the first layer's output projection. -/
def X (R : Fin 8192) (d : Fin 2048) : EReal :=
  mix3 (A3 m c (ix2 R d)) (fun k => A0 m c (ix2 R k)) (fun k => A1 m c (ix2 R k)) (fun k => A2 m c (ix2 R k)) (fun k => A4 m c (ix3 0 k d))

/-- The second layer's input projection of a row at a column. -/
def E (R : Fin 8192) (n : Fin 8720) : EReal := zrow (X m c R) (fun d => A5 m c (ix2 0 d)) (fun k => A6 m c (ix3 0 k n))

/-- The weights and norm weights as the regions take them. -/
theorem w1_v2 (k : Fin 2048) (n : Fin 8720) : (W1 m ρ c (Proc.devRef .tc main_v2) : S2048x8720.Idx → EReal) (ix2 k n) = A6 m c (ix3 0 k n) := by
  have e : W1 m ρ c (Proc.devRef .tc main_v2) = shapeCast S2048x8720 (A6 m c) shapeCasts_S1x2048x8720_S2048x8720 := by
    after_results
    rfl
  rw [e]
  exact lone_apply _ _ k n

theorem w1_v3 (k : Fin 1024) (d : Fin 2048) : (V1 m ρ c main_v3 : S1024x2048.Idx → EReal) (ix2 k d) = A4 m c (ix3 0 ⟨k.val, by omega⟩ d) := by
  have e : W1 m ρ c (Proc.devRef .tc main_v3) = extractStridedSlice S1024x2048 ![0, 0] (truncf (F := Ideal) .bf16 (shapeCast S2304x2048 (A4 m c : FVec Ideal S1x2304x2048 .f32) shapeCasts_S1x2304x2048_S2304x2048) bitsLt_bf16_f32) slices_S2304x2048_S1024x2048_0_0 := by
    after_results
    rfl
  rw [show V1 m ρ c main_v3 = _ from e]
  exact (rows_apply (α := EReal) _ 0 slices_S2304x2048_S1024x2048_0_0 k d ⟨k.val, by omega⟩ (Nat.zero_add _)).trans (lone_apply (α := EReal) (A4 m c) shapeCasts_S1x2304x2048_S2304x2048 _ d)

theorem w1_v4 (k : Fin 1024) (d : Fin 2048) : (V1 m ρ c main_v4 : S1024x2048.Idx → EReal) (ix2 k d) = A4 m c (ix3 0 ⟨1024 + k.val, by omega⟩ d) := by
  have e : W1 m ρ c (Proc.devRef .tc main_v4) = extractStridedSlice S1024x2048 ![1024, 0] (truncf (F := Ideal) .bf16 (shapeCast S2304x2048 (A4 m c : FVec Ideal S1x2304x2048 .f32) shapeCasts_S1x2304x2048_S2304x2048) bitsLt_bf16_f32) slices_S2304x2048_S1024x2048_1024_0 := by
    after_results
    rfl
  rw [show V1 m ρ c main_v4 = _ from e]
  exact (rows_apply (α := EReal) _ 1024 slices_S2304x2048_S1024x2048_1024_0 k d ⟨1024 + k.val, by omega⟩ (rfl)).trans (lone_apply (α := EReal) (A4 m c) shapeCasts_S1x2304x2048_S2304x2048 _ d)

theorem w1_v5 (k : Fin 256) (d : Fin 2048) : (V1 m ρ c main_v5 : S256x2048.Idx → EReal) (ix2 k d) = A4 m c (ix3 0 ⟨2048 + k.val, by omega⟩ d) := by
  have e : W1 m ρ c (Proc.devRef .tc main_v5) = extractStridedSlice S256x2048 ![2048, 0] (truncf (F := Ideal) .bf16 (shapeCast S2304x2048 (A4 m c : FVec Ideal S1x2304x2048 .f32) shapeCasts_S1x2304x2048_S2304x2048) bitsLt_bf16_f32) slices_S2304x2048_S256x2048_2048_0 := by
    after_results
    rfl
  rw [show V1 m ρ c main_v5 = _ from e]
  exact (rows_apply (α := EReal) _ 2048 slices_S2304x2048_S256x2048_2048_0 k d ⟨2048 + k.val, by omega⟩ (rfl)).trans (lone_apply (α := EReal) (A4 m c) shapeCasts_S1x2304x2048_S2304x2048 _ d)

theorem w1_v7 (d : Fin 2048) : (V1 m ρ c main_v7 : S1x2048.Idx → EReal) (ix2 0 d) = A5 m c (ix2 0 d) := by
  have e : W1 m ρ c (Proc.devRef .tc main_v7) = shapeCast S1x2048 (shapeCast S2048 (A5 m c) shapeCasts_S1x2048_S2048) shapeCasts_S2048_S1x2048 := by
    after_results
    rfl
  rw [show V1 m ρ c main_v7 = _ from e]
  exact (put1_apply _ _ d).trans (lone1_apply _ _ d)

theorem w1_arg0 : V1 m ρ c main_arg0 = A0 m c := W1_of m ρ c main_arg0 (by decide)
theorem w1_arg1 : V1 m ρ c main_arg1 = A1 m c := W1_of m ρ c main_arg1 (by decide)
theorem w1_arg2 : V1 m ρ c main_arg2 = A2 m c := W1_of m ρ c main_arg2 (by decide)
theorem w1_arg3 : V1 m ρ c main_arg3 = A3 m c := W1_of m ρ c main_arg3 (by decide)

/-- The first region's sum is the residual stream. -/
theorem sum0_apply (R : Fin 8192) (d : Fin 2048) : sum0 (V1 m ρ) c (ix2 R d) = X m c R d := by
  have h : ∀ {K : ℕ} (x y : (⟨2, ![8192, K]⟩ : Shape).Idx → EReal) (w : (⟨2, ![K, 2048]⟩ : Shape).Idx → EReal) (w' : Fin K → EReal), x = y → (∀ k, w (ix2 k d) = w' k) →
      prod x w (ix2 R d) = ∑ k : Fin K, y (ix2 R k) * w' k := fun x y w w' hx hw => by
    subst hx
    exact Finset.sum_congr rfl fun k _ => congrArg (fun b : EReal => x (ix2 R k) * b) (hw k)
  unfold sum0 X mix3
  refine congrArg₂ (fun a b : EReal => a + b) (congrArg₂ (fun a b : EReal => a + b) (congrArg₂ (fun a b : EReal => a + b) ?_ ?_) ?_) ?_
  · exact congrFun (w1_arg3 m ρ c) _
  · exact h _ _ _ _ (w1_arg0 m ρ c) fun k => w1_v3 m ρ c k d
  · exact h _ _ _ _ (w1_arg1 m ρ c) fun k => w1_v4 m ρ c k d
  · exact h _ _ _ _ (w1_arg2 m ρ c) fun k => w1_v5 m ρ c k d

theorem w2_v8_0 (R : Fin 8192) (d : Fin 2048) : (W2 m ρ c (Proc.devRef .tc main_v8_0) : S8192x2048.Idx → EReal) (ix2 R d) = X m c R d := by
  have e : (W2 m ρ c (Proc.devRef .tc main_v8_0) : S8192x2048.Idx → EReal) = _ := (W2_arr m ρ c 8).trans (final0_8 (V1 m ρ) c)
  rw [e]
  exact sum0_apply m ρ c R d

theorem w2_v8_1 (R : Fin 8192) (d : Fin 2048) : (W2 m ρ c (Proc.devRef .tc main_v8_1) : S8192x2048.Idx → EReal) (ix2 R d)
    = rms cols small (X m c R) (fun d => A5 m c (ix2 0 d)) d := by
  have e : (W2 m ρ c (Proc.devRef .tc main_v8_1) : S8192x2048.Idx → EReal) = _ := (W2_arr m ρ c 9).trans (final0_9 (V1 m ρ) c)
  rw [e]
  unfold normed
  exact congrArg₂ (fun x g => rms cols small x g d) (funext fun d => sum0_apply m ρ c R d) (funext fun d => w1_v7 m ρ c d)

theorem prod_row {N : ℕ} (x : S8192x2048.Idx → EReal) (w : (⟨2, ![2048, N]⟩ : Shape).Idx → EReal) (l : Fin N) (w' : Fin 2048 → EReal)
    (hx : ∀ R d, x (ix2 R d) = rms cols small (X m c R) (fun d => A5 m c (ix2 0 d)) d)
    (hw : ∀ k, w (ix2 k l) = w' k) (R : Fin 8192) : prod x w (ix2 R l) = zrow (X m c R) (fun d => A5 m c (ix2 0 d)) w' :=
  Finset.sum_congr rfl fun k _ => congrArg₂ (fun a b : EReal => a * b) (hx R k) (hw k)

/-- A product's weights, and the product. -/
theorem w3_v10 (k : Fin 2048) (l : Fin 2048) : (V3 m ρ c main_v10 : S2048x2048.Idx → EReal) (ix2 k l) = A6 m c (ix3 0 k ⟨l.val, by omega⟩) := by
  have e : W3 m ρ c (Proc.devRef .tc main_v10) = truncf (F := Ideal) .bf16 (extractStridedSlice S2048x2048 ![0, 0] (W2 m ρ c (Proc.devRef .tc main_v2)) slices_S2048x8720_S2048x2048_0_0) bitsLt_bf16_f32 := by
    after_results
  rw [show V3 m ρ c main_v10 = _ from e, show W2 m ρ c (Proc.devRef .tc main_v2) = _ from (W2_of m ρ c main_v2 (by decide))]
  exact (cols_apply (α := EReal) _ 0 slices_S2048x8720_S2048x2048_0_0 k l ⟨l.val, by omega⟩ (Nat.zero_add _)).trans (w1_v2 m ρ c k _)

theorem w4_v11 (R : Fin 8192) (l : Fin 2048) : (W4 m ρ c (Proc.devRef .tc main_v11) : S8192x2048.Idx → EReal) (ix2 R l) = E m c R ⟨l.val, by omega⟩ := by
  have e : (W4 m ρ c (Proc.devRef .tc main_v11) : S8192x2048.Idx → EReal) = _ := (W4_arr m ρ c 2).trans (final1 (V3 m ρ) c)
  rw [e]
  refine prod_row m c _ _ l _ (fun R d => ?_) (fun k => w3_v10 m ρ c k l) R
  exact (congrFun ((W3_of m ρ c main_v8_1 (by decide)) : (W3 m ρ c (Proc.devRef .tc main_v8_1) : S8192x2048.Idx → EReal) = _) _).trans (w2_v8_1 m ρ c R d)

/-- A product's weights, and the product. -/
theorem w5_v13 (k : Fin 2048) (l : Fin 2048) : (V5 m ρ c main_v13 : S2048x2048.Idx → EReal) (ix2 k l) = A6 m c (ix3 0 k ⟨2048 + l.val, by omega⟩) := by
  have e : W5 m ρ c (Proc.devRef .tc main_v13) = truncf (F := Ideal) .bf16 (extractStridedSlice S2048x2048 ![0, 2048] (W4 m ρ c (Proc.devRef .tc main_v2)) slices_S2048x8720_S2048x2048_0_2048) bitsLt_bf16_f32 := by
    after_results
  rw [show V5 m ρ c main_v13 = _ from e, show W4 m ρ c (Proc.devRef .tc main_v2) = _ from (((W4_of m ρ c main_v2 (by decide)).trans (W3_of m ρ c main_v2 (by decide))).trans (W2_of m ρ c main_v2 (by decide)))]
  exact (cols_apply (α := EReal) _ 2048 slices_S2048x8720_S2048x2048_0_2048 k l ⟨2048 + l.val, by omega⟩ (rfl)).trans (w1_v2 m ρ c k _)

theorem w6_v14 (R : Fin 8192) (l : Fin 2048) : (W6 m ρ c (Proc.devRef .tc main_v14) : S8192x2048.Idx → EReal) (ix2 R l) = E m c R ⟨2048 + l.val, by omega⟩ := by
  have e : (W6 m ρ c (Proc.devRef .tc main_v14) : S8192x2048.Idx → EReal) = _ := (W6_arr m ρ c 2).trans (final2 (V5 m ρ) c)
  rw [e]
  refine prod_row m c _ _ l _ (fun R d => ?_) (fun k => w5_v13 m ρ c k l) R
  exact (congrFun ((((W5_of m ρ c main_v8_1 (by decide)).trans (W4_of m ρ c main_v8_1 (by decide))).trans (W3_of m ρ c main_v8_1 (by decide))) : (W5 m ρ c (Proc.devRef .tc main_v8_1) : S8192x2048.Idx → EReal) = _) _).trans (w2_v8_1 m ρ c R d)

/-- A product's weights, and the product. -/
theorem w7_v16 (k : Fin 2048) (l : Fin 2048) : (V7 m ρ c main_v16 : S2048x2048.Idx → EReal) (ix2 k l) = A6 m c (ix3 0 k ⟨4096 + l.val, by omega⟩) := by
  have e : W7 m ρ c (Proc.devRef .tc main_v16) = truncf (F := Ideal) .bf16 (extractStridedSlice S2048x2048 ![0, 4096] (W6 m ρ c (Proc.devRef .tc main_v2)) slices_S2048x8720_S2048x2048_0_4096) bitsLt_bf16_f32 := by
    after_results
  rw [show V7 m ρ c main_v16 = _ from e, show W6 m ρ c (Proc.devRef .tc main_v2) = _ from (((((W6_of m ρ c main_v2 (by decide)).trans (W5_of m ρ c main_v2 (by decide))).trans (W4_of m ρ c main_v2 (by decide))).trans (W3_of m ρ c main_v2 (by decide))).trans (W2_of m ρ c main_v2 (by decide)))]
  exact (cols_apply (α := EReal) _ 4096 slices_S2048x8720_S2048x2048_0_4096 k l ⟨4096 + l.val, by omega⟩ (rfl)).trans (w1_v2 m ρ c k _)

theorem w8_v17 (R : Fin 8192) (l : Fin 2048) : (W8 m ρ c (Proc.devRef .tc main_v17) : S8192x2048.Idx → EReal) (ix2 R l) = E m c R ⟨4096 + l.val, by omega⟩ := by
  have e : (W8 m ρ c (Proc.devRef .tc main_v17) : S8192x2048.Idx → EReal) = _ := (W8_arr m ρ c 2).trans (final3 (V7 m ρ) c)
  rw [e]
  refine prod_row m c _ _ l _ (fun R d => ?_) (fun k => w7_v16 m ρ c k l) R
  exact (congrFun ((((((W7_of m ρ c main_v8_1 (by decide)).trans (W6_of m ρ c main_v8_1 (by decide))).trans (W5_of m ρ c main_v8_1 (by decide))).trans (W4_of m ρ c main_v8_1 (by decide))).trans (W3_of m ρ c main_v8_1 (by decide))) : (W7 m ρ c (Proc.devRef .tc main_v8_1) : S8192x2048.Idx → EReal) = _) _).trans (w2_v8_1 m ρ c R d)

/-- A product's weights, and the product. -/
theorem w9_v19 (k : Fin 2048) (l : Fin 2048) : (V9 m ρ c main_v19 : S2048x2048.Idx → EReal) (ix2 k l) = A6 m c (ix3 0 k ⟨6160 + l.val, by omega⟩) := by
  have e : W9 m ρ c (Proc.devRef .tc main_v19) = truncf (F := Ideal) .bf16 (extractStridedSlice S2048x2048 ![0, 6160] (W8 m ρ c (Proc.devRef .tc main_v2)) slices_S2048x8720_S2048x2048_0_6160) bitsLt_bf16_f32 := by
    after_results
  rw [show V9 m ρ c main_v19 = _ from e, show W8 m ρ c (Proc.devRef .tc main_v2) = _ from (((((((W8_of m ρ c main_v2 (by decide)).trans (W7_of m ρ c main_v2 (by decide))).trans (W6_of m ρ c main_v2 (by decide))).trans (W5_of m ρ c main_v2 (by decide))).trans (W4_of m ρ c main_v2 (by decide))).trans (W3_of m ρ c main_v2 (by decide))).trans (W2_of m ρ c main_v2 (by decide)))]
  exact (cols_apply (α := EReal) _ 6160 slices_S2048x8720_S2048x2048_0_6160 k l ⟨6160 + l.val, by omega⟩ (rfl)).trans (w1_v2 m ρ c k _)

theorem w10_v20 (R : Fin 8192) (l : Fin 2048) : (W10 m ρ c (Proc.devRef .tc main_v20) : S8192x2048.Idx → EReal) (ix2 R l) = E m c R ⟨6160 + l.val, by omega⟩ := by
  have e : (W10 m ρ c (Proc.devRef .tc main_v20) : S8192x2048.Idx → EReal) = _ := (W10_arr m ρ c 2).trans (final4 (V9 m ρ) c)
  rw [e]
  refine prod_row m c _ _ l _ (fun R d => ?_) (fun k => w9_v19 m ρ c k l) R
  exact (congrFun ((((((((W9_of m ρ c main_v8_1 (by decide)).trans (W8_of m ρ c main_v8_1 (by decide))).trans (W7_of m ρ c main_v8_1 (by decide))).trans (W6_of m ρ c main_v8_1 (by decide))).trans (W5_of m ρ c main_v8_1 (by decide))).trans (W4_of m ρ c main_v8_1 (by decide))).trans (W3_of m ρ c main_v8_1 (by decide))) : (W9 m ρ c (Proc.devRef .tc main_v8_1) : S8192x2048.Idx → EReal) = _) _).trans (w2_v8_1 m ρ c R d)

/-- The last product's weights: the memory's queries and gates, the forget columns, and columns of zeros. -/
def wz (k : Fin 2048) (l : Fin 640) : EReal :=
  if l.val < 512 then A6 m c (ix3 0 k ⟨min (8208 + l.val) 8719, by omega⟩) else if l.val < 528 then A6 m c (ix3 0 k ⟨6144 + (l.val - 512), by omega⟩) else 0

theorem w11_v25 (k : Fin 2048) (l : Fin 640) : (V11 m ρ c main_v25 : S2048x640.Idx → EReal) (ix2 k l) = wz m c k l := by
  have e : (W11 m ρ c (Proc.devRef .tc main_v25) : S2048x640.Idx → EReal) = (concatenate S2048x640 1 [⟨S2048x512, extractStridedSlice S2048x512 ![0, 8208] (W10 m ρ c (Proc.devRef .tc main_v2)) slices_S2048x8720_S2048x512_0_8208⟩, ⟨S2048x16, extractStridedSlice S2048x16 ![0, 6144] (W10 m ρ c (Proc.devRef .tc main_v2)) slices_S2048x8720_S2048x16_0_6144⟩, ⟨S2048x112, broadcastInDim S2048x112 ![] bcast_S_S2048x112 (constant S_ .f32 0x00000000#32)⟩] concatenates_S2048x512_S2048x16_S2048x112_S2048x640_d1 : FVec Ideal S2048x640 .f32) := by
    after_results
    rfl
  rw [show V11 m ρ c main_v25 = _ from e, show W10 m ρ c (Proc.devRef .tc main_v2) = _ from (((((((((W10_of m ρ c main_v2 (by decide)).trans (W9_of m ρ c main_v2 (by decide))).trans (W8_of m ρ c main_v2 (by decide))).trans (W7_of m ρ c main_v2 (by decide))).trans (W6_of m ρ c main_v2 (by decide))).trans (W5_of m ρ c main_v2 (by decide))).trans (W4_of m ρ c main_v2 (by decide))).trans (W3_of m ρ c main_v2 (by decide))).trans (W2_of m ρ c main_v2 (by decide)))]
  have hv := fun n => w1_v2 m ρ c k n
  generalize W1 m ρ c (Proc.devRef .tc main_v2) = u at hv ⊢
  revert hv; revert u; intro (u : FVec Ideal S2048x8720 .f32) hv
  unfold wz
  by_cases h : l.val < 512
  · rw [if_pos h]
    exact ((piece2 _ _ 0 (by simp) _ rfl 0 rfl k l ⟨l.val, h⟩ (Nat.zero_add _)).trans (cols_apply u 8208 _ k _ ⟨min (8208 + l.val) 8719, by omega⟩ (by show 8208 + l.val = min (8208 + l.val) 8719; omega))).trans (hv _)
  rw [if_neg h]
  by_cases h' : l.val < 528
  · rw [if_pos h']
    exact ((piece2 _ _ 1 (by simp) _ rfl 512 rfl k l ⟨l.val - 512, by omega⟩ (by show 512 + (l.val - 512) = l.val; omega)).trans (cols_apply u 6144 _ k _ ⟨6144 + (l.val - 512), by omega⟩ rfl)).trans (hv _)
  · rw [if_neg h']
    exact (piece2 _ _ 2 (by simp) _ rfl 528 rfl k l ⟨l.val - 528, by omega⟩ (by show 528 + (l.val - 528) = l.val; omega)).trans zero_word

/-- The last product, whose padding columns are zero. -/
def Z (R : Fin 8192) (l : Fin 640) : EReal :=
  if l.val < 512 then E m c R ⟨min (8208 + l.val) 8719, by omega⟩ else if l.val < 528 then E m c R ⟨6144 + (l.val - 512), by omega⟩ else 0

theorem w12_v26 (R : Fin 8192) (l : Fin 640) : (W12 m ρ c (Proc.devRef .tc main_v26) : S8192x640.Idx → EReal) (ix2 R l) = Z m c R l := by
  have e : (W12 m ρ c (Proc.devRef .tc main_v26) : S8192x640.Idx → EReal) = _ := (W12_arr m ρ c 2).trans (final5 (V11 m ρ) c)
  rw [e]
  refine (prod_row m c _ _ l (fun k => wz m c k l) (fun R d => ?_) (fun k => w11_v25 m ρ c k l) R).trans ?_
  · exact (congrFun ((((((((((W11_of m ρ c main_v8_1 (by decide)).trans (W10_of m ρ c main_v8_1 (by decide))).trans (W9_of m ρ c main_v8_1 (by decide))).trans (W8_of m ρ c main_v8_1 (by decide))).trans (W7_of m ρ c main_v8_1 (by decide))).trans (W6_of m ρ c main_v8_1 (by decide))).trans (W5_of m ρ c main_v8_1 (by decide))).trans (W4_of m ρ c main_v8_1 (by decide))).trans (W3_of m ρ c main_v8_1 (by decide))) : (W11 m ρ c (Proc.devRef .tc main_v8_1) : S8192x2048.Idx → EReal) = _) _).trans (w2_v8_1 m ρ c R d)
  · unfold Z wz
    by_cases h : l.val < 512
    · simp only [if_pos h]
      rfl
    by_cases h' : l.val < 528
    · simp only [if_neg h, if_pos h']
      rfl
    · simp only [if_neg h, if_neg h']
      unfold zrow
      exact Finset.sum_eq_zero fun k _ => mul_zero _

/-- The six results. -/
theorem res0 (R : Fin 8192) (d : Fin 2048) : (W13 m ρ c (Proc.devRef .tc main_v8_0) : S8192x2048.Idx → EReal) (ix2 R d) = X m c R d :=
  (congrFun ((((((((((((W13_of m ρ c main_v8_0 (by decide)).trans (W12_of m ρ c main_v8_0 (by decide))).trans (W11_of m ρ c main_v8_0 (by decide))).trans (W10_of m ρ c main_v8_0 (by decide))).trans (W9_of m ρ c main_v8_0 (by decide))).trans (W8_of m ρ c main_v8_0 (by decide))).trans (W7_of m ρ c main_v8_0 (by decide))).trans (W6_of m ρ c main_v8_0 (by decide))).trans (W5_of m ρ c main_v8_0 (by decide))).trans (W4_of m ρ c main_v8_0 (by decide))).trans (W3_of m ρ c main_v8_0 (by decide))) : (W13 m ρ c (Proc.devRef .tc main_v8_0) : S8192x2048.Idx → EReal) = _) _).trans (w2_v8_0 m ρ c R d)

theorem res1 (R : Fin 8192) (l : Fin 2048) : (W13 m ρ c (Proc.devRef .tc main_v11) : S8192x2048.Idx → EReal) (ix2 R l) = E m c R ⟨l.val, by omega⟩ :=
  (congrFun ((((((((((W13_of m ρ c main_v11 (by decide)).trans (W12_of m ρ c main_v11 (by decide))).trans (W11_of m ρ c main_v11 (by decide))).trans (W10_of m ρ c main_v11 (by decide))).trans (W9_of m ρ c main_v11 (by decide))).trans (W8_of m ρ c main_v11 (by decide))).trans (W7_of m ρ c main_v11 (by decide))).trans (W6_of m ρ c main_v11 (by decide))).trans (W5_of m ρ c main_v11 (by decide))) : (W13 m ρ c (Proc.devRef .tc main_v11) : S8192x2048.Idx → EReal) = _) _).trans (w4_v11 m ρ c R l)

theorem res4 (R : Fin 8192) (l : Fin 2048) : (W13 m ρ c (Proc.devRef .tc main_v20) : S8192x2048.Idx → EReal) (ix2 R l) = E m c R ⟨6160 + l.val, by omega⟩ :=
  (congrFun ((((W13_of m ρ c main_v20 (by decide)).trans (W12_of m ρ c main_v20 (by decide))).trans (W11_of m ρ c main_v20 (by decide))) : (W13 m ρ c (Proc.devRef .tc main_v20) : S8192x2048.Idx → EReal) = _) _).trans (w10_v20 m ρ c R l)

theorem res5 (R : Fin 8192) (l : Fin 640) : (W13 m ρ c (Proc.devRef .tc main_v26) : S8192x640.Idx → EReal) (ix2 R l) = Z m c R l :=
  (congrFun ((W13_of m ρ c main_v26 (by decide)) : (W13 m ρ c (Proc.devRef .tc main_v26) : S8192x640.Idx → EReal) = _) _).trans (w12_v26 m ρ c R l)

/-- The keys and the values, split into heads and put alone in a batch. -/
theorem heads_apply (y : FVec Ideal S8192x2048 .f32) (b : Fin 2) (t : Fin 4096) (h : Fin 16) (d : Fin 128) :
    broadcastInDim S1x2x4096x16x128 ![1, 2, 3, 4] bcast_S2x4096x16x128_S1x2x4096x16x128_1_2_3_4 (shapeCast S2x4096x16x128 y shapeCasts_S8192x2048_S2x4096x16x128) (ix5 0 b t h d)
      = y (ix2 (tok b t) ⟨128 * h.val + d.val, by omega⟩) := by
  have h1 := shapeCast_apply y shapeCasts_S8192x2048_S2x4096x16x128 (ix4 b t h d) (ix2 (tok b t) ⟨128 * h.val + d.val, by omega⟩)
    (by rw [Shape.rowMajor_val_two, Shape.rowMajor_val_four]; show (4096 * b.val + t.val) * 2048 + (128 * h.val + d.val) = ((b.val * 4096 + t.val) * 16 + h.val) * 128 + d.val; omega)
  rw [← h1]
  generalize shapeCast S2x4096x16x128 y shapeCasts_S8192x2048_S2x4096x16x128 = v
  pointwise

theorem res2 (b : Fin 2) (t : Fin 4096) (h : Fin 16) (d : Fin 128) : (W13 m ρ c (Proc.devRef .tc main_v28) : S1x2x4096x16x128.Idx → EReal) (ix5 0 b t h d)
    = E m c (tok b t) ⟨2048 + (128 * h.val + d.val), by omega⟩ := by
  have e : (W13 m ρ c (Proc.devRef .tc main_v28) : S1x2x4096x16x128.Idx → EReal) = broadcastInDim S1x2x4096x16x128 ![1, 2, 3, 4] bcast_S2x4096x16x128_S1x2x4096x16x128_1_2_3_4 (shapeCast S2x4096x16x128 (W12 m ρ c (Proc.devRef .tc main_v14)) shapeCasts_S8192x2048_S2x4096x16x128) := by
    after_results
    rfl
  rw [e]
  exact ((heads_apply _ b t h d).trans (congrFun (((((((W12_of m ρ c main_v14 (by decide)).trans (W11_of m ρ c main_v14 (by decide))).trans (W10_of m ρ c main_v14 (by decide))).trans (W9_of m ρ c main_v14 (by decide))).trans (W8_of m ρ c main_v14 (by decide))).trans (W7_of m ρ c main_v14 (by decide))) : (W12 m ρ c (Proc.devRef .tc main_v14) : S8192x2048.Idx → EReal) = _) _)).trans (w6_v14 m ρ c (tok b t) _)

theorem res3 (b : Fin 2) (t : Fin 4096) (h : Fin 16) (d : Fin 128) : (W13 m ρ c (Proc.devRef .tc main_v30) : S1x2x4096x16x128.Idx → EReal) (ix5 0 b t h d)
    = E m c (tok b t) ⟨4096 + (128 * h.val + d.val), by omega⟩ := by
  have e : (W13 m ρ c (Proc.devRef .tc main_v30) : S1x2x4096x16x128.Idx → EReal) = broadcastInDim S1x2x4096x16x128 ![1, 2, 3, 4] bcast_S2x4096x16x128_S1x2x4096x16x128_1_2_3_4 (shapeCast S2x4096x16x128 (W12 m ρ c (Proc.devRef .tc main_v17)) shapeCasts_S8192x2048_S2x4096x16x128) := by
    after_results
    rfl
  rw [e]
  exact ((heads_apply _ b t h d).trans (congrFun (((((W12_of m ρ c main_v17 (by decide)).trans (W11_of m ρ c main_v17 (by decide))).trans (W10_of m ρ c main_v17 (by decide))).trans (W9_of m ρ c main_v17 (by decide))) : (W12 m ρ c (Proc.devRef .tc main_v17) : S8192x2048.Idx → EReal) = _) _)).trans (w8_v17 m ρ c (tok b t) _)

end Cert.Kernel3Ideal.Linear
-- ==== Proof.OutInRef.lean ====
module

public import proofs.«01_k».proof.Proof.Mix
public import proofs.«01_k».proof.Proof.Gen.Reference3Ideal
public import proofs.«01_k».proof.Proof.Gen.Reference3Ideal.Run

@[expose] public section

set_option maxRecDepth 16384

noncomputable section

open Idealize.ShloMosaic Idealize.ShloMosaic.TcCoe Idealize.SL.Sem

namespace Cert.Reference3Ideal.Linear
open Cert.Reference3Ideal Cert.Reference3Ideal.Gen Cert.Linear

/-- The root mean square norm of the rows. -/
def nrm (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

theorem reduces : S8192x2048.Reduces [1] S8192 := by decide

theorem nrm_apply (x : FVec Ideal S8192x2048 .f32) (g : FVec Ideal S2048 .f32) (R : Fin 8192) (d : Fin 2048) :
    nrm x g (ix2 R d) = rms cols small (fun d => x (ix2 R d)) (fun d => g (ix1 d)) d := by
  have hs := sum2_apply (mulf x x) reduces reducesTo_S8192x2048_S8192_d1 h_S_ R
  unfold nrm rms
  generalize Host.reduceAdd (mulf x x) (constant S_ .f32 0x00000000#32) reducesTo_S8192x2048_S8192_d1 h_S_ = s at hs ⊢
  have hs' : s (ix1 R) = ∑ k : Fin 2048, (x (ix2 R k) : EReal) * x (ix2 R k) := hs
  beta_reduce
  rw [← hs']
  pointwise

/-- The joined branches. -/
def cat (a b : FVec Ideal S8192x1024 .bf16) (m : FVec Ideal S8192x256 .bf16) : FVec Ideal S8192x2304 .f32 :=
  concatenate S8192x2304 1 [⟨S8192x1024, extf .f32 a bitsLt_bf16_f32⟩, ⟨S8192x1024, extf .f32 b bitsLt_bf16_f32⟩, ⟨S8192x256, extf .f32 m bitsLt_bf16_f32⟩] concatenates_S8192x1024_S8192x1024_S8192x256_S8192x2304_d1

/-- The residual stream after the output projection. -/
def out (a b : FVec Ideal S8192x1024 .bf16) (m : FVec Ideal S8192x256 .bf16) (x : FVec Ideal S8192x2048 .f32) (w : FVec Ideal S1x2304x2048 .f32) : FVec Ideal S8192x2048 .f32 :=
  addf x (Host.dotGeneral dot_S8192x2304_S2304x2048_S8192x2048_1_0_0_1_n_n none (cat a b m) (shapeCast _ w shapeCasts_S1x2304x2048_S2304x2048))

theorem out_apply (a b : FVec Ideal S8192x1024 .bf16) (m : FVec Ideal S8192x256 .bf16) (x : FVec Ideal S8192x2048 .f32) (w : FVec Ideal S1x2304x2048 .f32) (R : Fin 8192) (d : Fin 2048) :
    out a b m x w (ix2 R d) = mix3 (x (ix2 R d)) (fun k => a (ix2 R k)) (fun k => b (ix2 R k)) (fun k => m (ix2 R k)) (fun k => w (ix3 0 k d)) := by
  have hd := dot2_apply _ dot_S8192x2304_S2304x2048_S8192x2048_1_0_0_1_n_n_wf rfl (cat a b m) (shapeCast S2304x2048 w shapeCasts_S1x2304x2048_S2304x2048) R d
  refine (congrArg (fun s : EReal => (x (ix2 R d) : EReal) + s) hd).trans ?_
  refine (congrArg (fun s : EReal => (x (ix2 R d) : EReal) + s) (Finset.sum_congr rfl fun k _ => congrArg (fun t : EReal => (cat a b m (ix2 R k) : EReal) * t) (lone_apply w _ k d))).trans ?_
  refine mix3_eq _ _ _ _ (fun k => w (ix3 0 k d)) (fun k => cat a b m (ix2 R k)) (fun k => ?_) (fun k => ?_) (fun k => ?_)
  · exact piece2 _ _ 0 (by simp) _ rfl 0 rfl R _ k (Nat.zero_add _)
  · exact piece2 _ _ 1 (by simp) _ rfl 1024 rfl R _ k rfl
  · exact piece2 _ _ 2 (by simp) _ rfl 2048 rfl R _ k rfl

/-- The second layer's input projection. -/
def z (x : FVec Ideal S8192x2048 .f32) (g : FVec Ideal S1x2048 .f32) (w : FVec Ideal S1x2048x8720 .f32) : FVec Ideal S8192x8720 .f32 :=
  Host.dotGeneral dot_S8192x2048_S2048x8720_S8192x8720_1_0_0_1_n_n none (nrm x (shapeCast _ g shapeCasts_S1x2048_S2048)) (shapeCast _ w shapeCasts_S1x2048x8720_S2048x8720)

theorem z_apply (x : FVec Ideal S8192x2048 .f32) (g : FVec Ideal S1x2048 .f32) (w : FVec Ideal S1x2048x8720 .f32) (R : Fin 8192) (n : Fin 8720) :
    z x g w (ix2 R n) = zrow (fun d => x (ix2 R d)) (fun d => g (ix2 0 d)) (fun k => w (ix3 0 k n)) := by
  refine (dot2_apply _ dot_S8192x2048_S2048x8720_S8192x8720_1_0_0_1_n_n_wf rfl (nrm x _) _ R n).trans ?_
  refine Finset.sum_congr rfl fun k _ => congrArg₂ (fun a b : EReal => a * b) ((nrm_apply x _ R k).trans ?_) (lone_apply w _ k n)
  exact congrArg (fun g => rms cols small (fun d => x (ix2 R d)) g k) (funext fun d => lone1_apply g _ d)

/-- The memory's queries and gates, the forget columns and zeros. -/
def zf (z : FVec Ideal S8192x8720 .f32) : FVec Ideal S8192x640 .f32 :=
  concatenate S8192x640 1 [⟨S8192x256, extractStridedSlice S8192x256 ![0, 8208] z slices_S8192x8720_S8192x256_0_8208⟩, ⟨S8192x256, extractStridedSlice S8192x256 ![0, 8464] z slices_S8192x8720_S8192x256_0_8464⟩, ⟨S8192x16, extractStridedSlice S8192x16 ![0, 6144] z slices_S8192x8720_S8192x16_0_6144⟩, ⟨S8192x112, broadcastInDim S8192x112 ![] bcast_S_S8192x112 (constant S_ .f32 0x00000000#32)⟩] concatenates_S8192x256_S8192x256_S8192x16_S8192x112_S8192x640_d1

theorem zf_apply (z : FVec Ideal S8192x8720 .f32) (R : Fin 8192) (l : Fin 640) :
    zf z (ix2 R l) = if l.val < 512 then (z (ix2 R ⟨min (8208 + l.val) 8719, by omega⟩) : EReal) else if l.val < 528 then z (ix2 R ⟨6144 + (l.val - 512), by omega⟩) else 0 := by
  by_cases h : l.val < 512
  · rw [if_pos h]
    by_cases h' : l.val < 256
    · exact (piece2 _ _ 0 (by simp) _ rfl 0 rfl R l ⟨l.val, h'⟩ (Nat.zero_add _)).trans (cols_apply z 8208 _ R _ _ (by show 8208 + l.val = min (8208 + l.val) 8719; omega))
    · exact (piece2 _ _ 1 (by simp) _ rfl 256 rfl R l ⟨l.val - 256, by omega⟩ (by show 256 + (l.val - 256) = l.val; omega)).trans
        (cols_apply z 8464 _ R _ _ (by show 8464 + (l.val - 256) = min (8208 + l.val) 8719; omega))
  rw [if_neg h]
  by_cases h' : l.val < 528
  · rw [if_pos h']
    exact (piece2 _ _ 2 (by simp) _ rfl 512 rfl R l ⟨l.val - 512, by omega⟩ (by show 512 + (l.val - 512) = l.val; omega)).trans (cols_apply z 6144 _ R _ _ rfl)
  · rw [if_neg h']
    exact (piece2 _ _ 3 (by simp) _ rfl 528 rfl R l ⟨l.val - 528, by omega⟩ (by show 528 + (l.val - 528) = l.val; omega)).trans zero_word

theorem heads_apply (y : FVec Ideal S8192x2048 .f32) (b : Fin 2) (t : Fin 4096) (h : Fin 16) (d : Fin 128) :
    shapeCast S1x2x4096x16x128 y shapeCasts_S8192x2048_S1x2x4096x16x128 (ix5 0 b t h d) = y (ix2 (tok b t) ⟨128 * h.val + d.val, by omega⟩) :=
  shapeCast_apply y _ (ix5 0 b t h d) (ix2 (tok b t) ⟨128 * h.val + d.val, by omega⟩)
    (by rw [Shape.rowMajor_val_two, Shape.rowMajor_val_five]; show (4096 * b.val + t.val) * 2048 + (128 * h.val + d.val) = (((0 * 2 + b.val) * 4096 + t.val) * 16 + h.val) * 128 + d.val; omega)

variable (m : (ℓ : Loc nD τ sig) → Buf (Elt Ideal) ℓ) (ρ : Dev nD → PrngReg)

/-- The residual stream and the projection of what a device's argument arrays hold. -/
def xarg (c : Dev nD) : FVec Ideal S8192x2048 .f32 :=
  out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

def zarg (c : Dev nD) : FVec Ideal S8192x8720 .f32 :=
  z (xarg m c) (m ((c.tc : Thread nD τ).loc main_arg5)) (m ((c.tc : Thread nD τ).loc main_arg6))

/-- Every execution of the reference ends with the six results, parts of the residual stream and of its projection, and the
arguments kept. -/
theorem run : θ_run defs (onTc (τ := τ) (main (F := Ideal))) ⟨m, fun _ => 0, ρ⟩ fun r => ∀ c : Dev nD,
    r.2.mem ((c.tc : Thread nD τ).loc main_v6) = xarg m c
    ∧ r.2.mem ((c.tc : Thread nD τ).loc main_v23) = extractStridedSlice S8192x2048 ![0, 0] (zarg m c) slices_S8192x8720_S8192x2048_0_0
    ∧ r.2.mem ((c.tc : Thread nD τ).loc main_v31) = shapeCast S1x2x4096x16x128 (extractStridedSlice S8192x2048 ![0, 2048] (zarg m c) slices_S8192x8720_S8192x2048_0_2048) shapeCasts_S8192x2048_S1x2x4096x16x128
    ∧ r.2.mem ((c.tc : Thread nD τ).loc main_v32) = shapeCast S1x2x4096x16x128 (extractStridedSlice S8192x2048 ![0, 4096] (zarg m c) slices_S8192x8720_S8192x2048_0_4096) shapeCasts_S8192x2048_S1x2x4096x16x128
    ∧ r.2.mem ((c.tc : Thread nD τ).loc main_v27) = extractStridedSlice S8192x2048 ![0, 6160] (zarg m c) slices_S8192x8720_S8192x2048_0_6160
    ∧ r.2.mem ((c.tc : Thread nD τ).loc main_v33) = zf (zarg m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  Cert.Reference3Ideal.Value.run m ρ

end Cert.Reference3Ideal.Linear
-- ==== Proof.OutIn.lean ====
module

public import proofs.«01_k».proof.Proof.Linear
public import proofs.«01_k».proof.Proof.OutInVal
public import proofs.«01_k».proof.Proof.OutInRef
public import proofs.«01_k».proof.Defs

@[expose] public section

set_option maxRecDepth 16384

noncomputable section

open Idealize.ShloMosaic Idealize.ShloMosaic.TcCoe Idealize.SL.Sem

namespace Cert.OutIn
open Cert.Linear

/-- Both programs' residual streams agree when their arguments do. -/
theorem xarg_eq (m : (ℓ : Loc Kernel3Ideal.nD Kernel3Ideal.τ Kernel3Ideal.sig) → Buf (Elt Ideal) ℓ)
    (m' : (ℓ : Loc Reference3Ideal.nD Reference3Ideal.τ Reference3Ideal.sig) → Buf (Elt Ideal) ℓ) (c : Dev Kernel3Ideal.nD)
    (e0 : m' ((c.tc : Thread Reference3Ideal.nD Reference3Ideal.τ).loc Reference3Ideal.main_arg0) = m ((c.tc : Thread Kernel3Ideal.nD Kernel3Ideal.τ).loc Kernel3Ideal.main_arg0))
    (e1 : m' ((c.tc : Thread Reference3Ideal.nD Reference3Ideal.τ).loc Reference3Ideal.main_arg1) = m ((c.tc : Thread Kernel3Ideal.nD Kernel3Ideal.τ).loc Kernel3Ideal.main_arg1))
    (e2 : m' ((c.tc : Thread Reference3Ideal.nD Reference3Ideal.τ).loc Reference3Ideal.main_arg2) = m ((c.tc : Thread Kernel3Ideal.nD Kernel3Ideal.τ).loc Kernel3Ideal.main_arg2))
    (e3 : m' ((c.tc : Thread Reference3Ideal.nD Reference3Ideal.τ).loc Reference3Ideal.main_arg3) = m ((c.tc : Thread Kernel3Ideal.nD Kernel3Ideal.τ).loc Kernel3Ideal.main_arg3))
    (e4 : m' ((c.tc : Thread Reference3Ideal.nD Reference3Ideal.τ).loc Reference3Ideal.main_arg4) = m ((c.tc : Thread Kernel3Ideal.nD Kernel3Ideal.τ).loc Kernel3Ideal.main_arg4))
    (R : Fin 8192) (d : Fin 2048) : Reference3Ideal.Linear.xarg m' c (ix2 R d) = Kernel3Ideal.Linear.X m c R d := by
  unfold Reference3Ideal.Linear.xarg
  rw [e0, e1, e2, e3, e4]
  exact Reference3Ideal.Linear.out_apply _ _ _ _ _ R d

/-- And so do their projections. -/
theorem zarg_eq (m : (ℓ : Loc Kernel3Ideal.nD Kernel3Ideal.τ Kernel3Ideal.sig) → Buf (Elt Ideal) ℓ)
    (m' : (ℓ : Loc Reference3Ideal.nD Reference3Ideal.τ Reference3Ideal.sig) → Buf (Elt Ideal) ℓ) (c : Dev Kernel3Ideal.nD)
    (e0 : m' ((c.tc : Thread Reference3Ideal.nD Reference3Ideal.τ).loc Reference3Ideal.main_arg0) = m ((c.tc : Thread Kernel3Ideal.nD Kernel3Ideal.τ).loc Kernel3Ideal.main_arg0))
    (e1 : m' ((c.tc : Thread Reference3Ideal.nD Reference3Ideal.τ).loc Reference3Ideal.main_arg1) = m ((c.tc : Thread Kernel3Ideal.nD Kernel3Ideal.τ).loc Kernel3Ideal.main_arg1))
    (e2 : m' ((c.tc : Thread Reference3Ideal.nD Reference3Ideal.τ).loc Reference3Ideal.main_arg2) = m ((c.tc : Thread Kernel3Ideal.nD Kernel3Ideal.τ).loc Kernel3Ideal.main_arg2))
    (e3 : m' ((c.tc : Thread Reference3Ideal.nD Reference3Ideal.τ).loc Reference3Ideal.main_arg3) = m ((c.tc : Thread Kernel3Ideal.nD Kernel3Ideal.τ).loc Kernel3Ideal.main_arg3))
    (e4 : m' ((c.tc : Thread Reference3Ideal.nD Reference3Ideal.τ).loc Reference3Ideal.main_arg4) = m ((c.tc : Thread Kernel3Ideal.nD Kernel3Ideal.τ).loc Kernel3Ideal.main_arg4))
    (e5 : m' ((c.tc : Thread Reference3Ideal.nD Reference3Ideal.τ).loc Reference3Ideal.main_arg5) = m ((c.tc : Thread Kernel3Ideal.nD Kernel3Ideal.τ).loc Kernel3Ideal.main_arg5))
    (e6 : m' ((c.tc : Thread Reference3Ideal.nD Reference3Ideal.τ).loc Reference3Ideal.main_arg6) = m ((c.tc : Thread Kernel3Ideal.nD Kernel3Ideal.τ).loc Kernel3Ideal.main_arg6))
    (R : Fin 8192) (n : Fin 8720) : Reference3Ideal.Linear.zarg m' c (ix2 R n) = Kernel3Ideal.Linear.E m c R n := by
  unfold Reference3Ideal.Linear.zarg
  refine (Reference3Ideal.Linear.z_apply _ _ _ R n).trans ?_
  rw [e5, e6]
  exact congrArg (fun x => zrow x _ _) (funext fun d => xarg_eq m m' c e0 e1 e2 e3 e4 R d)

theorem zf_eq (m : (ℓ : Loc Kernel3Ideal.nD Kernel3Ideal.τ Kernel3Ideal.sig) → Buf (Elt Ideal) ℓ)
    (m' : (ℓ : Loc Reference3Ideal.nD Reference3Ideal.τ Reference3Ideal.sig) → Buf (Elt Ideal) ℓ) (c : Dev Kernel3Ideal.nD)
    (hz : ∀ R n, Reference3Ideal.Linear.zarg m' c (ix2 R n) = Kernel3Ideal.Linear.E m c R n) (R : Fin 8192) (l : Fin 640) :
    Reference3Ideal.Linear.zf (Reference3Ideal.Linear.zarg m' c) (ix2 R l) = Kernel3Ideal.Linear.Z m c R l := by
  refine (Reference3Ideal.Linear.zf_apply _ R l).trans ?_
  unfold Kernel3Ideal.Linear.Z
  simp only [hz]

/-- The first layer's output projection and the second layer's input projection: the kernel and the reference end with the
same residual stream, queries, keys, values, gates, and columns for the memory and the forget gates. -/
theorem projections : algebraic_Kernel3Ideal_Reference3Ideal (hKernel3Ideal := Cert.Kernel3Ideal.Gen.facts)
    (hReference3Ideal := Cert.Reference3Ideal.Gen.facts) := by
  intro m g m' g' _ hargs
  refine ⟨fun c => Kernel3Ideal.Gen.W13 m g c (Proc.devRef .tc Kernel3Ideal.main_v8_0), fun c => Kernel3Ideal.Gen.W13 m g c (Proc.devRef .tc Kernel3Ideal.main_v11), fun c => Kernel3Ideal.Gen.W13 m g c (Proc.devRef .tc Kernel3Ideal.main_v28), fun c => Kernel3Ideal.Gen.W13 m g c (Proc.devRef .tc Kernel3Ideal.main_v30), fun c => Kernel3Ideal.Gen.W13 m g c (Proc.devRef .tc Kernel3Ideal.main_v20), fun c => Kernel3Ideal.Gen.W13 m g c (Proc.devRef .tc Kernel3Ideal.main_v26),
    (θ_run Cert.Kernel3Ideal.defs _ _).mono (fun r h c => ?_) (Kernel3Ideal.Linear.run_all m g),
    (θ_run Cert.Reference3Ideal.defs _ _).mono (fun r h c => ?_) (Reference3Ideal.Linear.run m' g')⟩
  · exact ⟨h c _ (Kernel3Ideal.Gen.mem_uc Kernel3Ideal.main_v8_0 (by decide)), h c _ (Kernel3Ideal.Gen.mem_uc Kernel3Ideal.main_v11 (by decide)), h c _ (Kernel3Ideal.Gen.mem_uc Kernel3Ideal.main_v28 (by decide)), h c _ (Kernel3Ideal.Gen.mem_uc Kernel3Ideal.main_v30 (by decide)), h c _ (Kernel3Ideal.Gen.mem_uc Kernel3Ideal.main_v20 (by decide)), h c _ (Kernel3Ideal.Gen.mem_uc Kernel3Ideal.main_v26 (by decide)),
      (h c _ (Kernel3Ideal.Gen.mem_uc Kernel3Ideal.main_arg0 (by decide))).trans (Kernel3Ideal.Gen.W13_main_arg0 m g c), (h c _ (Kernel3Ideal.Gen.mem_uc Kernel3Ideal.main_arg1 (by decide))).trans (Kernel3Ideal.Gen.W13_main_arg1 m g c), (h c _ (Kernel3Ideal.Gen.mem_uc Kernel3Ideal.main_arg2 (by decide))).trans (Kernel3Ideal.Gen.W13_main_arg2 m g c), (h c _ (Kernel3Ideal.Gen.mem_uc Kernel3Ideal.main_arg3 (by decide))).trans (Kernel3Ideal.Gen.W13_main_arg3 m g c), (h c _ (Kernel3Ideal.Gen.mem_uc Kernel3Ideal.main_arg4 (by decide))).trans (Kernel3Ideal.Gen.W13_main_arg4 m g c), (h c _ (Kernel3Ideal.Gen.mem_uc Kernel3Ideal.main_arg5 (by decide))).trans (Kernel3Ideal.Gen.W13_main_arg5 m g c), (h c _ (Kernel3Ideal.Gen.mem_uc Kernel3Ideal.main_arg6 (by decide))).trans (Kernel3Ideal.Gen.W13_main_arg6 m g c)⟩
  · obtain ⟨e0, e1, e2, e3, e4, e5, e6⟩ := hargs c
    have hx := xarg_eq m m' c e0 e1 e2 e3 e4
    have hz := zarg_eq m m' c e0 e1 e2 e3 e4 e5 e6
    obtain ⟨h0, h1, h2, h3, h4, h5, hk⟩ := h c
    refine ⟨h0.trans ?_, h1.trans ?_, h2.trans ?_, h3.trans ?_, h4.trans ?_, h5.trans ?_, hk⟩
    · funext i
      rw [eq_ix2 i]
      exact (hx _ _).trans (Kernel3Ideal.Linear.res0 m g c (i 0) (i 1)).symm
    · funext i
      have i1 : (i 1).val < 2048 := (i 1).isLt
      rw [eq_ix2 i]
      exact ((cols_apply (Reference3Ideal.Linear.zarg m' c) 0 _ (i 0) (i 1) ⟨(i 1).val, by omega⟩ (Nat.zero_add _)).trans (hz _ _)).trans (Kernel3Ideal.Linear.res1 m g c (i 0) (i 1)).symm
    · funext i
      have i0 : i 0 = (0 : Fin 1) := Subsingleton.elim (α := Fin 1) _ _
      have i3 : (i 3).val < 16 := (i 3).isLt
      have i4 : (i 4).val < 128 := (i 4).isLt
      rw [eq_ix5 i, i0]
      exact (Reference3Ideal.Linear.heads_apply _ (i 1) (i 2) (i 3) (i 4)).trans (((cols_apply (Reference3Ideal.Linear.zarg m' c) 2048 _ _ _ ⟨2048 + (128 * (i 3).val + (i 4).val), by omega⟩ rfl).trans (hz _ _)).trans
        (Kernel3Ideal.Linear.res2 m g c (i 1) (i 2) (i 3) (i 4)).symm)
    · funext i
      have i0 : i 0 = (0 : Fin 1) := Subsingleton.elim (α := Fin 1) _ _
      have i3 : (i 3).val < 16 := (i 3).isLt
      have i4 : (i 4).val < 128 := (i 4).isLt
      rw [eq_ix5 i, i0]
      exact (Reference3Ideal.Linear.heads_apply _ (i 1) (i 2) (i 3) (i 4)).trans (((cols_apply (Reference3Ideal.Linear.zarg m' c) 4096 _ _ _ ⟨4096 + (128 * (i 3).val + (i 4).val), by omega⟩ rfl).trans (hz _ _)).trans
        (Kernel3Ideal.Linear.res3 m g c (i 1) (i 2) (i 3) (i 4)).symm)
    · funext i
      have i1 : (i 1).val < 2048 := (i 1).isLt
      rw [eq_ix2 i]
      exact ((cols_apply (Reference3Ideal.Linear.zarg m' c) 6160 _ (i 0) (i 1) ⟨6160 + (i 1).val, by omega⟩ (rfl)).trans (hz _ _)).trans (Kernel3Ideal.Linear.res4 m g c (i 0) (i 1)).symm
    · funext i
      rw [eq_ix2 i]
      exact (zf_eq m m' c hz (i 0) (i 1)).trans (Kernel3Ideal.Linear.res5 m g c (i 0) (i 1)).symm

end Cert.OutIn
-- ==== Proof.FinalRegions.lean ====
module

public import proofs.«01_k».proof.Proof.Linear
public import proofs.«01_k».proof.Proof.Gen.Kernel4Ideal
public import proofs.«01_k».proof.Proof.Gen.Kernel4Ideal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.Kernel4Ideal.Linear
open Cert.Kernel4Ideal.Gen Cert.Linear

theorem z2 : (![0, 0] : Fin 2 → ℕ) = fun _ => 0 := funext fun a => match a with | 0 => rfl | 1 => rfl

variable (m : (ℓ : Loc nD τ sig) → Buf (Elt Ideal) ℓ)

/-- The block window 0 of region 0 takes at a grid point. -/
theorem index0_0 : ∀ t : Fin cfg0.N, win0_0.index t (0 : Fin 2) = t.val ∧ win0_0.index t (1 : Fin 2) = 0 :=
  (by decide +kernel : ∀ t : Fin grid0.N, _)

/-- The block window 1 of region 0 takes at a grid point. -/
theorem index0_1 : ∀ t : Fin cfg0.N, win0_1.index t (0 : Fin 2) = t.val ∧ win0_1.index t (1 : Fin 2) = 0 :=
  (by decide +kernel : ∀ t : Fin grid0.N, _)

/-- The block window 4 of region 0 takes at a grid point. -/
theorem index0_4 : ∀ t : Fin cfg0.N, win0_4.index t (0 : Fin 2) = t.val ∧ win0_4.index t (1 : Fin 2) = 0 :=
  (by decide +kernel : ∀ t : Fin grid0.N, _)

/-- The block window 6 of region 0 takes at a grid point. -/
theorem index0_6 : ∀ t : Fin cfg0.N, win0_6.index t (0 : Fin 2) = t.val ∧ win0_6.index t (1 : Fin 2) = 0 :=
  (by decide +kernel : ∀ t : Fin grid0.N, _)

/-- The block window 2 of region 0 takes at a grid point. -/
theorem index0_2 : ∀ t : Fin cfg0.N, win0_2.index t (0 : Fin 2) = 0 ∧ win0_2.index t (1 : Fin 2) = 0 :=
  (by decide +kernel : ∀ t : Fin grid0.N, _)

/-- The block window 3 of region 0 takes at a grid point. -/
theorem index0_3 : ∀ t : Fin cfg0.N, win0_3.index t (0 : Fin 2) = 0 ∧ win0_3.index t (1 : Fin 2) = 0 :=
  (by decide +kernel : ∀ t : Fin grid0.N, _)

/-- The block window 5 of region 0 takes at a grid point. -/
theorem index0_5 : ∀ t : Fin cfg0.N, win0_5.index t (0 : Fin 2) = 0 ∧ win0_5.index t (1 : Fin 2) = 0 :=
  (by decide +kernel : ∀ t : Fin grid0.N, _)

theorem N_le0 (t : Fin cfg0.N) : t.val < 32 := lt_of_lt_of_eq t.isLt (show cfg0.N = 32 from N_0)

theorem dims0_256 : dot_S256x256_S256x2048_S256x2048_1_0_0_1_n_n = DotDims.plain 256 256 2048 := rfl

theorem dims0_2048 : dot_S256x2048_S2048x2048_S256x2048_1_0_0_1_n_n = DotDims.plain 256 2048 2048 := rfl

/-- The rows with the branches' products added, one grid point's block. -/
def acc0 (x : FVec Ideal S256x2048 .f32) (h0 : FVec Ideal S256x2048 .bf16) (w0 : FVec Ideal S2048x2048 .bf16) (h1 : FVec Ideal S256x256 .bf16) (w1 : FVec Ideal S256x2048 .bf16) : FVec Ideal S256x2048 .f32 :=
  addf (addf (x) (matmul (F := Ideal) dot_S256x2048_S2048x2048_S256x2048_1_0_0_1_n_n none h0 w0 (constant S256x2048 .f32 0x00000000#32))) (matmul (F := Ideal) dot_S256x256_S256x2048_S256x2048_1_0_0_1_n_n none h1 w1 (constant S256x2048 .f32 0x00000000#32))

theorem acc0_apply (x : FVec Ideal S256x2048 .f32) (h0 : FVec Ideal S256x2048 .bf16) (w0 : FVec Ideal S2048x2048 .bf16) (h1 : FVec Ideal S256x256 .bf16) (w1 : FVec Ideal S256x2048 .bf16) (r : Fin 256) (l : Fin 2048) :
    (acc0 x h0 w0 h1 w1 : S256x2048.Idx → EReal) (ix2 r l) = (x (ix2 r l) : EReal) + (∑ k : Fin 2048, (h0 (ix2 r k) : EReal) * (w0 (ix2 k l) : EReal)) + (∑ k : Fin 256, (h1 (ix2 r k) : EReal) * (w1 (ix2 k l) : EReal)) := by
  unfold acc0
  rw [dims0_256, dims0_2048]
  pointwise [Ideal.matmul_plain_apply]

/-- The block stored at a grid point is the norm of the sums. -/
theorem pay0_apply (x : FVec Ideal S256x2048 .f32) (h0 : FVec Ideal S256x2048 .bf16) (w0 : FVec Ideal S2048x2048 .bf16) (h1 : FVec Ideal S256x256 .bf16) (w1 : FVec Ideal S256x2048 .bf16) (g : FVec Ideal S1x2048 .f32) (r : Fin 256) (l : Fin 2048) :
    (k0_pay1 (F := Ideal) x h0 w0 h1 w1 g : S256x2048.Idx → EReal) (ix2 r l) = rms (Ideal.ofBits .f32 0x45000000#32) (Ideal.ofBits .f32 0x358637BD#32)
      (fun d => (acc0 x h0 w0 h1 w1 (ix2 r d) : EReal)) (fun d => (g (ix2 0 d) : EReal)) l := by
  unfold k0_pay1
  unfold rms
  simp only [shapeCast_self]
  rw [show addf (addf (x) (matmul (F := Ideal) dot_S256x2048_S2048x2048_S256x2048_1_0_0_1_n_n none h0 w0 (constant S256x2048 .f32 0x00000000#32))) (matmul (F := Ideal) dot_S256x256_S256x2048_S256x2048_1_0_0_1_n_n none h1 w1 (constant S256x2048 .f32 0x00000000#32)) = acc0 x h0 w0 h1 w1 from rfl]
  generalize acc0 x h0 w0 h1 w1 = y
  pointwise
  exact congrArg (fun s : EReal => (y (ix2 r l) : EReal) * Ideal.rsqrt (Ideal.div s (Ideal.ofBits .f32 0x45000000#32)
    + Ideal.ofBits .f32 0x358637BD#32) * (g (ix2 0 l) : EReal)) (colSum (mulf y y) r _ _ _ _)

/-- An element of window 0's block in region 0. -/
theorem blk0_0 (c : Dev nD) (t : Fin cfg0.N) (r : Fin 256) (l : Fin 2048) (R : Fin 8192) (L : Fin 2048)
    (hR : R.val = 256 * t.val + r.val) (hL : L.val = l.val) : iblk m c 0 t (ix2 r l) = V m c main_arg0 (ix2 R L) := by
  obtain ⟨e0, e1⟩ := index0_0 t
  refine congrArg (V m c main_arg0) (funext fun a => Fin.ext ?_)
  match a with
  | 0 => show win0_0.index t (0 : Fin 2) * 256 + 1 * r.val = R.val; omega
  | 1 => show win0_0.index t (1 : Fin 2) * 2048 + 1 * l.val = L.val; omega

/-- An element of window 2's block in region 0. -/
theorem blk0_2 (c : Dev nD) (t : Fin cfg0.N) (r : Fin 2048) (l : Fin 2048) (R : Fin 2048) (L : Fin 2048)
    (hR : R.val = r.val) (hL : L.val = l.val) : iblk m c 2 t (ix2 r l) = V m c main_v2 (ix2 R L) := by
  obtain ⟨e0, e1⟩ := index0_2 t
  refine congrArg (V m c main_v2) (funext fun a => Fin.ext ?_)
  match a with
  | 0 => show win0_2.index t (0 : Fin 2) * 2048 + 1 * r.val = R.val; omega
  | 1 => show win0_2.index t (1 : Fin 2) * 2048 + 1 * l.val = L.val; omega

/-- An element of window 1's block in region 0. -/
theorem blk0_1 (c : Dev nD) (t : Fin cfg0.N) (r : Fin 256) (l : Fin 256) (R : Fin 8192) (L : Fin 256)
    (hR : R.val = 256 * t.val + r.val) (hL : L.val = l.val) : iblk m c 1 t (ix2 r l) = V m c main_arg1 (ix2 R L) := by
  obtain ⟨e0, e1⟩ := index0_1 t
  refine congrArg (V m c main_arg1) (funext fun a => Fin.ext ?_)
  match a with
  | 0 => show win0_1.index t (0 : Fin 2) * 256 + 1 * r.val = R.val; omega
  | 1 => show win0_1.index t (1 : Fin 2) * 256 + 1 * l.val = L.val; omega

/-- An element of window 3's block in region 0. -/
theorem blk0_3 (c : Dev nD) (t : Fin cfg0.N) (r : Fin 256) (l : Fin 2048) (R : Fin 256) (L : Fin 2048)
    (hR : R.val = r.val) (hL : L.val = l.val) : iblk m c 3 t (ix2 r l) = V m c main_v3 (ix2 R L) := by
  obtain ⟨e0, e1⟩ := index0_3 t
  refine congrArg (V m c main_v3) (funext fun a => Fin.ext ?_)
  match a with
  | 0 => show win0_3.index t (0 : Fin 2) * 256 + 1 * r.val = R.val; omega
  | 1 => show win0_3.index t (1 : Fin 2) * 2048 + 1 * l.val = L.val; omega

/-- An element of window 4's block in region 0. -/
theorem blk0_4 (c : Dev nD) (t : Fin cfg0.N) (r : Fin 256) (l : Fin 2048) (R : Fin 8192) (L : Fin 2048)
    (hR : R.val = 256 * t.val + r.val) (hL : L.val = l.val) : iblk m c 4 t (ix2 r l) = V m c main_arg2 (ix2 R L) := by
  obtain ⟨e0, e1⟩ := index0_4 t
  refine congrArg (V m c main_arg2) (funext fun a => Fin.ext ?_)
  match a with
  | 0 => show win0_4.index t (0 : Fin 2) * 256 + 1 * r.val = R.val; omega
  | 1 => show win0_4.index t (1 : Fin 2) * 2048 + 1 * l.val = L.val; omega

/-- An element of window 5's block in region 0. -/
theorem blk0_5 (c : Dev nD) (t : Fin cfg0.N) (r : Fin 1) (l : Fin 2048) (R : Fin 1) (L : Fin 2048)
    (hR : R.val = r.val) (hL : L.val = l.val) : iblk m c 5 t (ix2 r l) = V m c main_v4 (ix2 R L) := by
  obtain ⟨e0, e1⟩ := index0_5 t
  refine congrArg (V m c main_v4) (funext fun a => Fin.ext ?_)
  match a with
  | 0 => show win0_5.index t (0 : Fin 2) * 1 + 1 * r.val = R.val; omega
  | 1 => show win0_5.index t (1 : Fin 2) * 2048 + 1 * l.val = L.val; omega

/-- The rows with the branches' products added. -/
def sum0 (c : Dev nD) : S8192x2048.Idx → EReal := plus (plus ((V m c main_arg2 : S8192x2048.Idx → EReal)) (prod (V m c main_arg0 : S8192x2048.Idx → EReal) (V m c main_v2 : S2048x2048.Idx → EReal))) (prod (V m c main_arg1 : S8192x256.Idx → EReal) (V m c main_v3 : S256x2048.Idx → EReal))

theorem accblk0 (c : Dev nD) (t : Fin cfg0.N) (r : Fin 256) (R : Fin 8192) (hR : R.val = 256 * t.val + r.val) (d : Fin 2048) :
    (acc0 (iblk m c 4 t) (iblk m c 0 t) (iblk m c 2 t) (iblk m c 1 t) (iblk m c 3 t) (ix2 r d) : EReal) = sum0 m c (ix2 R d) := by
  refine (acc0_apply _ _ _ _ _ r d).trans ?_
  unfold sum0
  exact congrArg₂ (fun a b : EReal => a + b) (congrArg₂ (fun a b : EReal => a + b) (blk0_4 m c t r d R d hR rfl) (Finset.sum_congr rfl fun k _ => congrArg₂ (fun a b : EReal => a * b) (blk0_0 m c t r k R k hR rfl) (blk0_2 m c t k d k d rfl rfl))) (Finset.sum_congr rfl fun k _ => congrArg₂ (fun a b : EReal => a * b) (blk0_1 m c t r k R k hR rfl) (blk0_3 m c t k d k d rfl rfl))

/-- What a grid point writes back through window 6 is its block of the result. -/
theorem flushed0_6 (c : Dev nD) (t : Fin cfg0.N) : (dats m 0 c).flushed 6 t
    = ((cfg0.win 6).blk t).view.read (Elt Ideal) (normed (sum0 m c) fun d => (V m c main_v4 : S1x2048.Idx → EReal) (ix2 0 d)) := by
  obtain ⟨e0, e1⟩ := index0_6 t
  have ht := N_le0 t
  show (cfg0.win 6).cut (grid0.coords t) ((dats m 0 c).after 6 t) = _
  rw [after0_6]
  unfold out0_6
  rw [View.canon_unit_zero (S := S256x2048) z2]
  simp only [View.ld_unit_zero (S := S256x2048) z2, View.ld_unit_zero (S := S256x256) z2, View.ld_unit_zero (S := S2048x2048) z2, View.ld_unit_zero (S := S1x2048) z2]
  funext y
  obtain ⟨r, l, rfl⟩ : ∃ (r : Fin 256) (l : Fin 2048), y = ix2 r l := ⟨y 0, y 1, eq_ix2 y⟩
  have hr := r.isLt
  let R : Fin 8192 := ⟨256 * t.val + r.val, by omega⟩
  have hemb : ((cfg0.win 6).blk t).view.emb (ix2 r l) = (ix2 R l : S8192x2048.Idx) := by
    refine funext fun a => Fin.ext ?_
    match a with
    | 0 => show win0_6.index t (0 : Fin 2) * 256 + 1 * r.val = R.val; simp only [R]; omega
    | 1 => show win0_6.index t (1 : Fin 2) * 2048 + 1 * l.val = l.val; omega
  refine (pay0_apply _ _ _ _ _ _ r l).trans (Eq.trans ?_ (congrArg (normed (sum0 m c) fun d => (V m c main_v4 : S1x2048.Idx → EReal) (ix2 0 d)) hemb).symm)
  have e := funext fun d => accblk0 m c t r R rfl d
  have e' : (fun d : Fin 2048 => (iblk m c 5 t (ix2 0 d) : EReal)) = fun d => V m c main_v4 (ix2 0 d) :=
    funext fun d => blk0_5 m c t 0 d 0 d (by omega) (by omega)
  unfold normed
  rw [e, e']
  rfl

/-- Every entry of the array lies in a block that some grid point writes back. -/
theorem covered0_6 (i : S8192x2048.Idx) :
    ∃ t : Fin cfg0.N, (cfg0.win 6).flush t = true ∧ i ∈ ((cfg0.win 6).blk t).view.set := by
  have h0 : (i 0).val < 8192 := (i 0).isLt
  have h1 : (i 1).val < 2048 := (i 1).isLt
  let t : Fin cfg0.N := ⟨(i 0).val / 256, lt_of_lt_of_eq (b := 32) (by omega) (show 32 = cfg0.N from N_0.symm)⟩
  obtain ⟨e0, e1⟩ := index0_6 t
  have tv : t.val = (i 0).val / 256 := rfl
  refine ⟨t, flush0_6 t, ?_⟩
  have hm := ((cfg0.win 6).blk t).view.emb_mem_set (ix2 ⟨(i 0).val % 256, by omega⟩ ⟨(i 1).val % 2048, by omega⟩)
  have he : ((cfg0.win 6).blk t).view.emb (ix2 ⟨(i 0).val % 256, by omega⟩ ⟨(i 1).val % 2048, by omega⟩) = i := by
    refine funext fun a => Fin.ext ?_
    match a with
    | 0 => show win0_6.index t (0 : Fin 2) * 256 + 1 * ((i 0).val % 256) = (i 0).val; omega
    | 1 => show win0_6.index t (1 : Fin 2) * 2048 + 1 * ((i 1).val % 2048) = (i 1).val; omega
  rwa [he] at hm

/-- What region 0 leaves through window 6. -/
theorem final0_6 (c : Dev nD) : (dats m 0 c).arrAt 6 cfg0.N = (normed (sum0 m c) fun d => (V m c main_v4 : S1x2048.Idx → EReal) (ix2 0 d)) :=
  (dats m 0 c).arrAt_eq_of_cover 6 _ (fun t _ => flushed0_6 m c t) covered0_6

end Cert.Kernel4Ideal.Linear
-- ==== Proof.FinalVal.lean ====
module

public import proofs.«01_k».proof.Proof.Mix
public import proofs.«01_k».proof.Proof.FinalRegions

@[expose] public section

set_option maxRecDepth 16384

noncomputable section

open Idealize.ShloMosaic Idealize.ShloMosaic.TcCoe Idealize.SL.Sem

namespace Cert.Kernel4Ideal.Linear
open Cert.Kernel4Ideal.Gen Cert.Linear
open Idealize.ShloMosaic.Pipeline (Dat Cfg)

variable (m : (ℓ : Loc nD τ sig) → Buf (Elt Ideal) ℓ) (ρ : Dev nD → PrngReg) (c : Dev nD)

/-- The arguments of one device. -/
abbrev A0 : S8192x2048.Idx → EReal := m ((c.tc : Thread nD τ).loc main_arg0)
abbrev A1 : S8192x256.Idx → EReal := m ((c.tc : Thread nD τ).loc main_arg1)
abbrev A2 : S8192x2048.Idx → EReal := m ((c.tc : Thread nD τ).loc main_arg2)
abbrev A3 : S1x2304x2048.Idx → EReal := m ((c.tc : Thread nD τ).loc main_arg3)
abbrev A4 : S2048.Idx → EReal := m ((c.tc : Thread nD τ).loc main_arg4)

/-- The residual stream after the second layer's output projection. -/
def X (R : Fin 8192) (d : Fin 2048) : EReal :=
  mix2 (A2 m c (ix2 R d)) (fun k => A0 m c (ix2 R k)) (fun k => A1 m c (ix2 R k)) (fun k => A3 m c (ix3 0 k d))

theorem v2_apply (k : Fin 2048) (d : Fin 2048) : (V m c main_v2 : S2048x2048.Idx → EReal) (ix2 k d) = A3 m c (ix3 0 ⟨k.val, by omega⟩ d) := by
  have e : V m c main_v2 = extractStridedSlice S2048x2048 ![0, 0] (truncf (F := Ideal) .bf16 (shapeCast S2304x2048 (A3 m c : FVec Ideal S1x2304x2048 .f32) shapeCasts_S1x2304x2048_S2304x2048) bitsLt_bf16_f32) slices_S2304x2048_S2048x2048_0_0 := by
    show StableHlo.after hostOps0 (fun b => m (c, b)) (Proc.devRef .tc main_v2) = _
    after_results
    rfl
  rw [e]
  exact (rows_apply (α := EReal) _ 0 slices_S2304x2048_S2048x2048_0_0 k d ⟨k.val, by omega⟩ (Nat.zero_add _)).trans (lone_apply (α := EReal) (A3 m c) shapeCasts_S1x2304x2048_S2304x2048 _ d)

theorem v3_apply (k : Fin 256) (d : Fin 2048) : (V m c main_v3 : S256x2048.Idx → EReal) (ix2 k d) = A3 m c (ix3 0 ⟨2048 + k.val, by omega⟩ d) := by
  have e : V m c main_v3 = extractStridedSlice S256x2048 ![2048, 0] (truncf (F := Ideal) .bf16 (shapeCast S2304x2048 (A3 m c : FVec Ideal S1x2304x2048 .f32) shapeCasts_S1x2304x2048_S2304x2048) bitsLt_bf16_f32) slices_S2304x2048_S256x2048_2048_0 := by
    show StableHlo.after hostOps0 (fun b => m (c, b)) (Proc.devRef .tc main_v3) = _
    after_results
    rfl
  rw [e]
  exact (rows_apply (α := EReal) _ 2048 slices_S2304x2048_S256x2048_2048_0 k d ⟨2048 + k.val, by omega⟩ (rfl)).trans (lone_apply (α := EReal) (A3 m c) shapeCasts_S1x2304x2048_S2304x2048 _ d)

theorem v4_apply (d : Fin 2048) : (V m c main_v4 : S1x2048.Idx → EReal) (ix2 0 d) = A4 m c (ix1 d) := by
  have e : V m c main_v4 = shapeCast S1x2048 (A4 m c) shapeCasts_S2048_S1x2048 := by
    show StableHlo.after hostOps0 (fun b => m (c, b)) (Proc.devRef .tc main_v4) = _
    after_results
    rfl
  rw [e]
  exact put1_apply _ _ d

/-- The region's sum is the residual stream. -/
theorem sum0_apply (R : Fin 8192) (d : Fin 2048) : sum0 m c (ix2 R d) = X m c R d := by
  have h : ∀ {K : ℕ} (x y : (⟨2, ![8192, K]⟩ : Shape).Idx → EReal) (w : (⟨2, ![K, 2048]⟩ : Shape).Idx → EReal) (w' : Fin K → EReal), x = y → (∀ k, w (ix2 k d) = w' k) →
      prod x w (ix2 R d) = ∑ k : Fin K, y (ix2 R k) * w' k := fun x y w w' hx hw => by
    subst hx
    exact Finset.sum_congr rfl fun k _ => congrArg (fun b : EReal => x (ix2 R k) * b) (hw k)
  unfold sum0 X mix2
  refine congrArg₂ (fun a b : EReal => a + b) (congrArg₂ (fun a b : EReal => a + b) ?_ ?_) ?_
  · exact congrFun (V_main_arg2 m c) _
  · exact h _ _ _ _ (V_main_arg0 m c) fun k => v2_apply m c k d
  · exact h _ _ _ _ (V_main_arg1 m c) fun k => v3_apply m c k d

theorem arr_apply (R : Fin 8192) (d : Fin 2048) : ((dats m 0 c).arrAt 6 cfg0.N : S8192x2048.Idx → EReal) (ix2 R d) = rms cols small (X m c R) (fun d => A4 m c (ix1 d)) d := by
  have e : ((dats m 0 c).arrAt 6 cfg0.N : S8192x2048.Idx → EReal) = _ := final0_6 m c
  rw [e]
  unfold normed
  exact congrArg₂ (fun x g => rms cols small x g d) (funext fun d => sum0_apply m c R d) (funext fun d => v4_apply m c d)

/-- The kernel's result: the region's array, by token. -/
def fin : FVec Ideal S2x4096x2048 .f32 := shapeCast S2x4096x2048 ((dats m 0 c).arrAt 6 cfg0.N : FVec Ideal S8192x2048 .f32) shapeCasts_S8192x2048_S2x4096x2048

theorem fin_apply (b : Fin 2) (t : Fin 4096) (d : Fin 2048) : fin m c (ix3 b t d) = rms cols small (X m c (tok b t)) (fun d => A4 m c (ix1 d)) d :=
  (shapeCast_apply _ _ (ix3 b t d) (ix2 (tok b t) d) (by rw [Shape.rowMajor_val_two, Shape.rowMajor_val_three]; show (4096 * b.val + t.val) * 2048 + d.val = (b.val * 4096 + t.val) * 2048 + d.val; omega)).trans (arr_apply m c (tok b t) d)

/-- The last host operation leaves the result where the claim reads it. -/
theorem tail_v6 : Pipeline.afterTail₀ cfgs (dats m) 0 (V0 m) [hostOps1] c main_v6 = fin m c := by
  unfold Pipeline.afterTail₀
  rw [List.flatten_cons, List.flatten_nil, List.append_nil]
  after_results
  unfold fin
  exact congrArg (fun x => shapeCast S2x4096x2048 x shapeCasts_S8192x2048_S2x4096x2048)
    (Pipeline.withArrays_arr spec0 launch0.win.arr_inj c (V0 m c) (fun w => (dats m 0 c).arrAt w cfg0.N) 6)

/-- Every execution ends with the result and the arguments kept. -/
theorem run : θ_run defs (onTc (τ := τ) (main (F := Ideal))) ⟨m, fun _ => 0, ρ⟩ fun r => ∀ c : Dev nD,
    r.2.mem ((c.tc : Thread nD τ).loc main_v6) = fin m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨((h c).2 main_v6 (Pipeline.mem_restRefs_of main_v6 (by decide) (by decide))).trans (tail_v6 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 4).trans (((dats m 0 c).arrAt_in 4 rfl _).trans ((A_eq m c 4).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩) (run_main m ρ)

end Cert.Kernel4Ideal.Linear
-- ==== Proof.FinalRef.lean ====
module

public import proofs.«01_k».proof.Proof.Mix
public import proofs.«01_k».proof.Proof.Gen.Reference4Ideal
public import proofs.«01_k».proof.Proof.Gen.Reference4Ideal.Run

@[expose] public section

set_option maxRecDepth 16384

noncomputable section

open Idealize.ShloMosaic Idealize.ShloMosaic.TcCoe Idealize.SL.Sem

namespace Cert.Reference4Ideal.Linear
open Cert.Reference4Ideal Cert.Reference4Ideal.Gen Cert.Linear

/-- The root mean square norm of the rows. -/
def nrm (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

theorem reduces : S8192x2048.Reduces [1] S8192 := by decide

theorem nrm_apply (x : FVec Ideal S8192x2048 .f32) (g : FVec Ideal S2048 .f32) (R : Fin 8192) (d : Fin 2048) :
    nrm x g (ix2 R d) = rms cols small (fun d => x (ix2 R d)) (fun d => g (ix1 d)) d := by
  have hs := sum2_apply (mulf x x) reduces reducesTo_S8192x2048_S8192_d1 h_S_ R
  unfold nrm rms
  generalize Host.reduceAdd (mulf x x) (constant S_ .f32 0x00000000#32) reducesTo_S8192x2048_S8192_d1 h_S_ = s at hs ⊢
  have hs' : s (ix1 R) = ∑ k : Fin 2048, (x (ix2 R k) : EReal) * x (ix2 R k) := hs
  beta_reduce
  rw [← hs']
  pointwise

/-- The joined branches. -/
def cat (a : FVec Ideal S8192x2048 .bf16) (m : FVec Ideal S8192x256 .bf16) : FVec Ideal S8192x2304 .f32 :=
  concatenate S8192x2304 1 [⟨S8192x2048, extf .f32 a bitsLt_bf16_f32⟩, ⟨S8192x256, extf .f32 m bitsLt_bf16_f32⟩] concatenates_S8192x2048_S8192x256_S8192x2304_d1

/-- The residual stream after the output projection. -/
def out (a : FVec Ideal S8192x2048 .bf16) (m : FVec Ideal S8192x256 .bf16) (x : FVec Ideal S8192x2048 .f32) (w : FVec Ideal S1x2304x2048 .f32) : FVec Ideal S8192x2048 .f32 :=
  addf x (Host.dotGeneral dot_S8192x2304_S2304x2048_S8192x2048_1_0_0_1_n_n none (cat a m) (shapeCast _ w shapeCasts_S1x2304x2048_S2304x2048))

theorem out_apply (a : FVec Ideal S8192x2048 .bf16) (m : FVec Ideal S8192x256 .bf16) (x : FVec Ideal S8192x2048 .f32) (w : FVec Ideal S1x2304x2048 .f32) (R : Fin 8192) (d : Fin 2048) :
    out a m x w (ix2 R d) = mix2 (x (ix2 R d)) (fun k => a (ix2 R k)) (fun k => m (ix2 R k)) (fun k => w (ix3 0 k d)) := by
  have hd := dot2_apply _ dot_S8192x2304_S2304x2048_S8192x2048_1_0_0_1_n_n_wf rfl (cat a m) (shapeCast S2304x2048 w shapeCasts_S1x2304x2048_S2304x2048) R d
  refine (congrArg (fun s : EReal => (x (ix2 R d) : EReal) + s) hd).trans ?_
  refine (congrArg (fun s : EReal => (x (ix2 R d) : EReal) + s) (Finset.sum_congr rfl fun k _ => congrArg (fun t : EReal => (cat a m (ix2 R k) : EReal) * t) (lone_apply w _ k d))).trans ?_
  refine mix2_eq _ _ _ (fun k => w (ix3 0 k d)) (fun k => cat a m (ix2 R k)) (fun k => ?_) (fun k => ?_)
  · exact piece2 _ _ 0 (by simp) _ rfl 0 rfl R _ k (Nat.zero_add _)
  · exact piece2 _ _ 1 (by simp) _ rfl 2048 rfl R _ k rfl

/-- The layer's result: the normed rows, by token. -/
def fin (a : FVec Ideal S8192x2048 .bf16) (m : FVec Ideal S8192x256 .bf16) (x : FVec Ideal S8192x2048 .f32) (w : FVec Ideal S1x2304x2048 .f32) (g : FVec Ideal S2048 .f32) : FVec Ideal S2x4096x2048 .f32 :=
  shapeCast S2x4096x2048 (nrm (out a m x w) g) shapeCasts_S8192x2048_S2x4096x2048

theorem fin_apply (a : FVec Ideal S8192x2048 .bf16) (m : FVec Ideal S8192x256 .bf16) (x : FVec Ideal S8192x2048 .f32) (w : FVec Ideal S1x2304x2048 .f32) (g : FVec Ideal S2048 .f32) (b : Fin 2) (t : Fin 4096) (d : Fin 2048) :
    fin a m x w g (ix3 b t d) = rms cols small (fun d => mix2 (x (ix2 (tok b t) d)) (fun k => a (ix2 (tok b t) k)) (fun k => m (ix2 (tok b t) k)) (fun k => w (ix3 0 k d))) (fun d => g (ix1 d)) d := by
  refine (shapeCast_apply _ _ (ix3 b t d) (ix2 (tok b t) d) (by rw [Shape.rowMajor_val_two, Shape.rowMajor_val_three]; show (4096 * b.val + t.val) * 2048 + d.val = (b.val * 4096 + t.val) * 2048 + d.val; omega)).trans ?_
  refine (nrm_apply _ g (tok b t) d).trans ?_
  exact congrArg (fun x => rms cols small x (fun d => g (ix1 d)) d) (funext fun d => out_apply a m x w (tok b t) d)

variable (m : (ℓ : Loc nD τ sig) → Buf (Elt Ideal) ℓ) (ρ : Dev nD → PrngReg)

/-- Every execution of the reference ends with the layer's result and the arguments kept. -/
theorem run : θ_run defs (onTc (τ := τ) (main (F := Ideal))) ⟨m, fun _ => 0, ρ⟩ fun r => ∀ c : Dev nD,
    r.2.mem ((c.tc : Thread nD τ).loc main_v19) = fin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  Cert.Reference4Ideal.Value.run m ρ

end Cert.Reference4Ideal.Linear
-- ==== Proof.Final.lean ====
module

public import proofs.«01_k».proof.Proof.Linear
public import proofs.«01_k».proof.Proof.FinalVal
public import proofs.«01_k».proof.Proof.FinalRef
public import proofs.«01_k».proof.Defs

@[expose] public section

set_option maxRecDepth 16384

noncomputable section

open Idealize.ShloMosaic Idealize.ShloMosaic.TcCoe Idealize.SL.Sem

namespace Cert.Final
open Cert.Linear

/-- The last layer's output projection and the final norm: the kernel and the reference end with the same result. -/
theorem result : algebraic_Kernel4Ideal_Reference4Ideal (hKernel4Ideal := Cert.Kernel4Ideal.Gen.facts)
    (hReference4Ideal := Cert.Reference4Ideal.Gen.facts) := by
  intro m g m' g' _ hargs
  refine ⟨fun c => Kernel4Ideal.Linear.fin m c, (θ_run Cert.Kernel4Ideal.defs _ _).mono (fun r h c => h c) (Kernel4Ideal.Linear.run m g),
    (θ_run Cert.Reference4Ideal.defs _ _).mono (fun r h c => ?_) (Reference4Ideal.Linear.run m' g')⟩
  obtain ⟨e0, e1, e2, e3, e4⟩ := hargs c
  obtain ⟨h0, hk⟩ := h c
  refine ⟨h0.trans ?_, hk⟩
  rw [e0, e1, e2, e3, e4]
  funext i
  rw [eq_ix3 i]
  exact (Reference4Ideal.Linear.fin_apply _ _ _ _ _ (i 0) (i 1) (i 2)).trans (Kernel4Ideal.Linear.fin_apply m c (i 0) (i 1) (i 2)).symm

end Cert.Final
-- ==== Proof.MemHost.lean ====
module

public import proofs.«01_k».proof.Proof.Mix

@[expose] public section

set_option maxRecDepth 16384

noncomputable section

open Idealize.ShloMosaic Idealize.ShloMosaic.TcCoe Idealize.SL.Sem

namespace Cert.Linear

/-- The row of the flattened memory that a slot takes. -/
def slot (b : Fin 2) (t : Fin 256) : Fin 512 := ⟨256 * b.val + t.val, by omega⟩

theorem slot_surj (R : Fin 512) : ∃ b t, R = slot b t :=
  ⟨⟨R.val / 256, by omega⟩, ⟨R.val % 256, by omega⟩, Fin.ext (by show R.val = 256 * (R.val / 256) + R.val % 256; omega)⟩

/-- One of a batch of matrices, kept alone in a batch. -/
theorem plane_apply {B T N : ℕ} {α : Type} (z : (⟨3, ![B, T, N]⟩ : Shape).Idx → α) (o : ℕ) (h : (⟨3, ![B, T, N]⟩ : Shape).Slices ![o, 0, 0] ⟨3, ![1, T, N]⟩)
    (t : Fin T) (l : Fin N) (L : Fin B) (e : o = L.val) : extractStridedSlice ⟨3, ![1, T, N]⟩ ![o, 0, 0] z h (ix3 0 t l) = z (ix3 L t l) := by
  refine congrArg z (funext fun a => Fin.ext ?_)
  match a with
  | ⟨0, _⟩ => exact (Nat.add_zero _).trans e
  | ⟨1, _⟩ => exact Nat.zero_add _
  | ⟨2, _⟩ => exact Nat.zero_add _

/-- One layer's keys or values, split into heads and put alone in a batch. -/
theorem heads1_apply (x : FVec Ideal ⟨3, ![2, 256, 256]⟩ .f32) (h1 : (⟨3, ![2, 256, 256]⟩ : Shape).ShapeCasts ⟨4, ![2, 256, 4, 64]⟩)
    (h2 : (⟨4, ![2, 256, 4, 64]⟩ : Shape).BroadcastsInDim ⟨5, ![1, 2, 256, 4, 64]⟩ ![1, 2, 3, 4]) (b : Fin 2) (t : Fin 256) (h : Fin 4) (d : Fin 64) :
    broadcastInDim ⟨5, ![1, 2, 256, 4, 64]⟩ ![1, 2, 3, 4] h2 (shapeCast ⟨4, ![2, 256, 4, 64]⟩ x h1) (ix5 0 b t h d) = x (ix3 b t ⟨64 * h.val + d.val, by omega⟩) := by
  have e := shapeCast_apply x h1 (ix4 b t h d) (ix3 b t ⟨64 * h.val + d.val, by omega⟩)
    (by rw [Shape.rowMajor_val_three, Shape.rowMajor_val_four]; show (b.val * 256 + t.val) * 256 + (64 * h.val + d.val) = ((b.val * 256 + t.val) * 4 + h.val) * 64 + d.val; omega)
  rw [← e]
  generalize shapeCast ⟨4, ![2, 256, 4, 64]⟩ x h1 = u
  pointwise

/-- Both layers' keys or values, one after the other. -/
theorem stack_apply (x y : FVec Ideal ⟨5, ![1, 2, 256, 4, 64]⟩ .f32) (h : Shape.Concatenates [⟨5, ![1, 2, 256, 4, 64]⟩, ⟨5, ![1, 2, 256, 4, 64]⟩] ⟨5, ![2, 2, 256, 4, 64]⟩ 0)
    (f : Fin 2 → EReal) (L : Fin 2) (b : Fin 2) (t : Fin 256) (k : Fin 4) (d : Fin 64) (h0 : x (ix5 0 b t k d) = f 0) (h1 : y (ix5 0 b t k d) = f 1) :
    concatenate ⟨5, ![2, 2, 256, 4, 64]⟩ 0 [⟨⟨5, ![1, 2, 256, 4, 64]⟩, x⟩, ⟨⟨5, ![1, 2, 256, 4, 64]⟩, y⟩] h (ix5 L b t k d) = f L := by
  match L with
  | 0 =>
    exact (concatenate_apply_piece 0 [⟨⟨5, ![1, 2, 256, 4, 64]⟩, x⟩, ⟨⟨5, ![1, 2, 256, 4, 64]⟩, y⟩] h (ix5 0 b t k d) 0 (by simp) _ x rfl rfl 0 rfl (ix5 0 b t k d)
      (fun a => match a with | 0 => fun ha => absurd rfl ha | 1 => fun _ => rfl | 2 => fun _ => rfl | 3 => fun _ => rfl | 4 => fun _ => rfl) rfl).trans h0
  | 1 =>
    exact (concatenate_apply_piece 0 [⟨⟨5, ![1, 2, 256, 4, 64]⟩, x⟩, ⟨⟨5, ![1, 2, 256, 4, 64]⟩, y⟩] h (ix5 1 b t k d) 1 (by simp) _ y rfl rfl 1 rfl (ix5 0 b t k d)
      (fun a => match a with | 0 => fun ha => absurd rfl ha | 1 => fun _ => rfl | 2 => fun _ => rfl | 3 => fun _ => rfl | 4 => fun _ => rfl) rfl).trans h1

end Cert.Linear
-- ==== Proof.MemRegions.lean ====
module

public import proofs.«01_k».proof.Proof.Linear
public import proofs.«01_k».proof.Proof.Gen.Kernel5Ideal
public import proofs.«01_k».proof.Proof.Gen.Kernel5Ideal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.Kernel5Ideal.Linear
open Cert.Kernel5Ideal.Gen Cert.Linear

theorem z2 : (![0, 0] : Fin 2 → ℕ) = fun _ => 0 := funext fun a => match a with | 0 => rfl | 1 => rfl

variable (V : (c : Dev nD) → (b : Ref sig .tc) → Buf (Elt Ideal) ((c : Thread nD τ).loc b))

/-- The block window 0 of region 0 takes at a grid point. -/
theorem index0_0 : ∀ t : Fin cfg0.N, win0_0.index t (0 : Fin 2) = t.val ∧ win0_0.index t (1 : Fin 2) = 0 :=
  (by decide +kernel : ∀ t : Fin grid0.N, _)

/-- The block window 1 of region 0 takes at a grid point. -/
theorem index0_1 : ∀ t : Fin cfg0.N, win0_1.index t (0 : Fin 2) = 0 ∧ win0_1.index t (1 : Fin 2) = 0 :=
  (by decide +kernel : ∀ t : Fin grid0.N, _)

/-- The block window 2 of region 0 takes at a grid point. -/
theorem index0_2 : ∀ t : Fin cfg0.N, win0_2.index t (0 : Fin 2) = t.val ∧ win0_2.index t (1 : Fin 2) = 0 :=
  (by decide +kernel : ∀ t : Fin grid0.N, _)

theorem N_le0 (t : Fin cfg0.N) : t.val < 1 := lt_of_lt_of_eq t.isLt (show cfg0.N = 1 from N_0)

/-- The block stored at a grid point is the norm of the rows loaded there. -/
theorem pay0_apply (x : FVec Ideal S512x2048 .f32) (g : FVec Ideal S1x2048 .f32) (r : Fin 512) (l : Fin 2048) :
    (k0_pay1 (F := Ideal) x g : S512x2048.Idx → EReal) (ix2 r l) = rms (Ideal.ofBits .f32 0x45000000#32) (Ideal.ofBits .f32 0x358637BD#32)
      (fun d => (x (ix2 r d) : EReal)) (fun d => (g (ix2 0 d) : EReal)) l := by
  unfold k0_pay1 rms
  simp only [shapeCast_self]
  pointwise
  exact congrArg (fun s : EReal => (x (ix2 r l) : EReal) * Ideal.rsqrt (Ideal.div s (Ideal.ofBits .f32 0x45000000#32)
    + Ideal.ofBits .f32 0x358637BD#32) * (g (ix2 0 l) : EReal)) (colSum (mulf x x) r _ _ _ _)

/-- An element of window 0's block in region 0. -/
theorem blk0_0 (c : Dev nD) (t : Fin cfg0.N) (r : Fin 512) (l : Fin 2048) (R : Fin 512) (L : Fin 2048)
    (hR : R.val = 512 * t.val + r.val) (hL : L.val = l.val) : iblk0 V c 0 t (ix2 r l) = V c main_v0 (ix2 R L) := by
  obtain ⟨e0, e1⟩ := index0_0 t
  refine congrArg (V c main_v0) (funext fun a => Fin.ext ?_)
  match a with
  | 0 => show win0_0.index t (0 : Fin 2) * 512 + 1 * r.val = R.val; omega
  | 1 => show win0_0.index t (1 : Fin 2) * 2048 + 1 * l.val = L.val; omega

/-- An element of window 1's block in region 0. -/
theorem blk0_1 (c : Dev nD) (t : Fin cfg0.N) (r : Fin 1) (l : Fin 2048) (R : Fin 1) (L : Fin 2048)
    (hR : R.val = r.val) (hL : L.val = l.val) : iblk0 V c 1 t (ix2 r l) = V c main_v3 (ix2 R L) := by
  obtain ⟨e0, e1⟩ := index0_1 t
  refine congrArg (V c main_v3) (funext fun a => Fin.ext ?_)
  match a with
  | 0 => show win0_1.index t (0 : Fin 2) * 1 + 1 * r.val = R.val; omega
  | 1 => show win0_1.index t (1 : Fin 2) * 2048 + 1 * l.val = L.val; omega

/-- What a grid point writes back is its block of the normed rows. -/
theorem flushed0 (c : Dev nD) (t : Fin cfg0.N) : (dat0 V c).flushed 2 t
    = ((cfg0.win 2).blk t).view.read (Elt Ideal) (normed (V c main_v0 : S512x2048.Idx → EReal) fun d => (V c main_v3 : S1x2048.Idx → EReal) (ix2 0 d)) := by
  obtain ⟨e0, e1⟩ := index0_2 t
  have ht := N_le0 t
  show (cfg0.win 2).cut (grid0.coords t) ((dat0 V c).after 2 t) = _
  rw [after0_2]
  unfold out0_2
  rw [View.canon_unit_zero (S := S512x2048) z2, View.ld_unit_zero (S := S512x2048) z2, View.ld_unit_zero (S := S1x2048) z2]
  funext y
  obtain ⟨r, l, rfl⟩ : ∃ (r : Fin 512) (l : Fin 2048), y = ix2 r l := ⟨y 0, y 1, eq_ix2 y⟩
  have hr := r.isLt
  let R : Fin 512 := ⟨512 * t.val + r.val, by omega⟩
  have hemb : ((cfg0.win 2).blk t).view.emb (ix2 r l) = (ix2 R l : S512x2048.Idx) := by
    refine funext fun a => Fin.ext ?_
    match a with
    | 0 => show win0_2.index t (0 : Fin 2) * 512 + 1 * r.val = R.val; simp only [R]; omega
    | 1 => show win0_2.index t (1 : Fin 2) * 2048 + 1 * l.val = l.val; omega
  refine (pay0_apply _ _ r l).trans (Eq.trans ?_ (congrArg (normed (V c main_v0 : S512x2048.Idx → EReal) fun d => (V c main_v3 : S1x2048.Idx → EReal) (ix2 0 d)) hemb).symm)
  have e : (fun d : Fin 2048 => (iblk0 V c 0 t (ix2 r d) : EReal)) = fun d => V c main_v0 (ix2 R d) :=
    funext fun d => blk0_0 V c t r d R d (by simp only [R]) (by omega)
  have e' : (fun d : Fin 2048 => (iblk0 V c 1 t (ix2 0 d) : EReal)) = fun d => V c main_v3 (ix2 0 d) :=
    funext fun d => blk0_1 V c t 0 d 0 d (by omega) (by omega)
  unfold normed
  rw [e, e']
  rfl

/-- Every entry of the array lies in a block that some grid point writes back. -/
theorem covered0_2 (i : S512x2048.Idx) :
    ∃ t : Fin cfg0.N, (cfg0.win 2).flush t = true ∧ i ∈ ((cfg0.win 2).blk t).view.set := by
  have h0 : (i 0).val < 512 := (i 0).isLt
  have h1 : (i 1).val < 2048 := (i 1).isLt
  let t : Fin cfg0.N := ⟨(i 0).val / 512, lt_of_lt_of_eq (b := 1) (by omega) (show 1 = cfg0.N from N_0.symm)⟩
  obtain ⟨e0, e1⟩ := index0_2 t
  have tv : t.val = (i 0).val / 512 := rfl
  refine ⟨t, flush0_2 t, ?_⟩
  have hm := ((cfg0.win 2).blk t).view.emb_mem_set (ix2 ⟨(i 0).val % 512, by omega⟩ ⟨(i 1).val % 2048, by omega⟩)
  have he : ((cfg0.win 2).blk t).view.emb (ix2 ⟨(i 0).val % 512, by omega⟩ ⟨(i 1).val % 2048, by omega⟩) = i := by
    refine funext fun a => Fin.ext ?_
    match a with
    | 0 => show win0_2.index t (0 : Fin 2) * 512 + 1 * ((i 0).val % 512) = (i 0).val; omega
    | 1 => show win0_2.index t (1 : Fin 2) * 2048 + 1 * ((i 1).val % 2048) = (i 1).val; omega
  rwa [he] at hm

/-- Region 0 leaves the normed rows. -/
theorem final0 (c : Dev nD) : (dat0 V c).arrAt 2 cfg0.N = (normed (V c main_v0 : S512x2048.Idx → EReal) fun d => (V c main_v3 : S1x2048.Idx → EReal) (ix2 0 d)) :=
  (dat0 V c).arrAt_eq_of_cover 2 _ (fun t _ => flushed0 V c t) covered0_2

/-- The block window 0 of region 1 takes at a grid point. -/
theorem index1_0 : ∀ t : Fin cfg1.N, win1_0.index t (0 : Fin 2) = t.val ∧ win1_0.index t (1 : Fin 2) = 0 :=
  (by decide +kernel : ∀ t : Fin grid1.N, _)

/-- The block window 1 of region 1 takes at a grid point. -/
theorem index1_1 : ∀ t : Fin cfg1.N, win1_1.index t (0 : Fin 2) = 0 ∧ win1_1.index t (1 : Fin 2) = 0 :=
  (by decide +kernel : ∀ t : Fin grid1.N, _)

/-- The block window 2 of region 1 takes at a grid point. -/
theorem index1_2 : ∀ t : Fin cfg1.N, win1_2.index t (0 : Fin 2) = t.val ∧ win1_2.index t (1 : Fin 2) = 0 :=
  (by decide +kernel : ∀ t : Fin grid1.N, _)

theorem N_le1 (t : Fin cfg1.N) : t.val < 1 := lt_of_lt_of_eq t.isLt (show cfg1.N = 1 from N_1)

/-- The product's dimensions are the plain ones. -/
theorem dims1 : dot_S512x2048_S2048x512_S512x512_1_0_0_1_n_n = DotDims.plain 512 2048 512 := rfl

/-- The block stored at a grid point is the product of the two blocks loaded there. -/
theorem pay1_apply (x : FVec Ideal S512x2048 .bf16) (w : FVec Ideal S2048x512 .bf16) (r : Fin 512) (l : Fin 512) :
    (k1_pay1 (F := Ideal) x w : S512x512.Idx → EReal) (ix2 r l) = ∑ k : Fin 2048, (x (ix2 r k) : EReal) * (w (ix2 k l) : EReal) := by
  unfold k1_pay1
  rw [dims1]
  simp only [shapeCast_self]
  pointwise [Ideal.matmul_plain_apply]

/-- An element of window 0's block in region 1. -/
theorem blk1_0 (c : Dev nD) (t : Fin cfg1.N) (r : Fin 512) (l : Fin 2048) (R : Fin 512) (L : Fin 2048)
    (hR : R.val = 512 * (t.val) + r.val) (hL : L.val = l.val) : iblk1 V c 0 t (ix2 r l) = V c main_v4 (ix2 R L) := by
  obtain ⟨e0, e1⟩ := index1_0 t
  refine congrArg (V c main_v4) (funext fun a => Fin.ext ?_)
  match a with
  | 0 => show win1_0.index t (0 : Fin 2) * 512 + 1 * r.val = R.val; omega
  | 1 => show win1_0.index t (1 : Fin 2) * 2048 + 1 * l.val = L.val; omega

/-- An element of window 1's block in region 1. -/
theorem blk1_1 (c : Dev nD) (t : Fin cfg1.N) (r : Fin 2048) (l : Fin 512) (R : Fin 2048) (L : Fin 512)
    (hR : R.val = r.val) (hL : L.val = l.val) : iblk1 V c 1 t (ix2 r l) = V c main_v10 (ix2 R L) := by
  obtain ⟨e0, e1⟩ := index1_1 t
  refine congrArg (V c main_v10) (funext fun a => Fin.ext ?_)
  match a with
  | 0 => show win1_1.index t (0 : Fin 2) * 2048 + 1 * r.val = R.val; omega
  | 1 => show win1_1.index t (1 : Fin 2) * 512 + 1 * l.val = L.val; omega

/-- What a grid point writes back is its block of the whole product. -/
theorem flushed1 (c : Dev nD) (t : Fin cfg1.N) : (dat1 V c).flushed 2 t
    = ((cfg1.win 2).blk t).view.read (Elt Ideal) (prod (V c main_v4 : S512x2048.Idx → EReal) (V c main_v10 : S2048x512.Idx → EReal)) := by
  obtain ⟨e0, e1⟩ := index1_2 t
  have ht := N_le1 t
  show (cfg1.win 2).cut (grid1.coords t) ((dat1 V c).after 2 t) = _
  rw [after1_2]
  unfold out1_2
  rw [View.canon_unit_zero (S := S512x512) z2, View.ld_unit_zero (S := S512x2048) z2, View.ld_unit_zero (S := S2048x512) z2]
  funext y
  obtain ⟨r, l, rfl⟩ : ∃ (r : Fin 512) (l : Fin 512), y = ix2 r l := ⟨y 0, y 1, eq_ix2 y⟩
  have hr := r.isLt
  have hl := l.isLt
  let R : Fin 512 := ⟨512 * (t.val) + r.val, by omega⟩
  let L : Fin 512 := ⟨l.val, by omega⟩
  have hemb : ((cfg1.win 2).blk t).view.emb (ix2 r l) = (ix2 R L : S512x512.Idx) := by
    refine funext fun a => Fin.ext ?_
    match a with
    | 0 => show win1_2.index t (0 : Fin 2) * 512 + 1 * r.val = R.val; simp only [R]; omega
    | 1 => show win1_2.index t (1 : Fin 2) * 512 + 1 * l.val = L.val; simp only [L]; omega
  refine (pay1_apply _ _ r l).trans ((Finset.sum_congr rfl fun k _ => ?_).trans (congrArg (prod (V c main_v4 : S512x2048.Idx → EReal) (V c main_v10 : S2048x512.Idx → EReal)) hemb).symm)
  rw [blk1_0 V c t r k R k (by simp only [R]) (by omega), blk1_1 V c t k l k L (by omega) (by simp only [L])]
  rfl

/-- Every entry of the array lies in a block that some grid point writes back. -/
theorem covered1_2 (i : S512x512.Idx) :
    ∃ t : Fin cfg1.N, (cfg1.win 2).flush t = true ∧ i ∈ ((cfg1.win 2).blk t).view.set := by
  have h0 : (i 0).val < 512 := (i 0).isLt
  have h1 : (i 1).val < 512 := (i 1).isLt
  let t : Fin cfg1.N := ⟨(i 0).val / 512, lt_of_lt_of_eq (b := 1) (by omega) (show 1 = cfg1.N from N_1.symm)⟩
  obtain ⟨e0, e1⟩ := index1_2 t
  have tv : t.val = (i 0).val / 512 := rfl
  refine ⟨t, flush1_2 t, ?_⟩
  have hm := ((cfg1.win 2).blk t).view.emb_mem_set (ix2 ⟨(i 0).val % 512, by omega⟩ ⟨(i 1).val % 512, by omega⟩)
  have he : ((cfg1.win 2).blk t).view.emb (ix2 ⟨(i 0).val % 512, by omega⟩ ⟨(i 1).val % 512, by omega⟩) = i := by
    refine funext fun a => Fin.ext ?_
    match a with
    | 0 => show win1_2.index t (0 : Fin 2) * 512 + 1 * ((i 0).val % 512) = (i 0).val; omega
    | 1 => show win1_2.index t (1 : Fin 2) * 512 + 1 * ((i 1).val % 512) = (i 1).val; omega
  rwa [he] at hm

/-- Region 1 leaves the product of its two matrices. -/
theorem final1 (c : Dev nD) : (dat1 V c).arrAt 2 cfg1.N = prod (V c main_v4 : S512x2048.Idx → EReal) (V c main_v10 : S2048x512.Idx → EReal) :=
  (dat1 V c).arrAt_eq_of_cover 2 _ (fun t _ => flushed1 V c t) covered1_2

/-- The block window 0 of region 2 takes at a grid point. -/
theorem index2_0 : ∀ t : Fin cfg2.N, win2_0.index t (0 : Fin 2) = t.val ∧ win2_0.index t (1 : Fin 2) = 0 :=
  (by decide +kernel : ∀ t : Fin grid2.N, _)

/-- The block window 1 of region 2 takes at a grid point. -/
theorem index2_1 : ∀ t : Fin cfg2.N, win2_1.index t (0 : Fin 2) = 0 ∧ win2_1.index t (1 : Fin 2) = 0 :=
  (by decide +kernel : ∀ t : Fin grid2.N, _)

/-- The block window 2 of region 2 takes at a grid point. -/
theorem index2_2 : ∀ t : Fin cfg2.N, win2_2.index t (0 : Fin 2) = t.val ∧ win2_2.index t (1 : Fin 2) = 0 :=
  (by decide +kernel : ∀ t : Fin grid2.N, _)

theorem N_le2 (t : Fin cfg2.N) : t.val < 1 := lt_of_lt_of_eq t.isLt (show cfg2.N = 1 from N_2)

/-- The block stored at a grid point is the norm of the rows loaded there. -/
theorem pay2_apply (x : FVec Ideal S512x2048 .f32) (g : FVec Ideal S1x2048 .f32) (r : Fin 512) (l : Fin 2048) :
    (k2_pay1 (F := Ideal) x g : S512x2048.Idx → EReal) (ix2 r l) = rms (Ideal.ofBits .f32 0x45000000#32) (Ideal.ofBits .f32 0x358637BD#32)
      (fun d => (x (ix2 r d) : EReal)) (fun d => (g (ix2 0 d) : EReal)) l := by
  unfold k2_pay1 rms
  simp only [shapeCast_self]
  pointwise
  exact congrArg (fun s : EReal => (x (ix2 r l) : EReal) * Ideal.rsqrt (Ideal.div s (Ideal.ofBits .f32 0x45000000#32)
    + Ideal.ofBits .f32 0x358637BD#32) * (g (ix2 0 l) : EReal)) (colSum (mulf x x) r _ _ _ _)

/-- An element of window 0's block in region 2. -/
theorem blk2_0 (c : Dev nD) (t : Fin cfg2.N) (r : Fin 512) (l : Fin 2048) (R : Fin 512) (L : Fin 2048)
    (hR : R.val = 512 * t.val + r.val) (hL : L.val = l.val) : iblk2 V c 0 t (ix2 r l) = V c main_v16 (ix2 R L) := by
  obtain ⟨e0, e1⟩ := index2_0 t
  refine congrArg (V c main_v16) (funext fun a => Fin.ext ?_)
  match a with
  | 0 => show win2_0.index t (0 : Fin 2) * 512 + 1 * r.val = R.val; omega
  | 1 => show win2_0.index t (1 : Fin 2) * 2048 + 1 * l.val = L.val; omega

/-- An element of window 1's block in region 2. -/
theorem blk2_1 (c : Dev nD) (t : Fin cfg2.N) (r : Fin 1) (l : Fin 2048) (R : Fin 1) (L : Fin 2048)
    (hR : R.val = r.val) (hL : L.val = l.val) : iblk2 V c 1 t (ix2 r l) = V c main_v19 (ix2 R L) := by
  obtain ⟨e0, e1⟩ := index2_1 t
  refine congrArg (V c main_v19) (funext fun a => Fin.ext ?_)
  match a with
  | 0 => show win2_1.index t (0 : Fin 2) * 1 + 1 * r.val = R.val; omega
  | 1 => show win2_1.index t (1 : Fin 2) * 2048 + 1 * l.val = L.val; omega

/-- What a grid point writes back is its block of the normed rows. -/
theorem flushed2 (c : Dev nD) (t : Fin cfg2.N) : (dat2 V c).flushed 2 t
    = ((cfg2.win 2).blk t).view.read (Elt Ideal) (normed (V c main_v16 : S512x2048.Idx → EReal) fun d => (V c main_v19 : S1x2048.Idx → EReal) (ix2 0 d)) := by
  obtain ⟨e0, e1⟩ := index2_2 t
  have ht := N_le2 t
  show (cfg2.win 2).cut (grid2.coords t) ((dat2 V c).after 2 t) = _
  rw [after2_2]
  unfold out2_2
  rw [View.canon_unit_zero (S := S512x2048) z2, View.ld_unit_zero (S := S512x2048) z2, View.ld_unit_zero (S := S1x2048) z2]
  funext y
  obtain ⟨r, l, rfl⟩ : ∃ (r : Fin 512) (l : Fin 2048), y = ix2 r l := ⟨y 0, y 1, eq_ix2 y⟩
  have hr := r.isLt
  let R : Fin 512 := ⟨512 * t.val + r.val, by omega⟩
  have hemb : ((cfg2.win 2).blk t).view.emb (ix2 r l) = (ix2 R l : S512x2048.Idx) := by
    refine funext fun a => Fin.ext ?_
    match a with
    | 0 => show win2_2.index t (0 : Fin 2) * 512 + 1 * r.val = R.val; simp only [R]; omega
    | 1 => show win2_2.index t (1 : Fin 2) * 2048 + 1 * l.val = l.val; omega
  refine (pay2_apply _ _ r l).trans (Eq.trans ?_ (congrArg (normed (V c main_v16 : S512x2048.Idx → EReal) fun d => (V c main_v19 : S1x2048.Idx → EReal) (ix2 0 d)) hemb).symm)
  have e : (fun d : Fin 2048 => (iblk2 V c 0 t (ix2 r d) : EReal)) = fun d => V c main_v16 (ix2 R d) :=
    funext fun d => blk2_0 V c t r d R d (by simp only [R]) (by omega)
  have e' : (fun d : Fin 2048 => (iblk2 V c 1 t (ix2 0 d) : EReal)) = fun d => V c main_v19 (ix2 0 d) :=
    funext fun d => blk2_1 V c t 0 d 0 d (by omega) (by omega)
  unfold normed
  rw [e, e']
  rfl

/-- Every entry of the array lies in a block that some grid point writes back. -/
theorem covered2_2 (i : S512x2048.Idx) :
    ∃ t : Fin cfg2.N, (cfg2.win 2).flush t = true ∧ i ∈ ((cfg2.win 2).blk t).view.set := by
  have h0 : (i 0).val < 512 := (i 0).isLt
  have h1 : (i 1).val < 2048 := (i 1).isLt
  let t : Fin cfg2.N := ⟨(i 0).val / 512, lt_of_lt_of_eq (b := 1) (by omega) (show 1 = cfg2.N from N_2.symm)⟩
  obtain ⟨e0, e1⟩ := index2_2 t
  have tv : t.val = (i 0).val / 512 := rfl
  refine ⟨t, flush2_2 t, ?_⟩
  have hm := ((cfg2.win 2).blk t).view.emb_mem_set (ix2 ⟨(i 0).val % 512, by omega⟩ ⟨(i 1).val % 2048, by omega⟩)
  have he : ((cfg2.win 2).blk t).view.emb (ix2 ⟨(i 0).val % 512, by omega⟩ ⟨(i 1).val % 2048, by omega⟩) = i := by
    refine funext fun a => Fin.ext ?_
    match a with
    | 0 => show win2_2.index t (0 : Fin 2) * 512 + 1 * ((i 0).val % 512) = (i 0).val; omega
    | 1 => show win2_2.index t (1 : Fin 2) * 2048 + 1 * ((i 1).val % 2048) = (i 1).val; omega
  rwa [he] at hm

/-- Region 2 leaves the normed rows. -/
theorem final2 (c : Dev nD) : (dat2 V c).arrAt 2 cfg2.N = (normed (V c main_v16 : S512x2048.Idx → EReal) fun d => (V c main_v19 : S1x2048.Idx → EReal) (ix2 0 d)) :=
  (dat2 V c).arrAt_eq_of_cover 2 _ (fun t _ => flushed2 V c t) covered2_2

/-- The block window 0 of region 3 takes at a grid point. -/
theorem index3_0 : ∀ t : Fin cfg3.N, win3_0.index t (0 : Fin 2) = t.val ∧ win3_0.index t (1 : Fin 2) = 0 :=
  (by decide +kernel : ∀ t : Fin grid3.N, _)

/-- The block window 1 of region 3 takes at a grid point. -/
theorem index3_1 : ∀ t : Fin cfg3.N, win3_1.index t (0 : Fin 2) = 0 ∧ win3_1.index t (1 : Fin 2) = 0 :=
  (by decide +kernel : ∀ t : Fin grid3.N, _)

/-- The block window 2 of region 3 takes at a grid point. -/
theorem index3_2 : ∀ t : Fin cfg3.N, win3_2.index t (0 : Fin 2) = t.val ∧ win3_2.index t (1 : Fin 2) = 0 :=
  (by decide +kernel : ∀ t : Fin grid3.N, _)

theorem N_le3 (t : Fin cfg3.N) : t.val < 1 := lt_of_lt_of_eq t.isLt (show cfg3.N = 1 from N_3)

/-- The product's dimensions are the plain ones. -/
theorem dims3 : dot_S512x2048_S2048x512_S512x512_1_0_0_1_n_n = DotDims.plain 512 2048 512 := rfl

/-- The block stored at a grid point is the product of the two blocks loaded there. -/
theorem pay3_apply (x : FVec Ideal S512x2048 .bf16) (w : FVec Ideal S2048x512 .bf16) (r : Fin 512) (l : Fin 512) :
    (k3_pay1 (F := Ideal) x w : S512x512.Idx → EReal) (ix2 r l) = ∑ k : Fin 2048, (x (ix2 r k) : EReal) * (w (ix2 k l) : EReal) := by
  unfold k3_pay1
  rw [dims3]
  simp only [shapeCast_self]
  pointwise [Ideal.matmul_plain_apply]

/-- An element of window 0's block in region 3. -/
theorem blk3_0 (c : Dev nD) (t : Fin cfg3.N) (r : Fin 512) (l : Fin 2048) (R : Fin 512) (L : Fin 2048)
    (hR : R.val = 512 * (t.val) + r.val) (hL : L.val = l.val) : iblk3 V c 0 t (ix2 r l) = V c main_v20 (ix2 R L) := by
  obtain ⟨e0, e1⟩ := index3_0 t
  refine congrArg (V c main_v20) (funext fun a => Fin.ext ?_)
  match a with
  | 0 => show win3_0.index t (0 : Fin 2) * 512 + 1 * r.val = R.val; omega
  | 1 => show win3_0.index t (1 : Fin 2) * 2048 + 1 * l.val = L.val; omega

/-- An element of window 1's block in region 3. -/
theorem blk3_1 (c : Dev nD) (t : Fin cfg3.N) (r : Fin 2048) (l : Fin 512) (R : Fin 2048) (L : Fin 512)
    (hR : R.val = r.val) (hL : L.val = l.val) : iblk3 V c 1 t (ix2 r l) = V c main_v26 (ix2 R L) := by
  obtain ⟨e0, e1⟩ := index3_1 t
  refine congrArg (V c main_v26) (funext fun a => Fin.ext ?_)
  match a with
  | 0 => show win3_1.index t (0 : Fin 2) * 2048 + 1 * r.val = R.val; omega
  | 1 => show win3_1.index t (1 : Fin 2) * 512 + 1 * l.val = L.val; omega

/-- What a grid point writes back is its block of the whole product. -/
theorem flushed3 (c : Dev nD) (t : Fin cfg3.N) : (dat3 V c).flushed 2 t
    = ((cfg3.win 2).blk t).view.read (Elt Ideal) (prod (V c main_v20 : S512x2048.Idx → EReal) (V c main_v26 : S2048x512.Idx → EReal)) := by
  obtain ⟨e0, e1⟩ := index3_2 t
  have ht := N_le3 t
  show (cfg3.win 2).cut (grid3.coords t) ((dat3 V c).after 2 t) = _
  rw [after3_2]
  unfold out3_2
  rw [View.canon_unit_zero (S := S512x512) z2, View.ld_unit_zero (S := S512x2048) z2, View.ld_unit_zero (S := S2048x512) z2]
  funext y
  obtain ⟨r, l, rfl⟩ : ∃ (r : Fin 512) (l : Fin 512), y = ix2 r l := ⟨y 0, y 1, eq_ix2 y⟩
  have hr := r.isLt
  have hl := l.isLt
  let R : Fin 512 := ⟨512 * (t.val) + r.val, by omega⟩
  let L : Fin 512 := ⟨l.val, by omega⟩
  have hemb : ((cfg3.win 2).blk t).view.emb (ix2 r l) = (ix2 R L : S512x512.Idx) := by
    refine funext fun a => Fin.ext ?_
    match a with
    | 0 => show win3_2.index t (0 : Fin 2) * 512 + 1 * r.val = R.val; simp only [R]; omega
    | 1 => show win3_2.index t (1 : Fin 2) * 512 + 1 * l.val = L.val; simp only [L]; omega
  refine (pay3_apply _ _ r l).trans ((Finset.sum_congr rfl fun k _ => ?_).trans (congrArg (prod (V c main_v20 : S512x2048.Idx → EReal) (V c main_v26 : S2048x512.Idx → EReal)) hemb).symm)
  rw [blk3_0 V c t r k R k (by simp only [R]) (by omega), blk3_1 V c t k l k L (by omega) (by simp only [L])]
  rfl

/-- Every entry of the array lies in a block that some grid point writes back. -/
theorem covered3_2 (i : S512x512.Idx) :
    ∃ t : Fin cfg3.N, (cfg3.win 2).flush t = true ∧ i ∈ ((cfg3.win 2).blk t).view.set := by
  have h0 : (i 0).val < 512 := (i 0).isLt
  have h1 : (i 1).val < 512 := (i 1).isLt
  let t : Fin cfg3.N := ⟨(i 0).val / 512, lt_of_lt_of_eq (b := 1) (by omega) (show 1 = cfg3.N from N_3.symm)⟩
  obtain ⟨e0, e1⟩ := index3_2 t
  have tv : t.val = (i 0).val / 512 := rfl
  refine ⟨t, flush3_2 t, ?_⟩
  have hm := ((cfg3.win 2).blk t).view.emb_mem_set (ix2 ⟨(i 0).val % 512, by omega⟩ ⟨(i 1).val % 512, by omega⟩)
  have he : ((cfg3.win 2).blk t).view.emb (ix2 ⟨(i 0).val % 512, by omega⟩ ⟨(i 1).val % 512, by omega⟩) = i := by
    refine funext fun a => Fin.ext ?_
    match a with
    | 0 => show win3_2.index t (0 : Fin 2) * 512 + 1 * ((i 0).val % 512) = (i 0).val; omega
    | 1 => show win3_2.index t (1 : Fin 2) * 512 + 1 * ((i 1).val % 512) = (i 1).val; omega
  rwa [he] at hm

/-- Region 3 leaves the product of its two matrices. -/
theorem final3 (c : Dev nD) : (dat3 V c).arrAt 2 cfg3.N = prod (V c main_v20 : S512x2048.Idx → EReal) (V c main_v26 : S2048x512.Idx → EReal) :=
  (dat3 V c).arrAt_eq_of_cover 2 _ (fun t _ => flushed3 V c t) covered3_2

end Cert.Kernel5Ideal.Linear
-- ==== Proof.MemVal.lean ====
module

public import proofs.«01_k».proof.Proof.MemHost
public import proofs.«01_k».proof.Proof.MemRegions

@[expose] public section

set_option maxRecDepth 16384

noncomputable section

open Idealize.ShloMosaic Idealize.ShloMosaic.TcCoe Idealize.SL.Sem

namespace Cert.Kernel5Ideal.Linear
open Cert.Kernel5Ideal.Gen Cert.Linear

section Run
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
variable {F : FTy → Type} [FloatOps F]
variable (m : (ℓ : Loc nD τ sig) → Buf (Elt F) ℓ) (ρ : Dev nD → PrngReg)

set_option backward.isDefEq.respectTransparency.types false in
/-- Every execution ends with every array that stays in memory as the last boundary has it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

end Run

variable (m : (ℓ : Loc nD τ sig) → Buf (Elt Ideal) ℓ) (ρ : Dev nD → PrngReg) (c : Dev nD)

/-- The arguments of one device. -/
abbrev A0 : S2x256x2048.Idx → EReal := m ((c.tc : Thread nD τ).loc main_arg0)
abbrev A1 : S2x2048.Idx → EReal := m ((c.tc : Thread nD τ).loc main_arg1)
abbrev A2 : S2x2048x256.Idx → EReal := m ((c.tc : Thread nD τ).loc main_arg2)
abbrev A3 : S2x2048x256.Idx → EReal := m ((c.tc : Thread nD τ).loc main_arg3)

/-- A layer's projection of a slot of the memory at a column of the given weights. -/
def E (w : S2x2048x256.Idx → EReal) (L b : Fin 2) (t : Fin 256) (n : Fin 256) : EReal :=
  zin (A0 m c) (fun d => A1 m c (ix2 L d)) (fun k n => w (ix3 L k n)) b t n

/-- Layer 0: the memory and the norm's weights, the normed memory, the projection's weights, and the projection. -/
theorem val_v0 (b : Fin 2) (t : Fin 256) (d : Fin 2048) : (V1 m ρ c main_v0 : S512x2048.Idx → EReal) (ix2 (slot b t) d) = A0 m c (ix3 b t d) := by
  have e : W1 m ρ c (Proc.devRef .tc main_v0) = shapeCast S512x2048 (W0 m ρ c (Proc.devRef .tc main_arg0)) shapeCasts_S2x256x2048_S512x2048 := by
    after_results
    rfl
  rw [show V1 m ρ c main_v0 = _ from e, (rfl : W0 m ρ c (Proc.devRef .tc main_arg0) = A0 m c)]
  exact shapeCast_apply _ _ (ix2 (slot b t) d) (ix3 b t d) (by rw [Shape.rowMajor_val_two, Shape.rowMajor_val_three]; show (b.val * 256 + t.val) * 2048 + d.val = (256 * b.val + t.val) * 2048 + d.val; omega)

theorem val_v3 (d : Fin 2048) : (V1 m ρ c main_v3 : S1x2048.Idx → EReal) (ix2 0 d) = A1 m c (ix2 0 d) := by
  have e : W1 m ρ c (Proc.devRef .tc main_v3) = shapeCast S1x2048 (shapeCast S2048 (extractStridedSlice S1x2048 ![0, 0] (W0 m ρ c (Proc.devRef .tc main_arg1)) slices_S2x2048_S1x2048_0_0) shapeCasts_S1x2048_S2048) shapeCasts_S2048_S1x2048 := by
    after_results
    rfl
  rw [show V1 m ρ c main_v3 = _ from e, (rfl : W0 m ρ c (Proc.devRef .tc main_arg1) = A1 m c)]
  exact ((put1_apply _ _ d).trans (lone1_apply _ _ d)).trans (rows_apply (α := EReal) (A1 m c) 0 slices_S2x2048_S1x2048_0_0 0 d 0 rfl)

theorem val_v4 (b : Fin 2) (t : Fin 256) (d : Fin 2048) : (W2 m ρ c (Proc.devRef .tc main_v4) : S512x2048.Idx → EReal) (ix2 (slot b t) d)
    = rms cols small (fun d => A0 m c (ix3 b t d)) (fun d => A1 m c (ix2 0 d)) d := by
  have e : (W2 m ρ c (Proc.devRef .tc main_v4) : S512x2048.Idx → EReal) = _ := (W2_arr m ρ c 2).trans (final0 (V1 m ρ) c)
  rw [e]
  unfold normed
  exact congrArg₂ (fun x g => rms cols small x g d) (funext fun d => val_v0 m ρ c b t d) (funext fun d => val_v3 m ρ c d)

theorem val_v10 (k : Fin 2048) (l : Fin 512) : (V3 m ρ c main_v10 : S2048x512.Idx → EReal) (ix2 k l)
    = if h : l.val < 256 then A2 m c (ix3 0 k ⟨l.val, h⟩) else A3 m c (ix3 0 k ⟨l.val - 256, by omega⟩) := by
  have e : (W3 m ρ c (Proc.devRef .tc main_v10) : S2048x512.Idx → EReal) = (concatenate S2048x512 1 [⟨S2048x256, shapeCast S2048x256 (extractStridedSlice S1x2048x256 ![0, 0, 0] (W2 m ρ c (Proc.devRef .tc main_arg2)) slices_S2x2048x256_S1x2048x256_0_0_0) shapeCasts_S1x2048x256_S2048x256⟩, ⟨S2048x256, shapeCast S2048x256 (extractStridedSlice S1x2048x256 ![0, 0, 0] (W2 m ρ c (Proc.devRef .tc main_arg3)) slices_S2x2048x256_S1x2048x256_0_0_0) shapeCasts_S1x2048x256_S2048x256⟩] concatenates_S2048x256_S2048x256_S2048x512_d1 : FVec Ideal S2048x512 .f32) := by
    after_results
    rfl
  rw [show V3 m ρ c main_v10 = _ from e, (show W2 m ρ c (Proc.devRef .tc main_arg2) = A2 m c from ((W2_of m ρ c main_arg2 (by decide)).trans (W1_of m ρ c main_arg2 (by decide)))), (show W2 m ρ c (Proc.devRef .tc main_arg3) = A3 m c from ((W2_of m ρ c main_arg3 (by decide)).trans (W1_of m ρ c main_arg3 (by decide))))]
  by_cases h : l.val < 256
  · rw [dif_pos h]
    exact ((piece2 _ _ 0 (by simp) _ rfl 0 rfl k l ⟨l.val, h⟩ (Nat.zero_add _)).trans (lone_apply _ _ k _)).trans (plane_apply (α := EReal) (A2 m c) 0 slices_S2x2048x256_S1x2048x256_0_0_0 k _ 0 rfl)
  · rw [dif_neg h]
    exact ((piece2 _ _ 1 (by simp) _ rfl 256 rfl k l ⟨l.val - 256, by omega⟩ (by show 256 + (l.val - 256) = l.val; omega)).trans (lone_apply _ _ k _)).trans (plane_apply (α := EReal) (A3 m c) 0 slices_S2x2048x256_S1x2048x256_0_0_0 k _ 0 rfl)

theorem val_v11 (b : Fin 2) (t : Fin 256) (l : Fin 512) (w : S2x2048x256.Idx → EReal) (n : Fin 256)
    (hw : ∀ k, (V3 m ρ c main_v10 : S2048x512.Idx → EReal) (ix2 k l) = w (ix3 0 k n)) :
    (W4 m ρ c (Proc.devRef .tc main_v11) : S512x512.Idx → EReal) (ix2 (slot b t) l) = E m c w 0 b t n := by
  have e : (W4 m ρ c (Proc.devRef .tc main_v11) : S512x512.Idx → EReal) = _ := (W4_arr m ρ c 2).trans (final1 (V3 m ρ) c)
  rw [e]
  exact Finset.sum_congr rfl fun k _ => congrArg₂ (fun a b : EReal => a * b)
    ((congrFun ((W3_of m ρ c main_v4 (by decide)) : (W3 m ρ c (Proc.devRef .tc main_v4) : S512x2048.Idx → EReal) = _) _).trans (val_v4 m ρ c b t k)) (hw k)

/-- Its left half holds the keys, its right half the values. -/
theorem keys0 (b : Fin 2) (t n : Fin 256) : (W4 m ρ c (Proc.devRef .tc main_v11) : S512x512.Idx → EReal) (ix2 (slot b t) ⟨n.val, by omega⟩) = E m c (A2 m c) 0 b t n :=
  val_v11 m ρ c b t _ _ n fun k => (val_v10 m ρ c k _).trans (dif_pos n.isLt)

theorem values0 (b : Fin 2) (t n : Fin 256) : (W4 m ρ c (Proc.devRef .tc main_v11) : S512x512.Idx → EReal) (ix2 (slot b t) ⟨256 + n.val, by omega⟩) = E m c (A3 m c) 0 b t n :=
  val_v11 m ρ c b t _ _ n fun k => (val_v10 m ρ c k _).trans ((dif_neg (by show ¬ 256 + n.val < 256; omega)).trans
    (congrArg (fun n => A3 m c (ix3 0 k n)) (Fin.ext (by show 256 + n.val - 256 = n.val; omega))))

/-- Layer 1: the memory and the norm's weights, the normed memory, the projection's weights, and the projection. -/
theorem val_v16 (b : Fin 2) (t : Fin 256) (d : Fin 2048) : (V5 m ρ c main_v16 : S512x2048.Idx → EReal) (ix2 (slot b t) d) = A0 m c (ix3 b t d) := by
  have e : W5 m ρ c (Proc.devRef .tc main_v16) = shapeCast S512x2048 (W4 m ρ c (Proc.devRef .tc main_arg0)) shapeCasts_S2x256x2048_S512x2048 := by
    after_results
    rfl
  rw [show V5 m ρ c main_v16 = _ from e, (show W4 m ρ c (Proc.devRef .tc main_arg0) = A0 m c from ((((W4_of m ρ c main_arg0 (by decide)).trans (W3_of m ρ c main_arg0 (by decide))).trans (W2_of m ρ c main_arg0 (by decide))).trans (W1_of m ρ c main_arg0 (by decide))))]
  exact shapeCast_apply _ _ (ix2 (slot b t) d) (ix3 b t d) (by rw [Shape.rowMajor_val_two, Shape.rowMajor_val_three]; show (b.val * 256 + t.val) * 2048 + d.val = (256 * b.val + t.val) * 2048 + d.val; omega)

theorem val_v19 (d : Fin 2048) : (V5 m ρ c main_v19 : S1x2048.Idx → EReal) (ix2 0 d) = A1 m c (ix2 1 d) := by
  have e : W5 m ρ c (Proc.devRef .tc main_v19) = shapeCast S1x2048 (shapeCast S2048 (extractStridedSlice S1x2048 ![1, 0] (W4 m ρ c (Proc.devRef .tc main_arg1)) slices_S2x2048_S1x2048_1_0) shapeCasts_S1x2048_S2048) shapeCasts_S2048_S1x2048 := by
    after_results
    rfl
  rw [show V5 m ρ c main_v19 = _ from e, (show W4 m ρ c (Proc.devRef .tc main_arg1) = A1 m c from ((((W4_of m ρ c main_arg1 (by decide)).trans (W3_of m ρ c main_arg1 (by decide))).trans (W2_of m ρ c main_arg1 (by decide))).trans (W1_of m ρ c main_arg1 (by decide))))]
  exact ((put1_apply _ _ d).trans (lone1_apply _ _ d)).trans (rows_apply (α := EReal) (A1 m c) 1 slices_S2x2048_S1x2048_1_0 0 d 1 rfl)

theorem val_v20 (b : Fin 2) (t : Fin 256) (d : Fin 2048) : (W6 m ρ c (Proc.devRef .tc main_v20) : S512x2048.Idx → EReal) (ix2 (slot b t) d)
    = rms cols small (fun d => A0 m c (ix3 b t d)) (fun d => A1 m c (ix2 1 d)) d := by
  have e : (W6 m ρ c (Proc.devRef .tc main_v20) : S512x2048.Idx → EReal) = _ := (W6_arr m ρ c 2).trans (final2 (V5 m ρ) c)
  rw [e]
  unfold normed
  exact congrArg₂ (fun x g => rms cols small x g d) (funext fun d => val_v16 m ρ c b t d) (funext fun d => val_v19 m ρ c d)

theorem val_v26 (k : Fin 2048) (l : Fin 512) : (V7 m ρ c main_v26 : S2048x512.Idx → EReal) (ix2 k l)
    = if h : l.val < 256 then A2 m c (ix3 1 k ⟨l.val, h⟩) else A3 m c (ix3 1 k ⟨l.val - 256, by omega⟩) := by
  have e : (W7 m ρ c (Proc.devRef .tc main_v26) : S2048x512.Idx → EReal) = (concatenate S2048x512 1 [⟨S2048x256, shapeCast S2048x256 (extractStridedSlice S1x2048x256 ![1, 0, 0] (W6 m ρ c (Proc.devRef .tc main_arg2)) slices_S2x2048x256_S1x2048x256_1_0_0) shapeCasts_S1x2048x256_S2048x256⟩, ⟨S2048x256, shapeCast S2048x256 (extractStridedSlice S1x2048x256 ![1, 0, 0] (W6 m ρ c (Proc.devRef .tc main_arg3)) slices_S2x2048x256_S1x2048x256_1_0_0) shapeCasts_S1x2048x256_S2048x256⟩] concatenates_S2048x256_S2048x256_S2048x512_d1 : FVec Ideal S2048x512 .f32) := by
    after_results
    rfl
  rw [show V7 m ρ c main_v26 = _ from e, (show W6 m ρ c (Proc.devRef .tc main_arg2) = A2 m c from ((((((W6_of m ρ c main_arg2 (by decide)).trans (W5_of m ρ c main_arg2 (by decide))).trans (W4_of m ρ c main_arg2 (by decide))).trans (W3_of m ρ c main_arg2 (by decide))).trans (W2_of m ρ c main_arg2 (by decide))).trans (W1_of m ρ c main_arg2 (by decide)))), (show W6 m ρ c (Proc.devRef .tc main_arg3) = A3 m c from ((((((W6_of m ρ c main_arg3 (by decide)).trans (W5_of m ρ c main_arg3 (by decide))).trans (W4_of m ρ c main_arg3 (by decide))).trans (W3_of m ρ c main_arg3 (by decide))).trans (W2_of m ρ c main_arg3 (by decide))).trans (W1_of m ρ c main_arg3 (by decide))))]
  by_cases h : l.val < 256
  · rw [dif_pos h]
    exact ((piece2 _ _ 0 (by simp) _ rfl 0 rfl k l ⟨l.val, h⟩ (Nat.zero_add _)).trans (lone_apply _ _ k _)).trans (plane_apply (α := EReal) (A2 m c) 1 slices_S2x2048x256_S1x2048x256_1_0_0 k _ 1 rfl)
  · rw [dif_neg h]
    exact ((piece2 _ _ 1 (by simp) _ rfl 256 rfl k l ⟨l.val - 256, by omega⟩ (by show 256 + (l.val - 256) = l.val; omega)).trans (lone_apply _ _ k _)).trans (plane_apply (α := EReal) (A3 m c) 1 slices_S2x2048x256_S1x2048x256_1_0_0 k _ 1 rfl)

theorem val_v27 (b : Fin 2) (t : Fin 256) (l : Fin 512) (w : S2x2048x256.Idx → EReal) (n : Fin 256)
    (hw : ∀ k, (V7 m ρ c main_v26 : S2048x512.Idx → EReal) (ix2 k l) = w (ix3 1 k n)) :
    (W8 m ρ c (Proc.devRef .tc main_v27) : S512x512.Idx → EReal) (ix2 (slot b t) l) = E m c w 1 b t n := by
  have e : (W8 m ρ c (Proc.devRef .tc main_v27) : S512x512.Idx → EReal) = _ := (W8_arr m ρ c 2).trans (final3 (V7 m ρ) c)
  rw [e]
  exact Finset.sum_congr rfl fun k _ => congrArg₂ (fun a b : EReal => a * b)
    ((congrFun ((W7_of m ρ c main_v20 (by decide)) : (W7 m ρ c (Proc.devRef .tc main_v20) : S512x2048.Idx → EReal) = _) _).trans (val_v20 m ρ c b t k)) (hw k)

/-- Its left half holds the keys, its right half the values. -/
theorem keys1 (b : Fin 2) (t n : Fin 256) : (W8 m ρ c (Proc.devRef .tc main_v27) : S512x512.Idx → EReal) (ix2 (slot b t) ⟨n.val, by omega⟩) = E m c (A2 m c) 1 b t n :=
  val_v27 m ρ c b t _ _ n fun k => (val_v26 m ρ c k _).trans (dif_pos n.isLt)

theorem values1 (b : Fin 2) (t n : Fin 256) : (W8 m ρ c (Proc.devRef .tc main_v27) : S512x512.Idx → EReal) (ix2 (slot b t) ⟨256 + n.val, by omega⟩) = E m c (A3 m c) 1 b t n :=
  val_v27 m ρ c b t _ _ n fun k => (val_v26 m ρ c k _).trans ((dif_neg (by show ¬ 256 + n.val < 256; omega)).trans
    (congrArg (fun n => A3 m c (ix3 1 k n)) (Fin.ext (by show 256 + n.val - 256 = n.val; omega))))

/-- Half of a layer's projection, split into the two samples. -/
theorem half_apply (u : S512x512.Idx → EReal) (o : ℕ) (h : S512x512.Slices ![0, o] S512x256) (b : Fin 2) (t n : Fin 256) (l : Fin 512) (e : o + n.val = l.val) :
    shapeCast S2x256x256 (extractStridedSlice S512x256 ![0, o] u h) shapeCasts_S512x256_S2x256x256 (ix3 b t n) = u (ix2 (slot b t) l) :=
  (shapeCast_apply _ _ (ix3 b t n) (ix2 (slot b t) n) (by rw [Shape.rowMajor_val_two, Shape.rowMajor_val_three]; show (256 * b.val + t.val) * 256 + n.val = (b.val * 256 + t.val) * 256 + n.val; omega)).trans
    (cols_apply u o h (slot b t) n l e)

theorem first_keys (b : Fin 2) (t n : Fin 256) : (W8 m ρ c (Proc.devRef .tc main_v13) : S2x256x256.Idx → EReal) (ix3 b t n) = E m c (A2 m c) 0 b t n := by
  have e : W5 m ρ c (Proc.devRef .tc main_v13) = shapeCast S2x256x256 (extractStridedSlice S512x256 ![0, 0] (W4 m ρ c (Proc.devRef .tc main_v11)) slices_S512x512_S512x256_0_0) shapeCasts_S512x256_S2x256x256 := by
    after_results
    rfl
  rw [show W8 m ρ c (Proc.devRef .tc main_v13) = _ from (((W8_of m ρ c main_v13 (by decide)).trans (W7_of m ρ c main_v13 (by decide))).trans (W6_of m ρ c main_v13 (by decide))), e]
  exact (half_apply _ 0 _ b t n ⟨n.val, by omega⟩ (Nat.zero_add _)).trans (keys0 m ρ c b t n)

/-- The keys of both layers. -/
theorem res_keys (L b : Fin 2) (t : Fin 256) (h : Fin 4) (d : Fin 64) : (W9 m ρ c (Proc.devRef .tc main_v36) : S2x2x256x4x64.Idx → EReal) (ix5 L b t h d)
    = E m c (A2 m c) L b t ⟨64 * h.val + d.val, by omega⟩ := by
  have e : (W9 m ρ c (Proc.devRef .tc main_v36) : S2x2x256x4x64.Idx → EReal) = (concatenate S2x2x256x4x64 0 [⟨S1x2x256x4x64, broadcastInDim S1x2x256x4x64 ![1, 2, 3, 4] bcast_S2x256x4x64_S1x2x256x4x64_1_2_3_4 (shapeCast S2x256x4x64 (W8 m ρ c (Proc.devRef .tc main_v13)) shapeCasts_S2x256x256_S2x256x4x64)⟩, ⟨S1x2x256x4x64, broadcastInDim S1x2x256x4x64 ![1, 2, 3, 4] bcast_S2x256x4x64_S1x2x256x4x64_1_2_3_4 (shapeCast S2x256x4x64 (shapeCast S2x256x256 (extractStridedSlice S512x256 ![0, 0] (W8 m ρ c (Proc.devRef .tc main_v27)) slices_S512x512_S512x256_0_0) shapeCasts_S512x256_S2x256x256) shapeCasts_S2x256x256_S2x256x4x64)⟩] concatenates_S1x2x256x4x64_S1x2x256x4x64_S2x2x256x4x64_d0 : FVec Ideal S2x2x256x4x64 .f32) := by
    after_results
    rfl
  rw [e]
  refine stack_apply _ _ _ (fun L => E m c (A2 m c) L b t ⟨64 * h.val + d.val, by omega⟩) L b t h d ?_ ?_
  · exact (heads1_apply _ _ _ b t h d).trans (first_keys m ρ c b t _)
  · exact ((heads1_apply _ _ _ b t h d).trans (half_apply _ 0 _ b t _ ⟨(64 * h.val + d.val), by omega⟩ (Nat.zero_add _))).trans (keys1 m ρ c b t ⟨64 * h.val + d.val, by omega⟩)

theorem first_values (b : Fin 2) (t n : Fin 256) : (W8 m ρ c (Proc.devRef .tc main_v15) : S2x256x256.Idx → EReal) (ix3 b t n) = E m c (A3 m c) 0 b t n := by
  have e : W5 m ρ c (Proc.devRef .tc main_v15) = shapeCast S2x256x256 (extractStridedSlice S512x256 ![0, 256] (W4 m ρ c (Proc.devRef .tc main_v11)) slices_S512x512_S512x256_0_256) shapeCasts_S512x256_S2x256x256 := by
    after_results
    rfl
  rw [show W8 m ρ c (Proc.devRef .tc main_v15) = _ from (((W8_of m ρ c main_v15 (by decide)).trans (W7_of m ρ c main_v15 (by decide))).trans (W6_of m ρ c main_v15 (by decide))), e]
  exact (half_apply _ 256 _ b t n ⟨256 + n.val, by omega⟩ (rfl)).trans (values0 m ρ c b t n)

/-- The values of both layers. -/
theorem res_values (L b : Fin 2) (t : Fin 256) (h : Fin 4) (d : Fin 64) : (W9 m ρ c (Proc.devRef .tc main_v41) : S2x2x256x4x64.Idx → EReal) (ix5 L b t h d)
    = E m c (A3 m c) L b t ⟨64 * h.val + d.val, by omega⟩ := by
  have e : (W9 m ρ c (Proc.devRef .tc main_v41) : S2x2x256x4x64.Idx → EReal) = (concatenate S2x2x256x4x64 0 [⟨S1x2x256x4x64, broadcastInDim S1x2x256x4x64 ![1, 2, 3, 4] bcast_S2x256x4x64_S1x2x256x4x64_1_2_3_4 (shapeCast S2x256x4x64 (W8 m ρ c (Proc.devRef .tc main_v15)) shapeCasts_S2x256x256_S2x256x4x64)⟩, ⟨S1x2x256x4x64, broadcastInDim S1x2x256x4x64 ![1, 2, 3, 4] bcast_S2x256x4x64_S1x2x256x4x64_1_2_3_4 (shapeCast S2x256x4x64 (shapeCast S2x256x256 (extractStridedSlice S512x256 ![0, 256] (W8 m ρ c (Proc.devRef .tc main_v27)) slices_S512x512_S512x256_0_256) shapeCasts_S512x256_S2x256x256) shapeCasts_S2x256x256_S2x256x4x64)⟩] concatenates_S1x2x256x4x64_S1x2x256x4x64_S2x2x256x4x64_d0 : FVec Ideal S2x2x256x4x64 .f32) := by
    after_results
    rfl
  rw [e]
  refine stack_apply _ _ _ (fun L => E m c (A3 m c) L b t ⟨64 * h.val + d.val, by omega⟩) L b t h d ?_ ?_
  · exact (heads1_apply _ _ _ b t h d).trans (first_values m ρ c b t _)
  · exact ((heads1_apply _ _ _ b t h d).trans (half_apply _ 256 _ b t _ ⟨256 + (64 * h.val + d.val), by omega⟩ (rfl))).trans (values1 m ρ c b t ⟨64 * h.val + d.val, by omega⟩)

end Cert.Kernel5Ideal.Linear
-- ==== Proof.MemRef.lean ====
module

public import proofs.«01_k».proof.Proof.MemHost
public import proofs.«01_k».proof.Proof.Gen.Reference5Ideal
public import proofs.«01_k».proof.Proof.Gen.Reference5Ideal.Run

@[expose] public section

set_option maxRecDepth 16384

noncomputable section

open Idealize.ShloMosaic Idealize.ShloMosaic.TcCoe Idealize.SL.Sem

namespace Cert.Reference5Ideal.Linear
open Cert.Reference5Ideal Cert.Reference5Ideal.Gen Cert.Linear

/-- The root mean square norm of the memory. -/
def nrm (x : FVec Ideal S2x256x2048 .f32) (g : FVec Ideal S2048 .f32) : FVec Ideal S2x256x2048 .f32 :=
  mulf (mulf x (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf x x) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 g))

theorem reduces : S2x256x2048.Reduces [2] S2x256 := by decide

theorem nrm_apply (x : FVec Ideal S2x256x2048 .f32) (g : FVec Ideal S2048 .f32) (b : Fin 2) (t : Fin 256) (d : Fin 2048) :
    nrm x g (ix3 b t d) = rms cols small (fun d => x (ix3 b t d)) (fun d => g (ix1 d)) d := by
  have hs := sum3_apply (mulf x x) reduces reducesTo_S2x256x2048_S2x256_d2 h_S_ b t
  unfold nrm rms
  generalize Host.reduceAdd (mulf x x) (constant S_ .f32 0x00000000#32) reducesTo_S2x256x2048_S2x256_d2 h_S_ = s at hs ⊢
  have hs' : s (ix2 b t) = ∑ k : Fin 2048, (x (ix3 b t k) : EReal) * x (ix3 b t k) := hs
  beta_reduce
  rw [← hs']
  pointwise

/-- One layer's projection of the memory. -/
def z (x : FVec Ideal S2x256x2048 .f32) (g : FVec Ideal S2048 .f32) (w : FVec Ideal S1x2048x256 .f32) : FVec Ideal S2x256x256 .f32 :=
  Host.dotGeneral dot_S2x256x2048_S2048x256_S2x256x256_2_0_01_1_n_n none (nrm x g) (shapeCast _ w shapeCasts_S1x2048x256_S2048x256)

theorem z_apply (x : FVec Ideal S2x256x2048 .f32) (g : FVec Ideal S2048 .f32) (w : FVec Ideal S1x2048x256 .f32) (g' : Fin 2048 → EReal) (w' : Fin 2048 → Fin 256 → EReal)
    (hg : ∀ d, g (ix1 d) = g' d) (hw : ∀ k n, w (ix3 0 k n) = w' k n) (b : Fin 2) (t n : Fin 256) :
    z x g w (ix3 b t n) = zin (x : S2x256x2048.Idx → EReal) g' w' b t n := by
  refine (dot3_apply _ dot_S2x256x2048_S2048x256_S2x256x256_2_0_01_1_n_n_wf rfl (nrm x g) _ b t n).trans ?_
  refine Finset.sum_congr rfl fun k _ => congrArg₂ (fun a b : EReal => a * b) ((nrm_apply x g b t k).trans ?_) ((lone_apply w _ k n).trans (hw k n))
  exact congrArg (fun g => rms cols small (fun d => x (ix3 b t d)) g k) (funext hg)

/-- Both layers' projections, split into heads. -/
def kv (x : FVec Ideal S2x256x2048 .f32) (g : FVec Ideal S2x2048 .f32) (w : FVec Ideal S2x2048x256 .f32) : FVec Ideal S2x2x256x4x64 .f32 :=
  concatenate S2x2x256x4x64 0 [⟨S1x2x256x4x64, broadcastInDim S1x2x256x4x64 ![1, 2, 3, 4] bcast_S2x256x4x64_S1x2x256x4x64_1_2_3_4 (shapeCast S2x256x4x64 (z x (shapeCast _ (extractStridedSlice S1x2048 ![0, 0] g slices_S2x2048_S1x2048_0_0) shapeCasts_S1x2048_S2048) (extractStridedSlice S1x2048x256 ![0, 0, 0] w slices_S2x2048x256_S1x2048x256_0_0_0)) shapeCasts_S2x256x256_S2x256x4x64)⟩, ⟨S1x2x256x4x64, broadcastInDim S1x2x256x4x64 ![1, 2, 3, 4] bcast_S2x256x4x64_S1x2x256x4x64_1_2_3_4 (shapeCast S2x256x4x64 (z x (shapeCast _ (extractStridedSlice S1x2048 ![1, 0] g slices_S2x2048_S1x2048_1_0) shapeCasts_S1x2048_S2048) (extractStridedSlice S1x2048x256 ![1, 0, 0] w slices_S2x2048x256_S1x2048x256_1_0_0)) shapeCasts_S2x256x256_S2x256x4x64)⟩] concatenates_S1x2x256x4x64_S1x2x256x4x64_S2x2x256x4x64_d0

theorem kv_apply (x : FVec Ideal S2x256x2048 .f32) (g : FVec Ideal S2x2048 .f32) (w : FVec Ideal S2x2048x256 .f32) (L b : Fin 2) (t : Fin 256) (h : Fin 4) (d : Fin 64) :
    kv x g w (ix5 L b t h d) = zin (x : S2x256x2048.Idx → EReal) (fun d => g (ix2 L d)) (fun k n => w (ix3 L k n)) b t ⟨64 * h.val + d.val, by omega⟩ := by
  refine stack_apply _ _ _ (fun L => zin (x : S2x256x2048.Idx → EReal) (fun d => g (ix2 L d)) (fun k n => w (ix3 L k n)) b t ⟨64 * h.val + d.val, by omega⟩) L b t h d ?_ ?_
  · exact (heads1_apply _ _ _ b t h d).trans (z_apply x _ _ _ _ (fun d => (lone1_apply _ _ d).trans (rows_apply (α := EReal) g 0 slices_S2x2048_S1x2048_0_0 0 d 0 rfl))
      (fun k n => plane_apply (α := EReal) w 0 slices_S2x2048x256_S1x2048x256_0_0_0 k n 0 rfl) b t _)
  · exact (heads1_apply _ _ _ b t h d).trans (z_apply x _ _ _ _ (fun d => (lone1_apply _ _ d).trans (rows_apply (α := EReal) g 1 slices_S2x2048_S1x2048_1_0 0 d 1 rfl))
      (fun k n => plane_apply (α := EReal) w 1 slices_S2x2048x256_S1x2048x256_1_0_0 k n 1 rfl) b t _)

variable (m : (ℓ : Loc nD τ sig) → Buf (Elt Ideal) ℓ) (ρ : Dev nD → PrngReg)

/-- Every execution of the reference ends with both layers' keys and values, and the arguments kept. -/
theorem run : θ_run defs (onTc (τ := τ) (main (F := Ideal))) ⟨m, fun _ => 0, ρ⟩ fun r => ∀ c : Dev nD,
    r.2.mem ((c.tc : Thread nD τ).loc main_v40) = kv (m ((c.tc : Thread nD τ).loc main_arg0)) (m ((c.tc : Thread nD τ).loc main_arg1)) (m ((c.tc : Thread nD τ).loc main_arg2))
    ∧ r.2.mem ((c.tc : Thread nD τ).loc main_v81) = kv (m ((c.tc : Thread nD τ).loc main_arg0)) (m ((c.tc : Thread nD τ).loc main_arg1)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  Cert.Reference5Ideal.Value.run m ρ

end Cert.Reference5Ideal.Linear
-- ==== Proof.Mem.lean ====
module

public import proofs.«01_k».proof.Proof.Linear
public import proofs.«01_k».proof.Proof.MemVal
public import proofs.«01_k».proof.Proof.MemRef
public import proofs.«01_k».proof.Defs

@[expose] public section

set_option maxRecDepth 16384

noncomputable section

open Idealize.ShloMosaic Idealize.ShloMosaic.TcCoe Idealize.SL.Sem

namespace Cert.Mem
open Cert.Linear

/-- The memory's keys and values of both layers: the kernel and the reference end with the same arrays. -/
theorem keysValues : algebraic_Kernel5Ideal_Reference5Ideal (hKernel5Ideal := Cert.Kernel5Ideal.Gen.facts)
    (hReference5Ideal := Cert.Reference5Ideal.Gen.facts) := by
  intro m g m' g' _ hargs
  refine ⟨fun c => Kernel5Ideal.Gen.W9 m g c (Proc.devRef .tc Kernel5Ideal.main_v36), fun c => Kernel5Ideal.Gen.W9 m g c (Proc.devRef .tc Kernel5Ideal.main_v41),
    (θ_run Cert.Kernel5Ideal.defs _ _).mono (fun r h c => ?_) (Kernel5Ideal.Linear.run_all m g),
    (θ_run Cert.Reference5Ideal.defs _ _).mono (fun r h c => ?_) (Reference5Ideal.Linear.run m' g')⟩
  · exact ⟨h c _ (Kernel5Ideal.Gen.mem_uc Kernel5Ideal.main_v36 (by decide)), h c _ (Kernel5Ideal.Gen.mem_uc Kernel5Ideal.main_v41 (by decide)),
      (h c _ (Kernel5Ideal.Gen.mem_uc Kernel5Ideal.main_arg0 (by decide))).trans (Kernel5Ideal.Gen.W9_main_arg0 m g c), (h c _ (Kernel5Ideal.Gen.mem_uc Kernel5Ideal.main_arg1 (by decide))).trans (Kernel5Ideal.Gen.W9_main_arg1 m g c), (h c _ (Kernel5Ideal.Gen.mem_uc Kernel5Ideal.main_arg2 (by decide))).trans (Kernel5Ideal.Gen.W9_main_arg2 m g c), (h c _ (Kernel5Ideal.Gen.mem_uc Kernel5Ideal.main_arg3 (by decide))).trans (Kernel5Ideal.Gen.W9_main_arg3 m g c)⟩
  · obtain ⟨e0, e1, e2, e3⟩ := hargs c
    obtain ⟨h0, h1, hk⟩ := h c
    refine ⟨h0.trans ?_, h1.trans ?_, hk⟩
    · funext i
      rw [e0, e1, e2, eq_ix5 i]
      exact (Reference5Ideal.Linear.kv_apply _ _ _ (i 0) (i 1) (i 2) (i 3) (i 4)).trans (Kernel5Ideal.Linear.res_keys m g c (i 0) (i 1) (i 2) (i 3) (i 4)).symm
    · funext i
      rw [e0, e1, e3, eq_ix5 i]
      exact (Reference5Ideal.Linear.kv_apply _ _ _ (i 0) (i 1) (i 2) (i 3) (i 4)).trans (Kernel5Ideal.Linear.res_values m g c (i 0) (i 1) (i 2) (i 3) (i 4)).symm

end Cert.Mem
-- ==== Proof.Gate.lean ====
module

public import Idealize.ShloMosaic.Lib.Pipeline.Value
public import Idealize.ShloMosaic.Lib.MatmulPlain
public import Idealize.ShloMosaic.Lib.IdealHost
public import Idealize.ShloMosaic.Lib.Pointwise.Tactic
public import Idealize.ShloMosaic.Lib.Pointwise.Reduce
public import Idealize.ShloMosaic.Lib.Pointwise.Contract
public import Idealize.ShloMosaic.Lib.ValueLayoutCasts
public import Idealize.ShloMosaic.Lib.Tactic
public import Idealize.ShloMosaic.Lib.KernelVsHost

@[expose] public section

set_option maxRecDepth 16384

noncomputable section

open Idealize.ShloMosaic Idealize.ShloMosaic.TcCoe Idealize.SL.Sem

namespace Cert.Gate

/-- The log of the forget gate of a pre-activation, without overflow. -/
def lsig (x : EReal) : EReal := min x 0 - Ideal.log1p (Ideal.exp (0 - max x (-x)))

/-- Its second term is a number. -/
theorem tail_real (x : EReal) : ∃ r : ℝ, Ideal.log1p (Ideal.exp (-max x (-x))) = (r : EReal) := by
  have hr : ∀ e : ℝ, 0 ≤ e → ∃ r : ℝ, Ideal.log1p (e : EReal) = (r : EReal) := fun e he => by
    have h1 : (1 : EReal) + (e : EReal) = ((1 + e : ℝ) : EReal) := by norm_cast
    refine ⟨Real.log (1 + e), ?_⟩
    unfold Ideal.log1p
    rw [h1]
    show (if 1 + e ≤ 0 then (⊥ : EReal) else ((Real.log (1 + e) : ℝ) : EReal)) = _
    rw [if_neg (by linarith)]
  have h0 : ∃ r : ℝ, Ideal.log1p (Ideal.exp ⊥) = (r : EReal) := hr 0 le_rfl
  induction x with
  | bot => rw [EReal.neg_bot, max_eq_right bot_le, EReal.neg_top]; exact h0
  | top => rw [max_eq_left le_top, EReal.neg_top]; exact h0
  | coe r =>
    obtain ⟨q, hq⟩ : ∃ q : ℝ, -max (r : EReal) (-(r : EReal)) = (q : EReal) := by
      rcases le_total (r : EReal) (-(r : EReal)) with h | h
      · rw [max_eq_right h]; exact ⟨- -r, rfl⟩
      · rw [max_eq_left h]; exact ⟨-r, rfl⟩
    rw [hq]
    exact hr (Real.exp q) (Real.exp_pos q).le

/-- The log of the gate is minus the softplus of minus the pre-activation. -/
theorem neg_softplus (x : EReal) : -(max (-x) 0 + Ideal.log1p (Ideal.exp (-max (-x - 0) (-(-x - 0))))) = lsig x := by
  unfold lsig
  have e : max (-x - 0) (-(-x - 0)) = max x (-x) := by rw [sub_zero, neg_neg, max_comm]
  rw [e, zero_sub]
  obtain ⟨r, hr⟩ := tail_real x
  rw [hr, EReal.neg_add (Or.inr (EReal.coe_ne_top r)) (Or.inr (EReal.coe_ne_bot r))]
  refine congrArg (fun a : EReal => a - (r : EReal)) ?_
  rcases le_total x 0 with h | h
  · rw [min_eq_left h, max_eq_left (EReal.neg_nonneg.2 h), neg_neg]
  · rw [min_eq_right h, max_eq_right (by rw [← neg_zero]; exact EReal.neg_le_neg_iff.2 h), neg_zero]

/-- A sequence of tokens, zero past its end. -/
def ext {N : ℕ} (f : Fin N → EReal) (s : ℕ) : EReal := if h : s < N then f ⟨s, h⟩ else 0

/-- The sum of the first `n` tokens. -/
def upTo {N : ℕ} (f : Fin N → EReal) (n : ℕ) : EReal := ∑ s ∈ Finset.range n, ext f s

theorem upTo_add {N : ℕ} (f : Fin N → EReal) (a n : ℕ) : upTo f (a + n) = upTo f a + ∑ s ∈ Finset.range n, ext f (a + s) :=
  Finset.sum_range_add _ _ _

/-- A tile's sums by a triangle of ones, over the sum of the tiles before it. -/
theorem tile_sum {N : ℕ} (f : Fin N → EReal) (a : ℕ) (g u : Fin 512 → EReal) (t : Fin 512) (hg : ∀ s : Fin 512, g s = ext f (a + s.val))
    (hu : ∀ s : Fin 512, u s = if s.val ≤ t.val then 1 else 0) : ∑ s : Fin 512, g s * u s + upTo f a = upTo f (a + (t.val + 1)) := by
  rw [upTo_add, add_comm]
  refine congrArg (fun x : EReal => upTo f a + x) ?_
  have h : ∀ s : Fin 512, g s * u s = (fun n : ℕ => if n ≤ t.val then ext f (a + n) else 0) s.val := fun s => by
    rw [hg, hu]
    dsimp only
    split
    · exact mul_one _
    · exact mul_zero _
  rw [Finset.sum_congr rfl fun s _ => h s, Fin.sum_univ_eq_sum_range (fun n : ℕ => if n ≤ t.val then ext f (a + n) else 0) 512, ← Finset.sum_filter]
  refine Finset.sum_congr (Finset.ext fun n => ?_) fun _ _ => rfl
  have := t.isLt
  simp only [Finset.mem_filter, Finset.mem_range]
  omega

/-- A left fold of additions from zero is the sum. -/
theorem foldl_sum (n : ℕ) (g : Fin n → EReal) : (List.finRange n).foldl (fun r k => r + g k) 0 = ∑ k, g k := by
  have h : ∀ (l : List (Fin n)) (a : EReal), l.foldl (fun r k => r + g k) a = a + (l.map g).sum := by
    intro l
    induction l with
    | nil => intro a; exact (add_zero a).symm
    | cons k l ih => intro a; rw [List.foldl_cons, ih, List.map_cons, List.sum_cons, add_assoc]
  rw [h, zero_add, ← List.sum_ofFn, List.ofFn_eq_map]

/-- A window that ends at a token, over tokens padded before the first, sums the tokens up to it. -/
theorem window_sum {N : ℕ} (p : ℕ) (hp : N = p + 1) (f : Fin N → EReal) (t : Fin N) :
    ∑ k : Fin N, (if p ≤ t.val + k.val then ext f (t.val + k.val - p) else 0) = upTo f (t.val + 1) := by
  have ht := t.isLt
  unfold upTo
  generalize ext f = g
  rw [Fin.sum_univ_eq_sum_range (fun n : ℕ => if p ≤ t.val + n then g (t.val + n - p) else 0) N]
  generalize t.val = t at ht ⊢
  have e : N = (p - t) + (t + 1) := by omega
  rw [e, Finset.sum_range_add, Finset.sum_eq_zero, zero_add]
  · refine Finset.sum_congr rfl fun n hn => ?_
    rw [if_pos (by omega)]
    exact congrArg (g) (by omega)
  · intro n hn
    have := Finset.mem_range.1 hn
    exact if_neg (by omega)

/-- A token's row of the projection, and a head's column of it. -/
def tokn (b : Fin 2) (t : Fin 4096) : Fin 8192 := ⟨4096 * b.val + t.val, by omega⟩
def col (h : Fin 16) : Fin 640 := ⟨512 + h.val, by omega⟩

/-- The log of a token's forget gate in a head: of the projected column plus the head's bias. -/
def gate (Z : (⟨2, ![8192, 640]⟩ : Shape).Idx → EReal) (B : (⟨2, ![1, 16]⟩ : Shape).Idx → EReal) (b : Fin 2) (h : Fin 16) (t : Fin 4096) : EReal :=
  lsig (Z (ix2 (tokn b t) (col h)) + B (ix2 0 h))

end Cert.Gate
-- ==== Proof.GatesBody.lean ====
module

public import proofs.«01_k».proof.Proof.Gate
public import proofs.«01_k».proof.Proof.Gen.Kernel6Ideal.Frame
public import Idealize.ShloMosaic.Lib.WordCmp

@[expose] public section

set_option maxRecDepth 16384

noncomputable section

open Idealize.ShloMosaic Idealize.ShloMosaic.TcCoe Idealize.SL.Sem

namespace Cert.Kernel6Ideal.Gates
open Cert.Kernel6Ideal.Gen Cert.Gate

theorem z_S512x128 : (![0, 0] : Fin S512x128.rank → ℕ) = fun _ => 0 := by funext a; match a with | 0 => rfl | 1 => rfl
theorem z_S1x128 : (![0, 0] : Fin S1x128.rank → ℕ) = fun _ => 0 := by funext a; match a with | 0 => rfl | 1 => rfl
theorem z_S512x16 : (![0, 0] : Fin S512x16.rank → ℕ) = fun _ => 0 := by funext a; match a with | 0 => rfl | 1 => rfl
theorem z_S128x1 : (![0, 0] : Fin S128x1.rank → ℕ) = fun _ => 0 := by funext a; match a with | 0 => rfl | 1 => rfl
theorem z_S1x16x512 : (![0, 0, 0] : Fin S1x16x512.rank → ℕ) = fun _ => 0 := by funext a; match a with | 0 => rfl | 1 => rfl | 2 => rfl

/-- What a first tile leaves: the logs of its tokens' gates. -/
theorem out2_A (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S512x16 .f32) (harg4 : arg4.IsWhole) (arg5 : Memref sig .tc .vmem S1x16x512 .f32) (harg5 : arg5.IsWhole) (arg6 : Memref sig .tc .vmem S128x1 .f32) (harg6 : arg6.IsWhole) (hc0 : cond0_0 i)
    (x0 : Vec Ideal S512x128 .f32) (x1 : Vec Ideal S1x128 .f32) :
    out0_A_2 (F := Ideal) c i arg2 harg2 arg3 harg3 arg4 harg4 arg5 harg5 arg6 harg6 hc0 x0 x1 = k0_pay2 (F := Ideal) x0 x1 := by
  unfold out0_A_2
  rw [View.read_writes_eq_canon _ _ _ (cover0_A_2 c i arg2 harg2 arg3 harg3 arg4 harg4 arg5 harg5 arg6 harg6 hc0 x0 x1)]
  unfold kernelRun0_A
  dsimp only
  refine (View.canon_cons_unit_zero (Val := Elt Ideal) (S := S512x16) (e := .f32) z_S512x16 inb_S512x16_S512x16_0_0 (k0_pay2 (F := Ideal) (View.ld (arg2.view.read (Elt Ideal) (harg2.unread x0)) (Rect.unit ![0, 0] S512x128.size inb_S512x128_S512x128_0_0)) (View.ld (arg3.view.read (Elt Ideal) (harg3.unread x1)) (Rect.unit ![0, 0] S1x128.size inb_S1x128_S1x128_0_0))) _).trans ?_
  rw [View.ld_unit_zero (S := S512x128) z_S512x128, View.ld_unit_zero (S := S1x128) z_S1x128, harg2.read_unread, harg3.read_unread]

/-- What a first tile leaves: their running sums, over the sums carried. -/
theorem out3_A (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S512x16 .f32) (harg4 : arg4.IsWhole) (arg5 : Memref sig .tc .vmem S1x16x512 .f32) (harg5 : arg5.IsWhole) (arg6 : Memref sig .tc .vmem S128x1 .f32) (harg6 : arg6.IsWhole) (hc0 : cond0_0 i)
    (x0 : Vec Ideal S512x128 .f32) (x1 : Vec Ideal S1x128 .f32) :
    out0_A_3 (F := Ideal) c i arg2 harg2 arg3 harg3 arg4 harg4 arg5 harg5 arg6 harg6 hc0 x0 x1 = k0_pay6 (F := Ideal) x0 x1 (k0_pay3 (F := Ideal)) := by
  unfold out0_A_3
  rw [View.read_writes_eq_canon _ _ _ (cover0_A_3 c i arg2 harg2 arg3 harg3 arg4 harg4 arg5 harg5 arg6 harg6 hc0 x0 x1)]
  unfold kernelRun0_A
  dsimp only
  refine (View.canon_cons_unit_zero (Val := Elt Ideal) (S := S1x16x512) (e := .f32) z_S1x16x512 inb_S1x16x512_S1x16x512_0_0_0 (k0_pay6 (F := Ideal) (View.ld (arg2.view.read (Elt Ideal) (harg2.unread x0)) (Rect.unit ![0, 0] S512x128.size inb_S512x128_S512x128_0_0)) (View.ld (arg3.view.read (Elt Ideal) (harg3.unread x1)) (Rect.unit ![0, 0] S1x128.size inb_S1x128_S1x128_0_0)) _) _).trans ?_
  rw [View.ld_unit_zero (S := S512x128) z_S512x128, View.ld_unit_zero (S := S1x128) z_S1x128, harg2.read_unread, harg3.read_unread]
  unfold kernelRun0_A.sl.v25 kernelRun0_A.sl.HS0_1
  rw [View.readCov_unit_zero (Val := Elt Ideal) (S := S128x1) (e := .f32) _ z_S128x1]

/-- What a first tile leaves: the last of the running sums, to carry. -/
theorem sout_A (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S512x16 .f32) (harg4 : arg4.IsWhole) (arg5 : Memref sig .tc .vmem S1x16x512 .f32) (harg5 : arg5.IsWhole) (arg6 : Memref sig .tc .vmem S128x1 .f32) (harg6 : arg6.IsWhole) (hc0 : cond0_0 i)
    (x0 : Vec Ideal S512x128 .f32) (x1 : Vec Ideal S1x128 .f32) :
    sout0_A_0 (F := Ideal) c i arg2 harg2 arg3 harg3 arg4 harg4 arg5 harg5 arg6 harg6 hc0 x0 x1 = k0_pay5 (F := Ideal) x0 x1 (k0_pay3 (F := Ideal)) := by
  unfold sout0_A_0
  rw [View.read_writes_eq_canon _ _ _ (scover0_A_0 c i arg2 harg2 arg3 harg3 arg4 harg4 arg5 harg5 arg6 harg6 hc0 x0 x1)]
  unfold kernelRun0_A
  dsimp only
  refine (View.canon_cons_unit_zero (Val := Elt Ideal) (S := S128x1) (e := .f32) z_S128x1 inb_S128x1_S128x1_0_0 (k0_pay5 (F := Ideal) (View.ld (arg2.view.read (Elt Ideal) (harg2.unread x0)) (Rect.unit ![0, 0] S512x128.size inb_S512x128_S512x128_0_0)) (View.ld (arg3.view.read (Elt Ideal) (harg3.unread x1)) (Rect.unit ![0, 0] S1x128.size inb_S1x128_S1x128_0_0)) _) _).trans ?_
  rw [View.ld_unit_zero (S := S512x128) z_S512x128, View.ld_unit_zero (S := S1x128) z_S1x128, harg2.read_unread, harg3.read_unread]
  unfold kernelRun0_A.sl.v25 kernelRun0_A.sl.HS0_1
  rw [View.readCov_unit_zero (Val := Elt Ideal) (S := S128x1) (e := .f32) _ z_S128x1]

/-- What a later tile leaves: the logs of its tokens' gates. -/
theorem out2_B (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S512x16 .f32) (harg4 : arg4.IsWhole) (arg5 : Memref sig .tc .vmem S1x16x512 .f32) (harg5 : arg5.IsWhole) (arg6 : Memref sig .tc .vmem S128x1 .f32) (harg6 : arg6.IsWhole) (hc0 : ¬cond0_0 i)
    (x0 : Vec Ideal S512x128 .f32) (x1 : Vec Ideal S1x128 .f32) (xs0 : Vec Ideal S128x1 .f32) :
    out0_B_2 (F := Ideal) c i arg2 harg2 arg3 harg3 arg4 harg4 arg5 harg5 arg6 harg6 hc0 x0 x1 xs0 = k0_pay2 (F := Ideal) x0 x1 := by
  unfold out0_B_2
  rw [View.read_writes_eq_canon _ _ _ (cover0_B_2 c i arg2 harg2 arg3 harg3 arg4 harg4 arg5 harg5 arg6 harg6 hc0 x0 x1 xs0)]
  unfold kernelRun0_B
  dsimp only
  refine (View.canon_cons_unit_zero (Val := Elt Ideal) (S := S512x16) (e := .f32) z_S512x16 inb_S512x16_S512x16_0_0 (k0_pay2 (F := Ideal) (View.ld (arg2.view.read (Elt Ideal) (harg2.unread x0)) (Rect.unit ![0, 0] S512x128.size inb_S512x128_S512x128_0_0)) (View.ld (arg3.view.read (Elt Ideal) (harg3.unread x1)) (Rect.unit ![0, 0] S1x128.size inb_S1x128_S1x128_0_0))) _).trans ?_
  rw [View.ld_unit_zero (S := S512x128) z_S512x128, View.ld_unit_zero (S := S1x128) z_S1x128, harg2.read_unread, harg3.read_unread]

/-- What a later tile leaves: their running sums, over the sums carried. -/
theorem out3_B (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S512x16 .f32) (harg4 : arg4.IsWhole) (arg5 : Memref sig .tc .vmem S1x16x512 .f32) (harg5 : arg5.IsWhole) (arg6 : Memref sig .tc .vmem S128x1 .f32) (harg6 : arg6.IsWhole) (hc0 : ¬cond0_0 i)
    (x0 : Vec Ideal S512x128 .f32) (x1 : Vec Ideal S1x128 .f32) (xs0 : Vec Ideal S128x1 .f32) :
    out0_B_3 (F := Ideal) c i arg2 harg2 arg3 harg3 arg4 harg4 arg5 harg5 arg6 harg6 hc0 x0 x1 xs0 = k0_pay6 (F := Ideal) x0 x1 xs0 := by
  unfold out0_B_3
  rw [View.read_writes_eq_canon _ _ _ (cover0_B_3 c i arg2 harg2 arg3 harg3 arg4 harg4 arg5 harg5 arg6 harg6 hc0 x0 x1 xs0)]
  unfold kernelRun0_B
  dsimp only
  refine (View.canon_cons_unit_zero (Val := Elt Ideal) (S := S1x16x512) (e := .f32) z_S1x16x512 inb_S1x16x512_S1x16x512_0_0_0 (k0_pay6 (F := Ideal) (View.ld (arg2.view.read (Elt Ideal) (harg2.unread x0)) (Rect.unit ![0, 0] S512x128.size inb_S512x128_S512x128_0_0)) (View.ld (arg3.view.read (Elt Ideal) (harg3.unread x1)) (Rect.unit ![0, 0] S1x128.size inb_S1x128_S1x128_0_0)) (View.ld (arg6.view.read (Elt Ideal) (harg6.unread xs0)) (Rect.unit ![0, 0] S128x1.size inb_S128x1_S128x1_0_0))) _).trans ?_
  rw [View.ld_unit_zero (S := S512x128) z_S512x128, View.ld_unit_zero (S := S1x128) z_S1x128, harg2.read_unread, harg3.read_unread, View.ld_unit_zero (S := S128x1) z_S128x1, harg6.read_unread]

/-- What a later tile leaves: the last of the running sums, to carry. -/
theorem sout_B (c : Dev nD) (i : grid0.Coords) (arg2 : Memref sig .tc .vmem S512x128 .f32) (harg2 : arg2.IsWhole) (arg3 : Memref sig .tc .vmem S1x128 .f32) (harg3 : arg3.IsWhole) (arg4 : Memref sig .tc .vmem S512x16 .f32) (harg4 : arg4.IsWhole) (arg5 : Memref sig .tc .vmem S1x16x512 .f32) (harg5 : arg5.IsWhole) (arg6 : Memref sig .tc .vmem S128x1 .f32) (harg6 : arg6.IsWhole) (hc0 : ¬cond0_0 i)
    (x0 : Vec Ideal S512x128 .f32) (x1 : Vec Ideal S1x128 .f32) (xs0 : Vec Ideal S128x1 .f32) :
    sout0_B_0 (F := Ideal) c i arg2 harg2 arg3 harg3 arg4 harg4 arg5 harg5 arg6 harg6 hc0 x0 x1 xs0 = k0_pay5 (F := Ideal) x0 x1 xs0 := by
  unfold sout0_B_0
  rw [View.read_writes_eq_canon _ _ _ (scover0_B_0 c i arg2 harg2 arg3 harg3 arg4 harg4 arg5 harg5 arg6 harg6 hc0 x0 x1 xs0)]
  unfold kernelRun0_B
  dsimp only
  refine (View.canon_cons_unit_zero (Val := Elt Ideal) (S := S128x1) (e := .f32) z_S128x1 inb_S128x1_S128x1_0_0 (k0_pay5 (F := Ideal) (View.ld (arg2.view.read (Elt Ideal) (harg2.unread x0)) (Rect.unit ![0, 0] S512x128.size inb_S512x128_S512x128_0_0)) (View.ld (arg3.view.read (Elt Ideal) (harg3.unread x1)) (Rect.unit ![0, 0] S1x128.size inb_S1x128_S1x128_0_0)) (View.ld (arg6.view.read (Elt Ideal) (harg6.unread xs0)) (Rect.unit ![0, 0] S128x1.size inb_S128x1_S128x1_0_0))) _).trans ?_
  rw [View.ld_unit_zero (S := S512x128) z_S512x128, View.ld_unit_zero (S := S1x128) z_S1x128, harg2.read_unread, harg3.read_unread, View.ld_unit_zero (S := S128x1) z_S128x1, harg6.read_unread]

end Cert.Kernel6Ideal.Gates
-- ==== Proof.GatesPay.lean ====
module

public import proofs.«01_k».proof.Proof.Gate
public import proofs.«01_k».proof.Proof.Gen.Kernel6Ideal.Frame
public import Idealize.ShloMosaic.Lib.WordCmp

@[expose] public section

set_option maxRecDepth 16384

noncomputable section

open Idealize.ShloMosaic Idealize.ShloMosaic.TcCoe Idealize.SL.Sem

namespace Cert.Kernel6Ideal.Gates
open Cert.Kernel6Ideal.Gen Cert.Gate

/-- A tile's gates. -/
theorem pay1_apply (x0 : Vec Ideal S512x128 .f32) (x1 : Vec Ideal S1x128 .f32) (r : Fin 512) (l : Fin 128) :
    (k0_pay1 (F := Ideal) x0 x1 : S512x128.Idx → EReal) (ix2 r l) = lsig ((x0 (ix2 r l) : EReal) + (x1 (ix2 0 l) : EReal)) := by
  unfold k0_pay1 lsig
  simp only [shapeCast_self]
  pointwise []
  rfl

/-- … in the stored columns. -/
theorem pay2_apply (x0 : Vec Ideal S512x128 .f32) (x1 : Vec Ideal S1x128 .f32) (r : Fin 512) (h : Fin 16) (l : Fin 128) (hl : l.val = h.val) :
    (k0_pay2 (F := Ideal) x0 x1 : S512x16.Idx → EReal) (ix2 r h) = lsig ((x0 (ix2 r l) : EReal) + (x1 (ix2 0 l) : EReal)) := by
  rw [← pay1_apply]
  unfold k0_pay2
  refine congrArg (k0_pay1 (F := Ideal) x0 x1) (funext fun a => Fin.ext ?_)
  match a with
  | 0 => show 0 + r.val = r.val; omega
  | 1 => show 0 + h.val = l.val; omega

/-- The carried sums start at zero. -/
theorem pay3_apply (l : Fin 128) : (k0_pay3 (F := Ideal) : S128x1.Idx → EReal) (ix2 l 0) = 0 := by
  unfold k0_pay3
  simp only [shapeCast_self]
  pointwise []

/-- The triangle of ones. -/
theorem tri_apply (s t : Fin 512) : (sitofp .f32 (extui 32 (cmpi .sle (iota .tc S512x512 32 [0] iota_S512x512_d0_w32) (iota .tc S512x512 32 [1] iota_S512x512_d1_w32)) natLt_1_32) : FVec Ideal S512x512 .f32) (ix2 s t)
    = (if s.val ≤ t.val then 1 else 0 : EReal) := by
  have hs := s.isLt
  have ht := t.isLt
  have e : cmpi .sle (iota .tc S512x512 32 [0] iota_S512x512_d0_w32) (iota .tc S512x512 32 [1] iota_S512x512_d1_w32) (ix2 s t) = BitVec.ofBool (decide (s.val ≤ t.val)) := by
    show IntOp.cmpi .sle (iota .tc S512x512 32 [0] iota_S512x512_d0_w32 (ix2 s t)) (iota .tc S512x512 32 [1] iota_S512x512_d1_w32 (ix2 s t)) = _
    rw [iota_single_apply, iota_single_apply]
    exact WordCmp.cmpi_sle_ofNat (by show s.val < _; omega) (by show t.val < _; omega)
  show ((((cmpi .sle (iota .tc S512x512 32 [0] iota_S512x512_d0_w32) (iota .tc S512x512 32 [1] iota_S512x512_d1_w32) (ix2 s t)).setWidth 32).toInt : ℝ) : EReal) = _
  rw [e]
  by_cases h : s.val ≤ t.val
  · rw [if_pos h, decide_eq_true h]; simp
  · rw [if_neg h, decide_eq_false h]; simp

theorem dims : dot_S128x512_S512x512_S128x512_1_0_0_1_n_n = DotDims.plain 128 512 512 := rfl

/-- A tile's running sums, over the sums carried into it. -/
theorem pay4_apply (x0 : Vec Ideal S512x128 .f32) (x1 : Vec Ideal S1x128 .f32) (v : Vec Ideal S128x1 .f32) (l : Fin 128) (t : Fin 512) :
    (k0_pay4 (F := Ideal) x0 x1 v : S128x512.Idx → EReal) (ix2 l t)
      = ∑ s : Fin 512, lsig ((x0 (ix2 s l) : EReal) + (x1 (ix2 0 l) : EReal)) * (if s.val ≤ t.val then 1 else 0) + (v (ix2 l 0) : EReal) := by
  have e : ∀ s : Fin 512, lsig ((x0 (ix2 s l) : EReal) + (x1 (ix2 0 l) : EReal)) * (if s.val ≤ t.val then 1 else 0)
      = (k0_pay1 (F := Ideal) x0 x1 : S512x128.Idx → EReal) (ix2 s l) * (sitofp .f32 (extui 32 (cmpi .sle (iota .tc S512x512 32 [0] iota_S512x512_d0_w32) (iota .tc S512x512 32 [1] iota_S512x512_d1_w32)) natLt_1_32) : FVec Ideal S512x512 .f32) (ix2 s t) := fun s => by
    rw [pay1_apply, tri_apply]
  rw [Finset.sum_congr rfl fun s _ => e s]
  unfold k0_pay4
  rw [dims]
  generalize k0_pay1 (F := Ideal) x0 x1 = p
  generalize (sitofp .f32 (extui 32 (cmpi .sle (iota .tc S512x512 32 [0] iota_S512x512_d0_w32) (iota .tc S512x512 32 [1] iota_S512x512_d1_w32)) natLt_1_32) : FVec Ideal S512x512 .f32) = q
  pointwise [Ideal.matmul_plain_apply]

theorem pay5_apply (x0 : Vec Ideal S512x128 .f32) (x1 : Vec Ideal S1x128 .f32) (v : Vec Ideal S128x1 .f32) (l : Fin 128) :
    (k0_pay5 (F := Ideal) x0 x1 v : S128x1.Idx → EReal) (ix2 l 0) = k0_pay4 (F := Ideal) x0 x1 v (ix2 l 511) := by
  unfold k0_pay5
  simp only [shapeCast_self]
  refine congrArg (k0_pay4 (F := Ideal) x0 x1 v) (funext fun a => Fin.ext ?_)
  match a with
  | 0 => show 0 + l.val = l.val; omega
  | 1 => rfl

theorem pay6_apply (x0 : Vec Ideal S512x128 .f32) (x1 : Vec Ideal S1x128 .f32) (v : Vec Ideal S128x1 .f32) (h : Fin 16) (t : Fin 512) (l : Fin 128) (hl : l.val = h.val) :
    (k0_pay6 (F := Ideal) x0 x1 v : S1x16x512.Idx → EReal) (ix3 0 h t) = k0_pay4 (F := Ideal) x0 x1 v (ix2 l t) := by
  unfold k0_pay6
  refine (shapeCast_apply _ _ (ix3 0 h t) (ix2 h t) (by rw [Shape.rowMajor_val_two, Shape.rowMajor_val_three]; show h.val * 512 + t.val = (0 * 16 + h.val) * 512 + t.val; omega)).trans ?_
  refine congrArg (k0_pay4 (F := Ideal) x0 x1 v) (funext fun a => Fin.ext ?_)
  match a with
  | 0 => show 0 + h.val = l.val; omega
  | 1 => show 0 + t.val = t.val; omega

end Cert.Kernel6Ideal.Gates
-- ==== Proof.GatesVal.lean ====
module

public import proofs.«01_k».proof.Proof.GatesBody
public import proofs.«01_k».proof.Proof.GatesPay
public import Idealize.ShloMosaic.Lib.Routing.OpsOne

@[expose] public section

set_option maxRecDepth 16384

noncomputable section

open Idealize.ShloMosaic Idealize.ShloMosaic.TcCoe Idealize.SL.Sem

namespace Cert.Kernel6Ideal.Gates
open Cert.Kernel6Ideal.Gen Cert.Gate
open Idealize.ShloMosaic.Pipeline (Dat Cfg)

variable (m : (ℓ : Loc nD τ sig) → Buf (Elt Ideal) ℓ) (ρ : Dev nD → PrngReg) (c : Dev nD)

/-- The arguments of one device. -/
abbrev A0 : S8192x640.Idx → EReal := m ((c.tc : Thread nD τ).loc main_arg0)
abbrev A1 : S1x16.Idx → EReal := m ((c.tc : Thread nD τ).loc main_arg1)

/-- The block each window takes at a grid point. -/
theorem index0 : ∀ t : Fin cfg0.N, win0_0.index t (0 : Fin 2) = t.val ∧ win0_0.index t (1 : Fin 2) = 4 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 3) = t.val / 8 ∧ win0_3.index t (1 : Fin 3) = 0 ∧ win0_3.index t (2 : Fin 3) = t.val % 8 :=
  (by decide +kernel : ∀ t : Fin grid0.N, _)

theorem N_le (t : Fin cfg0.N) : t.val < 16 := lt_of_lt_of_eq t.isLt (show cfg0.N = 16 from N_0)

/-- A bias stays in its column when the row of biases is padded with zeros. -/
theorem pad_apply (x : S1x128.Idx → EReal) (idx : IVec S2 32) (u : S16.Idx → EReal) (hi : ∀ q : S2.Idx, idx q = 0#32) (h : Fin 16) (l : Fin 128) (hl : l.val = h.val) :
    Host.scatter scatter_S1x128_S2_S16_0_0_01_0 (fun _ b => b) x idx u (ix2 0 l) = u (ix1 h) := by
  have st : ∀ (k : S16.Idx) (q : Fin 2), scatter_S1x128_S2_S16_0_0_01_0.start k idx q = 0 := fun k q => by
    rw [Routing.start_pair (R := 1) (C := 128) (u := S16) scatter_S1x128_S2_S16_0_0_01_0 rfl rfl idx k q, hi]
    rfl
  have w0 : ∀ k : S16.Idx, scatter_S1x128_S2_S16_0_0_01_0.window k (0 : Fin 2) = 0 := fun k => rfl
  have w1 : ∀ k : S16.Idx, scatter_S1x128_S2_S16_0_0_01_0.window k (1 : Fin 2) = (k 0).val := fun k => rfl
  have hit : ∀ k : S16.Idx, scatter_S1x128_S2_S16_0_0_01_0.resultIdx? k idx = some (ix2 0 l) ↔ k = ix1 h := fun k => by
    rw [Routing.resultIdx?_eq_some]
    constructor
    · intro q
      have q1 : scatter_S1x128_S2_S16_0_0_01_0.start k idx (1 : Fin 2) + (scatter_S1x128_S2_S16_0_0_01_0.window k (1 : Fin 2) : ℤ) = (l.val : ℤ) := q 1
      rw [st, w1] at q1
      rw [eq_ix1 k]
      exact congrArg ix1 (Fin.ext (by show (k 0).val = h.val; omega))
    · rintro rfl a
      match a with
      | 0 => show scatter_S1x128_S2_S16_0_0_01_0.start (ix1 h) idx (0 : Fin 2) + (scatter_S1x128_S2_S16_0_0_01_0.window (ix1 h) (0 : Fin 2) : ℤ) = (0 : ℤ); rw [st, w0]; rfl
      | 1 =>
        show scatter_S1x128_S2_S16_0_0_01_0.start (ix1 h) idx (1 : Fin 2) + (scatter_S1x128_S2_S16_0_0_01_0.window (ix1 h) (1 : Fin 2) : ℤ) = (l.val : ℤ)
        rw [st, w1]
        show (0 : ℤ) + ((h.val : ℕ) : ℤ) = _
        omega
  exact Routing.scatter_set_hit _ x idx u _ _ (fun k hk => congrArg u ((hit k).1 hk)) (ix1 h) ((hit _).2 rfl)

/-- The kernel's row of biases. -/
theorem v5_apply (h : Fin 16) (l : Fin 128) (hl : l.val = h.val) : (V m c main_v5 : S1x128.Idx → EReal) (ix2 0 l) = A1 m c (ix2 0 h) := by
  show StableHlo.after hostOps0 (fun b => m (c, b)) (Proc.devRef .tc main_v5) _ = _
  after_results
  refine (pad_apply _ _ _ (fun q => ?_) h l hl).trans ?_
  · obtain ⟨a, rfl⟩ : ∃ a : Fin 2, q = ix1 a := ⟨q 0, eq_ix1 q⟩
    match a with
    | 0 => rfl
    | 1 => rfl
  · exact shapeCast_apply (A1 m c) shapeCasts_S1x16_S16 (ix1 h) (ix2 0 h) (by rw [Shape.rowMajor_val_two, Shape.rowMajor_val_one]; show 0 * 16 + h.val = h.val; omega)

/-- The batch of a grid point. -/
def bat (n : ℕ) (hn : n < 16) : Fin 2 := ⟨n / 8, by omega⟩

/-- A head's gates over a grid point's batch. -/
abbrev gt (t : Fin cfg0.N) (h : Fin 16) : Fin 4096 → EReal := gate (A0 m c) (A1 m c) (bat t.val (N_le t)) h

/-- A grid point's blocks of the projection and of the biases. -/
abbrev B0 (t : Fin cfg0.N) : S512x128.Idx → EReal := iblk m c 0 t
abbrev B1 (t : Fin cfg0.N) : S1x128.Idx → EReal := iblk m c 1 t

/-- A grid point's gates: its tile's tokens. -/
theorem gate_apply (t : Fin cfg0.N) (r : Fin 512) (h : Fin 16) (l : Fin 128) (hl : l.val = h.val) :
    lsig (B0 m c t (ix2 r l) + B1 m c t (ix2 0 l)) = ext (gt m c t h) (512 * (t.val % 8) + r.val) := by
  have hr := r.isLt
  have ht := N_le t
  unfold ext
  rw [dif_pos (by omega)]
  unfold gt gate
  refine congrArg lsig (congrArg₂ (fun a b : EReal => a + b) ?_ ?_)
  · obtain ⟨e0, e1⟩ := index0 t
    refine Eq.trans ?_ (congrFun (V_main_arg0 m c) _)
    refine congrArg (V m c main_arg0) (funext fun a => Fin.ext ?_)
    match a with
    | 0 => show win0_0.index t (0 : Fin 2) * 512 + 1 * r.val = 4096 * (t.val / 8) + (512 * (t.val % 8) + r.val); omega
    | 1 => show win0_0.index t (1 : Fin 2) * 128 + 1 * l.val = 512 + h.val; omega
  · obtain ⟨e0, e1⟩ := index1 t
    rw [← v5_apply m c h l hl]
    refine congrArg (V m c main_v5) (funext fun a => Fin.ext ?_)
    match a with
    | 0 => show win0_1.index t (0 : Fin 2) * 1 + 1 * 0 = 0; omega
    | 1 => show win0_1.index t (1 : Fin 2) * 128 + 1 * l.val = l.val; omega

/-- A grid point's running sums, over the sum of its batch's earlier tiles. -/
theorem sums_apply (t : Fin cfg0.N) (v : Vec Ideal S128x1 .f32) (h : Fin 16) (l : Fin 128) (hl : l.val = h.val)
    (hv : (v (ix2 l 0) : EReal) = upTo (gt m c t h) (512 * (t.val % 8))) (s : Fin 512) :
    (k0_pay4 (F := Ideal) (iblk m c 0 t) (iblk m c 1 t) v : S128x512.Idx → EReal) (ix2 l s) = upTo (gt m c t h) (512 * (t.val % 8) + (s.val + 1)) := by
  rw [pay4_apply, hv]
  exact tile_sum _ _ _ _ s (fun r => gate_apply m c t r h l hl) fun _ => rfl

/-- What the scratch array holds after every point: the sums of the batch's tiles so far. -/
theorem carried (n : ℕ) (hn : n < cfg0.N) (h : Fin 16) (l : Fin 128) (hl : l.val = h.val) :
    ((outsAt0 m c n hn).2.2 (ix2 l 0) : EReal) = upTo (gt m c ⟨n, hn⟩ h) (512 * (n % 8) + (511 + 1)) := by
  induction n with
  | zero =>
    have e : outsAt0 m c 0 hn = _ := outsAt0_A m c ⟨0, hn⟩ rfl
    rw [e]
    dsimp only
    rw [sout_A, pay5_apply]
    exact sums_apply m c ⟨0, hn⟩ _ h l hl (pay3_apply l) 511
  | succ n ih =>
    by_cases h0 : (n + 1) % 8 = 0
    · have e : outsAt0 m c (n + 1) hn = _ := outsAt0_A m c ⟨n + 1, hn⟩ h0
      rw [e]
      dsimp only
      rw [sout_A, pay5_apply]
      refine sums_apply m c ⟨n + 1, hn⟩ _ h l hl ((pay3_apply l).trans ?_) 511
      show 0 = upTo _ (512 * ((n + 1) % 8))
      rw [h0]
      rfl
    · have e : outsAt0 m c (n + 1) hn = _ := outsAt0_B m c ⟨n + 1, hn⟩ h0
      have hn' : n < cfg0.N := by omega
      have hb : bat n (N_le ⟨n, hn'⟩) = bat (n + 1) (N_le ⟨n + 1, hn⟩) := Fin.ext (by show n / 8 = (n + 1) / 8; omega)
      rw [e]
      dsimp only
      rw [sout_B, pay5_apply]
      refine sums_apply m c ⟨n + 1, hn⟩ _ h l hl ((ih hn').trans ?_) 511
      unfold gt
      rw [hb]
      exact congrArg (upTo _) (by show 512 * (n % 8) + (511 + 1) = 512 * ((n + 1) % 8); omega)

/-- What a grid point leaves in the first result's buffer … -/
theorem left2 (t : Fin cfg0.N) (r : Fin 512) (h : Fin 16) : ((outsAt0 m c t.val t.isLt).1 (ix2 r h) : EReal) = ext (gt m c t h) (512 * (t.val % 8) + r.val) := by
  have hh := h.isLt
  by_cases h0 : t.val % 8 = 0
  · rw [outsAt0_A m c t h0]
    dsimp only
    rw [out2_A, pay2_apply _ _ r h ⟨h.val, by omega⟩ rfl]
    exact gate_apply m c t r h ⟨h.val, by omega⟩ rfl
  · rw [outsAt0_B m c t h0]
    dsimp only
    rw [out2_B, pay2_apply _ _ r h ⟨h.val, by omega⟩ rfl]
    exact gate_apply m c t r h ⟨h.val, by omega⟩ rfl

/-- … and in the second's. -/
theorem left3 (t : Fin cfg0.N) (h : Fin 16) (s : Fin 512) : ((outsAt0 m c t.val t.isLt).2.1 (ix3 0 h s) : EReal) = upTo (gt m c t h) (512 * (t.val % 8) + (s.val + 1)) := by
  have hh := h.isLt
  by_cases h0 : t.val % 8 = 0
  · rw [outsAt0_A m c t h0]
    dsimp only
    rw [out3_A, pay6_apply _ _ _ h s ⟨h.val, by omega⟩ rfl]
    refine sums_apply m c t _ h _ rfl ((pay3_apply _).trans ?_) s
    rw [h0]
    rfl
  · have hp : t.val - 1 < cfg0.N := Nat.lt_of_le_of_lt (Nat.sub_le _ _) t.isLt
    have hb : bat (t.val - 1) (N_le ⟨t.val - 1, hp⟩) = bat t.val (N_le t) := Fin.ext (by show (t.val - 1) / 8 = t.val / 8; omega)
    rw [outsAt0_B m c t h0]
    dsimp only
    rw [out3_B, pay6_apply _ _ _ h s ⟨h.val, by omega⟩ rfl]
    refine sums_apply m c t _ h _ rfl ((carried m c (t.val - 1) hp h _ rfl).trans ?_) s
    unfold gt
    rw [hb]
    exact congrArg (upTo _) (by show 512 * ((t.val - 1) % 8) + (511 + 1) = 512 * (t.val % 8); omega)

/-- The two arrays: the gates by row of the projection, and their sums by batch, head and token. -/
def G2 : S8192x16.Idx → EReal := fun i => gate (A0 m c) (A1 m c) ⟨(i 0).val / 4096, by have h : (i 0).val < 8192 := (i 0).isLt; omega⟩ (i 1) ⟨(i 0).val % 4096, Nat.mod_lt _ (by decide)⟩
def G3 : S2x16x4096.Idx → EReal := fun i => upTo (gate (A0 m c) (A1 m c) (i 0) (i 1)) ((i 2).val + 1)

theorem flushed2 (t : Fin cfg0.N) : (dats m 0 c).flushed 2 t = ((cfg0.win 2).blk t).view.read (Elt Ideal) (G2 m c) := by
  obtain ⟨e0, e1⟩ := index2 t
  have ht := N_le t
  show (cfg0.win 2).cut (grid0.coords t) ((dats m 0 c).after 2 t) = _
  rw [after0_2]
  funext y
  obtain ⟨r, h, rfl⟩ : ∃ (r : Fin 512) (h : Fin 16), y = ix2 r h := ⟨y 0, y 1, eq_ix2 y⟩
  have hr := r.isLt
  have hemb : ((cfg0.win 2).blk t).view.emb (ix2 r h) = (ix2 ⟨512 * t.val + r.val, by omega⟩ h : S8192x16.Idx) := by
    refine funext fun a => Fin.ext ?_
    match a with
    | 0 => show win0_2.index t (0 : Fin 2) * 512 + 1 * r.val = 512 * t.val + r.val; omega
    | 1 => show win0_2.index t (1 : Fin 2) * 16 + 1 * h.val = h.val; omega
  refine (left2 m c t r h).trans (Eq.trans ?_ (congrArg (G2 m c) hemb).symm)
  unfold ext G2 gt
  rw [dif_pos (by omega)]
  refine congr (congrFun (congrArg (gate (A0 m c) (A1 m c)) (Fin.ext ?_)) h) (Fin.ext ?_)
  · show t.val / 8 = (512 * t.val + r.val) / 4096; omega
  · show 512 * (t.val % 8) + r.val = (512 * t.val + r.val) % 4096; omega

theorem flushed3 (t : Fin cfg0.N) : (dats m 0 c).flushed 3 t = ((cfg0.win 3).blk t).view.read (Elt Ideal) (G3 m c) := by
  obtain ⟨e0, e1, e2⟩ := index3 t
  have ht := N_le t
  show (cfg0.win 3).cut (grid0.coords t) ((dats m 0 c).after 3 t) = _
  rw [after0_3]
  funext y
  obtain ⟨h, s, rfl⟩ : ∃ (h : Fin 16) (s : Fin 512), y = ix3 0 h s := ⟨y 1, y 2, (eq_ix3 y).trans (congrFun (congrFun (congrArg ix3 (Subsingleton.elim (α := Fin 1) _ _)) _) _)⟩
  have hs := s.isLt
  have hemb : ((cfg0.win 3).blk t).view.emb (ix3 0 h s) = (ix3 (bat t.val ht) h ⟨512 * (t.val % 8) + s.val, by omega⟩ : S2x16x4096.Idx) := by
    refine funext fun a => Fin.ext ?_
    match a with
    | 0 => show win0_3.index t (0 : Fin 3) * 1 + 1 * 0 = t.val / 8; omega
    | 1 => show win0_3.index t (1 : Fin 3) * 16 + 1 * h.val = h.val; omega
    | 2 => show win0_3.index t (2 : Fin 3) * 512 + 1 * s.val = 512 * (t.val % 8) + s.val; omega
  refine (left3 m c t h s).trans (Eq.trans ?_ (congrArg (G3 m c) hemb).symm)
  rfl

/-- Every element of either result lies in some grid point's block. -/
theorem covered2 (i : S8192x16.Idx) : ∃ t : Fin cfg0.N, (cfg0.win 2).flush t = true ∧ i ∈ ((cfg0.win 2).blk t).view.set := by
  have h0 : (i 0).val < 8192 := (i 0).isLt
  have h1 : (i 1).val < 16 := (i 1).isLt
  let t : Fin cfg0.N := ⟨(i 0).val / 512, lt_of_lt_of_eq (b := 16) (by omega) (show 16 = cfg0.N from N_0.symm)⟩
  obtain ⟨e0, e1⟩ := index2 t
  have tv : t.val = (i 0).val / 512 := rfl
  refine ⟨t, flush0_2 t, ?_⟩
  have hm := ((cfg0.win 2).blk t).view.emb_mem_set (ix2 ⟨(i 0).val % 512, by omega⟩ ⟨(i 1).val, h1⟩)
  have he : ((cfg0.win 2).blk t).view.emb (ix2 ⟨(i 0).val % 512, by omega⟩ ⟨(i 1).val, h1⟩) = i := by
    refine funext fun a => Fin.ext ?_
    match a with
    | 0 => show win0_2.index t (0 : Fin 2) * 512 + 1 * ((i 0).val % 512) = (i 0).val; omega
    | 1 => show win0_2.index t (1 : Fin 2) * 16 + 1 * (i 1).val = (i 1).val; omega
  rwa [he] at hm

theorem covered3 (i : S2x16x4096.Idx) : ∃ t : Fin cfg0.N, (cfg0.win 3).flush t = true ∧ i ∈ ((cfg0.win 3).blk t).view.set := by
  have h0 : (i 0).val < 2 := (i 0).isLt
  have h1 : (i 1).val < 16 := (i 1).isLt
  have h2 : (i 2).val < 4096 := (i 2).isLt
  let t : Fin cfg0.N := ⟨8 * (i 0).val + (i 2).val / 512, lt_of_lt_of_eq (b := 16) (by omega) (show 16 = cfg0.N from N_0.symm)⟩
  obtain ⟨e0, e1, e2⟩ := index3 t
  have tv : t.val = 8 * (i 0).val + (i 2).val / 512 := rfl
  refine ⟨t, flush0_3 t, ?_⟩
  have hm := ((cfg0.win 3).blk t).view.emb_mem_set (ix3 0 ⟨(i 1).val, h1⟩ ⟨(i 2).val % 512, by omega⟩)
  have he : ((cfg0.win 3).blk t).view.emb (ix3 0 ⟨(i 1).val, h1⟩ ⟨(i 2).val % 512, by omega⟩) = i := by
    refine funext fun a => Fin.ext ?_
    match a with
    | 0 => show win0_3.index t (0 : Fin 3) * 1 + 1 * 0 = (i 0).val; omega
    | 1 => show win0_3.index t (1 : Fin 3) * 16 + 1 * (i 1).val = (i 1).val; omega
    | 2 => show win0_3.index t (2 : Fin 3) * 512 + 1 * ((i 2).val % 512) = (i 2).val; omega
  rwa [he] at hm

/-- The region's two arrays. -/
theorem final2 : (dats m 0 c).arrAt 2 cfg0.N = G2 m c := (dats m 0 c).arrAt_eq_of_cover 2 _ (fun t _ => flushed2 m c t) covered2
theorem final3 : (dats m 0 c).arrAt 3 cfg0.N = G3 m c := (dats m 0 c).arrAt_eq_of_cover 3 _ (fun t _ => flushed3 m c t) covered3

/-- The kernel's first result: the gates by layer, batch, token and head. -/
def out0 : FVec Ideal S1x2x4096x16 .f32 := broadcastInDim S1x2x4096x16 ![1, 2, 3] bcast_S2x4096x16_S1x2x4096x16_1_2_3 (shapeCast S2x4096x16 (G2 m c : FVec Ideal S8192x16 .f32) shapeCasts_S8192x16_S2x4096x16)

theorem out0_apply (n : Fin 2) (t : Fin 4096) (h : Fin 16) : out0 m c (ix4 0 n t h) = gate (A0 m c) (A1 m c) n h t := by
  have e : shapeCast S2x4096x16 (G2 m c : FVec Ideal S8192x16 .f32) shapeCasts_S8192x16_S2x4096x16 (ix3 n t h) = gate (A0 m c) (A1 m c) n h t := by
    have ht := t.isLt
    refine (shapeCast_apply _ _ (ix3 n t h) (ix2 (tokn n t) h) (by rw [Shape.rowMajor_val_two, Shape.rowMajor_val_three]; show (4096 * n.val + t.val) * 16 + h.val = (n.val * 4096 + t.val) * 16 + h.val; omega)).trans ?_
    unfold G2
    refine congr (congrFun (congrArg (gate (A0 m c) (A1 m c)) (Fin.ext ?_)) h) (Fin.ext ?_)
    · show (4096 * n.val + t.val) / 4096 = n.val; omega
    · show (4096 * n.val + t.val) % 4096 = t.val; omega
  rw [← e]
  unfold out0
  generalize shapeCast S2x4096x16 (G2 m c : FVec Ideal S8192x16 .f32) shapeCasts_S8192x16_S2x4096x16 = x
  pointwise

/-- The host's last operations leave the first result where the claim reads it. -/
theorem tail_v8 : Pipeline.afterTail₀ cfgs (dats m) 0 (V0 m) [hostOps1] c main_v8 = out0 m c := by
  unfold Pipeline.afterTail₀
  rw [List.flatten_cons, List.flatten_nil, List.append_nil]
  after_results
  unfold out0
  have e := (Pipeline.withArrays_arr spec0 launch0.win.arr_inj c (V0 m c) (fun w => (dats m 0 c).arrAt w cfg0.N) 2).trans (final2 m c)
  refine congrArg (fun x : FVec Ideal S2x4096x16 .f32 => (broadcastInDim S1x2x4096x16 (![1, 2, 3] : Fin S2x4096x16.rank → Fin S1x2x4096x16.rank) bcast_S2x4096x16_S1x2x4096x16_1_2_3 x : FVec Ideal S1x2x4096x16 .f32)) (funext fun i => ?_)
  exact congrArg (fun x : FVec Ideal S8192x16 .f32 => (shapeCast S2x4096x16 x shapeCasts_S8192x16_S2x4096x16 : FVec Ideal S2x4096x16 .f32) i) e

/-- Every execution ends with the two results and the arguments kept. -/
theorem run : θ_run defs (onTc (τ := τ) (main (F := Ideal))) ⟨m, fun _ => 0, ρ⟩ fun r => ∀ c : Dev nD,
    r.2.mem ((c.tc : Thread nD τ).loc main_v8) = out0 m c
    ∧ r.2.mem ((c.tc : Thread nD τ).loc main_v6_1) = G3 m c
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨((h c).2 main_v8 (Pipeline.mem_restRefs_of main_v8 (by decide) (by decide))).trans (tail_v8 m c),
    ((h c).1 3).trans (final3 m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c)⟩) (run_main m ρ)

end Cert.Kernel6Ideal.Gates
-- ==== Proof.GatesRef.lean ====
module

public import proofs.«01_k».proof.Proof.Gate
public import proofs.«01_k».proof.Proof.Gen.Reference6Ideal
public import proofs.«01_k».proof.Proof.Gen.Reference6Ideal.Run

@[expose] public section

set_option maxRecDepth 16384

noncomputable section

open Idealize.ShloMosaic Idealize.ShloMosaic.TcCoe Idealize.SL.Sem

namespace Cert.Reference6Ideal.Gates
open Cert.Reference6Ideal Cert.Reference6Ideal.Gen Cert.Gate

/-- The pre-activations. -/
def pre (z : FVec Ideal S8192x640 .f32) (b : FVec Ideal S1x16 .f32) : FVec Ideal S2x4096x16 .f32 :=
  addf (shapeCast _ (extractStridedSlice S8192x16 ![0, 512] z slices_S8192x640_S8192x16_0_512) shapeCasts_S8192x16_S2x4096x16) (broadcastInDim S2x4096x16 ![0, 1, 2] bcast_S1x1x16_S2x4096x16_0_1_2 (broadcastInDim S1x1x16 ![2] bcast_S16_S1x1x16_2 (shapeCast _ b shapeCasts_S1x16_S16)))

theorem pre_apply (z : FVec Ideal S8192x640 .f32) (b : FVec Ideal S1x16 .f32) (n : Fin 2) (t : Fin 4096) (h : Fin 16) :
    pre z b (ix3 n t h) = (z (ix2 (tokn n t) (col h)) : EReal) + (b (ix2 0 h) : EReal) := by
  unfold pre
  refine congrArg₂ (fun x y : EReal => x + y) ?_ ?_
  · refine (shapeCast_apply _ _ (ix3 n t h) (ix2 (tokn n t) h) (by rw [Shape.rowMajor_val_two, Shape.rowMajor_val_three]; show (4096 * n.val + t.val) * 16 + h.val = (n.val * 4096 + t.val) * 16 + h.val; omega)).trans ?_
    refine congrArg z (funext fun a => Fin.ext ?_)
    match a with
    | 0 => show 0 + (tokn n t).val = (tokn n t).val; omega
    | 1 => rfl
  · refine Eq.trans ?_ (shapeCast_apply b shapeCasts_S1x16_S16 (ix1 h) (ix2 0 h) (by rw [Shape.rowMajor_val_two, Shape.rowMajor_val_one]; show 0 * 16 + h.val = h.val; omega))
    generalize shapeCast S16 b shapeCasts_S1x16_S16 = x
    pointwise

/-- The log of the logistic function, as the reference composes it. -/
def logs (u : FVec Ideal S2x4096x16 .f32) : FVec Ideal S2x4096x16 .f32 :=
  Host.negf (select (cmpf .une (subf (Host.negf u) (broadcastInDim S2x4096x16 ![] bcast_S_S2x4096x16 (constant S_ .f32 0x00000000#32))) (subf (Host.negf u) (broadcastInDim S2x4096x16 ![] bcast_S_S2x4096x16 (constant S_ .f32 0x00000000#32)))) (addf (Host.negf u) (broadcastInDim S2x4096x16 ![] bcast_S_S2x4096x16 (constant S_ .f32 0x00000000#32))) (addf (maximumf (Host.negf u) (broadcastInDim S2x4096x16 ![] bcast_S_S2x4096x16 (constant S_ .f32 0x00000000#32))) (Host.log1p (Host.exp (Host.negf (Host.absf (subf (Host.negf u) (broadcastInDim S2x4096x16 ![] bcast_S_S2x4096x16 (constant S_ .f32 0x00000000#32)))))))))

theorem logs_apply (u : FVec Ideal S2x4096x16 .f32) (i : S2x4096x16.Idx) : logs u i = lsig (u i) := by
  rw [← neg_softplus]
  have hz : (broadcastInDim S2x4096x16 ![] bcast_S_S2x4096x16 (constant S_ .f32 0x00000000#32) : FVec Ideal S2x4096x16 .f32) i = (0 : EReal) := by
    pointwise
  unfold logs
  generalize (broadcastInDim S2x4096x16 ![] bcast_S_S2x4096x16 (constant S_ .f32 0x00000000#32) : FVec Ideal S2x4096x16 .f32) = w at hz ⊢
  show -(if Ideal.cmp .une ((-(u i : EReal)) - w i) ((-(u i : EReal)) - w i) = 1#1 then (-(u i : EReal)) + w i else max (-(u i : EReal)) (w i) + Ideal.log1p (Ideal.exp (-(max (-(u i : EReal) - w i) (-(-(u i : EReal) - w i)))))) = _
  have hc : ∀ x : EReal, Ideal.cmp .une x x = 0#1 := fun x => by unfold Ideal.cmp; simp
  rw [hc, if_neg (by decide), hz]

/-- The running sums along the tokens. -/
def sums (x : FVec Ideal S2x4096x16 .f32) : FVec Ideal S2x4096x16 .f32 :=
  Host.reduceWindowAdd ![1, 4096, 1] ![1, 1, 1] ![0, 4095, 0] ![0, 0, 0] x (broadcastInDim S_ ![] bcast_S_S_ (constant S_ .f32 0x00000000#32)) reduceWindows_S2x4096x16_S2x4096x16_w1s1p0_0_w4096s1p4095_0_w1s1p0_0 h_S_

/-- A window's positions: its place along the tokens. -/
abbrev Win : Shape := ⟨3, ![1, 4096, 1]⟩

theorem sum_win (g : Win.Idx → EReal) : ∑ n : Fin Win.numel, g (Win.rowMajor.symm n) = ∑ k : Fin 4096, g (ix3 0 k 0) := by
  rw [Equiv.sum_comp Win.rowMajor.symm g]
  refine Fintype.sum_bijective (fun i : Win.Idx => (i 1 : Fin 4096)) ⟨fun i j h => ?_, fun k => ⟨ix3 0 k 0, rfl⟩⟩ _ _ fun i => ?_
  · rw [eq_ix3 i, eq_ix3 j]
    exact congr (congr (congrArg ix3 (Subsingleton.elim (α := Fin 1) _ _)) h) (Subsingleton.elim (α := Fin 1) _ _)
  · refine congrArg g ?_
    conv_lhs => rw [eq_ix3 i]
    exact congr (congr (congrArg ix3 (Subsingleton.elim (α := Fin 1) _ _)) rfl) (Subsingleton.elim (α := Fin 1) _ _)

theorem sums_apply (x : FVec Ideal S2x4096x16 .f32) (n : Fin 2) (t : Fin 4096) (h : Fin 16) :
    sums x (ix3 n t h) = upTo (fun s => (x (ix3 n s h) : EReal)) (t.val + 1) := by
  have hi : (broadcastInDim S_ ![] bcast_S_S_ (constant S_ .f32 0x00000000#32) : FVec Ideal S_ .f32) (Shape.Idx.first h_S_) = (0 : EReal) := by
    pointwise
  unfold sums Host.reduceWindowAdd
  rw [hi]
  show Ideal.hostReduceWindowAdd ![1, 4096, 1] ![1, 1, 1] ![0, 4095, 0] ![0, 0, 0] reduceWindows_S2x4096x16_S2x4096x16_w1s1p0_0_w4096s1p4095_0_w1s1p0_0 x (0 : EReal) (ix3 n t h) = _
  unfold Ideal.hostReduceWindowAdd Host.reduceWindow
  refine (foldl_sum Win.numel _).trans ?_
  let p : Win.Idx → Fin S2x4096x16.rank → ℕ := fun w a => ((ix3 n t h : S2x4096x16.Idx) a).val * (![1, 1, 1] : Fin 3 → ℕ) a + (w a).val
  refine (sum_win fun w => @dite EReal (∀ a : Fin S2x4096x16.rank, (![0, 4095, 0] : Fin 3 → ℕ) a ≤ p w a ∧ p w a - (![0, 4095, 0] : Fin 3 → ℕ) a < S2x4096x16.size a)
    (Nat.decidableForallFin _) (fun hin => x (fun a => ⟨p w a - (![0, 4095, 0] : Fin 3 → ℕ) a, (hin a).2⟩)) fun _ => 0).trans ?_
  rw [← window_sum 4095 rfl]
  refine Finset.sum_congr rfl fun k _ => ?_
  have hn := n.isLt
  have ht := t.isLt
  have hh := h.isLt
  have hk := k.isLt
  by_cases e : 4095 ≤ t.val + k.val
  · rw [if_pos e, dif_pos]
    · unfold ext
      rw [dif_pos (by omega)]
      refine congrArg x (funext fun a => Fin.ext ?_)
      match a with
      | 0 => show n.val * 1 + 0 - 0 = n.val; omega
      | 1 => show t.val * 1 + k.val - 4095 = t.val + k.val - 4095; omega
      | 2 => show h.val * 1 + 0 - 0 = h.val; omega
    · intro a
      match a with
      | 0 => show 0 ≤ n.val * 1 + 0 ∧ n.val * 1 + 0 - 0 < 2; omega
      | 1 => show 4095 ≤ t.val * 1 + k.val ∧ t.val * 1 + k.val - 4095 < 4096; omega
      | 2 => show 0 ≤ h.val * 1 + 0 ∧ h.val * 1 + 0 - 0 < 16; omega
  · rw [if_neg e, dif_neg]
    intro q
    have q1 : 4095 ≤ t.val * 1 + k.val := (q 1).1
    omega

/-- The reference's two results. -/
def out0 (z : FVec Ideal S8192x640 .f32) (b : FVec Ideal S1x16 .f32) : FVec Ideal S1x2x4096x16 .f32 :=
  broadcastInDim S1x2x4096x16 ![1, 2, 3] bcast_S2x4096x16_S1x2x4096x16_1_2_3 (logs (pre z b))

def out1 (z : FVec Ideal S8192x640 .f32) (b : FVec Ideal S1x16 .f32) : FVec Ideal S2x16x4096 .f32 :=
  transpose S2x16x4096 [0, 2, 1] (sums (logs (pre z b))) transposes_S2x4096x16_S2x16x4096_0_2_1

theorem out0_apply (z : FVec Ideal S8192x640 .f32) (b : FVec Ideal S1x16 .f32) (n : Fin 2) (t : Fin 4096) (h : Fin 16) :
    out0 z b (ix4 0 n t h) = gate z b n h t := by
  refine Eq.trans ?_ ((logs_apply (pre z b) (ix3 n t h)).trans (congrArg lsig (pre_apply z b n t h)))
  unfold out0
  generalize logs (pre z b) = x
  pointwise

theorem out1_apply (z : FVec Ideal S8192x640 .f32) (b : FVec Ideal S1x16 .f32) (n : Fin 2) (h : Fin 16) (t : Fin 4096) :
    out1 z b (ix3 n h t) = upTo (gate z b n h) (t.val + 1) := by
  refine Eq.trans ?_ ((sums_apply (logs (pre z b)) n t h).trans (congrArg (fun f => upTo f (t.val + 1)) (funext fun s => (logs_apply (pre z b) (ix3 n s h)).trans (congrArg lsig (pre_apply z b n s h)))))
  unfold out1
  generalize sums (logs (pre z b)) = x
  pointwise

variable (m : (ℓ : Loc nD τ sig) → Buf (Elt Ideal) ℓ) (ρ : Dev nD → PrngReg)

/-- Every execution of the reference ends with the gates' logs, their running sums, and the arguments kept. -/
theorem run : θ_run defs (onTc (τ := τ) (main (F := Ideal))) ⟨m, fun _ => 0, ρ⟩ fun r => ∀ c : Dev nD,
    r.2.mem ((c.tc : Thread nD τ).loc main_v7) = out0 (m ((c.tc : Thread nD τ).loc main_arg0)) (m ((c.tc : Thread nD τ).loc main_arg1))
    ∧ r.2.mem ((c.tc : Thread nD τ).loc main_v9) = out1 (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  Cert.Reference6Ideal.Value.run m ρ

end Cert.Reference6Ideal.Gates
-- ==== Proof.Gates.lean ====
module

public import proofs.«01_k».proof.Proof.GatesVal
public import proofs.«01_k».proof.Proof.GatesRef
public import proofs.«01_k».proof.Defs

@[expose] public section

set_option maxRecDepth 16384

noncomputable section

open Idealize.ShloMosaic Idealize.ShloMosaic.TcCoe Idealize.SL.Sem

namespace Cert.Gates
open Cert.Gate

/-- The forget gates: the kernel and the reference end with the same logs and the same running sums. -/
theorem gates : algebraic_Kernel6Ideal_Reference6Ideal (hKernel6Ideal := Cert.Kernel6Ideal.Gen.facts)
    (hReference6Ideal := Cert.Reference6Ideal.Gen.facts) := by
  intro m g m' g' _ hargs
  refine ⟨fun c => Kernel6Ideal.Gates.out0 m c, fun c => Kernel6Ideal.Gates.G3 m c, (θ_run Cert.Kernel6Ideal.defs _ _).mono (fun r h c => h c) (Kernel6Ideal.Gates.run m g),
    (θ_run Cert.Reference6Ideal.defs _ _).mono (fun r h c => ?_) (Reference6Ideal.Gates.run m' g')⟩
  obtain ⟨e0, e1⟩ := hargs c
  obtain ⟨h0, h1, hk⟩ := h c
  refine ⟨h0.trans ?_, h1.trans ?_, hk⟩
  · rw [e0, e1]
    funext i
    have hi : i = ix4 0 (i 1) (i 2) (i 3) := (eq_ix4 i).trans (congrFun (congrFun (congrFun (congrArg ix4 (Subsingleton.elim (α := Fin 1) _ _)) _) _) _)
    rw [hi]
    exact (Reference6Ideal.Gates.out0_apply _ _ (i 1) (i 2) (i 3)).trans (Kernel6Ideal.Gates.out0_apply m c (i 1) (i 2) (i 3)).symm
  · rw [e0, e1]
    funext i
    rw [eq_ix3 i]
    exact Reference6Ideal.Gates.out1_apply _ _ (i 0) (i 1) (i 2)

end Cert.Gates
-- ==== Proof.Sample.lean ====
module

public import proofs.«01_k».proof.Proof.Mix

@[expose] public section

set_option maxRecDepth 16384

noncomputable section

open Idealize.ShloMosaic Idealize.ShloMosaic.TcCoe Idealize.SL.Sem

namespace Cert.Linear

/-- The row of the flattened sample batch that a token takes: 32 sequences of 8 tokens. -/
def stok (b : Fin 32) (t : Fin 8) : Fin 256 := ⟨8 * b.val + t.val, by omega⟩

theorem stok_surj (R : Fin 256) : ∃ b t, R = stok b t :=
  ⟨⟨R.val / 8, by omega⟩, ⟨R.val % 8, by omega⟩, Fin.ext (by show R.val = 8 * (R.val / 8) + R.val % 8; omega)⟩

/-- A batch of the sample read as rows, and the other way. -/
theorem stok_cast {D : ℕ} {α : Type} (z : (⟨2, ![256, D]⟩ : Shape).Idx → α) (h : (⟨2, ![256, D]⟩ : Shape).ShapeCasts ⟨3, ![32, 8, D]⟩) (b : Fin 32) (t : Fin 8) (d : Fin D) :
    shapeCast ⟨3, ![32, 8, D]⟩ z h (ix3 b t d) = z (ix2 (stok b t) d) :=
  shapeCast_apply _ _ (ix3 b t d) (ix2 (stok b t) d) (by rw [Shape.rowMajor_val_two, Shape.rowMajor_val_three]; show (8 * b.val + t.val) * D + d.val = (b.val * 8 + t.val) * D + d.val; rw [Nat.mul_comm 8])

theorem stok_flat {D : ℕ} {α : Type} (z : (⟨3, ![32, 8, D]⟩ : Shape).Idx → α) (h : (⟨3, ![32, 8, D]⟩ : Shape).ShapeCasts ⟨2, ![256, D]⟩) (b : Fin 32) (t : Fin 8) (d : Fin D) :
    shapeCast ⟨2, ![256, D]⟩ z h (ix2 (stok b t) d) = z (ix3 b t d) :=
  shapeCast_apply _ _ (ix2 (stok b t) d) (ix3 b t d) (by rw [Shape.rowMajor_val_two, Shape.rowMajor_val_three]; show (b.val * 8 + t.val) * D + d.val = (8 * b.val + t.val) * D + d.val; rw [Nat.mul_comm 8])

end Cert.Linear
-- ==== Proof.Window.lean ====
module

public import proofs.«01_k».proof.Proof.Sample

@[expose] public section

set_option maxRecDepth 16384

noncomputable section

open Idealize.ShloMosaic Idealize.ShloMosaic.TcCoe Idealize.SL.Sem

namespace Cert.Linear

/-- A concatenation along the middle of three axes, read inside its piece. -/
theorem mid3 {B n m D : ℕ} {α : Type} (xs : List ((s : Shape) × (s.Idx → α))) (h : Shape.Concatenates (xs.map (·.1)) ⟨3, ![B, n, D]⟩ 1)
    (k : ℕ) (hk : k < xs.length) (x : (⟨3, ![B, m, D]⟩ : Shape).Idx → α) (hx : xs[k] = ⟨_, x⟩) (pre : ℕ)
    (hpre : (((xs.take k).map (·.1)).map fun s => if h : s.rank = (⟨3, ![B, n, D]⟩ : Shape).rank then s.size ((1 : Fin 3).cast h.symm) else 0).sum = pre)
    (b : Fin B) (l : Fin n) (d : Fin D) (p : Fin m) (e : pre + p.val = l.val) :
    concatenate ⟨3, ![B, n, D]⟩ 1 xs h (ix3 b l d) = x (ix3 b p d) :=
  concatenate_apply_piece 1 xs h (ix3 b l d) k hk _ x hx rfl pre hpre (ix3 b p d)
    (fun a => match a with | 0 => fun _ => rfl | 1 => fun ha => absurd rfl ha | 2 => fun _ => rfl) e

/-- A concatenation along the second of four axes, read inside its piece. -/
theorem mid4 {B n m H D : ℕ} {α : Type} (xs : List ((s : Shape) × (s.Idx → α))) (h : Shape.Concatenates (xs.map (·.1)) ⟨4, ![B, n, H, D]⟩ 1)
    (k : ℕ) (hk : k < xs.length) (x : (⟨4, ![B, m, H, D]⟩ : Shape).Idx → α) (hx : xs[k] = ⟨_, x⟩) (pre : ℕ)
    (hpre : (((xs.take k).map (·.1)).map fun s => if h : s.rank = (⟨4, ![B, n, H, D]⟩ : Shape).rank then s.size ((1 : Fin 4).cast h.symm) else 0).sum = pre)
    (b : Fin B) (l : Fin n) (g : Fin H) (d : Fin D) (p : Fin m) (e : pre + p.val = l.val) :
    concatenate ⟨4, ![B, n, H, D]⟩ 1 xs h (ix4 b l g d) = x (ix4 b p g d) :=
  concatenate_apply_piece 1 xs h (ix4 b l g d) k hk _ x hx rfl pre hpre (ix4 b p g d)
    (fun a => match a with | 0 => fun _ => rfl | 1 => fun ha => absurd rfl ha | 2 => fun _ => rfl | 3 => fun _ => rfl) e

/-- A window of 128 tokens after 8 more came: the old window's last 120, then the new tokens. -/
def kept (old : (⟨5, ![1, 32, 128, 2, 64]⟩ : Shape).Idx → EReal) (new : Fin 8 → EReal) (b : Fin 32) (w : Fin 128) (h : Fin 2) (d : Fin 64) : EReal :=
  if hw : w.val < 120 then old (ix5 0 b ⟨8 + w.val, by omega⟩ h d) else new ⟨w.val - 120, by omega⟩

end Cert.Linear
-- ==== Proof.SampleInRegions.lean ====
module

public import proofs.«01_k».proof.Proof.Linear
public import proofs.«01_k».proof.Proof.Gen.Kernel8Ideal
public import proofs.«01_k».proof.Proof.Gen.Kernel8Ideal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.Kernel8Ideal.Linear
open Cert.Kernel8Ideal.Gen Cert.Linear

theorem z2 : (![0, 0] : Fin 2 → ℕ) = fun _ => 0 := funext fun a => match a with | 0 => rfl | 1 => rfl

variable (V : (c : Dev nD) → (b : Ref sig .tc) → Buf (Elt Ideal) ((c : Thread nD τ).loc b))

/-- The block window 0 of region 0 takes at a grid point. -/
theorem index0_0 : ∀ t : Fin cfg0.N, win0_0.index t (0 : Fin 2) = t.val ∧ win0_0.index t (1 : Fin 2) = 0 :=
  (by decide +kernel : ∀ t : Fin grid0.N, _)

/-- The block window 1 of region 0 takes at a grid point. -/
theorem index0_1 : ∀ t : Fin cfg0.N, win0_1.index t (0 : Fin 2) = 0 ∧ win0_1.index t (1 : Fin 2) = 0 :=
  (by decide +kernel : ∀ t : Fin grid0.N, _)

/-- The block window 2 of region 0 takes at a grid point. -/
theorem index0_2 : ∀ t : Fin cfg0.N, win0_2.index t (0 : Fin 2) = t.val ∧ win0_2.index t (1 : Fin 2) = 0 :=
  (by decide +kernel : ∀ t : Fin grid0.N, _)

theorem N_le0 (t : Fin cfg0.N) : t.val < 1 := lt_of_lt_of_eq t.isLt (show cfg0.N = 1 from N_0)

/-- The block stored at a grid point is the norm of the rows loaded there. -/
theorem pay0_apply (x : FVec Ideal S256x2048 .f32) (g : FVec Ideal S1x2048 .f32) (r : Fin 256) (l : Fin 2048) :
    (k0_pay1 (F := Ideal) x g : S256x2048.Idx → EReal) (ix2 r l) = rms (Ideal.ofBits .f32 0x45000000#32) (Ideal.ofBits .f32 0x358637BD#32)
      (fun d => (x (ix2 r d) : EReal)) (fun d => (g (ix2 0 d) : EReal)) l := by
  unfold k0_pay1 rms
  simp only [shapeCast_self]
  pointwise
  exact congrArg (fun s : EReal => (x (ix2 r l) : EReal) * Ideal.rsqrt (Ideal.div s (Ideal.ofBits .f32 0x45000000#32)
    + Ideal.ofBits .f32 0x358637BD#32) * (g (ix2 0 l) : EReal)) (colSum (mulf x x) r _ _ _ _)

/-- An element of window 0's block in region 0. -/
theorem blk0_0 (c : Dev nD) (t : Fin cfg0.N) (r : Fin 256) (l : Fin 2048) (R : Fin 256) (L : Fin 2048)
    (hR : R.val = 256 * t.val + r.val) (hL : L.val = l.val) : iblk0 V c 0 t (ix2 r l) = V c main_v1 (ix2 R L) := by
  obtain ⟨e0, e1⟩ := index0_0 t
  refine congrArg (V c main_v1) (funext fun a => Fin.ext ?_)
  match a with
  | 0 => show win0_0.index t (0 : Fin 2) * 256 + 1 * r.val = R.val; omega
  | 1 => show win0_0.index t (1 : Fin 2) * 2048 + 1 * l.val = L.val; omega

/-- An element of window 1's block in region 0. -/
theorem blk0_1 (c : Dev nD) (t : Fin cfg0.N) (r : Fin 1) (l : Fin 2048) (R : Fin 1) (L : Fin 2048)
    (hR : R.val = r.val) (hL : L.val = l.val) : iblk0 V c 1 t (ix2 r l) = V c main_v3 (ix2 R L) := by
  obtain ⟨e0, e1⟩ := index0_1 t
  refine congrArg (V c main_v3) (funext fun a => Fin.ext ?_)
  match a with
  | 0 => show win0_1.index t (0 : Fin 2) * 1 + 1 * r.val = R.val; omega
  | 1 => show win0_1.index t (1 : Fin 2) * 2048 + 1 * l.val = L.val; omega

/-- What a grid point writes back is its block of the normed rows. -/
theorem flushed0 (c : Dev nD) (t : Fin cfg0.N) : (dat0 V c).flushed 2 t
    = ((cfg0.win 2).blk t).view.read (Elt Ideal) (normed (V c main_v1 : S256x2048.Idx → EReal) fun d => (V c main_v3 : S1x2048.Idx → EReal) (ix2 0 d)) := by
  obtain ⟨e0, e1⟩ := index0_2 t
  have ht := N_le0 t
  show (cfg0.win 2).cut (grid0.coords t) ((dat0 V c).after 2 t) = _
  rw [after0_2]
  unfold out0_2
  rw [View.canon_unit_zero (S := S256x2048) z2, View.ld_unit_zero (S := S256x2048) z2, View.ld_unit_zero (S := S1x2048) z2]
  funext y
  obtain ⟨r, l, rfl⟩ : ∃ (r : Fin 256) (l : Fin 2048), y = ix2 r l := ⟨y 0, y 1, eq_ix2 y⟩
  have hr := r.isLt
  let R : Fin 256 := ⟨256 * t.val + r.val, by omega⟩
  have hemb : ((cfg0.win 2).blk t).view.emb (ix2 r l) = (ix2 R l : S256x2048.Idx) := by
    refine funext fun a => Fin.ext ?_
    match a with
    | 0 => show win0_2.index t (0 : Fin 2) * 256 + 1 * r.val = R.val; simp only [R]; omega
    | 1 => show win0_2.index t (1 : Fin 2) * 2048 + 1 * l.val = l.val; omega
  refine (pay0_apply _ _ r l).trans (Eq.trans ?_ (congrArg (normed (V c main_v1 : S256x2048.Idx → EReal) fun d => (V c main_v3 : S1x2048.Idx → EReal) (ix2 0 d)) hemb).symm)
  have e : (fun d : Fin 2048 => (iblk0 V c 0 t (ix2 r d) : EReal)) = fun d => V c main_v1 (ix2 R d) :=
    funext fun d => blk0_0 V c t r d R d (by simp only [R]) (by omega)
  have e' : (fun d : Fin 2048 => (iblk0 V c 1 t (ix2 0 d) : EReal)) = fun d => V c main_v3 (ix2 0 d) :=
    funext fun d => blk0_1 V c t 0 d 0 d (by omega) (by omega)
  unfold normed
  rw [e, e']
  rfl

/-- Every entry of the array lies in a block that some grid point writes back. -/
theorem covered0_2 (i : S256x2048.Idx) :
    ∃ t : Fin cfg0.N, (cfg0.win 2).flush t = true ∧ i ∈ ((cfg0.win 2).blk t).view.set := by
  have h0 : (i 0).val < 256 := (i 0).isLt
  have h1 : (i 1).val < 2048 := (i 1).isLt
  let t : Fin cfg0.N := ⟨(i 0).val / 256, lt_of_lt_of_eq (b := 1) (by omega) (show 1 = cfg0.N from N_0.symm)⟩
  obtain ⟨e0, e1⟩ := index0_2 t
  have tv : t.val = (i 0).val / 256 := rfl
  refine ⟨t, flush0_2 t, ?_⟩
  have hm := ((cfg0.win 2).blk t).view.emb_mem_set (ix2 ⟨(i 0).val % 256, by omega⟩ ⟨(i 1).val % 2048, by omega⟩)
  have he : ((cfg0.win 2).blk t).view.emb (ix2 ⟨(i 0).val % 256, by omega⟩ ⟨(i 1).val % 2048, by omega⟩) = i := by
    refine funext fun a => Fin.ext ?_
    match a with
    | 0 => show win0_2.index t (0 : Fin 2) * 256 + 1 * ((i 0).val % 256) = (i 0).val; omega
    | 1 => show win0_2.index t (1 : Fin 2) * 2048 + 1 * ((i 1).val % 2048) = (i 1).val; omega
  rwa [he] at hm

/-- Region 0 leaves the normed rows. -/
theorem final0 (c : Dev nD) : (dat0 V c).arrAt 2 cfg0.N = (normed (V c main_v1 : S256x2048.Idx → EReal) fun d => (V c main_v3 : S1x2048.Idx → EReal) (ix2 0 d)) :=
  (dat0 V c).arrAt_eq_of_cover 2 _ (fun t _ => flushed0 V c t) covered0_2

/-- The block window 0 of region 1 takes at a grid point. -/
theorem index1_0 : ∀ t : Fin cfg1.N, win1_0.index t (0 : Fin 2) = t.val / 3 ∧ win1_0.index t (1 : Fin 2) = 0 :=
  (by decide +kernel : ∀ t : Fin grid1.N, _)

/-- The block window 1 of region 1 takes at a grid point. -/
theorem index1_1 : ∀ t : Fin cfg1.N, win1_1.index t (0 : Fin 2) = 0 ∧ win1_1.index t (1 : Fin 2) = t.val % 3 :=
  (by decide +kernel : ∀ t : Fin grid1.N, _)

/-- The block window 2 of region 1 takes at a grid point. -/
theorem index1_2 : ∀ t : Fin cfg1.N, win1_2.index t (0 : Fin 2) = t.val / 3 ∧ win1_2.index t (1 : Fin 2) = t.val % 3 :=
  (by decide +kernel : ∀ t : Fin grid1.N, _)

theorem N_le1 (t : Fin cfg1.N) : t.val < 3 := lt_of_lt_of_eq t.isLt (show cfg1.N = 3 from N_1)

/-- The product's dimensions are the plain ones. -/
theorem dims1 : dot_S256x2048_S2048x1408_S256x1408_1_0_0_1_n_n = DotDims.plain 256 2048 1408 := rfl

/-- The block stored at a grid point is the product of the two blocks loaded there. -/
theorem pay1_apply (x : FVec Ideal S256x2048 .bf16) (w : FVec Ideal S2048x1408 .bf16) (r : Fin 256) (l : Fin 1408) :
    (k1_pay1 (F := Ideal) x w : S256x1408.Idx → EReal) (ix2 r l) = ∑ k : Fin 2048, (x (ix2 r k) : EReal) * (w (ix2 k l) : EReal) := by
  unfold k1_pay1
  rw [dims1]
  simp only [shapeCast_self]
  pointwise [Ideal.matmul_plain_apply]

/-- An element of window 0's block in region 1. -/
theorem blk1_0 (c : Dev nD) (t : Fin cfg1.N) (r : Fin 256) (l : Fin 2048) (R : Fin 256) (L : Fin 2048)
    (hR : R.val = 256 * (t.val / 3) + r.val) (hL : L.val = l.val) : iblk1 V c 0 t (ix2 r l) = V c main_v4 (ix2 R L) := by
  obtain ⟨e0, e1⟩ := index1_0 t
  refine congrArg (V c main_v4) (funext fun a => Fin.ext ?_)
  match a with
  | 0 => show win1_0.index t (0 : Fin 2) * 256 + 1 * r.val = R.val; omega
  | 1 => show win1_0.index t (1 : Fin 2) * 2048 + 1 * l.val = L.val; omega

/-- An element of window 1's block in region 1. -/
theorem blk1_1 (c : Dev nD) (t : Fin cfg1.N) (r : Fin 2048) (l : Fin 1408) (R : Fin 2048) (L : Fin 4224)
    (hR : R.val = r.val) (hL : L.val = 1408 * (t.val % 3) + l.val) : iblk1 V c 1 t (ix2 r l) = V c main_v6 (ix2 R L) := by
  obtain ⟨e0, e1⟩ := index1_1 t
  refine congrArg (V c main_v6) (funext fun a => Fin.ext ?_)
  match a with
  | 0 => show win1_1.index t (0 : Fin 2) * 2048 + 1 * r.val = R.val; omega
  | 1 => show win1_1.index t (1 : Fin 2) * 1408 + 1 * l.val = L.val; omega

/-- What a grid point writes back is its block of the whole product. -/
theorem flushed1 (c : Dev nD) (t : Fin cfg1.N) : (dat1 V c).flushed 2 t
    = ((cfg1.win 2).blk t).view.read (Elt Ideal) (prod (V c main_v4 : S256x2048.Idx → EReal) (V c main_v6 : S2048x4224.Idx → EReal)) := by
  obtain ⟨e0, e1⟩ := index1_2 t
  have ht := N_le1 t
  show (cfg1.win 2).cut (grid1.coords t) ((dat1 V c).after 2 t) = _
  rw [after1_2]
  unfold out1_2
  rw [View.canon_unit_zero (S := S256x1408) z2, View.ld_unit_zero (S := S256x2048) z2, View.ld_unit_zero (S := S2048x1408) z2]
  funext y
  obtain ⟨r, l, rfl⟩ : ∃ (r : Fin 256) (l : Fin 1408), y = ix2 r l := ⟨y 0, y 1, eq_ix2 y⟩
  have hr := r.isLt
  have hl := l.isLt
  let R : Fin 256 := ⟨256 * (t.val / 3) + r.val, by omega⟩
  let L : Fin 4224 := ⟨1408 * (t.val % 3) + l.val, by omega⟩
  have hemb : ((cfg1.win 2).blk t).view.emb (ix2 r l) = (ix2 R L : S256x4224.Idx) := by
    refine funext fun a => Fin.ext ?_
    match a with
    | 0 => show win1_2.index t (0 : Fin 2) * 256 + 1 * r.val = R.val; simp only [R]; omega
    | 1 => show win1_2.index t (1 : Fin 2) * 1408 + 1 * l.val = L.val; simp only [L]; omega
  refine (pay1_apply _ _ r l).trans ((Finset.sum_congr rfl fun k _ => ?_).trans (congrArg (prod (V c main_v4 : S256x2048.Idx → EReal) (V c main_v6 : S2048x4224.Idx → EReal)) hemb).symm)
  rw [blk1_0 V c t r k R k (by simp only [R]) (by omega), blk1_1 V c t k l k L (by omega) (by simp only [L])]
  rfl

/-- Every entry of the array lies in a block that some grid point writes back. -/
theorem covered1_2 (i : S256x4224.Idx) :
    ∃ t : Fin cfg1.N, (cfg1.win 2).flush t = true ∧ i ∈ ((cfg1.win 2).blk t).view.set := by
  have h0 : (i 0).val < 256 := (i 0).isLt
  have h1 : (i 1).val < 4224 := (i 1).isLt
  let t : Fin cfg1.N := ⟨(i 0).val / 256 * 3 + (i 1).val / 1408, lt_of_lt_of_eq (b := 3) (by omega) (show 3 = cfg1.N from N_1.symm)⟩
  obtain ⟨e0, e1⟩ := index1_2 t
  have tv : t.val = (i 0).val / 256 * 3 + (i 1).val / 1408 := rfl
  refine ⟨t, flush1_2 t, ?_⟩
  have hm := ((cfg1.win 2).blk t).view.emb_mem_set (ix2 ⟨(i 0).val % 256, by omega⟩ ⟨(i 1).val % 1408, by omega⟩)
  have he : ((cfg1.win 2).blk t).view.emb (ix2 ⟨(i 0).val % 256, by omega⟩ ⟨(i 1).val % 1408, by omega⟩) = i := by
    refine funext fun a => Fin.ext ?_
    match a with
    | 0 => show win1_2.index t (0 : Fin 2) * 256 + 1 * ((i 0).val % 256) = (i 0).val; omega
    | 1 => show win1_2.index t (1 : Fin 2) * 1408 + 1 * ((i 1).val % 1408) = (i 1).val; omega
  rwa [he] at hm

/-- Region 1 leaves the product of its two matrices. -/
theorem final1 (c : Dev nD) : (dat1 V c).arrAt 2 cfg1.N = prod (V c main_v4 : S256x2048.Idx → EReal) (V c main_v6 : S2048x4224.Idx → EReal) :=
  (dat1 V c).arrAt_eq_of_cover 2 _ (fun t _ => flushed1 V c t) covered1_2

/-- The block window 0 of region 2 takes at a grid point. -/
theorem index2_0 : ∀ t : Fin cfg2.N, win2_0.index t (0 : Fin 2) = t.val / 2 ∧ win2_0.index t (1 : Fin 2) = 0 :=
  (by decide +kernel : ∀ t : Fin grid2.N, _)

/-- The block window 1 of region 2 takes at a grid point. -/
theorem index2_1 : ∀ t : Fin cfg2.N, win2_1.index t (0 : Fin 2) = 0 ∧ win2_1.index t (1 : Fin 2) = t.val % 2 :=
  (by decide +kernel : ∀ t : Fin grid2.N, _)

/-- The block window 2 of region 2 takes at a grid point. -/
theorem index2_2 : ∀ t : Fin cfg2.N, win2_2.index t (0 : Fin 2) = t.val / 2 ∧ win2_2.index t (1 : Fin 2) = t.val % 2 :=
  (by decide +kernel : ∀ t : Fin grid2.N, _)

theorem N_le2 (t : Fin cfg2.N) : t.val < 2 := lt_of_lt_of_eq t.isLt (show cfg2.N = 2 from N_2)

/-- The product's dimensions are the plain ones. -/
theorem dims2 : dot_S256x2048_S2048x1152_S256x1152_1_0_0_1_n_n = DotDims.plain 256 2048 1152 := rfl

/-- The block stored at a grid point is the product of the two blocks loaded there. -/
theorem pay2_apply (x : FVec Ideal S256x2048 .bf16) (w : FVec Ideal S2048x1152 .bf16) (r : Fin 256) (l : Fin 1152) :
    (k2_pay1 (F := Ideal) x w : S256x1152.Idx → EReal) (ix2 r l) = ∑ k : Fin 2048, (x (ix2 r k) : EReal) * (w (ix2 k l) : EReal) := by
  unfold k2_pay1
  rw [dims2]
  simp only [shapeCast_self]
  pointwise [Ideal.matmul_plain_apply]

/-- An element of window 0's block in region 2. -/
theorem blk2_0 (c : Dev nD) (t : Fin cfg2.N) (r : Fin 256) (l : Fin 2048) (R : Fin 256) (L : Fin 2048)
    (hR : R.val = 256 * (t.val / 2) + r.val) (hL : L.val = l.val) : iblk2 V c 0 t (ix2 r l) = V c main_v4 (ix2 R L) := by
  obtain ⟨e0, e1⟩ := index2_0 t
  refine congrArg (V c main_v4) (funext fun a => Fin.ext ?_)
  match a with
  | 0 => show win2_0.index t (0 : Fin 2) * 256 + 1 * r.val = R.val; omega
  | 1 => show win2_0.index t (1 : Fin 2) * 2048 + 1 * l.val = L.val; omega

/-- An element of window 1's block in region 2. -/
theorem blk2_1 (c : Dev nD) (t : Fin cfg2.N) (r : Fin 2048) (l : Fin 1152) (R : Fin 2048) (L : Fin 2304)
    (hR : R.val = r.val) (hL : L.val = 1152 * (t.val % 2) + l.val) : iblk2 V c 1 t (ix2 r l) = V c main_v12 (ix2 R L) := by
  obtain ⟨e0, e1⟩ := index2_1 t
  refine congrArg (V c main_v12) (funext fun a => Fin.ext ?_)
  match a with
  | 0 => show win2_1.index t (0 : Fin 2) * 2048 + 1 * r.val = R.val; omega
  | 1 => show win2_1.index t (1 : Fin 2) * 1152 + 1 * l.val = L.val; omega

/-- What a grid point writes back is its block of the whole product. -/
theorem flushed2 (c : Dev nD) (t : Fin cfg2.N) : (dat2 V c).flushed 2 t
    = ((cfg2.win 2).blk t).view.read (Elt Ideal) (prod (V c main_v4 : S256x2048.Idx → EReal) (V c main_v12 : S2048x2304.Idx → EReal)) := by
  obtain ⟨e0, e1⟩ := index2_2 t
  have ht := N_le2 t
  show (cfg2.win 2).cut (grid2.coords t) ((dat2 V c).after 2 t) = _
  rw [after2_2]
  unfold out2_2
  rw [View.canon_unit_zero (S := S256x1152) z2, View.ld_unit_zero (S := S256x2048) z2, View.ld_unit_zero (S := S2048x1152) z2]
  funext y
  obtain ⟨r, l, rfl⟩ : ∃ (r : Fin 256) (l : Fin 1152), y = ix2 r l := ⟨y 0, y 1, eq_ix2 y⟩
  have hr := r.isLt
  have hl := l.isLt
  let R : Fin 256 := ⟨256 * (t.val / 2) + r.val, by omega⟩
  let L : Fin 2304 := ⟨1152 * (t.val % 2) + l.val, by omega⟩
  have hemb : ((cfg2.win 2).blk t).view.emb (ix2 r l) = (ix2 R L : S256x2304.Idx) := by
    refine funext fun a => Fin.ext ?_
    match a with
    | 0 => show win2_2.index t (0 : Fin 2) * 256 + 1 * r.val = R.val; simp only [R]; omega
    | 1 => show win2_2.index t (1 : Fin 2) * 1152 + 1 * l.val = L.val; simp only [L]; omega
  refine (pay2_apply _ _ r l).trans ((Finset.sum_congr rfl fun k _ => ?_).trans (congrArg (prod (V c main_v4 : S256x2048.Idx → EReal) (V c main_v12 : S2048x2304.Idx → EReal)) hemb).symm)
  rw [blk2_0 V c t r k R k (by simp only [R]) (by omega), blk2_1 V c t k l k L (by omega) (by simp only [L])]
  rfl

/-- Every entry of the array lies in a block that some grid point writes back. -/
theorem covered2_2 (i : S256x2304.Idx) :
    ∃ t : Fin cfg2.N, (cfg2.win 2).flush t = true ∧ i ∈ ((cfg2.win 2).blk t).view.set := by
  have h0 : (i 0).val < 256 := (i 0).isLt
  have h1 : (i 1).val < 2304 := (i 1).isLt
  let t : Fin cfg2.N := ⟨(i 0).val / 256 * 2 + (i 1).val / 1152, lt_of_lt_of_eq (b := 2) (by omega) (show 2 = cfg2.N from N_2.symm)⟩
  obtain ⟨e0, e1⟩ := index2_2 t
  have tv : t.val = (i 0).val / 256 * 2 + (i 1).val / 1152 := rfl
  refine ⟨t, flush2_2 t, ?_⟩
  have hm := ((cfg2.win 2).blk t).view.emb_mem_set (ix2 ⟨(i 0).val % 256, by omega⟩ ⟨(i 1).val % 1152, by omega⟩)
  have he : ((cfg2.win 2).blk t).view.emb (ix2 ⟨(i 0).val % 256, by omega⟩ ⟨(i 1).val % 1152, by omega⟩) = i := by
    refine funext fun a => Fin.ext ?_
    match a with
    | 0 => show win2_2.index t (0 : Fin 2) * 256 + 1 * ((i 0).val % 256) = (i 0).val; omega
    | 1 => show win2_2.index t (1 : Fin 2) * 1152 + 1 * ((i 1).val % 1152) = (i 1).val; omega
  rwa [he] at hm

/-- Region 2 leaves the product of its two matrices. -/
theorem final2 (c : Dev nD) : (dat2 V c).arrAt 2 cfg2.N = prod (V c main_v4 : S256x2048.Idx → EReal) (V c main_v12 : S2048x2304.Idx → EReal) :=
  (dat2 V c).arrAt_eq_of_cover 2 _ (fun t _ => flushed2 V c t) covered2_2

end Cert.Kernel8Ideal.Linear
-- ==== Proof.SampleInVal.lean ====
module

public import proofs.«01_k».proof.Proof.Linear
public import proofs.«01_k».proof.Proof.Host
public import proofs.«01_k».proof.Proof.Window
public import proofs.«01_k».proof.Proof.SampleInRegions

@[expose] public section

set_option maxRecDepth 16384

noncomputable section

open Idealize.ShloMosaic Idealize.ShloMosaic.TcCoe Idealize.SL.Sem

namespace Cert.Kernel8Ideal.Linear
open Cert.Kernel8Ideal.Gen Cert.Linear

section Run
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
variable {F : FTy → Type} [FloatOps F]
variable (m : (ℓ : Loc nD τ sig) → Buf (Elt F) ℓ) (ρ : Dev nD → PrngReg)

set_option backward.isDefEq.respectTransparency.types false in
/-- Every execution ends with every array that stays in memory as the last boundary has it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Run

variable (m : (ℓ : Loc nD τ sig) → Buf (Elt Ideal) ℓ) (ρ : Dev nD → PrngReg) (c : Dev nD)

/-- The arguments of one device. -/
abbrev A0 : S32x8x2048.Idx → EReal := m ((c.tc : Thread nD τ).loc main_arg0)
abbrev A1 : S1x2048.Idx → EReal := m ((c.tc : Thread nD τ).loc main_arg1)
abbrev A3 : S1x32x128x2x64.Idx → EReal := m ((c.tc : Thread nD τ).loc main_arg3)
abbrev A4 : S1x32x128x2x64.Idx → EReal := m ((c.tc : Thread nD τ).loc main_arg4)
abbrev A2 : S1x2048x7040.Idx → EReal := m ((c.tc : Thread nD τ).loc main_arg2)

/-- The projection of a token at a column. -/
def E (b : Fin 32) (t : Fin 8) (n : Fin 7040) : EReal := zin (A0 m c) (fun d => A1 m c (ix2 0 d)) (fun k n => A2 m c (ix3 0 k n)) b t n

/-- The weights, tokens and norm weights as the regions take them. -/
theorem w1_v0 (k : Fin 2048) (n : Fin 7040) : (W1 m ρ c (Proc.devRef .tc main_v0) : S2048x7040.Idx → EReal) (ix2 k n) = A2 m c (ix3 0 k n) := by
  have e : W1 m ρ c (Proc.devRef .tc main_v0) = shapeCast S2048x7040 (A2 m c) shapeCasts_S1x2048x7040_S2048x7040 := by
    after_results
    rfl
  rw [e]
  exact shapeCast_apply _ _ (ix2 k n) (ix3 0 k n) (by rw [Shape.rowMajor_val_two, Shape.rowMajor_val_three]; show (0 * 2048 + k.val) * 7040 + n.val = k.val * 7040 + n.val; omega)

theorem w1_v1 (b : Fin 32) (t : Fin 8) (d : Fin 2048) : (V1 m ρ c main_v1 : S256x2048.Idx → EReal) (ix2 (stok b t) d) = A0 m c (ix3 b t d) := by
  have e : W1 m ρ c (Proc.devRef .tc main_v1) = shapeCast S256x2048 (A0 m c) shapeCasts_S32x8x2048_S256x2048 := by
    after_results
    rfl
  rw [show V1 m ρ c main_v1 = _ from e]
  exact shapeCast_apply _ _ (ix2 (stok b t) d) (ix3 b t d) (by rw [Shape.rowMajor_val_two, Shape.rowMajor_val_three]; show (b.val * 8 + t.val) * 2048 + d.val = (8 * b.val + t.val) * 2048 + d.val; omega)

theorem w1_v3 (d : Fin 2048) : (V1 m ρ c main_v3 : S1x2048.Idx → EReal) (ix2 0 d) = A1 m c (ix2 0 d) := by
  have e : W1 m ρ c (Proc.devRef .tc main_v3) = shapeCast S1x2048 (shapeCast S2048 (A1 m c) shapeCasts_S1x2048_S2048) shapeCasts_S2048_S1x2048 := by
    after_results
    rfl
  rw [show V1 m ρ c main_v3 = _ from e]
  rw [shapeCast_apply _ _ (ix2 0 d) (ix1 d) (by rw [Shape.rowMajor_val_two, Shape.rowMajor_val_one]; show d.val = 0 * 2048 + d.val; omega)]
  exact shapeCast_apply _ _ (ix1 d) (ix2 0 d) (by rw [Shape.rowMajor_val_two, Shape.rowMajor_val_one]; show 0 * 2048 + d.val = d.val; omega)

/-- The normed tokens. -/
theorem w2_v4 (b : Fin 32) (t : Fin 8) (d : Fin 2048) : (W2 m ρ c (Proc.devRef .tc main_v4) : S256x2048.Idx → EReal) (ix2 (stok b t) d)
    = rms (Ideal.ofBits .f32 0x45000000#32) (Ideal.ofBits .f32 0x358637BD#32) (fun d => A0 m c (ix3 b t d)) (fun d => A1 m c (ix2 0 d)) d := by
  have e : (W2 m ρ c (Proc.devRef .tc main_v4) : S256x2048.Idx → EReal) = _ := (W2_arr m ρ c 2).trans (final0 (V1 m ρ) c)
  rw [e]
  unfold normed
  exact congrArg₂ (fun x g => rms (Ideal.ofBits .f32 0x45000000#32) (Ideal.ofBits .f32 0x358637BD#32) x g d)
    (funext fun d => w1_v1 m ρ c b t d) (funext fun d => w1_v3 m ρ c d)

theorem prod_zin {N : ℕ} (x : S256x2048.Idx → EReal) (w : (⟨2, ![2048, N]⟩ : Shape).Idx → EReal) (l : Fin N) (n : Fin 7040)
    (hx : ∀ b t d, x (ix2 (stok b t) d) = rms (Ideal.ofBits .f32 0x45000000#32) (Ideal.ofBits .f32 0x358637BD#32) (fun d => A0 m c (ix3 b t d)) (fun d => A1 m c (ix2 0 d)) d)
    (hw : ∀ k, w (ix2 k l) = A2 m c (ix3 0 k n)) (b : Fin 32) (t : Fin 8) : prod x w (ix2 (stok b t) l) = E m c b t n :=
  Finset.sum_congr rfl fun k _ => congrArg₂ (fun a b : EReal => a * b) (hx b t k) (hw k)

/-- The columns of the first product's weights. -/
theorem w3_v6 (k : Fin 2048) (l : Fin 4224) : (V3 m ρ c main_v6 : S2048x4224.Idx → EReal) (ix2 k l) = A2 m c (ix3 0 k ⟨l.val, by omega⟩) := by
  have e : W3 m ρ c (Proc.devRef .tc main_v6) = truncf (F := Ideal) .bf16 (extractStridedSlice S2048x4224 ![0, 0] (W2 m ρ c (Proc.devRef .tc main_v0)) slices_S2048x7040_S2048x4224_0_0) bitsLt_bf16_f32 := by
    after_results
  rw [show V3 m ρ c main_v6 = _ from e, W2_of m ρ c main_v0 (by decide), ← w1_v0 m ρ c k ⟨l.val, by omega⟩]
  generalize W1 m ρ c (Proc.devRef .tc main_v0) = u
  revert u; intro (u : FVec Ideal S2048x7040 .f32)
  pointwise
  all_goals exact congrArg u (congrArg (ix2 k) (Fin.ext (Nat.zero_add _)))

theorem w4_v7 (b : Fin 32) (t : Fin 8) (l : Fin 4224) : (W4 m ρ c (Proc.devRef .tc main_v7) : S256x4224.Idx → EReal) (ix2 (stok b t) l) = E m c b t ⟨l.val, by omega⟩ := by
  have e : (W4 m ρ c (Proc.devRef .tc main_v7) : S256x4224.Idx → EReal) = _ := (W4_arr m ρ c 2).trans (final1 (V3 m ρ) c)
  rw [e]
  refine prod_zin m c _ _ l _ (fun b t d => ?_) (fun k => w3_v6 m ρ c k l) b t
  exact (congrFun (W3_of m ρ c main_v4 (by decide) : (W3 m ρ c (Proc.devRef .tc main_v4) : S256x2048.Idx → EReal) = _) _).trans (w2_v4 m ρ c b t d)

/-- The columns of the second product's weights: queries, gates, keys and values. -/
theorem w5_v12 (k : Fin 2048) (l : Fin 2304) : (V5 m ρ c main_v12 : S2048x2304.Idx → EReal) (ix2 k l) = A2 m c (ix3 0 k (swaCol l)) := by
  have e : (W5 m ρ c (Proc.devRef .tc main_v12) : S2048x2304.Idx → EReal) = (concatenate S2048x2304 1 [⟨S2048x1024, extractStridedSlice S2048x1024 ![0, 4224] (W4 m ρ c (Proc.devRef .tc main_v0)) slices_S2048x7040_S2048x1024_0_4224⟩, ⟨S2048x1024, extractStridedSlice S2048x1024 ![0, 5504] (W4 m ρ c (Proc.devRef .tc main_v0)) slices_S2048x7040_S2048x1024_0_5504⟩, ⟨S2048x256, extractStridedSlice S2048x256 ![0, 5248] (W4 m ρ c (Proc.devRef .tc main_v0)) slices_S2048x7040_S2048x256_0_5248⟩] concatenates_S2048x1024_S2048x1024_S2048x256_S2048x2304_d1 : FVec Ideal S2048x2304 .f32) := by
    after_results
    rfl
  rw [show V5 m ρ c main_v12 = _ from e, W4_of m ρ c main_v0 (by decide), W3_of m ρ c main_v0 (by decide), W2_of m ρ c main_v0 (by decide)]
  have hv := fun n => w1_v0 m ρ c k n
  generalize W1 m ρ c (Proc.devRef .tc main_v0) = u at hv ⊢
  revert hv; revert u; intro (u : FVec Ideal S2048x7040 .f32) hv
  have hs : ∀ {n : ℕ} (o : ℕ) (h : S2048x7040.Slices ![0, o] ⟨2, ![2048, n]⟩) (l : Fin n) (L : Fin 7040), o + l.val = L.val →
      extractStridedSlice ⟨2, ![2048, n]⟩ ![0, o] u h (ix2 k l) = u (ix2 k L) := fun o h l L e => by
    pointwise
    exact congrArg u (congrArg (ix2 k) (Fin.ext e))
  refine Eq.trans ?_ (hv _)
  unfold swaCol
  by_cases h : l.val < 1024
  · rw [if_pos h]
    exact (piece2 _ _ 0 (by simp) _ rfl 0 rfl k l ⟨l.val, h⟩ (Nat.zero_add _)).trans (hs 4224 _ _ _ rfl)
  rw [if_neg h]
  by_cases h' : l.val < 2048
  · rw [if_pos h']
    exact (piece2 _ _ 1 (by simp) _ rfl 1024 rfl k l ⟨l.val - 1024, by omega⟩ (by show 1024 + (l.val - 1024) = l.val; omega)).trans (hs 5504 _ _ _ rfl)
  · rw [if_neg h']
    exact (piece2 _ _ 2 (by simp) _ rfl 2048 rfl k l ⟨l.val - 2048, by omega⟩ (by show 2048 + (l.val - 2048) = l.val; omega)).trans (hs 5248 _ _ _ rfl)

theorem w6_v13 (b : Fin 32) (t : Fin 8) (l : Fin 2304) : (W6 m ρ c (Proc.devRef .tc main_v13) : S256x2304.Idx → EReal) (ix2 (stok b t) l) = E m c b t (swaCol l) := by
  have e : (W6 m ρ c (Proc.devRef .tc main_v13) : S256x2304.Idx → EReal) = _ := (W6_arr m ρ c 2).trans (final2 (V5 m ρ) c)
  rw [e]
  refine prod_zin m c _ _ l _ (fun b t d => ?_) (fun k => w5_v12 m ρ c k l) b t
  exact (congrFun (((W5_of m ρ c main_v4 (by decide)).trans (W4_of m ρ c main_v4 (by decide))).trans (W3_of m ρ c main_v4 (by decide)) : (W5 m ρ c (Proc.devRef .tc main_v4) : S256x2048.Idx → EReal) = _) _).trans (w2_v4 m ρ c b t d)

/-- The products as the last host operations read them. -/
theorem w6_v7 (b : Fin 32) (t : Fin 8) (l : Fin 4224) : (W6 m ρ c (Proc.devRef .tc main_v7) : S256x4224.Idx → EReal) (ix2 (stok b t) l) = E m c b t ⟨l.val, by omega⟩ :=
  (congrFun ((W6_of m ρ c main_v7 (by decide)).trans (W5_of m ρ c main_v7 (by decide)) : (W6 m ρ c (Proc.devRef .tc main_v7) : S256x4224.Idx → EReal) = _) _).trans (w4_v7 m ρ c b t l)

/-- The results. -/
theorem res0 (b : Fin 32) (l : Fin 3200) : (W7 m ρ c (Proc.devRef .tc main_v29) : S1x32x3200.Idx → EReal) (ix3 0 b l) = E m c b 7 ⟨l.val, by omega⟩ := by
  have e : (W7 m ρ c (Proc.devRef .tc main_v29) : S1x32x3200.Idx → EReal) = broadcastInDim S1x32x3200 ![1, 2] bcast_S32x3200_S1x32x3200_1_2 (shapeCast S32x3200 (extractStridedSlice S32x1x3200 ![0, 7, 0] (shapeCast S32x8x4224 (W6 m ρ c (Proc.devRef .tc main_v7)) shapeCasts_S256x4224_S32x8x4224) slices_S32x8x4224_S32x1x3200_0_7_0) shapeCasts_S32x1x3200_S32x3200) := by
    after_results
    rfl
  rw [e]
  have hv := w6_v7 m ρ c b 7 ⟨l.val, by omega⟩
  generalize W6 m ρ c (Proc.devRef .tc main_v7) = u at hv ⊢
  revert hv; revert u; intro (u : FVec Ideal S256x4224 .f32) hv
  refine Eq.trans ?_ hv
  have h0 := shapeCast_apply u shapeCasts_S256x4224_S32x8x4224 (ix3 b 7 ⟨l.val, by omega⟩) (ix2 (stok b 7) ⟨l.val, by omega⟩)
    (by rw [Shape.rowMajor_val_two, Shape.rowMajor_val_three]; show (8 * b.val + 7) * 4224 + l.val = (b.val * 8 + 7) * 4224 + l.val; omega)
  rw [← h0]
  generalize shapeCast S32x8x4224 u shapeCasts_S256x4224_S32x8x4224 = y
  have h1 := shapeCast_apply (extractStridedSlice S32x1x3200 ![0, 7, 0] y slices_S32x8x4224_S32x1x3200_0_7_0) shapeCasts_S32x1x3200_S32x3200 (ix2 b l) (ix3 b 0 l)
    (by rw [Shape.rowMajor_val_two, Shape.rowMajor_val_three]; show (b.val * 1 + 0) * 3200 + l.val = b.val * 3200 + l.val; omega)
  have h2 : extractStridedSlice S32x1x3200 ![0, 7, 0] y slices_S32x8x4224_S32x1x3200_0_7_0 (ix3 b 0 l) = y (ix3 b 7 ⟨l.val, by omega⟩) := by
    pointwise
    all_goals first | rfl | exact congrArg y (congrArg (ix3 b 7) (Fin.ext (Nat.zero_add _)))
  rw [← h2, ← h1]
  generalize shapeCast S32x3200 (extractStridedSlice S32x1x3200 ![0, 7, 0] y slices_S32x8x4224_S32x1x3200_0_7_0) shapeCasts_S32x1x3200_S32x3200 = w
  pointwise

/-- A window's keys or values after the new tokens: the old window and the new rows of the second product joined, its last
128 tokens. -/
def win (old : FVec Ideal S1x32x128x2x64 .f32) (y : FVec Ideal S256x128 .f32) : FVec Ideal S1x32x128x2x64 .f32 :=
  broadcastInDim S1x32x128x2x64 ![1, 2, 3, 4] bcast_S32x128x2x64_S1x32x128x2x64_1_2_3_4 (shapeCast S32x128x2x64 (extractStridedSlice S32x128x128 ![0, 8, 0] (concatenate S32x136x128 1 [⟨S32x128x128, shapeCast S32x128x128 (shapeCast S32x128x2x64 old shapeCasts_S1x32x128x2x64_S32x128x2x64) shapeCasts_S32x128x2x64_S32x128x128⟩, ⟨S32x8x128, shapeCast S32x8x128 y shapeCasts_S256x128_S32x8x128⟩] concatenates_S32x128x128_S32x8x128_S32x136x128_d1) slices_S32x136x128_S32x128x128_0_8_0) shapeCasts_S32x128x128_S32x128x2x64)

theorem win_apply (old : FVec Ideal S1x32x128x2x64 .f32) (y : FVec Ideal S256x128 .f32) (b : Fin 32) (w : Fin 128) (h : Fin 2) (d : Fin 64) :
    win old y (ix5 0 b w h d) = kept old (fun t => y (ix2 (stok b t) ⟨64 * h.val + d.val, by omega⟩)) b w h d := by
  have e : ∀ x : FVec Ideal S32x136x128 .f32, broadcastInDim S1x32x128x2x64 ![1, 2, 3, 4] bcast_S32x128x2x64_S1x32x128x2x64_1_2_3_4 (shapeCast S32x128x2x64 (extractStridedSlice S32x128x128 ![0, 8, 0] x slices_S32x136x128_S32x128x128_0_8_0) shapeCasts_S32x128x128_S32x128x2x64) (ix5 0 b w h d)
      = x (ix3 b ⟨8 + w.val, by omega⟩ ⟨64 * h.val + d.val, by omega⟩) := fun x => by
    have h1 := shapeCast_apply (extractStridedSlice S32x128x128 ![0, 8, 0] x slices_S32x136x128_S32x128x128_0_8_0) shapeCasts_S32x128x128_S32x128x2x64 (ix4 b w h d) (ix3 b w ⟨64 * h.val + d.val, by omega⟩)
      (by rw [Shape.rowMajor_val_three, Shape.rowMajor_val_four]; show (b.val * 128 + w.val) * 128 + (64 * h.val + d.val) = ((b.val * 128 + w.val) * 2 + h.val) * 64 + d.val; omega)
    have h2 : extractStridedSlice S32x128x128 ![0, 8, 0] x slices_S32x136x128_S32x128x128_0_8_0 (ix3 b w ⟨64 * h.val + d.val, by omega⟩) = x (ix3 b ⟨8 + w.val, by omega⟩ ⟨64 * h.val + d.val, by omega⟩) := by
      pointwise
    rw [← h2, ← h1]
    generalize shapeCast S32x128x2x64 (extractStridedSlice S32x128x128 ![0, 8, 0] x slices_S32x136x128_S32x128x128_0_8_0) shapeCasts_S32x128x128_S32x128x2x64 = v
    pointwise
  refine (e _).trans ?_
  unfold kept
  by_cases hw : w.val < 120
  · rw [dif_pos hw]
    refine Eq.trans (mid3 (m := 128) _ _ 0 (by simp) _ rfl 0 rfl b _ _ ⟨8 + w.val, by omega⟩ (Nat.zero_add _)) ?_
    refine (shapeCast_apply _ _ (ix3 b ⟨8 + w.val, by omega⟩ ⟨64 * h.val + d.val, by omega⟩) (ix4 b ⟨8 + w.val, by omega⟩ h d)
      (by rw [Shape.rowMajor_val_three, Shape.rowMajor_val_four]; show ((b.val * 128 + (8 + w.val)) * 2 + h.val) * 64 + d.val = (b.val * 128 + (8 + w.val)) * 128 + (64 * h.val + d.val); omega)).trans ?_
    exact shapeCast_apply old shapeCasts_S1x32x128x2x64_S32x128x2x64 (ix4 b ⟨8 + w.val, by omega⟩ h d) (ix5 0 b ⟨8 + w.val, by omega⟩ h d)
      (by rw [Shape.rowMajor_val_four, Shape.rowMajor_val_five]; show (((0 * 32 + b.val) * 128 + (8 + w.val)) * 2 + h.val) * 64 + d.val = ((b.val * 128 + (8 + w.val)) * 2 + h.val) * 64 + d.val; omega)
  · rw [dif_neg hw]
    exact Eq.trans (mid3 (m := 8) _ _ 1 (by simp) _ rfl 128 rfl b _ _ ⟨w.val - 120, by omega⟩ (by show 128 + (w.val - 120) = 8 + w.val; omega)) (stok_cast y shapeCasts_S256x128_S32x8x128 b ⟨w.val - 120, by omega⟩ _)

theorem win_col (old : FVec Ideal S1x32x128x2x64 .f32) (o : ℕ) (ho : 2048 ≤ o ∧ o + 128 ≤ 2304) (hs : S256x2304.Slices ![0, o] S256x128) (b : Fin 32) (w : Fin 128) (h : Fin 2) (d : Fin 64) :
    win old (extractStridedSlice S256x128 ![0, o] (W6 m ρ c (Proc.devRef .tc main_v13)) hs) (ix5 0 b w h d)
      = kept old (fun t => E m c b t ⟨3200 + o + (64 * h.val + d.val), by omega⟩) b w h d := by
  have hl : o + (64 * h.val + d.val) < 2304 := by omega
  refine (win_apply _ _ b w h d).trans (congrArg (fun f => kept old f b w h d) (funext fun t => ?_))
  have hv := w6_v13 m ρ c b t ⟨o + (64 * h.val + d.val), hl⟩
  refine Eq.trans ?_ (hv.trans (congrArg (E m c b t) (Fin.ext ?_)))
  · generalize W6 m ρ c (Proc.devRef .tc main_v13) = u
    revert u; intro (u : FVec Ideal S256x2304 .f32)
    pointwise
  · unfold swaCol
    rw [if_neg (by show ¬ o + (64 * h.val + d.val) < 1024; omega), if_neg (by show ¬ o + (64 * h.val + d.val) < 2048; omega)]
    show 5248 + (o + (64 * h.val + d.val) - 2048) = 3200 + o + (64 * h.val + d.val)
    omega

theorem res1 (b : Fin 32) (w : Fin 128) (h : Fin 2) (d : Fin 64) : (W7 m ρ c (Proc.devRef .tc main_v31) : S1x32x128x2x64.Idx → EReal) (ix5 0 b w h d)
    = kept (A3 m c) (fun t => E m c b t ⟨5248 + (64 * h.val + d.val), by omega⟩) b w h d := by
  have e : (W7 m ρ c (Proc.devRef .tc main_v31) : S1x32x128x2x64.Idx → EReal) = win (W6 m ρ c (Proc.devRef .tc main_arg3)) (extractStridedSlice S256x128 ![0, 2048] (W6 m ρ c (Proc.devRef .tc main_v13)) slices_S256x2304_S256x128_0_2048) := by
    after_results
    rfl
  rw [e, show W6 m ρ c (Proc.devRef .tc main_arg3) = A3 m c from W6_args m ρ c main_arg3 (by decide)]
  exact win_col m ρ c (A3 m c) 2048 (by omega) _ b w h d

theorem res2 (b : Fin 32) (w : Fin 128) (h : Fin 2) (d : Fin 64) : (W7 m ρ c (Proc.devRef .tc main_v33) : S1x32x128x2x64.Idx → EReal) (ix5 0 b w h d)
    = kept (A4 m c) (fun t => E m c b t ⟨5376 + (64 * h.val + d.val), by omega⟩) b w h d := by
  have e : (W7 m ρ c (Proc.devRef .tc main_v33) : S1x32x128x2x64.Idx → EReal) = win (W6 m ρ c (Proc.devRef .tc main_arg4)) (extractStridedSlice S256x128 ![0, 2176] (W6 m ρ c (Proc.devRef .tc main_v13)) slices_S256x2304_S256x128_0_2176) := by
    after_results
    rfl
  rw [e, show W6 m ρ c (Proc.devRef .tc main_arg4) = A4 m c from W6_args m ρ c main_arg4 (by decide)]
  exact win_col m ρ c (A4 m c) 2176 (by omega) _ b w h d

end Cert.Kernel8Ideal.Linear
-- ==== Proof.SampleInRef.lean ====
module

public import proofs.«01_k».proof.Proof.Window
public import proofs.«01_k».proof.Proof.Gen.Reference8Ideal
public import proofs.«01_k».proof.Proof.Gen.Reference8Ideal.Run

@[expose] public section

set_option maxRecDepth 16384

noncomputable section

open Idealize.ShloMosaic Idealize.ShloMosaic.TcCoe Idealize.SL.Sem

namespace Cert.Reference8Ideal.Linear
open Cert.Reference8Ideal Cert.Reference8Ideal.Gen Cert.Linear

/-- The root mean square norm of the tokens. -/
def nrm (x : FVec Ideal S32x8x2048 .f32) (g : FVec Ideal S1x2048 .f32) : FVec Ideal S32x8x2048 .f32 :=
  mulf (mulf x (broadcastInDim S32x8x2048 ![0, 1, 2] bcast_S32x8x1_S32x8x2048_0_1_2 (Host.rsqrt (addf (Host.divf (broadcastInDim S32x8x1 ![0, 1] bcast_S32x8_S32x8x1_0_1 (Host.reduceAdd (mulf x x) (constant S_ .f32 0x00000000#32) reducesTo_S32x8x2048_S32x8_d2 h_S_)) (broadcastInDim S32x8x1 ![] bcast_S_S32x8x1 (constant S_ .f32 0x45000000#32))) (broadcastInDim S32x8x1 ![] bcast_S_S32x8x1 (constant S_ .f32 0x358637BD#32)))))) (broadcastInDim S32x8x2048 ![0, 1, 2] bcast_S1x1x2048_S32x8x2048_0_1_2 (broadcastInDim S1x1x2048 ![2] bcast_S2048_S1x1x2048_2 (shapeCast _ g shapeCasts_S1x2048_S2048)))

/-- The input projection. -/
def z (x : FVec Ideal S32x8x2048 .f32) (g : FVec Ideal S1x2048 .f32) (w : FVec Ideal S1x2048x7040 .f32) : FVec Ideal S32x8x7040 .f32 :=
  Host.dotGeneral dot_S32x8x2048_S2048x7040_S32x8x7040_2_0_01_1_n_n none (nrm x g) (shapeCast _ w shapeCasts_S1x2048x7040_S2048x7040)

theorem reduces : S32x8x2048.Reduces [2] S32x8 := by decide

theorem nrm_apply (x : FVec Ideal S32x8x2048 .f32) (g : FVec Ideal S1x2048 .f32) (b : Fin 32) (t : Fin 8) (d : Fin 2048) :
    nrm x g (ix3 b t d) = rms (Ideal.ofBits .f32 0x45000000#32) (Ideal.ofBits .f32 0x358637BD#32) (fun d => x (ix3 b t d)) (fun d => g (ix2 0 d)) d := by
  have hs := sum3_apply (mulf x x) reduces reducesTo_S32x8x2048_S32x8_d2 h_S_ b t
  have hg : shapeCast S2048 g shapeCasts_S1x2048_S2048 (ix1 d) = g (ix2 0 d) :=
    shapeCast_apply _ _ (ix1 d) (ix2 0 d) (by rw [Shape.rowMajor_val_two, Shape.rowMajor_val_one]; show 0 * 2048 + d.val = d.val; omega)
  unfold nrm rms
  generalize Host.reduceAdd (mulf x x) (constant S_ .f32 0x00000000#32) reducesTo_S32x8x2048_S32x8_d2 h_S_ = s at hs ⊢
  generalize shapeCast S2048 g shapeCasts_S1x2048_S2048 = g' at hg ⊢
  have hs' : s (ix2 b t) = ∑ k : Fin 2048, (x (ix3 b t k) : EReal) * x (ix3 b t k) := hs
  beta_reduce
  rw [← hs', ← hg]
  pointwise

theorem z_apply (x : FVec Ideal S32x8x2048 .f32) (g : FVec Ideal S1x2048 .f32) (w : FVec Ideal S1x2048x7040 .f32) (b : Fin 32) (t : Fin 8) (n : Fin 7040) :
    z x g w (ix3 b t n) = zin (x : S32x8x2048.Idx → EReal) (fun d => g (ix2 0 d)) (fun k n => w (ix3 0 k n)) b t n := by
  refine (dot3_apply _ dot_S32x8x2048_S2048x7040_S32x8x7040_2_0_01_1_n_n_wf rfl (nrm x g) _ b t n).trans ?_
  refine Finset.sum_congr rfl fun k _ => congrArg₂ (fun a b : EReal => a * b) (nrm_apply x g b t k) ?_
  exact shapeCast_apply _ _ (ix2 k n) (ix3 0 k n) (by rw [Shape.rowMajor_val_two, Shape.rowMajor_val_three]; show (0 * 2048 + k.val) * 7040 + n.val = k.val * 7040 + n.val; omega)

theorem slice_apply (z : FVec Ideal S32x8x7040 .f32) {n : ℕ} (o : ℕ) (h : S32x8x7040.Slices ![0, 0, o] ⟨3, ![32, 8, n]⟩) (b : Fin 32) (t : Fin 8) (l : Fin n) (L : Fin 7040)
    (e : o + l.val = L.val) : extractStridedSlice ⟨3, ![32, 8, n]⟩ ![0, 0, o] z h (ix3 b t l) = z (ix3 b t L) := by
  pointwise
  exact congrArg z (congrArg (ix3 b t) (Fin.ext e))

/-- The last token's columns that the next step's token shift needs. -/
def last (z : FVec Ideal S32x8x7040 .f32) : FVec Ideal S1x32x3200 .f32 :=
  broadcastInDim S1x32x3200 ![1, 2] bcast_S32x3200_S1x32x3200_1_2 (shapeCast _ (extractStridedSlice S32x1x3200 ![0, 7, 0] (extractStridedSlice S32x8x3200 ![0, 0, 0] z slices_S32x8x7040_S32x8x3200_0_0_0) slices_S32x8x3200_S32x1x3200_0_7_0) shapeCasts_S32x1x3200_S32x3200)

theorem last_apply (z : FVec Ideal S32x8x7040 .f32) (b : Fin 32) (l : Fin 3200) :
    last z (ix3 0 b l) = z (ix3 b 7 ⟨l.val, by omega⟩) := by
  unfold last
  have e : ∀ y : FVec Ideal S32x1x3200 .f32, broadcastInDim S1x32x3200 ![1, 2] bcast_S32x3200_S1x32x3200_1_2 (shapeCast S32x3200 y shapeCasts_S32x1x3200_S32x3200) (ix3 0 b l) = y (ix3 b 0 l) := fun y => by
    have h1 := shapeCast_apply y shapeCasts_S32x1x3200_S32x3200 (ix2 b l) (ix3 b 0 l) (by rw [Shape.rowMajor_val_two, Shape.rowMajor_val_three]; show (b.val * 1 + 0) * 3200 + l.val = b.val * 3200 + l.val; omega)
    rw [← h1]
    generalize shapeCast S32x3200 y shapeCasts_S32x1x3200_S32x3200 = u
    pointwise
  rw [e]
  pointwise
  all_goals first | rfl | exact congrArg z (congrArg (ix3 b 7) (Fin.ext (Nat.zero_add _)))

/-- The window's keys or values: the old window and the new tokens joined, the last 128 tokens. -/
def win (old : FVec Ideal S1x32x128x2x64 .f32) (y : FVec Ideal S32x8x128 .f32) : FVec Ideal S1x32x128x2x64 .f32 :=
  broadcastInDim S1x32x128x2x64 ![1, 2, 3, 4] bcast_S32x128x2x64_S1x32x128x2x64_1_2_3_4 (extractStridedSlice S32x128x2x64 ![0, 8, 0, 0] (concatenate S32x136x2x64 1 [⟨S32x128x2x64, shapeCast _ old shapeCasts_S1x32x128x2x64_S32x128x2x64⟩, ⟨S32x8x2x64, shapeCast _ y shapeCasts_S32x8x128_S32x8x2x64⟩] concatenates_S32x128x2x64_S32x8x2x64_S32x136x2x64_d1) slices_S32x136x2x64_S32x128x2x64_0_8_0_0)

theorem win_apply (old : FVec Ideal S1x32x128x2x64 .f32) (y : FVec Ideal S32x8x128 .f32) (b : Fin 32) (w : Fin 128) (h : Fin 2) (d : Fin 64) :
    win old y (ix5 0 b w h d) = kept old (fun t => y (ix3 b t ⟨64 * h.val + d.val, by omega⟩)) b w h d := by
  have e : ∀ x : FVec Ideal S32x136x2x64 .f32, broadcastInDim S1x32x128x2x64 ![1, 2, 3, 4] bcast_S32x128x2x64_S1x32x128x2x64_1_2_3_4 (extractStridedSlice S32x128x2x64 ![0, 8, 0, 0] x slices_S32x136x2x64_S32x128x2x64_0_8_0_0) (ix5 0 b w h d)
      = x (ix4 b ⟨8 + w.val, by omega⟩ h d) := fun x => by
    pointwise
  refine (e _).trans ?_
  unfold kept
  by_cases hw : w.val < 120
  · rw [dif_pos hw]
    refine Eq.trans (mid4 (m := 128) _ _ 0 (by simp) _ rfl 0 rfl b _ _ _ ⟨8 + w.val, by omega⟩ (Nat.zero_add _)) ?_
    exact shapeCast_apply old shapeCasts_S1x32x128x2x64_S32x128x2x64 (ix4 b ⟨8 + w.val, by omega⟩ h d) (ix5 0 b ⟨8 + w.val, by omega⟩ h d)
      (by rw [Shape.rowMajor_val_four, Shape.rowMajor_val_five]; show (((0 * 32 + b.val) * 128 + (8 + w.val)) * 2 + h.val) * 64 + d.val = ((b.val * 128 + (8 + w.val)) * 2 + h.val) * 64 + d.val; omega)
  · rw [dif_neg hw]
    refine Eq.trans (mid4 (m := 8) _ _ 1 (by simp) _ rfl 128 rfl b _ _ _ ⟨w.val - 120, by omega⟩ (by show 128 + (w.val - 120) = 8 + w.val; omega)) ?_
    exact shapeCast_apply y shapeCasts_S32x8x128_S32x8x2x64 (ix4 b ⟨w.val - 120, by omega⟩ h d) (ix3 b ⟨w.val - 120, by omega⟩ ⟨64 * h.val + d.val, by omega⟩)
      (by rw [Shape.rowMajor_val_three, Shape.rowMajor_val_four]; show (b.val * 8 + (w.val - 120)) * 128 + (64 * h.val + d.val) = ((b.val * 8 + (w.val - 120)) * 2 + h.val) * 64 + d.val; omega)

variable (m : (ℓ : Loc nD τ sig) → Buf (Elt Ideal) ℓ) (ρ : Dev nD → PrngReg)

/-- The projection of what a device's argument arrays hold. -/
def zarg (c : Dev nD) : FVec Ideal S32x8x7040 .f32 :=
  z (m ((c.tc : Thread nD τ).loc main_arg0)) (m ((c.tc : Thread nD τ).loc main_arg1)) (m ((c.tc : Thread nD τ).loc main_arg2))

/-- Every execution of the reference ends with the three results, each a part of the projection, and the arguments kept. -/
theorem run : θ_run defs (onTc (τ := τ) (main (F := Ideal))) ⟨m, fun _ => 0, ρ⟩ fun r => ∀ c : Dev nD,
    r.2.mem ((c.tc : Thread nD τ).loc main_v32) = last (zarg m c)
    ∧ r.2.mem ((c.tc : Thread nD τ).loc main_v34) = win (m ((c.tc : Thread nD τ).loc main_arg3)) (extractStridedSlice S32x8x128 ![0, 0, 5248] (zarg m c) slices_S32x8x7040_S32x8x128_0_0_5248)
    ∧ r.2.mem ((c.tc : Thread nD τ).loc main_v36) = win (m ((c.tc : Thread nD τ).loc main_arg4)) (extractStridedSlice S32x8x128 ![0, 0, 5376] (zarg m c) slices_S32x8x7040_S32x8x128_0_0_5376)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  Cert.Reference8Ideal.Value.run m ρ

end Cert.Reference8Ideal.Linear
-- ==== Proof.SampleIn.lean ====
module

public import proofs.«01_k».proof.Proof.Linear
public import proofs.«01_k».proof.Proof.SampleInVal
public import proofs.«01_k».proof.Proof.SampleInRef
public import proofs.«01_k».proof.Defs

@[expose] public section

set_option maxRecDepth 16384

noncomputable section

open Idealize.ShloMosaic Idealize.ShloMosaic.TcCoe Idealize.SL.Sem

namespace Cert.SampleIn
open Cert.Linear

/-- Both programs' projections agree when their arguments do. -/
theorem zarg_eq (m : (ℓ : Loc Kernel8Ideal.nD Kernel8Ideal.τ Kernel8Ideal.sig) → Buf (Elt Ideal) ℓ)
    (m' : (ℓ : Loc Reference8Ideal.nD Reference8Ideal.τ Reference8Ideal.sig) → Buf (Elt Ideal) ℓ) (c : Dev Kernel8Ideal.nD)
    (e0 : m' ((c.tc : Thread Reference8Ideal.nD Reference8Ideal.τ).loc Reference8Ideal.main_arg0) = m ((c.tc : Thread Kernel8Ideal.nD Kernel8Ideal.τ).loc Kernel8Ideal.main_arg0))
    (e1 : m' ((c.tc : Thread Reference8Ideal.nD Reference8Ideal.τ).loc Reference8Ideal.main_arg1) = m ((c.tc : Thread Kernel8Ideal.nD Kernel8Ideal.τ).loc Kernel8Ideal.main_arg1))
    (e2 : m' ((c.tc : Thread Reference8Ideal.nD Reference8Ideal.τ).loc Reference8Ideal.main_arg2) = m ((c.tc : Thread Kernel8Ideal.nD Kernel8Ideal.τ).loc Kernel8Ideal.main_arg2))
    (b : Fin 32) (t : Fin 8) (n : Fin 7040) :
    Reference8Ideal.Linear.zarg m' c (ix3 b t n) = Kernel8Ideal.Linear.E m c b t n := by
  unfold Reference8Ideal.Linear.zarg
  rw [e0, e1, e2]
  exact Reference8Ideal.Linear.z_apply _ _ _ b t n

/-- The sample batch's first input projection: the kernel and the reference end with the same last columns for the token
shift and the same windows of keys and values. -/
theorem projection : algebraic_Kernel8Ideal_Reference8Ideal (hKernel8Ideal := Cert.Kernel8Ideal.Gen.facts)
    (hReference8Ideal := Cert.Reference8Ideal.Gen.facts) := by
  intro m g m' g' _ hargs
  refine ⟨fun c => Kernel8Ideal.Gen.W7 m g c (Proc.devRef .tc Kernel8Ideal.main_v29), fun c => Kernel8Ideal.Gen.W7 m g c (Proc.devRef .tc Kernel8Ideal.main_v31), fun c => Kernel8Ideal.Gen.W7 m g c (Proc.devRef .tc Kernel8Ideal.main_v33),
    (θ_run Cert.Kernel8Ideal.defs _ _).mono (fun r h c => ?_) (Kernel8Ideal.Linear.run_all m g),
    (θ_run Cert.Reference8Ideal.defs _ _).mono (fun r h c => ?_) (Reference8Ideal.Linear.run m' g')⟩
  · exact ⟨h c _ (Kernel8Ideal.Gen.mem_uc Kernel8Ideal.main_v29 (by decide)), h c _ (Kernel8Ideal.Gen.mem_uc Kernel8Ideal.main_v31 (by decide)), h c _ (Kernel8Ideal.Gen.mem_uc Kernel8Ideal.main_v33 (by decide)),
      (h c _ (Kernel8Ideal.Gen.mem_uc Kernel8Ideal.main_arg0 (by decide))).trans (Kernel8Ideal.Gen.W7_main_arg0 m g c), (h c _ (Kernel8Ideal.Gen.mem_uc Kernel8Ideal.main_arg1 (by decide))).trans (Kernel8Ideal.Gen.W7_main_arg1 m g c), (h c _ (Kernel8Ideal.Gen.mem_uc Kernel8Ideal.main_arg2 (by decide))).trans (Kernel8Ideal.Gen.W7_main_arg2 m g c), (h c _ (Kernel8Ideal.Gen.mem_uc Kernel8Ideal.main_arg3 (by decide))).trans (Kernel8Ideal.Gen.W7_main_arg3 m g c), (h c _ (Kernel8Ideal.Gen.mem_uc Kernel8Ideal.main_arg4 (by decide))).trans (Kernel8Ideal.Gen.W7_main_arg4 m g c)⟩
  · obtain ⟨e0, e1, e2, e3, e4⟩ := hargs c
    have hz := zarg_eq m m' c e0 e1 e2
    obtain ⟨h0, h1, h2, hk⟩ := h c
    refine ⟨h0.trans ?_, h1.trans ?_, h2.trans ?_, hk⟩
    · funext i
      have i0 : i 0 = (0 : Fin 1) := Subsingleton.elim (α := Fin 1) _ _
      rw [eq_ix3 i, i0]
      exact (Reference8Ideal.Linear.last_apply _ (i 1) (i 2)).trans ((hz _ _ _).trans (Kernel8Ideal.Linear.res0 m g c (i 1) (i 2)).symm)
    · funext i
      have i0 : i 0 = (0 : Fin 1) := Subsingleton.elim (α := Fin 1) _ _
      have i3 : (i 3).val < 2 := (i 3).isLt
      have i4 : (i 4).val < 64 := (i 4).isLt
      rw [eq_ix5 i, i0, e3]
      refine (Reference8Ideal.Linear.win_apply _ _ (i 1) (i 2) (i 3) (i 4)).trans (Eq.trans (congrArg (fun f => kept _ f (i 1) (i 2) (i 3) (i 4)) (funext fun t => ?_)) (Kernel8Ideal.Linear.res1 m g c (i 1) (i 2) (i 3) (i 4)).symm)
      exact (Reference8Ideal.Linear.slice_apply _ 5248 _ _ _ _ ⟨5248 + (64 * (i 3).val + (i 4).val), by omega⟩ rfl).trans (hz _ _ _)
    · funext i
      have i0 : i 0 = (0 : Fin 1) := Subsingleton.elim (α := Fin 1) _ _
      have i3 : (i 3).val < 2 := (i 3).isLt
      have i4 : (i 4).val < 64 := (i 4).isLt
      rw [eq_ix5 i, i0, e4]
      refine (Reference8Ideal.Linear.win_apply _ _ (i 1) (i 2) (i 3) (i 4)).trans (Eq.trans (congrArg (fun f => kept _ f (i 1) (i 2) (i 3) (i 4)) (funext fun t => ?_)) (Kernel8Ideal.Linear.res2 m g c (i 1) (i 2) (i 3) (i 4)).symm)
      exact (Reference8Ideal.Linear.slice_apply _ 5376 _ _ _ _ ⟨5376 + (64 * (i 3).val + (i 4).val), by omega⟩ rfl).trans (hz _ _ _)

end Cert.SampleIn
-- ==== Proof.SampleOutInRegions.lean ====
module

public import proofs.«01_k».proof.Proof.Linear
public import proofs.«01_k».proof.Proof.Gen.Kernel9Ideal
public import proofs.«01_k».proof.Proof.Gen.Kernel9Ideal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.Kernel9Ideal.Linear
open Cert.Kernel9Ideal.Gen Cert.Linear

theorem z2 : (![0, 0] : Fin 2 → ℕ) = fun _ => 0 := funext fun a => match a with | 0 => rfl | 1 => rfl

variable (V : (c : Dev nD) → (b : Ref sig .tc) → Buf (Elt Ideal) ((c : Thread nD τ).loc b))

/-- The block window 0 of region 0 takes at a grid point. -/
theorem index0_0 : ∀ t : Fin cfg0.N, win0_0.index t (0 : Fin 2) = t.val ∧ win0_0.index t (1 : Fin 2) = 0 :=
  (by decide +kernel : ∀ t : Fin grid0.N, _)

/-- The block window 1 of region 0 takes at a grid point. -/
theorem index0_1 : ∀ t : Fin cfg0.N, win0_1.index t (0 : Fin 2) = t.val ∧ win0_1.index t (1 : Fin 2) = 0 :=
  (by decide +kernel : ∀ t : Fin grid0.N, _)

/-- The block window 2 of region 0 takes at a grid point. -/
theorem index0_2 : ∀ t : Fin cfg0.N, win0_2.index t (0 : Fin 2) = t.val ∧ win0_2.index t (1 : Fin 2) = 0 :=
  (by decide +kernel : ∀ t : Fin grid0.N, _)

/-- The block window 6 of region 0 takes at a grid point. -/
theorem index0_6 : ∀ t : Fin cfg0.N, win0_6.index t (0 : Fin 2) = t.val ∧ win0_6.index t (1 : Fin 2) = 0 :=
  (by decide +kernel : ∀ t : Fin grid0.N, _)

/-- The block window 8 of region 0 takes at a grid point. -/
theorem index0_8 : ∀ t : Fin cfg0.N, win0_8.index t (0 : Fin 2) = t.val ∧ win0_8.index t (1 : Fin 2) = 0 :=
  (by decide +kernel : ∀ t : Fin grid0.N, _)

/-- The block window 9 of region 0 takes at a grid point. -/
theorem index0_9 : ∀ t : Fin cfg0.N, win0_9.index t (0 : Fin 2) = t.val ∧ win0_9.index t (1 : Fin 2) = 0 :=
  (by decide +kernel : ∀ t : Fin grid0.N, _)

/-- The block window 3 of region 0 takes at a grid point. -/
theorem index0_3 : ∀ t : Fin cfg0.N, win0_3.index t (0 : Fin 2) = 0 ∧ win0_3.index t (1 : Fin 2) = 0 :=
  (by decide +kernel : ∀ t : Fin grid0.N, _)

/-- The block window 4 of region 0 takes at a grid point. -/
theorem index0_4 : ∀ t : Fin cfg0.N, win0_4.index t (0 : Fin 2) = 0 ∧ win0_4.index t (1 : Fin 2) = 0 :=
  (by decide +kernel : ∀ t : Fin grid0.N, _)

/-- The block window 5 of region 0 takes at a grid point. -/
theorem index0_5 : ∀ t : Fin cfg0.N, win0_5.index t (0 : Fin 2) = 0 ∧ win0_5.index t (1 : Fin 2) = 0 :=
  (by decide +kernel : ∀ t : Fin grid0.N, _)

/-- The block window 7 of region 0 takes at a grid point. -/
theorem index0_7 : ∀ t : Fin cfg0.N, win0_7.index t (0 : Fin 2) = 0 ∧ win0_7.index t (1 : Fin 2) = 0 :=
  (by decide +kernel : ∀ t : Fin grid0.N, _)

theorem N_le0 (t : Fin cfg0.N) : t.val < 1 := lt_of_lt_of_eq t.isLt (show cfg0.N = 1 from N_0)

theorem dims0_256 : dot_S256x256_S256x2048_S256x2048_1_0_0_1_n_n = DotDims.plain 256 256 2048 := rfl

theorem dims0_1024 : dot_S256x1024_S1024x2048_S256x2048_1_0_0_1_n_n = DotDims.plain 256 1024 2048 := rfl

/-- The rows with the branches' products added, one grid point's block. -/
def acc0 (x : FVec Ideal S256x2048 .f32) (h0 : FVec Ideal S256x1024 .f32) (w0 : FVec Ideal S1024x2048 .bf16) (h1 : FVec Ideal S256x1024 .f32) (w1 : FVec Ideal S1024x2048 .bf16) (h2 : FVec Ideal S256x256 .f32) (w2 : FVec Ideal S256x2048 .bf16) : FVec Ideal S256x2048 .f32 :=
  addf (addf (addf (x) (matmul (F := Ideal) dot_S256x1024_S1024x2048_S256x2048_1_0_0_1_n_n none (truncf .bf16 h0 bitsLt_bf16_f32) w0 (constant S256x2048 .f32 0x00000000#32))) (matmul (F := Ideal) dot_S256x1024_S1024x2048_S256x2048_1_0_0_1_n_n none (truncf .bf16 h1 bitsLt_bf16_f32) w1 (constant S256x2048 .f32 0x00000000#32))) (matmul (F := Ideal) dot_S256x256_S256x2048_S256x2048_1_0_0_1_n_n none (truncf .bf16 h2 bitsLt_bf16_f32) w2 (constant S256x2048 .f32 0x00000000#32))

theorem acc0_apply (x : FVec Ideal S256x2048 .f32) (h0 : FVec Ideal S256x1024 .f32) (w0 : FVec Ideal S1024x2048 .bf16) (h1 : FVec Ideal S256x1024 .f32) (w1 : FVec Ideal S1024x2048 .bf16) (h2 : FVec Ideal S256x256 .f32) (w2 : FVec Ideal S256x2048 .bf16) (r : Fin 256) (l : Fin 2048) :
    (acc0 x h0 w0 h1 w1 h2 w2 : S256x2048.Idx → EReal) (ix2 r l) = (x (ix2 r l) : EReal) + (∑ k : Fin 1024, (h0 (ix2 r k) : EReal) * (w0 (ix2 k l) : EReal)) + (∑ k : Fin 1024, (h1 (ix2 r k) : EReal) * (w1 (ix2 k l) : EReal)) + (∑ k : Fin 256, (h2 (ix2 r k) : EReal) * (w2 (ix2 k l) : EReal)) := by
  unfold acc0
  rw [dims0_256, dims0_1024]
  pointwise [Ideal.matmul_plain_apply]

theorem pay0_acc (x : FVec Ideal S256x2048 .f32) (h0 : FVec Ideal S256x1024 .f32) (w0 : FVec Ideal S1024x2048 .bf16) (h1 : FVec Ideal S256x1024 .f32) (w1 : FVec Ideal S1024x2048 .bf16) (h2 : FVec Ideal S256x256 .f32) (w2 : FVec Ideal S256x2048 .bf16) :
    k0_pay2 (F := Ideal) x h0 w0 h1 w1 h2 w2 = acc0 x h0 w0 h1 w1 h2 w2 := by
  unfold k0_pay2 acc0
  simp only [shapeCast_self]

/-- The block stored at a grid point is the norm of the sums. -/
theorem pay0_apply (x : FVec Ideal S256x2048 .f32) (h0 : FVec Ideal S256x1024 .f32) (w0 : FVec Ideal S1024x2048 .bf16) (h1 : FVec Ideal S256x1024 .f32) (w1 : FVec Ideal S1024x2048 .bf16) (h2 : FVec Ideal S256x256 .f32) (w2 : FVec Ideal S256x2048 .bf16) (g : FVec Ideal S1x2048 .f32) (r : Fin 256) (l : Fin 2048) :
    (k0_pay1 (k0_pay3 (F := Ideal) x h0 w0 h1 w1 h2 w2 g) : S256x2048.Idx → EReal) (ix2 r l) = rms (Ideal.ofBits .f32 0x45000000#32) (Ideal.ofBits .f32 0x358637BD#32)
      (fun d => (acc0 x h0 w0 h1 w1 h2 w2 (ix2 r d) : EReal)) (fun d => (g (ix2 0 d) : EReal)) l := by
  unfold k0_pay1 k0_pay3
  unfold rms
  simp only [shapeCast_self]
  rw [pay0_acc]
  generalize acc0 x h0 w0 h1 w1 h2 w2 = y
  pointwise
  exact congrArg (fun s : EReal => (y (ix2 r l) : EReal) * Ideal.rsqrt (Ideal.div s (Ideal.ofBits .f32 0x45000000#32)
    + Ideal.ofBits .f32 0x358637BD#32) * (g (ix2 0 l) : EReal)) (colSum (mulf y y) r _ _ _ _)

/-- An element of window 0's block in region 0. -/
theorem blk0_0 (c : Dev nD) (t : Fin cfg0.N) (r : Fin 256) (l : Fin 1024) (R : Fin 256) (L : Fin 1024)
    (hR : R.val = 256 * t.val + r.val) (hL : L.val = l.val) : iblk0 V c 0 t (ix2 r l) = V c main_arg0 (ix2 R L) := by
  obtain ⟨e0, e1⟩ := index0_0 t
  refine congrArg (V c main_arg0) (funext fun a => Fin.ext ?_)
  match a with
  | 0 => show win0_0.index t (0 : Fin 2) * 256 + 1 * r.val = R.val; omega
  | 1 => show win0_0.index t (1 : Fin 2) * 1024 + 1 * l.val = L.val; omega

/-- An element of window 3's block in region 0. -/
theorem blk0_3 (c : Dev nD) (t : Fin cfg0.N) (r : Fin 1024) (l : Fin 2048) (R : Fin 1024) (L : Fin 2048)
    (hR : R.val = r.val) (hL : L.val = l.val) : iblk0 V c 3 t (ix2 r l) = V c main_v3 (ix2 R L) := by
  obtain ⟨e0, e1⟩ := index0_3 t
  refine congrArg (V c main_v3) (funext fun a => Fin.ext ?_)
  match a with
  | 0 => show win0_3.index t (0 : Fin 2) * 1024 + 1 * r.val = R.val; omega
  | 1 => show win0_3.index t (1 : Fin 2) * 2048 + 1 * l.val = L.val; omega

/-- An element of window 1's block in region 0. -/
theorem blk0_1 (c : Dev nD) (t : Fin cfg0.N) (r : Fin 256) (l : Fin 1024) (R : Fin 256) (L : Fin 1024)
    (hR : R.val = 256 * t.val + r.val) (hL : L.val = l.val) : iblk0 V c 1 t (ix2 r l) = V c main_arg1 (ix2 R L) := by
  obtain ⟨e0, e1⟩ := index0_1 t
  refine congrArg (V c main_arg1) (funext fun a => Fin.ext ?_)
  match a with
  | 0 => show win0_1.index t (0 : Fin 2) * 256 + 1 * r.val = R.val; omega
  | 1 => show win0_1.index t (1 : Fin 2) * 1024 + 1 * l.val = L.val; omega

/-- An element of window 4's block in region 0. -/
theorem blk0_4 (c : Dev nD) (t : Fin cfg0.N) (r : Fin 1024) (l : Fin 2048) (R : Fin 1024) (L : Fin 2048)
    (hR : R.val = r.val) (hL : L.val = l.val) : iblk0 V c 4 t (ix2 r l) = V c main_v4 (ix2 R L) := by
  obtain ⟨e0, e1⟩ := index0_4 t
  refine congrArg (V c main_v4) (funext fun a => Fin.ext ?_)
  match a with
  | 0 => show win0_4.index t (0 : Fin 2) * 1024 + 1 * r.val = R.val; omega
  | 1 => show win0_4.index t (1 : Fin 2) * 2048 + 1 * l.val = L.val; omega

/-- An element of window 2's block in region 0. -/
theorem blk0_2 (c : Dev nD) (t : Fin cfg0.N) (r : Fin 256) (l : Fin 256) (R : Fin 256) (L : Fin 256)
    (hR : R.val = 256 * t.val + r.val) (hL : L.val = l.val) : iblk0 V c 2 t (ix2 r l) = V c main_arg2 (ix2 R L) := by
  obtain ⟨e0, e1⟩ := index0_2 t
  refine congrArg (V c main_arg2) (funext fun a => Fin.ext ?_)
  match a with
  | 0 => show win0_2.index t (0 : Fin 2) * 256 + 1 * r.val = R.val; omega
  | 1 => show win0_2.index t (1 : Fin 2) * 256 + 1 * l.val = L.val; omega

/-- An element of window 5's block in region 0. -/
theorem blk0_5 (c : Dev nD) (t : Fin cfg0.N) (r : Fin 256) (l : Fin 2048) (R : Fin 256) (L : Fin 2048)
    (hR : R.val = r.val) (hL : L.val = l.val) : iblk0 V c 5 t (ix2 r l) = V c main_v5 (ix2 R L) := by
  obtain ⟨e0, e1⟩ := index0_5 t
  refine congrArg (V c main_v5) (funext fun a => Fin.ext ?_)
  match a with
  | 0 => show win0_5.index t (0 : Fin 2) * 256 + 1 * r.val = R.val; omega
  | 1 => show win0_5.index t (1 : Fin 2) * 2048 + 1 * l.val = L.val; omega

/-- An element of window 6's block in region 0. -/
theorem blk0_6 (c : Dev nD) (t : Fin cfg0.N) (r : Fin 256) (l : Fin 2048) (R : Fin 256) (L : Fin 2048)
    (hR : R.val = 256 * t.val + r.val) (hL : L.val = l.val) : iblk0 V c 6 t (ix2 r l) = V c main_arg3 (ix2 R L) := by
  obtain ⟨e0, e1⟩ := index0_6 t
  refine congrArg (V c main_arg3) (funext fun a => Fin.ext ?_)
  match a with
  | 0 => show win0_6.index t (0 : Fin 2) * 256 + 1 * r.val = R.val; omega
  | 1 => show win0_6.index t (1 : Fin 2) * 2048 + 1 * l.val = L.val; omega

/-- An element of window 7's block in region 0. -/
theorem blk0_7 (c : Dev nD) (t : Fin cfg0.N) (r : Fin 1) (l : Fin 2048) (R : Fin 1) (L : Fin 2048)
    (hR : R.val = r.val) (hL : L.val = l.val) : iblk0 V c 7 t (ix2 r l) = V c main_v7 (ix2 R L) := by
  obtain ⟨e0, e1⟩ := index0_7 t
  refine congrArg (V c main_v7) (funext fun a => Fin.ext ?_)
  match a with
  | 0 => show win0_7.index t (0 : Fin 2) * 1 + 1 * r.val = R.val; omega
  | 1 => show win0_7.index t (1 : Fin 2) * 2048 + 1 * l.val = L.val; omega

/-- The rows with the branches' products added. -/
def sum0 (c : Dev nD) : S256x2048.Idx → EReal := plus (plus (plus ((V c main_arg3 : S256x2048.Idx → EReal)) (prod (V c main_arg0 : S256x1024.Idx → EReal) (V c main_v3 : S1024x2048.Idx → EReal))) (prod (V c main_arg1 : S256x1024.Idx → EReal) (V c main_v4 : S1024x2048.Idx → EReal))) (prod (V c main_arg2 : S256x256.Idx → EReal) (V c main_v5 : S256x2048.Idx → EReal))

theorem accblk0 (c : Dev nD) (t : Fin cfg0.N) (r : Fin 256) (R : Fin 256) (hR : R.val = 256 * t.val + r.val) (d : Fin 2048) :
    (acc0 (iblk0 V c 6 t) (iblk0 V c 0 t) (iblk0 V c 3 t) (iblk0 V c 1 t) (iblk0 V c 4 t) (iblk0 V c 2 t) (iblk0 V c 5 t) (ix2 r d) : EReal) = sum0 V c (ix2 R d) := by
  refine (acc0_apply _ _ _ _ _ _ _ r d).trans ?_
  unfold sum0
  exact congrArg₂ (fun a b : EReal => a + b) (congrArg₂ (fun a b : EReal => a + b) (congrArg₂ (fun a b : EReal => a + b) (blk0_6 V c t r d R d hR rfl) (Finset.sum_congr rfl fun k _ => congrArg₂ (fun a b : EReal => a * b) (blk0_0 V c t r k R k hR rfl) (blk0_3 V c t k d k d rfl rfl))) (Finset.sum_congr rfl fun k _ => congrArg₂ (fun a b : EReal => a * b) (blk0_1 V c t r k R k hR rfl) (blk0_4 V c t k d k d rfl rfl))) (Finset.sum_congr rfl fun k _ => congrArg₂ (fun a b : EReal => a * b) (blk0_2 V c t r k R k hR rfl) (blk0_5 V c t k d k d rfl rfl))

/-- What a grid point writes back through window 8 is its block of the result. -/
theorem flushed0_8 (c : Dev nD) (t : Fin cfg0.N) : (dat0 V c).flushed 8 t
    = ((cfg0.win 8).blk t).view.read (Elt Ideal) (sum0 V c) := by
  obtain ⟨e0, e1⟩ := index0_8 t
  have ht := N_le0 t
  show (cfg0.win 8).cut (grid0.coords t) ((dat0 V c).after 8 t) = _
  rw [after0_8]
  unfold out0_8
  rw [View.canon_unit_zero (S := S256x2048) z2]
  simp only [View.ld_unit_zero (S := S256x2048) z2, View.ld_unit_zero (S := S256x1024) z2, View.ld_unit_zero (S := S256x256) z2, View.ld_unit_zero (S := S1024x2048) z2]
  funext y
  obtain ⟨r, l, rfl⟩ : ∃ (r : Fin 256) (l : Fin 2048), y = ix2 r l := ⟨y 0, y 1, eq_ix2 y⟩
  have hr := r.isLt
  let R : Fin 256 := ⟨256 * t.val + r.val, by omega⟩
  have hemb : ((cfg0.win 8).blk t).view.emb (ix2 r l) = (ix2 R l : S256x2048.Idx) := by
    refine funext fun a => Fin.ext ?_
    match a with
    | 0 => show win0_8.index t (0 : Fin 2) * 256 + 1 * r.val = R.val; simp only [R]; omega
    | 1 => show win0_8.index t (1 : Fin 2) * 2048 + 1 * l.val = l.val; omega
  refine Eq.trans ?_ (congrArg (sum0 V c) hemb).symm
  refine (congrFun (pay0_acc (iblk0 V c 6 t) (iblk0 V c 0 t) (iblk0 V c 3 t) (iblk0 V c 1 t) (iblk0 V c 4 t) (iblk0 V c 2 t) (iblk0 V c 5 t)) (ix2 r l)).trans ?_
  exact accblk0 V c t r R rfl l

/-- Every entry of the array lies in a block that some grid point writes back. -/
theorem covered0_8 (i : S256x2048.Idx) :
    ∃ t : Fin cfg0.N, (cfg0.win 8).flush t = true ∧ i ∈ ((cfg0.win 8).blk t).view.set := by
  have h0 : (i 0).val < 256 := (i 0).isLt
  have h1 : (i 1).val < 2048 := (i 1).isLt
  let t : Fin cfg0.N := ⟨(i 0).val / 256, lt_of_lt_of_eq (b := 1) (by omega) (show 1 = cfg0.N from N_0.symm)⟩
  obtain ⟨e0, e1⟩ := index0_8 t
  have tv : t.val = (i 0).val / 256 := rfl
  refine ⟨t, flush0_8 t, ?_⟩
  have hm := ((cfg0.win 8).blk t).view.emb_mem_set (ix2 ⟨(i 0).val % 256, by omega⟩ ⟨(i 1).val % 2048, by omega⟩)
  have he : ((cfg0.win 8).blk t).view.emb (ix2 ⟨(i 0).val % 256, by omega⟩ ⟨(i 1).val % 2048, by omega⟩) = i := by
    refine funext fun a => Fin.ext ?_
    match a with
    | 0 => show win0_8.index t (0 : Fin 2) * 256 + 1 * ((i 0).val % 256) = (i 0).val; omega
    | 1 => show win0_8.index t (1 : Fin 2) * 2048 + 1 * ((i 1).val % 2048) = (i 1).val; omega
  rwa [he] at hm

/-- What region 0 leaves through window 8. -/
theorem final0_8 (c : Dev nD) : (dat0 V c).arrAt 8 cfg0.N = (sum0 V c) :=
  (dat0 V c).arrAt_eq_of_cover 8 _ (fun t _ => flushed0_8 V c t) covered0_8

/-- What a grid point writes back through window 9 is its block of the result. -/
theorem flushed0_9 (c : Dev nD) (t : Fin cfg0.N) : (dat0 V c).flushed 9 t
    = ((cfg0.win 9).blk t).view.read (Elt Ideal) (normed (sum0 V c) fun d => (V c main_v7 : S1x2048.Idx → EReal) (ix2 0 d)) := by
  obtain ⟨e0, e1⟩ := index0_9 t
  have ht := N_le0 t
  show (cfg0.win 9).cut (grid0.coords t) ((dat0 V c).after 9 t) = _
  rw [after0_9]
  unfold out0_9
  rw [View.canon_unit_zero (S := S256x2048) z2]
  simp only [View.ld_unit_zero (S := S256x2048) z2, View.ld_unit_zero (S := S256x1024) z2, View.ld_unit_zero (S := S256x256) z2, View.ld_unit_zero (S := S1024x2048) z2, View.ld_unit_zero (S := S1x2048) z2]
  funext y
  obtain ⟨r, l, rfl⟩ : ∃ (r : Fin 256) (l : Fin 2048), y = ix2 r l := ⟨y 0, y 1, eq_ix2 y⟩
  have hr := r.isLt
  let R : Fin 256 := ⟨256 * t.val + r.val, by omega⟩
  have hemb : ((cfg0.win 9).blk t).view.emb (ix2 r l) = (ix2 R l : S256x2048.Idx) := by
    refine funext fun a => Fin.ext ?_
    match a with
    | 0 => show win0_9.index t (0 : Fin 2) * 256 + 1 * r.val = R.val; simp only [R]; omega
    | 1 => show win0_9.index t (1 : Fin 2) * 2048 + 1 * l.val = l.val; omega
  refine (pay0_apply _ _ _ _ _ _ _ _ r l).trans (Eq.trans ?_ (congrArg (normed (sum0 V c) fun d => (V c main_v7 : S1x2048.Idx → EReal) (ix2 0 d)) hemb).symm)
  have e := funext fun d => accblk0 V c t r R rfl d
  have e' : (fun d : Fin 2048 => (iblk0 V c 7 t (ix2 0 d) : EReal)) = fun d => V c main_v7 (ix2 0 d) :=
    funext fun d => blk0_7 V c t 0 d 0 d (by omega) (by omega)
  unfold normed
  rw [e, e']
  rfl

/-- Every entry of the array lies in a block that some grid point writes back. -/
theorem covered0_9 (i : S256x2048.Idx) :
    ∃ t : Fin cfg0.N, (cfg0.win 9).flush t = true ∧ i ∈ ((cfg0.win 9).blk t).view.set := by
  have h0 : (i 0).val < 256 := (i 0).isLt
  have h1 : (i 1).val < 2048 := (i 1).isLt
  let t : Fin cfg0.N := ⟨(i 0).val / 256, lt_of_lt_of_eq (b := 1) (by omega) (show 1 = cfg0.N from N_0.symm)⟩
  obtain ⟨e0, e1⟩ := index0_9 t
  have tv : t.val = (i 0).val / 256 := rfl
  refine ⟨t, flush0_9 t, ?_⟩
  have hm := ((cfg0.win 9).blk t).view.emb_mem_set (ix2 ⟨(i 0).val % 256, by omega⟩ ⟨(i 1).val % 2048, by omega⟩)
  have he : ((cfg0.win 9).blk t).view.emb (ix2 ⟨(i 0).val % 256, by omega⟩ ⟨(i 1).val % 2048, by omega⟩) = i := by
    refine funext fun a => Fin.ext ?_
    match a with
    | 0 => show win0_9.index t (0 : Fin 2) * 256 + 1 * ((i 0).val % 256) = (i 0).val; omega
    | 1 => show win0_9.index t (1 : Fin 2) * 2048 + 1 * ((i 1).val % 2048) = (i 1).val; omega
  rwa [he] at hm

/-- What region 0 leaves through window 9. -/
theorem final0_9 (c : Dev nD) : (dat0 V c).arrAt 9 cfg0.N = (normed (sum0 V c) fun d => (V c main_v7 : S1x2048.Idx → EReal) (ix2 0 d)) :=
  (dat0 V c).arrAt_eq_of_cover 9 _ (fun t _ => flushed0_9 V c t) covered0_9

/-- The block window 0 of region 1 takes at a grid point. -/
theorem index1_0 : ∀ t : Fin cfg1.N, win1_0.index t (0 : Fin 2) = t.val / 2 ∧ win1_0.index t (1 : Fin 2) = 0 :=
  (by decide +kernel : ∀ t : Fin grid1.N, _)

/-- The block window 1 of region 1 takes at a grid point. -/
theorem index1_1 : ∀ t : Fin cfg1.N, win1_1.index t (0 : Fin 2) = 0 ∧ win1_1.index t (1 : Fin 2) = t.val % 2 :=
  (by decide +kernel : ∀ t : Fin grid1.N, _)

/-- The block window 2 of region 1 takes at a grid point. -/
theorem index1_2 : ∀ t : Fin cfg1.N, win1_2.index t (0 : Fin 2) = t.val / 2 ∧ win1_2.index t (1 : Fin 2) = t.val % 2 :=
  (by decide +kernel : ∀ t : Fin grid1.N, _)

theorem N_le1 (t : Fin cfg1.N) : t.val < 2 := lt_of_lt_of_eq t.isLt (show cfg1.N = 2 from N_1)

/-- The product's dimensions are the plain ones. -/
theorem dims1 : dot_S256x2048_S2048x1024_S256x1024_1_0_0_1_n_n = DotDims.plain 256 2048 1024 := rfl

/-- The block stored at a grid point is the product of the two blocks loaded there. -/
theorem pay1_apply (x : FVec Ideal S256x2048 .bf16) (w : FVec Ideal S2048x1024 .bf16) (r : Fin 256) (l : Fin 1024) :
    (k1_pay1 (F := Ideal) x w : S256x1024.Idx → EReal) (ix2 r l) = ∑ k : Fin 2048, (x (ix2 r k) : EReal) * (w (ix2 k l) : EReal) := by
  unfold k1_pay1
  rw [dims1]
  simp only [shapeCast_self]
  pointwise [Ideal.matmul_plain_apply]

/-- An element of window 0's block in region 1. -/
theorem blk1_0 (c : Dev nD) (t : Fin cfg1.N) (r : Fin 256) (l : Fin 2048) (R : Fin 256) (L : Fin 2048)
    (hR : R.val = 256 * (t.val / 2) + r.val) (hL : L.val = l.val) : iblk1 V c 0 t (ix2 r l) = V c main_v8_1 (ix2 R L) := by
  obtain ⟨e0, e1⟩ := index1_0 t
  refine congrArg (V c main_v8_1) (funext fun a => Fin.ext ?_)
  match a with
  | 0 => show win1_0.index t (0 : Fin 2) * 256 + 1 * r.val = R.val; omega
  | 1 => show win1_0.index t (1 : Fin 2) * 2048 + 1 * l.val = L.val; omega

/-- An element of window 1's block in region 1. -/
theorem blk1_1 (c : Dev nD) (t : Fin cfg1.N) (r : Fin 2048) (l : Fin 1024) (R : Fin 2048) (L : Fin 2048)
    (hR : R.val = r.val) (hL : L.val = 1024 * (t.val % 2) + l.val) : iblk1 V c 1 t (ix2 r l) = V c main_v10 (ix2 R L) := by
  obtain ⟨e0, e1⟩ := index1_1 t
  refine congrArg (V c main_v10) (funext fun a => Fin.ext ?_)
  match a with
  | 0 => show win1_1.index t (0 : Fin 2) * 2048 + 1 * r.val = R.val; omega
  | 1 => show win1_1.index t (1 : Fin 2) * 1024 + 1 * l.val = L.val; omega

/-- What a grid point writes back is its block of the whole product. -/
theorem flushed1 (c : Dev nD) (t : Fin cfg1.N) : (dat1 V c).flushed 2 t
    = ((cfg1.win 2).blk t).view.read (Elt Ideal) (prod (V c main_v8_1 : S256x2048.Idx → EReal) (V c main_v10 : S2048x2048.Idx → EReal)) := by
  obtain ⟨e0, e1⟩ := index1_2 t
  have ht := N_le1 t
  show (cfg1.win 2).cut (grid1.coords t) ((dat1 V c).after 2 t) = _
  rw [after1_2]
  unfold out1_2
  rw [View.canon_unit_zero (S := S256x1024) z2, View.ld_unit_zero (S := S256x2048) z2, View.ld_unit_zero (S := S2048x1024) z2]
  funext y
  obtain ⟨r, l, rfl⟩ : ∃ (r : Fin 256) (l : Fin 1024), y = ix2 r l := ⟨y 0, y 1, eq_ix2 y⟩
  have hr := r.isLt
  have hl := l.isLt
  let R : Fin 256 := ⟨256 * (t.val / 2) + r.val, by omega⟩
  let L : Fin 2048 := ⟨1024 * (t.val % 2) + l.val, by omega⟩
  have hemb : ((cfg1.win 2).blk t).view.emb (ix2 r l) = (ix2 R L : S256x2048.Idx) := by
    refine funext fun a => Fin.ext ?_
    match a with
    | 0 => show win1_2.index t (0 : Fin 2) * 256 + 1 * r.val = R.val; simp only [R]; omega
    | 1 => show win1_2.index t (1 : Fin 2) * 1024 + 1 * l.val = L.val; simp only [L]; omega
  refine (pay1_apply _ _ r l).trans ((Finset.sum_congr rfl fun k _ => ?_).trans (congrArg (prod (V c main_v8_1 : S256x2048.Idx → EReal) (V c main_v10 : S2048x2048.Idx → EReal)) hemb).symm)
  rw [blk1_0 V c t r k R k (by simp only [R]) (by omega), blk1_1 V c t k l k L (by omega) (by simp only [L])]
  rfl

/-- Every entry of the array lies in a block that some grid point writes back. -/
theorem covered1_2 (i : S256x2048.Idx) :
    ∃ t : Fin cfg1.N, (cfg1.win 2).flush t = true ∧ i ∈ ((cfg1.win 2).blk t).view.set := by
  have h0 : (i 0).val < 256 := (i 0).isLt
  have h1 : (i 1).val < 2048 := (i 1).isLt
  let t : Fin cfg1.N := ⟨(i 0).val / 256 * 2 + (i 1).val / 1024, lt_of_lt_of_eq (b := 2) (by omega) (show 2 = cfg1.N from N_1.symm)⟩
  obtain ⟨e0, e1⟩ := index1_2 t
  have tv : t.val = (i 0).val / 256 * 2 + (i 1).val / 1024 := rfl
  refine ⟨t, flush1_2 t, ?_⟩
  have hm := ((cfg1.win 2).blk t).view.emb_mem_set (ix2 ⟨(i 0).val % 256, by omega⟩ ⟨(i 1).val % 1024, by omega⟩)
  have he : ((cfg1.win 2).blk t).view.emb (ix2 ⟨(i 0).val % 256, by omega⟩ ⟨(i 1).val % 1024, by omega⟩) = i := by
    refine funext fun a => Fin.ext ?_
    match a with
    | 0 => show win1_2.index t (0 : Fin 2) * 256 + 1 * ((i 0).val % 256) = (i 0).val; omega
    | 1 => show win1_2.index t (1 : Fin 2) * 1024 + 1 * ((i 1).val % 1024) = (i 1).val; omega
  rwa [he] at hm

/-- Region 1 leaves the product of its two matrices. -/
theorem final1 (c : Dev nD) : (dat1 V c).arrAt 2 cfg1.N = prod (V c main_v8_1 : S256x2048.Idx → EReal) (V c main_v10 : S2048x2048.Idx → EReal) :=
  (dat1 V c).arrAt_eq_of_cover 2 _ (fun t _ => flushed1 V c t) covered1_2

/-- The block window 0 of region 2 takes at a grid point. -/
theorem index2_0 : ∀ t : Fin cfg2.N, win2_0.index t (0 : Fin 2) = t.val / 2 ∧ win2_0.index t (1 : Fin 2) = 0 :=
  (by decide +kernel : ∀ t : Fin grid2.N, _)

/-- The block window 1 of region 2 takes at a grid point. -/
theorem index2_1 : ∀ t : Fin cfg2.N, win2_1.index t (0 : Fin 2) = 0 ∧ win2_1.index t (1 : Fin 2) = t.val % 2 :=
  (by decide +kernel : ∀ t : Fin grid2.N, _)

/-- The block window 2 of region 2 takes at a grid point. -/
theorem index2_2 : ∀ t : Fin cfg2.N, win2_2.index t (0 : Fin 2) = t.val / 2 ∧ win2_2.index t (1 : Fin 2) = t.val % 2 :=
  (by decide +kernel : ∀ t : Fin grid2.N, _)

theorem N_le2 (t : Fin cfg2.N) : t.val < 2 := lt_of_lt_of_eq t.isLt (show cfg2.N = 2 from N_2)

/-- The product's dimensions are the plain ones. -/
theorem dims2 : dot_S256x2048_S2048x1024_S256x1024_1_0_0_1_n_n = DotDims.plain 256 2048 1024 := rfl

/-- The block stored at a grid point is the product of the two blocks loaded there. -/
theorem pay2_apply (x : FVec Ideal S256x2048 .bf16) (w : FVec Ideal S2048x1024 .bf16) (r : Fin 256) (l : Fin 1024) :
    (k2_pay1 (F := Ideal) x w : S256x1024.Idx → EReal) (ix2 r l) = ∑ k : Fin 2048, (x (ix2 r k) : EReal) * (w (ix2 k l) : EReal) := by
  unfold k2_pay1
  rw [dims2]
  simp only [shapeCast_self]
  pointwise [Ideal.matmul_plain_apply]

/-- An element of window 0's block in region 2. -/
theorem blk2_0 (c : Dev nD) (t : Fin cfg2.N) (r : Fin 256) (l : Fin 2048) (R : Fin 256) (L : Fin 2048)
    (hR : R.val = 256 * (t.val / 2) + r.val) (hL : L.val = l.val) : iblk2 V c 0 t (ix2 r l) = V c main_v8_1 (ix2 R L) := by
  obtain ⟨e0, e1⟩ := index2_0 t
  refine congrArg (V c main_v8_1) (funext fun a => Fin.ext ?_)
  match a with
  | 0 => show win2_0.index t (0 : Fin 2) * 256 + 1 * r.val = R.val; omega
  | 1 => show win2_0.index t (1 : Fin 2) * 2048 + 1 * l.val = L.val; omega

/-- An element of window 1's block in region 2. -/
theorem blk2_1 (c : Dev nD) (t : Fin cfg2.N) (r : Fin 2048) (l : Fin 1024) (R : Fin 2048) (L : Fin 2048)
    (hR : R.val = r.val) (hL : L.val = 1024 * (t.val % 2) + l.val) : iblk2 V c 1 t (ix2 r l) = V c main_v13 (ix2 R L) := by
  obtain ⟨e0, e1⟩ := index2_1 t
  refine congrArg (V c main_v13) (funext fun a => Fin.ext ?_)
  match a with
  | 0 => show win2_1.index t (0 : Fin 2) * 2048 + 1 * r.val = R.val; omega
  | 1 => show win2_1.index t (1 : Fin 2) * 1024 + 1 * l.val = L.val; omega

/-- What a grid point writes back is its block of the whole product. -/
theorem flushed2 (c : Dev nD) (t : Fin cfg2.N) : (dat2 V c).flushed 2 t
    = ((cfg2.win 2).blk t).view.read (Elt Ideal) (prod (V c main_v8_1 : S256x2048.Idx → EReal) (V c main_v13 : S2048x2048.Idx → EReal)) := by
  obtain ⟨e0, e1⟩ := index2_2 t
  have ht := N_le2 t
  show (cfg2.win 2).cut (grid2.coords t) ((dat2 V c).after 2 t) = _
  rw [after2_2]
  unfold out2_2
  rw [View.canon_unit_zero (S := S256x1024) z2, View.ld_unit_zero (S := S256x2048) z2, View.ld_unit_zero (S := S2048x1024) z2]
  funext y
  obtain ⟨r, l, rfl⟩ : ∃ (r : Fin 256) (l : Fin 1024), y = ix2 r l := ⟨y 0, y 1, eq_ix2 y⟩
  have hr := r.isLt
  have hl := l.isLt
  let R : Fin 256 := ⟨256 * (t.val / 2) + r.val, by omega⟩
  let L : Fin 2048 := ⟨1024 * (t.val % 2) + l.val, by omega⟩
  have hemb : ((cfg2.win 2).blk t).view.emb (ix2 r l) = (ix2 R L : S256x2048.Idx) := by
    refine funext fun a => Fin.ext ?_
    match a with
    | 0 => show win2_2.index t (0 : Fin 2) * 256 + 1 * r.val = R.val; simp only [R]; omega
    | 1 => show win2_2.index t (1 : Fin 2) * 1024 + 1 * l.val = L.val; simp only [L]; omega
  refine (pay2_apply _ _ r l).trans ((Finset.sum_congr rfl fun k _ => ?_).trans (congrArg (prod (V c main_v8_1 : S256x2048.Idx → EReal) (V c main_v13 : S2048x2048.Idx → EReal)) hemb).symm)
  rw [blk2_0 V c t r k R k (by simp only [R]) (by omega), blk2_1 V c t k l k L (by omega) (by simp only [L])]
  rfl

/-- Every entry of the array lies in a block that some grid point writes back. -/
theorem covered2_2 (i : S256x2048.Idx) :
    ∃ t : Fin cfg2.N, (cfg2.win 2).flush t = true ∧ i ∈ ((cfg2.win 2).blk t).view.set := by
  have h0 : (i 0).val < 256 := (i 0).isLt
  have h1 : (i 1).val < 2048 := (i 1).isLt
  let t : Fin cfg2.N := ⟨(i 0).val / 256 * 2 + (i 1).val / 1024, lt_of_lt_of_eq (b := 2) (by omega) (show 2 = cfg2.N from N_2.symm)⟩
  obtain ⟨e0, e1⟩ := index2_2 t
  have tv : t.val = (i 0).val / 256 * 2 + (i 1).val / 1024 := rfl
  refine ⟨t, flush2_2 t, ?_⟩
  have hm := ((cfg2.win 2).blk t).view.emb_mem_set (ix2 ⟨(i 0).val % 256, by omega⟩ ⟨(i 1).val % 1024, by omega⟩)
  have he : ((cfg2.win 2).blk t).view.emb (ix2 ⟨(i 0).val % 256, by omega⟩ ⟨(i 1).val % 1024, by omega⟩) = i := by
    refine funext fun a => Fin.ext ?_
    match a with
    | 0 => show win2_2.index t (0 : Fin 2) * 256 + 1 * ((i 0).val % 256) = (i 0).val; omega
    | 1 => show win2_2.index t (1 : Fin 2) * 1024 + 1 * ((i 1).val % 1024) = (i 1).val; omega
  rwa [he] at hm

/-- Region 2 leaves the product of its two matrices. -/
theorem final2 (c : Dev nD) : (dat2 V c).arrAt 2 cfg2.N = prod (V c main_v8_1 : S256x2048.Idx → EReal) (V c main_v13 : S2048x2048.Idx → EReal) :=
  (dat2 V c).arrAt_eq_of_cover 2 _ (fun t _ => flushed2 V c t) covered2_2

end Cert.Kernel9Ideal.Linear
-- ==== Proof.SampleOutInVal.lean ====
module

public import proofs.«01_k».proof.Proof.Mix
public import proofs.«01_k».proof.Proof.Sample
public import proofs.«01_k».proof.Proof.SampleOutInRegions

@[expose] public section

set_option maxRecDepth 16384

noncomputable section

open Idealize.ShloMosaic Idealize.ShloMosaic.TcCoe Idealize.SL.Sem

namespace Cert.Kernel9Ideal.Linear
open Cert.Kernel9Ideal.Gen Cert.Linear

section Run
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
variable {F : FTy → Type} [FloatOps F]
variable (m : (ℓ : Loc nD τ sig) → Buf (Elt F) ℓ) (ρ : Dev nD → PrngReg)

set_option backward.isDefEq.respectTransparency.types false in
/-- Every execution ends with every array that stays in memory as the last boundary has it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Run

variable (m : (ℓ : Loc nD τ sig) → Buf (Elt Ideal) ℓ) (ρ : Dev nD → PrngReg) (c : Dev nD)

/-- The arguments of one device. -/
abbrev A0 : S256x1024.Idx → EReal := m ((c.tc : Thread nD τ).loc main_arg0)
abbrev A1 : S256x1024.Idx → EReal := m ((c.tc : Thread nD τ).loc main_arg1)
abbrev A2 : S256x256.Idx → EReal := m ((c.tc : Thread nD τ).loc main_arg2)
abbrev A3 : S256x2048.Idx → EReal := m ((c.tc : Thread nD τ).loc main_arg3)
abbrev A4 : S1x2304x2048.Idx → EReal := m ((c.tc : Thread nD τ).loc main_arg4)
abbrev A5 : S1x2048.Idx → EReal := m ((c.tc : Thread nD τ).loc main_arg5)
abbrev A6 : S1x2048x8720.Idx → EReal := m ((c.tc : Thread nD τ).loc main_arg6)

/-- The residual stream after the first layer's output projection. -/
def X (R : Fin 256) (d : Fin 2048) : EReal :=
  mix3 (A3 m c (ix2 R d)) (fun k => A0 m c (ix2 R k)) (fun k => A1 m c (ix2 R k)) (fun k => A2 m c (ix2 R k)) (fun k => A4 m c (ix3 0 k d))

/-- The second layer's input projection of a row at a column. -/
def E (R : Fin 256) (n : Fin 8720) : EReal := zrow (X m c R) (fun d => A5 m c (ix2 0 d)) (fun k => A6 m c (ix3 0 k n))

/-- The weights and norm weights as the regions take them. -/
theorem w1_v2 (k : Fin 2048) (n : Fin 8720) : (W1 m ρ c (Proc.devRef .tc main_v2) : S2048x8720.Idx → EReal) (ix2 k n) = A6 m c (ix3 0 k n) := by
  have e : W1 m ρ c (Proc.devRef .tc main_v2) = shapeCast S2048x8720 (A6 m c) shapeCasts_S1x2048x8720_S2048x8720 := by
    after_results
    rfl
  rw [e]
  exact lone_apply _ _ k n

theorem w1_v3 (k : Fin 1024) (d : Fin 2048) : (V1 m ρ c main_v3 : S1024x2048.Idx → EReal) (ix2 k d) = A4 m c (ix3 0 ⟨k.val, by omega⟩ d) := by
  have e : W1 m ρ c (Proc.devRef .tc main_v3) = extractStridedSlice S1024x2048 ![0, 0] (truncf (F := Ideal) .bf16 (shapeCast S2304x2048 (A4 m c : FVec Ideal S1x2304x2048 .f32) shapeCasts_S1x2304x2048_S2304x2048) bitsLt_bf16_f32) slices_S2304x2048_S1024x2048_0_0 := by
    after_results
    rfl
  rw [show V1 m ρ c main_v3 = _ from e]
  exact (rows_apply (α := EReal) _ 0 slices_S2304x2048_S1024x2048_0_0 k d ⟨k.val, by omega⟩ (Nat.zero_add _)).trans (lone_apply (α := EReal) (A4 m c) shapeCasts_S1x2304x2048_S2304x2048 _ d)

theorem w1_v4 (k : Fin 1024) (d : Fin 2048) : (V1 m ρ c main_v4 : S1024x2048.Idx → EReal) (ix2 k d) = A4 m c (ix3 0 ⟨1024 + k.val, by omega⟩ d) := by
  have e : W1 m ρ c (Proc.devRef .tc main_v4) = extractStridedSlice S1024x2048 ![1024, 0] (truncf (F := Ideal) .bf16 (shapeCast S2304x2048 (A4 m c : FVec Ideal S1x2304x2048 .f32) shapeCasts_S1x2304x2048_S2304x2048) bitsLt_bf16_f32) slices_S2304x2048_S1024x2048_1024_0 := by
    after_results
    rfl
  rw [show V1 m ρ c main_v4 = _ from e]
  exact (rows_apply (α := EReal) _ 1024 slices_S2304x2048_S1024x2048_1024_0 k d ⟨1024 + k.val, by omega⟩ (rfl)).trans (lone_apply (α := EReal) (A4 m c) shapeCasts_S1x2304x2048_S2304x2048 _ d)

theorem w1_v5 (k : Fin 256) (d : Fin 2048) : (V1 m ρ c main_v5 : S256x2048.Idx → EReal) (ix2 k d) = A4 m c (ix3 0 ⟨2048 + k.val, by omega⟩ d) := by
  have e : W1 m ρ c (Proc.devRef .tc main_v5) = extractStridedSlice S256x2048 ![2048, 0] (truncf (F := Ideal) .bf16 (shapeCast S2304x2048 (A4 m c : FVec Ideal S1x2304x2048 .f32) shapeCasts_S1x2304x2048_S2304x2048) bitsLt_bf16_f32) slices_S2304x2048_S256x2048_2048_0 := by
    after_results
    rfl
  rw [show V1 m ρ c main_v5 = _ from e]
  exact (rows_apply (α := EReal) _ 2048 slices_S2304x2048_S256x2048_2048_0 k d ⟨2048 + k.val, by omega⟩ (rfl)).trans (lone_apply (α := EReal) (A4 m c) shapeCasts_S1x2304x2048_S2304x2048 _ d)

theorem w1_v7 (d : Fin 2048) : (V1 m ρ c main_v7 : S1x2048.Idx → EReal) (ix2 0 d) = A5 m c (ix2 0 d) := by
  have e : W1 m ρ c (Proc.devRef .tc main_v7) = shapeCast S1x2048 (shapeCast S2048 (A5 m c) shapeCasts_S1x2048_S2048) shapeCasts_S2048_S1x2048 := by
    after_results
    rfl
  rw [show V1 m ρ c main_v7 = _ from e]
  exact (put1_apply _ _ d).trans (lone1_apply _ _ d)

theorem w1_arg0 : V1 m ρ c main_arg0 = A0 m c := W1_of m ρ c main_arg0 (by decide)
theorem w1_arg1 : V1 m ρ c main_arg1 = A1 m c := W1_of m ρ c main_arg1 (by decide)
theorem w1_arg2 : V1 m ρ c main_arg2 = A2 m c := W1_of m ρ c main_arg2 (by decide)
theorem w1_arg3 : V1 m ρ c main_arg3 = A3 m c := W1_of m ρ c main_arg3 (by decide)

/-- The first region's sum is the residual stream. -/
theorem sum0_apply (R : Fin 256) (d : Fin 2048) : sum0 (V1 m ρ) c (ix2 R d) = X m c R d := by
  have h : ∀ {K : ℕ} (x y : (⟨2, ![256, K]⟩ : Shape).Idx → EReal) (w : (⟨2, ![K, 2048]⟩ : Shape).Idx → EReal) (w' : Fin K → EReal), x = y → (∀ k, w (ix2 k d) = w' k) →
      prod x w (ix2 R d) = ∑ k : Fin K, y (ix2 R k) * w' k := fun x y w w' hx hw => by
    subst hx
    exact Finset.sum_congr rfl fun k _ => congrArg (fun b : EReal => x (ix2 R k) * b) (hw k)
  unfold sum0 X mix3
  refine congrArg₂ (fun a b : EReal => a + b) (congrArg₂ (fun a b : EReal => a + b) (congrArg₂ (fun a b : EReal => a + b) ?_ ?_) ?_) ?_
  · exact congrFun (w1_arg3 m ρ c) _
  · exact h _ _ _ _ (w1_arg0 m ρ c) fun k => w1_v3 m ρ c k d
  · exact h _ _ _ _ (w1_arg1 m ρ c) fun k => w1_v4 m ρ c k d
  · exact h _ _ _ _ (w1_arg2 m ρ c) fun k => w1_v5 m ρ c k d

theorem w2_v8_0 (R : Fin 256) (d : Fin 2048) : (W2 m ρ c (Proc.devRef .tc main_v8_0) : S256x2048.Idx → EReal) (ix2 R d) = X m c R d := by
  have e : (W2 m ρ c (Proc.devRef .tc main_v8_0) : S256x2048.Idx → EReal) = _ := (W2_arr m ρ c 8).trans (final0_8 (V1 m ρ) c)
  rw [e]
  exact sum0_apply m ρ c R d

theorem w2_v8_1 (R : Fin 256) (d : Fin 2048) : (W2 m ρ c (Proc.devRef .tc main_v8_1) : S256x2048.Idx → EReal) (ix2 R d)
    = rms cols small (X m c R) (fun d => A5 m c (ix2 0 d)) d := by
  have e : (W2 m ρ c (Proc.devRef .tc main_v8_1) : S256x2048.Idx → EReal) = _ := (W2_arr m ρ c 9).trans (final0_9 (V1 m ρ) c)
  rw [e]
  unfold normed
  exact congrArg₂ (fun x g => rms cols small x g d) (funext fun d => sum0_apply m ρ c R d) (funext fun d => w1_v7 m ρ c d)

theorem prod_row {N : ℕ} (x : S256x2048.Idx → EReal) (w : (⟨2, ![2048, N]⟩ : Shape).Idx → EReal) (l : Fin N) (w' : Fin 2048 → EReal)
    (hx : ∀ R d, x (ix2 R d) = rms cols small (X m c R) (fun d => A5 m c (ix2 0 d)) d)
    (hw : ∀ k, w (ix2 k l) = w' k) (R : Fin 256) : prod x w (ix2 R l) = zrow (X m c R) (fun d => A5 m c (ix2 0 d)) w' :=
  Finset.sum_congr rfl fun k _ => congrArg₂ (fun a b : EReal => a * b) (hx R k) (hw k)

/-- A product's weights, and the product. -/
theorem w3_v10 (k : Fin 2048) (l : Fin 2048) : (V3 m ρ c main_v10 : S2048x2048.Idx → EReal) (ix2 k l) = A6 m c (ix3 0 k ⟨2048 + l.val, by omega⟩) := by
  have e : W3 m ρ c (Proc.devRef .tc main_v10) = truncf (F := Ideal) .bf16 (extractStridedSlice S2048x2048 ![0, 2048] (W2 m ρ c (Proc.devRef .tc main_v2)) slices_S2048x8720_S2048x2048_0_2048) bitsLt_bf16_f32 := by
    after_results
  rw [show V3 m ρ c main_v10 = _ from e, show W2 m ρ c (Proc.devRef .tc main_v2) = _ from (W2_of m ρ c main_v2 (by decide))]
  exact (cols_apply (α := EReal) _ 2048 slices_S2048x8720_S2048x2048_0_2048 k l ⟨2048 + l.val, by omega⟩ (rfl)).trans (w1_v2 m ρ c k _)

theorem w4_v11 (R : Fin 256) (l : Fin 2048) : (W4 m ρ c (Proc.devRef .tc main_v11) : S256x2048.Idx → EReal) (ix2 R l) = E m c R ⟨2048 + l.val, by omega⟩ := by
  have e : (W4 m ρ c (Proc.devRef .tc main_v11) : S256x2048.Idx → EReal) = _ := (W4_arr m ρ c 2).trans (final1 (V3 m ρ) c)
  rw [e]
  refine prod_row m c _ _ l _ (fun R d => ?_) (fun k => w3_v10 m ρ c k l) R
  exact (congrFun ((W3_of m ρ c main_v8_1 (by decide)) : (W3 m ρ c (Proc.devRef .tc main_v8_1) : S256x2048.Idx → EReal) = _) _).trans (w2_v8_1 m ρ c R d)

/-- A product's weights, and the product. -/
theorem w5_v13 (k : Fin 2048) (l : Fin 2048) : (V5 m ρ c main_v13 : S2048x2048.Idx → EReal) (ix2 k l) = A6 m c (ix3 0 k ⟨4096 + l.val, by omega⟩) := by
  have e : W5 m ρ c (Proc.devRef .tc main_v13) = truncf (F := Ideal) .bf16 (extractStridedSlice S2048x2048 ![0, 4096] (W4 m ρ c (Proc.devRef .tc main_v2)) slices_S2048x8720_S2048x2048_0_4096) bitsLt_bf16_f32 := by
    after_results
  rw [show V5 m ρ c main_v13 = _ from e, show W4 m ρ c (Proc.devRef .tc main_v2) = _ from (((W4_of m ρ c main_v2 (by decide)).trans (W3_of m ρ c main_v2 (by decide))).trans (W2_of m ρ c main_v2 (by decide)))]
  exact (cols_apply (α := EReal) _ 4096 slices_S2048x8720_S2048x2048_0_4096 k l ⟨4096 + l.val, by omega⟩ (rfl)).trans (w1_v2 m ρ c k _)

theorem w6_v14 (R : Fin 256) (l : Fin 2048) : (W6 m ρ c (Proc.devRef .tc main_v14) : S256x2048.Idx → EReal) (ix2 R l) = E m c R ⟨4096 + l.val, by omega⟩ := by
  have e : (W6 m ρ c (Proc.devRef .tc main_v14) : S256x2048.Idx → EReal) = _ := (W6_arr m ρ c 2).trans (final2 (V5 m ρ) c)
  rw [e]
  refine prod_row m c _ _ l _ (fun R d => ?_) (fun k => w5_v13 m ρ c k l) R
  exact (congrFun ((((W5_of m ρ c main_v8_1 (by decide)).trans (W4_of m ρ c main_v8_1 (by decide))).trans (W3_of m ρ c main_v8_1 (by decide))) : (W5 m ρ c (Proc.devRef .tc main_v8_1) : S256x2048.Idx → EReal) = _) _).trans (w2_v8_1 m ρ c R d)

/-- The results. -/
theorem res0 (R : Fin 256) (d : Fin 2048) : (W7 m ρ c (Proc.devRef .tc main_v8_0) : S256x2048.Idx → EReal) (ix2 R d) = X m c R d :=
  (congrFun ((((((W7_of m ρ c main_v8_0 (by decide)).trans (W6_of m ρ c main_v8_0 (by decide))).trans (W5_of m ρ c main_v8_0 (by decide))).trans (W4_of m ρ c main_v8_0 (by decide))).trans (W3_of m ρ c main_v8_0 (by decide))) : (W7 m ρ c (Proc.devRef .tc main_v8_0) : S256x2048.Idx → EReal) = _) _).trans (w2_v8_0 m ρ c R d)

/-- The keys and the values, split into heads and put alone in a batch. -/
theorem heads_apply (y : FVec Ideal S256x2048 .f32) (b : Fin 32) (t : Fin 8) (h : Fin 16) (d : Fin 128) :
    broadcastInDim S1x32x8x16x128 ![1, 2, 3, 4] bcast_S32x8x16x128_S1x32x8x16x128_1_2_3_4 (shapeCast S32x8x16x128 y shapeCasts_S256x2048_S32x8x16x128) (ix5 0 b t h d)
      = y (ix2 (stok b t) ⟨128 * h.val + d.val, by omega⟩) := by
  have h1 := shapeCast_apply y shapeCasts_S256x2048_S32x8x16x128 (ix4 b t h d) (ix2 (stok b t) ⟨128 * h.val + d.val, by omega⟩)
    (by rw [Shape.rowMajor_val_two, Shape.rowMajor_val_four]; show (8 * b.val + t.val) * 2048 + (128 * h.val + d.val) = ((b.val * 8 + t.val) * 16 + h.val) * 128 + d.val; omega)
  rw [← h1]
  generalize shapeCast S32x8x16x128 y shapeCasts_S256x2048_S32x8x16x128 = v
  pointwise

theorem res1 (b : Fin 32) (t : Fin 8) (h : Fin 16) (d : Fin 128) : (W7 m ρ c (Proc.devRef .tc main_v16) : S1x32x8x16x128.Idx → EReal) (ix5 0 b t h d)
    = E m c (stok b t) ⟨2048 + (128 * h.val + d.val), by omega⟩ := by
  have e : (W7 m ρ c (Proc.devRef .tc main_v16) : S1x32x8x16x128.Idx → EReal) = broadcastInDim S1x32x8x16x128 ![1, 2, 3, 4] bcast_S32x8x16x128_S1x32x8x16x128_1_2_3_4 (shapeCast S32x8x16x128 (W6 m ρ c (Proc.devRef .tc main_v11)) shapeCasts_S256x2048_S32x8x16x128) := by
    after_results
    rfl
  rw [e]
  exact ((heads_apply _ b t h d).trans (congrFun (((W6_of m ρ c main_v11 (by decide)).trans (W5_of m ρ c main_v11 (by decide))) : (W6 m ρ c (Proc.devRef .tc main_v11) : S256x2048.Idx → EReal) = _) _)).trans (w4_v11 m ρ c (stok b t) _)

theorem res2 (b : Fin 32) (t : Fin 8) (h : Fin 16) (d : Fin 128) : (W7 m ρ c (Proc.devRef .tc main_v18) : S1x32x8x16x128.Idx → EReal) (ix5 0 b t h d)
    = E m c (stok b t) ⟨4096 + (128 * h.val + d.val), by omega⟩ := by
  have e : (W7 m ρ c (Proc.devRef .tc main_v18) : S1x32x8x16x128.Idx → EReal) = broadcastInDim S1x32x8x16x128 ![1, 2, 3, 4] bcast_S32x8x16x128_S1x32x8x16x128_1_2_3_4 (shapeCast S32x8x16x128 (W6 m ρ c (Proc.devRef .tc main_v14)) shapeCasts_S256x2048_S32x8x16x128) := by
    after_results
    rfl
  rw [e]
  exact ((heads_apply _ b t h d).trans (congrFun (rfl : (W6 m ρ c (Proc.devRef .tc main_v14) : S256x2048.Idx → EReal) = _) _)).trans (w6_v14 m ρ c (stok b t) _)

end Cert.Kernel9Ideal.Linear
-- ==== Proof.SampleOutInRef.lean ====
module

public import proofs.«01_k».proof.Proof.Mix
public import proofs.«01_k».proof.Proof.Sample
public import proofs.«01_k».proof.Proof.Gen.Reference9Ideal
public import proofs.«01_k».proof.Proof.Gen.Reference9Ideal.Run

@[expose] public section

set_option maxRecDepth 16384

noncomputable section

open Idealize.ShloMosaic Idealize.ShloMosaic.TcCoe Idealize.SL.Sem

namespace Cert.Reference9Ideal.Linear
open Cert.Reference9Ideal Cert.Reference9Ideal.Gen Cert.Linear

/-- The root mean square norm of the rows. -/
def nrm (x : FVec Ideal S256x2048 .f32) (g : FVec Ideal S2048 .f32) : FVec Ideal S256x2048 .f32 :=
  mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 g))

theorem reduces : S256x2048.Reduces [1] S256 := by decide

theorem nrm_apply (x : FVec Ideal S256x2048 .f32) (g : FVec Ideal S2048 .f32) (R : Fin 256) (d : Fin 2048) :
    nrm x g (ix2 R d) = rms cols small (fun d => x (ix2 R d)) (fun d => g (ix1 d)) d := by
  have hs := sum2_apply (mulf x x) reduces reducesTo_S256x2048_S256_d1 h_S_ R
  unfold nrm rms
  generalize Host.reduceAdd (mulf x x) (constant S_ .f32 0x00000000#32) reducesTo_S256x2048_S256_d1 h_S_ = s at hs ⊢
  have hs' : s (ix1 R) = ∑ k : Fin 2048, (x (ix2 R k) : EReal) * x (ix2 R k) := hs
  beta_reduce
  rw [← hs']
  pointwise

/-- The joined branches. -/
def cat (a b : FVec Ideal S256x1024 .f32) (m : FVec Ideal S256x256 .f32) : FVec Ideal S256x2304 .f32 :=
  concatenate S256x2304 1 [⟨S256x1024, (a : (⟨S256x1024, .f32⟩ : BufTy).Contents (Elt Ideal))⟩, ⟨S256x1024, (b : (⟨S256x1024, .f32⟩ : BufTy).Contents (Elt Ideal))⟩, ⟨S256x256, (m : (⟨S256x256, .f32⟩ : BufTy).Contents (Elt Ideal))⟩] concatenates_S256x1024_S256x1024_S256x256_S256x2304_d1

/-- The residual stream after the output projection. -/
def out (a b : FVec Ideal S256x1024 .f32) (m : FVec Ideal S256x256 .f32) (x : FVec Ideal S256x2048 .f32) (w : FVec Ideal S1x2304x2048 .f32) : FVec Ideal S256x2048 .f32 :=
  addf x (Host.dotGeneral dot_S256x2304_S2304x2048_S256x2048_1_0_0_1_n_n none (cat a b m) (shapeCast _ w shapeCasts_S1x2304x2048_S2304x2048))

theorem out_apply (a b : FVec Ideal S256x1024 .f32) (m : FVec Ideal S256x256 .f32) (x : FVec Ideal S256x2048 .f32) (w : FVec Ideal S1x2304x2048 .f32) (R : Fin 256) (d : Fin 2048) :
    out a b m x w (ix2 R d) = mix3 (x (ix2 R d)) (fun k => a (ix2 R k)) (fun k => b (ix2 R k)) (fun k => m (ix2 R k)) (fun k => w (ix3 0 k d)) := by
  have hd := dot2_apply _ dot_S256x2304_S2304x2048_S256x2048_1_0_0_1_n_n_wf rfl (cat a b m) (shapeCast S2304x2048 w shapeCasts_S1x2304x2048_S2304x2048) R d
  refine (congrArg (fun s : EReal => (x (ix2 R d) : EReal) + s) hd).trans ?_
  refine (congrArg (fun s : EReal => (x (ix2 R d) : EReal) + s) (Finset.sum_congr rfl fun k _ => congrArg (fun t : EReal => (cat a b m (ix2 R k) : EReal) * t) (lone_apply w _ k d))).trans ?_
  refine mix3_eq _ _ _ _ (fun k => w (ix3 0 k d)) (fun k => cat a b m (ix2 R k)) (fun k => ?_) (fun k => ?_) (fun k => ?_)
  · exact piece2 _ _ 0 (by simp) _ rfl 0 rfl R _ k (Nat.zero_add _)
  · exact piece2 _ _ 1 (by simp) _ rfl 1024 rfl R _ k rfl
  · exact piece2 _ _ 2 (by simp) _ rfl 2048 rfl R _ k rfl

/-- The second layer's input projection. -/
def z (x : FVec Ideal S256x2048 .f32) (g : FVec Ideal S1x2048 .f32) (w : FVec Ideal S1x2048x8720 .f32) : FVec Ideal S256x8720 .f32 :=
  Host.dotGeneral dot_S256x2048_S2048x8720_S256x8720_1_0_0_1_n_n none (nrm x (shapeCast _ g shapeCasts_S1x2048_S2048)) (shapeCast _ w shapeCasts_S1x2048x8720_S2048x8720)

theorem z_apply (x : FVec Ideal S256x2048 .f32) (g : FVec Ideal S1x2048 .f32) (w : FVec Ideal S1x2048x8720 .f32) (R : Fin 256) (n : Fin 8720) :
    z x g w (ix2 R n) = zrow (fun d => x (ix2 R d)) (fun d => g (ix2 0 d)) (fun k => w (ix3 0 k n)) := by
  refine (dot2_apply _ dot_S256x2048_S2048x8720_S256x8720_1_0_0_1_n_n_wf rfl (nrm x _) _ R n).trans ?_
  refine Finset.sum_congr rfl fun k _ => congrArg₂ (fun a b : EReal => a * b) ((nrm_apply x _ R k).trans ?_) (lone_apply w _ k n)
  exact congrArg (fun g => rms cols small (fun d => x (ix2 R d)) g k) (funext fun d => lone1_apply g _ d)

theorem heads_apply (y : FVec Ideal S256x2048 .f32) (b : Fin 32) (t : Fin 8) (h : Fin 16) (d : Fin 128) :
    shapeCast S1x32x8x16x128 y shapeCasts_S256x2048_S1x32x8x16x128 (ix5 0 b t h d) = y (ix2 (stok b t) ⟨128 * h.val + d.val, by omega⟩) :=
  shapeCast_apply y _ (ix5 0 b t h d) (ix2 (stok b t) ⟨128 * h.val + d.val, by omega⟩)
    (by rw [Shape.rowMajor_val_two, Shape.rowMajor_val_five]; show (8 * b.val + t.val) * 2048 + (128 * h.val + d.val) = (((0 * 32 + b.val) * 8 + t.val) * 16 + h.val) * 128 + d.val; omega)

variable (m : (ℓ : Loc nD τ sig) → Buf (Elt Ideal) ℓ) (ρ : Dev nD → PrngReg)

/-- The residual stream and the projection of what a device's argument arrays hold. -/
def xarg (c : Dev nD) : FVec Ideal S256x2048 .f32 :=
  out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

def zarg (c : Dev nD) : FVec Ideal S256x8720 .f32 :=
  z (xarg m c) (m ((c.tc : Thread nD τ).loc main_arg5)) (m ((c.tc : Thread nD τ).loc main_arg6))

/-- Every execution of the reference ends with the three results, parts of the residual stream and of its projection, and the
arguments kept. -/
theorem run : θ_run defs (onTc (τ := τ) (main (F := Ideal))) ⟨m, fun _ => 0, ρ⟩ fun r => ∀ c : Dev nD,
    r.2.mem ((c.tc : Thread nD τ).loc main_v3) = xarg m c
    ∧ r.2.mem ((c.tc : Thread nD τ).loc main_v27) = shapeCast S1x32x8x16x128 (extractStridedSlice S256x2048 ![0, 2048] (zarg m c) slices_S256x8720_S256x2048_0_2048) shapeCasts_S256x2048_S1x32x8x16x128
    ∧ r.2.mem ((c.tc : Thread nD τ).loc main_v28) = shapeCast S1x32x8x16x128 (extractStridedSlice S256x2048 ![0, 4096] (zarg m c) slices_S256x8720_S256x2048_0_4096) shapeCasts_S256x2048_S1x32x8x16x128
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  Cert.Reference9Ideal.Value.run m ρ

end Cert.Reference9Ideal.Linear
-- ==== Proof.SampleOutIn.lean ====
module

public import proofs.«01_k».proof.Proof.Linear
public import proofs.«01_k».proof.Proof.SampleOutInVal
public import proofs.«01_k».proof.Proof.SampleOutInRef
public import proofs.«01_k».proof.Defs

@[expose] public section

set_option maxRecDepth 16384

noncomputable section

open Idealize.ShloMosaic Idealize.ShloMosaic.TcCoe Idealize.SL.Sem

namespace Cert.SampleOutIn
open Cert.Linear

/-- Both programs' residual streams agree when their arguments do. -/
theorem xarg_eq (m : (ℓ : Loc Kernel9Ideal.nD Kernel9Ideal.τ Kernel9Ideal.sig) → Buf (Elt Ideal) ℓ)
    (m' : (ℓ : Loc Reference9Ideal.nD Reference9Ideal.τ Reference9Ideal.sig) → Buf (Elt Ideal) ℓ) (c : Dev Kernel9Ideal.nD)
    (e0 : m' ((c.tc : Thread Reference9Ideal.nD Reference9Ideal.τ).loc Reference9Ideal.main_arg0) = m ((c.tc : Thread Kernel9Ideal.nD Kernel9Ideal.τ).loc Kernel9Ideal.main_arg0))
    (e1 : m' ((c.tc : Thread Reference9Ideal.nD Reference9Ideal.τ).loc Reference9Ideal.main_arg1) = m ((c.tc : Thread Kernel9Ideal.nD Kernel9Ideal.τ).loc Kernel9Ideal.main_arg1))
    (e2 : m' ((c.tc : Thread Reference9Ideal.nD Reference9Ideal.τ).loc Reference9Ideal.main_arg2) = m ((c.tc : Thread Kernel9Ideal.nD Kernel9Ideal.τ).loc Kernel9Ideal.main_arg2))
    (e3 : m' ((c.tc : Thread Reference9Ideal.nD Reference9Ideal.τ).loc Reference9Ideal.main_arg3) = m ((c.tc : Thread Kernel9Ideal.nD Kernel9Ideal.τ).loc Kernel9Ideal.main_arg3))
    (e4 : m' ((c.tc : Thread Reference9Ideal.nD Reference9Ideal.τ).loc Reference9Ideal.main_arg4) = m ((c.tc : Thread Kernel9Ideal.nD Kernel9Ideal.τ).loc Kernel9Ideal.main_arg4))
    (R : Fin 256) (d : Fin 2048) : Reference9Ideal.Linear.xarg m' c (ix2 R d) = Kernel9Ideal.Linear.X m c R d := by
  unfold Reference9Ideal.Linear.xarg
  rw [e0, e1, e2, e3, e4]
  exact Reference9Ideal.Linear.out_apply _ _ _ _ _ R d

/-- And so do their projections. -/
theorem zarg_eq (m : (ℓ : Loc Kernel9Ideal.nD Kernel9Ideal.τ Kernel9Ideal.sig) → Buf (Elt Ideal) ℓ)
    (m' : (ℓ : Loc Reference9Ideal.nD Reference9Ideal.τ Reference9Ideal.sig) → Buf (Elt Ideal) ℓ) (c : Dev Kernel9Ideal.nD)
    (e0 : m' ((c.tc : Thread Reference9Ideal.nD Reference9Ideal.τ).loc Reference9Ideal.main_arg0) = m ((c.tc : Thread Kernel9Ideal.nD Kernel9Ideal.τ).loc Kernel9Ideal.main_arg0))
    (e1 : m' ((c.tc : Thread Reference9Ideal.nD Reference9Ideal.τ).loc Reference9Ideal.main_arg1) = m ((c.tc : Thread Kernel9Ideal.nD Kernel9Ideal.τ).loc Kernel9Ideal.main_arg1))
    (e2 : m' ((c.tc : Thread Reference9Ideal.nD Reference9Ideal.τ).loc Reference9Ideal.main_arg2) = m ((c.tc : Thread Kernel9Ideal.nD Kernel9Ideal.τ).loc Kernel9Ideal.main_arg2))
    (e3 : m' ((c.tc : Thread Reference9Ideal.nD Reference9Ideal.τ).loc Reference9Ideal.main_arg3) = m ((c.tc : Thread Kernel9Ideal.nD Kernel9Ideal.τ).loc Kernel9Ideal.main_arg3))
    (e4 : m' ((c.tc : Thread Reference9Ideal.nD Reference9Ideal.τ).loc Reference9Ideal.main_arg4) = m ((c.tc : Thread Kernel9Ideal.nD Kernel9Ideal.τ).loc Kernel9Ideal.main_arg4))
    (e5 : m' ((c.tc : Thread Reference9Ideal.nD Reference9Ideal.τ).loc Reference9Ideal.main_arg5) = m ((c.tc : Thread Kernel9Ideal.nD Kernel9Ideal.τ).loc Kernel9Ideal.main_arg5))
    (e6 : m' ((c.tc : Thread Reference9Ideal.nD Reference9Ideal.τ).loc Reference9Ideal.main_arg6) = m ((c.tc : Thread Kernel9Ideal.nD Kernel9Ideal.τ).loc Kernel9Ideal.main_arg6))
    (R : Fin 256) (n : Fin 8720) : Reference9Ideal.Linear.zarg m' c (ix2 R n) = Kernel9Ideal.Linear.E m c R n := by
  unfold Reference9Ideal.Linear.zarg
  refine (Reference9Ideal.Linear.z_apply _ _ _ R n).trans ?_
  rw [e5, e6]
  exact congrArg (fun x => zrow x _ _) (funext fun d => xarg_eq m m' c e0 e1 e2 e3 e4 R d)

/-- In the sample batch, the first layer's output projection and the second layer's keys and values: the kernel and the
reference end with the same residual stream, keys and values. -/
theorem projections : algebraic_Kernel9Ideal_Reference9Ideal (hKernel9Ideal := Cert.Kernel9Ideal.Gen.facts)
    (hReference9Ideal := Cert.Reference9Ideal.Gen.facts) := by
  intro m g m' g' _ hargs
  refine ⟨fun c => Kernel9Ideal.Gen.W7 m g c (Proc.devRef .tc Kernel9Ideal.main_v8_0), fun c => Kernel9Ideal.Gen.W7 m g c (Proc.devRef .tc Kernel9Ideal.main_v16), fun c => Kernel9Ideal.Gen.W7 m g c (Proc.devRef .tc Kernel9Ideal.main_v18),
    (θ_run Cert.Kernel9Ideal.defs _ _).mono (fun r h c => ?_) (Kernel9Ideal.Linear.run_all m g),
    (θ_run Cert.Reference9Ideal.defs _ _).mono (fun r h c => ?_) (Reference9Ideal.Linear.run m' g')⟩
  · exact ⟨h c _ (Kernel9Ideal.Gen.mem_uc Kernel9Ideal.main_v8_0 (by decide)), h c _ (Kernel9Ideal.Gen.mem_uc Kernel9Ideal.main_v16 (by decide)), h c _ (Kernel9Ideal.Gen.mem_uc Kernel9Ideal.main_v18 (by decide)),
      (h c _ (Kernel9Ideal.Gen.mem_uc Kernel9Ideal.main_arg0 (by decide))).trans (Kernel9Ideal.Gen.W7_main_arg0 m g c), (h c _ (Kernel9Ideal.Gen.mem_uc Kernel9Ideal.main_arg1 (by decide))).trans (Kernel9Ideal.Gen.W7_main_arg1 m g c), (h c _ (Kernel9Ideal.Gen.mem_uc Kernel9Ideal.main_arg2 (by decide))).trans (Kernel9Ideal.Gen.W7_main_arg2 m g c), (h c _ (Kernel9Ideal.Gen.mem_uc Kernel9Ideal.main_arg3 (by decide))).trans (Kernel9Ideal.Gen.W7_main_arg3 m g c), (h c _ (Kernel9Ideal.Gen.mem_uc Kernel9Ideal.main_arg4 (by decide))).trans (Kernel9Ideal.Gen.W7_main_arg4 m g c), (h c _ (Kernel9Ideal.Gen.mem_uc Kernel9Ideal.main_arg5 (by decide))).trans (Kernel9Ideal.Gen.W7_main_arg5 m g c), (h c _ (Kernel9Ideal.Gen.mem_uc Kernel9Ideal.main_arg6 (by decide))).trans (Kernel9Ideal.Gen.W7_main_arg6 m g c)⟩
  · obtain ⟨e0, e1, e2, e3, e4, e5, e6⟩ := hargs c
    have hx := xarg_eq m m' c e0 e1 e2 e3 e4
    have hz := zarg_eq m m' c e0 e1 e2 e3 e4 e5 e6
    obtain ⟨h0, h1, h2, hk⟩ := h c
    refine ⟨h0.trans ?_, h1.trans ?_, h2.trans ?_, hk⟩
    · funext i
      rw [eq_ix2 i]
      exact (hx _ _).trans (Kernel9Ideal.Linear.res0 m g c (i 0) (i 1)).symm
    · funext i
      have i0 : i 0 = (0 : Fin 1) := Subsingleton.elim (α := Fin 1) _ _
      have i3 : (i 3).val < 16 := (i 3).isLt
      have i4 : (i 4).val < 128 := (i 4).isLt
      rw [eq_ix5 i, i0]
      exact (Reference9Ideal.Linear.heads_apply _ (i 1) (i 2) (i 3) (i 4)).trans (((cols_apply (Reference9Ideal.Linear.zarg m' c) 2048 _ _ _ ⟨2048 + (128 * (i 3).val + (i 4).val), by omega⟩ rfl).trans (hz _ _)).trans
        (Kernel9Ideal.Linear.res1 m g c (i 1) (i 2) (i 3) (i 4)).symm)
    · funext i
      have i0 : i 0 = (0 : Fin 1) := Subsingleton.elim (α := Fin 1) _ _
      have i3 : (i 3).val < 16 := (i 3).isLt
      have i4 : (i 4).val < 128 := (i 4).isLt
      rw [eq_ix5 i, i0]
      exact (Reference9Ideal.Linear.heads_apply _ (i 1) (i 2) (i 3) (i 4)).trans (((cols_apply (Reference9Ideal.Linear.zarg m' c) 4096 _ _ _ ⟨4096 + (128 * (i 3).val + (i 4).val), by omega⟩ rfl).trans (hz _ _)).trans
        (Kernel9Ideal.Linear.res2 m g c (i 1) (i 2) (i 3) (i 4)).symm)

end Cert.SampleOutIn
-- ==== Proof.SampleGate.lean ====
module

public import proofs.«01_k».proof.Proof.Gate
public import proofs.«01_k».proof.Proof.Sample

@[expose] public section

set_option maxRecDepth 16384

noncomputable section

open Idealize.ShloMosaic Idealize.ShloMosaic.TcCoe Idealize.SL.Sem

namespace Cert.SampleGate
open Cert.Gate Cert.Linear

/-- The log of the forget gate of a row of the projection in a head. -/
def rowGate (Z : (⟨2, ![256, 640]⟩ : Shape).Idx → EReal) (B : (⟨2, ![1, 16]⟩ : Shape).Idx → EReal) (R : Fin 256) (h : Fin 16) : EReal :=
  lsig (Z (ix2 R (col h)) + B (ix2 0 h))

theorem stok_inj (b : Fin 32) : Function.Injective (stok b) := fun s t h => by
  have e : 8 * b.val + s.val = 8 * b.val + t.val := congrArg Fin.val h
  exact Fin.ext (by omega)

/-- A sum over all rows, with ones at the earlier tokens of the row's own sequence and zeros elsewhere. -/
theorem seq_sum (g u : Fin 256 → EReal) (b : Fin 32) (t : Fin 8)
    (hu : ∀ R : Fin 256, u R = if R.val ≤ (stok b t).val ∧ (stok b t).val / 8 = R.val / 8 then 1 else 0) :
    ∑ R : Fin 256, u R * g R = upTo (fun s => g (stok b s)) (t.val + 1) := by
  have ht := t.isLt
  have bt : (stok b t).val = 8 * b.val + t.val := rfl
  have e : ∑ s : Fin 8, (fun n : ℕ => if n ≤ t.val then ext (fun s => g (stok b s)) n else 0) s.val = ∑ R : Fin 256, u R * g R := by
    refine Fintype.sum_of_injective (stok b) (stok_inj b) _ _ (fun R hR => ?_) fun s => ?_
    · rw [hu, if_neg, zero_mul]
      rintro ⟨-, h2⟩
      exact hR ⟨⟨R.val % 8, by omega⟩, Fin.ext (by show 8 * b.val + R.val % 8 = R.val; omega)⟩
    · have hs := s.isLt
      have bs : (stok b s).val = 8 * b.val + s.val := rfl
      dsimp only
      rw [hu]
      by_cases h : s.val ≤ t.val
      · rw [if_pos h, if_pos (by omega), one_mul]
        unfold ext
        rw [dif_pos hs]
      · rw [if_neg h, if_neg (by omega), zero_mul]
  rw [← e, Fin.sum_univ_eq_sum_range (fun n : ℕ => if n ≤ t.val then ext (fun s => g (stok b s)) n else 0) 8, ← Finset.sum_filter]
  refine Finset.sum_congr (Finset.ext fun n => ?_) fun _ _ => rfl
  simp only [Finset.mem_filter, Finset.mem_range]
  omega

end Cert.SampleGate
-- ==== Proof.SampleGatesBody.lean ====
module

public import proofs.«01_k».proof.Proof.SampleGate
public import proofs.«01_k».proof.Proof.Gen.Kernel10Ideal.Frame
public import Idealize.ShloMosaic.Lib.WordCmp

@[expose] public section

set_option maxRecDepth 16384

noncomputable section

open Idealize.ShloMosaic Idealize.ShloMosaic.TcCoe Idealize.SL.Sem

namespace Cert.Kernel10Ideal.Gates
open Cert.Kernel10Ideal.Gen Cert.Gate Cert.SampleGate

theorem z_S256x128 : (![0, 0] : Fin S256x128.rank → ℕ) = fun _ => 0 := by funext a; match a with | 0 => rfl | 1 => rfl
theorem z_S1x128 : (![0, 0] : Fin S1x128.rank → ℕ) = fun _ => 0 := by funext a; match a with | 0 => rfl | 1 => rfl
theorem z_S256x16 : (![0, 0] : Fin S256x16.rank → ℕ) = fun _ => 0 := by funext a; match a with | 0 => rfl | 1 => rfl

/-- The rows' numbers, along the second axis. -/
abbrev cols : IVec S256x256 32 := iota .tc S256x256 32 [1] iota_S256x256_d1_w32

/-- What the body leaves: the logs of its rows' gates. -/
theorem out2_A (c : Dev nD) (i : grid0.Coords) (arg2 : Memref sig .tc .vmem S256x128 .f32) (harg2 : arg2.IsWhole) (arg3 : Memref sig .tc .vmem S1x128 .f32) (harg3 : arg3.IsWhole) (arg4 : Memref sig .tc .vmem S256x16 .f32) (harg4 : arg4.IsWhole) (arg5 : Memref sig .tc .vmem S256x16 .f32) (harg5 : arg5.IsWhole) (arg6 : Memref sig .tc .vmem S128x1 .f32) (harg6 : arg6.IsWhole)
    (x0 : Vec Ideal S256x128 .f32) (x1 : Vec Ideal S1x128 .f32) :
    out0_A_2 (F := Ideal) c i arg2 harg2 arg3 harg3 arg4 harg4 arg5 harg5 arg6 harg6 x0 x1 = k0_pay3 (F := Ideal) x0 x1 := by
  unfold out0_A_2
  rw [View.read_writes_eq_canon _ _ _ (cover0_A_2 c i arg2 harg2 arg3 harg3 arg4 harg4 arg5 harg5 arg6 harg6 x0 x1)]
  unfold kernelRun0_A
  dsimp only
  refine (View.canon_cons_unit_zero (Val := Elt Ideal) (S := S256x16) (e := .f32) z_S256x16 inb_S256x16_S256x16_0_0 (k0_pay3 (F := Ideal) (View.ld (arg2.view.read (Elt Ideal) (harg2.unread x0)) (Rect.unit ![0, 0] S256x128.size inb_S256x128_S256x128_0_0)) (View.ld (arg3.view.read (Elt Ideal) (harg3.unread x1)) (Rect.unit ![0, 0] S1x128.size inb_S1x128_S1x128_0_0))) _).trans ?_
  rw [View.ld_unit_zero (S := S256x128) z_S256x128, View.ld_unit_zero (S := S1x128) z_S1x128, harg2.read_unread, harg3.read_unread]

/-- What the body leaves: the sums within the sequences. -/
theorem out3_A (c : Dev nD) (i : grid0.Coords) (arg2 : Memref sig .tc .vmem S256x128 .f32) (harg2 : arg2.IsWhole) (arg3 : Memref sig .tc .vmem S1x128 .f32) (harg3 : arg3.IsWhole) (arg4 : Memref sig .tc .vmem S256x16 .f32) (harg4 : arg4.IsWhole) (arg5 : Memref sig .tc .vmem S256x16 .f32) (harg5 : arg5.IsWhole) (arg6 : Memref sig .tc .vmem S128x1 .f32) (harg6 : arg6.IsWhole)
    (x0 : Vec Ideal S256x128 .f32) (x1 : Vec Ideal S1x128 .f32) :
    out0_A_3 (F := Ideal) c i arg2 harg2 arg3 harg3 arg4 harg4 arg5 harg5 arg6 harg6 x0 x1 = k0_pay1 (F := Ideal) (k0_pay2 (F := Ideal) x0 x1) cols k0_pay4 k0_pay5 := by
  unfold out0_A_3
  rw [View.read_writes_eq_canon _ _ _ (cover0_A_3 c i arg2 harg2 arg3 harg3 arg4 harg4 arg5 harg5 arg6 harg6 x0 x1)]
  unfold kernelRun0_A
  dsimp only
  refine (View.canon_cons_unit_zero (Val := Elt Ideal) (S := S256x16) (e := .f32) z_S256x16 inb_S256x16_S256x16_0_0 (k0_pay1 (F := Ideal) (k0_pay2 (F := Ideal) (View.ld (arg2.view.read (Elt Ideal) (harg2.unread x0)) (Rect.unit ![0, 0] S256x128.size inb_S256x128_S256x128_0_0)) (View.ld (arg3.view.read (Elt Ideal) (harg3.unread x1)) (Rect.unit ![0, 0] S1x128.size inb_S1x128_S1x128_0_0))) cols k0_pay4 k0_pay5) _).trans ?_
  rw [View.ld_unit_zero (S := S256x128) z_S256x128, View.ld_unit_zero (S := S1x128) z_S1x128, harg2.read_unread, harg3.read_unread]

/-- The gates of the rows. -/
theorem pay2_apply (x0 : Vec Ideal S256x128 .f32) (x1 : Vec Ideal S1x128 .f32) (r : Fin 256) (l : Fin 128) :
    (k0_pay2 (F := Ideal) x0 x1 : S256x128.Idx → EReal) (ix2 r l) = lsig ((x0 (ix2 r l) : EReal) + (x1 (ix2 0 l) : EReal)) := by
  unfold k0_pay2 lsig
  simp only [shapeCast_self]
  pointwise []
  rfl

/-- … in the stored columns. -/
theorem pay3_apply (x0 : Vec Ideal S256x128 .f32) (x1 : Vec Ideal S1x128 .f32) (r : Fin 256) (h : Fin 16) (l : Fin 128) (hl : l.val = h.val) :
    (k0_pay3 (F := Ideal) x0 x1 : S256x16.Idx → EReal) (ix2 r h) = lsig ((x0 (ix2 r l) : EReal) + (x1 (ix2 0 l) : EReal)) := by
  rw [← pay2_apply]
  unfold k0_pay3
  refine congrArg (k0_pay2 (F := Ideal) x0 x1) (funext fun a => Fin.ext ?_)
  match a with
  | 0 => show 0 + r.val = r.val; omega
  | 1 => show 0 + h.val = l.val; omega

/-- A word's quotient by eight, rounded down: the truncated quotient, less one where the signs differ and a rest is left. -/
def eighth (x : BitVec 32) : BitVec 32 :=
  if IntOp.andi (IntOp.cmpi .ne (IntOp.subi ((IntOp.cmpi .sgt x 0#32).setWidth 32) ((IntOp.cmpi .slt x 0#32).setWidth 32))
      (Scalar.subi (Scalar.extui (Scalar.cmpi .sgt 8#32 0#32)) (Scalar.extui (Scalar.cmpi .slt 8#32 0#32))))
      (IntOp.cmpi .ne (IntOp.remsi .vector x 8#32) 0#32) = 1#1
  then IntOp.subi (IntOp.divsi .vector x 8#32) 1#32 else IntOp.divsi .vector x 8#32

theorem eighth_eq : ∀ s : Fin 256, eighth (BitVec.ofNat 32 s.val) = BitVec.ofNat 32 (s.val / 8) := by decide +kernel

theorem cols_apply (r t : Fin 256) : cols (ix2 r t) = BitVec.ofNat 32 t.val := by
  unfold cols
  exact iota_single_apply ..

/-- The rows' sequences. -/
theorem pay5_apply (r t : Fin 256) : k0_pay5 (ix2 r t) = BitVec.ofNat 32 (r.val / 8) := by
  refine Eq.trans (b := eighth (iota .tc S256x256 32 [0] iota_S256x256_d0_w32 (ix2 r t))) rfl ?_
  rw [iota_single_apply]
  exact eighth_eq r

/-- The matrix of ones at the earlier tokens of the same sequence. -/
def ones : FVec Ideal S256x256 .f32 :=
  sitofp .f32 (extui 32 (andi k0_pay4 (cmpi .eq k0_pay5 (fun i => eighth (cols i)))) natLt_1_32)

theorem ones_apply (r t : Fin 256) : (ones (ix2 r t) : EReal) = if t.val ≤ r.val ∧ r.val / 8 = t.val / 8 then 1 else 0 := by
  have hr := r.isLt
  have ht := t.isLt
  have e4 : k0_pay4 (ix2 r t) = BitVec.ofBool (decide (t.val ≤ r.val)) := by
    show IntOp.cmpi .sle (iota .tc S256x256 32 [1] iota_S256x256_d1_w32 (ix2 r t)) (iota .tc S256x256 32 [0] iota_S256x256_d0_w32 (ix2 r t)) = _
    rw [iota_single_apply, iota_single_apply]
    exact WordCmp.cmpi_sle_ofNat (by show t.val < _; omega) (by show r.val < _; omega)
  have e5 : IntOp.cmpi .eq (k0_pay5 (ix2 r t)) (eighth (cols (ix2 r t))) = BitVec.ofBool (decide (r.val / 8 = t.val / 8)) := by
    rw [pay5_apply, cols_apply, eighth_eq]
    exact WordCmp.cmpi_eq_ofNat (by omega) (by omega)
  show ((((IntOp.andi (k0_pay4 (ix2 r t)) (IntOp.cmpi .eq (k0_pay5 (ix2 r t)) (eighth (cols (ix2 r t))))).setWidth 32).toInt : ℝ) : EReal) = _
  rw [e4, e5]
  by_cases h : t.val ≤ r.val <;> by_cases h' : r.val / 8 = t.val / 8
  · rw [if_pos ⟨h, h'⟩, decide_eq_true h, decide_eq_true h']; simp [IntOp.andi]
  · rw [if_neg fun q => h' q.2, decide_eq_true h, decide_eq_false h']; simp [IntOp.andi]
  · rw [if_neg fun q => h q.1, decide_eq_false h, decide_eq_true h']; simp [IntOp.andi]
  · rw [if_neg fun q => h q.1, decide_eq_false h, decide_eq_false h']; simp [IntOp.andi]

theorem eighth_map (v : IVec S256x256 32) : select (andi (cmpi .ne (subi (extui 32 (cmpi .sgt v (broadcast S256x256 0#32)) natLt_1_32) (extui 32 (cmpi .slt v (broadcast S256x256 0#32)) natLt_1_32))
      (broadcast S256x256 (Scalar.subi (Scalar.extui (Scalar.cmpi .sgt 8#32 0#32)) (Scalar.extui (Scalar.cmpi .slt 8#32 0#32)))))
      (cmpi .ne (remsi v (broadcast S256x256 8#32)) (broadcast S256x256 0#32))) (subi (divsi v (broadcast S256x256 8#32)) (broadcast S256x256 1#32)) (divsi v (broadcast S256x256 8#32))
    = fun i => eighth (v i) := rfl

theorem pay1_eq (p : FVec Ideal S256x128 .f32) (v : IVec S256x256 32) (w : IVec S256x256 1) (u : IVec S256x256 32) :
    k0_pay1 (F := Ideal) p v w u = extractStridedSlice S256x16 ![0, 0] (matmul dot_S256x256_S256x128_S256x128_1_0_0_1_n_n (some .fp32)
      (sitofp .f32 (extui 32 (andi w (cmpi .eq u fun i => eighth (v i))) natLt_1_32)) p (constant S256x128 .f32 0x00000000#32)) slices_S256x128_o0_0_S256x16 := by
  rw [← eighth_map]
  rfl

theorem dims : dot_S256x256_S256x128_S256x128_1_0_0_1_n_n = DotDims.plain 256 256 128 := rfl

/-- The sums, as products with that matrix. -/
theorem pay1_apply (p : FVec Ideal S256x128 .f32) (r : Fin 256) (h : Fin 16) (l : Fin 128) (hl : l.val = h.val) :
    (k0_pay1 (F := Ideal) p cols k0_pay4 k0_pay5 : S256x16.Idx → EReal) (ix2 r h) = ∑ t : Fin 256, (ones (ix2 r t) : EReal) * (p (ix2 t l) : EReal) := by
  have e : (matmul dot_S256x256_S256x128_S256x128_1_0_0_1_n_n (some .fp32) ones p (constant S256x128 .f32 0x00000000#32) : FVec Ideal S256x128 .f32) (ix2 r l)
      = ∑ t : Fin 256, (ones (ix2 r t) : EReal) * (p (ix2 t l) : EReal) := by
    rw [dims]
    generalize ones = q
    pointwise [Ideal.matmul_plain_apply]
  rw [← e]
  rw [pay1_eq]
  unfold ones
  generalize (matmul dot_S256x256_S256x128_S256x128_1_0_0_1_n_n (some .fp32) _ p (constant S256x128 .f32 0x00000000#32) : FVec Ideal S256x128 .f32) = x
  refine congrArg x (funext fun a => Fin.ext ?_)
  match a with
  | 0 => show 0 + r.val = r.val; omega
  | 1 => show 0 + h.val = l.val; omega

end Cert.Kernel10Ideal.Gates
-- ==== Proof.SampleGatesVal.lean ====
module

public import proofs.«01_k».proof.Proof.SampleGatesBody
public import Idealize.ShloMosaic.Lib.Routing.OpsOne

@[expose] public section

set_option maxRecDepth 16384

noncomputable section

open Idealize.ShloMosaic Idealize.ShloMosaic.TcCoe Idealize.SL.Sem

namespace Cert.Kernel10Ideal.Gates
open Cert.Kernel10Ideal.Gen Cert.Gate Cert.SampleGate Cert.Linear
open Idealize.ShloMosaic.Pipeline (Dat Cfg)

variable (m : (ℓ : Loc nD τ sig) → Buf (Elt Ideal) ℓ) (ρ : Dev nD → PrngReg) (c : Dev nD)

/-- The arguments of one device. -/
abbrev A0 : S256x640.Idx → EReal := m ((c.tc : Thread nD τ).loc main_arg0)
abbrev A1 : S1x16.Idx → EReal := m ((c.tc : Thread nD τ).loc main_arg1)

/-- The block each window takes at the one grid point. -/
theorem index0 : ∀ t : Fin cfg0.N, win0_0.index t (0 : Fin 2) = 0 ∧ win0_0.index t (1 : Fin 2) = 4 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)

/-- A bias stays in its column when the row of biases is padded with zeros. -/
theorem pad_apply (x : S1x128.Idx → EReal) (idx : IVec S2 32) (u : S16.Idx → EReal) (hi : ∀ q : S2.Idx, idx q = 0#32) (h : Fin 16) (l : Fin 128) (hl : l.val = h.val) :
    Host.scatter scatter_S1x128_S2_S16_0_0_01_0 (fun _ b => b) x idx u (ix2 0 l) = u (ix1 h) := by
  have st : ∀ (k : S16.Idx) (q : Fin 2), scatter_S1x128_S2_S16_0_0_01_0.start k idx q = 0 := fun k q => by
    rw [Routing.start_pair (R := 1) (C := 128) (u := S16) scatter_S1x128_S2_S16_0_0_01_0 rfl rfl idx k q, hi]
    rfl
  have w0 : ∀ k : S16.Idx, scatter_S1x128_S2_S16_0_0_01_0.window k (0 : Fin 2) = 0 := fun k => rfl
  have w1 : ∀ k : S16.Idx, scatter_S1x128_S2_S16_0_0_01_0.window k (1 : Fin 2) = (k 0).val := fun k => rfl
  have hit : ∀ k : S16.Idx, scatter_S1x128_S2_S16_0_0_01_0.resultIdx? k idx = some (ix2 0 l) ↔ k = ix1 h := fun k => by
    rw [Routing.resultIdx?_eq_some]
    constructor
    · intro q
      have q1 : scatter_S1x128_S2_S16_0_0_01_0.start k idx (1 : Fin 2) + (scatter_S1x128_S2_S16_0_0_01_0.window k (1 : Fin 2) : ℤ) = (l.val : ℤ) := q 1
      rw [st, w1] at q1
      rw [eq_ix1 k]
      exact congrArg ix1 (Fin.ext (by show (k 0).val = h.val; omega))
    · rintro rfl a
      match a with
      | 0 => show scatter_S1x128_S2_S16_0_0_01_0.start (ix1 h) idx (0 : Fin 2) + (scatter_S1x128_S2_S16_0_0_01_0.window (ix1 h) (0 : Fin 2) : ℤ) = (0 : ℤ); rw [st, w0]; rfl
      | 1 =>
        show scatter_S1x128_S2_S16_0_0_01_0.start (ix1 h) idx (1 : Fin 2) + (scatter_S1x128_S2_S16_0_0_01_0.window (ix1 h) (1 : Fin 2) : ℤ) = (l.val : ℤ)
        rw [st, w1]
        show (0 : ℤ) + ((h.val : ℕ) : ℤ) = _
        omega
  exact Routing.scatter_set_hit _ x idx u _ _ (fun k hk => congrArg u ((hit k).1 hk)) (ix1 h) ((hit _).2 rfl)

/-- The kernel's row of biases. -/
theorem v5_apply (h : Fin 16) (l : Fin 128) (hl : l.val = h.val) : (V m c main_v5 : S1x128.Idx → EReal) (ix2 0 l) = A1 m c (ix2 0 h) := by
  show StableHlo.after hostOps0 (fun b => m (c, b)) (Proc.devRef .tc main_v5) _ = _
  after_results
  refine (pad_apply _ _ _ (fun q => ?_) h l hl).trans ?_
  · obtain ⟨a, rfl⟩ : ∃ a : Fin 2, q = ix1 a := ⟨q 0, eq_ix1 q⟩
    match a with
    | 0 => rfl
    | 1 => rfl
  · exact shapeCast_apply (A1 m c) shapeCasts_S1x16_S16 (ix1 h) (ix2 0 h) (by rw [Shape.rowMajor_val_two, Shape.rowMajor_val_one]; show 0 * 16 + h.val = h.val; omega)

/-- The grid point's blocks of the projection and of the biases. -/
abbrev B0 (t : Fin cfg0.N) : S256x128.Idx → EReal := iblk m c 0 t
abbrev B1 (t : Fin cfg0.N) : S1x128.Idx → EReal := iblk m c 1 t

/-- Their gates are the rows'. -/
theorem gate_apply (t : Fin cfg0.N) (r : Fin 256) (h : Fin 16) (l : Fin 128) (hl : l.val = h.val) :
    lsig (B0 m c t (ix2 r l) + B1 m c t (ix2 0 l)) = rowGate (A0 m c) (A1 m c) r h := by
  unfold rowGate
  refine congrArg lsig (congrArg₂ (fun a b : EReal => a + b) ?_ ?_)
  · obtain ⟨e0, e1⟩ := index0 t
    refine Eq.trans ?_ (congrFun (V_main_arg0 m c) _)
    refine congrArg (V m c main_arg0) (funext fun a => Fin.ext ?_)
    match a with
    | 0 => show win0_0.index t (0 : Fin 2) * 256 + 1 * r.val = r.val; omega
    | 1 => show win0_0.index t (1 : Fin 2) * 128 + 1 * l.val = 512 + h.val; omega
  · obtain ⟨e0, e1⟩ := index1 t
    rw [← v5_apply m c h l hl]
    refine congrArg (V m c main_v5) (funext fun a => Fin.ext ?_)
    match a with
    | 0 => show win0_1.index t (0 : Fin 2) * 1 + 1 * 0 = 0; omega
    | 1 => show win0_1.index t (1 : Fin 2) * 128 + 1 * l.val = l.val; omega

/-- What the grid point leaves in the first result's buffer … -/
theorem left2 (t : Fin cfg0.N) (r : Fin 256) (h : Fin 16) : ((outsAt0 m c t).1 (ix2 r h) : EReal) = rowGate (A0 m c) (A1 m c) r h := by
  have hh := h.isLt
  unfold outsAt0
  dsimp only
  rw [out2_A, pay3_apply _ _ r h ⟨h.val, by omega⟩ rfl]
  exact gate_apply m c t r h ⟨h.val, by omega⟩ rfl

/-- … and in the second's. -/
theorem left3 (t : Fin cfg0.N) (b : Fin 32) (s : Fin 8) (h : Fin 16) :
    ((outsAt0 m c t).2 (ix2 (stok b s) h) : EReal) = upTo (fun s => rowGate (A0 m c) (A1 m c) (stok b s) h) (s.val + 1) := by
  have hh := h.isLt
  unfold outsAt0
  dsimp only
  rw [out3_A, pay1_apply _ _ h ⟨h.val, by omega⟩ rfl, seq_sum _ _ b s (fun R => ones_apply (stok b s) R)]
  refine congrArg (fun f => upTo f (s.val + 1)) (funext fun q => ?_)
  rw [pay2_apply]
  exact gate_apply m c t (stok b q) h ⟨h.val, by omega⟩ rfl

/-- The two arrays. -/
def G2 : S256x16.Idx → EReal := fun i => rowGate (A0 m c) (A1 m c) (i 0) (i 1)
def G3 : S256x16.Idx → EReal := fun i => upTo (fun s => rowGate (A0 m c) (A1 m c) (stok ⟨(i 0).val / 8, by have h : (i 0).val < 256 := (i 0).isLt; omega⟩ s) (i 1)) ((i 0).val % 8 + 1)

theorem G3_apply (b : Fin 32) (s : Fin 8) (h : Fin 16) : G3 m c (ix2 (stok b s) h) = upTo (fun s => rowGate (A0 m c) (A1 m c) (stok b s) h) (s.val + 1) := by
  have hs := s.isLt
  have e1 : (⟨(stok b s).val / 8, by have h : (stok b s).val < 256 := (stok b s).isLt; omega⟩ : Fin 32) = b := Fin.ext (by show (8 * b.val + s.val) / 8 = b.val; omega)
  have e2 : (stok b s).val % 8 = s.val := (by show (8 * b.val + s.val) % 8 = s.val; omega)
  show upTo (fun q => rowGate (A0 m c) (A1 m c) (stok ⟨(stok b s).val / 8, _⟩ q) h) ((stok b s).val % 8 + 1) = _
  rw [e1, e2]

theorem emb2 (t : Fin cfg0.N) (r : Fin 256) (h : Fin 16) : ((cfg0.win 2).blk t).view.emb (ix2 r h) = (ix2 r h : S256x16.Idx) := by
  obtain ⟨e0, e1⟩ := index2 t
  refine funext fun a => Fin.ext ?_
  match a with
  | 0 => show win0_2.index t (0 : Fin 2) * 256 + 1 * r.val = r.val; omega
  | 1 => show win0_2.index t (1 : Fin 2) * 16 + 1 * h.val = h.val; omega

theorem flushed2 (t : Fin cfg0.N) : (dats m 0 c).flushed 2 t = ((cfg0.win 2).blk t).view.read (Elt Ideal) (G2 m c) := by
  show (cfg0.win 2).cut (grid0.coords t) ((dats m 0 c).after 2 t) = _
  rw [after0_2]
  funext y
  obtain ⟨r, h, rfl⟩ : ∃ (r : Fin 256) (h : Fin 16), y = ix2 r h := ⟨y 0, y 1, eq_ix2 y⟩
  exact (left2 m c t r h).trans (congrArg (G2 m c) (emb2 t r h)).symm

theorem covered2 (i : S256x16.Idx) : ∃ t : Fin cfg0.N, (cfg0.win 2).flush t = true ∧ i ∈ ((cfg0.win 2).blk t).view.set := by
  refine ⟨t0_0, flush0_2 _, ?_⟩
  have hm := ((cfg0.win 2).blk t0_0).view.emb_mem_set (ix2 (i 0 : Fin 256) (i 1 : Fin 16))
  rwa [(emb2 t0_0 (i 0) (i 1)).trans (eq_ix2 i).symm] at hm

theorem final2 : (dats m 0 c).arrAt 2 cfg0.N = G2 m c := (dats m 0 c).arrAt_eq_of_cover 2 _ (fun t _ => flushed2 m c t) covered2

theorem emb3 (t : Fin cfg0.N) (r : Fin 256) (h : Fin 16) : ((cfg0.win 3).blk t).view.emb (ix2 r h) = (ix2 r h : S256x16.Idx) := by
  obtain ⟨e0, e1⟩ := index3 t
  refine funext fun a => Fin.ext ?_
  match a with
  | 0 => show win0_3.index t (0 : Fin 2) * 256 + 1 * r.val = r.val; omega
  | 1 => show win0_3.index t (1 : Fin 2) * 16 + 1 * h.val = h.val; omega

theorem flushed3 (t : Fin cfg0.N) : (dats m 0 c).flushed 3 t = ((cfg0.win 3).blk t).view.read (Elt Ideal) (G3 m c) := by
  show (cfg0.win 3).cut (grid0.coords t) ((dats m 0 c).after 3 t) = _
  rw [after0_3]
  funext y
  obtain ⟨r, h, rfl⟩ : ∃ (r : Fin 256) (h : Fin 16), y = ix2 r h := ⟨y 0, y 1, eq_ix2 y⟩
  obtain ⟨b, s, rfl⟩ := stok_surj r
  exact (left3 m c t b s h).trans ((G3_apply m c b s h).symm.trans (congrArg (G3 m c) (emb3 t (stok b s) h)).symm)

theorem covered3 (i : S256x16.Idx) : ∃ t : Fin cfg0.N, (cfg0.win 3).flush t = true ∧ i ∈ ((cfg0.win 3).blk t).view.set := by
  refine ⟨t0_0, flush0_3 _, ?_⟩
  have hm := ((cfg0.win 3).blk t0_0).view.emb_mem_set (ix2 (i 0 : Fin 256) (i 1 : Fin 16))
  rwa [(emb3 t0_0 (i 0) (i 1)).trans (eq_ix2 i).symm] at hm

theorem final3 : (dats m 0 c).arrAt 3 cfg0.N = G3 m c := (dats m 0 c).arrAt_eq_of_cover 3 _ (fun t _ => flushed3 m c t) covered3

/-- The kernel's first result: the gates by layer, sequence, token and head. -/
def out0 : FVec Ideal S1x32x8x16 .f32 := broadcastInDim S1x32x8x16 ![1, 2, 3] bcast_S32x8x16_S1x32x8x16_1_2_3 (shapeCast S32x8x16 (G2 m c : FVec Ideal S256x16 .f32) shapeCasts_S256x16_S32x8x16)

theorem out0_apply (n : Fin 32) (t : Fin 8) (h : Fin 16) : out0 m c (ix4 0 n t h) = rowGate (A0 m c) (A1 m c) (stok n t) h := by
  have e : shapeCast S32x8x16 (G2 m c : FVec Ideal S256x16 .f32) shapeCasts_S256x16_S32x8x16 (ix3 n t h) = rowGate (A0 m c) (A1 m c) (stok n t) h := stok_cast _ _ n t h
  rw [← e]
  unfold out0
  generalize shapeCast S32x8x16 (G2 m c : FVec Ideal S256x16 .f32) shapeCasts_S256x16_S32x8x16 = x
  pointwise

/-- The host's last operations leave the first result where the claim reads it. -/
theorem tail_v8 : Pipeline.afterTail₀ cfgs (dats m) 0 (V0 m) [hostOps1] c main_v8 = out0 m c := by
  unfold Pipeline.afterTail₀
  rw [List.flatten_cons, List.flatten_nil, List.append_nil]
  after_results
  unfold out0
  have e := (Pipeline.withArrays_arr spec0 launch0.win.arr_inj c (V0 m c) (fun w => (dats m 0 c).arrAt w cfg0.N) 2).trans (final2 m c)
  refine congrArg (fun x : FVec Ideal S32x8x16 .f32 => (broadcastInDim S1x32x8x16 (![1, 2, 3] : Fin S32x8x16.rank → Fin S1x32x8x16.rank) bcast_S32x8x16_S1x32x8x16_1_2_3 x : FVec Ideal S1x32x8x16 .f32)) (funext fun i => ?_)
  exact congrArg (fun x : FVec Ideal S256x16 .f32 => (shapeCast S32x8x16 x shapeCasts_S256x16_S32x8x16 : FVec Ideal S32x8x16 .f32) i) e

/-- Every execution ends with the two results and the arguments kept. -/
theorem run : θ_run defs (onTc (τ := τ) (main (F := Ideal))) ⟨m, fun _ => 0, ρ⟩ fun r => ∀ c : Dev nD,
    r.2.mem ((c.tc : Thread nD τ).loc main_v8) = out0 m c
    ∧ r.2.mem ((c.tc : Thread nD τ).loc main_v6_1) = G3 m c
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨((h c).2 main_v8 (Pipeline.mem_restRefs_of main_v8 (by decide) (by decide))).trans (tail_v8 m c),
    ((h c).1 3).trans (final3 m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c)⟩) (run_main m ρ)

end Cert.Kernel10Ideal.Gates
-- ==== Proof.SampleGatesRef.lean ====
module

public import proofs.«01_k».proof.Proof.SampleGate
public import proofs.«01_k».proof.Proof.Gen.Reference10Ideal
public import proofs.«01_k».proof.Proof.Gen.Reference10Ideal.Run

@[expose] public section

set_option maxRecDepth 16384

noncomputable section

open Idealize.ShloMosaic Idealize.ShloMosaic.TcCoe Idealize.SL.Sem

namespace Cert.Reference10Ideal.Gates
open Cert.Reference10Ideal Cert.Reference10Ideal.Gen Cert.Gate Cert.SampleGate Cert.Linear

/-- The pre-activations. -/
def pre (z : FVec Ideal S256x640 .f32) (b : FVec Ideal S1x16 .f32) : FVec Ideal S32x8x16 .f32 :=
  addf (shapeCast _ (extractStridedSlice S256x16 ![0, 512] z slices_S256x640_S256x16_0_512) shapeCasts_S256x16_S32x8x16) (broadcastInDim S32x8x16 ![0, 1, 2] bcast_S1x1x16_S32x8x16_0_1_2 (broadcastInDim S1x1x16 ![2] bcast_S16_S1x1x16_2 (shapeCast _ b shapeCasts_S1x16_S16)))

theorem pre_apply (z : FVec Ideal S256x640 .f32) (b : FVec Ideal S1x16 .f32) (n : Fin 32) (t : Fin 8) (h : Fin 16) :
    pre z b (ix3 n t h) = (z (ix2 (stok n t) (col h)) : EReal) + (b (ix2 0 h) : EReal) := by
  unfold pre
  refine congrArg₂ (fun x y : EReal => x + y) ?_ ?_
  · refine (shapeCast_apply _ _ (ix3 n t h) (ix2 (stok n t) h) (by rw [Shape.rowMajor_val_two, Shape.rowMajor_val_three]; show (8 * n.val + t.val) * 16 + h.val = (n.val * 8 + t.val) * 16 + h.val; omega)).trans ?_
    refine congrArg z (funext fun a => Fin.ext ?_)
    match a with
    | 0 => show 0 + (stok n t).val = (stok n t).val; omega
    | 1 => rfl
  · refine Eq.trans ?_ (shapeCast_apply b shapeCasts_S1x16_S16 (ix1 h) (ix2 0 h) (by rw [Shape.rowMajor_val_two, Shape.rowMajor_val_one]; show 0 * 16 + h.val = h.val; omega))
    generalize shapeCast S16 b shapeCasts_S1x16_S16 = x
    pointwise

/-- The log of the logistic function, as the reference composes it. -/
def logs (u : FVec Ideal S32x8x16 .f32) : FVec Ideal S32x8x16 .f32 :=
  Host.negf (select (cmpf .une (subf (Host.negf u) (broadcastInDim S32x8x16 ![] bcast_S_S32x8x16 (constant S_ .f32 0x00000000#32))) (subf (Host.negf u) (broadcastInDim S32x8x16 ![] bcast_S_S32x8x16 (constant S_ .f32 0x00000000#32)))) (addf (Host.negf u) (broadcastInDim S32x8x16 ![] bcast_S_S32x8x16 (constant S_ .f32 0x00000000#32))) (addf (maximumf (Host.negf u) (broadcastInDim S32x8x16 ![] bcast_S_S32x8x16 (constant S_ .f32 0x00000000#32))) (Host.log1p (Host.exp (Host.negf (Host.absf (subf (Host.negf u) (broadcastInDim S32x8x16 ![] bcast_S_S32x8x16 (constant S_ .f32 0x00000000#32)))))))))

theorem logs_apply (u : FVec Ideal S32x8x16 .f32) (i : S32x8x16.Idx) : logs u i = lsig (u i) := by
  rw [← neg_softplus]
  have hz : (broadcastInDim S32x8x16 ![] bcast_S_S32x8x16 (constant S_ .f32 0x00000000#32) : FVec Ideal S32x8x16 .f32) i = (0 : EReal) := by
    pointwise
  unfold logs
  generalize (broadcastInDim S32x8x16 ![] bcast_S_S32x8x16 (constant S_ .f32 0x00000000#32) : FVec Ideal S32x8x16 .f32) = w at hz ⊢
  show -(if Ideal.cmp .une ((-(u i : EReal)) - w i) ((-(u i : EReal)) - w i) = 1#1 then (-(u i : EReal)) + w i else max (-(u i : EReal)) (w i) + Ideal.log1p (Ideal.exp (-(max (-(u i : EReal) - w i) (-(-(u i : EReal) - w i)))))) = _
  have hc : ∀ x : EReal, Ideal.cmp .une x x = 0#1 := fun x => by unfold Ideal.cmp; simp
  rw [hc, if_neg (by decide), hz]

/-- The running sums along the tokens. -/
def sums (x : FVec Ideal S32x8x16 .f32) : FVec Ideal S32x8x16 .f32 :=
  Host.reduceWindowAdd ![1, 8, 1] ![1, 1, 1] ![0, 7, 0] ![0, 0, 0] x (broadcastInDim S_ ![] bcast_S_S_ (constant S_ .f32 0x00000000#32)) reduceWindows_S32x8x16_S32x8x16_w1s1p0_0_w8s1p7_0_w1s1p0_0 h_S_

/-- A window's positions: its place along the tokens. -/
abbrev Win : Shape := ⟨3, ![1, 8, 1]⟩

theorem sum_win (g : Win.Idx → EReal) : ∑ n : Fin Win.numel, g (Win.rowMajor.symm n) = ∑ k : Fin 8, g (ix3 0 k 0) := by
  rw [Equiv.sum_comp Win.rowMajor.symm g]
  refine Fintype.sum_bijective (fun i : Win.Idx => (i 1 : Fin 8)) ⟨fun i j h => ?_, fun k => ⟨ix3 0 k 0, rfl⟩⟩ _ _ fun i => ?_
  · rw [eq_ix3 i, eq_ix3 j]
    exact congr (congr (congrArg ix3 (Subsingleton.elim (α := Fin 1) _ _)) h) (Subsingleton.elim (α := Fin 1) _ _)
  · refine congrArg g ?_
    conv_lhs => rw [eq_ix3 i]
    exact congr (congr (congrArg ix3 (Subsingleton.elim (α := Fin 1) _ _)) rfl) (Subsingleton.elim (α := Fin 1) _ _)

theorem sums_apply (x : FVec Ideal S32x8x16 .f32) (n : Fin 32) (t : Fin 8) (h : Fin 16) :
    sums x (ix3 n t h) = upTo (fun s => (x (ix3 n s h) : EReal)) (t.val + 1) := by
  have hi : (broadcastInDim S_ ![] bcast_S_S_ (constant S_ .f32 0x00000000#32) : FVec Ideal S_ .f32) (Shape.Idx.first h_S_) = (0 : EReal) := by
    pointwise
  unfold sums Host.reduceWindowAdd
  rw [hi]
  show Ideal.hostReduceWindowAdd ![1, 8, 1] ![1, 1, 1] ![0, 7, 0] ![0, 0, 0] reduceWindows_S32x8x16_S32x8x16_w1s1p0_0_w8s1p7_0_w1s1p0_0 x (0 : EReal) (ix3 n t h) = _
  unfold Ideal.hostReduceWindowAdd Host.reduceWindow
  refine (foldl_sum Win.numel _).trans ?_
  let p : Win.Idx → Fin S32x8x16.rank → ℕ := fun w a => ((ix3 n t h : S32x8x16.Idx) a).val * (![1, 1, 1] : Fin 3 → ℕ) a + (w a).val
  refine (sum_win fun w => @dite EReal (∀ a : Fin S32x8x16.rank, (![0, 7, 0] : Fin 3 → ℕ) a ≤ p w a ∧ p w a - (![0, 7, 0] : Fin 3 → ℕ) a < S32x8x16.size a)
    (Nat.decidableForallFin _) (fun hin => x (fun a => ⟨p w a - (![0, 7, 0] : Fin 3 → ℕ) a, (hin a).2⟩)) fun _ => 0).trans ?_
  rw [← window_sum 7 rfl]
  refine Finset.sum_congr rfl fun k _ => ?_
  have hn := n.isLt
  have ht := t.isLt
  have hh := h.isLt
  have hk := k.isLt
  by_cases e : 7 ≤ t.val + k.val
  · rw [if_pos e, dif_pos]
    · unfold ext
      rw [dif_pos (by omega)]
      refine congrArg x (funext fun a => Fin.ext ?_)
      match a with
      | 0 => show n.val * 1 + 0 - 0 = n.val; omega
      | 1 => show t.val * 1 + k.val - 7 = t.val + k.val - 7; omega
      | 2 => show h.val * 1 + 0 - 0 = h.val; omega
    · intro a
      match a with
      | 0 => show 0 ≤ n.val * 1 + 0 ∧ n.val * 1 + 0 - 0 < 32; omega
      | 1 => show 7 ≤ t.val * 1 + k.val ∧ t.val * 1 + k.val - 7 < 8; omega
      | 2 => show 0 ≤ h.val * 1 + 0 ∧ h.val * 1 + 0 - 0 < 16; omega
  · rw [if_neg e, dif_neg]
    intro q
    have q1 : 7 ≤ t.val * 1 + k.val := (q 1).1
    omega

/-- The reference's two results. -/
def out0 (z : FVec Ideal S256x640 .f32) (b : FVec Ideal S1x16 .f32) : FVec Ideal S1x32x8x16 .f32 :=
  broadcastInDim S1x32x8x16 ![1, 2, 3] bcast_S32x8x16_S1x32x8x16_1_2_3 (logs (pre z b))

def out1 (z : FVec Ideal S256x640 .f32) (b : FVec Ideal S1x16 .f32) : FVec Ideal S256x16 .f32 :=
  shapeCast _ (sums (logs (pre z b))) shapeCasts_S32x8x16_S256x16

theorem out0_apply (z : FVec Ideal S256x640 .f32) (b : FVec Ideal S1x16 .f32) (n : Fin 32) (t : Fin 8) (h : Fin 16) :
    out0 z b (ix4 0 n t h) = rowGate z b (stok n t) h := by
  refine Eq.trans ?_ ((logs_apply (pre z b) (ix3 n t h)).trans (congrArg lsig (pre_apply z b n t h)))
  unfold out0
  generalize logs (pre z b) = x
  pointwise

theorem out1_apply (z : FVec Ideal S256x640 .f32) (b : FVec Ideal S1x16 .f32) (n : Fin 32) (t : Fin 8) (h : Fin 16) :
    out1 z b (ix2 (stok n t) h) = upTo (fun s => rowGate z b (stok n s) h) (t.val + 1) := by
  refine Eq.trans ?_ ((sums_apply (logs (pre z b)) n t h).trans (congrArg (fun f => upTo f (t.val + 1)) (funext fun s => (logs_apply (pre z b) (ix3 n s h)).trans (congrArg lsig (pre_apply z b n s h)))))
  exact shapeCast_apply _ _ (ix2 (stok n t) h) (ix3 n t h) (by rw [Shape.rowMajor_val_two, Shape.rowMajor_val_three]; show (n.val * 8 + t.val) * 16 + h.val = (8 * n.val + t.val) * 16 + h.val; omega)

variable (m : (ℓ : Loc nD τ sig) → Buf (Elt Ideal) ℓ) (ρ : Dev nD → PrngReg)

/-- Every execution of the reference ends with the gates' logs, their running sums, and the arguments kept. -/
theorem run : θ_run defs (onTc (τ := τ) (main (F := Ideal))) ⟨m, fun _ => 0, ρ⟩ fun r => ∀ c : Dev nD,
    r.2.mem ((c.tc : Thread nD τ).loc main_v7) = out0 (m ((c.tc : Thread nD τ).loc main_arg0)) (m ((c.tc : Thread nD τ).loc main_arg1))
    ∧ r.2.mem ((c.tc : Thread nD τ).loc main_v9) = out1 (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  Cert.Reference10Ideal.Value.run m ρ

end Cert.Reference10Ideal.Gates
-- ==== Proof.SampleGates.lean ====
module

public import proofs.«01_k».proof.Proof.SampleGatesVal
public import proofs.«01_k».proof.Proof.SampleGatesRef
public import proofs.«01_k».proof.Defs

@[expose] public section

set_option maxRecDepth 16384

noncomputable section

open Idealize.ShloMosaic Idealize.ShloMosaic.TcCoe Idealize.SL.Sem

namespace Cert.SampleGates
open Cert.Gate Cert.SampleGate Cert.Linear

/-- The sample batch's forget gates: the kernel and the reference end with the same logs and the same sums within the sequences. -/
theorem gates : algebraic_Kernel10Ideal_Reference10Ideal (hKernel10Ideal := Cert.Kernel10Ideal.Gen.facts)
    (hReference10Ideal := Cert.Reference10Ideal.Gen.facts) := by
  intro m g m' g' _ hargs
  refine ⟨fun c => Kernel10Ideal.Gates.out0 m c, fun c => Kernel10Ideal.Gates.G3 m c, (θ_run Cert.Kernel10Ideal.defs _ _).mono (fun r h c => h c) (Kernel10Ideal.Gates.run m g),
    (θ_run Cert.Reference10Ideal.defs _ _).mono (fun r h c => ?_) (Reference10Ideal.Gates.run m' g')⟩
  obtain ⟨e0, e1⟩ := hargs c
  obtain ⟨h0, h1, hk⟩ := h c
  refine ⟨h0.trans ?_, h1.trans ?_, hk⟩
  · rw [e0, e1]
    funext i
    have hi : i = ix4 0 (i 1) (i 2) (i 3) := (eq_ix4 i).trans (congrFun (congrFun (congrFun (congrArg ix4 (Subsingleton.elim (α := Fin 1) _ _)) _) _) _)
    rw [hi]
    exact (Reference10Ideal.Gates.out0_apply _ _ (i 1) (i 2) (i 3)).trans (Kernel10Ideal.Gates.out0_apply m c (i 1) (i 2) (i 3)).symm
  · rw [e0, e1]
    funext i
    obtain ⟨b, t, e⟩ := stok_surj (i 0)
    rw [eq_ix2 i, e]
    exact (Reference10Ideal.Gates.out1_apply _ _ b t (i 1)).trans (Kernel10Ideal.Gates.G3_apply m c b t (i 1)).symm

end Cert.SampleGates
-- ==== Proof.SampleFinalRegions.lean ====
module

public import proofs.«01_k».proof.Proof.Linear
public import proofs.«01_k».proof.Proof.Gen.Kernel11Ideal
public import proofs.«01_k».proof.Proof.Gen.Kernel11Ideal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.Kernel11Ideal.Linear
open Cert.Kernel11Ideal.Gen Cert.Linear

theorem z2 : (![0, 0] : Fin 2 → ℕ) = fun _ => 0 := funext fun a => match a with | 0 => rfl | 1 => rfl

variable (m : (ℓ : Loc nD τ sig) → Buf (Elt Ideal) ℓ)

/-- The block window 0 of region 0 takes at a grid point. -/
theorem index0_0 : ∀ t : Fin cfg0.N, win0_0.index t (0 : Fin 2) = t.val ∧ win0_0.index t (1 : Fin 2) = 0 :=
  (by decide +kernel : ∀ t : Fin grid0.N, _)

/-- The block window 1 of region 0 takes at a grid point. -/
theorem index0_1 : ∀ t : Fin cfg0.N, win0_1.index t (0 : Fin 2) = t.val ∧ win0_1.index t (1 : Fin 2) = 0 :=
  (by decide +kernel : ∀ t : Fin grid0.N, _)

/-- The block window 4 of region 0 takes at a grid point. -/
theorem index0_4 : ∀ t : Fin cfg0.N, win0_4.index t (0 : Fin 2) = t.val ∧ win0_4.index t (1 : Fin 2) = 0 :=
  (by decide +kernel : ∀ t : Fin grid0.N, _)

/-- The block window 6 of region 0 takes at a grid point. -/
theorem index0_6 : ∀ t : Fin cfg0.N, win0_6.index t (0 : Fin 2) = t.val ∧ win0_6.index t (1 : Fin 2) = 0 :=
  (by decide +kernel : ∀ t : Fin grid0.N, _)

/-- The block window 2 of region 0 takes at a grid point. -/
theorem index0_2 : ∀ t : Fin cfg0.N, win0_2.index t (0 : Fin 2) = 0 ∧ win0_2.index t (1 : Fin 2) = 0 :=
  (by decide +kernel : ∀ t : Fin grid0.N, _)

/-- The block window 3 of region 0 takes at a grid point. -/
theorem index0_3 : ∀ t : Fin cfg0.N, win0_3.index t (0 : Fin 2) = 0 ∧ win0_3.index t (1 : Fin 2) = 0 :=
  (by decide +kernel : ∀ t : Fin grid0.N, _)

/-- The block window 5 of region 0 takes at a grid point. -/
theorem index0_5 : ∀ t : Fin cfg0.N, win0_5.index t (0 : Fin 2) = 0 ∧ win0_5.index t (1 : Fin 2) = 0 :=
  (by decide +kernel : ∀ t : Fin grid0.N, _)

theorem N_le0 (t : Fin cfg0.N) : t.val < 1 := lt_of_lt_of_eq t.isLt (show cfg0.N = 1 from N_0)

theorem dims0_256 : dot_S256x256_S256x2048_S256x2048_1_0_0_1_n_n = DotDims.plain 256 256 2048 := rfl

theorem dims0_2048 : dot_S256x2048_S2048x2048_S256x2048_1_0_0_1_n_n = DotDims.plain 256 2048 2048 := rfl

/-- The rows with the branches' products added, one grid point's block. -/
def acc0 (x : FVec Ideal S256x2048 .f32) (h0 : FVec Ideal S256x2048 .f32) (w0 : FVec Ideal S2048x2048 .bf16) (h1 : FVec Ideal S256x256 .f32) (w1 : FVec Ideal S256x2048 .bf16) : FVec Ideal S256x2048 .f32 :=
  addf (addf (x) (matmul (F := Ideal) dot_S256x2048_S2048x2048_S256x2048_1_0_0_1_n_n none (truncf .bf16 h0 bitsLt_bf16_f32) w0 (constant S256x2048 .f32 0x00000000#32))) (matmul (F := Ideal) dot_S256x256_S256x2048_S256x2048_1_0_0_1_n_n none (truncf .bf16 h1 bitsLt_bf16_f32) w1 (constant S256x2048 .f32 0x00000000#32))

theorem acc0_apply (x : FVec Ideal S256x2048 .f32) (h0 : FVec Ideal S256x2048 .f32) (w0 : FVec Ideal S2048x2048 .bf16) (h1 : FVec Ideal S256x256 .f32) (w1 : FVec Ideal S256x2048 .bf16) (r : Fin 256) (l : Fin 2048) :
    (acc0 x h0 w0 h1 w1 : S256x2048.Idx → EReal) (ix2 r l) = (x (ix2 r l) : EReal) + (∑ k : Fin 2048, (h0 (ix2 r k) : EReal) * (w0 (ix2 k l) : EReal)) + (∑ k : Fin 256, (h1 (ix2 r k) : EReal) * (w1 (ix2 k l) : EReal)) := by
  unfold acc0
  rw [dims0_256, dims0_2048]
  pointwise [Ideal.matmul_plain_apply]

/-- The block stored at a grid point is the norm of the sums. -/
theorem pay0_apply (x : FVec Ideal S256x2048 .f32) (h0 : FVec Ideal S256x2048 .f32) (w0 : FVec Ideal S2048x2048 .bf16) (h1 : FVec Ideal S256x256 .f32) (w1 : FVec Ideal S256x2048 .bf16) (g : FVec Ideal S1x2048 .f32) (r : Fin 256) (l : Fin 2048) :
    (k0_pay1 (F := Ideal) x h0 w0 h1 w1 g : S256x2048.Idx → EReal) (ix2 r l) = rms (Ideal.ofBits .f32 0x45000000#32) (Ideal.ofBits .f32 0x358637BD#32)
      (fun d => (acc0 x h0 w0 h1 w1 (ix2 r d) : EReal)) (fun d => (g (ix2 0 d) : EReal)) l := by
  unfold k0_pay1
  unfold rms
  simp only [shapeCast_self]
  rw [show addf (addf (x) (matmul (F := Ideal) dot_S256x2048_S2048x2048_S256x2048_1_0_0_1_n_n none (truncf .bf16 h0 bitsLt_bf16_f32) w0 (constant S256x2048 .f32 0x00000000#32))) (matmul (F := Ideal) dot_S256x256_S256x2048_S256x2048_1_0_0_1_n_n none (truncf .bf16 h1 bitsLt_bf16_f32) w1 (constant S256x2048 .f32 0x00000000#32)) = acc0 x h0 w0 h1 w1 from rfl]
  generalize acc0 x h0 w0 h1 w1 = y
  pointwise
  exact congrArg (fun s : EReal => (y (ix2 r l) : EReal) * Ideal.rsqrt (Ideal.div s (Ideal.ofBits .f32 0x45000000#32)
    + Ideal.ofBits .f32 0x358637BD#32) * (g (ix2 0 l) : EReal)) (colSum (mulf y y) r _ _ _ _)

/-- An element of window 0's block in region 0. -/
theorem blk0_0 (c : Dev nD) (t : Fin cfg0.N) (r : Fin 256) (l : Fin 2048) (R : Fin 256) (L : Fin 2048)
    (hR : R.val = 256 * t.val + r.val) (hL : L.val = l.val) : iblk m c 0 t (ix2 r l) = V m c main_arg0 (ix2 R L) := by
  obtain ⟨e0, e1⟩ := index0_0 t
  refine congrArg (V m c main_arg0) (funext fun a => Fin.ext ?_)
  match a with
  | 0 => show win0_0.index t (0 : Fin 2) * 256 + 1 * r.val = R.val; omega
  | 1 => show win0_0.index t (1 : Fin 2) * 2048 + 1 * l.val = L.val; omega

/-- An element of window 2's block in region 0. -/
theorem blk0_2 (c : Dev nD) (t : Fin cfg0.N) (r : Fin 2048) (l : Fin 2048) (R : Fin 2048) (L : Fin 2048)
    (hR : R.val = r.val) (hL : L.val = l.val) : iblk m c 2 t (ix2 r l) = V m c main_v2 (ix2 R L) := by
  obtain ⟨e0, e1⟩ := index0_2 t
  refine congrArg (V m c main_v2) (funext fun a => Fin.ext ?_)
  match a with
  | 0 => show win0_2.index t (0 : Fin 2) * 2048 + 1 * r.val = R.val; omega
  | 1 => show win0_2.index t (1 : Fin 2) * 2048 + 1 * l.val = L.val; omega

/-- An element of window 1's block in region 0. -/
theorem blk0_1 (c : Dev nD) (t : Fin cfg0.N) (r : Fin 256) (l : Fin 256) (R : Fin 256) (L : Fin 256)
    (hR : R.val = 256 * t.val + r.val) (hL : L.val = l.val) : iblk m c 1 t (ix2 r l) = V m c main_arg1 (ix2 R L) := by
  obtain ⟨e0, e1⟩ := index0_1 t
  refine congrArg (V m c main_arg1) (funext fun a => Fin.ext ?_)
  match a with
  | 0 => show win0_1.index t (0 : Fin 2) * 256 + 1 * r.val = R.val; omega
  | 1 => show win0_1.index t (1 : Fin 2) * 256 + 1 * l.val = L.val; omega

/-- An element of window 3's block in region 0. -/
theorem blk0_3 (c : Dev nD) (t : Fin cfg0.N) (r : Fin 256) (l : Fin 2048) (R : Fin 256) (L : Fin 2048)
    (hR : R.val = r.val) (hL : L.val = l.val) : iblk m c 3 t (ix2 r l) = V m c main_v3 (ix2 R L) := by
  obtain ⟨e0, e1⟩ := index0_3 t
  refine congrArg (V m c main_v3) (funext fun a => Fin.ext ?_)
  match a with
  | 0 => show win0_3.index t (0 : Fin 2) * 256 + 1 * r.val = R.val; omega
  | 1 => show win0_3.index t (1 : Fin 2) * 2048 + 1 * l.val = L.val; omega

/-- An element of window 4's block in region 0. -/
theorem blk0_4 (c : Dev nD) (t : Fin cfg0.N) (r : Fin 256) (l : Fin 2048) (R : Fin 256) (L : Fin 2048)
    (hR : R.val = 256 * t.val + r.val) (hL : L.val = l.val) : iblk m c 4 t (ix2 r l) = V m c main_arg2 (ix2 R L) := by
  obtain ⟨e0, e1⟩ := index0_4 t
  refine congrArg (V m c main_arg2) (funext fun a => Fin.ext ?_)
  match a with
  | 0 => show win0_4.index t (0 : Fin 2) * 256 + 1 * r.val = R.val; omega
  | 1 => show win0_4.index t (1 : Fin 2) * 2048 + 1 * l.val = L.val; omega

/-- An element of window 5's block in region 0. -/
theorem blk0_5 (c : Dev nD) (t : Fin cfg0.N) (r : Fin 1) (l : Fin 2048) (R : Fin 1) (L : Fin 2048)
    (hR : R.val = r.val) (hL : L.val = l.val) : iblk m c 5 t (ix2 r l) = V m c main_v4 (ix2 R L) := by
  obtain ⟨e0, e1⟩ := index0_5 t
  refine congrArg (V m c main_v4) (funext fun a => Fin.ext ?_)
  match a with
  | 0 => show win0_5.index t (0 : Fin 2) * 1 + 1 * r.val = R.val; omega
  | 1 => show win0_5.index t (1 : Fin 2) * 2048 + 1 * l.val = L.val; omega

/-- The rows with the branches' products added. -/
def sum0 (c : Dev nD) : S256x2048.Idx → EReal := plus (plus ((V m c main_arg2 : S256x2048.Idx → EReal)) (prod (V m c main_arg0 : S256x2048.Idx → EReal) (V m c main_v2 : S2048x2048.Idx → EReal))) (prod (V m c main_arg1 : S256x256.Idx → EReal) (V m c main_v3 : S256x2048.Idx → EReal))

theorem accblk0 (c : Dev nD) (t : Fin cfg0.N) (r : Fin 256) (R : Fin 256) (hR : R.val = 256 * t.val + r.val) (d : Fin 2048) :
    (acc0 (iblk m c 4 t) (iblk m c 0 t) (iblk m c 2 t) (iblk m c 1 t) (iblk m c 3 t) (ix2 r d) : EReal) = sum0 m c (ix2 R d) := by
  refine (acc0_apply _ _ _ _ _ r d).trans ?_
  unfold sum0
  exact congrArg₂ (fun a b : EReal => a + b) (congrArg₂ (fun a b : EReal => a + b) (blk0_4 m c t r d R d hR rfl) (Finset.sum_congr rfl fun k _ => congrArg₂ (fun a b : EReal => a * b) (blk0_0 m c t r k R k hR rfl) (blk0_2 m c t k d k d rfl rfl))) (Finset.sum_congr rfl fun k _ => congrArg₂ (fun a b : EReal => a * b) (blk0_1 m c t r k R k hR rfl) (blk0_3 m c t k d k d rfl rfl))

/-- What a grid point writes back through window 6 is its block of the result. -/
theorem flushed0_6 (c : Dev nD) (t : Fin cfg0.N) : (dats m 0 c).flushed 6 t
    = ((cfg0.win 6).blk t).view.read (Elt Ideal) (normed (sum0 m c) fun d => (V m c main_v4 : S1x2048.Idx → EReal) (ix2 0 d)) := by
  obtain ⟨e0, e1⟩ := index0_6 t
  have ht := N_le0 t
  show (cfg0.win 6).cut (grid0.coords t) ((dats m 0 c).after 6 t) = _
  rw [after0_6]
  unfold out0_6
  rw [View.canon_unit_zero (S := S256x2048) z2]
  simp only [View.ld_unit_zero (S := S256x2048) z2, View.ld_unit_zero (S := S256x256) z2, View.ld_unit_zero (S := S2048x2048) z2, View.ld_unit_zero (S := S1x2048) z2]
  funext y
  obtain ⟨r, l, rfl⟩ : ∃ (r : Fin 256) (l : Fin 2048), y = ix2 r l := ⟨y 0, y 1, eq_ix2 y⟩
  have hr := r.isLt
  let R : Fin 256 := ⟨256 * t.val + r.val, by omega⟩
  have hemb : ((cfg0.win 6).blk t).view.emb (ix2 r l) = (ix2 R l : S256x2048.Idx) := by
    refine funext fun a => Fin.ext ?_
    match a with
    | 0 => show win0_6.index t (0 : Fin 2) * 256 + 1 * r.val = R.val; simp only [R]; omega
    | 1 => show win0_6.index t (1 : Fin 2) * 2048 + 1 * l.val = l.val; omega
  refine (pay0_apply _ _ _ _ _ _ r l).trans (Eq.trans ?_ (congrArg (normed (sum0 m c) fun d => (V m c main_v4 : S1x2048.Idx → EReal) (ix2 0 d)) hemb).symm)
  have e := funext fun d => accblk0 m c t r R rfl d
  have e' : (fun d : Fin 2048 => (iblk m c 5 t (ix2 0 d) : EReal)) = fun d => V m c main_v4 (ix2 0 d) :=
    funext fun d => blk0_5 m c t 0 d 0 d (by omega) (by omega)
  unfold normed
  rw [e, e']
  rfl

/-- Every entry of the array lies in a block that some grid point writes back. -/
theorem covered0_6 (i : S256x2048.Idx) :
    ∃ t : Fin cfg0.N, (cfg0.win 6).flush t = true ∧ i ∈ ((cfg0.win 6).blk t).view.set := by
  have h0 : (i 0).val < 256 := (i 0).isLt
  have h1 : (i 1).val < 2048 := (i 1).isLt
  let t : Fin cfg0.N := ⟨(i 0).val / 256, lt_of_lt_of_eq (b := 1) (by omega) (show 1 = cfg0.N from N_0.symm)⟩
  obtain ⟨e0, e1⟩ := index0_6 t
  have tv : t.val = (i 0).val / 256 := rfl
  refine ⟨t, flush0_6 t, ?_⟩
  have hm := ((cfg0.win 6).blk t).view.emb_mem_set (ix2 ⟨(i 0).val % 256, by omega⟩ ⟨(i 1).val % 2048, by omega⟩)
  have he : ((cfg0.win 6).blk t).view.emb (ix2 ⟨(i 0).val % 256, by omega⟩ ⟨(i 1).val % 2048, by omega⟩) = i := by
    refine funext fun a => Fin.ext ?_
    match a with
    | 0 => show win0_6.index t (0 : Fin 2) * 256 + 1 * ((i 0).val % 256) = (i 0).val; omega
    | 1 => show win0_6.index t (1 : Fin 2) * 2048 + 1 * ((i 1).val % 2048) = (i 1).val; omega
  rwa [he] at hm

/-- What region 0 leaves through window 6. -/
theorem final0_6 (c : Dev nD) : (dats m 0 c).arrAt 6 cfg0.N = (normed (sum0 m c) fun d => (V m c main_v4 : S1x2048.Idx → EReal) (ix2 0 d)) :=
  (dats m 0 c).arrAt_eq_of_cover 6 _ (fun t _ => flushed0_6 m c t) covered0_6

end Cert.Kernel11Ideal.Linear
-- ==== Proof.SampleFinalVal.lean ====
module

public import proofs.«01_k».proof.Proof.Mix
public import proofs.«01_k».proof.Proof.Sample
public import proofs.«01_k».proof.Proof.SampleFinalRegions

@[expose] public section

set_option maxRecDepth 16384

noncomputable section

open Idealize.ShloMosaic Idealize.ShloMosaic.TcCoe Idealize.SL.Sem

namespace Cert.Kernel11Ideal.Linear
open Cert.Kernel11Ideal.Gen Cert.Linear
open Idealize.ShloMosaic.Pipeline (Dat Cfg)

variable (m : (ℓ : Loc nD τ sig) → Buf (Elt Ideal) ℓ) (ρ : Dev nD → PrngReg) (c : Dev nD)

/-- The arguments of one device. -/
abbrev A0 : S256x2048.Idx → EReal := m ((c.tc : Thread nD τ).loc main_arg0)
abbrev A1 : S256x256.Idx → EReal := m ((c.tc : Thread nD τ).loc main_arg1)
abbrev A2 : S256x2048.Idx → EReal := m ((c.tc : Thread nD τ).loc main_arg2)
abbrev A3 : S1x2304x2048.Idx → EReal := m ((c.tc : Thread nD τ).loc main_arg3)
abbrev A4 : S2048.Idx → EReal := m ((c.tc : Thread nD τ).loc main_arg4)

/-- The residual stream after the second layer's output projection. -/
def X (R : Fin 256) (d : Fin 2048) : EReal :=
  mix2 (A2 m c (ix2 R d)) (fun k => A0 m c (ix2 R k)) (fun k => A1 m c (ix2 R k)) (fun k => A3 m c (ix3 0 k d))

theorem v2_apply (k : Fin 2048) (d : Fin 2048) : (V m c main_v2 : S2048x2048.Idx → EReal) (ix2 k d) = A3 m c (ix3 0 ⟨k.val, by omega⟩ d) := by
  have e : V m c main_v2 = extractStridedSlice S2048x2048 ![0, 0] (truncf (F := Ideal) .bf16 (shapeCast S2304x2048 (A3 m c : FVec Ideal S1x2304x2048 .f32) shapeCasts_S1x2304x2048_S2304x2048) bitsLt_bf16_f32) slices_S2304x2048_S2048x2048_0_0 := by
    show StableHlo.after hostOps0 (fun b => m (c, b)) (Proc.devRef .tc main_v2) = _
    after_results
    rfl
  rw [e]
  exact (rows_apply (α := EReal) _ 0 slices_S2304x2048_S2048x2048_0_0 k d ⟨k.val, by omega⟩ (Nat.zero_add _)).trans (lone_apply (α := EReal) (A3 m c) shapeCasts_S1x2304x2048_S2304x2048 _ d)

theorem v3_apply (k : Fin 256) (d : Fin 2048) : (V m c main_v3 : S256x2048.Idx → EReal) (ix2 k d) = A3 m c (ix3 0 ⟨2048 + k.val, by omega⟩ d) := by
  have e : V m c main_v3 = extractStridedSlice S256x2048 ![2048, 0] (truncf (F := Ideal) .bf16 (shapeCast S2304x2048 (A3 m c : FVec Ideal S1x2304x2048 .f32) shapeCasts_S1x2304x2048_S2304x2048) bitsLt_bf16_f32) slices_S2304x2048_S256x2048_2048_0 := by
    show StableHlo.after hostOps0 (fun b => m (c, b)) (Proc.devRef .tc main_v3) = _
    after_results
    rfl
  rw [e]
  exact (rows_apply (α := EReal) _ 2048 slices_S2304x2048_S256x2048_2048_0 k d ⟨2048 + k.val, by omega⟩ (rfl)).trans (lone_apply (α := EReal) (A3 m c) shapeCasts_S1x2304x2048_S2304x2048 _ d)

theorem v4_apply (d : Fin 2048) : (V m c main_v4 : S1x2048.Idx → EReal) (ix2 0 d) = A4 m c (ix1 d) := by
  have e : V m c main_v4 = shapeCast S1x2048 (A4 m c) shapeCasts_S2048_S1x2048 := by
    show StableHlo.after hostOps0 (fun b => m (c, b)) (Proc.devRef .tc main_v4) = _
    after_results
    rfl
  rw [e]
  exact put1_apply _ _ d

/-- The region's sum is the residual stream. -/
theorem sum0_apply (R : Fin 256) (d : Fin 2048) : sum0 m c (ix2 R d) = X m c R d := by
  have h : ∀ {K : ℕ} (x y : (⟨2, ![256, K]⟩ : Shape).Idx → EReal) (w : (⟨2, ![K, 2048]⟩ : Shape).Idx → EReal) (w' : Fin K → EReal), x = y → (∀ k, w (ix2 k d) = w' k) →
      prod x w (ix2 R d) = ∑ k : Fin K, y (ix2 R k) * w' k := fun x y w w' hx hw => by
    subst hx
    exact Finset.sum_congr rfl fun k _ => congrArg (fun b : EReal => x (ix2 R k) * b) (hw k)
  unfold sum0 X mix2
  refine congrArg₂ (fun a b : EReal => a + b) (congrArg₂ (fun a b : EReal => a + b) ?_ ?_) ?_
  · exact congrFun (V_main_arg2 m c) _
  · exact h _ _ _ _ (V_main_arg0 m c) fun k => v2_apply m c k d
  · exact h _ _ _ _ (V_main_arg1 m c) fun k => v3_apply m c k d

theorem arr_apply (R : Fin 256) (d : Fin 2048) : ((dats m 0 c).arrAt 6 cfg0.N : S256x2048.Idx → EReal) (ix2 R d) = rms cols small (X m c R) (fun d => A4 m c (ix1 d)) d := by
  have e : ((dats m 0 c).arrAt 6 cfg0.N : S256x2048.Idx → EReal) = _ := final0_6 m c
  rw [e]
  unfold normed
  exact congrArg₂ (fun x g => rms cols small x g d) (funext fun d => sum0_apply m c R d) (funext fun d => v4_apply m c d)

/-- The kernel's result: the region's array, by token. -/
def fin : FVec Ideal S32x8x2048 .f32 := shapeCast S32x8x2048 ((dats m 0 c).arrAt 6 cfg0.N : FVec Ideal S256x2048 .f32) shapeCasts_S256x2048_S32x8x2048

theorem fin_apply (b : Fin 32) (t : Fin 8) (d : Fin 2048) : fin m c (ix3 b t d) = rms cols small (X m c (stok b t)) (fun d => A4 m c (ix1 d)) d :=
  (stok_cast _ _ b t d).trans (arr_apply m c (stok b t) d)

/-- The last host operation leaves the result where the claim reads it. -/
theorem tail_v6 : Pipeline.afterTail₀ cfgs (dats m) 0 (V0 m) [hostOps1] c main_v6 = fin m c := by
  unfold Pipeline.afterTail₀
  rw [List.flatten_cons, List.flatten_nil, List.append_nil]
  after_results
  unfold fin
  exact congrArg (fun x => shapeCast S32x8x2048 x shapeCasts_S256x2048_S32x8x2048)
    (Pipeline.withArrays_arr spec0 launch0.win.arr_inj c (V0 m c) (fun w => (dats m 0 c).arrAt w cfg0.N) 6)

/-- Every execution ends with the result and the arguments kept. -/
theorem run : θ_run defs (onTc (τ := τ) (main (F := Ideal))) ⟨m, fun _ => 0, ρ⟩ fun r => ∀ c : Dev nD,
    r.2.mem ((c.tc : Thread nD τ).loc main_v6) = fin m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨((h c).2 main_v6 (Pipeline.mem_restRefs_of main_v6 (by decide) (by decide))).trans (tail_v6 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 4).trans (((dats m 0 c).arrAt_in 4 rfl _).trans ((A_eq m c 4).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩) (run_main m ρ)

end Cert.Kernel11Ideal.Linear
-- ==== Proof.SampleFinalRef.lean ====
module

public import proofs.«01_k».proof.Proof.Mix
public import proofs.«01_k».proof.Proof.Sample
public import proofs.«01_k».proof.Proof.Gen.Reference11Ideal
public import proofs.«01_k».proof.Proof.Gen.Reference11Ideal.Run

@[expose] public section

set_option maxRecDepth 16384

noncomputable section

open Idealize.ShloMosaic Idealize.ShloMosaic.TcCoe Idealize.SL.Sem

namespace Cert.Reference11Ideal.Linear
open Cert.Reference11Ideal Cert.Reference11Ideal.Gen Cert.Linear

/-- The root mean square norm of the rows. -/
def nrm (x : FVec Ideal S256x2048 .f32) (g : FVec Ideal S2048 .f32) : FVec Ideal S256x2048 .f32 :=
  mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 g))

theorem reduces : S256x2048.Reduces [1] S256 := by decide

theorem nrm_apply (x : FVec Ideal S256x2048 .f32) (g : FVec Ideal S2048 .f32) (R : Fin 256) (d : Fin 2048) :
    nrm x g (ix2 R d) = rms cols small (fun d => x (ix2 R d)) (fun d => g (ix1 d)) d := by
  have hs := sum2_apply (mulf x x) reduces reducesTo_S256x2048_S256_d1 h_S_ R
  unfold nrm rms
  generalize Host.reduceAdd (mulf x x) (constant S_ .f32 0x00000000#32) reducesTo_S256x2048_S256_d1 h_S_ = s at hs ⊢
  have hs' : s (ix1 R) = ∑ k : Fin 2048, (x (ix2 R k) : EReal) * x (ix2 R k) := hs
  beta_reduce
  rw [← hs']
  pointwise

/-- The joined branches. -/
def cat (a : FVec Ideal S256x2048 .f32) (m : FVec Ideal S256x256 .f32) : FVec Ideal S256x2304 .f32 :=
  concatenate S256x2304 1 [⟨S256x2048, a⟩, ⟨S256x256, m⟩] concatenates_S256x2048_S256x256_S256x2304_d1

/-- The residual stream after the output projection. -/
def out (a : FVec Ideal S256x2048 .f32) (m : FVec Ideal S256x256 .f32) (x : FVec Ideal S256x2048 .f32) (w : FVec Ideal S1x2304x2048 .f32) : FVec Ideal S256x2048 .f32 :=
  addf x (Host.dotGeneral dot_S256x2304_S2304x2048_S256x2048_1_0_0_1_n_n none (cat a m) (shapeCast _ w shapeCasts_S1x2304x2048_S2304x2048))

theorem out_apply (a : FVec Ideal S256x2048 .f32) (m : FVec Ideal S256x256 .f32) (x : FVec Ideal S256x2048 .f32) (w : FVec Ideal S1x2304x2048 .f32) (R : Fin 256) (d : Fin 2048) :
    out a m x w (ix2 R d) = mix2 (x (ix2 R d)) (fun k => a (ix2 R k)) (fun k => m (ix2 R k)) (fun k => w (ix3 0 k d)) := by
  have hd := dot2_apply _ dot_S256x2304_S2304x2048_S256x2048_1_0_0_1_n_n_wf rfl (cat a m) (shapeCast S2304x2048 w shapeCasts_S1x2304x2048_S2304x2048) R d
  refine (congrArg (fun s : EReal => (x (ix2 R d) : EReal) + s) hd).trans ?_
  refine (congrArg (fun s : EReal => (x (ix2 R d) : EReal) + s) (Finset.sum_congr rfl fun k _ => congrArg (fun t : EReal => (cat a m (ix2 R k) : EReal) * t) (lone_apply w _ k d))).trans ?_
  refine mix2_eq _ _ _ (fun k => w (ix3 0 k d)) (fun k => cat a m (ix2 R k)) (fun k => ?_) (fun k => ?_)
  · exact piece2 _ _ 0 (by simp) _ rfl 0 rfl R _ k (Nat.zero_add _)
  · exact piece2 _ _ 1 (by simp) _ rfl 2048 rfl R _ k rfl

/-- The layer's result: the normed rows, by token. -/
def fin (a : FVec Ideal S256x2048 .f32) (m : FVec Ideal S256x256 .f32) (x : FVec Ideal S256x2048 .f32) (w : FVec Ideal S1x2304x2048 .f32) (g : FVec Ideal S2048 .f32) : FVec Ideal S32x8x2048 .f32 :=
  shapeCast S32x8x2048 (nrm (out a m x w) g) shapeCasts_S256x2048_S32x8x2048

theorem fin_apply (a : FVec Ideal S256x2048 .f32) (m : FVec Ideal S256x256 .f32) (x : FVec Ideal S256x2048 .f32) (w : FVec Ideal S1x2304x2048 .f32) (g : FVec Ideal S2048 .f32) (b : Fin 32) (t : Fin 8) (d : Fin 2048) :
    fin a m x w g (ix3 b t d) = rms cols small (fun d => mix2 (x (ix2 (stok b t) d)) (fun k => a (ix2 (stok b t) k)) (fun k => m (ix2 (stok b t) k)) (fun k => w (ix3 0 k d))) (fun d => g (ix1 d)) d := by
  refine (stok_cast _ _ b t d).trans ?_
  refine (nrm_apply _ g (stok b t) d).trans ?_
  exact congrArg (fun x => rms cols small x (fun d => g (ix1 d)) d) (funext fun d => out_apply a m x w (stok b t) d)

variable (m : (ℓ : Loc nD τ sig) → Buf (Elt Ideal) ℓ) (ρ : Dev nD → PrngReg)

/-- Every execution of the reference ends with the layer's result and the arguments kept. -/
theorem run : θ_run defs (onTc (τ := τ) (main (F := Ideal))) ⟨m, fun _ => 0, ρ⟩ fun r => ∀ c : Dev nD,
    r.2.mem ((c.tc : Thread nD τ).loc main_v17) = fin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  Cert.Reference11Ideal.Value.run m ρ

end Cert.Reference11Ideal.Linear
-- ==== Proof.SampleFinal.lean ====
module

public import proofs.«01_k».proof.Proof.Linear
public import proofs.«01_k».proof.Proof.SampleFinalVal
public import proofs.«01_k».proof.Proof.SampleFinalRef
public import proofs.«01_k».proof.Defs

@[expose] public section

set_option maxRecDepth 16384

noncomputable section

open Idealize.ShloMosaic Idealize.ShloMosaic.TcCoe Idealize.SL.Sem

namespace Cert.SampleFinal
open Cert.Linear

/-- The sample batch's last output projection and final norm: the kernel and the reference end with the same result. -/
theorem result : algebraic_Kernel11Ideal_Reference11Ideal (hKernel11Ideal := Cert.Kernel11Ideal.Gen.facts)
    (hReference11Ideal := Cert.Reference11Ideal.Gen.facts) := by
  intro m g m' g' _ hargs
  refine ⟨fun c => Kernel11Ideal.Linear.fin m c, (θ_run Cert.Kernel11Ideal.defs _ _).mono (fun r h c => h c) (Kernel11Ideal.Linear.run m g),
    (θ_run Cert.Reference11Ideal.defs _ _).mono (fun r h c => ?_) (Reference11Ideal.Linear.run m' g')⟩
  obtain ⟨e0, e1, e2, e3, e4⟩ := hargs c
  obtain ⟨h0, hk⟩ := h c
  refine ⟨h0.trans ?_, hk⟩
  rw [e0, e1, e2, e3, e4]
  funext i
  rw [eq_ix3 i]
  exact (Reference11Ideal.Linear.fin_apply _ _ _ _ _ (i 0) (i 1) (i 2)).trans (Kernel11Ideal.Linear.fin_apply m c (i 0) (i 1) (i 2)).symm

end Cert.SampleFinal
-- ==== Proof.lean ====
/- The certificate: the frames of the kernel, of its idealization and of the reference, the two named constants,
   and the equality of the kernel's and the reference's results over the extended reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run
public import proofs.«01_k».proof.Proof.Gen.Reference6Ideal
public import proofs.«01_k».proof.Proof.Gen.Reference6Ideal.Run
public import proofs.«01_k».proof.Proof.Gen.Reference8Ideal
public import proofs.«01_k».proof.Proof.Gen.Reference8Ideal.Run
public import proofs.«01_k».proof.Proof.Gen.Reference9Ideal
public import proofs.«01_k».proof.Proof.Gen.Reference9Ideal.Run
public import proofs.«01_k».proof.Proof.Gen.Reference10Ideal
public import proofs.«01_k».proof.Proof.Gen.Reference10Ideal.Run
public import proofs.«01_k».proof.Proof.Gen.Reference11Ideal
public import proofs.«01_k».proof.Proof.Gen.Reference11Ideal.Run
public import proofs.«01_k».proof.Proof.Array
public import proofs.«01_k».proof.Proof.Ref
public import proofs.«01_k».proof.Proof.Finite
public import proofs.«01_k».proof.Proof.In
public import proofs.«01_k».proof.Proof.OutIn
public import proofs.«01_k».proof.Proof.Final
public import proofs.«01_k».proof.Proof.Mem
public import proofs.«01_k».proof.Proof.Gates
public import proofs.«01_k».proof.Proof.SampleIn
public import proofs.«01_k».proof.Proof.SampleOutIn
public import proofs.«01_k».proof.Proof.SampleGates
public import proofs.«01_k».proof.Proof.SampleFinal
public import Idealize.ShloMosaic.Adequacy
public import Idealize.ShloMosaic.Init
public import Idealize.ShloMosaic.Lib.Quiescent
public import proofs.«01_k».proof.Proof.Gen.Pre_finite_scores

@[expose] public section

noncomputable section

namespace Cert.Proof

open Idealize.ShloMosaic Idealize.SL.Sem

/-- The kernel as printed runs, keeps its arguments and ends with every semaphore counter at zero. -/
theorem frame_kernel : quiescent_Kernel (hKernel := Cert.Kernel.Gen.facts) :=
  fun m ρ _ => Cert.Kernel.Gen.frame m ρ

/-- The idealized kernel runs, keeps its arguments and ends with every semaphore counter at zero. -/
theorem frame_ideal : quiescent_KernelIdeal (hKernelIdeal := Cert.KernelIdeal.Gen.facts) :=
  fun m ρ _ => Cert.KernelIdeal.Gen.frame m ρ

/-- The reference runs, keeps its arguments, and declares no semaphore. -/
theorem frame_reference : quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run m ρ)

/-- The two named constants: the score scale is one over the square root of 128, the mask minus infinity. -/
theorem constants : preserves_Kernel_KernelIdeal :=
  ⟨IdealRules.named_const.statement Cert.KernelIdeal.κ "scale" .f32 0x3DB504F3#32 (((Real.sqrt 128)⁻¹ : ℝ) : EReal) rfl,
   IdealRules.named_const.statement Cert.KernelIdeal.κ "mask" .f32 0xF149F2CA#32 ⊥ rfl⟩

/-- From arguments whose queries, keys and decay sums are finite the kernel and the reference end with one result:
the gated causal attention. -/
theorem attention : algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hpre hargs
  have fin : ∀ c : Dev Cert.KernelIdeal.nD, _ := fun c =>
    (⟨Cert.Attn.reals_of_ones _ _ _ (hpre c).1, Cert.Attn.reals_of_ones _ _ _ (hpre c).2.1,
      Cert.Attn.reals_of_ones _ _ _ (hpre c).2.2⟩ : _ ∧ _ ∧ _)
  refine ⟨fun c => Cert.KernelIdeal.Attn.fox (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)),
    (θ_run Cert.KernelIdeal.defs _ _).mono (fun r h c => ?_) (Cert.KernelIdeal.Value.run_blocks m g),
    (θ_run Cert.ReferenceIdeal.defs _ _).mono (fun r h c => ?_) (Cert.ReferenceIdeal.Value.run m' g')⟩
  · exact ⟨(h c).1.trans (Cert.KernelIdeal.Attn.final m c (fin c).1 (fin c).2.1 (fin c).2.2), (h c).2⟩
  · obtain ⟨e0, e1, e2, e3, e4⟩ := hargs c
    refine ⟨(h c).1.trans ((Cert.ReferenceIdeal.Attn.res_eq m' c).trans ?_), (h c).2⟩
    rw [e0, e1, e2, e3, e4]
    exact Cert.ReferenceIdeal.Attn.plain_fox _ _ _ _ _ (fin c).1 (fin c).2.1 (fin c).2.2

/-- The kernel of the first layer's input projection runs, keeps its arguments and ends with every semaphore counter at zero. -/
theorem frame_kernel2 : quiescent_Kernel2 (hKernel2 := Cert.Kernel2.Gen.facts) :=
  fun m ρ _ => Cert.Kernel2.Gen.frame m ρ

/-- So does its idealization. -/
theorem frame_ideal2 : quiescent_Kernel2Ideal (hKernel2Ideal := Cert.Kernel2Ideal.Gen.facts) :=
  fun m ρ _ => Cert.Kernel2Ideal.Gen.frame m ρ

/-- And its reference, which declares no semaphore. -/
theorem frame_reference2 : quiescent_Reference2Ideal (hReference2Ideal := Cert.Reference2Ideal.Gen.facts) :=
  fun m ρ _ => (θ_run Cert.Reference2Ideal.defs _ _).mono
    (fun r h => ⟨fun c => (h c).2.2.2.2.2.2, sem_eq_zero_of_no_sems (by decide) r.2⟩) (Cert.Reference2Ideal.Value.run m ρ)

/-- The kernel of the projections between the layers runs, keeps its arguments and ends with every semaphore counter at zero. -/
theorem frame_kernel3 : quiescent_Kernel3 (hKernel3 := Cert.Kernel3.Gen.facts) :=
  fun m ρ _ => Cert.Kernel3.Gen.frame m ρ

/-- So does its idealization. -/
theorem frame_ideal3 : quiescent_Kernel3Ideal (hKernel3Ideal := Cert.Kernel3Ideal.Gen.facts) :=
  fun m ρ _ => Cert.Kernel3Ideal.Gen.frame m ρ

/-- And its reference, which declares no semaphore. -/
theorem frame_reference3 : quiescent_Reference3Ideal (hReference3Ideal := Cert.Reference3Ideal.Gen.facts) :=
  fun m ρ _ => (θ_run Cert.Reference3Ideal.defs _ _).mono
    (fun r h => ⟨fun c => (h c).2.2.2.2.2.2, sem_eq_zero_of_no_sems (by decide) r.2⟩) (Cert.Reference3Ideal.Value.run m ρ)

/-- The kernel of the last output projection and norm runs, keeps its arguments and ends with every semaphore counter at zero. -/
theorem frame_kernel4 : quiescent_Kernel4 (hKernel4 := Cert.Kernel4.Gen.facts) :=
  fun m ρ _ => Cert.Kernel4.Gen.frame m ρ

/-- So does its idealization. -/
theorem frame_ideal4 : quiescent_Kernel4Ideal (hKernel4Ideal := Cert.Kernel4Ideal.Gen.facts) :=
  fun m ρ _ => Cert.Kernel4Ideal.Gen.frame m ρ

/-- And its reference, which declares no semaphore. -/
theorem frame_reference4 : quiescent_Reference4Ideal (hReference4Ideal := Cert.Reference4Ideal.Gen.facts) :=
  fun m ρ _ => (θ_run Cert.Reference4Ideal.defs _ _).mono
    (fun r h => ⟨fun c => (h c).2, sem_eq_zero_of_no_sems (by decide) r.2⟩) (Cert.Reference4Ideal.Value.run m ρ)

/-- The kernel of the memory's keys and values runs, keeps its arguments and ends with every semaphore counter at zero. -/
theorem frame_kernel5 : quiescent_Kernel5 (hKernel5 := Cert.Kernel5.Gen.facts) :=
  fun m ρ _ => Cert.Kernel5.Gen.frame m ρ

/-- So does its idealization. -/
theorem frame_ideal5 : quiescent_Kernel5Ideal (hKernel5Ideal := Cert.Kernel5Ideal.Gen.facts) :=
  fun m ρ _ => Cert.Kernel5Ideal.Gen.frame m ρ

/-- And its reference, which declares no semaphore. -/
theorem frame_reference5 : quiescent_Reference5Ideal (hReference5Ideal := Cert.Reference5Ideal.Gen.facts) :=
  fun m ρ _ => (θ_run Cert.Reference5Ideal.defs _ _).mono
    (fun r h => ⟨fun c => (h c).2.2, sem_eq_zero_of_no_sems (by decide) r.2⟩) (Cert.Reference5Ideal.Value.run m ρ)

/-- The kernel of the forget gates runs, keeps its arguments and ends with every semaphore counter at zero. -/
theorem frame_kernel6 : quiescent_Kernel6 (hKernel6 := Cert.Kernel6.Gen.facts) :=
  fun m ρ _ => Cert.Kernel6.Gen.frame m ρ

/-- So does its idealization. -/
theorem frame_ideal6 : quiescent_Kernel6Ideal (hKernel6Ideal := Cert.Kernel6Ideal.Gen.facts) :=
  fun m ρ _ => Cert.Kernel6Ideal.Gen.frame m ρ

/-- And its reference, which declares no semaphore. -/
theorem frame_reference6 : quiescent_Reference6Ideal (hReference6Ideal := Cert.Reference6Ideal.Gen.facts) :=
  fun m ρ _ => (θ_run Cert.Reference6Ideal.defs _ _).mono
    (fun r h => ⟨fun c => (h c).2.2, sem_eq_zero_of_no_sems (by decide) r.2⟩) (Cert.Reference6Ideal.Value.run m ρ)

/-- The kernel of the sample batch's first projection runs, keeps its arguments and ends with every semaphore counter at zero. -/
theorem frame_kernel8 : quiescent_Kernel8 (hKernel8 := Cert.Kernel8.Gen.facts) :=
  fun m ρ _ => Cert.Kernel8.Gen.frame m ρ

/-- So does its idealization. -/
theorem frame_ideal8 : quiescent_Kernel8Ideal (hKernel8Ideal := Cert.Kernel8Ideal.Gen.facts) :=
  fun m ρ _ => Cert.Kernel8Ideal.Gen.frame m ρ

/-- And its reference, which declares no semaphore. -/
theorem frame_reference8 : quiescent_Reference8Ideal (hReference8Ideal := Cert.Reference8Ideal.Gen.facts) :=
  fun m ρ _ => (θ_run Cert.Reference8Ideal.defs _ _).mono
    (fun r h => ⟨fun c => (h c).2.2.2, sem_eq_zero_of_no_sems (by decide) r.2⟩) (Cert.Reference8Ideal.Value.run m ρ)

/-- The kernel of the sample batch's projections between the layers runs, keeps its arguments and ends with every semaphore counter at zero. -/
theorem frame_kernel9 : quiescent_Kernel9 (hKernel9 := Cert.Kernel9.Gen.facts) :=
  fun m ρ _ => Cert.Kernel9.Gen.frame m ρ

/-- So does its idealization. -/
theorem frame_ideal9 : quiescent_Kernel9Ideal (hKernel9Ideal := Cert.Kernel9Ideal.Gen.facts) :=
  fun m ρ _ => Cert.Kernel9Ideal.Gen.frame m ρ

/-- And its reference, which declares no semaphore. -/
theorem frame_reference9 : quiescent_Reference9Ideal (hReference9Ideal := Cert.Reference9Ideal.Gen.facts) :=
  fun m ρ _ => (θ_run Cert.Reference9Ideal.defs _ _).mono
    (fun r h => ⟨fun c => (h c).2.2.2, sem_eq_zero_of_no_sems (by decide) r.2⟩) (Cert.Reference9Ideal.Value.run m ρ)

/-- The kernel of the sample batch's forget gates runs, keeps its arguments and ends with every semaphore counter at zero. -/
theorem frame_kernel10 : quiescent_Kernel10 (hKernel10 := Cert.Kernel10.Gen.facts) :=
  fun m ρ _ => Cert.Kernel10.Gen.frame m ρ

/-- So does its idealization. -/
theorem frame_ideal10 : quiescent_Kernel10Ideal (hKernel10Ideal := Cert.Kernel10Ideal.Gen.facts) :=
  fun m ρ _ => Cert.Kernel10Ideal.Gen.frame m ρ

/-- And its reference, which declares no semaphore. -/
theorem frame_reference10 : quiescent_Reference10Ideal (hReference10Ideal := Cert.Reference10Ideal.Gen.facts) :=
  fun m ρ _ => (θ_run Cert.Reference10Ideal.defs _ _).mono
    (fun r h => ⟨fun c => (h c).2.2, sem_eq_zero_of_no_sems (by decide) r.2⟩) (Cert.Reference10Ideal.Value.run m ρ)

/-- The kernel of the sample batch's last projection and norm runs, keeps its arguments and ends with every semaphore counter at zero. -/
theorem frame_kernel11 : quiescent_Kernel11 (hKernel11 := Cert.Kernel11.Gen.facts) :=
  fun m ρ _ => Cert.Kernel11.Gen.frame m ρ

/-- So does its idealization. -/
theorem frame_ideal11 : quiescent_Kernel11Ideal (hKernel11Ideal := Cert.Kernel11Ideal.Gen.facts) :=
  fun m ρ _ => Cert.Kernel11Ideal.Gen.frame m ρ

/-- And its reference, which declares no semaphore. -/
theorem frame_reference11 : quiescent_Reference11Ideal (hReference11Ideal := Cert.Reference11Ideal.Gen.facts) :=
  fun m ρ _ => (θ_run Cert.Reference11Ideal.defs _ _).mono
    (fun r h => ⟨fun c => (h c).2, sem_eq_zero_of_no_sems (by decide) r.2⟩) (Cert.Reference11Ideal.Value.run m ρ)

/-- Everything claimed. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Pre_finite_scores.Gen.facts,
  frame_kernel,
  frame_ideal,
  fun m ρ _ => frame_ideal m ρ trivial,
  frame_reference,
  fun m ρ _ => frame_reference m ρ trivial,
  frame_kernel2,
  frame_ideal2,
  frame_reference2,
  frame_kernel3,
  frame_ideal3,
  frame_reference3,
  frame_kernel4,
  frame_ideal4,
  frame_reference4,
  frame_kernel5,
  frame_ideal5,
  frame_reference5,
  frame_kernel6,
  frame_ideal6,
  frame_reference6,
  frame_kernel8,
  frame_ideal8,
  frame_reference8,
  frame_kernel9,
  frame_ideal9,
  frame_reference9,
  frame_kernel10,
  frame_ideal10,
  frame_reference10,
  frame_kernel11,
  frame_ideal11,
  frame_reference11,
  constants,
  attention,
  trivial,
  Cert.In.projection,
  trivial,
  Cert.OutIn.projections,
  trivial,
  Cert.Final.result,
  trivial,
  Cert.Mem.keysValues,
  trivial,
  Cert.Gates.gates,
  trivial,
  Cert.SampleIn.projection,
  trivial,
  Cert.SampleOutIn.projections,
  trivial,
  Cert.SampleGates.gates,
  trivial,
  Cert.SampleFinal.result⟩

end Cert.Proof

end
